-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11)
      ∧ r.2.mem ((c.tc : Thread Cert.Kernel15.nD Cert.Kernel15.τ).loc Cert.Kernel15.main_arg12) = m ((c.tc : Thread Cert.Kernel15.nD Cert.Kernel15.τ).loc Cert.Kernel15.main_arg12)
      ∧ r.2.mem ((c.tc : Thread Cert.Kernel15.nD Cert.Kernel15.τ).loc Cert.Kernel15.main_arg13) = m ((c.tc : Thread Cert.Kernel15.nD Cert.Kernel15.τ).loc Cert.Kernel15.main_arg13)
      ∧ r.2.mem ((c.tc : Thread Cert.Kernel15.nD Cert.Kernel15.τ).loc Cert.Kernel15.main_arg14) = m ((c.tc : Thread Cert.Kernel15.nD Cert.Kernel15.τ).loc Cert.Kernel15.main_arg14)
      ∧ r.2.mem ((c.tc : Thread Cert.Kernel15.nD Cert.Kernel15.τ).loc Cert.Kernel15.main_arg15) = m ((c.tc : Thread Cert.Kernel15.nD Cert.Kernel15.τ).loc Cert.Kernel15.main_arg15))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
      ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
      ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
      ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
      ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11)
      ∧ r.2.mem ((c.tc : Thread Cert.Reference15Ideal.nD Cert.Reference15Ideal.τ).loc Cert.Reference15Ideal.main_arg12) = m ((c.tc : Thread Cert.Reference15Ideal.nD Cert.Reference15Ideal.τ).loc Cert.Reference15Ideal.main_arg12)
      ∧ r.2.mem ((c.tc : Thread Cert.Reference15Ideal.nD Cert.Reference15Ideal.τ).loc Cert.Reference15Ideal.main_arg13) = m ((c.tc : Thread Cert.Reference15Ideal.nD Cert.Reference15Ideal.τ).loc Cert.Reference15Ideal.main_arg13)
      ∧ r.2.mem ((c.tc : Thread Cert.Reference15Ideal.nD Cert.Reference15Ideal.τ).loc Cert.Reference15Ideal.main_arg14) = m ((c.tc : Thread Cert.Reference15Ideal.nD Cert.Reference15Ideal.τ).loc Cert.Reference15Ideal.main_arg14)
      ∧ r.2.mem ((c.tc : Thread Cert.Reference15Ideal.nD Cert.Reference15Ideal.τ).loc Cert.Reference15Ideal.main_arg15) = m ((c.tc : Thread Cert.Reference15Ideal.nD Cert.Reference15Ideal.τ).loc Cert.Reference15Ideal.main_arg15))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8)
      ∧ r.2.mem ((c.tc : Thread Cert.Kernel16.nD Cert.Kernel16.τ).loc Cert.Kernel16.main_arg9) = m ((c.tc : Thread Cert.Kernel16.nD Cert.Kernel16.τ).loc Cert.Kernel16.main_arg9)
      ∧ r.2.mem ((c.tc : Thread Cert.Kernel16.nD Cert.Kernel16.τ).loc Cert.Kernel16.main_arg10) = m ((c.tc : Thread Cert.Kernel16.nD Cert.Kernel16.τ).loc Cert.Kernel16.main_arg10)
      ∧ r.2.mem ((c.tc : Thread Cert.Kernel16.nD Cert.Kernel16.τ).loc Cert.Kernel16.main_arg11) = m ((c.tc : Thread Cert.Kernel16.nD Cert.Kernel16.τ).loc Cert.Kernel16.main_arg11)
      ∧ r.2.mem ((c.tc : Thread Cert.Kernel16.nD Cert.Kernel16.τ).loc Cert.Kernel16.main_arg12) = m ((c.tc : Thread Cert.Kernel16.nD Cert.Kernel16.τ).loc Cert.Kernel16.main_arg12)
      ∧ r.2.mem ((c.tc : Thread Cert.Kernel16.nD Cert.Kernel16.τ).loc Cert.Kernel16.main_arg13) = m ((c.tc : Thread Cert.Kernel16.nD Cert.Kernel16.τ).loc Cert.Kernel16.main_arg13)
      ∧ r.2.mem ((c.tc : Thread Cert.Kernel16.nD Cert.Kernel16.τ).loc Cert.Kernel16.main_arg14) = m ((c.tc : Thread Cert.Kernel16.nD Cert.Kernel16.τ).loc Cert.Kernel16.main_arg14)
      ∧ r.2.mem ((c.tc : Thread Cert.Kernel16.nD Cert.Kernel16.τ).loc Cert.Kernel16.main_arg15) = m ((c.tc : Thread Cert.Kernel16.nD Cert.Kernel16.τ).loc Cert.Kernel16.main_arg15))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
      ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
      ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
      ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11)
      ∧ r.2.mem ((c.tc : Thread Cert.Kernel16Ideal.nD Cert.Kernel16Ideal.τ).loc Cert.Kernel16Ideal.main_arg12) = m ((c.tc : Thread Cert.Kernel16Ideal.nD Cert.Kernel16Ideal.τ).loc Cert.Kernel16Ideal.main_arg12)
      ∧ r.2.mem ((c.tc : Thread Cert.Kernel16Ideal.nD Cert.Kernel16Ideal.τ).loc Cert.Kernel16Ideal.main_arg13) = m ((c.tc : Thread Cert.Kernel16Ideal.nD Cert.Kernel16Ideal.τ).loc Cert.Kernel16Ideal.main_arg13)
      ∧ r.2.mem ((c.tc : Thread Cert.Kernel16Ideal.nD Cert.Kernel16Ideal.τ).loc Cert.Kernel16Ideal.main_arg14) = m ((c.tc : Thread Cert.Kernel16Ideal.nD Cert.Kernel16Ideal.τ).loc Cert.Kernel16Ideal.main_arg14)
      ∧ r.2.mem ((c.tc : Thread Cert.Kernel16Ideal.nD Cert.Kernel16Ideal.τ).loc Cert.Kernel16Ideal.main_arg15) = m ((c.tc : Thread Cert.Kernel16Ideal.nD Cert.Kernel16Ideal.τ).loc Cert.Kernel16Ideal.main_arg15))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8)
      ∧ r.2.mem ((c.tc : Thread Cert.Reference16Ideal.nD Cert.Reference16Ideal.τ).loc Cert.Reference16Ideal.main_arg9) = m ((c.tc : Thread Cert.Reference16Ideal.nD Cert.Reference16Ideal.τ).loc Cert.Reference16Ideal.main_arg9)
      ∧ r.2.mem ((c.tc : Thread Cert.Reference16Ideal.nD Cert.Reference16Ideal.τ).loc Cert.Reference16Ideal.main_arg10) = m ((c.tc : Thread Cert.Reference16Ideal.nD Cert.Reference16Ideal.τ).loc Cert.Reference16Ideal.main_arg10)
      ∧ r.2.mem ((c.tc : Thread Cert.Reference16Ideal.nD Cert.Reference16Ideal.τ).loc Cert.Reference16Ideal.main_arg11) = m ((c.tc : Thread Cert.Reference16Ideal.nD Cert.Reference16Ideal.τ).loc Cert.Reference16Ideal.main_arg11)
      ∧ r.2.mem ((c.tc : Thread Cert.Reference16Ideal.nD Cert.Reference16Ideal.τ).loc Cert.Reference16Ideal.main_arg12) = m ((c.tc : Thread Cert.Reference16Ideal.nD Cert.Reference16Ideal.τ).loc Cert.Reference16Ideal.main_arg12)
      ∧ r.2.mem ((c.tc : Thread Cert.Reference16Ideal.nD Cert.Reference16Ideal.τ).loc Cert.Reference16Ideal.main_arg13) = m ((c.tc : Thread Cert.Reference16Ideal.nD Cert.Reference16Ideal.τ).loc Cert.Reference16Ideal.main_arg13)
      ∧ r.2.mem ((c.tc : Thread Cert.Reference16Ideal.nD Cert.Reference16Ideal.τ).loc Cert.Reference16Ideal.main_arg14) = m ((c.tc : Thread Cert.Reference16Ideal.nD Cert.Reference16Ideal.τ).loc Cert.Reference16Ideal.main_arg14)
      ∧ r.2.mem ((c.tc : Thread Cert.Reference16Ideal.nD Cert.Reference16Ideal.τ).loc Cert.Reference16Ideal.main_arg15) = m ((c.tc : Thread Cert.Reference16Ideal.nD Cert.Reference16Ideal.τ).loc Cert.Reference16Ideal.main_arg15))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v39_0)) (v1 : (c : Dev Cert.Kernel2Ideal.nD) → Buf (Elt Ideal) ((c.tc : Thread Cert.Kernel2Ideal.nD Cert.Kernel2Ideal.τ).loc Cert.Kernel2Ideal.main_v39_1)) (v2 : (c : Dev Cert.Kernel2Ideal.nD) → Buf (Elt Ideal) ((c.tc : Thread Cert.Kernel2Ideal.nD Cert.Kernel2Ideal.τ).loc Cert.Kernel2Ideal.main_v39_2)) (v3 : (c : Dev Cert.Kernel2Ideal.nD) → Buf (Elt Ideal) ((c.tc : Thread Cert.Kernel2Ideal.nD Cert.Kernel2Ideal.τ).loc Cert.Kernel2Ideal.main_v39_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v39_0) = v0 c
          ∧ r.2.mem ((c.tc : Thread Cert.Kernel2Ideal.nD Cert.Kernel2Ideal.τ).loc Cert.Kernel2Ideal.main_v39_1) = v1 c
          ∧ r.2.mem ((c.tc : Thread Cert.Kernel2Ideal.nD Cert.Kernel2Ideal.τ).loc Cert.Kernel2Ideal.main_v39_2) = v2 c
          ∧ r.2.mem ((c.tc : Thread Cert.Kernel2Ideal.nD Cert.Kernel2Ideal.τ).loc Cert.Kernel2Ideal.main_v39_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_v51) = v1 c
          ∧ r.2.mem ((c.tc : Thread Cert.Reference2Ideal.nD Cert.Reference2Ideal.τ).loc Cert.Reference2Ideal.main_v57) = v2 c
          ∧ r.2.mem ((c.tc : Thread Cert.Reference2Ideal.nD Cert.Reference2Ideal.τ).loc Cert.Reference2Ideal.main_v58) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_v28) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)) (v3 : (c : Dev Cert.Kernel9Ideal.nD) → Buf (Elt Ideal) ((c.tc : Thread Cert.Kernel9Ideal.nD Cert.Kernel9Ideal.τ).loc Cert.Kernel9Ideal.main_v4_3)) (v4 : (c : Dev Cert.Kernel9Ideal.nD) → Buf (Elt Ideal) ((c.tc : Thread Cert.Kernel9Ideal.nD Cert.Kernel9Ideal.τ).loc Cert.Kernel9Ideal.main_v4_4)) (v5 : (c : Dev Cert.Kernel9Ideal.nD) → Buf (Elt Ideal) ((c.tc : Thread Cert.Kernel9Ideal.nD Cert.Kernel9Ideal.τ).loc Cert.Kernel9Ideal.main_v4_5)) (v6 : (c : Dev Cert.Kernel9Ideal.nD) → Buf (Elt Ideal) ((c.tc : Thread Cert.Kernel9Ideal.nD Cert.Kernel9Ideal.τ).loc Cert.Kernel9Ideal.main_v4_6)) (v7 : (c : Dev Cert.Kernel9Ideal.nD) → Buf (Elt Ideal) ((c.tc : Thread Cert.Kernel9Ideal.nD Cert.Kernel9Ideal.τ).loc Cert.Kernel9Ideal.main_v4_7)) (v8 : (c : Dev Cert.Kernel9Ideal.nD) → Buf (Elt Ideal) ((c.tc : Thread Cert.Kernel9Ideal.nD Cert.Kernel9Ideal.τ).loc Cert.Kernel9Ideal.main_v4_8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_v4_3) = v3 c
          ∧ r.2.mem ((c.tc : Thread Cert.Kernel9Ideal.nD Cert.Kernel9Ideal.τ).loc Cert.Kernel9Ideal.main_v4_4) = v4 c
          ∧ r.2.mem ((c.tc : Thread Cert.Kernel9Ideal.nD Cert.Kernel9Ideal.τ).loc Cert.Kernel9Ideal.main_v4_5) = v5 c
          ∧ r.2.mem ((c.tc : Thread Cert.Kernel9Ideal.nD Cert.Kernel9Ideal.τ).loc Cert.Kernel9Ideal.main_v4_6) = v6 c
          ∧ r.2.mem ((c.tc : Thread Cert.Kernel9Ideal.nD Cert.Kernel9Ideal.τ).loc Cert.Kernel9Ideal.main_v4_7) = v7 c
          ∧ r.2.mem ((c.tc : Thread Cert.Kernel9Ideal.nD Cert.Kernel9Ideal.τ).loc Cert.Kernel9Ideal.main_v4_8) = v8 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v47) = v1 c
          ∧ r.2.mem ((c.tc : Thread Cert.Reference9Ideal.nD Cert.Reference9Ideal.τ).loc Cert.Reference9Ideal.main_v72) = v2 c
          ∧ r.2.mem ((c.tc : Thread Cert.Reference9Ideal.nD Cert.Reference9Ideal.τ).loc Cert.Reference9Ideal.main_v4) = v3 c
          ∧ r.2.mem ((c.tc : Thread Cert.Reference9Ideal.nD Cert.Reference9Ideal.τ).loc Cert.Reference9Ideal.main_v28) = v4 c
          ∧ r.2.mem ((c.tc : Thread Cert.Reference9Ideal.nD Cert.Reference9Ideal.τ).loc Cert.Reference9Ideal.main_v73) = v5 c
          ∧ r.2.mem ((c.tc : Thread Cert.Reference9Ideal.nD Cert.Reference9Ideal.τ).loc Cert.Reference9Ideal.main_v10) = v6 c
          ∧ r.2.mem ((c.tc : Thread Cert.Reference9Ideal.nD Cert.Reference9Ideal.τ).loc Cert.Reference9Ideal.main_v34) = v7 c
          ∧ r.2.mem ((c.tc : Thread Cert.Reference9Ideal.nD Cert.Reference9Ideal.τ).loc Cert.Reference9Ideal.main_v74) = v8 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v4)) (v1 : (c : Dev Cert.Kernel10Ideal.nD) → Buf (Elt Ideal) ((c.tc : Thread Cert.Kernel10Ideal.nD Cert.Kernel10Ideal.τ).loc Cert.Kernel10Ideal.main_v5)) (v2 : (c : Dev Cert.Kernel10Ideal.nD) → Buf (Elt Ideal) ((c.tc : Thread Cert.Kernel10Ideal.nD Cert.Kernel10Ideal.τ).loc Cert.Kernel10Ideal.main_v6)) (v3 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_v5) = v1 c
          ∧ r.2.mem ((c.tc : Thread Cert.Kernel10Ideal.nD Cert.Kernel10Ideal.τ).loc Cert.Kernel10Ideal.main_v6) = v2 c
          ∧ r.2.mem ((c.tc : Thread Cert.Kernel10Ideal.nD Cert.Kernel10Ideal.τ).loc Cert.Kernel10Ideal.main_v7) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_v31) = v1 c
          ∧ r.2.mem ((c.tc : Thread Cert.Reference10Ideal.nD Cert.Reference10Ideal.τ).loc Cert.Reference10Ideal.main_v12) = v2 c
          ∧ r.2.mem ((c.tc : Thread Cert.Reference10Ideal.nD Cert.Reference10Ideal.τ).loc Cert.Reference10Ideal.main_v18) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v4)) (v1 : (c : Dev Cert.Kernel11Ideal.nD) → Buf (Elt Ideal) ((c.tc : Thread Cert.Kernel11Ideal.nD Cert.Kernel11Ideal.τ).loc Cert.Kernel11Ideal.main_v5)) (v2 : (c : Dev Cert.Kernel11Ideal.nD) → Buf (Elt Ideal) ((c.tc : Thread Cert.Kernel11Ideal.nD Cert.Kernel11Ideal.τ).loc Cert.Kernel11Ideal.main_v6)) (v3 : (c : Dev Cert.Kernel11Ideal.nD) → Buf (Elt Ideal) ((c.tc : Thread Cert.Kernel11Ideal.nD Cert.Kernel11Ideal.τ).loc Cert.Kernel11Ideal.main_v7)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_v5) = v1 c
          ∧ r.2.mem ((c.tc : Thread Cert.Kernel11Ideal.nD Cert.Kernel11Ideal.τ).loc Cert.Kernel11Ideal.main_v6) = v2 c
          ∧ r.2.mem ((c.tc : Thread Cert.Kernel11Ideal.nD Cert.Kernel11Ideal.τ).loc Cert.Kernel11Ideal.main_v7) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_v31) = v1 c
          ∧ r.2.mem ((c.tc : Thread Cert.Reference11Ideal.nD Cert.Reference11Ideal.τ).loc Cert.Reference11Ideal.main_v12) = v2 c
          ∧ r.2.mem ((c.tc : Thread Cert.Reference11Ideal.nD Cert.Reference11Ideal.τ).loc Cert.Reference11Ideal.main_v18) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_v30) = v1 c
          ∧ r.2.mem ((c.tc : Thread Cert.Reference12Ideal.nD Cert.Reference12Ideal.τ).loc Cert.Reference12Ideal.main_v11) = v2 c
          ∧ r.2.mem ((c.tc : Thread Cert.Reference12Ideal.nD Cert.Reference12Ideal.τ).loc Cert.Reference12Ideal.main_v17) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_v30) = v1 c
          ∧ r.2.mem ((c.tc : Thread Cert.Reference13Ideal.nD Cert.Reference13Ideal.τ).loc Cert.Reference13Ideal.main_v11) = v2 c
          ∧ r.2.mem ((c.tc : Thread Cert.Reference13Ideal.nD Cert.Reference13Ideal.τ).loc Cert.Reference13Ideal.main_v17) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v30) = v1 c
          ∧ r.2.mem ((c.tc : Thread Cert.Reference14Ideal.nD Cert.Reference14Ideal.τ).loc Cert.Reference14Ideal.main_v11) = v2 c
          ∧ r.2.mem ((c.tc : Thread Cert.Reference14Ideal.nD Cert.Reference14Ideal.τ).loc Cert.Reference14Ideal.main_v17) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)
      ∧ m' ((c.tc : Thread Cert.Reference15Ideal.nD Cert.Reference15Ideal.τ).loc Cert.Reference15Ideal.main_arg12) = m ((c.tc : Thread Cert.Kernel15Ideal.nD Cert.Kernel15Ideal.τ).loc Cert.Kernel15Ideal.main_arg12)
      ∧ m' ((c.tc : Thread Cert.Reference15Ideal.nD Cert.Reference15Ideal.τ).loc Cert.Reference15Ideal.main_arg13) = m ((c.tc : Thread Cert.Kernel15Ideal.nD Cert.Kernel15Ideal.τ).loc Cert.Kernel15Ideal.main_arg13)
      ∧ m' ((c.tc : Thread Cert.Reference15Ideal.nD Cert.Reference15Ideal.τ).loc Cert.Reference15Ideal.main_arg14) = m ((c.tc : Thread Cert.Kernel15Ideal.nD Cert.Kernel15Ideal.τ).loc Cert.Kernel15Ideal.main_arg14)
      ∧ m' ((c.tc : Thread Cert.Reference15Ideal.nD Cert.Reference15Ideal.τ).loc Cert.Reference15Ideal.main_arg15) = m ((c.tc : Thread Cert.Kernel15Ideal.nD Cert.Kernel15Ideal.τ).loc Cert.Kernel15Ideal.main_arg15)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)) (v5 : (c : Dev Cert.Kernel15Ideal.nD) → Buf (Elt Ideal) ((c.tc : Thread Cert.Kernel15Ideal.nD Cert.Kernel15Ideal.τ).loc Cert.Kernel15Ideal.main_v0_5)) (v6 : (c : Dev Cert.Kernel15Ideal.nD) → Buf (Elt Ideal) ((c.tc : Thread Cert.Kernel15Ideal.nD Cert.Kernel15Ideal.τ).loc Cert.Kernel15Ideal.main_v0_6)) (v7 : (c : Dev Cert.Kernel15Ideal.nD) → Buf (Elt Ideal) ((c.tc : Thread Cert.Kernel15Ideal.nD Cert.Kernel15Ideal.τ).loc Cert.Kernel15Ideal.main_v0_7)) (v8 : (c : Dev Cert.Kernel15Ideal.nD) → Buf (Elt Ideal) ((c.tc : Thread Cert.Kernel15Ideal.nD Cert.Kernel15Ideal.τ).loc Cert.Kernel15Ideal.main_v0_8)) (v9 : (c : Dev Cert.Kernel15Ideal.nD) → Buf (Elt Ideal) ((c.tc : Thread Cert.Kernel15Ideal.nD Cert.Kernel15Ideal.τ).loc Cert.Kernel15Ideal.main_v0_9)) (v10 : (c : Dev Cert.Kernel15Ideal.nD) → Buf (Elt Ideal) ((c.tc : Thread Cert.Kernel15Ideal.nD Cert.Kernel15Ideal.τ).loc Cert.Kernel15Ideal.main_v0_10)) (v11 : (c : Dev Cert.Kernel15Ideal.nD) → Buf (Elt Ideal) ((c.tc : Thread Cert.Kernel15Ideal.nD Cert.Kernel15Ideal.τ).loc Cert.Kernel15Ideal.main_v0_11)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_v0_5) = v5 c
          ∧ r.2.mem ((c.tc : Thread Cert.Kernel15Ideal.nD Cert.Kernel15Ideal.τ).loc Cert.Kernel15Ideal.main_v0_6) = v6 c
          ∧ r.2.mem ((c.tc : Thread Cert.Kernel15Ideal.nD Cert.Kernel15Ideal.τ).loc Cert.Kernel15Ideal.main_v0_7) = v7 c
          ∧ r.2.mem ((c.tc : Thread Cert.Kernel15Ideal.nD Cert.Kernel15Ideal.τ).loc Cert.Kernel15Ideal.main_v0_8) = v8 c
          ∧ r.2.mem ((c.tc : Thread Cert.Kernel15Ideal.nD Cert.Kernel15Ideal.τ).loc Cert.Kernel15Ideal.main_v0_9) = v9 c
          ∧ r.2.mem ((c.tc : Thread Cert.Kernel15Ideal.nD Cert.Kernel15Ideal.τ).loc Cert.Kernel15Ideal.main_v0_10) = v10 c
          ∧ r.2.mem ((c.tc : Thread Cert.Kernel15Ideal.nD Cert.Kernel15Ideal.τ).loc Cert.Kernel15Ideal.main_v0_11) = v11 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
          ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
          ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
          ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
          ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v47) = v1 c
          ∧ r.2.mem ((c.tc : Thread Cert.Reference15Ideal.nD Cert.Reference15Ideal.τ).loc Cert.Reference15Ideal.main_v71) = v2 c
          ∧ r.2.mem ((c.tc : Thread Cert.Reference15Ideal.nD Cert.Reference15Ideal.τ).loc Cert.Reference15Ideal.main_v95) = v3 c
          ∧ r.2.mem ((c.tc : Thread Cert.Reference15Ideal.nD Cert.Reference15Ideal.τ).loc Cert.Reference15Ideal.main_v4) = v4 c
          ∧ r.2.mem ((c.tc : Thread Cert.Reference15Ideal.nD Cert.Reference15Ideal.τ).loc Cert.Reference15Ideal.main_v28) = v5 c
          ∧ r.2.mem ((c.tc : Thread Cert.Reference15Ideal.nD Cert.Reference15Ideal.τ).loc Cert.Reference15Ideal.main_v52) = v6 c
          ∧ r.2.mem ((c.tc : Thread Cert.Reference15Ideal.nD Cert.Reference15Ideal.τ).loc Cert.Reference15Ideal.main_v76) = v7 c
          ∧ r.2.mem ((c.tc : Thread Cert.Reference15Ideal.nD Cert.Reference15Ideal.τ).loc Cert.Reference15Ideal.main_v10) = v8 c
          ∧ r.2.mem ((c.tc : Thread Cert.Reference15Ideal.nD Cert.Reference15Ideal.τ).loc Cert.Reference15Ideal.main_v34) = v9 c
          ∧ r.2.mem ((c.tc : Thread Cert.Reference15Ideal.nD Cert.Reference15Ideal.τ).loc Cert.Reference15Ideal.main_v58) = v10 c
          ∧ r.2.mem ((c.tc : Thread Cert.Reference15Ideal.nD Cert.Reference15Ideal.τ).loc Cert.Reference15Ideal.main_v82) = v11 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11)
          ∧ r.2.mem ((c.tc : Thread Cert.Reference15Ideal.nD Cert.Reference15Ideal.τ).loc Cert.Reference15Ideal.main_arg12) = m' ((c.tc : Thread Cert.Reference15Ideal.nD Cert.Reference15Ideal.τ).loc Cert.Reference15Ideal.main_arg12)
          ∧ r.2.mem ((c.tc : Thread Cert.Reference15Ideal.nD Cert.Reference15Ideal.τ).loc Cert.Reference15Ideal.main_arg13) = m' ((c.tc : Thread Cert.Reference15Ideal.nD Cert.Reference15Ideal.τ).loc Cert.Reference15Ideal.main_arg13)
          ∧ r.2.mem ((c.tc : Thread Cert.Reference15Ideal.nD Cert.Reference15Ideal.τ).loc Cert.Reference15Ideal.main_arg14) = m' ((c.tc : Thread Cert.Reference15Ideal.nD Cert.Reference15Ideal.τ).loc Cert.Reference15Ideal.main_arg14)
          ∧ r.2.mem ((c.tc : Thread Cert.Reference15Ideal.nD Cert.Reference15Ideal.τ).loc Cert.Reference15Ideal.main_arg15) = m' ((c.tc : Thread Cert.Reference15Ideal.nD Cert.Reference15Ideal.τ).loc Cert.Reference15Ideal.main_arg15))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)
      ∧ m' ((c.tc : Thread Cert.Reference16Ideal.nD Cert.Reference16Ideal.τ).loc Cert.Reference16Ideal.main_arg9) = m ((c.tc : Thread Cert.Kernel16Ideal.nD Cert.Kernel16Ideal.τ).loc Cert.Kernel16Ideal.main_arg9)
      ∧ m' ((c.tc : Thread Cert.Reference16Ideal.nD Cert.Reference16Ideal.τ).loc Cert.Reference16Ideal.main_arg10) = m ((c.tc : Thread Cert.Kernel16Ideal.nD Cert.Kernel16Ideal.τ).loc Cert.Kernel16Ideal.main_arg10)
      ∧ m' ((c.tc : Thread Cert.Reference16Ideal.nD Cert.Reference16Ideal.τ).loc Cert.Reference16Ideal.main_arg11) = m ((c.tc : Thread Cert.Kernel16Ideal.nD Cert.Kernel16Ideal.τ).loc Cert.Kernel16Ideal.main_arg11)
      ∧ m' ((c.tc : Thread Cert.Reference16Ideal.nD Cert.Reference16Ideal.τ).loc Cert.Reference16Ideal.main_arg12) = m ((c.tc : Thread Cert.Kernel16Ideal.nD Cert.Kernel16Ideal.τ).loc Cert.Kernel16Ideal.main_arg12)
      ∧ m' ((c.tc : Thread Cert.Reference16Ideal.nD Cert.Reference16Ideal.τ).loc Cert.Reference16Ideal.main_arg13) = m ((c.tc : Thread Cert.Kernel16Ideal.nD Cert.Kernel16Ideal.τ).loc Cert.Kernel16Ideal.main_arg13)
      ∧ m' ((c.tc : Thread Cert.Reference16Ideal.nD Cert.Reference16Ideal.τ).loc Cert.Reference16Ideal.main_arg14) = m ((c.tc : Thread Cert.Kernel16Ideal.nD Cert.Kernel16Ideal.τ).loc Cert.Kernel16Ideal.main_arg14)
      ∧ m' ((c.tc : Thread Cert.Reference16Ideal.nD Cert.Reference16Ideal.τ).loc Cert.Reference16Ideal.main_arg15) = m ((c.tc : Thread Cert.Kernel16Ideal.nD Cert.Kernel16Ideal.τ).loc Cert.Kernel16Ideal.main_arg15)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)) (v4 : (c : Dev Cert.Kernel16Ideal.nD) → Buf (Elt Ideal) ((c.tc : Thread Cert.Kernel16Ideal.nD Cert.Kernel16Ideal.τ).loc Cert.Kernel16Ideal.main_v0_4)) (v5 : (c : Dev Cert.Kernel16Ideal.nD) → Buf (Elt Ideal) ((c.tc : Thread Cert.Kernel16Ideal.nD Cert.Kernel16Ideal.τ).loc Cert.Kernel16Ideal.main_v0_5)) (v6 : (c : Dev Cert.Kernel16Ideal.nD) → Buf (Elt Ideal) ((c.tc : Thread Cert.Kernel16Ideal.nD Cert.Kernel16Ideal.τ).loc Cert.Kernel16Ideal.main_v0_6)) (v7 : (c : Dev Cert.Kernel16Ideal.nD) → Buf (Elt Ideal) ((c.tc : Thread Cert.Kernel16Ideal.nD Cert.Kernel16Ideal.τ).loc Cert.Kernel16Ideal.main_v0_7)) (v8 : (c : Dev Cert.Kernel16Ideal.nD) → Buf (Elt Ideal) ((c.tc : Thread Cert.Kernel16Ideal.nD Cert.Kernel16Ideal.τ).loc Cert.Kernel16Ideal.main_v0_8)) (v9 : (c : Dev Cert.Kernel16Ideal.nD) → Buf (Elt Ideal) ((c.tc : Thread Cert.Kernel16Ideal.nD Cert.Kernel16Ideal.τ).loc Cert.Kernel16Ideal.main_v0_9)) (v10 : (c : Dev Cert.Kernel16Ideal.nD) → Buf (Elt Ideal) ((c.tc : Thread Cert.Kernel16Ideal.nD Cert.Kernel16Ideal.τ).loc Cert.Kernel16Ideal.main_v0_10)) (v11 : (c : Dev Cert.Kernel16Ideal.nD) → Buf (Elt Ideal) ((c.tc : Thread Cert.Kernel16Ideal.nD Cert.Kernel16Ideal.τ).loc Cert.Kernel16Ideal.main_v0_11)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_v0_4) = v4 c
          ∧ r.2.mem ((c.tc : Thread Cert.Kernel16Ideal.nD Cert.Kernel16Ideal.τ).loc Cert.Kernel16Ideal.main_v0_5) = v5 c
          ∧ r.2.mem ((c.tc : Thread Cert.Kernel16Ideal.nD Cert.Kernel16Ideal.τ).loc Cert.Kernel16Ideal.main_v0_6) = v6 c
          ∧ r.2.mem ((c.tc : Thread Cert.Kernel16Ideal.nD Cert.Kernel16Ideal.τ).loc Cert.Kernel16Ideal.main_v0_7) = v7 c
          ∧ r.2.mem ((c.tc : Thread Cert.Kernel16Ideal.nD Cert.Kernel16Ideal.τ).loc Cert.Kernel16Ideal.main_v0_8) = v8 c
          ∧ r.2.mem ((c.tc : Thread Cert.Kernel16Ideal.nD Cert.Kernel16Ideal.τ).loc Cert.Kernel16Ideal.main_v0_9) = v9 c
          ∧ r.2.mem ((c.tc : Thread Cert.Kernel16Ideal.nD Cert.Kernel16Ideal.τ).loc Cert.Kernel16Ideal.main_v0_10) = v10 c
          ∧ r.2.mem ((c.tc : Thread Cert.Kernel16Ideal.nD Cert.Kernel16Ideal.τ).loc Cert.Kernel16Ideal.main_v0_11) = v11 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
          ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
          ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
          ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11)
          ∧ r.2.mem ((c.tc : Thread Cert.Kernel16Ideal.nD Cert.Kernel16Ideal.τ).loc Cert.Kernel16Ideal.main_arg12) = m ((c.tc : Thread Cert.Kernel16Ideal.nD Cert.Kernel16Ideal.τ).loc Cert.Kernel16Ideal.main_arg12)
          ∧ r.2.mem ((c.tc : Thread Cert.Kernel16Ideal.nD Cert.Kernel16Ideal.τ).loc Cert.Kernel16Ideal.main_arg13) = m ((c.tc : Thread Cert.Kernel16Ideal.nD Cert.Kernel16Ideal.τ).loc Cert.Kernel16Ideal.main_arg13)
          ∧ r.2.mem ((c.tc : Thread Cert.Kernel16Ideal.nD Cert.Kernel16Ideal.τ).loc Cert.Kernel16Ideal.main_arg14) = m ((c.tc : Thread Cert.Kernel16Ideal.nD Cert.Kernel16Ideal.τ).loc Cert.Kernel16Ideal.main_arg14)
          ∧ r.2.mem ((c.tc : Thread Cert.Kernel16Ideal.nD Cert.Kernel16Ideal.τ).loc Cert.Kernel16Ideal.main_arg15) = m ((c.tc : Thread Cert.Kernel16Ideal.nD Cert.Kernel16Ideal.τ).loc Cert.Kernel16Ideal.main_arg15))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v47) = v1 c
          ∧ r.2.mem ((c.tc : Thread Cert.Reference16Ideal.nD Cert.Reference16Ideal.τ).loc Cert.Reference16Ideal.main_v71) = v2 c
          ∧ r.2.mem ((c.tc : Thread Cert.Reference16Ideal.nD Cert.Reference16Ideal.τ).loc Cert.Reference16Ideal.main_v95) = v3 c
          ∧ r.2.mem ((c.tc : Thread Cert.Reference16Ideal.nD Cert.Reference16Ideal.τ).loc Cert.Reference16Ideal.main_v4) = v4 c
          ∧ r.2.mem ((c.tc : Thread Cert.Reference16Ideal.nD Cert.Reference16Ideal.τ).loc Cert.Reference16Ideal.main_v28) = v5 c
          ∧ r.2.mem ((c.tc : Thread Cert.Reference16Ideal.nD Cert.Reference16Ideal.τ).loc Cert.Reference16Ideal.main_v52) = v6 c
          ∧ r.2.mem ((c.tc : Thread Cert.Reference16Ideal.nD Cert.Reference16Ideal.τ).loc Cert.Reference16Ideal.main_v76) = v7 c
          ∧ r.2.mem ((c.tc : Thread Cert.Reference16Ideal.nD Cert.Reference16Ideal.τ).loc Cert.Reference16Ideal.main_v10) = v8 c
          ∧ r.2.mem ((c.tc : Thread Cert.Reference16Ideal.nD Cert.Reference16Ideal.τ).loc Cert.Reference16Ideal.main_v34) = v9 c
          ∧ r.2.mem ((c.tc : Thread Cert.Reference16Ideal.nD Cert.Reference16Ideal.τ).loc Cert.Reference16Ideal.main_v58) = v10 c
          ∧ r.2.mem ((c.tc : Thread Cert.Reference16Ideal.nD Cert.Reference16Ideal.τ).loc Cert.Reference16Ideal.main_v82) = v11 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8)
          ∧ r.2.mem ((c.tc : Thread Cert.Reference16Ideal.nD Cert.Reference16Ideal.τ).loc Cert.Reference16Ideal.main_arg9) = m' ((c.tc : Thread Cert.Reference16Ideal.nD Cert.Reference16Ideal.τ).loc Cert.Reference16Ideal.main_arg9)
          ∧ r.2.mem ((c.tc : Thread Cert.Reference16Ideal.nD Cert.Reference16Ideal.τ).loc Cert.Reference16Ideal.main_arg10) = m' ((c.tc : Thread Cert.Reference16Ideal.nD Cert.Reference16Ideal.τ).loc Cert.Reference16Ideal.main_arg10)
          ∧ r.2.mem ((c.tc : Thread Cert.Reference16Ideal.nD Cert.Reference16Ideal.τ).loc Cert.Reference16Ideal.main_arg11) = m' ((c.tc : Thread Cert.Reference16Ideal.nD Cert.Reference16Ideal.τ).loc Cert.Reference16Ideal.main_arg11)
          ∧ r.2.mem ((c.tc : Thread Cert.Reference16Ideal.nD Cert.Reference16Ideal.τ).loc Cert.Reference16Ideal.main_arg12) = m' ((c.tc : Thread Cert.Reference16Ideal.nD Cert.Reference16Ideal.τ).loc Cert.Reference16Ideal.main_arg12)
          ∧ r.2.mem ((c.tc : Thread Cert.Reference16Ideal.nD Cert.Reference16Ideal.τ).loc Cert.Reference16Ideal.main_arg13) = m' ((c.tc : Thread Cert.Reference16Ideal.nD Cert.Reference16Ideal.τ).loc Cert.Reference16Ideal.main_arg13)
          ∧ r.2.mem ((c.tc : Thread Cert.Reference16Ideal.nD Cert.Reference16Ideal.τ).loc Cert.Reference16Ideal.main_arg14) = m' ((c.tc : Thread Cert.Reference16Ideal.nD Cert.Reference16Ideal.τ).loc Cert.Reference16Ideal.main_arg14)
          ∧ r.2.mem ((c.tc : Thread Cert.Reference16Ideal.nD Cert.Reference16Ideal.τ).loc Cert.Reference16Ideal.main_arg15) = m' ((c.tc : Thread Cert.Reference16Ideal.nD Cert.Reference16Ideal.τ).loc Cert.Reference16Ideal.main_arg15))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)) (v4 : (c : Dev Cert.Kernel17Ideal.nD) → Buf (Elt Ideal) ((c.tc : Thread Cert.Kernel17Ideal.nD Cert.Kernel17Ideal.τ).loc Cert.Kernel17Ideal.main_v0_4)) (v5 : (c : Dev Cert.Kernel17Ideal.nD) → Buf (Elt Ideal) ((c.tc : Thread Cert.Kernel17Ideal.nD Cert.Kernel17Ideal.τ).loc Cert.Kernel17Ideal.main_v0_5)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_v0_4) = v4 c
          ∧ r.2.mem ((c.tc : Thread Cert.Kernel17Ideal.nD Cert.Kernel17Ideal.τ).loc Cert.Kernel17Ideal.main_v0_5) = v5 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v47) = v1 c
          ∧ r.2.mem ((c.tc : Thread Cert.Reference17Ideal.nD Cert.Reference17Ideal.τ).loc Cert.Reference17Ideal.main_v4) = v2 c
          ∧ r.2.mem ((c.tc : Thread Cert.Reference17Ideal.nD Cert.Reference17Ideal.τ).loc Cert.Reference17Ideal.main_v28) = v3 c
          ∧ r.2.mem ((c.tc : Thread Cert.Reference17Ideal.nD Cert.Reference17Ideal.τ).loc Cert.Reference17Ideal.main_v10) = v4 c
          ∧ r.2.mem ((c.tc : Thread Cert.Reference17Ideal.nD Cert.Reference17Ideal.τ).loc Cert.Reference17Ideal.main_v34) = v5 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v4)) (v1 : (c : Dev Cert.Kernel18Ideal.nD) → Buf (Elt Ideal) ((c.tc : Thread Cert.Kernel18Ideal.nD Cert.Kernel18Ideal.τ).loc Cert.Kernel18Ideal.main_v15)) (v2 : (c : Dev Cert.Kernel18Ideal.nD) → Buf (Elt Ideal) ((c.tc : Thread Cert.Kernel18Ideal.nD Cert.Kernel18Ideal.τ).loc Cert.Kernel18Ideal.main_v26)) (v3 : (c : Dev Cert.Kernel18Ideal.nD) → Buf (Elt Ideal) ((c.tc : Thread Cert.Kernel18Ideal.nD Cert.Kernel18Ideal.τ).loc Cert.Kernel18Ideal.main_v30)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_v15) = v1 c
          ∧ r.2.mem ((c.tc : Thread Cert.Kernel18Ideal.nD Cert.Kernel18Ideal.τ).loc Cert.Kernel18Ideal.main_v26) = v2 c
          ∧ r.2.mem ((c.tc : Thread Cert.Kernel18Ideal.nD Cert.Kernel18Ideal.τ).loc Cert.Kernel18Ideal.main_v30) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v8) = v0 c
          ∧ r.2.mem ((c.tc : Thread Cert.Reference18Ideal.nD Cert.Reference18Ideal.τ).loc Cert.Reference18Ideal.main_v19) = v1 c
          ∧ r.2.mem ((c.tc : Thread Cert.Reference18Ideal.nD Cert.Reference18Ideal.τ).loc Cert.Reference18Ideal.main_v30) = v2 c
          ∧ r.2.mem ((c.tc : Thread Cert.Reference18Ideal.nD Cert.Reference18Ideal.τ).loc Cert.Reference18Ideal.main_v34) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v9)) (v1 : (c : Dev Cert.Kernel19Ideal.nD) → Buf (Elt Ideal) ((c.tc : Thread Cert.Kernel19Ideal.nD Cert.Kernel19Ideal.τ).loc Cert.Kernel19Ideal.main_v20)) (v2 : (c : Dev Cert.Kernel19Ideal.nD) → Buf (Elt Ideal) ((c.tc : Thread Cert.Kernel19Ideal.nD Cert.Kernel19Ideal.τ).loc Cert.Kernel19Ideal.main_v31)) (v3 : (c : Dev Cert.Kernel19Ideal.nD) → Buf (Elt Ideal) ((c.tc : Thread Cert.Kernel19Ideal.nD Cert.Kernel19Ideal.τ).loc Cert.Kernel19Ideal.main_v42)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v9) = v0 c
          ∧ r.2.mem ((c.tc : Thread Cert.Kernel19Ideal.nD Cert.Kernel19Ideal.τ).loc Cert.Kernel19Ideal.main_v20) = v1 c
          ∧ r.2.mem ((c.tc : Thread Cert.Kernel19Ideal.nD Cert.Kernel19Ideal.τ).loc Cert.Kernel19Ideal.main_v31) = v2 c
          ∧ r.2.mem ((c.tc : Thread Cert.Kernel19Ideal.nD Cert.Kernel19Ideal.τ).loc Cert.Kernel19Ideal.main_v42) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v12) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v34) = v2 c
          ∧ r.2.mem ((c.tc : Thread Cert.Reference19Ideal.nD Cert.Reference19Ideal.τ).loc Cert.Reference19Ideal.main_v45) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v11)) (v1 : (c : Dev Cert.Kernel20Ideal.nD) → Buf (Elt Ideal) ((c.tc : Thread Cert.Kernel20Ideal.nD Cert.Kernel20Ideal.τ).loc Cert.Kernel20Ideal.main_v22)) (v2 : (c : Dev Cert.Kernel20Ideal.nD) → Buf (Elt Ideal) ((c.tc : Thread Cert.Kernel20Ideal.nD Cert.Kernel20Ideal.τ).loc Cert.Kernel20Ideal.main_v31)) (v3 : (c : Dev Cert.Kernel20Ideal.nD) → Buf (Elt Ideal) ((c.tc : Thread Cert.Kernel20Ideal.nD Cert.Kernel20Ideal.τ).loc Cert.Kernel20Ideal.main_v44)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v11) = v0 c
          ∧ r.2.mem ((c.tc : Thread Cert.Kernel20Ideal.nD Cert.Kernel20Ideal.τ).loc Cert.Kernel20Ideal.main_v22) = v1 c
          ∧ r.2.mem ((c.tc : Thread Cert.Kernel20Ideal.nD Cert.Kernel20Ideal.τ).loc Cert.Kernel20Ideal.main_v31) = v2 c
          ∧ r.2.mem ((c.tc : Thread Cert.Kernel20Ideal.nD Cert.Kernel20Ideal.τ).loc Cert.Kernel20Ideal.main_v44) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v14) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v34) = v2 c
          ∧ r.2.mem ((c.tc : Thread Cert.Reference20Ideal.nD Cert.Reference20Ideal.τ).loc Cert.Reference20Ideal.main_v47) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v27)) (v1 : (c : Dev Cert.Kernel21Ideal.nD) → Buf (Elt Ideal) ((c.tc : Thread Cert.Kernel21Ideal.nD Cert.Kernel21Ideal.τ).loc Cert.Kernel21Ideal.main_v38)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v27) = v0 c
          ∧ r.2.mem ((c.tc : Thread Cert.Kernel21Ideal.nD Cert.Kernel21Ideal.τ).loc Cert.Kernel21Ideal.main_v38) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v30) = v0 c
          ∧ r.2.mem ((c.tc : Thread Cert.Reference21Ideal.nD Cert.Reference21Ideal.τ).loc Cert.Reference21Ideal.main_v41) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)) (v2 : (c : Dev Cert.Kernel22Ideal.nD) → Buf (Elt Ideal) ((c.tc : Thread Cert.Kernel22Ideal.nD Cert.Kernel22Ideal.τ).loc Cert.Kernel22Ideal.main_v1_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_v1_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v33) = v0 c
          ∧ r.2.mem ((c.tc : Thread Cert.Reference22Ideal.nD Cert.Reference22Ideal.τ).loc Cert.Reference22Ideal.main_v32) = v1 c
          ∧ r.2.mem ((c.tc : Thread Cert.Reference22Ideal.nD Cert.Reference22Ideal.τ).loc Cert.Reference22Ideal.main_v36) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite2 : Cert.Pre_finite2.Facts) (hPre_finite3 : Cert.Pre_finite3.Facts),
    quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite2.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_v3 : IVec S_ 1) (main_v7 : IVec S_ 1) (main_v11 : IVec S_ 1) (main_v15 : IVec S_ 1) : IVec S_ 1 × IVec S_ 1 × IVec S_ 1 × IVec S_ 1 × IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  (main_v3, main_v7, main_v11, main_v15, main_v19)

def fn {F : FTy → Type} [FloatOps F] (main_arg0 : FVec F S4096x1024 .f32) (main_arg1 : FVec F S4096x1024 .f32) (main_arg2 : FVec F S1024 .f32) (main_arg3 : FVec F S1024x5632 .f32) (main_arg4 : FVec F S2816x1024 .f32) : IVec S_ 1 × IVec S_ 1 × IVec S_ 1 × IVec S_ 1 × IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024x5632 .f32 := Host.absf main_arg3
  let main_cst_4 : FVec F S_ .f32 := constant S_ .f32 0x7F800000#32
  let main_v13 : FVec F S1024x5632 .f32 := broadcastInDim S1024x5632 ![] bcast_S_S1024x5632 main_cst_4
  let main_v14 : IVec S1024x5632 1 := cmpf .olt main_v12 main_v13
  let main_c_5 : IVec S_ 1 := constantI S_ 1 1#1
  let main_v15 : IVec S_ 1 := (fun x v => Host.reduce IntOp.andi x v reducesTo_S1024x5632_S_d0_1 h_S_) main_v14 main_c_5
  fn_part1 (F := F) main_arg4 main_v3 main_v7 main_v11 main_v15
-- ==== Pre_finite3.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S4096x1024 .f32) (main_arg1 : FVec F S1024 .f32) (main_arg2 : FVec F S1024x5632 .f32) (main_arg3 : FVec F S2816x1024 .f32) : IVec S_ 1 × IVec S_ 1 × IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x5632 .f32 := Host.absf main_arg2
  let main_cst_2 : FVec F S_ .f32 := constant S_ .f32 0x7F800000#32
  let main_v9 : FVec F S1024x5632 .f32 := broadcastInDim S1024x5632 ![] bcast_S_S1024x5632 main_cst_2
  let main_v10 : IVec S1024x5632 1 := cmpf .olt main_v8 main_v9
  let main_c_3 : IVec S_ 1 := constantI S_ 1 1#1
  let main_v11 : IVec S_ 1 := (fun x v => Host.reduce IntOp.andi x v reducesTo_S1024x5632_S_d0_1 h_S_) main_v10 main_c_3
  (main_v3, main_v7, main_v11)
-- ==== Kernel2.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S5632x1024 : Shape := ⟨2, ![5632, 1024]⟩
abbrev S2x2816x1024 : Shape := ⟨3, ![2, 2816, 1024]⟩
abbrev S512x1024 : Shape := ⟨2, ![512, 1024]⟩
abbrev S2x512x1408 : Shape := ⟨3, ![2, 512, 1408]⟩
abbrev S1408x1024 : Shape := ⟨2, ![1408, 1024]⟩
abbrev S512x1408 : Shape := ⟨2, ![512, 1408]⟩
abbrev S1x512x1408 : Shape := ⟨3, ![1, 512, 1408]⟩
abbrev S1x1408x1024 : Shape := ⟨3, ![1, 1408, 1024]⟩
abbrev S512 : Shape := ⟨1, ![512]⟩
abbrev S512x1 : Shape := ⟨2, ![512, 1]⟩

abbrev nBuf : Space → Nat
  | .hbm => 55
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S1x4096x2816, .f32⟩
  | .hbm, ⟨43, _⟩ => ⟨S1x4096x2816, .f32⟩
  | .hbm, ⟨44, _⟩ => ⟨S2x4096x2816, .f32⟩
  | .hbm, ⟨45, _⟩ => ⟨S2x4096x2816, .bf16⟩
  | .hbm, ⟨46, _⟩ => ⟨S5632x1024, .f32⟩
  | .hbm, ⟨47, _⟩ => ⟨S5632x1024, .bf16⟩
  | .hbm, ⟨48, _⟩ => ⟨S2x2816x1024, .bf16⟩
  | .hbm, ⟨49, _⟩ => ⟨S1x1024, .f32⟩
  | .hbm, ⟨50, _⟩ => ⟨S2816x1024, .bf16⟩
  | .hbm, ⟨51, _⟩ => ⟨S4096x1024, .f32⟩
  | .hbm, ⟨52, _⟩ => ⟨S4096x1024, .bf16⟩
  | .hbm, ⟨53, _⟩ => ⟨S2x4096x2816, .bf16⟩
  | .hbm, ⟨54, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2x512x1408, .bf16⟩
  | .local _ .vmem, ⟨5, _⟩ => ⟨S2x512x1408, .bf16⟩
  | .local _ .vmem, ⟨6, _⟩ => ⟨S1x1024, .f32⟩
  | .local _ .vmem, ⟨7, _⟩ => ⟨S2x2816x1024, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S2x512x1408, .bf16⟩
  | .local _ .vmem, ⟨14, _⟩ => ⟨S2x512x1408, .bf16⟩
  | .local _ .vmem, ⟨15, _⟩ => ⟨S1x1024, .f32⟩
  | .local _ .vmem, ⟨16, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39_0 : Ref sig .tc := ⟨.hbm, 51, rfl⟩
abbrev main_v39_1 : Ref sig .tc := ⟨.hbm, 52, rfl⟩
abbrev main_v39_2 : Ref sig .tc := ⟨.hbm, 53, rfl⟩
abbrev main_v39_3 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1408_i32 : BitVec 32 := 1408#32
  let v6 : BitVec 32 := Scalar.muli arg1 c1408_i32
  v6
def k0_off1 (i : grid0.Coords) : Fin 2 → Nat :=
  let arg1 : BitVec 32 := BitVec.ofNat 32 (i 1).val
  let c1408_i32 : BitVec 32 := 1408#32
  let v6 : BitVec 32 := Scalar.muli arg1 c1408_i32
  let v7 : BitVec 32 := v6
  let v9 : Index := Scalar.indexCast v7
  let c0_3 : Index := 0#32
  ![v9.toNat, 0]
def k0_off2 (i : grid0.Coords) : Fin 3 → Nat :=
  let c0_19 : Index := 0#32
  let arg1 : BitVec 32 := BitVec.ofNat 32 (i 1).val
  let c1408_i32 : BitVec 32 := 1408#32
  let v6 : BitVec 32 := Scalar.muli arg1 c1408_i32
  let v7 : BitVec 32 := v6
  let v33 : Index := Scalar.indexCast v7
  let c0_20 : Index := 0#32
  ![0, v33.toNat, 0]
def k0_off3 (i : grid0.Coords) : Fin 3 → Nat :=
  let c1_22 : Index := 1#32
  let arg1 : BitVec 32 := BitVec.ofNat 32 (i 1).val
  let c1408_i32 : BitVec 32 := 1408#32
  let v6 : BitVec 32 := Scalar.muli arg1 c1408_i32
  let v7 : BitVec 32 := v6
  let v37 : Index := Scalar.indexCast v7
  let c0_23 : Index := 0#32
  ![1, v37.toNat, 0]
def k0_cond3 (i : grid0.Coords) : BitVec 1 :=
  let arg1 : BitVec 32 := BitVec.ofNat 32 (i 1).val
  let c1_i32 : BitVec 32 := 1#32
  let v46 : BitVec 1 := Scalar.cmpi .eq arg1 c1_i32
  let v47 : BitVec 32 := Scalar.extui v46
  let c0_i32_27 : BitVec 32 := 0#32
  let v48 : BitVec 1 := Scalar.cmpi .ne v47 c0_i32_27
  v48

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference2Ideal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x5632, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .bf16⟩
  | .hbm, ⟨81, _⟩ => ⟨S4096x2816, .f32⟩
  | .hbm, ⟨82, _⟩ => ⟨S4096x2816, .f32⟩
  | .hbm, ⟨83, _⟩ => ⟨S1x4096x2816, .f32⟩
  | .hbm, ⟨84, _⟩ => ⟨S1x4096x2816, .f32⟩
  | .hbm, ⟨85, _⟩ => ⟨S2x4096x2816, .f32⟩
  | .hbm, ⟨86, _⟩ => ⟨S2x4096x2816, .bf16⟩
  | .hbm, ⟨87, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S2x2816x1024 : Shape := ⟨3, ![2, 2816, 1024]⟩
abbrev S1x1024 : Shape := ⟨2, ![1, 1024]⟩
abbrev S2x4096x2816 : Shape := ⟨3, ![2, 4096, 2816]⟩
abbrev S4096x2816 : Shape := ⟨2, ![4096, 2816]⟩
abbrev S512x1024 : Shape := ⟨2, ![512, 1024]⟩
abbrev S2x1408x1024 : Shape := ⟨3, ![2, 1408, 1024]⟩
abbrev S1408x1024 : Shape := ⟨2, ![1408, 1024]⟩
abbrev S2x512x1408 : Shape := ⟨3, ![2, 512, 1408]⟩
abbrev S512x1408 : Shape := ⟨2, ![512, 1408]⟩
abbrev S512 : Shape := ⟨1, ![512]⟩
abbrev S512x1 : Shape := ⟨2, ![512, 1]⟩
abbrev S1x1408x1024 : Shape := ⟨3, ![1, 1408, 1024]⟩
abbrev S1x512x1408 : Shape := ⟨3, ![1, 512, 1408]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S5632x1024, .f32⟩
  | .hbm, ⟨5, _⟩ => ⟨S5632x1024, .bf16⟩
  | .hbm, ⟨6, _⟩ => ⟨S2x2816x1024, .bf16⟩
  | .hbm, ⟨7, _⟩ => ⟨S1x1024, .f32⟩
  | .hbm, ⟨8, _⟩ => ⟨S2816x1024, .bf16⟩
  | .hbm, ⟨9, _⟩ => ⟨S4096x1024, .f32⟩
  | .hbm, ⟨10, _⟩ => ⟨S2x4096x2816, .bf16⟩
  | .hbm, ⟨11, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2x1408x1024, .bf16⟩
  | .local _ .vmem, ⟨4, _⟩ => ⟨S2x1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S512x1024, .f32⟩
  | .local _ .vmem, ⟨8, _⟩ => ⟨S512x1024, .f32⟩
  | .local _ .vmem, ⟨9, _⟩ => ⟨S2x512x1408, .bf16⟩
  | .local _ .vmem, ⟨10, _⟩ => ⟨S2x512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1024, .bf16⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v44 : BitVec 1 := Scalar.cmpi .eq arg1 c1_i32
  let v45 : BitVec 32 := Scalar.extui v44
  let c0_i32_28 : BitVec 32 := 0#32
  let v46 : BitVec 1 := Scalar.cmpi .ne v45 c0_i32_28
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x1024, .f32⟩
  | .hbm, ⟨46, _⟩ => ⟨S4096x1024, .f32⟩
  | .hbm, ⟨47, _⟩ => ⟨S1x4096x2816, .f32⟩
  | .hbm, ⟨48, _⟩ => ⟨S1x4096x2816, .f32⟩
  | .hbm, ⟨49, _⟩ => ⟨S2x4096x2816, .f32⟩
  | .hbm, ⟨50, _⟩ => ⟨S2x4096x2816, .bf16⟩
  | .hbm, ⟨51, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v16_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v16_1 : Ref sig .tc := ⟨.hbm, 34, rfl⟩
abbrev main_v16_0 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩

abbrev nD : Nat := 1
abbrev τ : Topo := Topo.v7x

variable {F : FTy → Type} [FloatOps F]
-- ==== Kernel4.lean ====
abbrev S2x4096x2816 : Shape := ⟨3, ![2, 4096, 2816]⟩
abbrev S4096x1024 : Shape := ⟨2, ![4096, 1024]⟩
abbrev S2x2816x1024 : Shape := ⟨3, ![2, 2816, 1024]⟩
abbrev S1x2048x1408 : Shape := ⟨3, ![1, 2048, 1408]⟩
abbrev S2048x1024 : Shape := ⟨2, ![2048, 1024]⟩
abbrev S1x1408x1024 : Shape := ⟨3, ![1, 1408, 1024]⟩
abbrev S1408x1024 : Shape := ⟨2, ![1408, 1024]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S2x2816x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x4096x2816 : Shape := ⟨3, ![2, 4096, 2816]⟩
abbrev S4096x1024 : Shape := ⟨2, ![4096, 1024]⟩
abbrev S_ : Shape := ⟨0, ![]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S5632x1024 : Shape := ⟨2, ![5632, 1024]⟩
abbrev S2x2816x1024 : Shape := ⟨3, ![2, 2816, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S1x4096x2816, .f32⟩
  | .hbm, ⟨9, _⟩ => ⟨S1x4096x2816, .f32⟩
  | .hbm, ⟨10, _⟩ => ⟨S2x4096x2816, .f32⟩
  | .hbm, ⟨11, _⟩ => ⟨S2x4096x2816, .f32⟩
  | .hbm, ⟨12, _⟩ => ⟨S1x4096x2816, .f32⟩
  | .hbm, ⟨13, _⟩ => ⟨S4096x2816, .f32⟩
  | .hbm, ⟨14, _⟩ => ⟨S1x4096x2816, .f32⟩
  | .hbm, ⟨15, _⟩ => ⟨S4096x2816, .f32⟩
  | .hbm, ⟨16, _⟩ => ⟨S4096x5632, .f32⟩
  | .hbm, ⟨17, _⟩ => ⟨S5632x1024, .f32⟩
  | .hbm, ⟨18, _⟩ => ⟨S1024x5632, .f32⟩
  | .hbm, ⟨19, _⟩ => ⟨S5632x1024, .f32⟩
  | .hbm, ⟨20, _⟩ => ⟨S2x2816x1024, .f32⟩
  | .hbm, ⟨21, _⟩ => ⟨S2x2816x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S1x4096x2816 : Shape := ⟨3, ![1, 4096, 2816]⟩
abbrev S1x2816x1024 : Shape := ⟨3, ![1, 2816, 1024]⟩
abbrev S1x1024x1408 : Shape := ⟨3, ![1, 1024, 1408]⟩
abbrev S1024x1024 : Shape := ⟨2, ![1024, 1024]⟩
abbrev S1x1408x1024 : Shape := ⟨3, ![1, 1408, 1024]⟩
abbrev S1408x1024 : Shape := ⟨2, ![1408, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S1x4096x2816, .bf16⟩
  | .hbm, ⟨3, _⟩ => ⟨S1x2816x1024, .bf16⟩
  | .local _ .vmem, ⟨0, _⟩ => ⟨S1x1024x1408, .bf16⟩
  | .local _ .vmem, ⟨1, _⟩ => ⟨S1x1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S1x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1792 : Shape := ⟨2, ![4096, 1792]⟩
abbrev S4096x1024 : Shape := ⟨2, ![4096, 1024]⟩
abbrev S1x4096x1792 : Shape := ⟨3, ![1, 4096, 1792]⟩
abbrev S1x1792x1024 : Shape := ⟨3, ![1, 1792, 1024]⟩
abbrev S1x2048x896 : Shape := ⟨3, ![1, 2048, 896]⟩
abbrev S2048x1024 : Shape := ⟨2, ![2048, 1024]⟩
abbrev S1x896x1024 : Shape := ⟨3, ![1, 896, 1024]⟩
abbrev S896x1024 : Shape := ⟨2, ![896, 1024]⟩
abbrev S2048x896 : Shape := ⟨2, ![2048, 896]⟩

abbrev nBuf : Space → Nat
  | .hbm => 4
  | .vmem => 7
  | .smem => 0
  | _ => 0

abbrev bufTy : (tb : Table) → Fin (tcTables nBuf tb) → BufTy
  | .hbm, ⟨0, _⟩ => ⟨S4096x1792, .bf16⟩
  | .hbm, ⟨1, _⟩ => ⟨S4096x1024, .bf16⟩
  | .hbm, ⟨2, _⟩ => ⟨S1x4096x1792, .bf16⟩
  | .hbm, ⟨3, _⟩ => ⟨S1x1792x1024, .bf16⟩
  | .local _ .vmem, ⟨0, _⟩ => ⟨S1x2048x896, .bf16⟩
  | .local _ .vmem, ⟨1, _⟩ => ⟨S1x2048x896, .bf16⟩
  | .local _ .vmem, ⟨2, _⟩ => ⟨S2048x1024, .bf16⟩
  | .local _ .vmem, ⟨3, _⟩ => ⟨S2048x1024, .bf16⟩
  | .local _ .vmem, ⟨4, _⟩ => ⟨S1x896x1024, .bf16⟩
  | .local _ .vmem, ⟨5, _⟩ => ⟨S1x896x1024, .bf16⟩
  | .local _ .vmem, ⟨6, _⟩ => ⟨S896x1024, .f32⟩
  | _, _ => ⟨S4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1792 : Shape := ⟨2, ![4096, 1792]⟩
abbrev S4096x1024 : Shape := ⟨2, ![4096, 1024]⟩
abbrev S_ : Shape := ⟨0, ![]⟩
abbrev S1024x1792 : Shape := ⟨2, ![1024, 1792]⟩
abbrev S1792x1024 : Shape := ⟨2, ![1792, 1024]⟩
abbrev S1x1792x1024 : Shape := ⟨3, ![1, 1792, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1792, .bf16⟩
  | .hbm, ⟨1, _⟩ => ⟨S4096x1024, .bf16⟩
  | .hbm, ⟨2, _⟩ => ⟨S_, .f32⟩
  | .hbm, ⟨3, _⟩ => ⟨S1024x1792, .f32⟩
  | .hbm, ⟨4, _⟩ => ⟨S4096x1024, .f32⟩
  | .hbm, ⟨5, _⟩ => ⟨S4096x1792, .f32⟩
  | .hbm, ⟨6, _⟩ => ⟨S4096x1792, .f32⟩
  | .hbm, ⟨7, _⟩ => ⟨S1792x1024, .f32⟩
  | .hbm, ⟨8, _⟩ => ⟨S1024x1792, .f32⟩
  | .hbm, ⟨9, _⟩ => ⟨S1024x1792, .bf16⟩
  | .hbm, ⟨10, _⟩ => ⟨S1792x1024, .bf16⟩
  | .hbm, ⟨11, _⟩ => ⟨S1x1792x1024, .bf16⟩
  | _, _ => ⟨S4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x4096x1024, .bf16⟩
  | .hbm, ⟨3, _⟩ => ⟨S1x1024x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x384 : Shape := ⟨2, ![4096, 384]⟩
abbrev S1x4096x384 : Shape := ⟨3, ![1, 4096, 384]⟩
abbrev S1x384x384 : Shape := ⟨3, ![1, 384, 384]⟩
abbrev S1x2048x384 : Shape := ⟨3, ![1, 2048, 384]⟩
abbrev S2048x384 : Shape := ⟨2, ![2048, 384]⟩
abbrev S384x384 : Shape := ⟨2, ![384, 384]⟩

abbrev nBuf : Space → Nat
  | .hbm => 4
  | .vmem => 6
  | .smem => 0
  | _ => 0

abbrev bufTy : (tb : Table) → Fin (tcTables nBuf tb) → BufTy
  | .hbm, ⟨0, _⟩ => ⟨S4096x384, .bf16⟩
  | .hbm, ⟨1, _⟩ => ⟨S4096x384, .bf16⟩
  | .hbm, ⟨2, _⟩ => ⟨S1x4096x384, .bf16⟩
  | .hbm, ⟨3, _⟩ => ⟨S1x384x384, .bf16⟩
  | .local _ .vmem, ⟨0, _⟩ => ⟨S1x2048x384, .bf16⟩
  | .local _ .vmem, ⟨1, _⟩ => ⟨S1x2048x384, .bf16⟩
  | .local _ .vmem, ⟨2, _⟩ => ⟨S2048x384, .bf16⟩
  | .local _ .vmem, ⟨3, _⟩ => ⟨S2048x384, .bf16⟩
  | .local _ .vmem, ⟨4, _⟩ => ⟨S1x384x384, .bf16⟩
  | .local _ .vmem, ⟨5, _⟩ => ⟨S384x384, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x384x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4096x384 : Shape := ⟨2, ![4096, 384]⟩
abbrev S_ : Shape := ⟨0, ![]⟩
abbrev S384x384 : Shape := ⟨2, ![384, 384]⟩
abbrev S1x384x384 : Shape := ⟨3, ![1, 384, 384]⟩

abbrev nBuf : Space → Nat
  | .hbm => 11
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S4096x384, .bf16⟩
  | .hbm, ⟨2, _⟩ => ⟨S_, .f32⟩
  | .hbm, ⟨3, _⟩ => ⟨S384x384, .f32⟩
  | .hbm, ⟨4, _⟩ => ⟨S4096x384, .f32⟩
  | .hbm, ⟨5, _⟩ => ⟨S4096x384, .f32⟩
  | .hbm, ⟨6, _⟩ => ⟨S4096x384, .f32⟩
  | .hbm, ⟨7, _⟩ => ⟨S384x384, .f32⟩
  | .hbm, ⟨8, _⟩ => ⟨S384x384, .f32⟩
  | .hbm, ⟨9, _⟩ => ⟨S384x384, .bf16⟩
  | .hbm, ⟨10, _⟩ => ⟨S1x384x384, .bf16⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S2x1024 : Shape := ⟨2, ![2, 1024]⟩
abbrev S1024 : Shape := ⟨1, ![1024]⟩
abbrev S1x1024 : Shape := ⟨2, ![1, 1024]⟩

abbrev nBuf : Space → Nat
  | .hbm => 25
  | .vmem => 21
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S1024, .f32⟩
  | .hbm, ⟨3, _⟩ => ⟨S2x1024, .f32⟩
  | .hbm, ⟨4, _⟩ => ⟨S2x1024, .f32⟩
  | .hbm, ⟨5, _⟩ => ⟨S1024, .f32⟩
  | .hbm, ⟨6, _⟩ => ⟨S2x1024, .f32⟩
  | .hbm, ⟨7, _⟩ => ⟨S2x1024, .f32⟩
  | .hbm, ⟨8, _⟩ => ⟨S1024, .f32⟩
  | .hbm, ⟨9, _⟩ => ⟨S2x1024, .f32⟩
  | .hbm, ⟨10, _⟩ => ⟨S2x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S2x1024, .f32⟩
  | .hbm, ⟨17, _⟩ => ⟨S2x1024, .f32⟩
  | .hbm, ⟨18, _⟩ => ⟨S1x1024, .f32⟩
  | .hbm, ⟨19, _⟩ => ⟨S2x1024, .f32⟩
  | .hbm, ⟨20, _⟩ => ⟨S2x1024, .f32⟩
  | .hbm, ⟨21, _⟩ => ⟨S1x1024, .f32⟩
  | .hbm, ⟨22, _⟩ => ⟨S2x1024, .f32⟩
  | .hbm, ⟨23, _⟩ => ⟨S2x1024, .f32⟩
  | .hbm, ⟨24, _⟩ => ⟨S1x1024, .f32⟩
  | .local _ .vmem, ⟨0, _⟩ => ⟨S2x1024, .f32⟩
  | .local _ .vmem, ⟨1, _⟩ => ⟨S2x1024, .f32⟩
  | .local _ .vmem, ⟨2, _⟩ => ⟨S1x1024, .f32⟩
  | .local _ .vmem, ⟨3, _⟩ => ⟨S2x1024, .f32⟩
  | .local _ .vmem, ⟨4, _⟩ => ⟨S2x1024, .f32⟩
  | .local _ .vmem, ⟨5, _⟩ => ⟨S1x1024, .f32⟩
  | .local _ .vmem, ⟨6, _⟩ => ⟨S2x1024, .f32⟩
  | .local _ .vmem, ⟨7, _⟩ => ⟨S2x1024, .f32⟩
  | .local _ .vmem, ⟨8, _⟩ => ⟨S1x1024, .f32⟩
  | .local _ .vmem, ⟨9, _⟩ => ⟨S2x1024, .f32⟩
  | .local _ .vmem, ⟨10, _⟩ => ⟨S2x1024, .f32⟩
  | .local _ .vmem, ⟨11, _⟩ => ⟨S1x1024, .f32⟩
  | .local _ .vmem, ⟨12, _⟩ => ⟨S2x1024, .f32⟩
  | .local _ .vmem, ⟨13, _⟩ => ⟨S2x1024, .f32⟩
  | .local _ .vmem, ⟨14, _⟩ => ⟨S1x1024, .f32⟩
  | .local _ .vmem, ⟨15, _⟩ => ⟨S2x1024, .f32⟩
  | .local _ .vmem, ⟨16, _⟩ => ⟨S2x1024, .f32⟩
  | .local _ .vmem, ⟨17, _⟩ => ⟨S1x1024, .f32⟩
  | .local _ .vmem, ⟨18, _⟩ => ⟨S2x1024, .f32⟩
  | .local _ .vmem, ⟨19, _⟩ => ⟨S2x1024, .f32⟩
  | .local _ .vmem, ⟨20, _⟩ => ⟨S1x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v4_4 : Ref sig .tc := ⟨.hbm, 20, rfl⟩
abbrev main_v4_5 : Ref sig .tc := ⟨.hbm, 21, rfl⟩
abbrev main_v4_6 : Ref sig .tc := ⟨.hbm, 22, rfl⟩
abbrev main_v4_7 : Ref sig .tc := ⟨.hbm, 23, rfl⟩
abbrev main_v4_8 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference9Ideal.lean ====
abbrev S2x1024 : Shape := ⟨2, ![2, 1024]⟩
abbrev S1024 : Shape := ⟨1, ![1024]⟩
abbrev S_ : Shape := ⟨0, ![]⟩
abbrev S1x1024 : Shape := ⟨2, ![1, 1024]⟩

abbrev nBuf : Space → Nat
  | .hbm => 114
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S1024, .f32⟩
  | .hbm, ⟨3, _⟩ => ⟨S2x1024, .f32⟩
  | .hbm, ⟨4, _⟩ => ⟨S2x1024, .f32⟩
  | .hbm, ⟨5, _⟩ => ⟨S1024, .f32⟩
  | .hbm, ⟨6, _⟩ => ⟨S2x1024, .f32⟩
  | .hbm, ⟨7, _⟩ => ⟨S2x1024, .f32⟩
  | .hbm, ⟨8, _⟩ => ⟨S1024, .f32⟩
  | .hbm, ⟨9, _⟩ => ⟨S2x1024, .f32⟩
  | .hbm, ⟨10, _⟩ => ⟨S2x1024, .f32⟩
  | .hbm, ⟨11, _⟩ => ⟨S1024, .f32⟩
  | .hbm, ⟨12, _⟩ => ⟨S_, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S_, .f32⟩
  | .hbm, ⟨24, _⟩ => ⟨S2x1024, .f32⟩
  | .hbm, ⟨25, _⟩ => ⟨S2x1024, .f32⟩
  | .hbm, ⟨26, _⟩ => ⟨S2x1024, .f32⟩
  | .hbm, ⟨27, _⟩ => ⟨S_, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | .hbm, ⟨37, _⟩ => ⟨S2x1024, .f32⟩
  | .hbm, ⟨38, _⟩ => ⟨S_, .f32⟩
  | .hbm, ⟨39, _⟩ => ⟨S2x1024, .f32⟩
  | .hbm, ⟨40, _⟩ => ⟨S2x1024, .f32⟩
  | .hbm, ⟨41, _⟩ => ⟨S2x1024, .f32⟩
  | .hbm, ⟨42, _⟩ => ⟨S_, .f32⟩
  | .hbm, ⟨43, _⟩ => ⟨S2x1024, .f32⟩
  | .hbm, ⟨44, _⟩ => ⟨S2x1024, .f32⟩
  | .hbm, ⟨45, _⟩ => ⟨S_, .f32⟩
  | .hbm, ⟨46, _⟩ => ⟨S2x1024, .f32⟩
  | .hbm, ⟨47, _⟩ => ⟨S2x1024, .f32⟩
  | .hbm, ⟨48, _⟩ => ⟨S_, .f32⟩
  | .hbm, ⟨49, _⟩ => ⟨S2x1024, .f32⟩
  | .hbm, ⟨50, _⟩ => ⟨S2x1024, .f32⟩
  | .hbm, ⟨51, _⟩ => ⟨S2x1024, .f32⟩
  | .hbm, ⟨52, _⟩ => ⟨S_, .f32⟩
  | .hbm, ⟨53, _⟩ => ⟨S2x1024, .f32⟩
  | .hbm, ⟨54, _⟩ => ⟨S2x1024, .f32⟩
  | .hbm, ⟨55, _⟩ => ⟨S2x1024, .f32⟩
  | .hbm, ⟨56, _⟩ => ⟨S_, .f32⟩
  | .hbm, ⟨57, _⟩ => ⟨S2x1024, .f32⟩
  | .hbm, ⟨58, _⟩ => ⟨S2x1024, .f32⟩
  | .hbm, ⟨59, _⟩ => ⟨S2x1024, .f32⟩
  | .hbm, ⟨60, _⟩ => ⟨S_, .f32⟩
  | .hbm, ⟨61, _⟩ => ⟨S2x1024, .f32⟩
  | .hbm, ⟨62, _⟩ => ⟨S2x1024, .f32⟩
  | .hbm, ⟨63, _⟩ => ⟨S_, .f32⟩
  | .hbm, ⟨64, _⟩ => ⟨S2x1024, .f32⟩
  | .hbm, ⟨65, _⟩ => ⟨S2x1024, .f32⟩
  | .hbm, ⟨66, _⟩ => ⟨S2x1024, .f32⟩
  | .hbm, ⟨67, _⟩ => ⟨S_, .f32⟩
  | .hbm, ⟨68, _⟩ => ⟨S2x1024, .f32⟩
  | .hbm, ⟨69, _⟩ => ⟨S2x1024, .f32⟩
  | .hbm, ⟨70, _⟩ => ⟨S2x1024, .f32⟩
  | .hbm, ⟨71, _⟩ => ⟨S_, .f32⟩
  | .hbm, ⟨72, _⟩ => ⟨S2x1024, .f32⟩
  | .hbm, ⟨73, _⟩ => ⟨S2x1024, .f32⟩
  | .hbm, ⟨74, _⟩ => ⟨S2x1024, .f32⟩
  | .hbm, ⟨75, _⟩ => ⟨S_, .f32⟩
  | .hbm, ⟨76, _⟩ => ⟨S2x1024, .f32⟩
  | .hbm, ⟨77, _⟩ => ⟨S2x1024, .f32⟩
  | .hbm, ⟨78, _⟩ => ⟨S_, .f32⟩
  | .hbm, ⟨79, _⟩ => ⟨S1024, .f32⟩
  | .hbm, ⟨80, _⟩ => ⟨S1024, .f32⟩
  | .hbm, ⟨81, _⟩ => ⟨S_, .f32⟩
  | .hbm, ⟨82, _⟩ => ⟨S1024, .f32⟩
  | .hbm, ⟨83, _⟩ => ⟨S1024, .f32⟩
  | .hbm, ⟨84, _⟩ => ⟨S1024, .f32⟩
  | .hbm, ⟨85, _⟩ => ⟨S_, .f32⟩
  | .hbm, ⟨86, _⟩ => ⟨S1024, .f32⟩
  | .hbm, ⟨87, _⟩ => ⟨S1024, .f32⟩
  | .hbm, ⟨88, _⟩ => ⟨S1024, .f32⟩
  | .hbm, ⟨89, _⟩ => ⟨S_, .f32⟩
  | .hbm, ⟨90, _⟩ => ⟨S1024, .f32⟩
  | .hbm, ⟨91, _⟩ => ⟨S1024, .f32⟩
  | .hbm, ⟨92, _⟩ => ⟨S1024, .f32⟩
  | .hbm, ⟨93, _⟩ => ⟨S_, .f32⟩
  | .hbm, ⟨94, _⟩ => ⟨S1024, .f32⟩
  | .hbm, ⟨95, _⟩ => ⟨S1024, .f32⟩
  | .hbm, ⟨96, _⟩ => ⟨S_, .f32⟩
  | .hbm, ⟨97, _⟩ => ⟨S1024, .f32⟩
  | .hbm, ⟨98, _⟩ => ⟨S1024, .f32⟩
  | .hbm, ⟨99, _⟩ => ⟨S1024, .f32⟩
  | .hbm, ⟨100, _⟩ => ⟨S_, .f32⟩
  | .hbm, ⟨101, _⟩ => ⟨S1024, .f32⟩
  | .hbm, ⟨102, _⟩ => ⟨S1024, .f32⟩
  | .hbm, ⟨103, _⟩ => ⟨S1024, .f32⟩
  | .hbm, ⟨104, _⟩ => ⟨S_, .f32⟩
  | .hbm, ⟨105, _⟩ => ⟨S1024, .f32⟩
  | .hbm, ⟨106, _⟩ => ⟨S1024, .f32⟩
  | .hbm, ⟨107, _⟩ => ⟨S1024, .f32⟩
  | .hbm, ⟨108, _⟩ => ⟨S_, .f32⟩
  | .hbm, ⟨109, _⟩ => ⟨S1024, .f32⟩
  | .hbm, ⟨110, _⟩ => ⟨S1024, .f32⟩
  | .hbm, ⟨111, _⟩ => ⟨S1x1024, .f32⟩
  | .hbm, ⟨112, _⟩ => ⟨S1x1024, .f32⟩
  | .hbm, ⟨113, _⟩ => ⟨S1x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩

abbrev nD : Nat := 1
abbrev τ : Topo := Topo.v7x

variable {F : FTy → Type} [FloatOps F]
-- ==== Kernel10.lean ====
abbrev S8x224x1024 : Shape := ⟨3, ![8, 224, 1024]⟩
abbrev S2x1024x224 : Shape := ⟨3, ![2, 1024, 224]⟩
abbrev S2x224x1024 : Shape := ⟨3, ![2, 224, 1024]⟩
abbrev S8x112x1024 : Shape := ⟨3, ![8, 112, 1024]⟩
abbrev S1x112x1024 : Shape := ⟨3, ![1, 112, 1024]⟩
abbrev S112x1024 : Shape := ⟨2, ![112, 1024]⟩

abbrev nBuf : Space → Nat
  | .hbm => 16
  | .vmem => 18
  | .smem => 0
  | _ => 0

abbrev bufTy : (tb : Table) → Fin (tcTables nBuf tb) → BufTy
  | .hbm, ⟨0, _⟩ => ⟨S8x224x1024, .bf16⟩
  | .hbm, ⟨1, _⟩ => ⟨S8x224x1024, .bf16⟩
  | .hbm, ⟨2, _⟩ => ⟨S2x1024x224, .f32⟩
  | .hbm, ⟨3, _⟩ => ⟨S2x1024x224, .f32⟩
  | .hbm, ⟨4, _⟩ => ⟨S2x1024x224, .f32⟩
  | .hbm, ⟨5, _⟩ => ⟨S2x224x1024, .f32⟩
  | .hbm, ⟨6, _⟩ => ⟨S2x224x1024, .f32⟩
  | .hbm, ⟨7, _⟩ => ⟨S2x224x1024, .f32⟩
  | .hbm, ⟨8, _⟩ => ⟨S2x224x1024, .f32⟩
  | .hbm, ⟨9, _⟩ => ⟨S2x224x1024, .f32⟩
  | .hbm, ⟨10, _⟩ => ⟨S2x224x1024, .f32⟩
  | .hbm, ⟨11, _⟩ => ⟨S2x224x1024, .f32⟩
  | .hbm, ⟨12, _⟩ => ⟨S2x1024x224, .f32⟩
  | .hbm, ⟨13, _⟩ => ⟨S2x1024x224, .f32⟩
  | .hbm, ⟨14, _⟩ => ⟨S2x1024x224, .f32⟩
  | .hbm, ⟨15, _⟩ => ⟨S2x1024x224, .f32⟩
  | .local _ .vmem, ⟨0, _⟩ => ⟨S8x112x1024, .bf16⟩
  | .local _ .vmem, ⟨1, _⟩ => ⟨S8x112x1024, .bf16⟩
  | .local _ .vmem, ⟨2, _⟩ => ⟨S8x112x1024, .bf16⟩
  | .local _ .vmem, ⟨3, _⟩ => ⟨S8x112x1024, .bf16⟩
  | .local _ .vmem, ⟨4, _⟩ => ⟨S1x112x1024, .f32⟩
  | .local _ .vmem, ⟨5, _⟩ => ⟨S1x112x1024, .f32⟩
  | .local _ .vmem, ⟨6, _⟩ => ⟨S1x112x1024, .f32⟩
  | .local _ .vmem, ⟨7, _⟩ => ⟨S1x112x1024, .f32⟩
  | .local _ .vmem, ⟨8, _⟩ => ⟨S1x112x1024, .f32⟩
  | .local _ .vmem, ⟨9, _⟩ => ⟨S1x112x1024, .f32⟩
  | .local _ .vmem, ⟨10, _⟩ => ⟨S1x112x1024, .f32⟩
  | .local _ .vmem, ⟨11, _⟩ => ⟨S1x112x1024, .f32⟩
  | .local _ .vmem, ⟨12, _⟩ => ⟨S1x112x1024, .f32⟩
  | .local _ .vmem, ⟨13, _⟩ => ⟨S1x112x1024, .f32⟩
  | .local _ .vmem, ⟨14, _⟩ => ⟨S1x112x1024, .f32⟩
  | .local _ .vmem, ⟨15, _⟩ => ⟨S1x112x1024, .f32⟩
  | .local _ .vmem, ⟨16, _⟩ => ⟨S1x112x1024, .f32⟩
  | .local _ .vmem, ⟨17, _⟩ => ⟨S1x112x1024, .f32⟩
  | _, _ => ⟨S8x224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x112x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x112x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x112x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x112x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x112x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x112x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x112x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S8x224x1024 : Shape := ⟨3, ![8, 224, 1024]⟩
abbrev S2x1024x224 : Shape := ⟨3, ![2, 1024, 224]⟩
abbrev S_ : Shape := ⟨0, ![]⟩
abbrev S224x1024 : Shape := ⟨2, ![224, 1024]⟩
abbrev S1x224x1024 : Shape := ⟨3, ![1, 224, 1024]⟩
abbrev S2x224x1024 : Shape := ⟨3, ![2, 224, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x224x1024, .bf16⟩
  | .hbm, ⟨1, _⟩ => ⟨S8x224x1024, .bf16⟩
  | .hbm, ⟨2, _⟩ => ⟨S2x1024x224, .f32⟩
  | .hbm, ⟨3, _⟩ => ⟨S2x1024x224, .f32⟩
  | .hbm, ⟨4, _⟩ => ⟨S2x1024x224, .f32⟩
  | .hbm, ⟨5, _⟩ => ⟨S8x224x1024, .f32⟩
  | .hbm, ⟨6, _⟩ => ⟨S_, .f32⟩
  | .hbm, ⟨7, _⟩ => ⟨S224x1024, .f32⟩
  | .hbm, ⟨8, _⟩ => ⟨S8x224x1024, .f32⟩
  | .hbm, ⟨9, _⟩ => ⟨S_, .f32⟩
  | .hbm, ⟨10, _⟩ => ⟨S224x1024, .f32⟩
  | .hbm, ⟨11, _⟩ => ⟨S1x224x1024, .f32⟩
  | .hbm, ⟨12, _⟩ => ⟨S1x224x1024, .f32⟩
  | .hbm, ⟨13, _⟩ => ⟨S2x224x1024, .f32⟩
  | .hbm, ⟨14, _⟩ => ⟨S2x1024x224, .f32⟩
  | .hbm, ⟨15, _⟩ => ⟨S_, .f32⟩
  | .hbm, ⟨16, _⟩ => ⟨S2x1024x224, .f32⟩
  | .hbm, ⟨17, _⟩ => ⟨S2x1024x224, .f32⟩
  | .hbm, ⟨18, _⟩ => ⟨S_, .f32⟩
  | .hbm, ⟨19, _⟩ => ⟨S2x1024x224, .f32⟩
  | .hbm, ⟨20, _⟩ => ⟨S2x1024x224, .f32⟩
  | .hbm, ⟨21, _⟩ => ⟨S2x1024x224, .f32⟩
  | .hbm, ⟨22, _⟩ => ⟨S_, .f32⟩
  | .hbm, ⟨23, _⟩ => ⟨S2x1024x224, .f32⟩
  | .hbm, ⟨24, _⟩ => ⟨S2x1024x224, .f32⟩
  | .hbm, ⟨25, _⟩ => ⟨S2x1024x224, .f32⟩
  | .hbm, ⟨26, _⟩ => ⟨S_, .f32⟩
  | .hbm, ⟨27, _⟩ => ⟨S2x1024x224, .f32⟩
  | .hbm, ⟨28, _⟩ => ⟨S2x1024x224, .f32⟩
  | .hbm, ⟨29, _⟩ => ⟨S2x1024x224, .f32⟩
  | .hbm, ⟨30, _⟩ => ⟨S_, .f32⟩
  | .hbm, ⟨31, _⟩ => ⟨S2x1024x224, .f32⟩
  | .hbm, ⟨32, _⟩ => ⟨S2x1024x224, .f32⟩
  | .hbm, ⟨33, _⟩ => ⟨S_, .f32⟩
  | .hbm, ⟨34, _⟩ => ⟨S2x1024x224, .f32⟩
  | .hbm, ⟨35, _⟩ => ⟨S2x1024x224, .f32⟩
  | .hbm, ⟨36, _⟩ => ⟨S2x1024x224, .f32⟩
  | .hbm, ⟨37, _⟩ => ⟨S_, .f32⟩
  | .hbm, ⟨38, _⟩ => ⟨S2x1024x224, .f32⟩
  | .hbm, ⟨39, _⟩ => ⟨S2x1024x224, .f32⟩
  | .hbm, ⟨40, _⟩ => ⟨S2x1024x224, .f32⟩
  | .hbm, ⟨41, _⟩ => ⟨S_, .f32⟩
  | .hbm, ⟨42, _⟩ => ⟨S2x1024x224, .f32⟩
  | .hbm, ⟨43, _⟩ => ⟨S2x1024x224, .f32⟩
  | .hbm, ⟨44, _⟩ => ⟨S2x1024x224, .f32⟩
  | .hbm, ⟨45, _⟩ => ⟨S_, .f32⟩
  | .hbm, ⟨46, _⟩ => ⟨S2x1024x224, .f32⟩
  | .hbm, ⟨47, _⟩ => ⟨S2x1024x224, .f32⟩
  | _, _ => ⟨S8x224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Kernel11.lean ====
abbrev S8x704x1024 : Shape := ⟨3, ![8, 704, 1024]⟩
abbrev S2x1024x704 : Shape := ⟨3, ![2, 1024, 704]⟩
abbrev S2x704x1024 : Shape := ⟨3, ![2, 704, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 16
  | .vmem => 18
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S2x1024x704, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference11Ideal.lean ====
abbrev S8x704x1024 : Shape := ⟨3, ![8, 704, 1024]⟩
abbrev S2x1024x704 : Shape := ⟨3, ![2, 1024, 704]⟩
abbrev S_ : Shape := ⟨0, ![]⟩
abbrev S704x1024 : Shape := ⟨2, ![704, 1024]⟩
abbrev S1x704x1024 : Shape := ⟨3, ![1, 704, 1024]⟩
abbrev S2x704x1024 : Shape := ⟨3, ![2, 704, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S8x704x1024, .f32⟩
  | .hbm, ⟨6, _⟩ => ⟨S_, .f32⟩
  | .hbm, ⟨7, _⟩ => ⟨S704x1024, .f32⟩
  | .hbm, ⟨8, _⟩ => ⟨S8x704x1024, .f32⟩
  | .hbm, ⟨9, _⟩ => ⟨S_, .f32⟩
  | .hbm, ⟨10, _⟩ => ⟨S704x1024, .f32⟩
  | .hbm, ⟨11, _⟩ => ⟨S1x704x1024, .f32⟩
  | .hbm, ⟨12, _⟩ => ⟨S1x704x1024, .f32⟩
  | .hbm, ⟨13, _⟩ => ⟨S2x704x1024, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S_, .f32⟩
  | .hbm, ⟨19, _⟩ => ⟨S2x1024x704, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S_, .f32⟩
  | .hbm, ⟨34, _⟩ => ⟨S2x1024x704, .f32⟩
  | .hbm, ⟨35, _⟩ => ⟨S2x1024x704, .f32⟩
  | .hbm, ⟨36, _⟩ => ⟨S2x1024x704, .f32⟩
  | .hbm, ⟨37, _⟩ => ⟨S_, .f32⟩
  | .hbm, ⟨38, _⟩ => ⟨S2x1024x704, .f32⟩
  | .hbm, ⟨39, _⟩ => ⟨S2x1024x704, .f32⟩
  | .hbm, ⟨40, _⟩ => ⟨S2x1024x704, .f32⟩
  | .hbm, ⟨41, _⟩ => ⟨S_, .f32⟩
  | .hbm, ⟨42, _⟩ => ⟨S2x1024x704, .f32⟩
  | .hbm, ⟨43, _⟩ => ⟨S2x1024x704, .f32⟩
  | .hbm, ⟨44, _⟩ => ⟨S2x1024x704, .f32⟩
  | .hbm, ⟨45, _⟩ => ⟨S_, .f32⟩
  | .hbm, ⟨46, _⟩ => ⟨S2x1024x704, .f32⟩
  | .hbm, ⟨47, _⟩ => ⟨S2x1024x704, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Kernel12.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference12Ideal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel13.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference13Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel14.lean ====
abbrev S8x48x384 : Shape := ⟨3, ![8, 48, 384]⟩
abbrev S2x48x384 : Shape := ⟨3, ![2, 48, 384]⟩
abbrev S1x48x384 : Shape := ⟨3, ![1, 48, 384]⟩
abbrev S48x384 : Shape := ⟨2, ![48, 384]⟩

abbrev nBuf : Space → Nat
  | .hbm => 9
  | .vmem => 18
  | .smem => 0
  | _ => 0

abbrev bufTy : (tb : Table) → Fin (tcTables nBuf tb) → BufTy
  | .hbm, ⟨0, _⟩ => ⟨S8x48x384, .bf16⟩
  | .hbm, ⟨1, _⟩ => ⟨S8x48x384, .bf16⟩
  | .hbm, ⟨2, _⟩ => ⟨S2x48x384, .f32⟩
  | .hbm, ⟨3, _⟩ => ⟨S2x48x384, .f32⟩
  | .hbm, ⟨4, _⟩ => ⟨S2x48x384, .f32⟩
  | .hbm, ⟨5, _⟩ => ⟨S2x48x384, .f32⟩
  | .hbm, ⟨6, _⟩ => ⟨S2x48x384, .f32⟩
  | .hbm, ⟨7, _⟩ => ⟨S2x48x384, .f32⟩
  | .hbm, ⟨8, _⟩ => ⟨S2x48x384, .f32⟩
  | .local _ .vmem, ⟨0, _⟩ => ⟨S8x48x384, .bf16⟩
  | .local _ .vmem, ⟨1, _⟩ => ⟨S8x48x384, .bf16⟩
  | .local _ .vmem, ⟨2, _⟩ => ⟨S8x48x384, .bf16⟩
  | .local _ .vmem, ⟨3, _⟩ => ⟨S8x48x384, .bf16⟩
  | .local _ .vmem, ⟨4, _⟩ => ⟨S1x48x384, .f32⟩
  | .local _ .vmem, ⟨5, _⟩ => ⟨S1x48x384, .f32⟩
  | .local _ .vmem, ⟨6, _⟩ => ⟨S1x48x384, .f32⟩
  | .local _ .vmem, ⟨7, _⟩ => ⟨S1x48x384, .f32⟩
  | .local _ .vmem, ⟨8, _⟩ => ⟨S1x48x384, .f32⟩
  | .local _ .vmem, ⟨9, _⟩ => ⟨S1x48x384, .f32⟩
  | .local _ .vmem, ⟨10, _⟩ => ⟨S1x48x384, .f32⟩
  | .local _ .vmem, ⟨11, _⟩ => ⟨S1x48x384, .f32⟩
  | .local _ .vmem, ⟨12, _⟩ => ⟨S1x48x384, .f32⟩
  | .local _ .vmem, ⟨13, _⟩ => ⟨S1x48x384, .f32⟩
  | .local _ .vmem, ⟨14, _⟩ => ⟨S1x48x384, .f32⟩
  | .local _ .vmem, ⟨15, _⟩ => ⟨S1x48x384, .f32⟩
  | .local _ .vmem, ⟨16, _⟩ => ⟨S1x48x384, .f32⟩
  | .local _ .vmem, ⟨17, _⟩ => ⟨S1x48x384, .f32⟩
  | _, _ => ⟨S8x48x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x48x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x48x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x48x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x48x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x48x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x48x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x48x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x48x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x48x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14Ideal.lean ====
abbrev S8x48x384 : Shape := ⟨3, ![8, 48, 384]⟩
abbrev S2x48x384 : Shape := ⟨3, ![2, 48, 384]⟩
abbrev S_ : Shape := ⟨0, ![]⟩
abbrev S48x384 : Shape := ⟨2, ![48, 384]⟩
abbrev S1x48x384 : Shape := ⟨3, ![1, 48, 384]⟩

abbrev nBuf : Space → Nat
  | .hbm => 47
  | .vmem => 0
  | .smem => 0
  | _ => 0

abbrev bufTy : (tb : Table) → Fin (tcTables nBuf tb) → BufTy
  | .hbm, ⟨0, _⟩ => ⟨S8x48x384, .bf16⟩
  | .hbm, ⟨1, _⟩ => ⟨S8x48x384, .bf16⟩
  | .hbm, ⟨2, _⟩ => ⟨S2x48x384, .f32⟩
  | .hbm, ⟨3, _⟩ => ⟨S2x48x384, .f32⟩
  | .hbm, ⟨4, _⟩ => ⟨S2x48x384, .f32⟩
  | .hbm, ⟨5, _⟩ => ⟨S8x48x384, .f32⟩
  | .hbm, ⟨6, _⟩ => ⟨S_, .f32⟩
  | .hbm, ⟨7, _⟩ => ⟨S48x384, .f32⟩
  | .hbm, ⟨8, _⟩ => ⟨S8x48x384, .f32⟩
  | .hbm, ⟨9, _⟩ => ⟨S_, .f32⟩
  | .hbm, ⟨10, _⟩ => ⟨S48x384, .f32⟩
  | .hbm, ⟨11, _⟩ => ⟨S1x48x384, .f32⟩
  | .hbm, ⟨12, _⟩ => ⟨S1x48x384, .f32⟩
  | .hbm, ⟨13, _⟩ => ⟨S2x48x384, .f32⟩
  | .hbm, ⟨14, _⟩ => ⟨S_, .f32⟩
  | .hbm, ⟨15, _⟩ => ⟨S2x48x384, .f32⟩
  | .hbm, ⟨16, _⟩ => ⟨S2x48x384, .f32⟩
  | .hbm, ⟨17, _⟩ => ⟨S_, .f32⟩
  | .hbm, ⟨18, _⟩ => ⟨S2x48x384, .f32⟩
  | .hbm, ⟨19, _⟩ => ⟨S2x48x384, .f32⟩
  | .hbm, ⟨20, _⟩ => ⟨S2x48x384, .f32⟩
  | .hbm, ⟨21, _⟩ => ⟨S_, .f32⟩
  | .hbm, ⟨22, _⟩ => ⟨S2x48x384, .f32⟩
  | .hbm, ⟨23, _⟩ => ⟨S2x48x384, .f32⟩
  | .hbm, ⟨24, _⟩ => ⟨S2x48x384, .f32⟩
  | .hbm, ⟨25, _⟩ => ⟨S_, .f32⟩
  | .hbm, ⟨26, _⟩ => ⟨S2x48x384, .f32⟩
  | .hbm, ⟨27, _⟩ => ⟨S2x48x384, .f32⟩
  | .hbm, ⟨28, _⟩ => ⟨S2x48x384, .f32⟩
  | .hbm, ⟨29, _⟩ => ⟨S_, .f32⟩
  | .hbm, ⟨30, _⟩ => ⟨S2x48x384, .f32⟩
  | .hbm, ⟨31, _⟩ => ⟨S2x48x384, .f32⟩
  | .hbm, ⟨32, _⟩ => ⟨S_, .f32⟩
  | .hbm, ⟨33, _⟩ => ⟨S2x48x384, .f32⟩
  | .hbm, ⟨34, _⟩ => ⟨S2x48x384, .f32⟩
  | .hbm, ⟨35, _⟩ => ⟨S2x48x384, .f32⟩
  | .hbm, ⟨36, _⟩ => ⟨S_, .f32⟩
  | .hbm, ⟨37, _⟩ => ⟨S2x48x384, .f32⟩
  | .hbm, ⟨38, _⟩ => ⟨S2x48x384, .f32⟩
  | .hbm, ⟨39, _⟩ => ⟨S2x48x384, .f32⟩
  | .hbm, ⟨40, _⟩ => ⟨S_, .f32⟩
  | .hbm, ⟨41, _⟩ => ⟨S2x48x384, .f32⟩
  | .hbm, ⟨42, _⟩ => ⟨S2x48x384, .f32⟩
  | .hbm, ⟨43, _⟩ => ⟨S2x48x384, .f32⟩
  | .hbm, ⟨44, _⟩ => ⟨S_, .f32⟩
  | .hbm, ⟨45, _⟩ => ⟨S2x48x384, .f32⟩
  | .hbm, ⟨46, _⟩ => ⟨S2x48x384, .f32⟩
  | _, _ => ⟨S8x48x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel15.lean ====
abbrev S2x31x48 : Shape := ⟨3, ![2, 31, 48]⟩
abbrev S2x384 : Shape := ⟨2, ![2, 384]⟩

abbrev nBuf : Space → Nat
  | .hbm => 28
  | .vmem => 28
  | .smem => 0
  | _ => 0

abbrev bufTy : (tb : Table) → Fin (tcTables nBuf tb) → BufTy
  | .hbm, ⟨0, _⟩ => ⟨S2x31x48, .f32⟩
  | .hbm, ⟨1, _⟩ => ⟨S2x384, .f32⟩
  | .hbm, ⟨2, _⟩ => ⟨S2x384, .f32⟩
  | .hbm, ⟨3, _⟩ => ⟨S2x384, .f32⟩
  | .hbm, ⟨4, _⟩ => ⟨S2x31x48, .f32⟩
  | .hbm, ⟨5, _⟩ => ⟨S2x384, .f32⟩
  | .hbm, ⟨6, _⟩ => ⟨S2x384, .f32⟩
  | .hbm, ⟨7, _⟩ => ⟨S2x384, .f32⟩
  | .hbm, ⟨8, _⟩ => ⟨S2x31x48, .f32⟩
  | .hbm, ⟨9, _⟩ => ⟨S2x384, .f32⟩
  | .hbm, ⟨10, _⟩ => ⟨S2x384, .f32⟩
  | .hbm, ⟨11, _⟩ => ⟨S2x384, .f32⟩
  | .hbm, ⟨12, _⟩ => ⟨S2x31x48, .f32⟩
  | .hbm, ⟨13, _⟩ => ⟨S2x384, .f32⟩
  | .hbm, ⟨14, _⟩ => ⟨S2x384, .f32⟩
  | .hbm, ⟨15, _⟩ => ⟨S2x384, .f32⟩
  | .hbm, ⟨16, _⟩ => ⟨S2x31x48, .f32⟩
  | .hbm, ⟨17, _⟩ => ⟨S2x384, .f32⟩
  | .hbm, ⟨18, _⟩ => ⟨S2x384, .f32⟩
  | .hbm, ⟨19, _⟩ => ⟨S2x384, .f32⟩
  | .hbm, ⟨20, _⟩ => ⟨S2x31x48, .f32⟩
  | .hbm, ⟨21, _⟩ => ⟨S2x384, .f32⟩
  | .hbm, ⟨22, _⟩ => ⟨S2x384, .f32⟩
  | .hbm, ⟨23, _⟩ => ⟨S2x384, .f32⟩
  | .hbm, ⟨24, _⟩ => ⟨S2x31x48, .f32⟩
  | .hbm, ⟨25, _⟩ => ⟨S2x384, .f32⟩
  | .hbm, ⟨26, _⟩ => ⟨S2x384, .f32⟩
  | .hbm, ⟨27, _⟩ => ⟨S2x384, .f32⟩
  | .local _ .vmem, ⟨0, _⟩ => ⟨S2x31x48, .f32⟩
  | .local _ .vmem, ⟨1, _⟩ => ⟨S2x384, .f32⟩
  | .local _ .vmem, ⟨2, _⟩ => ⟨S2x384, .f32⟩
  | .local _ .vmem, ⟨3, _⟩ => ⟨S2x384, .f32⟩
  | .local _ .vmem, ⟨4, _⟩ => ⟨S2x31x48, .f32⟩
  | .local _ .vmem, ⟨5, _⟩ => ⟨S2x384, .f32⟩
  | .local _ .vmem, ⟨6, _⟩ => ⟨S2x384, .f32⟩
  | .local _ .vmem, ⟨7, _⟩ => ⟨S2x384, .f32⟩
  | .local _ .vmem, ⟨8, _⟩ => ⟨S2x31x48, .f32⟩
  | .local _ .vmem, ⟨9, _⟩ => ⟨S2x384, .f32⟩
  | .local _ .vmem, ⟨10, _⟩ => ⟨S2x384, .f32⟩
  | .local _ .vmem, ⟨11, _⟩ => ⟨S2x384, .f32⟩
  | .local _ .vmem, ⟨12, _⟩ => ⟨S2x31x48, .f32⟩
  | .local _ .vmem, ⟨13, _⟩ => ⟨S2x384, .f32⟩
  | .local _ .vmem, ⟨14, _⟩ => ⟨S2x384, .f32⟩
  | .local _ .vmem, ⟨15, _⟩ => ⟨S2x384, .f32⟩
  | .local _ .vmem, ⟨16, _⟩ => ⟨S2x31x48, .f32⟩
  | .local _ .vmem, ⟨17, _⟩ => ⟨S2x384, .f32⟩
  | .local _ .vmem, ⟨18, _⟩ => ⟨S2x384, .f32⟩
  | .local _ .vmem, ⟨19, _⟩ => ⟨S2x384, .f32⟩
  | .local _ .vmem, ⟨20, _⟩ => ⟨S2x31x48, .f32⟩
  | .local _ .vmem, ⟨21, _⟩ => ⟨S2x384, .f32⟩
  | .local _ .vmem, ⟨22, _⟩ => ⟨S2x384, .f32⟩
  | .local _ .vmem, ⟨23, _⟩ => ⟨S2x384, .f32⟩
  | .local _ .vmem, ⟨24, _⟩ => ⟨S2x31x48, .f32⟩
  | .local _ .vmem, ⟨25, _⟩ => ⟨S2x384, .f32⟩
  | .local _ .vmem, ⟨26, _⟩ => ⟨S2x384, .f32⟩
  | .local _ .vmem, ⟨27, _⟩ => ⟨S2x384, .f32⟩
  | _, _ => ⟨S2x31x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S2x31x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x31x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x31x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x31x48 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x31x48 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x384 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x31x48 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x384 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x384 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x384 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x31x48 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x384 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x384 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x384 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Reference15Ideal.lean ====
abbrev S2x31x48 : Shape := ⟨3, ![2, 31, 48]⟩
abbrev S2x384 : Shape := ⟨2, ![2, 384]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S2x31x48, .f32⟩
  | 1 => ⟨S2x384, .f32⟩
  | 2 => ⟨S2x384, .f32⟩
  | 3 => ⟨S2x384, .f32⟩
  | 4 => ⟨S2x31x48, .f32⟩
  | 5 => ⟨S2x384, .f32⟩
  | 6 => ⟨S2x384, .f32⟩
  | 7 => ⟨S2x384, .f32⟩
  | 8 => ⟨S2x31x48, .f32⟩
  | 9 => ⟨S2x384, .f32⟩
  | 10 => ⟨S2x384, .f32⟩
  | 11 => ⟨S2x384, .f32⟩
  | 12 => ⟨S2x31x48, .f32⟩
  | 13 => ⟨S2x384, .f32⟩
  | 14 => ⟨S2x384, .f32⟩
  | 15 => ⟨S2x384, .f32⟩
  | 16 => ⟨S_, .f32⟩
  | 17 => ⟨S2x31x48, .f32⟩
  | 18 => ⟨S2x31x48, .f32⟩
  | 19 => ⟨S_, .f32⟩
  | 20 => ⟨S2x31x48, .f32⟩
  | 21 => ⟨S2x31x48, .f32⟩
  | 22 => ⟨S2x31x48, .f32⟩
  | 23 => ⟨S_, .f32⟩
  | 24 => ⟨S2x31x48, .f32⟩
  | 25 => ⟨S2x31x48, .f32⟩
  | 26 => ⟨S2x31x48, .f32⟩
  | 27 => ⟨S_, .f32⟩
  | 28 => ⟨S2x31x48, .f32⟩
  | 29 => ⟨S2x31x48, .f32⟩
  | 30 => ⟨S2x31x48, .f32⟩
  | 31 => ⟨S_, .f32⟩
  | 32 => ⟨S2x31x48, .f32⟩
  | 33 => ⟨S2x31x48, .f32⟩
  | 34 => ⟨S_, .f32⟩
  | 35 => ⟨S2x31x48, .f32⟩
  | 36 => ⟨S2x31x48, .f32⟩
  | 37 => ⟨S2x31x48, .f32⟩
  | 38 => ⟨S_, .f32⟩
  | 39 => ⟨S2x31x48, .f32⟩
  | 40 => ⟨S2x31x48, .f32⟩
  | 41 => ⟨S2x31x48, .f32⟩
  | 42 => ⟨S_, .f32⟩
  | 43 => ⟨S2x31x48, .f32⟩
  | 44 => ⟨S2x31x48, .f32⟩
  | 45 => ⟨S2x31x48, .f32⟩
  | 46 => ⟨S_, .f32⟩
  | 47 => ⟨S2x31x48, .f32⟩
  | 48 => ⟨S2x31x48, .f32⟩
  | 49 => ⟨S_, .f32⟩
  | 50 => ⟨S2x384, .f32⟩
  | 51 => ⟨S2x384, .f32⟩
  | 52 => ⟨S_, .f32⟩
  | 53 => ⟨S2x384, .f32⟩
  | 54 => ⟨S2x384, .f32⟩
  | 55 => ⟨S2x384, .f32⟩
  | 56 => ⟨S_, .f32⟩
  | 57 => ⟨S2x384, .f32⟩
  | 58 => ⟨S2x384, .f32⟩
  | 59 => ⟨S2x384, .f32⟩
  | 60 => ⟨S_, .f32⟩
  | 61 => ⟨S2x384, .f32⟩
  | 62 => ⟨S2x384, .f32⟩
  | 63 => ⟨S2x384, .f32⟩
  | 64 => ⟨S_, .f32⟩
  | 65 => ⟨S2x384, .f32⟩
  | 66 => ⟨S2x384, .f32⟩
  | 67 => ⟨S_, .f32⟩
  | 68 => ⟨S2x384, .f32⟩
  | 69 => ⟨S2x384, .f32⟩
  | 70 => ⟨S2x384, .f32⟩
  | 71 => ⟨S_, .f32⟩
  | 72 => ⟨S2x384, .f32⟩
  | 73 => ⟨S2x384, .f32⟩
  | 74 => ⟨S2x384, .f32⟩
  | 75 => ⟨S_, .f32⟩
  | 76 => ⟨S2x384, .f32⟩
  | 77 => ⟨S2x384, .f32⟩
  | 78 => ⟨S2x384, .f32⟩
  | 79 => ⟨S_, .f32⟩
  | 80 => ⟨S2x384, .f32⟩
  | 81 => ⟨S2x384, .f32⟩
  | 82 => ⟨S_, .f32⟩
  | 83 => ⟨S2x384, .f32⟩
  | 84 => ⟨S2x384, .f32⟩
  | 85 => ⟨S_, .f32⟩
  | 86 => ⟨S2x384, .f32⟩
  | 87 => ⟨S2x384, .f32⟩
  | 88 => ⟨S2x384, .f32⟩
  | 89 => ⟨S_, .f32⟩
  | 90 => ⟨S2x384, .f32⟩
  | 91 => ⟨S2x384, .f32⟩
  | 92 => ⟨S2x384, .f32⟩
  | 93 => ⟨S_, .f32⟩
  | 94 => ⟨S2x384, .f32⟩
  | 95 => ⟨S2x384, .f32⟩
  | 96 => ⟨S2x384, .f32⟩
  | 97 => ⟨S_, .f32⟩
  | 98 => ⟨S2x384, .f32⟩
  | 99 => ⟨S2x384, .f32⟩
  | 100 => ⟨S_, .f32⟩
  | 101 => ⟨S2x384, .f32⟩
  | 102 => ⟨S2x384, .f32⟩
  | 103 => ⟨S2x384, .f32⟩
  | 104 => ⟨S_, .f32⟩
  | 105 => ⟨S2x384, .f32⟩
  | 106 => ⟨S2x384, .f32⟩
  | 107 => ⟨S2x384, .f32⟩
  | 108 => ⟨S_, .f32⟩
  | 109 => ⟨S2x384, .f32⟩
  | 110 => ⟨S2x384, .f32⟩
  | 111 => ⟨S2x384, .f32⟩
  | 112 => ⟨S_, .f32⟩
  | 113 => ⟨S2x384, .f32⟩
  | 114 => ⟨S2x384, .f32⟩
  | 115 => ⟨S_, .f32⟩
  | 116 => ⟨S2x384, .f32⟩
  | 117 => ⟨S2x384, .f32⟩
  | 118 => ⟨S_, .f32⟩
  | 119 => ⟨S2x384, .f32⟩
  | 120 => ⟨S2x384, .f32⟩
  | 121 => ⟨S2x384, .f32⟩
  | 122 => ⟨S_, .f32⟩
  | 123 => ⟨S2x384, .f32⟩
  | 124 => ⟨S2x384, .f32⟩
  | 125 => ⟨S2x384, .f32⟩
  | 126 => ⟨S_, .f32⟩
  | 127 => ⟨S2x384, .f32⟩
  | _ => ⟨S2x31x48, .f32⟩

abbrev hbmTy0_1 (i : Nat) : BufTy := match i % 128 with
  | 0 => ⟨S2x384, .f32⟩
  | 1 => ⟨S2x384, .f32⟩
  | 2 => ⟨S_, .f32⟩
  | 3 => ⟨S2x384, .f32⟩
  | 4 => ⟨S2x384, .f32⟩
  | 5 => ⟨S_, .f32⟩
  | 6 => ⟨S2x384, .f32⟩
  | 7 => ⟨S2x384, .f32⟩
  | 8 => ⟨S2x384, .f32⟩
  | 9 => ⟨S_, .f32⟩
  | 10 => ⟨S2x384, .f32⟩
  | 11 => ⟨S2x384, .f32⟩
  | 12 => ⟨S2x384, .f32⟩
  | 13 => ⟨S_, .f32⟩
  | 14 => ⟨S2x384, .f32⟩
  | 15 => ⟨S2x384, .f32⟩
  | 16 => ⟨S2x384, .f32⟩
  | 17 => ⟨S_, .f32⟩
  | 18 => ⟨S2x384, .f32⟩
  | 19 => ⟨S2x384, .f32⟩
  | _ => ⟨S2x31x48, .f32⟩

abbrev hbmTy (i : Nat) : BufTy := match i / 128 with
  | 0 => hbmTy0_0 i
  | 1 => hbmTy0_1 i
  | _ => ⟨S2x31x48, .f32⟩

abbrev bufTy : (tb : Table) → Fin (tcTables nBuf tb) → BufTy
  | .hbm, ⟨i, _⟩ => hbmTy i
  | _, _ => ⟨S2x31x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel16.lean ====
abbrev S2x384 : Shape := ⟨2, ![2, 384]⟩
abbrev S2x4x128x128 : Shape := ⟨4, ![2, 4, 128, 128]⟩
abbrev S2x4x128 : Shape := ⟨3, ![2, 4, 128]⟩

abbrev nBuf : Space → Nat
  | .hbm => 28
  | .vmem => 28
  | .smem => 0
  | _ => 0

abbrev bufTy : (tb : Table) → Fin (tcTables nBuf tb) → BufTy
  | .hbm, ⟨0, _⟩ => ⟨S2x384, .f32⟩
  | .hbm, ⟨1, _⟩ => ⟨S2x384, .f32⟩
  | .hbm, ⟨2, _⟩ => ⟨S2x4x128x128, .f32⟩
  | .hbm, ⟨3, _⟩ => ⟨S2x4x128, .f32⟩
  | .hbm, ⟨4, _⟩ => ⟨S2x384, .f32⟩
  | .hbm, ⟨5, _⟩ => ⟨S2x384, .f32⟩
  | .hbm, ⟨6, _⟩ => ⟨S2x4x128x128, .f32⟩
  | .hbm, ⟨7, _⟩ => ⟨S2x4x128, .f32⟩
  | .hbm, ⟨8, _⟩ => ⟨S2x384, .f32⟩
  | .hbm, ⟨9, _⟩ => ⟨S2x384, .f32⟩
  | .hbm, ⟨10, _⟩ => ⟨S2x4x128x128, .f32⟩
  | .hbm, ⟨11, _⟩ => ⟨S2x4x128, .f32⟩
  | .hbm, ⟨12, _⟩ => ⟨S2x384, .f32⟩
  | .hbm, ⟨13, _⟩ => ⟨S2x384, .f32⟩
  | .hbm, ⟨14, _⟩ => ⟨S2x4x128x128, .f32⟩
  | .hbm, ⟨15, _⟩ => ⟨S2x4x128, .f32⟩
  | .hbm, ⟨16, _⟩ => ⟨S2x384, .f32⟩
  | .hbm, ⟨17, _⟩ => ⟨S2x384, .f32⟩
  | .hbm, ⟨18, _⟩ => ⟨S2x4x128x128, .f32⟩
  | .hbm, ⟨19, _⟩ => ⟨S2x4x128, .f32⟩
  | .hbm, ⟨20, _⟩ => ⟨S2x384, .f32⟩
  | .hbm, ⟨21, _⟩ => ⟨S2x384, .f32⟩
  | .hbm, ⟨22, _⟩ => ⟨S2x4x128x128, .f32⟩
  | .hbm, ⟨23, _⟩ => ⟨S2x4x128, .f32⟩
  | .hbm, ⟨24, _⟩ => ⟨S2x384, .f32⟩
  | .hbm, ⟨25, _⟩ => ⟨S2x384, .f32⟩
  | .hbm, ⟨26, _⟩ => ⟨S2x4x128x128, .f32⟩
  | .hbm, ⟨27, _⟩ => ⟨S2x4x128, .f32⟩
  | .local _ .vmem, ⟨0, _⟩ => ⟨S2x384, .f32⟩
  | .local _ .vmem, ⟨1, _⟩ => ⟨S2x384, .f32⟩
  | .local _ .vmem, ⟨2, _⟩ => ⟨S2x4x128x128, .f32⟩
  | .local _ .vmem, ⟨3, _⟩ => ⟨S2x4x128, .f32⟩
  | .local _ .vmem, ⟨4, _⟩ => ⟨S2x384, .f32⟩
  | .local _ .vmem, ⟨5, _⟩ => ⟨S2x384, .f32⟩
  | .local _ .vmem, ⟨6, _⟩ => ⟨S2x4x128x128, .f32⟩
  | .local _ .vmem, ⟨7, _⟩ => ⟨S2x4x128, .f32⟩
  | .local _ .vmem, ⟨8, _⟩ => ⟨S2x384, .f32⟩
  | .local _ .vmem, ⟨9, _⟩ => ⟨S2x384, .f32⟩
  | .local _ .vmem, ⟨10, _⟩ => ⟨S2x4x128x128, .f32⟩
  | .local _ .vmem, ⟨11, _⟩ => ⟨S2x4x128, .f32⟩
  | .local _ .vmem, ⟨12, _⟩ => ⟨S2x384, .f32⟩
  | .local _ .vmem, ⟨13, _⟩ => ⟨S2x384, .f32⟩
  | .local _ .vmem, ⟨14, _⟩ => ⟨S2x4x128x128, .f32⟩
  | .local _ .vmem, ⟨15, _⟩ => ⟨S2x4x128, .f32⟩
  | .local _ .vmem, ⟨16, _⟩ => ⟨S2x384, .f32⟩
  | .local _ .vmem, ⟨17, _⟩ => ⟨S2x384, .f32⟩
  | .local _ .vmem, ⟨18, _⟩ => ⟨S2x4x128x128, .f32⟩
  | .local _ .vmem, ⟨19, _⟩ => ⟨S2x4x128, .f32⟩
  | .local _ .vmem, ⟨20, _⟩ => ⟨S2x384, .f32⟩
  | .local _ .vmem, ⟨21, _⟩ => ⟨S2x384, .f32⟩
  | .local _ .vmem, ⟨22, _⟩ => ⟨S2x4x128x128, .f32⟩
  | .local _ .vmem, ⟨23, _⟩ => ⟨S2x4x128, .f32⟩
  | .local _ .vmem, ⟨24, _⟩ => ⟨S2x384, .f32⟩
  | .local _ .vmem, ⟨25, _⟩ => ⟨S2x384, .f32⟩
  | .local _ .vmem, ⟨26, _⟩ => ⟨S2x4x128x128, .f32⟩
  | .local _ .vmem, ⟨27, _⟩ => ⟨S2x4x128, .f32⟩
  | _, _ => ⟨S2x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S2x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x4x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x4x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x4x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x384 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x384 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x4x128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x4x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x384 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x384 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x4x128x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x4x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Reference16Ideal.lean ====
abbrev S2x384 : Shape := ⟨2, ![2, 384]⟩
abbrev S2x4x128x128 : Shape := ⟨4, ![2, 4, 128, 128]⟩
abbrev S2x4x128 : Shape := ⟨3, ![2, 4, 128]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S2x384, .f32⟩
  | 1 => ⟨S2x384, .f32⟩
  | 2 => ⟨S2x4x128x128, .f32⟩
  | 3 => ⟨S2x4x128, .f32⟩
  | 4 => ⟨S2x384, .f32⟩
  | 5 => ⟨S2x384, .f32⟩
  | 6 => ⟨S2x4x128x128, .f32⟩
  | 7 => ⟨S2x4x128, .f32⟩
  | 8 => ⟨S2x384, .f32⟩
  | 9 => ⟨S2x384, .f32⟩
  | 10 => ⟨S2x4x128x128, .f32⟩
  | 11 => ⟨S2x4x128, .f32⟩
  | 12 => ⟨S2x384, .f32⟩
  | 13 => ⟨S2x384, .f32⟩
  | 14 => ⟨S2x4x128x128, .f32⟩
  | 15 => ⟨S2x4x128, .f32⟩
  | 16 => ⟨S_, .f32⟩
  | 17 => ⟨S2x384, .f32⟩
  | 18 => ⟨S2x384, .f32⟩
  | 19 => ⟨S_, .f32⟩
  | 20 => ⟨S2x384, .f32⟩
  | 21 => ⟨S2x384, .f32⟩
  | 22 => ⟨S2x384, .f32⟩
  | 23 => ⟨S_, .f32⟩
  | 24 => ⟨S2x384, .f32⟩
  | 25 => ⟨S2x384, .f32⟩
  | 26 => ⟨S2x384, .f32⟩
  | 27 => ⟨S_, .f32⟩
  | 28 => ⟨S2x384, .f32⟩
  | 29 => ⟨S2x384, .f32⟩
  | 30 => ⟨S2x384, .f32⟩
  | 31 => ⟨S_, .f32⟩
  | 32 => ⟨S2x384, .f32⟩
  | 33 => ⟨S2x384, .f32⟩
  | 34 => ⟨S_, .f32⟩
  | 35 => ⟨S2x384, .f32⟩
  | 36 => ⟨S2x384, .f32⟩
  | 37 => ⟨S2x384, .f32⟩
  | 38 => ⟨S_, .f32⟩
  | 39 => ⟨S2x384, .f32⟩
  | 40 => ⟨S2x384, .f32⟩
  | 41 => ⟨S2x384, .f32⟩
  | 42 => ⟨S_, .f32⟩
  | 43 => ⟨S2x384, .f32⟩
  | 44 => ⟨S2x384, .f32⟩
  | 45 => ⟨S2x384, .f32⟩
  | 46 => ⟨S_, .f32⟩
  | 47 => ⟨S2x384, .f32⟩
  | 48 => ⟨S2x384, .f32⟩
  | 49 => ⟨S_, .f32⟩
  | 50 => ⟨S2x384, .f32⟩
  | 51 => ⟨S2x384, .f32⟩
  | 52 => ⟨S_, .f32⟩
  | 53 => ⟨S2x384, .f32⟩
  | 54 => ⟨S2x384, .f32⟩
  | 55 => ⟨S2x384, .f32⟩
  | 56 => ⟨S_, .f32⟩
  | 57 => ⟨S2x384, .f32⟩
  | 58 => ⟨S2x384, .f32⟩
  | 59 => ⟨S2x384, .f32⟩
  | 60 => ⟨S_, .f32⟩
  | 61 => ⟨S2x384, .f32⟩
  | 62 => ⟨S2x384, .f32⟩
  | 63 => ⟨S2x384, .f32⟩
  | 64 => ⟨S_, .f32⟩
  | 65 => ⟨S2x384, .f32⟩
  | 66 => ⟨S2x384, .f32⟩
  | 67 => ⟨S_, .f32⟩
  | 68 => ⟨S2x384, .f32⟩
  | 69 => ⟨S2x384, .f32⟩
  | 70 => ⟨S2x384, .f32⟩
  | 71 => ⟨S_, .f32⟩
  | 72 => ⟨S2x384, .f32⟩
  | 73 => ⟨S2x384, .f32⟩
  | 74 => ⟨S2x384, .f32⟩
  | 75 => ⟨S_, .f32⟩
  | 76 => ⟨S2x384, .f32⟩
  | 77 => ⟨S2x384, .f32⟩
  | 78 => ⟨S2x384, .f32⟩
  | 79 => ⟨S_, .f32⟩
  | 80 => ⟨S2x384, .f32⟩
  | 81 => ⟨S2x384, .f32⟩
  | 82 => ⟨S_, .f32⟩
  | 83 => ⟨S2x4x128x128, .f32⟩
  | 84 => ⟨S2x4x128x128, .f32⟩
  | 85 => ⟨S_, .f32⟩
  | 86 => ⟨S2x4x128x128, .f32⟩
  | 87 => ⟨S2x4x128x128, .f32⟩
  | 88 => ⟨S2x4x128x128, .f32⟩
  | 89 => ⟨S_, .f32⟩
  | 90 => ⟨S2x4x128x128, .f32⟩
  | 91 => ⟨S2x4x128x128, .f32⟩
  | 92 => ⟨S2x4x128x128, .f32⟩
  | 93 => ⟨S_, .f32⟩
  | 94 => ⟨S2x4x128x128, .f32⟩
  | 95 => ⟨S2x4x128x128, .f32⟩
  | 96 => ⟨S2x4x128x128, .f32⟩
  | 97 => ⟨S_, .f32⟩
  | 98 => ⟨S2x4x128x128, .f32⟩
  | 99 => ⟨S2x4x128x128, .f32⟩
  | 100 => ⟨S_, .f32⟩
  | 101 => ⟨S2x4x128x128, .f32⟩
  | 102 => ⟨S2x4x128x128, .f32⟩
  | 103 => ⟨S2x4x128x128, .f32⟩
  | 104 => ⟨S_, .f32⟩
  | 105 => ⟨S2x4x128x128, .f32⟩
  | 106 => ⟨S2x4x128x128, .f32⟩
  | 107 => ⟨S2x4x128x128, .f32⟩
  | 108 => ⟨S_, .f32⟩
  | 109 => ⟨S2x4x128x128, .f32⟩
  | 110 => ⟨S2x4x128x128, .f32⟩
  | 111 => ⟨S2x4x128x128, .f32⟩
  | 112 => ⟨S_, .f32⟩
  | 113 => ⟨S2x4x128x128, .f32⟩
  | 114 => ⟨S2x4x128x128, .f32⟩
  | 115 => ⟨S_, .f32⟩
  | 116 => ⟨S2x4x128, .f32⟩
  | 117 => ⟨S2x4x128, .f32⟩
  | 118 => ⟨S_, .f32⟩
  | 119 => ⟨S2x4x128, .f32⟩
  | 120 => ⟨S2x4x128, .f32⟩
  | 121 => ⟨S2x4x128, .f32⟩
  | 122 => ⟨S_, .f32⟩
  | 123 => ⟨S2x4x128, .f32⟩
  | 124 => ⟨S2x4x128, .f32⟩
  | 125 => ⟨S2x4x128, .f32⟩
  | 126 => ⟨S_, .f32⟩
  | 127 => ⟨S2x4x128, .f32⟩
  | _ => ⟨S2x384, .f32⟩

abbrev hbmTy0_1 (i : Nat) : BufTy := match i % 128 with
  | 0 => ⟨S2x4x128, .f32⟩
  | 1 => ⟨S2x4x128, .f32⟩
  | 2 => ⟨S_, .f32⟩
  | 3 => ⟨S2x4x128, .f32⟩
  | 4 => ⟨S2x4x128, .f32⟩
  | 5 => ⟨S_, .f32⟩
  | 6 => ⟨S2x4x128, .f32⟩
  | 7 => ⟨S2x4x128, .f32⟩
  | 8 => ⟨S2x4x128, .f32⟩
  | 9 => ⟨S_, .f32⟩
  | 10 => ⟨S2x4x128, .f32⟩
  | 11 => ⟨S2x4x128, .f32⟩
  | 12 => ⟨S2x4x128, .f32⟩
  | 13 => ⟨S_, .f32⟩
  | 14 => ⟨S2x4x128, .f32⟩
  | 15 => ⟨S2x4x128, .f32⟩
  | 16 => ⟨S2x4x128, .f32⟩
  | 17 => ⟨S_, .f32⟩
  | 18 => ⟨S2x4x128, .f32⟩
  | 19 => ⟨S2x4x128, .f32⟩
  | _ => ⟨S2x384, .f32⟩

abbrev hbmTy (i : Nat) : BufTy := match i / 128 with
  | 0 => hbmTy0_0 i
  | 1 => hbmTy0_1 i
  | _ => ⟨S2x384, .f32⟩

abbrev bufTy : (tb : Table) → Fin (tcTables nBuf tb) → BufTy
  | .hbm, ⟨i, _⟩ => hbmTy i
  | _, _ => ⟨S2x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel17.lean ====
abbrev S2x4x64x64 : Shape := ⟨4, ![2, 4, 64, 64]⟩
abbrev S2x256 : Shape := ⟨2, ![2, 256]⟩

abbrev nBuf : Space → Nat
  | .hbm => 14
  | .vmem => 14
  | .smem => 0
  | _ => 0

abbrev bufTy : (tb : Table) → Fin (tcTables nBuf tb) → BufTy
  | .hbm, ⟨0, _⟩ => ⟨S2x4x64x64, .f32⟩
  | .hbm, ⟨1, _⟩ => ⟨S2x256, .f32⟩
  | .hbm, ⟨2, _⟩ => ⟨S2x4x64x64, .f32⟩
  | .hbm, ⟨3, _⟩ => ⟨S2x256, .f32⟩
  | .hbm, ⟨4, _⟩ => ⟨S2x4x64x64, .f32⟩
  | .hbm, ⟨5, _⟩ => ⟨S2x256, .f32⟩
  | .hbm, ⟨6, _⟩ => ⟨S2x4x64x64, .f32⟩
  | .hbm, ⟨7, _⟩ => ⟨S2x256, .f32⟩
  | .hbm, ⟨8, _⟩ => ⟨S2x4x64x64, .f32⟩
  | .hbm, ⟨9, _⟩ => ⟨S2x256, .f32⟩
  | .hbm, ⟨10, _⟩ => ⟨S2x4x64x64, .f32⟩
  | .hbm, ⟨11, _⟩ => ⟨S2x256, .f32⟩
  | .hbm, ⟨12, _⟩ => ⟨S2x4x64x64, .f32⟩
  | .hbm, ⟨13, _⟩ => ⟨S2x256, .f32⟩
  | .local _ .vmem, ⟨0, _⟩ => ⟨S2x4x64x64, .f32⟩
  | .local _ .vmem, ⟨1, _⟩ => ⟨S2x256, .f32⟩
  | .local _ .vmem, ⟨2, _⟩ => ⟨S2x4x64x64, .f32⟩
  | .local _ .vmem, ⟨3, _⟩ => ⟨S2x256, .f32⟩
  | .local _ .vmem, ⟨4, _⟩ => ⟨S2x4x64x64, .f32⟩
  | .local _ .vmem, ⟨5, _⟩ => ⟨S2x256, .f32⟩
  | .local _ .vmem, ⟨6, _⟩ => ⟨S2x4x64x64, .f32⟩
  | .local _ .vmem, ⟨7, _⟩ => ⟨S2x256, .f32⟩
  | .local _ .vmem, ⟨8, _⟩ => ⟨S2x4x64x64, .f32⟩
  | .local _ .vmem, ⟨9, _⟩ => ⟨S2x256, .f32⟩
  | .local _ .vmem, ⟨10, _⟩ => ⟨S2x4x64x64, .f32⟩
  | .local _ .vmem, ⟨11, _⟩ => ⟨S2x256, .f32⟩
  | .local _ .vmem, ⟨12, _⟩ => ⟨S2x4x64x64, .f32⟩
  | .local _ .vmem, ⟨13, _⟩ => ⟨S2x256, .f32⟩
  | _, _ => ⟨S2x4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S2x4x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x4x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x4x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x4x64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference17Ideal.lean ====
abbrev S2x4x64x64 : Shape := ⟨4, ![2, 4, 64, 64]⟩
abbrev S2x256 : Shape := ⟨2, ![2, 256]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S2x4x64x64, .f32⟩
  | .hbm, ⟨1, _⟩ => ⟨S2x256, .f32⟩
  | .hbm, ⟨2, _⟩ => ⟨S2x4x64x64, .f32⟩
  | .hbm, ⟨3, _⟩ => ⟨S2x256, .f32⟩
  | .hbm, ⟨4, _⟩ => ⟨S2x4x64x64, .f32⟩
  | .hbm, ⟨5, _⟩ => ⟨S2x256, .f32⟩
  | .hbm, ⟨6, _⟩ => ⟨S2x4x64x64, .f32⟩
  | .hbm, ⟨7, _⟩ => ⟨S2x256, .f32⟩
  | .hbm, ⟨8, _⟩ => ⟨S_, .f32⟩
  | .hbm, ⟨9, _⟩ => ⟨S2x4x64x64, .f32⟩
  | .hbm, ⟨10, _⟩ => ⟨S2x4x64x64, .f32⟩
  | .hbm, ⟨11, _⟩ => ⟨S_, .f32⟩
  | .hbm, ⟨12, _⟩ => ⟨S2x4x64x64, .f32⟩
  | .hbm, ⟨13, _⟩ => ⟨S2x4x64x64, .f32⟩
  | .hbm, ⟨14, _⟩ => ⟨S2x4x64x64, .f32⟩
  | .hbm, ⟨15, _⟩ => ⟨S_, .f32⟩
  | .hbm, ⟨16, _⟩ => ⟨S2x4x64x64, .f32⟩
  | .hbm, ⟨17, _⟩ => ⟨S2x4x64x64, .f32⟩
  | .hbm, ⟨18, _⟩ => ⟨S2x4x64x64, .f32⟩
  | .hbm, ⟨19, _⟩ => ⟨S_, .f32⟩
  | .hbm, ⟨20, _⟩ => ⟨S2x4x64x64, .f32⟩
  | .hbm, ⟨21, _⟩ => ⟨S2x4x64x64, .f32⟩
  | .hbm, ⟨22, _⟩ => ⟨S2x4x64x64, .f32⟩
  | .hbm, ⟨23, _⟩ => ⟨S_, .f32⟩
  | .hbm, ⟨24, _⟩ => ⟨S2x4x64x64, .f32⟩
  | .hbm, ⟨25, _⟩ => ⟨S2x4x64x64, .f32⟩
  | .hbm, ⟨26, _⟩ => ⟨S_, .f32⟩
  | .hbm, ⟨27, _⟩ => ⟨S2x4x64x64, .f32⟩
  | .hbm, ⟨28, _⟩ => ⟨S2x4x64x64, .f32⟩
  | .hbm, ⟨29, _⟩ => ⟨S2x4x64x64, .f32⟩
  | .hbm, ⟨30, _⟩ => ⟨S_, .f32⟩
  | .hbm, ⟨31, _⟩ => ⟨S2x4x64x64, .f32⟩
  | .hbm, ⟨32, _⟩ => ⟨S2x4x64x64, .f32⟩
  | .hbm, ⟨33, _⟩ => ⟨S2x4x64x64, .f32⟩
  | .hbm, ⟨34, _⟩ => ⟨S_, .f32⟩
  | .hbm, ⟨35, _⟩ => ⟨S2x4x64x64, .f32⟩
  | .hbm, ⟨36, _⟩ => ⟨S2x4x64x64, .f32⟩
  | .hbm, ⟨37, _⟩ => ⟨S2x4x64x64, .f32⟩
  | .hbm, ⟨38, _⟩ => ⟨S_, .f32⟩
  | .hbm, ⟨39, _⟩ => ⟨S2x4x64x64, .f32⟩
  | .hbm, ⟨40, _⟩ => ⟨S2x4x64x64, .f32⟩
  | .hbm, ⟨41, _⟩ => ⟨S_, .f32⟩
  | .hbm, ⟨42, _⟩ => ⟨S2x256, .f32⟩
  | .hbm, ⟨43, _⟩ => ⟨S2x256, .f32⟩
  | .hbm, ⟨44, _⟩ => ⟨S_, .f32⟩
  | .hbm, ⟨45, _⟩ => ⟨S2x256, .f32⟩
  | .hbm, ⟨46, _⟩ => ⟨S2x256, .f32⟩
  | .hbm, ⟨47, _⟩ => ⟨S2x256, .f32⟩
  | .hbm, ⟨48, _⟩ => ⟨S_, .f32⟩
  | .hbm, ⟨49, _⟩ => ⟨S2x256, .f32⟩
  | .hbm, ⟨50, _⟩ => ⟨S2x256, .f32⟩
  | .hbm, ⟨51, _⟩ => ⟨S2x256, .f32⟩
  | .hbm, ⟨52, _⟩ => ⟨S_, .f32⟩
  | .hbm, ⟨53, _⟩ => ⟨S2x256, .f32⟩
  | .hbm, ⟨54, _⟩ => ⟨S2x256, .f32⟩
  | .hbm, ⟨55, _⟩ => ⟨S2x256, .f32⟩
  | .hbm, ⟨56, _⟩ => ⟨S_, .f32⟩
  | .hbm, ⟨57, _⟩ => ⟨S2x256, .f32⟩
  | .hbm, ⟨58, _⟩ => ⟨S2x256, .f32⟩
  | .hbm, ⟨59, _⟩ => ⟨S_, .f32⟩
  | .hbm, ⟨60, _⟩ => ⟨S2x256, .f32⟩
  | .hbm, ⟨61, _⟩ => ⟨S2x256, .f32⟩
  | .hbm, ⟨62, _⟩ => ⟨S2x256, .f32⟩
  | .hbm, ⟨63, _⟩ => ⟨S_, .f32⟩
  | .hbm, ⟨64, _⟩ => ⟨S2x256, .f32⟩
  | .hbm, ⟨65, _⟩ => ⟨S2x256, .f32⟩
  | .hbm, ⟨66, _⟩ => ⟨S2x256, .f32⟩
  | .hbm, ⟨67, _⟩ => ⟨S_, .f32⟩
  | .hbm, ⟨68, _⟩ => ⟨S2x256, .f32⟩
  | .hbm, ⟨69, _⟩ => ⟨S2x256, .f32⟩
  | .hbm, ⟨70, _⟩ => ⟨S2x256, .f32⟩
  | .hbm, ⟨71, _⟩ => ⟨S_, .f32⟩
  | .hbm, ⟨72, _⟩ => ⟨S2x256, .f32⟩
  | .hbm, ⟨73, _⟩ => ⟨S2x256, .f32⟩
  | _, _ => ⟨S2x4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel18.lean ====
abbrev S8x1280x128 : Shape := ⟨3, ![8, 1280, 128]⟩
abbrev S8x16x128 : Shape := ⟨3, ![8, 16, 128]⟩
abbrev S1280x128 : Shape := ⟨2, ![1280, 128]⟩
abbrev S16x128 : Shape := ⟨2, ![16, 128]⟩
abbrev S1x1280x128 : Shape := ⟨3, ![1, 1280, 128]⟩
abbrev S1x16x128 : Shape := ⟨3, ![1, 16, 128]⟩
abbrev S2048 : Shape := ⟨1, ![2048]⟩
abbrev S1 : Shape := ⟨1, ![1]⟩
abbrev S1x1 : Shape := ⟨2, ![1, 1]⟩
abbrev S_ : Shape := ⟨0, ![]⟩
abbrev S163840 : Shape := ⟨1, ![163840]⟩
abbrev S1024 : Shape := ⟨1, ![1024]⟩
abbrev S1x1024 : Shape := ⟨2, ![1, 1024]⟩
abbrev S2x1024 : Shape := ⟨2, ![2, 1024]⟩

abbrev nBuf : Space → Nat
  | .hbm => 36
  | .vmem => 6
  | .smem => 0
  | _ => 0

abbrev bufTy : (tb : Table) → Fin (tcTables nBuf tb) → BufTy
  | .hbm, ⟨0, _⟩ => ⟨S8x1280x128, .bf16⟩
  | .hbm, ⟨1, _⟩ => ⟨S8x1280x128, .bf16⟩
  | .hbm, ⟨2, _⟩ => ⟨S8x16x128, .f32⟩
  | .hbm, ⟨3, _⟩ => ⟨S1280x128, .f32⟩
  | .hbm, ⟨4, _⟩ => ⟨S1280x128, .f32⟩
  | .hbm, ⟨5, _⟩ => ⟨S16x128, .f32⟩
  | .hbm, ⟨6, _⟩ => ⟨S2048, .f32⟩
  | .hbm, ⟨7, _⟩ => ⟨S1, .f32⟩
  | .hbm, ⟨8, _⟩ => ⟨S1x1, .f32⟩
  | .hbm, ⟨9, _⟩ => ⟨S_, .f32⟩
  | .hbm, ⟨10, _⟩ => ⟨S163840, .f32⟩
  | .hbm, ⟨11, _⟩ => ⟨S1024, .f32⟩
  | .hbm, ⟨12, _⟩ => ⟨S1x1024, .f32⟩
  | .hbm, ⟨13, _⟩ => ⟨S163840, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S2x1024, .f32⟩
  | .hbm, ⟨21, _⟩ => ⟨S163840, .f32⟩
  | .hbm, ⟨22, _⟩ => ⟨S1024, .f32⟩
  | .hbm, ⟨23, _⟩ => ⟨S1x1024, .f32⟩
  | .hbm, ⟨24, _⟩ => ⟨S163840, .f32⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S1x1024, .f32⟩
  | .hbm, ⟨31, _⟩ => ⟨S2x1024, .f32⟩
  | .hbm, ⟨32, _⟩ => ⟨S2048, .f32⟩
  | .hbm, ⟨33, _⟩ => ⟨S1024, .f32⟩
  | .hbm, ⟨34, _⟩ => ⟨S1x1024, .f32⟩
  | .hbm, ⟨35, _⟩ => ⟨S1024, .f32⟩
  | .local _ .vmem, ⟨0, _⟩ => ⟨S8x1280x128, .bf16⟩
  | .local _ .vmem, ⟨1, _⟩ => ⟨S8x1280x128, .bf16⟩
  | .local _ .vmem, ⟨2, _⟩ => ⟨S8x16x128, .f32⟩
  | .local _ .vmem, ⟨3, _⟩ => ⟨S1280x128, .f32⟩
  | .local _ .vmem, ⟨4, _⟩ => ⟨S1280x128, .f32⟩
  | .local _ .vmem, ⟨5, _⟩ => ⟨S16x128, .f32⟩
  | _, _ => ⟨S8x1280x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x1280x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1280x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference18Ideal.lean ====
abbrev S8x1280x128 : Shape := ⟨3, ![8, 1280, 128]⟩
abbrev S8x16x128 : Shape := ⟨3, ![8, 16, 128]⟩
abbrev S_ : Shape := ⟨0, ![]⟩
abbrev S1280x128 : Shape := ⟨2, ![1280, 128]⟩
abbrev S16x128 : Shape := ⟨2, ![16, 128]⟩
abbrev S2048 : Shape := ⟨1, ![2048]⟩
abbrev S1 : Shape := ⟨1, ![1]⟩
abbrev S1x1 : Shape := ⟨2, ![1, 1]⟩
abbrev S163840 : Shape := ⟨1, ![163840]⟩
abbrev S1024 : Shape := ⟨1, ![1024]⟩
abbrev S1x1024 : Shape := ⟨2, ![1, 1024]⟩
abbrev S2x1024 : Shape := ⟨2, ![2, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x1280x128, .bf16⟩
  | .hbm, ⟨1, _⟩ => ⟨S8x1280x128, .bf16⟩
  | .hbm, ⟨2, _⟩ => ⟨S8x16x128, .f32⟩
  | .hbm, ⟨3, _⟩ => ⟨S8x1280x128, .f32⟩
  | .hbm, ⟨4, _⟩ => ⟨S_, .f32⟩
  | .hbm, ⟨5, _⟩ => ⟨S1280x128, .f32⟩
  | .hbm, ⟨6, _⟩ => ⟨S8x1280x128, .f32⟩
  | .hbm, ⟨7, _⟩ => ⟨S_, .f32⟩
  | .hbm, ⟨8, _⟩ => ⟨S1280x128, .f32⟩
  | .hbm, ⟨9, _⟩ => ⟨S_, .f32⟩
  | .hbm, ⟨10, _⟩ => ⟨S16x128, .f32⟩
  | .hbm, ⟨11, _⟩ => ⟨S2048, .f32⟩
  | .hbm, ⟨12, _⟩ => ⟨S1, .f32⟩
  | .hbm, ⟨13, _⟩ => ⟨S1x1, .f32⟩
  | .hbm, ⟨14, _⟩ => ⟨S_, .f32⟩
  | .hbm, ⟨15, _⟩ => ⟨S163840, .f32⟩
  | .hbm, ⟨16, _⟩ => ⟨S1024, .f32⟩
  | .hbm, ⟨17, _⟩ => ⟨S1x1024, .f32⟩
  | .hbm, ⟨18, _⟩ => ⟨S163840, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S2x1024, .f32⟩
  | .hbm, ⟨26, _⟩ => ⟨S163840, .f32⟩
  | .hbm, ⟨27, _⟩ => ⟨S1024, .f32⟩
  | .hbm, ⟨28, _⟩ => ⟨S1x1024, .f32⟩
  | .hbm, ⟨29, _⟩ => ⟨S163840, .f32⟩
  | .hbm, ⟨30, _⟩ => ⟨S1024, .f32⟩
  | .hbm, ⟨31, _⟩ => ⟨S1x1024, .f32⟩
  | .hbm, ⟨32, _⟩ => ⟨S1024, .f32⟩
  | .hbm, ⟨33, _⟩ => ⟨S1024, .f32⟩
  | .hbm, ⟨34, _⟩ => ⟨S1x1024, .f32⟩
  | .hbm, ⟨35, _⟩ => ⟨S1x1024, .f32⟩
  | .hbm, ⟨36, _⟩ => ⟨S2x1024, .f32⟩
  | .hbm, ⟨37, _⟩ => ⟨S2048, .f32⟩
  | .hbm, ⟨38, _⟩ => ⟨S1024, .f32⟩
  | .hbm, ⟨39, _⟩ => ⟨S1x1024, .f32⟩
  | .hbm, ⟨40, _⟩ => ⟨S1024, .f32⟩
  | _, _ => ⟨S8x1280x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩

abbrev nD : Nat := 1
abbrev τ : Topo := Topo.v7x

variable {F : FTy → Type} [FloatOps F]
-- ==== Kernel19.lean ====
abbrev S8x1280x128 : Shape := ⟨3, ![8, 1280, 128]⟩
abbrev S8x16x128 : Shape := ⟨3, ![8, 16, 128]⟩
abbrev S1280x128 : Shape := ⟨2, ![1280, 128]⟩
abbrev S16x128 : Shape := ⟨2, ![16, 128]⟩
abbrev S1x1280x128 : Shape := ⟨3, ![1, 1280, 128]⟩
abbrev S1x16x128 : Shape := ⟨3, ![1, 16, 128]⟩
abbrev S163840 : Shape := ⟨1, ![163840]⟩
abbrev S11904 : Shape := ⟨1, ![11904]⟩
abbrev S31x384 : Shape := ⟨2, ![31, 384]⟩
abbrev S1x31x384 : Shape := ⟨3, ![1, 31, 384]⟩
abbrev S2x31x384 : Shape := ⟨3, ![2, 31, 384]⟩
abbrev S384 : Shape := ⟨1, ![384]⟩
abbrev S1x384 : Shape := ⟨2, ![1, 384]⟩
abbrev S2x384 : Shape := ⟨2, ![2, 384]⟩

abbrev nBuf : Space → Nat
  | .hbm => 48
  | .vmem => 6
  | .smem => 0
  | _ => 0

abbrev bufTy : (tb : Table) → Fin (tcTables nBuf tb) → BufTy
  | .hbm, ⟨0, _⟩ => ⟨S8x1280x128, .bf16⟩
  | .hbm, ⟨1, _⟩ => ⟨S8x1280x128, .bf16⟩
  | .hbm, ⟨2, _⟩ => ⟨S8x16x128, .f32⟩
  | .hbm, ⟨3, _⟩ => ⟨S1280x128, .f32⟩
  | .hbm, ⟨4, _⟩ => ⟨S1280x128, .f32⟩
  | .hbm, ⟨5, _⟩ => ⟨S16x128, .f32⟩
  | .hbm, ⟨6, _⟩ => ⟨S163840, .f32⟩
  | .hbm, ⟨7, _⟩ => ⟨S11904, .f32⟩
  | .hbm, ⟨8, _⟩ => ⟨S31x384, .f32⟩
  | .hbm, ⟨9, _⟩ => ⟨S163840, .f32⟩
  | .hbm, ⟨10, _⟩ => ⟨S11904, .f32⟩
  | .hbm, ⟨11, _⟩ => ⟨S31x384, .f32⟩
  | .hbm, ⟨12, _⟩ => ⟨S1x31x384, .f32⟩
  | .hbm, ⟨13, _⟩ => ⟨S1x31x384, .f32⟩
  | .hbm, ⟨14, _⟩ => ⟨S2x31x384, .f32⟩
  | .hbm, ⟨15, _⟩ => ⟨S163840, .f32⟩
  | .hbm, ⟨16, _⟩ => ⟨S384, .f32⟩
  | .hbm, ⟨17, _⟩ => ⟨S1x384, .f32⟩
  | .hbm, ⟨18, _⟩ => ⟨S163840, .f32⟩
  | .hbm, ⟨19, _⟩ => ⟨S384, .f32⟩
  | .hbm, ⟨20, _⟩ => ⟨S1x384, .f32⟩
  | .hbm, ⟨21, _⟩ => ⟨S384, .f32⟩
  | .hbm, ⟨22, _⟩ => ⟨S384, .f32⟩
  | .hbm, ⟨23, _⟩ => ⟨S1x384, .f32⟩
  | .hbm, ⟨24, _⟩ => ⟨S1x384, .f32⟩
  | .hbm, ⟨25, _⟩ => ⟨S2x384, .f32⟩
  | .hbm, ⟨26, _⟩ => ⟨S163840, .f32⟩
  | .hbm, ⟨27, _⟩ => ⟨S384, .f32⟩
  | .hbm, ⟨28, _⟩ => ⟨S1x384, .f32⟩
  | .hbm, ⟨29, _⟩ => ⟨S163840, .f32⟩
  | .hbm, ⟨30, _⟩ => ⟨S384, .f32⟩
  | .hbm, ⟨31, _⟩ => ⟨S1x384, .f32⟩
  | .hbm, ⟨32, _⟩ => ⟨S384, .f32⟩
  | .hbm, ⟨33, _⟩ => ⟨S384, .f32⟩
  | .hbm, ⟨34, _⟩ => ⟨S1x384, .f32⟩
  | .hbm, ⟨35, _⟩ => ⟨S1x384, .f32⟩
  | .hbm, ⟨36, _⟩ => ⟨S2x384, .f32⟩
  | .hbm, ⟨37, _⟩ => ⟨S163840, .f32⟩
  | .hbm, ⟨38, _⟩ => ⟨S384, .f32⟩
  | .hbm, ⟨39, _⟩ => ⟨S1x384, .f32⟩
  | .hbm, ⟨40, _⟩ => ⟨S163840, .f32⟩
  | .hbm, ⟨41, _⟩ => ⟨S384, .f32⟩
  | .hbm, ⟨42, _⟩ => ⟨S1x384, .f32⟩
  | .hbm, ⟨43, _⟩ => ⟨S384, .f32⟩
  | .hbm, ⟨44, _⟩ => ⟨S384, .f32⟩
  | .hbm, ⟨45, _⟩ => ⟨S1x384, .f32⟩
  | .hbm, ⟨46, _⟩ => ⟨S1x384, .f32⟩
  | .hbm, ⟨47, _⟩ => ⟨S2x384, .f32⟩
  | .local _ .vmem, ⟨0, _⟩ => ⟨S8x1280x128, .bf16⟩
  | .local _ .vmem, ⟨1, _⟩ => ⟨S8x1280x128, .bf16⟩
  | .local _ .vmem, ⟨2, _⟩ => ⟨S8x16x128, .f32⟩
  | .local _ .vmem, ⟨3, _⟩ => ⟨S1280x128, .f32⟩
  | .local _ .vmem, ⟨4, _⟩ => ⟨S1280x128, .f32⟩
  | .local _ .vmem, ⟨5, _⟩ => ⟨S16x128, .f32⟩
  | _, _ => ⟨S8x1280x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x1280x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1280x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference19Ideal.lean ====
abbrev S8x1280x128 : Shape := ⟨3, ![8, 1280, 128]⟩
abbrev S8x16x128 : Shape := ⟨3, ![8, 16, 128]⟩
abbrev S_ : Shape := ⟨0, ![]⟩
abbrev S1280x128 : Shape := ⟨2, ![1280, 128]⟩
abbrev S163840 : Shape := ⟨1, ![163840]⟩
abbrev S11904 : Shape := ⟨1, ![11904]⟩
abbrev S31x384 : Shape := ⟨2, ![31, 384]⟩
abbrev S1x31x384 : Shape := ⟨3, ![1, 31, 384]⟩
abbrev S2x31x384 : Shape := ⟨3, ![2, 31, 384]⟩
abbrev S384 : Shape := ⟨1, ![384]⟩
abbrev S1x384 : Shape := ⟨2, ![1, 384]⟩
abbrev S2x384 : Shape := ⟨2, ![2, 384]⟩

abbrev nBuf : Space → Nat
  | .hbm => 51
  | .vmem => 0
  | .smem => 0
  | _ => 0

abbrev bufTy : (tb : Table) → Fin (tcTables nBuf tb) → BufTy
  | .hbm, ⟨0, _⟩ => ⟨S8x1280x128, .bf16⟩
  | .hbm, ⟨1, _⟩ => ⟨S8x1280x128, .bf16⟩
  | .hbm, ⟨2, _⟩ => ⟨S8x16x128, .f32⟩
  | .hbm, ⟨3, _⟩ => ⟨S8x1280x128, .f32⟩
  | .hbm, ⟨4, _⟩ => ⟨S_, .f32⟩
  | .hbm, ⟨5, _⟩ => ⟨S1280x128, .f32⟩
  | .hbm, ⟨6, _⟩ => ⟨S8x1280x128, .f32⟩
  | .hbm, ⟨7, _⟩ => ⟨S_, .f32⟩
  | .hbm, ⟨8, _⟩ => ⟨S1280x128, .f32⟩
  | .hbm, ⟨9, _⟩ => ⟨S163840, .f32⟩
  | .hbm, ⟨10, _⟩ => ⟨S11904, .f32⟩
  | .hbm, ⟨11, _⟩ => ⟨S31x384, .f32⟩
  | .hbm, ⟨12, _⟩ => ⟨S163840, .f32⟩
  | .hbm, ⟨13, _⟩ => ⟨S11904, .f32⟩
  | .hbm, ⟨14, _⟩ => ⟨S31x384, .f32⟩
  | .hbm, ⟨15, _⟩ => ⟨S1x31x384, .f32⟩
  | .hbm, ⟨16, _⟩ => ⟨S1x31x384, .f32⟩
  | .hbm, ⟨17, _⟩ => ⟨S2x31x384, .f32⟩
  | .hbm, ⟨18, _⟩ => ⟨S163840, .f32⟩
  | .hbm, ⟨19, _⟩ => ⟨S384, .f32⟩
  | .hbm, ⟨20, _⟩ => ⟨S1x384, .f32⟩
  | .hbm, ⟨21, _⟩ => ⟨S163840, .f32⟩
  | .hbm, ⟨22, _⟩ => ⟨S384, .f32⟩
  | .hbm, ⟨23, _⟩ => ⟨S1x384, .f32⟩
  | .hbm, ⟨24, _⟩ => ⟨S384, .f32⟩
  | .hbm, ⟨25, _⟩ => ⟨S384, .f32⟩
  | .hbm, ⟨26, _⟩ => ⟨S1x384, .f32⟩
  | .hbm, ⟨27, _⟩ => ⟨S1x384, .f32⟩
  | .hbm, ⟨28, _⟩ => ⟨S2x384, .f32⟩
  | .hbm, ⟨29, _⟩ => ⟨S163840, .f32⟩
  | .hbm, ⟨30, _⟩ => ⟨S384, .f32⟩
  | .hbm, ⟨31, _⟩ => ⟨S1x384, .f32⟩
  | .hbm, ⟨32, _⟩ => ⟨S163840, .f32⟩
  | .hbm, ⟨33, _⟩ => ⟨S384, .f32⟩
  | .hbm, ⟨34, _⟩ => ⟨S1x384, .f32⟩
  | .hbm, ⟨35, _⟩ => ⟨S384, .f32⟩
  | .hbm, ⟨36, _⟩ => ⟨S384, .f32⟩
  | .hbm, ⟨37, _⟩ => ⟨S1x384, .f32⟩
  | .hbm, ⟨38, _⟩ => ⟨S1x384, .f32⟩
  | .hbm, ⟨39, _⟩ => ⟨S2x384, .f32⟩
  | .hbm, ⟨40, _⟩ => ⟨S163840, .f32⟩
  | .hbm, ⟨41, _⟩ => ⟨S384, .f32⟩
  | .hbm, ⟨42, _⟩ => ⟨S1x384, .f32⟩
  | .hbm, ⟨43, _⟩ => ⟨S163840, .f32⟩
  | .hbm, ⟨44, _⟩ => ⟨S384, .f32⟩
  | .hbm, ⟨45, _⟩ => ⟨S1x384, .f32⟩
  | .hbm, ⟨46, _⟩ => ⟨S384, .f32⟩
  | .hbm, ⟨47, _⟩ => ⟨S384, .f32⟩
  | .hbm, ⟨48, _⟩ => ⟨S1x384, .f32⟩
  | .hbm, ⟨49, _⟩ => ⟨S1x384, .f32⟩
  | .hbm, ⟨50, _⟩ => ⟨S2x384, .f32⟩
  | _, _ => ⟨S8x1280x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩

abbrev nD : Nat := 1
abbrev τ : Topo := Topo.v7x

variable {F : FTy → Type} [FloatOps F]
-- ==== Kernel20.lean ====
abbrev S8x1280x128 : Shape := ⟨3, ![8, 1280, 128]⟩
abbrev S8x16x128 : Shape := ⟨3, ![8, 16, 128]⟩
abbrev S1280x128 : Shape := ⟨2, ![1280, 128]⟩
abbrev S16x128 : Shape := ⟨2, ![16, 128]⟩
abbrev S1x1280x128 : Shape := ⟨3, ![1, 1280, 128]⟩
abbrev S1x16x128 : Shape := ⟨3, ![1, 16, 128]⟩
abbrev S163840 : Shape := ⟨1, ![163840]⟩
abbrev S384 : Shape := ⟨1, ![384]⟩
abbrev S1x384 : Shape := ⟨2, ![1, 384]⟩
abbrev S2x384 : Shape := ⟨2, ![2, 384]⟩
abbrev S65536 : Shape := ⟨1, ![65536]⟩
abbrev S4x128x128 : Shape := ⟨3, ![4, 128, 128]⟩
abbrev S1x4x128x128 : Shape := ⟨4, ![1, 4, 128, 128]⟩
abbrev S2x4x128x128 : Shape := ⟨4, ![2, 4, 128, 128]⟩
abbrev S16384 : Shape := ⟨1, ![16384]⟩
abbrev S128x128 : Shape := ⟨2, ![128, 128]⟩
abbrev S128x4 : Shape := ⟨2, ![128, 4]⟩
abbrev S4x128 : Shape := ⟨2, ![4, 128]⟩
abbrev S1x4x128 : Shape := ⟨3, ![1, 4, 128]⟩
abbrev S2x4x128 : Shape := ⟨3, ![2, 4, 128]⟩

abbrev nBuf : Space → Nat
  | .hbm => 50
  | .vmem => 6
  | .smem => 0
  | _ => 0

abbrev bufTy : (tb : Table) → Fin (tcTables nBuf tb) → BufTy
  | .hbm, ⟨0, _⟩ => ⟨S8x1280x128, .bf16⟩
  | .hbm, ⟨1, _⟩ => ⟨S8x1280x128, .bf16⟩
  | .hbm, ⟨2, _⟩ => ⟨S8x16x128, .f32⟩
  | .hbm, ⟨3, _⟩ => ⟨S1280x128, .f32⟩
  | .hbm, ⟨4, _⟩ => ⟨S1280x128, .f32⟩
  | .hbm, ⟨5, _⟩ => ⟨S16x128, .f32⟩
  | .hbm, ⟨6, _⟩ => ⟨S163840, .f32⟩
  | .hbm, ⟨7, _⟩ => ⟨S384, .f32⟩
  | .hbm, ⟨8, _⟩ => ⟨S1x384, .f32⟩
  | .hbm, ⟨9, _⟩ => ⟨S163840, .f32⟩
  | .hbm, ⟨10, _⟩ => ⟨S384, .f32⟩
  | .hbm, ⟨11, _⟩ => ⟨S1x384, .f32⟩
  | .hbm, ⟨12, _⟩ => ⟨S384, .f32⟩
  | .hbm, ⟨13, _⟩ => ⟨S384, .f32⟩
  | .hbm, ⟨14, _⟩ => ⟨S1x384, .f32⟩
  | .hbm, ⟨15, _⟩ => ⟨S1x384, .f32⟩
  | .hbm, ⟨16, _⟩ => ⟨S2x384, .f32⟩
  | .hbm, ⟨17, _⟩ => ⟨S163840, .f32⟩
  | .hbm, ⟨18, _⟩ => ⟨S384, .f32⟩
  | .hbm, ⟨19, _⟩ => ⟨S1x384, .f32⟩
  | .hbm, ⟨20, _⟩ => ⟨S163840, .f32⟩
  | .hbm, ⟨21, _⟩ => ⟨S384, .f32⟩
  | .hbm, ⟨22, _⟩ => ⟨S1x384, .f32⟩
  | .hbm, ⟨23, _⟩ => ⟨S384, .f32⟩
  | .hbm, ⟨24, _⟩ => ⟨S384, .f32⟩
  | .hbm, ⟨25, _⟩ => ⟨S1x384, .f32⟩
  | .hbm, ⟨26, _⟩ => ⟨S1x384, .f32⟩
  | .hbm, ⟨27, _⟩ => ⟨S2x384, .f32⟩
  | .hbm, ⟨28, _⟩ => ⟨S163840, .f32⟩
  | .hbm, ⟨29, _⟩ => ⟨S65536, .f32⟩
  | .hbm, ⟨30, _⟩ => ⟨S4x128x128, .f32⟩
  | .hbm, ⟨31, _⟩ => ⟨S163840, .f32⟩
  | .hbm, ⟨32, _⟩ => ⟨S65536, .f32⟩
  | .hbm, ⟨33, _⟩ => ⟨S4x128x128, .f32⟩
  | .hbm, ⟨34, _⟩ => ⟨S1x4x128x128, .f32⟩
  | .hbm, ⟨35, _⟩ => ⟨S1x4x128x128, .f32⟩
  | .hbm, ⟨36, _⟩ => ⟨S2x4x128x128, .f32⟩
  | .hbm, ⟨37, _⟩ => ⟨S163840, .f32⟩
  | .hbm, ⟨38, _⟩ => ⟨S16384, .f32⟩
  | .hbm, ⟨39, _⟩ => ⟨S128x128, .f32⟩
  | .hbm, ⟨40, _⟩ => ⟨S163840, .f32⟩
  | .hbm, ⟨41, _⟩ => ⟨S16384, .f32⟩
  | .hbm, ⟨42, _⟩ => ⟨S128x128, .f32⟩
  | .hbm, ⟨43, _⟩ => ⟨S128x4, .f32⟩
  | .hbm, ⟨44, _⟩ => ⟨S4x128, .f32⟩
  | .hbm, ⟨45, _⟩ => ⟨S128x4, .f32⟩
  | .hbm, ⟨46, _⟩ => ⟨S4x128, .f32⟩
  | .hbm, ⟨47, _⟩ => ⟨S1x4x128, .f32⟩
  | .hbm, ⟨48, _⟩ => ⟨S1x4x128, .f32⟩
  | .hbm, ⟨49, _⟩ => ⟨S2x4x128, .f32⟩
  | .local _ .vmem, ⟨0, _⟩ => ⟨S8x1280x128, .bf16⟩
  | .local _ .vmem, ⟨1, _⟩ => ⟨S8x1280x128, .bf16⟩
  | .local _ .vmem, ⟨2, _⟩ => ⟨S8x16x128, .f32⟩
  | .local _ .vmem, ⟨3, _⟩ => ⟨S1280x128, .f32⟩
  | .local _ .vmem, ⟨4, _⟩ => ⟨S1280x128, .f32⟩
  | .local _ .vmem, ⟨5, _⟩ => ⟨S16x128, .f32⟩
  | _, _ => ⟨S8x1280x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x1280x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1280x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference20Ideal.lean ====
abbrev S8x1280x128 : Shape := ⟨3, ![8, 1280, 128]⟩
abbrev S8x16x128 : Shape := ⟨3, ![8, 16, 128]⟩
abbrev S_ : Shape := ⟨0, ![]⟩
abbrev S1280x128 : Shape := ⟨2, ![1280, 128]⟩
abbrev S163840 : Shape := ⟨1, ![163840]⟩
abbrev S384 : Shape := ⟨1, ![384]⟩
abbrev S1x384 : Shape := ⟨2, ![1, 384]⟩
abbrev S2x384 : Shape := ⟨2, ![2, 384]⟩
abbrev S65536 : Shape := ⟨1, ![65536]⟩
abbrev S4x128x128 : Shape := ⟨3, ![4, 128, 128]⟩
abbrev S1x4x128x128 : Shape := ⟨4, ![1, 4, 128, 128]⟩
abbrev S2x4x128x128 : Shape := ⟨4, ![2, 4, 128, 128]⟩
abbrev S16384 : Shape := ⟨1, ![16384]⟩
abbrev S128x128 : Shape := ⟨2, ![128, 128]⟩
abbrev S128x4 : Shape := ⟨2, ![128, 4]⟩
abbrev S4x128 : Shape := ⟨2, ![4, 128]⟩
abbrev S1x4x128 : Shape := ⟨3, ![1, 4, 128]⟩
abbrev S2x4x128 : Shape := ⟨3, ![2, 4, 128]⟩

abbrev nBuf : Space → Nat
  | .hbm => 53
  | .vmem => 0
  | .smem => 0
  | _ => 0

abbrev bufTy : (tb : Table) → Fin (tcTables nBuf tb) → BufTy
  | .hbm, ⟨0, _⟩ => ⟨S8x1280x128, .bf16⟩
  | .hbm, ⟨1, _⟩ => ⟨S8x1280x128, .bf16⟩
  | .hbm, ⟨2, _⟩ => ⟨S8x16x128, .f32⟩
  | .hbm, ⟨3, _⟩ => ⟨S8x1280x128, .f32⟩
  | .hbm, ⟨4, _⟩ => ⟨S_, .f32⟩
  | .hbm, ⟨5, _⟩ => ⟨S1280x128, .f32⟩
  | .hbm, ⟨6, _⟩ => ⟨S8x1280x128, .f32⟩
  | .hbm, ⟨7, _⟩ => ⟨S_, .f32⟩
  | .hbm, ⟨8, _⟩ => ⟨S1280x128, .f32⟩
  | .hbm, ⟨9, _⟩ => ⟨S163840, .f32⟩
  | .hbm, ⟨10, _⟩ => ⟨S384, .f32⟩
  | .hbm, ⟨11, _⟩ => ⟨S1x384, .f32⟩
  | .hbm, ⟨12, _⟩ => ⟨S163840, .f32⟩
  | .hbm, ⟨13, _⟩ => ⟨S384, .f32⟩
  | .hbm, ⟨14, _⟩ => ⟨S1x384, .f32⟩
  | .hbm, ⟨15, _⟩ => ⟨S384, .f32⟩
  | .hbm, ⟨16, _⟩ => ⟨S384, .f32⟩
  | .hbm, ⟨17, _⟩ => ⟨S1x384, .f32⟩
  | .hbm, ⟨18, _⟩ => ⟨S1x384, .f32⟩
  | .hbm, ⟨19, _⟩ => ⟨S2x384, .f32⟩
  | .hbm, ⟨20, _⟩ => ⟨S163840, .f32⟩
  | .hbm, ⟨21, _⟩ => ⟨S384, .f32⟩
  | .hbm, ⟨22, _⟩ => ⟨S1x384, .f32⟩
  | .hbm, ⟨23, _⟩ => ⟨S163840, .f32⟩
  | .hbm, ⟨24, _⟩ => ⟨S384, .f32⟩
  | .hbm, ⟨25, _⟩ => ⟨S1x384, .f32⟩
  | .hbm, ⟨26, _⟩ => ⟨S384, .f32⟩
  | .hbm, ⟨27, _⟩ => ⟨S384, .f32⟩
  | .hbm, ⟨28, _⟩ => ⟨S1x384, .f32⟩
  | .hbm, ⟨29, _⟩ => ⟨S1x384, .f32⟩
  | .hbm, ⟨30, _⟩ => ⟨S2x384, .f32⟩
  | .hbm, ⟨31, _⟩ => ⟨S163840, .f32⟩
  | .hbm, ⟨32, _⟩ => ⟨S65536, .f32⟩
  | .hbm, ⟨33, _⟩ => ⟨S4x128x128, .f32⟩
  | .hbm, ⟨34, _⟩ => ⟨S163840, .f32⟩
  | .hbm, ⟨35, _⟩ => ⟨S65536, .f32⟩
  | .hbm, ⟨36, _⟩ => ⟨S4x128x128, .f32⟩
  | .hbm, ⟨37, _⟩ => ⟨S1x4x128x128, .f32⟩
  | .hbm, ⟨38, _⟩ => ⟨S1x4x128x128, .f32⟩
  | .hbm, ⟨39, _⟩ => ⟨S2x4x128x128, .f32⟩
  | .hbm, ⟨40, _⟩ => ⟨S163840, .f32⟩
  | .hbm, ⟨41, _⟩ => ⟨S16384, .f32⟩
  | .hbm, ⟨42, _⟩ => ⟨S128x128, .f32⟩
  | .hbm, ⟨43, _⟩ => ⟨S163840, .f32⟩
  | .hbm, ⟨44, _⟩ => ⟨S16384, .f32⟩
  | .hbm, ⟨45, _⟩ => ⟨S128x128, .f32⟩
  | .hbm, ⟨46, _⟩ => ⟨S128x4, .f32⟩
  | .hbm, ⟨47, _⟩ => ⟨S4x128, .f32⟩
  | .hbm, ⟨48, _⟩ => ⟨S128x4, .f32⟩
  | .hbm, ⟨49, _⟩ => ⟨S4x128, .f32⟩
  | .hbm, ⟨50, _⟩ => ⟨S1x4x128, .f32⟩
  | .hbm, ⟨51, _⟩ => ⟨S1x4x128, .f32⟩
  | .hbm, ⟨52, _⟩ => ⟨S2x4x128, .f32⟩
  | _, _ => ⟨S8x1280x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩

abbrev nD : Nat := 1
abbrev τ : Topo := Topo.v7x

variable {F : FTy → Type} [FloatOps F]
-- ==== Kernel21.lean ====
abbrev S8x1280x128 : Shape := ⟨3, ![8, 1280, 128]⟩
abbrev S8x16x128 : Shape := ⟨3, ![8, 16, 128]⟩
abbrev S1280x128 : Shape := ⟨2, ![1280, 128]⟩
abbrev S16x128 : Shape := ⟨2, ![16, 128]⟩
abbrev S1x1280x128 : Shape := ⟨3, ![1, 1280, 128]⟩
abbrev S1x16x128 : Shape := ⟨3, ![1, 16, 128]⟩
abbrev S163840 : Shape := ⟨1, ![163840]⟩
abbrev S65536 : Shape := ⟨1, ![65536]⟩
abbrev S256x256 : Shape := ⟨2, ![256, 256]⟩
abbrev S64x64 : Shape := ⟨2, ![64, 64]⟩
abbrev S1x64x64 : Shape := ⟨3, ![1, 64, 64]⟩
abbrev S4x64x64 : Shape := ⟨3, ![4, 64, 64]⟩
abbrev S1x4x64x64 : Shape := ⟨4, ![1, 4, 64, 64]⟩
abbrev S2x4x64x64 : Shape := ⟨4, ![2, 4, 64, 64]⟩
abbrev S256 : Shape := ⟨1, ![256]⟩
abbrev S1x256 : Shape := ⟨2, ![1, 256]⟩
abbrev S2x256 : Shape := ⟨2, ![2, 256]⟩

abbrev nBuf : Space → Nat
  | .hbm => 44
  | .vmem => 6
  | .smem => 0
  | _ => 0

abbrev bufTy : (tb : Table) → Fin (tcTables nBuf tb) → BufTy
  | .hbm, ⟨0, _⟩ => ⟨S8x1280x128, .bf16⟩
  | .hbm, ⟨1, _⟩ => ⟨S8x1280x128, .bf16⟩
  | .hbm, ⟨2, _⟩ => ⟨S8x16x128, .f32⟩
  | .hbm, ⟨3, _⟩ => ⟨S1280x128, .f32⟩
  | .hbm, ⟨4, _⟩ => ⟨S1280x128, .f32⟩
  | .hbm, ⟨5, _⟩ => ⟨S16x128, .f32⟩
  | .hbm, ⟨6, _⟩ => ⟨S163840, .f32⟩
  | .hbm, ⟨7, _⟩ => ⟨S65536, .f32⟩
  | .hbm, ⟨8, _⟩ => ⟨S256x256, .f32⟩
  | .hbm, ⟨9, _⟩ => ⟨S163840, .f32⟩
  | .hbm, ⟨10, _⟩ => ⟨S65536, .f32⟩
  | .hbm, ⟨11, _⟩ => ⟨S256x256, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S1x64x64, .f32⟩
  | .hbm, ⟨17, _⟩ => ⟨S1x64x64, .f32⟩
  | .hbm, ⟨18, _⟩ => ⟨S1x64x64, .f32⟩
  | .hbm, ⟨19, _⟩ => ⟨S1x64x64, .f32⟩
  | .hbm, ⟨20, _⟩ => ⟨S4x64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S1x64x64, .f32⟩
  | .hbm, ⟨26, _⟩ => ⟨S1x64x64, .f32⟩
  | .hbm, ⟨27, _⟩ => ⟨S1x64x64, .f32⟩
  | .hbm, ⟨28, _⟩ => ⟨S1x64x64, .f32⟩
  | .hbm, ⟨29, _⟩ => ⟨S4x64x64, .f32⟩
  | .hbm, ⟨30, _⟩ => ⟨S1x4x64x64, .f32⟩
  | .hbm, ⟨31, _⟩ => ⟨S1x4x64x64, .f32⟩
  | .hbm, ⟨32, _⟩ => ⟨S2x4x64x64, .f32⟩
  | .hbm, ⟨33, _⟩ => ⟨S163840, .f32⟩
  | .hbm, ⟨34, _⟩ => ⟨S256, .f32⟩
  | .hbm, ⟨35, _⟩ => ⟨S1x256, .f32⟩
  | .hbm, ⟨36, _⟩ => ⟨S163840, .f32⟩
  | .hbm, ⟨37, _⟩ => ⟨S256, .f32⟩
  | .hbm, ⟨38, _⟩ => ⟨S1x256, .f32⟩
  | .hbm, ⟨39, _⟩ => ⟨S256, .f32⟩
  | .hbm, ⟨40, _⟩ => ⟨S256, .f32⟩
  | .hbm, ⟨41, _⟩ => ⟨S1x256, .f32⟩
  | .hbm, ⟨42, _⟩ => ⟨S1x256, .f32⟩
  | .hbm, ⟨43, _⟩ => ⟨S2x256, .f32⟩
  | .local _ .vmem, ⟨0, _⟩ => ⟨S8x1280x128, .bf16⟩
  | .local _ .vmem, ⟨1, _⟩ => ⟨S8x1280x128, .bf16⟩
  | .local _ .vmem, ⟨2, _⟩ => ⟨S8x16x128, .f32⟩
  | .local _ .vmem, ⟨3, _⟩ => ⟨S1280x128, .f32⟩
  | .local _ .vmem, ⟨4, _⟩ => ⟨S1280x128, .f32⟩
  | .local _ .vmem, ⟨5, _⟩ => ⟨S16x128, .f32⟩
  | _, _ => ⟨S8x1280x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x1280x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1280x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference21Ideal.lean ====
abbrev S8x1280x128 : Shape := ⟨3, ![8, 1280, 128]⟩
abbrev S8x16x128 : Shape := ⟨3, ![8, 16, 128]⟩
abbrev S_ : Shape := ⟨0, ![]⟩
abbrev S1280x128 : Shape := ⟨2, ![1280, 128]⟩
abbrev S163840 : Shape := ⟨1, ![163840]⟩
abbrev S65536 : Shape := ⟨1, ![65536]⟩
abbrev S256x256 : Shape := ⟨2, ![256, 256]⟩
abbrev S64x64 : Shape := ⟨2, ![64, 64]⟩
abbrev S1x64x64 : Shape := ⟨3, ![1, 64, 64]⟩
abbrev S4x64x64 : Shape := ⟨3, ![4, 64, 64]⟩
abbrev S1x4x64x64 : Shape := ⟨4, ![1, 4, 64, 64]⟩
abbrev S2x4x64x64 : Shape := ⟨4, ![2, 4, 64, 64]⟩
abbrev S256 : Shape := ⟨1, ![256]⟩
abbrev S1x256 : Shape := ⟨2, ![1, 256]⟩
abbrev S2x256 : Shape := ⟨2, ![2, 256]⟩

abbrev nBuf : Space → Nat
  | .hbm => 47
  | .vmem => 0
  | .smem => 0
  | _ => 0

abbrev bufTy : (tb : Table) → Fin (tcTables nBuf tb) → BufTy
  | .hbm, ⟨0, _⟩ => ⟨S8x1280x128, .bf16⟩
  | .hbm, ⟨1, _⟩ => ⟨S8x1280x128, .bf16⟩
  | .hbm, ⟨2, _⟩ => ⟨S8x16x128, .f32⟩
  | .hbm, ⟨3, _⟩ => ⟨S8x1280x128, .f32⟩
  | .hbm, ⟨4, _⟩ => ⟨S_, .f32⟩
  | .hbm, ⟨5, _⟩ => ⟨S1280x128, .f32⟩
  | .hbm, ⟨6, _⟩ => ⟨S8x1280x128, .f32⟩
  | .hbm, ⟨7, _⟩ => ⟨S_, .f32⟩
  | .hbm, ⟨8, _⟩ => ⟨S1280x128, .f32⟩
  | .hbm, ⟨9, _⟩ => ⟨S163840, .f32⟩
  | .hbm, ⟨10, _⟩ => ⟨S65536, .f32⟩
  | .hbm, ⟨11, _⟩ => ⟨S256x256, .f32⟩
  | .hbm, ⟨12, _⟩ => ⟨S163840, .f32⟩
  | .hbm, ⟨13, _⟩ => ⟨S65536, .f32⟩
  | .hbm, ⟨14, _⟩ => ⟨S256x256, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S1x64x64, .f32⟩
  | .hbm, ⟨20, _⟩ => ⟨S1x64x64, .f32⟩
  | .hbm, ⟨21, _⟩ => ⟨S1x64x64, .f32⟩
  | .hbm, ⟨22, _⟩ => ⟨S1x64x64, .f32⟩
  | .hbm, ⟨23, _⟩ => ⟨S4x64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S1x64x64, .f32⟩
  | .hbm, ⟨29, _⟩ => ⟨S1x64x64, .f32⟩
  | .hbm, ⟨30, _⟩ => ⟨S1x64x64, .f32⟩
  | .hbm, ⟨31, _⟩ => ⟨S1x64x64, .f32⟩
  | .hbm, ⟨32, _⟩ => ⟨S4x64x64, .f32⟩
  | .hbm, ⟨33, _⟩ => ⟨S1x4x64x64, .f32⟩
  | .hbm, ⟨34, _⟩ => ⟨S1x4x64x64, .f32⟩
  | .hbm, ⟨35, _⟩ => ⟨S2x4x64x64, .f32⟩
  | .hbm, ⟨36, _⟩ => ⟨S163840, .f32⟩
  | .hbm, ⟨37, _⟩ => ⟨S256, .f32⟩
  | .hbm, ⟨38, _⟩ => ⟨S1x256, .f32⟩
  | .hbm, ⟨39, _⟩ => ⟨S163840, .f32⟩
  | .hbm, ⟨40, _⟩ => ⟨S256, .f32⟩
  | .hbm, ⟨41, _⟩ => ⟨S1x256, .f32⟩
  | .hbm, ⟨42, _⟩ => ⟨S256, .f32⟩
  | .hbm, ⟨43, _⟩ => ⟨S256, .f32⟩
  | .hbm, ⟨44, _⟩ => ⟨S1x256, .f32⟩
  | .hbm, ⟨45, _⟩ => ⟨S1x256, .f32⟩
  | .hbm, ⟨46, _⟩ => ⟨S2x256, .f32⟩
  | _, _ => ⟨S8x1280x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩

abbrev nD : Nat := 1
abbrev τ : Topo := Topo.v7x

variable {F : FTy → Type} [FloatOps F]
-- ==== Kernel22.lean ====
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S1x1, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v52 : BitVec 1 := Scalar.cmpi .eq arg0 c7_i32
  let v53 : BitVec 32 := Scalar.extui v52
  let c0_i32_25 : BitVec 32 := 0#32
  let v54 : BitVec 1 := Scalar.cmpi .ne v53 c0_i32_25
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference22Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S1x1, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.Reals.lean ====
module

public import Idealize.ShloMosaic.Lib.Pipeline.ValueKit

/-! Extended reals that are real: they are closed under the operations used here, and over them the two ways of
writing the backward pass of a normalisation by the root mean square, and of `x * sigmoid x`, agree. -/

@[expose] public section

noncomputable section

namespace Cert.Reals

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem IsReal.sum {n : ℕ} {f : Fin n → EReal} (h : ∀ i, IsReal (f i)) : IsReal (∑ i, f i) := by
  choose r hr using h
  exact ⟨∑ i, r i, by rw [coe_sum]; exact Finset.sum_congr rfl fun i _ => hr i⟩

/-- Finite means real. -/
theorem IsReal.of_abs {x : EReal} (h : max x (-x) < ⊤) : IsReal x := by
  induction x with
  | bot => simp at h
  | coe r => exact ⟨r, rfl⟩
  | top => simp at h

theorem rows {n : ℕ} {f : Fin n → EReal} (h : ∀ i, IsReal (f i)) : ∃ r : Fin n → ℝ, f = fun i => (r i : EReal) := by
  choose r hr using h
  exact ⟨r, funext hr⟩

theorem c1024 : Ideal.ofBits .f32 0x44800000#32 = ((1024 : ℝ) : EReal) := by
  simp [Ideal.ofBits, Ideal.ieee, -EReal.coe_mul]; norm_num

theorem chalf : Ideal.ofBits .f32 0xBF000000#32 = ((-(1 / 2) : ℝ) : EReal) := by
  simp [Ideal.ofBits, Ideal.ieee, -EReal.coe_mul]; norm_num

/-- The small constant under the root: some positive real. -/
theorem ceps : ∃ e : ℝ, 0 < e ∧ Ideal.ofBits .f32 0x358637BD#32 = (e : EReal) := by
  refine ⟨_, ?_, by simp [Ideal.ofBits, Ideal.ieee, -EReal.coe_mul]; rfl⟩
  norm_num

/-- The mean square of a real row plus the constant is a positive real. -/
theorem meansq {n : ℕ} (x : Fin n → ℝ) :
    ∃ v : ℝ, 0 < v ∧ Ideal.div (∑ d, (x d : EReal) * (x d : EReal)) (Ideal.ofBits .f32 0x44800000#32)
      + Ideal.ofBits .f32 0x358637BD#32 = (v : EReal) := by
  obtain ⟨e, he, h⟩ := ceps
  refine ⟨(∑ d, x d * x d) * (1 / 1024) + e, ?_, ?_⟩
  · have : 0 ≤ ∑ d, x d * x d := Finset.sum_nonneg fun d _ => mul_self_nonneg _
    positivity
  · rw [h, c1024, Ideal.div_coe (by norm_num), EReal.coe_add, EReal.coe_mul, coe_sum]
    simp only [EReal.coe_mul]

theorem rsqrt_pos {v : ℝ} (h : 0 < v) : Ideal.rsqrt (v : EReal) = (((Real.sqrt v)⁻¹ : ℝ) : EReal) := by
  rw [Ideal.rsqrt_coe, if_neg (not_lt.mpr h.le), if_neg h.ne']

/-- The inverse root of the mean square of a real row is real. -/
theorem rms_real {n : ℕ} {X : Fin n → EReal} (hX : ∀ d, IsReal (X d)) :
    IsReal (Ideal.rsqrt (Ideal.div (∑ d, X d * X d) (Ideal.ofBits .f32 0x44800000#32) + Ideal.ofBits .f32 0x358637BD#32)) := by
  obtain ⟨x, rfl⟩ := rows hX
  obtain ⟨v, hv, h⟩ := meansq x
  rw [h, rsqrt_pos hv]
  exact ⟨_, rfl⟩

/-- The gradient through the normalisation: with the projection taken off, and as two equal halves. -/
theorem norm_back {n : ℕ} {X U : Fin n → EReal} (hX : ∀ d, IsReal (X d)) (hU : ∀ d, IsReal (U d)) (V R : EReal)
    (hV : V = Ideal.div (∑ d, X d * X d) (Ideal.ofBits .f32 0x44800000#32) + Ideal.ofBits .f32 0x358637BD#32)
    (hR : R = Ideal.rsqrt V) (d : Fin n) :
    R * (U d - X d * R * Ideal.div (∑ k, U k * (X k * R)) (Ideal.ofBits .f32 0x44800000#32))
      = U d * R + X d * Ideal.div ((∑ k, X k * U k) * (Ideal.div R V * Ideal.ofBits .f32 0xBF000000#32)) (Ideal.ofBits .f32 0x44800000#32)
        + Ideal.div ((∑ k, X k * U k) * (Ideal.div R V * Ideal.ofBits .f32 0xBF000000#32)) (Ideal.ofBits .f32 0x44800000#32) * X d := by
  obtain ⟨x, rfl⟩ := rows hX
  obtain ⟨u, rfl⟩ := rows hU
  obtain ⟨v, hv, h⟩ := meansq x
  rw [h] at hV
  subst hV
  rw [rsqrt_pos hv] at hR
  subst hR
  simp only [← EReal.coe_mul, ← coe_sum]
  rw [c1024, chalf, Ideal.div_coe hv.ne', Ideal.div_coe (by norm_num), Ideal.div_coe (by norm_num)]
  simp only [← EReal.coe_mul, ← EReal.coe_add, ← EReal.coe_sub]
  congr 1
  have hs : (Real.sqrt v)⁻¹ * (1 / v) = (Real.sqrt v)⁻¹ * (Real.sqrt v)⁻¹ * (Real.sqrt v)⁻¹ := by
    have h2 : Real.sqrt v * Real.sqrt v = v := Real.mul_self_sqrt hv.le
    have h3 : Real.sqrt v ≠ 0 := (Real.sqrt_pos.mpr hv).ne'
    nth_rewrite 2 [← h2]
    field_simp
  have e : ∑ k, u k * (x k * (Real.sqrt v)⁻¹) = (∑ k, x k * u k) * (Real.sqrt v)⁻¹ := by
    rw [Finset.sum_mul]; exact Finset.sum_congr rfl fun k _ => by ring
  rw [e, hs]
  ring

/-- The sigmoid written out is real on reals. -/
theorem sigm (g : ℝ) : Ideal.div 1 (1 + Ideal.exp (-(g : EReal))) = ((1 / (1 + Real.exp (-g)) : ℝ) : EReal) := by
  have h : (1 + Real.exp (-g)) ≠ 0 := by positivity
  rw [← EReal.coe_neg, Ideal.exp_coe, ← EReal.coe_one, ← EReal.coe_add, Ideal.div_coe h, ← EReal.coe_mul, one_mul]

theorem one_coe : (1 : EReal) = ((1 : ℝ) : EReal) := rfl

theorem sigm_real {A : EReal} (hA : IsReal A) : IsReal (Ideal.div 1 (1 + Ideal.exp (-A))) := by
  obtain ⟨a, rfl⟩ := hA
  exact ⟨_, sigm a⟩

/-- The derivative of `a * sigmoid a` times `f * b`: as a sum of two terms, and as one product. -/
theorem silu_back {F A B S : EReal} (hF : IsReal F) (hA : IsReal A) (hB : IsReal B) (hS : IsReal S) :
    F * B * S + A * (F * B) * (S * (1 - S)) = F * (B * (S * (1 + A * (1 - S)))) := by
  obtain ⟨f, rfl⟩ := hF
  obtain ⟨a, rfl⟩ := hA
  obtain ⟨b, rfl⟩ := hB
  obtain ⟨s, rfl⟩ := hS
  rw [one_coe]
  simp only [← EReal.coe_mul, ← EReal.coe_add, ← EReal.coe_sub]
  congr 1
  ring

theorem silu_real {F A B S : EReal} (hF : IsReal F) (hA : IsReal A) (hB : IsReal B) (hS : IsReal S) :
    IsReal (F * B * S + A * (F * B) * (S * (1 - S))) := by
  obtain ⟨s, rfl⟩ := hS
  refine ((hF.mul hB).mul (IsReal.coe _)).add ((hA.mul (hF.mul hB)).mul ((IsReal.coe _).mul ?_))
  exact ⟨1 - s, by rw [EReal.coe_sub]; rfl⟩

/-- The sigmoid by the hyperbolic tangent of half the argument. -/
theorem sigm_tanh {A : EReal} (hA : IsReal A) :
    Ideal.ofBits .f32 0x3F000000#32 * Ideal.tanh (Ideal.ofBits .f32 0x3F000000#32 * A) + Ideal.ofBits .f32 0x3F000000#32 = Ideal.div 1 (1 + Ideal.exp (-A)) := by
  obtain ⟨a, rfl⟩ := hA
  have e : Ideal.ofBits .f32 0x3F000000#32 = ((1 / 2 : ℝ) : EReal) := by
    simp [Ideal.ofBits, Ideal.ieee, -EReal.coe_mul]; norm_num
  rw [e, sigm, ← EReal.coe_mul, Ideal.tanh_coe, ← EReal.coe_mul, ← EReal.coe_add]
  congr 1
  have p : Real.exp (1 / 2 * a) * Real.exp (-(1 / 2 * a)) = 1 := by rw [← Real.exp_add]; simp
  have q : Real.exp (-a) = Real.exp (-(1 / 2 * a)) * Real.exp (-(1 / 2 * a)) := by rw [← Real.exp_add]; congr 1; ring
  have u := Real.exp_pos (1 / 2 * a)
  have v := Real.exp_pos (-(1 / 2 * a))
  rw [q, Real.tanh_eq_sinh_div_cosh, Real.sinh_eq, Real.cosh_eq]
  generalize Real.exp (1 / 2 * a) = P at *
  generalize Real.exp (-(1 / 2 * a)) = Q at *
  have s : P + Q ≠ 0 := by positivity
  have w : 1 + Q * Q ≠ 0 := by positivity
  field_simp
  linear_combination (2 * Q) * p

end Cert.Reals

end
-- ==== Proof.BackRef.lean ====
module

public import proofs.«01_k».proof.Proof.Gen.Reference2Ideal.Read
public import proofs.«01_k».proof.Proof.Reals

/-! The reference's backward pass of the feed-forward layer, read at an index. -/

@[expose] public section

set_option maxRecDepth 16384

noncomputable section

namespace Cert.BackRef

open Cert.Reference2Ideal Cert.Reference2Ideal.Read Cert.Reals Idealize.ShloMosaic Idealize.ShloMosaic.TcCoe Idealize.SL.Sem

variable (x y : FVec Ideal S4096x1024 .f32) (g : FVec Ideal S1024 .f32) (w : FVec Ideal S1024x5632 .f32) (w' : FVec Ideal S2816x1024 .f32)

/-- The mean square of row `t`, with the small constant. -/
abbrev ms (t : Fin 4096) : EReal :=
  Ideal.div (∑ d : Fin 1024, x (ix2 t d) * x (ix2 t d)) (Ideal.ofBits .f32 0x44800000#32) + Ideal.ofBits .f32 0x358637BD#32

theorem ms_at (t : Fin 4096) (d : Fin 1) : val_main_v6 (F := Ideal) x (ix2 t d) = ms x t := by
  pointwise [val_main_v6, val_main_v4, val_main_v5, val_main_v3, val_main_v2, val_main_v1, val_main_v0, val_main_cst, val_main_cst_0, val_main_cst_1]

/-- The normalised row, scaled. -/
theorem h_at (t : Fin 4096) (d : Fin 1024) :
    val_main_v15 (F := Ideal) x g (ix2 t d) = x (ix2 t d) * Ideal.rsqrt (ms x t) * g (ix1 d) := by
  pointwise [val_main_v15, val_main_v14, val_main_v12, val_main_v13, val_main_v11, val_main_v7]
  rw [ms_at]

theorem xhat_at (t : Fin 4096) (d : Fin 1024) :
    val_main_v12 (F := Ideal) x (ix2 t d) = x (ix2 t d) * Ideal.rsqrt (ms x t) := by
  pointwise [val_main_v12, val_main_v11, val_main_v7]
  rw [ms_at]

theorem gate_at (t : Fin 4096) (k : Fin 2816) :
    val_main_v17 (F := Ideal) x g w (ix2 t k) = ∑ d : Fin 1024, val_main_v15 (F := Ideal) x g (ix2 t d) * w (ix2 d ⟨k.val, by omega⟩) := by
  pointwise [val_main_v17, val_main_v16]

theorem up_at (t : Fin 4096) (k : Fin 2816) :
    val_main_v18 (F := Ideal) x g w (ix2 t k) = ∑ d : Fin 1024, val_main_v15 (F := Ideal) x g (ix2 t d) * w (ix2 d ⟨2816 + k.val, by omega⟩) := by
  pointwise [val_main_v18, val_main_v16]

theorem df_at (t : Fin 4096) (k : Fin 2816) :
    val_main_v24 (F := Ideal) y w' (ix2 t k) = ∑ d : Fin 1024, y (ix2 t d) * w' (ix2 k d) := by
  pointwise [val_main_v24, val_main_v23]

/-- The sigmoid, written out. -/
abbrev sg (a : EReal) : EReal := Ideal.div 1 (1 + Ideal.exp (-a))

theorem dup_at (t : Fin 4096) (k : Fin 2816) :
    val_main_v25 (F := Ideal) x y g w w' (ix2 t k) = val_main_v24 (F := Ideal) y w' (ix2 t k)
      * (val_main_v17 (F := Ideal) x g w (ix2 t k) * sg (val_main_v17 (F := Ideal) x g w (ix2 t k))) := by
  rw [mul_comm]
  pointwise [val_main_v25, val_main_v19_0, val_main_v19_2, val_main_call0_v0, val_main_call0_v1, val_main_call0_v2, val_main_call0_v3, val_main_call0_v4, val_main_call0_cst, val_main_call0_cst_0]

theorem dgate_raw (t : Fin 4096) (k : Fin 2816) :
    val_main_v27 (F := Ideal) x y g w w' (ix2 t k)
      = val_main_v24 (F := Ideal) y w' (ix2 t k) * val_main_v18 (F := Ideal) x g w (ix2 t k) * sg (val_main_v17 (F := Ideal) x g w (ix2 t k))
        + val_main_v17 (F := Ideal) x g w (ix2 t k) * (val_main_v24 (F := Ideal) y w' (ix2 t k) * val_main_v18 (F := Ideal) x g w (ix2 t k))
          * (sg (val_main_v17 (F := Ideal) x g w (ix2 t k)) * (1 - sg (val_main_v17 (F := Ideal) x g w (ix2 t k)))) := by
  pointwise [val_main_v27, val_main_call1_v0, val_main_call1_v1, val_main_call1_v2, val_main_v26, val_main_v19_1, val_main_v19_2, val_main_call0_v0, val_main_call0_v1, val_main_call0_v2, val_main_call0_v3, val_main_call0_v4, val_main_call0_cst, val_main_call0_cst_0, val_main_call0_v6, val_main_call0_v7, val_main_call0_cst_1]

theorem dh_at (t : Fin 4096) (d : Fin 1024) :
    val_main_v29 (F := Ideal) x y g w w' (ix2 t d) = ∑ k : Fin 2816, val_main_v27 (F := Ideal) x y g w w' (ix2 t k) * w (ix2 d ⟨k.val, by omega⟩)
      + ∑ k : Fin 2816, val_main_v25 (F := Ideal) x y g w w' (ix2 t k) * w (ix2 d ⟨2816 + k.val, by omega⟩) := by
  pointwise [val_main_v29, val_main_v28]

theorem dg_at (i : Fin 1) (d : Fin 1024) :
    val_main_v58 (F := Ideal) x y g w w' (ix2 i d) = ∑ t : Fin 4096, val_main_v12 (F := Ideal) x (ix2 t d) * val_main_v29 (F := Ideal) x y g w w' (ix2 t d) := by
  pointwise [val_main_v58, val_main_v35, val_main_v32, val_main_v31, val_main_v30, val_main_cst_3, val_main_cst_4]
  exact Fin.sum_univ_one _

theorem h2_at (t : Fin 4096) (d : Fin 1024) :
    val_main_v51 (F := Ideal) x g (ix2 t d) = val_main_v15 (F := Ideal) x g (ix2 t d) := by
  pointwise [val_main_v51]

theorem dgu_at (i : Fin 2) (t : Fin 4096) (k : Fin 2816) :
    val_main_v57 (F := Ideal) x y g w w' (ix3 i t k) = if i.val < 1 then val_main_v27 (F := Ideal) x y g w w' (ix2 t k) else val_main_v25 (F := Ideal) x y g w w' (ix2 t k) := by
  pointwise [val_main_v57, val_main_v56, val_main_v55, val_main_v54, val_main_v53, val_main_v52, val_main_v28]
  exact dite_eq_ite

theorem dx_raw (t : Fin 4096) (d : Fin 1024) :
    val_main_v50 (F := Ideal) x y g w w' (ix2 t d) = y (ix2 t d) +
      (val_main_v29 (F := Ideal) x y g w w' (ix2 t d) * g (ix1 d) * Ideal.rsqrt (ms x t)
        + x (ix2 t d) * Ideal.div ((∑ k : Fin 1024, x (ix2 t k) * (val_main_v29 (F := Ideal) x y g w w' (ix2 t k) * g (ix1 k)))
            * (Ideal.div (Ideal.rsqrt (ms x t)) (ms x t) * Ideal.ofBits .f32 0xBF000000#32)) (Ideal.ofBits .f32 0x44800000#32)
        + Ideal.div ((∑ k : Fin 1024, x (ix2 t k) * (val_main_v29 (F := Ideal) x y g w w' (ix2 t k) * g (ix1 k)))
            * (Ideal.div (Ideal.rsqrt (ms x t)) (ms x t) * Ideal.ofBits .f32 0xBF000000#32)) (Ideal.ofBits .f32 0x44800000#32) * x (ix2 t d)) := by
  rw [mul_comm (Ideal.div (Ideal.rsqrt (ms x t)) (ms x t)), ← ms_at x t 0]
  pointwise [val_main_v50, val_main_v49, val_main_v48, val_main_v47, val_main_v46, val_main_v45, val_main_v44, val_main_v43, val_main_v42, val_main_v41,  val_main_v40, val_main_v39, val_main_v38, val_main_v37, val_main_v36, val_main_v34, val_main_v33, val_main_v13, val_main_v10, val_main_v9, val_main_v8, val_main_v7, val_main_cst_2, val_main_cst_5, val_main_cst_6, val_main_cst_7]
  simp only [Fin.sum_univ_one]

/-! ## Over real arguments -/

variable (hx : ∀ i, IsReal (x i)) (hy : ∀ i, IsReal (y i)) (hg : ∀ i, IsReal (g i)) (hw : ∀ i, IsReal (w i)) (hw' : ∀ i, IsReal (w' i))

include hx in
theorem rs_real (t : Fin 4096) : IsReal (Ideal.rsqrt (ms x t)) := rms_real fun d => hx (ix2 t d)

include hx hg in
theorem h_real (t : Fin 4096) (d : Fin 1024) : IsReal (val_main_v15 (F := Ideal) x g (ix2 t d)) := by
  rw [h_at]; exact ((hx _).mul (rs_real x hx t)).mul (hg _)

include hx hg hw in
theorem gate_real (t : Fin 4096) (k : Fin 2816) : IsReal (val_main_v17 (F := Ideal) x g w (ix2 t k)) := by
  rw [gate_at]; exact IsReal.sum fun d => (h_real x g hx hg t d).mul (hw _)

include hx hg hw in
theorem up_real (t : Fin 4096) (k : Fin 2816) : IsReal (val_main_v18 (F := Ideal) x g w (ix2 t k)) := by
  rw [up_at]; exact IsReal.sum fun d => (h_real x g hx hg t d).mul (hw _)

include hy hw' in
theorem df_real (t : Fin 4096) (k : Fin 2816) : IsReal (val_main_v24 (F := Ideal) y w' (ix2 t k)) := by
  rw [df_at]; exact IsReal.sum fun d => (hy _).mul (hw' _)

include hx hy hg hw hw' in
/-- The gradient of the gate as one product. -/
theorem dgate_at (t : Fin 4096) (k : Fin 2816) :
    val_main_v27 (F := Ideal) x y g w w' (ix2 t k) = val_main_v24 (F := Ideal) y w' (ix2 t k)
      * (val_main_v18 (F := Ideal) x g w (ix2 t k) * (sg (val_main_v17 (F := Ideal) x g w (ix2 t k))
        * (1 + val_main_v17 (F := Ideal) x g w (ix2 t k) * (1 - sg (val_main_v17 (F := Ideal) x g w (ix2 t k)))))) := by
  rw [dgate_raw]
  exact silu_back (df_real y w' hy hw' t k) (gate_real x g w hx hg hw t k) (up_real x g w hx hg hw t k) (sigm_real (gate_real x g w hx hg hw t k))

include hx hy hg hw hw' in
theorem dgate_real (t : Fin 4096) (k : Fin 2816) : IsReal (val_main_v27 (F := Ideal) x y g w w' (ix2 t k)) := by
  rw [dgate_raw]
  exact silu_real (df_real y w' hy hw' t k) (gate_real x g w hx hg hw t k) (up_real x g w hx hg hw t k) (sigm_real (gate_real x g w hx hg hw t k))

include hx hy hg hw hw' in
theorem dup_real (t : Fin 4096) (k : Fin 2816) : IsReal (val_main_v25 (F := Ideal) x y g w w' (ix2 t k)) := by
  rw [dup_at]
  exact (df_real y w' hy hw' t k).mul ((gate_real x g w hx hg hw t k).mul (sigm_real (gate_real x g w hx hg hw t k)))

include hx hy hg hw hw' in
theorem dh_real (t : Fin 4096) (d : Fin 1024) : IsReal (val_main_v29 (F := Ideal) x y g w w' (ix2 t d)) := by
  rw [dh_at]
  exact (IsReal.sum fun k => (dgate_real x y g w w' hx hy hg hw hw' t k).mul (hw _)).add
    (IsReal.sum fun k => (dup_real x y g w w' hx hy hg hw hw' t k).mul (hw _))

include hx hy hg hw hw' in
/-- The gradient of the layer's argument, with the projection taken off. -/
theorem dx_at (t : Fin 4096) (d : Fin 1024) :
    val_main_v50 (F := Ideal) x y g w w' (ix2 t d) = y (ix2 t d) + Ideal.rsqrt (ms x t)
      * (val_main_v29 (F := Ideal) x y g w w' (ix2 t d) * g (ix1 d) - x (ix2 t d) * Ideal.rsqrt (ms x t)
        * Ideal.div (∑ k : Fin 1024, val_main_v29 (F := Ideal) x y g w w' (ix2 t k) * g (ix1 k) * (x (ix2 t k) * Ideal.rsqrt (ms x t))) (Ideal.ofBits .f32 0x44800000#32)) := by
  rw [dx_raw]
  exact congrArg (y (ix2 t d) + ·) (norm_back (X := fun k => x (ix2 t k)) (U := fun k => val_main_v29 (F := Ideal) x y g w w' (ix2 t k) * g (ix1 k))
    (fun k => hx _) (fun k => (dh_real x y g w w' hx hy hg hw hw' t k).mul (hg _)) (ms x t) _ rfl rfl d).symm

end Cert.BackRef

end
-- ==== Proof.Back.lean ====
module

public import proofs.«01_k».proof.Proof.Gen.Kernel2Ideal.Frame
public import proofs.«01_k».proof.Proof.BackRef
public import Idealize.ShloMosaic.Lib.Pipeline.ValueKit

/-! The backward pass of the feed-forward layer: what the kernel leaves in each result, block by block. -/

@[expose] public section

set_option maxRecDepth 16384

noncomputable section

namespace Cert.Kernel2Ideal.Back

open Cert.Kernel2Ideal Cert.Kernel2Ideal.Gen Cert.BackRef Cert.Reals Idealize.ShloMosaic Idealize.ShloMosaic.TcCoe Idealize.SL.Sem
open Cert.Reference2Ideal.Read
open Idealize.ShloMosaic.Pipeline (Dat)

variable (m : (ℓ : Loc nD τ sig) → Buf (Elt Ideal) ℓ)

abbrev X (c : Dev nD) : FVec Ideal S4096x1024 .f32 := m ((c : Thread nD τ).loc main_arg0)
abbrev Y (c : Dev nD) : FVec Ideal S4096x1024 .f32 := m ((c : Thread nD τ).loc main_arg1)
abbrev G (c : Dev nD) : FVec Ideal S1024 .f32 := m ((c : Thread nD τ).loc main_arg2)
abbrev W (c : Dev nD) : FVec Ideal S1024x5632 .f32 := m ((c : Thread nD τ).loc main_arg3)
abbrev W' (c : Dev nD) : FVec Ideal S2816x1024 .f32 := m ((c : Thread nD τ).loc main_arg4)

/-- The blocks each point works on. -/
theorem idx : ∀ t : Fin cfg0.N, win0_0.index t = ![t.val / 2, 0] ∧ win0_1.index t = ![t.val / 2, 0]
    ∧ win0_2.index t = ![0, t.val / 2, t.val % 2] ∧ win0_3.index t = ![0, 0] ∧ win0_4.index t = ![0, 0, 0]
    ∧ win0_5.index t = ![0, 0] ∧ win0_6.index t = ![t.val / 2, 0] ∧ win0_7.index t = ![t.val / 2, 0]
    ∧ win0_8.index t = ![0, t.val / 2, t.val % 2] ∧ win0_9.index t = ![0, 0] ∧ (grid0.coords t 1).val = t.val % 2 ∧ t.val < 16 :=
  (by decide +kernel : ∀ t : Fin grid0.N, _)

/-! ## What the host prepared -/

theorem v37_at (c : Dev nD) (i : Fin 1) (d : Fin 1024) : (show FVec Ideal S1x1024 .f32 from V m c main_v37) (ix2 i d) = G m c (ix1 d) := by
  entry_read
  pointwise []

theorem v38_at (c : Dev nD) (k : Fin 2816) (d : Fin 1024) : (show FVec Ideal S2816x1024 .bf16 from V m c main_v38) (ix2 k d) = W' m c (ix2 k d) := by
  entry_read
  pointwise []

theorem v36_at (c : Dev nD) (i : Fin 2) (k : Fin 2816) (d : Fin 1024) :
    (show FVec Ideal S2x2816x1024 .bf16 from V m c main_v36) (ix3 i k d) = W m c (ix2 d ⟨i.val * 2816 + k.val, by omega⟩) := by
  entry_read
  pointwise []

theorem v33_at0 (c : Dev nD) (t : Fin 4096) (k : Fin 2816) :
    (show FVec Ideal S2x4096x2816 .bf16 from V m c main_v33) (ix3 0 t k)
      = val_main_v17 (F := Ideal) (X m c) (G m c) (W m c) (ix2 t k) * sg (val_main_v17 (F := Ideal) (X m c) (G m c) (W m c) (ix2 t k)) := by
  rw [gate_at]
  simp only [h_at]
  entry_read
  pointwise []

theorem v33_at1 (c : Dev nD) (t : Fin 4096) (k : Fin 2816) :
    (show FVec Ideal S2x4096x2816 .bf16 from V m c main_v33) (ix3 1 t k)
      = val_main_v18 (F := Ideal) (X m c) (G m c) (W m c) (ix2 t k) * (sg (val_main_v17 (F := Ideal) (X m c) (G m c) (W m c) (ix2 t k))
        * (1 + val_main_v17 (F := Ideal) (X m c) (G m c) (W m c) (ix2 t k) * (1 - sg (val_main_v17 (F := Ideal) (X m c) (G m c) (W m c) (ix2 t k))))) := by
  rw [gate_at, up_at]
  simp only [h_at]
  entry_read
  pointwise []

/-! ## The payloads at an index -/

theorem pay11_at (v5 : FVec Ideal S512x1024 .f32) (v10 : FVec Ideal S1408x1024 .bf16) (v13 : FVec Ideal S1x512x1408 .bf16) (j) :
    (k0_pay11 (F := Ideal) v5 v10 v13 j : EReal) = (∑ d : Fin 1024, v5 (ix2 (j 0) d) * v10 (ix2 (j 1) d)) * v13 (ix3 0 (j 0) (j 1)) := by
  pointwise [k0_pay11, k0_pay10]

theorem pay12_at (v5 : FVec Ideal S512x1024 .f32) (v10 : FVec Ideal S1408x1024 .bf16) (v13 : FVec Ideal S1x512x1408 .bf16) (j) :
    (k0_pay12 (F := Ideal) v5 v10 v13 j : EReal) = (∑ d : Fin 1024, v5 (ix2 (j 0) d) * v10 (ix2 (j 1) d)) * v13 (ix3 0 (j 0) (j 1)) := by
  pointwise [k0_pay12, k0_pay10]

theorem pay1_at (u v : FVec Ideal S512x1408 .bf16) (s : FVec Ideal S512x1024 .f32) (a b : FVec Ideal S1x1408x1024 .bf16) (j) :
    k0_pay1 u v s a b j = s j + (∑ k : Fin 1408, v (ix2 (j 0) k) * a (ix3 0 k (j 1)) + ∑ k : Fin 1408, u (ix2 (j 0) k) * b (ix3 0 k (j 1))) := by
  pointwise [k0_pay1]

theorem pay13_at (v5 : FVec Ideal S512x1024 .f32) (v10 : FVec Ideal S1408x1024 .bf16) (v13 : FVec Ideal S1x512x1408 .bf16) (j) :
    (k0_pay13 (F := Ideal) v5 v10 v13 j : EReal) = k0_pay12 (F := Ideal) v5 v10 v13 (ix2 (j 1) (j 2)) := by
  pointwise [k0_pay13]

theorem pay14_at (v5 : FVec Ideal S512x1024 .f32) (v10 : FVec Ideal S1408x1024 .bf16) (v13 : FVec Ideal S1x512x1408 .bf16) (j) :
    (k0_pay14 (F := Ideal) v5 v10 v13 j : EReal) = k0_pay11 (F := Ideal) v5 v10 v13 (ix2 (j 1) (j 2)) := by
  pointwise [k0_pay14]

theorem pay15_at (j) : k0_pay15 (F := Ideal) j = 0 := by pointwise [k0_pay15]

theorem pay9_at (j) : k0_pay9 (F := Ideal) j = 0 := by pointwise [k0_pay9]

/-! ## The blocks at an index -/

theorem lt_row (t : Fin cfg0.N) (r : Fin 512) : t.val / 2 * 512 + r.val < 4096 := by
  have := (idx t).2.2.2.2.2.2.2.2.2.2.2
  omega

/-- Row `r` of the block point `t` works on. -/
abbrev row (t : Fin cfg0.N) (r : Fin 512) : Fin 4096 := ⟨t.val / 2 * 512 + r.val, lt_row t r⟩

/-- Hidden unit `k` of the half point `t` works on. -/
abbrev unit (t : Fin cfg0.N) (k : Fin 1408) : Fin 2816 := ⟨t.val % 2 * 1408 + k.val, by omega⟩

theorem blk0 (c : Dev nD) (t : Fin cfg0.N) (r : Fin 512) (d : Fin 1024) :
    (show FVec Ideal S512x1024 .f32 from iblk m c 0 t) (ix2 r d) = Y m c (ix2 (row t r) d) := by
  blk_point [iblk, V, idx t]

theorem blk1 (c : Dev nD) (t : Fin cfg0.N) (r : Fin 512) (d : Fin 1024) :
    (show FVec Ideal S512x1024 .f32 from iblk m c 1 t) (ix2 r d) = X m c (ix2 (row t r) d) := by
  blk_point [iblk, V, idx t]

theorem blk3 (c : Dev nD) (t : Fin cfg0.N) (i : Fin 1) (d : Fin 1024) :
    (show FVec Ideal S1x1024 .f32 from iblk m c 3 t) (ix2 i d) = G m c (ix1 d) := by
  rw [← v37_at m c i d]
  blk_point [iblk, idx t]

theorem blk5_of (B : FVec Ideal S2816x1024 .bf16) (t : Fin cfg0.N) (k : Fin 1408) (d : Fin 1024) :
    (show FVec Ideal S1408x1024 .bf16 from View.ld (((cfg0.win 5).blk t).view.read (Elt Ideal) B) (Rect.unit (k0_off1 (grid0.coords t)) ![1408, 1024] (k0_off1_inb (grid0.coords t)))) (ix2 k d)
      = B (ix2 (unit t k) d) := by
  have hc := (idx t).2.2.2.2.2.2.2.2.2.2.1
  refine congrArg B ?_
  blk_ext [idx t]
  · show k0_off1 (grid0.coords t) 0 + 1 * k.val = _; rw [k0_off1_eq]; show 1408 * (grid0.coords t 1).val + 1 * k.val = _; rw [hc]; omega
  · show k0_off1 (grid0.coords t) 1 + 1 * d.val = _; rw [k0_off1_eq]; show 0 + 1 * d.val = _; omega

theorem blk5 (c : Dev nD) (t : Fin cfg0.N) (k : Fin 1408) (d : Fin 1024) :
    (show FVec Ideal S1408x1024 .bf16 from View.ld (iblk m c 5 t) (Rect.unit (k0_off1 (grid0.coords t)) ![1408, 1024] (k0_off1_inb (grid0.coords t)))) (ix2 k d)
      = W' m c (ix2 (unit t k) d) :=
  (blk5_of _ t k d).trans (v38_at m c _ _)

theorem blk4a_of (B : FVec Ideal S2x2816x1024 .bf16) (t : Fin cfg0.N) (i : Fin 1) (k : Fin 1408) (d : Fin 1024) :
    (show FVec Ideal S1x1408x1024 .bf16 from View.ld (((cfg0.win 4).blk t).view.read (Elt Ideal) B) (Rect.unit (k0_off2 (grid0.coords t)) ![1, 1408, 1024] (k0_off2_inb (grid0.coords t)))) (ix3 i k d)
      = B (ix3 0 (unit t k) d) := by
  have hc := (idx t).2.2.2.2.2.2.2.2.2.2.1
  refine congrArg B ?_
  blk_ext [idx t]
  · show k0_off2 (grid0.coords t) 0 + 1 * i.val = _; rw [k0_off2_eq]; show 0 + 1 * i.val = 0; omega
  · show k0_off2 (grid0.coords t) 1 + 1 * k.val = _; rw [k0_off2_eq]; show 1408 * (grid0.coords t 1).val + 1 * k.val = _; rw [hc]; omega
  · show k0_off2 (grid0.coords t) 2 + 1 * d.val = _; rw [k0_off2_eq]; show 0 + 1 * d.val = _; omega

theorem blk4a (c : Dev nD) (t : Fin cfg0.N) (i : Fin 1) (k : Fin 1408) (d : Fin 1024) :
    (show FVec Ideal S1x1408x1024 .bf16 from View.ld (iblk m c 4 t) (Rect.unit (k0_off2 (grid0.coords t)) ![1, 1408, 1024] (k0_off2_inb (grid0.coords t)))) (ix3 i k d)
      = W m c (ix2 d ⟨(unit t k).val, by omega⟩) := by
  refine (blk4a_of _ t i k d).trans ((v36_at m c 0 (unit t k) d).trans ?_)
  blk_point []

theorem blk4b_of (B : FVec Ideal S2x2816x1024 .bf16) (t : Fin cfg0.N) (i : Fin 1) (k : Fin 1408) (d : Fin 1024) :
    (show FVec Ideal S1x1408x1024 .bf16 from View.ld (((cfg0.win 4).blk t).view.read (Elt Ideal) B) (Rect.unit (k0_off3 (grid0.coords t)) ![1, 1408, 1024] (k0_off3_inb (grid0.coords t)))) (ix3 i k d)
      = B (ix3 1 (unit t k) d) := by
  have hc := (idx t).2.2.2.2.2.2.2.2.2.2.1
  refine congrArg B ?_
  blk_ext [idx t]
  · show k0_off3 (grid0.coords t) 0 + 1 * i.val = _; rw [k0_off3_eq]; show 1 + 1 * i.val = 1; omega
  · show k0_off3 (grid0.coords t) 1 + 1 * k.val = _; rw [k0_off3_eq]; show 1408 * (grid0.coords t 1).val + 1 * k.val = _; rw [hc]; omega
  · show k0_off3 (grid0.coords t) 2 + 1 * d.val = _; rw [k0_off3_eq]; show 0 + 1 * d.val = _; omega

theorem blk4b (c : Dev nD) (t : Fin cfg0.N) (i : Fin 1) (k : Fin 1408) (d : Fin 1024) :
    (show FVec Ideal S1x1408x1024 .bf16 from View.ld (iblk m c 4 t) (Rect.unit (k0_off3 (grid0.coords t)) ![1, 1408, 1024] (k0_off3_inb (grid0.coords t)))) (ix3 i k d)
      = W m c (ix2 d ⟨2816 + (unit t k).val, by omega⟩) := by
  refine (blk4b_of _ t i k d).trans ((v36_at m c 1 (unit t k) d).trans ?_)
  blk_point []

theorem blk2a_of (B : FVec Ideal S2x4096x2816 .bf16) (t : Fin cfg0.N) (i : Fin 1) (r : Fin 512) (k : Fin 1408) :
    (show FVec Ideal S1x512x1408 .bf16 from View.ld (((cfg0.win 2).blk t).view.read (Elt Ideal) B) (Rect.unit ![0, 0, 0] ![1, 512, 1408] inb_S2x512x1408_S1x512x1408_0_0_0)) (ix3 i r k)
      = B (ix3 0 (row t r) (unit t k)) := by
  refine congrArg B ?_
  blk_ext [idx t]
  · show 0 + 1 * i.val = 0; omega
  · show t.val / 2 * 512 + (0 + 1 * r.val) = _; omega
  · show t.val % 2 * 1408 + (0 + 1 * k.val) = _; omega

theorem blk2b_of (B : FVec Ideal S2x4096x2816 .bf16) (t : Fin cfg0.N) (i : Fin 1) (r : Fin 512) (k : Fin 1408) :
    (show FVec Ideal S1x512x1408 .bf16 from View.ld (((cfg0.win 2).blk t).view.read (Elt Ideal) B) (Rect.unit ![1, 0, 0] ![1, 512, 1408] inb_S2x512x1408_S1x512x1408_1_0_0)) (ix3 i r k)
      = B (ix3 1 (row t r) (unit t k)) := by
  refine congrArg B ?_
  blk_ext [idx t]
  · show 1 + 1 * i.val = 1; omega
  · show t.val / 2 * 512 + (0 + 1 * r.val) = _; omega
  · show t.val % 2 * 1408 + (0 + 1 * k.val) = _; omega

/-- The factor of the gradient of the up half, in the block. -/
theorem blk2a (c : Dev nD) (t : Fin cfg0.N) (i : Fin 1) (r : Fin 512) (k : Fin 1408) :
    (show FVec Ideal S1x512x1408 .bf16 from View.ld (iblk m c 2 t) (Rect.unit ![0, 0, 0] ![1, 512, 1408] inb_S2x512x1408_S1x512x1408_0_0_0)) (ix3 i r k)
      = val_main_v17 (F := Ideal) (X m c) (G m c) (W m c) (ix2 (row t r) (unit t k)) * sg (val_main_v17 (F := Ideal) (X m c) (G m c) (W m c) (ix2 (row t r) (unit t k))) :=
  (blk2a_of _ t i r k).trans (v33_at0 m c _ _)

/-- The factor of the gradient of the gate half, in the block. -/
theorem blk2b (c : Dev nD) (t : Fin cfg0.N) (i : Fin 1) (r : Fin 512) (k : Fin 1408) :
    (show FVec Ideal S1x512x1408 .bf16 from View.ld (iblk m c 2 t) (Rect.unit ![1, 0, 0] ![1, 512, 1408] inb_S2x512x1408_S1x512x1408_1_0_0)) (ix3 i r k)
      = val_main_v18 (F := Ideal) (X m c) (G m c) (W m c) (ix2 (row t r) (unit t k)) * (sg (val_main_v17 (F := Ideal) (X m c) (G m c) (W m c) (ix2 (row t r) (unit t k)))
        * (1 + val_main_v17 (F := Ideal) (X m c) (G m c) (W m c) (ix2 (row t r) (unit t k)) * (1 - sg (val_main_v17 (F := Ideal) (X m c) (G m c) (W m c) (ix2 (row t r) (unit t k)))))) :=
  (blk2b_of _ t i r k).trans (v33_at1 m c _ _)

/-! ## Point by point -/

section
variable (c : Dev nD) (hx : ∀ i, IsReal (X m c i)) (hy : ∀ i, IsReal (Y m c i)) (hg : ∀ i, IsReal (G m c i)) (hw : ∀ i, IsReal (W m c i)) (hw' : ∀ i, IsReal (W' m c i))

/-- The up half of the gradient the point computes. -/
abbrev dup (t : Fin cfg0.N) : FVec Ideal S512x1408 .bf16 :=
  k0_pay11 (iblk m c 0 t) (View.ld (iblk m c 5 t) (Rect.unit (k0_off1 (grid0.coords t)) ![1408, 1024] (k0_off1_inb (grid0.coords t))))
    (View.ld (iblk m c 2 t) (Rect.unit ![0, 0, 0] ![1, 512, 1408] inb_S2x512x1408_S1x512x1408_0_0_0))

/-- The gate half of the gradient the point computes. -/
abbrev dgate (t : Fin cfg0.N) : FVec Ideal S512x1408 .bf16 :=
  k0_pay12 (iblk m c 0 t) (View.ld (iblk m c 5 t) (Rect.unit (k0_off1 (grid0.coords t)) ![1408, 1024] (k0_off1_inb (grid0.coords t))))
    (View.ld (iblk m c 2 t) (Rect.unit ![1, 0, 0] ![1, 512, 1408] inb_S2x512x1408_S1x512x1408_1_0_0))

theorem dup_blk (t : Fin cfg0.N) (r : Fin 512) (k : Fin 1408) :
    dup m c t (ix2 r k) = val_main_v25 (F := Ideal) (X m c) (Y m c) (G m c) (W m c) (W' m c) (ix2 (row t r) (unit t k)) := by
  refine (pay11_at _ _ _ _).trans ?_
  rw [BackRef.dup_at, df_at]
  exact congrArg₂ (· * ·) (Finset.sum_congr rfl fun d _ => congrArg₂ (· * ·) (blk0 m c t r d) (blk5 m c t k d)) (blk2a m c t 0 r k)

include hx hy hg hw hw' in
theorem dgate_blk (t : Fin cfg0.N) (r : Fin 512) (k : Fin 1408) :
    dgate m c t (ix2 r k) = val_main_v27 (F := Ideal) (X m c) (Y m c) (G m c) (W m c) (W' m c) (ix2 (row t r) (unit t k)) := by
  refine (pay12_at _ _ _ _).trans ?_
  rw [dgate_at _ _ _ _ _ hx hy hg hw hw', df_at]
  exact congrArg₂ (· * ·) (Finset.sum_congr rfl fun d _ => congrArg₂ (· * ·) (blk0 m c t r d) (blk5 m c t k d)) (blk2b m c t 0 r k)

/-- What point `t` adds to the gradient of the normalised rows: its gate half and its up half. -/
abbrev part (t : Fin cfg0.N) (j : S512x1024.Idx) : EReal :=
  ∑ k : Fin 1408, dgate m c t (ix2 (j 0) k) * W m c (ix2 (j 1) ⟨(unit t k).val, by omega⟩)
    + ∑ k : Fin 1408, dup m c t (ix2 (j 0) k) * W m c (ix2 (j 1) ⟨2816 + (unit t k).val, by omega⟩)

theorem part_eq (t : Fin cfg0.N) (j : S512x1024.Idx) (s : FVec Ideal S512x1024 .f32) :
    k0_pay1 (dup m c t) (dgate m c t) s (View.ld (iblk m c 4 t) (Rect.unit (k0_off2 (grid0.coords t)) ![1, 1408, 1024] (k0_off2_inb (grid0.coords t))))
      (View.ld (iblk m c 4 t) (Rect.unit (k0_off3 (grid0.coords t)) ![1, 1408, 1024] (k0_off3_inb (grid0.coords t)))) j = s j + part m c t j := by
  refine (pay1_at _ _ _ _ _ _).trans (congrArg (s j + ·) (congrArg₂ (· + ·) ?_ ?_))
  · exact Finset.sum_congr rfl fun k _ => congrArg (dgate m c t (ix2 (j 0) k) * ·) (blk4a m c t 0 k (j 1))
  · exact Finset.sum_congr rfl fun k _ => congrArg (dup m c t (ix2 (j 0) k) * ·) (blk4b m c t 0 k (j 1))

/-- The first point of a pair starts the sum from zero. -/
theorem first_at (t : Fin cfg0.N) (h : t.val % 2 = 0) (j) :
    (outsAt0 m c t.val t.isLt).2.2.2.2 j = 0 + part m c t j := by
  by_cases h' : t.val % 16 = 0
  · rw [outsAt0_A m c t h' h (by omega)]
    frame_out
    exact (part_eq m c t j _).trans (congrArg (· + part m c t j) (pay15_at j))
  · rw [outsAt0_C m c t h' h (by omega)]
    frame_out
    exact (part_eq m c t j _).trans (congrArg (· + part m c t j) (pay15_at j))

/-- The second point of a pair adds to what the first left. -/
theorem next_at (t : Fin cfg0.N) (h : ¬t.val % 2 = 0) (j) :
    (outsAt0 m c t.val t.isLt).2.2.2.2 j = (outsAt0 m c (t.val - 1) (Nat.lt_of_le_of_lt (Nat.sub_le _ _) t.isLt)).2.2.2.2 j + part m c t j := by
  rw [outsAt0_B m c t (by omega) h (by omega)]
  frame_out
  exact (part_eq m c t j _).trans (congrArg (· + part m c t j) (congrFun ((Memref.isWhole_whole cc0_scratch0).read_unread _) j))

include hx hy hg hw hw' in
/-- After a pair the sum is the gradient of the normalised rows. -/
theorem acc_at (t : Fin cfg0.N) (hm : t.val % 2 = 1) (r : Fin 512) (d : Fin 1024) :
    (outsAt0 m c t.val t.isLt).2.2.2.2 (ix2 r d) = val_main_v29 (F := Ideal) (X m c) (Y m c) (G m c) (W m c) (W' m c) (ix2 (row t r) d) := by
  rw [Pipeline.eq_sum_fin_of_reset_step_apply_of_flush (fun n h => (outsAt0 m c n h).2.2.2.2) 2 (fun _ => 0) (part m c)
    (first_at m c) (next_at m c) t hm _, zero_add, Finset.sum_add_distrib, dh_at]
  refine congrArg₂ (· + ·) (Fin.sum_mul_add_congr fun s k hl => ?_) (Fin.sum_mul_add_congr fun s k hl => ?_)
  · refine congrArg₂ (· * ·) ((dgate_blk m c hx hy hg hw hw' _ r k).trans (congrArg _ ?_)) (congrArg (W m c) ?_)
    · blk_ext []
    · blk_ext []
  · refine congrArg₂ (· * ·) ((dup_blk m c _ r k).trans (congrArg _ ?_)) (congrArg (W m c) ?_)
    · blk_ext []
    · blk_ext []

/-- The block of the layer's argument's gradient, from the sum. -/
theorem out6_at (t : Fin cfg0.N) (h : t.val % 2 = 1) (y) :
    (outsAt0 m c t.val t.isLt).1 y = k0_pay2 (iblk m c 0 t) (k0_pay7 (iblk m c 1 t) (outsAt0 m c t.val t.isLt).2.2.2.2 (iblk m c 3 t)) (k0_pay8 (iblk m c 1 t)) y := by
  rw [outsAt0_B m c t (by omega) (by omega) h]
  frame_out

theorem out7_at (t : Fin cfg0.N) (h : t.val % 2 = 1) (y) :
    (outsAt0 m c t.val t.isLt).2.1 y = k0_pay5 (iblk m c 1 t) (iblk m c 3 t) y := by
  rw [outsAt0_B m c t (by omega) (by omega) h]
  frame_out

/-- Every point writes both halves of its block of the gradient. -/
theorem out8_at (t : Fin cfg0.N) (i : Fin 2) (r : Fin 512) (k : Fin 1408) :
    (outsAt0 m c t.val t.isLt).2.2.1 (ix3 i r k) = if i.val < 1 then dgate m c t (ix2 r k) else dup m c t (ix2 r k) := by
  by_cases q : t.val % 2 = 1
  · rw [outsAt0_B m c t (by omega) (by omega) q]
    frame_out
    canon_tiles x h
    · rw [if_neg (show ¬i.val < 1 by have e : i.val = 1 + (x 0).val := h0; omega)]
      exact (pay14_at _ _ _ _).trans (congrArg (dup m c t) (congrArg₂ ix2 (Fin.ext h1.symm) (Fin.ext h2.symm)))
    · rw [if_pos (show i.val < 1 by have e : i.val = (x 0).val := h0; omega)]
      exact (pay13_at _ _ _ _).trans (congrArg (dgate m c t) (congrArg₂ ix2 (Fin.ext h1.symm) (Fin.ext h2.symm)))
  by_cases q' : t.val % 16 = 0
  · rw [outsAt0_A m c t q' (by omega) (by omega)]
    frame_out
    canon_tiles x h
    · rw [if_neg (show ¬i.val < 1 by have e : i.val = 1 + (x 0).val := h0; omega)]
      exact (pay14_at _ _ _ _).trans (congrArg (dup m c t) (congrArg₂ ix2 (Fin.ext h1.symm) (Fin.ext h2.symm)))
    · rw [if_pos (show i.val < 1 by have e : i.val = (x 0).val := h0; omega)]
      exact (pay13_at _ _ _ _).trans (congrArg (dgate m c t) (congrArg₂ ix2 (Fin.ext h1.symm) (Fin.ext h2.symm)))
  · rw [outsAt0_C m c t q' (by omega) (by omega)]
    frame_out
    canon_tiles x h
    · rw [if_neg (show ¬i.val < 1 by have e : i.val = 1 + (x 0).val := h0; omega)]
      exact (pay14_at _ _ _ _).trans (congrArg (dup m c t) (congrArg₂ ix2 (Fin.ext h1.symm) (Fin.ext h2.symm)))
    · rw [if_pos (show i.val < 1 by have e : i.val = (x 0).val := h0; omega)]
      exact (pay13_at _ _ _ _).trans (congrArg (dgate m c t) (congrArg₂ ix2 (Fin.ext h1.symm) (Fin.ext h2.symm)))

/-- What point `t` adds to the gradient of the scale: nothing at the first point of a pair, its rows' sum at the second. -/
abbrev gpart (t : Fin cfg0.N) (j : S1x1024.Idx) : EReal :=
  if t.val % 2 = 1 then ∑ r : Fin 512, (outsAt0 m c t.val t.isLt).2.2.2.2 (ix2 r (j 1)) * (X m c (ix2 (row t r) (j 1)) * Ideal.rsqrt (ms (X m c) (row t r))) else 0

theorem gfirst_at (t : Fin cfg0.N) (h : t.val % 16 = 0) (j) :
    (outsAt0 m c t.val t.isLt).2.2.2.1 j = 0 + gpart m c t j := by
  rw [gpart, if_neg (by omega), add_zero, outsAt0_A m c t h (by omega) (by omega)]
  frame_out
  exact pay9_at j

theorem pay6_at (x u : FVec Ideal S512x1024 .f32) (s : FVec Ideal S1x1024 .f32) (j) :
    k0_pay6 x u s j = s j + ∑ r : Fin 512, u (ix2 r (j 1)) * (x (ix2 r (j 1)) * Ideal.rsqrt (Ideal.div (∑ d : Fin 1024, x (ix2 r d) * x (ix2 r d)) (Ideal.ofBits .f32 0x44800000#32) + Ideal.ofBits .f32 0x358637BD#32)) := by
  pointwise [k0_pay6, k0_pay4, k0_pay3]

theorem gout_at (t : Fin cfg0.N) (h : t.val % 2 = 1) (j) :
    (outsAt0 m c t.val t.isLt).2.2.2.1 j = k0_pay6 (iblk m c 1 t) (outsAt0 m c t.val t.isLt).2.2.2.2
      (outsAt0 m c (t.val - 1) (Nat.lt_of_le_of_lt (Nat.sub_le _ _) t.isLt)).2.2.2.1 j := by
  rw [outsAt0_B m c t (by omega) (by omega) h]
  frame_out

theorem gnext_at (t : Fin cfg0.N) (h : ¬t.val % 16 = 0) (j) :
    (outsAt0 m c t.val t.isLt).2.2.2.1 j = (outsAt0 m c (t.val - 1) (Nat.lt_of_le_of_lt (Nat.sub_le _ _) t.isLt)).2.2.2.1 j + gpart m c t j := by
  by_cases q : t.val % 2 = 1
  · rw [gout_at m c t q j, gpart, if_pos q]
    refine (pay6_at _ _ _ j).trans (congrArg (_ + ·) (Finset.sum_congr rfl fun r _ => ?_))
    have e : ∀ d : Fin 1024, (show FVec Ideal S512x1024 .f32 from iblk m c 1 t) (ix2 r d) = X m c (ix2 (row t r) d) := fun d => blk1 m c t r d
    exact congrArg (_ * ·) (congrArg₂ (· * ·) (e _) (congrArg (fun z => Ideal.rsqrt (Ideal.div z _ + _)) (Finset.sum_congr rfl fun d _ => congrArg₂ (· * ·) (e d) (e d))))
  · rw [gpart, if_neg q, add_zero, outsAt0_C m c t h (by omega) (by omega)]
    rfl

end

end Cert.Kernel2Ideal.Back

end
-- ==== Proof.BackFinal.lean ====
module

public import proofs.«01_k».proof.Proof.Back

/-! The backward pass of the feed-forward layer: each of its four results is the reference's. -/

@[expose] public section

set_option maxRecDepth 16384

noncomputable section

namespace Cert.Kernel2Ideal.Back

open Cert.Kernel2Ideal Cert.Kernel2Ideal.Gen Cert.BackRef Cert.Reals Idealize.ShloMosaic Idealize.ShloMosaic.TcCoe Idealize.SL.Sem
open Cert.Reference2Ideal.Read
open Idealize.ShloMosaic.Pipeline (Dat)

variable (m : (ℓ : Loc nD τ sig) → Buf (Elt Ideal) ℓ)
variable (c : Dev nD) (hx : ∀ i, IsReal (X m c i)) (hy : ∀ i, IsReal (Y m c i)) (hg : ∀ i, IsReal (G m c i)) (hw : ∀ i, IsReal (W m c i)) (hw' : ∀ i, IsReal (W' m c i))

theorem pair {a b : Nat} (y : (⟨2, ![a, b]⟩ : Shape).Idx) : y = ix2 (y 0) (y 1) :=
  funext fun k => by fin_cases k <;> rfl

theorem triple {a b d : Nat} (y : (⟨3, ![a, b, d]⟩ : Shape).Idx) : y = ix3 (y 0) (y 1) (y 2) :=
  funext fun k => by fin_cases k <;> rfl

theorem pay2_at (x u a : FVec Ideal S512x1024 .f32) (g : FVec Ideal S1x1024 .f32) (r : Fin 512) (d : Fin 1024) (R : EReal)
    (hR : Ideal.rsqrt (Ideal.div (∑ d : Fin 1024, x (ix2 r d) * x (ix2 r d)) (Ideal.ofBits .f32 0x44800000#32) + Ideal.ofBits .f32 0x358637BD#32) = R) :
    k0_pay2 a (k0_pay7 x u g) (k0_pay8 x) (ix2 r d) = a (ix2 r d) + R * (u (ix2 r d) * g (ix2 0 d) - x (ix2 r d) * R
      * Ideal.div (∑ k : Fin 1024, u (ix2 r k) * g (ix2 0 k) * (x (ix2 r k) * R)) (Ideal.ofBits .f32 0x44800000#32)) := by
  subst hR
  pointwise [k0_pay2, k0_pay7, k0_pay8, k0_pay4, k0_pay3]

theorem pay5_at (x : FVec Ideal S512x1024 .f32) (g : FVec Ideal S1x1024 .f32) (r : Fin 512) (d : Fin 1024) :
    (k0_pay5 (F := Ideal) x g (ix2 r d) : EReal) = x (ix2 r d) * Ideal.rsqrt (Ideal.div (∑ d : Fin 1024, x (ix2 r d) * x (ix2 r d)) (Ideal.ofBits .f32 0x44800000#32) + Ideal.ofBits .f32 0x358637BD#32)
      * g (ix2 0 d) := by
  pointwise [k0_pay5, k0_pay4, k0_pay3]

theorem rs_blk (t : Fin cfg0.N) (r : Fin 512) :
    Ideal.rsqrt (Ideal.div (∑ d : Fin 1024, (show FVec Ideal S512x1024 .f32 from iblk m c 1 t) (ix2 r d) * (show FVec Ideal S512x1024 .f32 from iblk m c 1 t) (ix2 r d)) (Ideal.ofBits .f32 0x44800000#32) + Ideal.ofBits .f32 0x358637BD#32)
      = Ideal.rsqrt (ms (X m c) (row t r)) :=
  congrArg (fun z => Ideal.rsqrt (Ideal.div z _ + _)) (Finset.sum_congr rfl fun d _ => congrArg₂ (· * ·) (blk1 m c t r d) (blk1 m c t r d))

include hx hy hg hw hw' in
theorem tile6 (t : Fin cfg0.N) (hm : t.val % 2 = 1) (r : Fin 512) (d : Fin 1024) :
    (outsAt0 m c t.val t.isLt).1 (ix2 r d) = val_main_v50 (F := Ideal) (X m c) (Y m c) (G m c) (W m c) (W' m c) (ix2 (row t r) d) := by
  refine (out6_at m c t hm _).trans ((pay2_at _ _ _ _ _ _ _ (rs_blk m c t r)).trans ?_)
  rw [dx_at _ _ _ _ _ hx hy hg hw hw']
  have a := acc_at m c hx hy hg hw hw' t hm r
  have g := blk3 m c t 0
  have x := blk1 m c t r
  refine congrArg₂ (· + ·) (blk0 m c t _ _) (congrArg (_ * ·) (congrArg₂ (· - ·) (congrArg₂ (· * ·) (a _) (g _)) (congrArg₂ (· * ·) (congrArg (· * _) (x _)) ?_)))
  exact congrArg (Ideal.div · _) (Finset.sum_congr rfl fun k _ => congrArg₂ (· * ·) (congrArg₂ (· * ·) (a _) (g _)) (congrArg (· * _) (x _)))

include hx hy hg hw hw' in
/-- The gradient of the layer's argument. -/
theorem final6 : (dats m 0 c).arrAt 6 (cfgs 0).N = val_main_v50 (F := Ideal) (X m c) (Y m c) (G m c) (W m c) (W' m c) := by
  refine (dats m 0 c).arrAt_eq_of_covers 6 _ (by decide +kernel) fun t hf y => ?_
  have hm := (flush0_6 t).mp hf
  rw [after0_6]
  rw [pair y]
  refine (tile6 m c hx hy hg hw hw' t hm _ _).trans ?_
  exact congrArg (val_main_v50 (F := Ideal) (X m c) (Y m c) (G m c) (W m c) (W' m c)) (show ix2 (row t (y 0)) (y 1) = _ by blk_ext [idx t])

theorem tile7 (t : Fin cfg0.N) (hm : t.val % 2 = 1) (r : Fin 512) (d : Fin 1024) :
    ((outsAt0 m c t.val t.isLt).2.1 (ix2 r d) : EReal) = val_main_v51 (F := Ideal) (X m c) (G m c) (ix2 (row t r) d) := by
  refine (out7_at m c t hm _).trans ((pay5_at _ _ _ _).trans ?_)
  rw [h2_at, h_at]
  exact congrArg₂ (· * ·) (congrArg₂ (· * ·) (blk1 m c t _ _) (rs_blk m c t r)) (blk3 m c t 0 _)

/-- The normalised rows the gradient of the matrices needs. -/
theorem final7 : (dats m 0 c).arrAt 7 (cfgs 0).N = val_main_v51 (F := Ideal) (X m c) (G m c) := by
  refine (dats m 0 c).arrAt_eq_of_covers 7 _ (by decide +kernel) fun t hf y => ?_
  have hm := (flush0_7 t).mp hf
  rw [after0_7]
  rw [pair y]
  refine (tile7 m c t hm _ _).trans ?_
  exact congrArg (val_main_v51 (F := Ideal) (X m c) (G m c)) (show ix2 (row t (y 0)) (y 1) = _ by blk_ext [idx t])

include hx hy hg hw hw' in
theorem tile8 (t : Fin cfg0.N) (i : Fin 2) (r : Fin 512) (k : Fin 1408) :
    ((outsAt0 m c t.val t.isLt).2.2.1 (ix3 i r k) : EReal) = val_main_v57 (F := Ideal) (X m c) (Y m c) (G m c) (W m c) (W' m c) (ix3 i (row t r) (unit t k)) := by
  refine (out8_at m c t _ _ _).trans ?_
  rw [BackRef.dgu_at]
  exact if_congr Iff.rfl (dgate_blk m c hx hy hg hw hw' t _ _) (dup_blk m c t _ _)

include hx hy hg hw hw' in
/-- The gradients of the two halves of the hidden layer. -/
theorem final8 : (dats m 0 c).arrAt 8 (cfgs 0).N = val_main_v57 (F := Ideal) (X m c) (Y m c) (G m c) (W m c) (W' m c) := by
  refine (dats m 0 c).arrAt_eq_of_covers 8 _ (by decide +kernel) fun t hf y => ?_
  rw [after0_8]
  rw [triple y]
  refine (tile8 m c hx hy hg hw hw' t _ _ _).trans ?_
  exact congrArg (val_main_v57 (F := Ideal) (X m c) (Y m c) (G m c) (W m c) (W' m c)) (show ix3 (y 0) (row t (y 1)) (unit t (y 2)) = _ by blk_ext [idx t])

theorem sum_odd (g : Fin 8 → EReal) (f : Fin 16 → EReal) (h0 : ∀ s : Fin 16, s.val % 2 = 0 → f s = 0) (h1 : ∀ s : Fin 8, f ⟨2 * s.val + 1, by omega⟩ = g s) :
    ∑ s, f s = ∑ s, g s := by
  rw [← Fin.sum_mul_add_congr (S := 8) (n := 2) (F := fun s k => f ⟨s.val * 2 + k.val, by omega⟩) (f := f) (fun s k hl => rfl)]
  refine Finset.sum_congr rfl fun s _ => ?_
  rw [Fin.sum_univ_two, h0 _ (by show (s.val * 2 + 0) % 2 = 0; omega), zero_add, ← h1 s]
  exact congrArg f (Fin.ext (by show s.val * 2 + 1 = 2 * s.val + 1; omega))

include hx hy hg hw hw' in
theorem tile9 (t : Fin cfg0.N) (hm : t.val % 16 = 15) (i : Fin 1) (d : Fin 1024) :
    (outsAt0 m c t.val t.isLt).2.2.2.1 (ix2 i d) = val_main_v58 (F := Ideal) (X m c) (Y m c) (G m c) (W m c) (W' m c) (ix2 i d) := by
  rw [dg_at, Pipeline.eq_sum_fin_of_reset_step_apply_of_flush (fun n h => (outsAt0 m c n h).2.2.2.1) 16 (fun _ => 0) (gpart m c)
    (gfirst_at m c) (gnext_at m c) t hm _, zero_add]
  refine (sum_odd (fun s : Fin 8 => ∑ r : Fin 512, val_main_v12 (F := Ideal) (X m c) (ix2 ⟨s.val * 512 + r.val, by omega⟩ d)
    * val_main_v29 (F := Ideal) (X m c) (Y m c) (G m c) (W m c) (W' m c) (ix2 ⟨s.val * 512 + r.val, by omega⟩ d)) _ (fun s hs => ?_) (fun s => ?_)).trans
    (Fin.sum_mul_add_congr fun s k hl => rfl)
  · exact if_neg (by show ¬(16 * (t.val / 16) + s.val) % 2 = 1; omega)
  · have q : (16 * (t.val / 16) + (2 * s.val + 1)) % 2 = 1 := by omega
    refine (if_pos q).trans (Finset.sum_congr rfl fun r _ => ?_)
    rw [mul_comm, xhat_at]
    have hN : t.val < 16 := t.isLt
    have e : ∀ h h', (row ⟨16 * (t.val / 16) + (2 * s.val + 1), h⟩ r) = (⟨s.val * 512 + r.val, h'⟩ : Fin 4096) := fun h h' =>
      Fin.ext (congrArg (fun z => z * 512 + r.val) (show (16 * (t.val / 16) + (2 * s.val + 1)) / 2 = s.val by omega))
    refine congrArg₂ (· * ·) ?_ ((acc_at m c hx hy hg hw hw' _ q r _).trans (congrArg (fun z => val_main_v29 (F := Ideal) (X m c) (Y m c) (G m c) (W m c) (W' m c) (ix2 z d)) (e _ _)))
    exact congrArg (fun z => X m c (ix2 z d) * Ideal.rsqrt (ms (X m c) z)) (e _ _)

include hx hy hg hw hw' in
/-- The gradient of the scale. -/
theorem final9 : (dats m 0 c).arrAt 9 (cfgs 0).N = val_main_v58 (F := Ideal) (X m c) (Y m c) (G m c) (W m c) (W' m c) := by
  refine (dats m 0 c).arrAt_eq_of_covers 9 _ (by decide +kernel) fun t hf y => ?_
  have hm := (flush0_9 t).mp hf
  rw [after0_9]
  rw [pair y]
  refine Eq.trans ?_ (congrArg (val_main_v58 (F := Ideal) (X m c) (Y m c) (G m c) (W m c) (W' m c)) (show ix2 (y 0) (y 1) = _ by blk_ext [idx t]))
  exact tile9 m c hx hy hg hw hw' t hm _ _

end Cert.Kernel2Ideal.Back

end
-- ==== Proof.BackPre.lean ====
module

public import proofs.«01_k».proof.Defs
public import proofs.«01_k».proof.Proof.Gen.Pre_finite2
public import proofs.«01_k».proof.Proof.Reals
public import Idealize.ShloMosaic.Lib.ReduceAll

/-! The stated condition, read: every entry of every argument is a real number. -/

@[expose] public section

set_option maxRecDepth 16384

noncomputable section

namespace Cert.Reals

open Idealize.ShloMosaic Idealize.ShloMosaic.TcCoe Idealize.SL.Sem

/-- Where the test `|x| < ∞` answers one, the entry is a real number. -/
theorem real_of_lt {s : Shape} (x y : FVec Ideal s .f32) (hy : ∀ i, y i = Ideal.ofBits .f32 0x7F800000#32) (i : s.Idx)
    (h : cmpf .olt (Host.absf x) y i = 1#1) : IsReal (x i) := by
  refine IsReal.of_abs ?_
  have e : cmpf .olt (Host.absf x) y i = BitVec.ofBool (decide (max (x i) (-(x i)) < y i)) := by
    pointwise []
    rfl
  rw [e, hy] at h
  have t : Ideal.ofBits .f32 0x7F800000#32 = ⊤ := by simp [Ideal.ofBits, Ideal.ieee]
  rw [t] at h
  by_contra n
  rw [decide_eq_false n] at h
  exact absurd h (by decide)

/-- Where the test holds of all entries at once, each is a real number. -/
theorem real_of_all {s : Shape} {axes : List (Fin s.rank)} (x : FVec Ideal s .f32) (hb : (⟨0, ![]⟩ : Shape).BroadcastsInDim s (![] : Fin 0 → Fin s.rank))
    (hr : s.ReducesTo axes ⟨0, ![]⟩) (hu : 0 < (⟨0, ![]⟩ : Shape).numel) (z : (⟨0, ![]⟩ : Shape).Idx)
    (h : Host.reduce IntOp.andi (cmpf .olt (Host.absf x) (broadcastInDim s ![] hb (constant (F := Ideal) ⟨0, ![]⟩ .f32 0x7F800000#32))) (constantI ⟨0, ![]⟩ 1 1#1) hr hu z = 1#1)
    (i : s.Idx) : IsReal (x i) :=
  haveI : Subsingleton (⟨0, ![]⟩ : Shape).Idx := ⟨fun a b => funext fun k => k.elim0⟩
  real_of_lt _ _ (fun _ => rfl) i (Host.reduce_andi_all _ _ hr hu z h i)

/-- The condition of the backward call says that each entry of its five arguments is a real number. -/
theorem of_finite2 (m : (ℓ : Loc Cert.Kernel2Ideal.nD Cert.Kernel2Ideal.τ Cert.Kernel2Ideal.sig) → Buf (Elt Ideal) ℓ)
    (h : Pre_Kernel2Ideal_finite2 m) (c : Dev Cert.Kernel2Ideal.nD) :
    (∀ i, IsReal ((show FVec Ideal Cert.Kernel2Ideal.S4096x1024 .f32 from m ((c.tc : Thread Cert.Kernel2Ideal.nD Cert.Kernel2Ideal.τ).loc Cert.Kernel2Ideal.main_arg0)) i))
    ∧ (∀ i, IsReal ((show FVec Ideal Cert.Kernel2Ideal.S4096x1024 .f32 from m ((c.tc : Thread Cert.Kernel2Ideal.nD Cert.Kernel2Ideal.τ).loc Cert.Kernel2Ideal.main_arg1)) i))
    ∧ (∀ i, IsReal ((show FVec Ideal Cert.Kernel2Ideal.S1024 .f32 from m ((c.tc : Thread Cert.Kernel2Ideal.nD Cert.Kernel2Ideal.τ).loc Cert.Kernel2Ideal.main_arg2)) i))
    ∧ (∀ i, IsReal ((show FVec Ideal Cert.Kernel2Ideal.S1024x5632 .f32 from m ((c.tc : Thread Cert.Kernel2Ideal.nD Cert.Kernel2Ideal.τ).loc Cert.Kernel2Ideal.main_arg3)) i))
    ∧ (∀ i, IsReal ((show FVec Ideal Cert.Kernel2Ideal.S2816x1024 .f32 from m ((c.tc : Thread Cert.Kernel2Ideal.nD Cert.Kernel2Ideal.τ).loc Cert.Kernel2Ideal.main_arg4)) i)) := by
  obtain ⟨a, b, d, e, f⟩ := h c
  have z : Cert.Pre_finite2.S_.Idx := fun k => k.elim0
  have a := congrFun a z
  have b := congrFun b z
  have d := congrFun d z
  have e := congrFun e z
  have f := congrFun f z
  dsimp only [Cert.Pre_finite2.fn, Cert.Pre_finite2.fn_part1] at a b d e f
  exact ⟨real_of_all _ _ _ _ z a, real_of_all _ _ _ _ z b, real_of_all _ _ _ _ z d, real_of_all _ _ _ _ z e, real_of_all _ _ _ _ z f⟩

end Cert.Reals

end
-- ==== Proof.Claims2.lean ====
module

public import proofs.«01_k».proof.Defs
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.BackFinal
public import proofs.«01_k».proof.Proof.BackPre

/-! The backward pass of the feed-forward layer: the call and its reference end with the same four arrays. -/

@[expose] public section

set_option maxRecDepth 16384

noncomputable section

namespace Cert.Proof

open Idealize.ShloMosaic Idealize.ShloMosaic.TcCoe Idealize.SL.Sem

section

open Cert.Reference2Ideal Cert.Reference2Ideal.Read

/-- What the reference leaves, by the names of its values. -/
theorem left2 (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v50) = val_main_v50 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))
      ∧ r.2.mem ((c.tc : Thread nD τ).loc main_v51) = val_main_v51 (F := Ideal) (m' ((c.tc : Thread nD τ).loc main_arg0)) (m' ((c.tc : Thread nD τ).loc main_arg2))
      ∧ r.2.mem ((c.tc : Thread nD τ).loc main_v57) = val_main_v57 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))
      ∧ r.2.mem ((c.tc : Thread nD τ).loc main_v58) = val_main_v58 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) := by
  refine (θ_run _ _ _).mono (fun r h c => ?_) (Cert.Reference2Ideal.Value.run m' g')
  obtain ⟨a, b, d, e, p⟩ := h c
  exact ⟨a.trans (val_main_v50_eq m' c), b.trans (val_main_v51_eq _ _), d.trans (val_main_v57_eq m' c), e.trans (val_main_v58_eq m' c), p⟩

end

section

open Cert.Kernel2Ideal Cert.Kernel2Ideal.Gen

/-- What the call leaves in its four results and its arguments. -/
theorem kept2 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v39_0) = (dats m 0 c).arrAt 6 (cfgs 0).N
      ∧ r.2.mem ((c.tc : Thread nD τ).loc main_v39_1) = (dats m 0 c).arrAt 7 (cfgs 0).N
      ∧ r.2.mem ((c.tc : Thread nD τ).loc main_v39_2) = (dats m 0 c).arrAt 8 (cfgs 0).N
      ∧ r.2.mem ((c.tc : Thread nD τ).loc main_v39_3) = (dats m 0 c).arrAt 9 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h.1 c).1 6, (h.1 c).1 7, (h.1 c).1 8, (h.1 c).1 9, h.2 c⟩) (θ_run_and (run_main m g) (unchanged m g))

end

/-- From equal arguments, each of whose entries is a real number, the call and its reference leave equal results. -/
theorem same2 : Cert.algebraic_Kernel2Ideal_Reference2Ideal_pre_finite2 := by
  intro m g m' g' hpre hagree
  refine ⟨fun c => (Cert.Kernel2Ideal.Gen.dats m 0 c).arrAt 6 (Cert.Kernel2Ideal.cfgs 0).N, fun c => (Cert.Kernel2Ideal.Gen.dats m 0 c).arrAt 7 (Cert.Kernel2Ideal.cfgs 0).N,
    fun c => (Cert.Kernel2Ideal.Gen.dats m 0 c).arrAt 8 (Cert.Kernel2Ideal.cfgs 0).N, fun c => (Cert.Kernel2Ideal.Gen.dats m 0 c).arrAt 9 (Cert.Kernel2Ideal.cfgs 0).N,
    kept2 m g, (θ_run _ _ _).mono (fun r h c => ?_) (left2 m' g')⟩
  obtain ⟨a, b, d, e, p⟩ := h c
  obtain ⟨h0, h1, h2, h3, h4⟩ := hagree c
  obtain ⟨r0, r1, r2, r3, r4⟩ := Cert.Reals.of_finite2 m hpre c
  rw [h0, h1, h2, h3, h4] at a d e
  rw [h0, h2] at b
  exact ⟨a.trans (Cert.Kernel2Ideal.Back.final6 m c r0 r1 r2 r3 r4).symm, b.trans (Cert.Kernel2Ideal.Back.final7 m c).symm,
    d.trans (Cert.Kernel2Ideal.Back.final8 m c r0 r1 r2 r3 r4).symm, e.trans (Cert.Kernel2Ideal.Back.final9 m c r0 r1 r2 r3 r4).symm, p⟩

/-- The reference leaves its arguments and its counters as they were. -/
theorem still2 : Cert.quiescent_Reference2Ideal := fun m g _ =>
  (θ_run _ _ _).mono (fun r h => ⟨fun c => (h c).2.2.2.2, sem_eq_zero_of_no_sems (by decide) r.2⟩) (left2 m g)

end Cert.Proof

end
-- ==== Proof.FwdRef.lean ====
module

public import proofs.«01_k».proof.Proof.Gen.Reference3Ideal.Read
public import proofs.«01_k».proof.Proof.Reals

/-! The reference's forward pass of the feed-forward layer, read at an index. -/

@[expose] public section

set_option maxRecDepth 16384

noncomputable section

namespace Cert.FwdRef

open Cert.Reference3Ideal Cert.Reference3Ideal.Read Cert.Reals Idealize.ShloMosaic Idealize.ShloMosaic.TcCoe Idealize.SL.Sem

variable (x : FVec Ideal S4096x1024 .f32) (g : FVec Ideal S1024 .f32) (w : FVec Ideal S1024x5632 .f32) (w' : FVec Ideal S2816x1024 .f32)

/-- The mean square of row `t`, with the small constant. -/
abbrev ms (t : Fin 4096) : EReal :=
  Ideal.div (∑ d : Fin 1024, x (ix2 t d) * x (ix2 t d)) (Ideal.ofBits .f32 0x44800000#32) + Ideal.ofBits .f32 0x358637BD#32

theorem ms_at (t : Fin 4096) (d : Fin 1) : val_main_v6 (F := Ideal) x (ix2 t d) = ms x t := by
  pointwise [val_main_v6, val_main_v4, val_main_v5, val_main_v3, val_main_v2, val_main_v1, val_main_v0, val_main_cst, val_main_cst_0, val_main_cst_1]

/-- The normalised row, scaled. -/
theorem h_at (t : Fin 4096) (d : Fin 1024) :
    val_main_v12 (F := Ideal) x g (ix2 t d) = x (ix2 t d) * Ideal.rsqrt (ms x t) * g (ix1 d) := by
  pointwise [val_main_v12, val_main_v11, val_main_v10, val_main_v9, val_main_v8, val_main_v7]
  rw [ms_at]

theorem gate_at (t : Fin 4096) (k : Fin 2816) :
    val_main_v14 (F := Ideal) x g w (ix2 t k) = ∑ d : Fin 1024, val_main_v12 (F := Ideal) x g (ix2 t d) * w (ix2 d ⟨k.val, by omega⟩) := by
  pointwise [val_main_v14, val_main_v13]

theorem up_at (t : Fin 4096) (k : Fin 2816) :
    val_main_v15 (F := Ideal) x g w (ix2 t k) = ∑ d : Fin 1024, val_main_v12 (F := Ideal) x g (ix2 t d) * w (ix2 d ⟨2816 + k.val, by omega⟩) := by
  pointwise [val_main_v15, val_main_v13]

/-- The sigmoid, written out. -/
abbrev sg (a : EReal) : EReal := Ideal.div 1 (1 + Ideal.exp (-a))

/-- The gate, passed through `a * sigmoid a`. -/
theorem silu_at (t : Fin 4096) (k : Fin 2816) :
    val_main_v16_0 (F := Ideal) x g w (ix2 t k) = val_main_v14 (F := Ideal) x g w (ix2 t k) * sg (val_main_v14 (F := Ideal) x g w (ix2 t k)) := by
  pointwise [val_main_v16_0, val_main_v16_2, val_main_call0_v0, val_main_call0_v1, val_main_call0_v2, val_main_call0_v3, val_main_call0_v4, val_main_call0_cst, val_main_call0_cst_0]

theorem f_at (t : Fin 4096) (k : Fin 2816) :
    val_main_v17 (F := Ideal) x g w (ix2 t k) = val_main_v16_0 (F := Ideal) x g w (ix2 t k) * val_main_v15 (F := Ideal) x g w (ix2 t k) := by
  pointwise [val_main_v17]

theorem dup_at (t : Fin 4096) (k : Fin 2816) :
    val_main_v19 (F := Ideal) x g w (ix2 t k) = val_main_v16_0 (F := Ideal) x g w (ix2 t k) := by
  refine Eq.trans ?_ (mul_one _)
  pointwise [val_main_v19, val_main_v18, val_main_cst_2]

theorem dgate_raw (t : Fin 4096) (k : Fin 2816) :
    val_main_v21 (F := Ideal) x g w (ix2 t k)
      = 1 * val_main_v15 (F := Ideal) x g w (ix2 t k) * sg (val_main_v14 (F := Ideal) x g w (ix2 t k))
        + val_main_v14 (F := Ideal) x g w (ix2 t k) * (1 * val_main_v15 (F := Ideal) x g w (ix2 t k))
          * (sg (val_main_v14 (F := Ideal) x g w (ix2 t k)) * (1 - sg (val_main_v14 (F := Ideal) x g w (ix2 t k)))) := by
  pointwise [val_main_v21, val_main_call1_v0, val_main_call1_v1, val_main_call1_v2, val_main_v20, val_main_v18, val_main_cst_2, val_main_v16_1, val_main_v16_2, val_main_call0_v0, val_main_call0_v1, val_main_call0_v2, val_main_call0_v3, val_main_call0_v4, val_main_call0_cst, val_main_call0_cst_0, val_main_call0_v6, val_main_call0_v7, val_main_call0_cst_1]

theorem y_at (t : Fin 4096) (d : Fin 1024) :
    val_main_v23 (F := Ideal) x g w w' (ix2 t d) = x (ix2 t d) + ∑ k : Fin 2816, val_main_v17 (F := Ideal) x g w (ix2 t k) * w' (ix2 k d) := by
  pointwise [val_main_v23, val_main_v22]

theorem fac_at (i : Fin 2) (t : Fin 4096) (k : Fin 2816) :
    val_main_v27 (F := Ideal) x g w (ix3 i t k) = if i.val < 1 then val_main_v19 (F := Ideal) x g w (ix2 t k) else val_main_v21 (F := Ideal) x g w (ix2 t k) := by
  pointwise [val_main_v27, val_main_v26, val_main_v25, val_main_v24]
  exact dite_eq_ite

theorem fb_at (t : Fin 4096) (k : Fin 2816) :
    val_main_v28 (F := Ideal) x g w (ix2 t k) = val_main_v17 (F := Ideal) x g w (ix2 t k) := by
  pointwise [val_main_v28]

/-! ## Over real arguments -/

variable (hx : ∀ i, IsReal (x i)) (hg : ∀ i, IsReal (g i)) (hw : ∀ i, IsReal (w i))

include hx hg in
theorem h_real (t : Fin 4096) (d : Fin 1024) : IsReal (val_main_v12 (F := Ideal) x g (ix2 t d)) := by
  rw [h_at]; exact ((hx _).mul (rms_real fun d => hx (ix2 t d))).mul (hg _)

include hx hg hw in
theorem gate_real (t : Fin 4096) (k : Fin 2816) : IsReal (val_main_v14 (F := Ideal) x g w (ix2 t k)) := by
  rw [gate_at]; exact IsReal.sum fun d => (h_real x g hx hg t d).mul (hw _)

include hx hg hw in
theorem up_real (t : Fin 4096) (k : Fin 2816) : IsReal (val_main_v15 (F := Ideal) x g w (ix2 t k)) := by
  rw [up_at]; exact IsReal.sum fun d => (h_real x g hx hg t d).mul (hw _)

include hx hg hw in
/-- The gradient's factor of the gate as one product. -/
theorem dgate_at (t : Fin 4096) (k : Fin 2816) :
    val_main_v21 (F := Ideal) x g w (ix2 t k) = val_main_v15 (F := Ideal) x g w (ix2 t k) * (sg (val_main_v14 (F := Ideal) x g w (ix2 t k))
        * (1 + val_main_v14 (F := Ideal) x g w (ix2 t k) * (1 - sg (val_main_v14 (F := Ideal) x g w (ix2 t k))))) := by
  rw [dgate_raw]
  exact (silu_back IsReal.one (gate_real x g w hx hg hw t k) (up_real x g w hx hg hw t k) (sigm_real (gate_real x g w hx hg hw t k))).trans (one_mul _)

end Cert.FwdRef

end
-- ==== Proof.Fwd.lean ====
module

public import proofs.«01_k».proof.Proof.Gen.Kernel3Ideal.Frame
public import proofs.«01_k».proof.Proof.FwdRef
public import Idealize.ShloMosaic.Lib.Pipeline.ValueKit

/-! The forward pass of the feed-forward layer: what the kernel leaves in each result, block by block. -/

@[expose] public section

set_option maxRecDepth 16384

noncomputable section

namespace Cert.Kernel3Ideal.Fwd

open Cert.Kernel3Ideal Cert.Kernel3Ideal.Gen Cert.FwdRef Cert.Reals Idealize.ShloMosaic Idealize.ShloMosaic.TcCoe Idealize.SL.Sem
open Cert.Reference3Ideal.Read
open Idealize.ShloMosaic.Pipeline (Dat)

variable (m : (ℓ : Loc nD τ sig) → Buf (Elt Ideal) ℓ)

abbrev X (c : Dev nD) : FVec Ideal S4096x1024 .f32 := m ((c : Thread nD τ).loc main_arg0)
abbrev G (c : Dev nD) : FVec Ideal S1024 .f32 := m ((c : Thread nD τ).loc main_arg1)
abbrev W (c : Dev nD) : FVec Ideal S1024x5632 .f32 := m ((c : Thread nD τ).loc main_arg2)
abbrev W' (c : Dev nD) : FVec Ideal S2816x1024 .f32 := m ((c : Thread nD τ).loc main_arg3)

/-- The blocks each point works on. -/
theorem idx : ∀ t : Fin cfg0.N, win0_0.index t = ![t.val / 2, 0] ∧ win0_1.index t = ![0, 0]
    ∧ win0_2.index t = ![0, t.val % 2, 0] ∧ win0_3.index t = ![t.val % 2, 0] ∧ win0_4.index t = ![t.val / 2, 0]
    ∧ win0_5.index t = ![0, t.val / 2, t.val % 2] ∧ win0_6.index t = ![t.val / 2, t.val % 2] ∧ t.val < 16 :=
  (by decide +kernel : ∀ t : Fin grid0.N, _)

/-! ## What the host prepared -/

theorem v3_at (c : Dev nD) (i : Fin 1) (d : Fin 1024) : (show FVec Ideal S1x1024 .f32 from V m c main_v3) (ix2 i d) = G m c (ix1 d) := by
  entry_read
  pointwise []

theorem v4_at (c : Dev nD) (k : Fin 2816) (d : Fin 1024) : (show FVec Ideal S2816x1024 .bf16 from V m c main_v4) (ix2 k d) = W' m c (ix2 k d) := by
  entry_read
  pointwise []

theorem v2_at (c : Dev nD) (i : Fin 2) (k : Fin 2816) (d : Fin 1024) :
    (show FVec Ideal S2x2816x1024 .bf16 from V m c main_v2) (ix3 i k d) = W m c (ix2 d ⟨i.val * 2816 + k.val, by omega⟩) := by
  entry_read
  pointwise []

/-! ## The payloads at an index -/

theorem pay3_at (x : FVec Ideal S512x1024 .f32) (g : FVec Ideal S1x1024 .f32) (r : Fin 512) (d : Fin 1024) :
    (k0_pay3 (F := Ideal) x g (ix2 r d) : EReal) = x (ix2 r d) * Ideal.rsqrt (Ideal.div (∑ d : Fin 1024, x (ix2 r d) * x (ix2 r d)) (Ideal.ofBits .f32 0x44800000#32) + Ideal.ofBits .f32 0x358637BD#32)
      * g (ix2 0 d) := by
  pointwise [k0_pay3]

theorem pay4_at (x : FVec Ideal S512x1024 .f32) (j) : k0_pay4 (F := Ideal) x j = x j := by pointwise [k0_pay4]

theorem pay5_at (h : FVec Ideal S512x1024 .bf16) (a : FVec Ideal S1x1408x1024 .bf16) (j) :
    (k0_pay5 (F := Ideal) h a j : EReal) = ∑ d : Fin 1024, h (ix2 (j 0) d) * a (ix3 0 (j 1) d) := by
  pointwise [k0_pay5]

theorem pay6_at (h : FVec Ideal S512x1024 .bf16) (a : FVec Ideal S1x1408x1024 .bf16) (j) :
    (k0_pay6 (F := Ideal) h a j : EReal) = ∑ d : Fin 1024, h (ix2 (j 0) d) * a (ix3 0 (j 1) d) := by
  pointwise [k0_pay6]

/-- The sigmoid as the kernel computes it. -/
abbrev st (a : EReal) : EReal :=
  Ideal.ofBits .f32 0x3F000000#32 * Ideal.tanh (Ideal.ofBits .f32 0x3F000000#32 * a) + Ideal.ofBits .f32 0x3F000000#32

theorem pay8_at (h : FVec Ideal S512x1024 .bf16) (a : FVec Ideal S1x1408x1024 .bf16) (j) :
    (k0_pay8 (F := Ideal) h a j : EReal) = k0_pay5 (F := Ideal) h a j * st (k0_pay5 (F := Ideal) h a j) := by
  rw [pay5_at]
  pointwise [k0_pay8, k0_pay7, k0_pay5]

theorem pay9_at (h : FVec Ideal S512x1024 .bf16) (a : FVec Ideal S1x1408x1024 .bf16) (j) :
    (k0_pay9 (F := Ideal) h a j : EReal) = k0_pay8 (F := Ideal) h a (ix2 (j 1) (j 2)) := by
  pointwise [k0_pay9]

theorem pay10_at (h : FVec Ideal S512x1024 .bf16) (a b : FVec Ideal S1x1408x1024 .bf16) (j) :
    (k0_pay10 (F := Ideal) h a b j : EReal) = k0_pay6 (F := Ideal) h b (ix2 (j 1) (j 2)) * (st (k0_pay5 (F := Ideal) h a (ix2 (j 1) (j 2)))
      * (1 + k0_pay5 (F := Ideal) h a (ix2 (j 1) (j 2)) * (1 - st (k0_pay5 (F := Ideal) h a (ix2 (j 1) (j 2)))))) := by
  rw [pay5_at, pay6_at]
  pointwise [k0_pay10, k0_pay7, k0_pay5, k0_pay6]

theorem pay1_at (u s : FVec Ideal S512x1408 .f32) (j) : (k0_pay1 (F := Ideal) u s j : EReal) = s j * u j := by
  pointwise [k0_pay1]

theorem pay2_at (u s : FVec Ideal S512x1408 .f32) (a : FVec Ideal S512x1024 .f32) (b : FVec Ideal S1408x1024 .bf16) (j) :
    (k0_pay2 (F := Ideal) u s a b j : EReal) = a j + ∑ k : Fin 1408, (k0_pay1 (F := Ideal) u s (ix2 (j 0) k) : EReal) * b (ix2 k (j 1)) := by
  simp only [pay1_at]
  pointwise [k0_pay2, k0_pay1]

/-! ## The blocks at an index -/

theorem lt_row (t : Fin cfg0.N) (r : Fin 512) : t.val / 2 * 512 + r.val < 4096 := by
  have := (idx t).2.2.2.2.2.2.2
  omega

/-- Row `r` of the block point `t` works on. -/
abbrev row (t : Fin cfg0.N) (r : Fin 512) : Fin 4096 := ⟨t.val / 2 * 512 + r.val, lt_row t r⟩

/-- Hidden unit `k` of the half point `t` works on. -/
abbrev unit (t : Fin cfg0.N) (k : Fin 1408) : Fin 2816 := ⟨t.val % 2 * 1408 + k.val, by omega⟩

theorem blk0 (c : Dev nD) (t : Fin cfg0.N) (r : Fin 512) (d : Fin 1024) :
    (show FVec Ideal S512x1024 .f32 from iblk m c 0 t) (ix2 r d) = X m c (ix2 (row t r) d) := by
  blk_point [iblk, V, idx t]

theorem blk1 (c : Dev nD) (t : Fin cfg0.N) (i : Fin 1) (d : Fin 1024) :
    (show FVec Ideal S1x1024 .f32 from iblk m c 1 t) (ix2 i d) = G m c (ix1 d) := by
  rw [← v3_at m c i d]
  blk_point [iblk, idx t]

theorem blk3_of (B : FVec Ideal S2816x1024 .bf16) (t : Fin cfg0.N) (k : Fin 1408) (d : Fin 1024) :
    (show FVec Ideal S1408x1024 .bf16 from ((cfg0.win 3).blk t).view.read (Elt Ideal) B) (ix2 k d) = B (ix2 (unit t k) d) := by
  refine congrArg B ?_
  blk_ext [idx t]

theorem blk3 (c : Dev nD) (t : Fin cfg0.N) (k : Fin 1408) (d : Fin 1024) :
    (show FVec Ideal S1408x1024 .bf16 from iblk m c 3 t) (ix2 k d) = W' m c (ix2 (unit t k) d) :=
  (blk3_of _ t k d).trans (v4_at m c _ _)

theorem blk2a_of (B : FVec Ideal S2x2816x1024 .bf16) (t : Fin cfg0.N) (i : Fin 1) (k : Fin 1408) (d : Fin 1024) :
    (show FVec Ideal S1x1408x1024 .bf16 from View.ld (((cfg0.win 2).blk t).view.read (Elt Ideal) B) (Rect.unit ![0, 0, 0] ![1, 1408, 1024] inb_S2x1408x1024_S1x1408x1024_0_0_0)) (ix3 i k d)
      = B (ix3 0 (unit t k) d) := by
  refine congrArg B ?_
  blk_ext [idx t]
  · show 0 + 1 * i.val = 0; omega
  · show t.val % 2 * 1408 + (0 + 1 * k.val) = _; omega
  · show 0 + 1 * d.val = _; omega

theorem blk2b_of (B : FVec Ideal S2x2816x1024 .bf16) (t : Fin cfg0.N) (i : Fin 1) (k : Fin 1408) (d : Fin 1024) :
    (show FVec Ideal S1x1408x1024 .bf16 from View.ld (((cfg0.win 2).blk t).view.read (Elt Ideal) B) (Rect.unit ![1, 0, 0] ![1, 1408, 1024] inb_S2x1408x1024_S1x1408x1024_1_0_0)) (ix3 i k d)
      = B (ix3 1 (unit t k) d) := by
  refine congrArg B ?_
  blk_ext [idx t]
  · show 1 + 1 * i.val = 1; omega
  · show t.val % 2 * 1408 + (0 + 1 * k.val) = _; omega
  · show 0 + 1 * d.val = _; omega

/-- The gate half of the weight's block. -/
abbrev wa (c : Dev nD) (t : Fin cfg0.N) : FVec Ideal S1x1408x1024 .bf16 :=
  View.ld (iblk m c 2 t) (Rect.unit ![0, 0, 0] ![1, 1408, 1024] inb_S2x1408x1024_S1x1408x1024_0_0_0)

/-- The up half of the weight's block. -/
abbrev wb (c : Dev nD) (t : Fin cfg0.N) : FVec Ideal S1x1408x1024 .bf16 :=
  View.ld (iblk m c 2 t) (Rect.unit ![1, 0, 0] ![1, 1408, 1024] inb_S2x1408x1024_S1x1408x1024_1_0_0)

theorem blk2a (c : Dev nD) (t : Fin cfg0.N) (i : Fin 1) (k : Fin 1408) (d : Fin 1024) :
    wa m c t (ix3 i k d) = W m c (ix2 d ⟨(unit t k).val, by omega⟩) := by
  refine (blk2a_of _ t i k d).trans ((v2_at m c 0 (unit t k) d).trans ?_)
  blk_point []

theorem blk2b (c : Dev nD) (t : Fin cfg0.N) (i : Fin 1) (k : Fin 1408) (d : Fin 1024) :
    wb m c t (ix3 i k d) = W m c (ix2 d ⟨2816 + (unit t k).val, by omega⟩) := by
  refine (blk2b_of _ t i k d).trans ((v2_at m c 1 (unit t k) d).trans ?_)
  blk_point []

/-! ## Point by point -/

section
variable (c : Dev nD)

/-- The normalised rows the point works from. -/
abbrev hb (t : Fin cfg0.N) : FVec Ideal S512x1024 .bf16 := (outsAt0 m c t.val t.isLt).2.2.2.1

theorem hb_first (t : Fin cfg0.N) (h : t.val % 2 = 0) : hb m c t = k0_pay3 (iblk m c 0 t) (iblk m c 1 t) := by
  funext j
  show (outsAt0 m c t.val t.isLt).2.2.2.1 j = _
  rw [outsAt0_A m c t h (by omega)]
  frame_out

theorem hb_next (t : Fin cfg0.N) (h : ¬t.val % 2 = 0) : hb m c t = (outsAt0 m c (t.val - 1) (Nat.lt_of_le_of_lt (Nat.sub_le _ _) t.isLt)).2.2.2.1 := by
  show (outsAt0 m c t.val t.isLt).2.2.2.1 = _
  rw [outsAt0_B m c t h (by omega)]
  rfl

theorem first_blk (t : Fin cfg0.N) (h : t.val % 2 = 0) (r : Fin 512) (d : Fin 1024) :
    hb m c t (ix2 r d) = val_main_v12 (F := Ideal) (X m c) (G m c) (ix2 (row t r) d) := by
  rw [hb_first m c t h, h_at]
  refine (pay3_at _ _ _ _).trans ?_
  have e : ∀ d : Fin 1024, (show FVec Ideal S512x1024 .f32 from iblk m c 0 t) (ix2 r d) = X m c (ix2 (row t r) d) := fun d => blk0 m c t r d
  exact congrArg₂ (· * ·) (congrArg₂ (· * ·) (e _) (congrArg (fun z => Ideal.rsqrt (Ideal.div z _ + _)) (Finset.sum_congr rfl fun d _ => congrArg₂ (· * ·) (e d) (e d)))) (blk1 m c t 0 d)

theorem hb_blk (t : Fin cfg0.N) (r : Fin 512) (d : Fin 1024) :
    hb m c t (ix2 r d) = val_main_v12 (F := Ideal) (X m c) (G m c) (ix2 (row t r) d) := by
  by_cases h : t.val % 2 = 0
  · exact first_blk m c t h r d
  · rw [hb_next m c t h]
    refine (first_blk m c ⟨t.val - 1, Nat.lt_of_le_of_lt (Nat.sub_le _ _) t.isLt⟩ (by dsimp only; omega) r d).trans (congrArg (val_main_v12 (F := Ideal) (X m c) (G m c)) ?_)
    exact congrArg (ix2 · d) (Fin.ext (congrArg (fun z => z * 512 + r.val) (show (t.val - 1) / 2 = t.val / 2 by omega)))

theorem gate_blk (t : Fin cfg0.N) (r : Fin 512) (k : Fin 1408) :
    (k0_pay5 (F := Ideal) (hb m c t) (wa m c t) (ix2 r k) : EReal) = val_main_v14 (F := Ideal) (X m c) (G m c) (W m c) (ix2 (row t r) (unit t k)) := by
  rw [gate_at]
  exact (pay5_at _ _ _).trans (Finset.sum_congr rfl fun d _ => congrArg₂ (· * ·) (hb_blk m c t r d) (blk2a m c t 0 k d))

theorem up_blk (t : Fin cfg0.N) (r : Fin 512) (k : Fin 1408) :
    (k0_pay6 (F := Ideal) (hb m c t) (wb m c t) (ix2 r k) : EReal) = val_main_v15 (F := Ideal) (X m c) (G m c) (W m c) (ix2 (row t r) (unit t k)) := by
  rw [up_at]
  exact (pay6_at _ _ _).trans (Finset.sum_congr rfl fun d _ => congrArg₂ (· * ·) (hb_blk m c t r d) (blk2b m c t 0 k d))

/-- The rows the point before left, read back. -/
theorem read_h (t : Fin cfg0.N) :
    (Memref.whole cc0_scratch0).view.read (Elt Ideal) ((Memref.isWhole_whole cc0_scratch0).unread (outsAt0 m c (t.val - 1) (Nat.lt_of_le_of_lt (Nat.sub_le _ _) t.isLt)).2.2.2.1)
      = (outsAt0 m c (t.val - 1) (Nat.lt_of_le_of_lt (Nat.sub_le _ _) t.isLt)).2.2.2.1 :=
  (Memref.isWhole_whole cc0_scratch0).read_unread _

/-- The sum the point before left, read back. -/
theorem read_s (t : Fin cfg0.N) :
    (Memref.whole cc0_scratch1).view.read (Elt Ideal) ((Memref.isWhole_whole cc0_scratch1).unread (outsAt0 m c (t.val - 1) (Nat.lt_of_le_of_lt (Nat.sub_le _ _) t.isLt)).2.2.2.2)
      = (outsAt0 m c (t.val - 1) (Nat.lt_of_le_of_lt (Nat.sub_le _ _) t.isLt)).2.2.2.2 :=
  (Memref.isWhole_whole cc0_scratch1).read_unread _

/-- The hidden activations the point computes. -/
abbrev fb (t : Fin cfg0.N) : FVec Ideal S512x1408 .bf16 := k0_pay1 (k0_pay6 (hb m c t) (wb m c t)) (k0_pay8 (hb m c t) (wa m c t))

theorem out6_at (t : Fin cfg0.N) (j) : (outsAt0 m c t.val t.isLt).2.2.1 j = fb m c t j := by
  by_cases h : t.val % 2 = 0
  · rw [fb, hb_first m c t h, outsAt0_A m c t h (by omega)]
    frame_out
    rfl
  · rw [fb, hb_next m c t h, outsAt0_B m c t h (by omega)]
    frame_out
    exact congrArg (fun H : FVec Ideal S512x1024 .bf16 => k0_pay1 (F := Ideal) (k0_pay6 H (wb m c t)) (k0_pay8 H (wa m c t)) j) (read_h m c t)

/-- The first point of a pair starts the sum from the layer's argument. -/
theorem first_at (t : Fin cfg0.N) (h : t.val % 2 = 0) (j) :
    (outsAt0 m c t.val t.isLt).2.2.2.2 j = (show FVec Ideal S512x1024 .f32 from iblk m c 0 t) j + ∑ k : Fin 1408, fb m c t (ix2 (j 0) k) * (show FVec Ideal S1408x1024 .bf16 from iblk m c 3 t) (ix2 k (j 1)) := by
  rw [fb, hb_first m c t h, outsAt0_A m c t h (by omega)]
  frame_out
  exact (pay2_at _ _ _ _ j).trans (congrArg (· + _) (pay4_at _ j))

/-- The second point of a pair adds to what the first left. -/
theorem next_at (t : Fin cfg0.N) (h : ¬t.val % 2 = 0) (j) :
    (outsAt0 m c t.val t.isLt).1 j = (outsAt0 m c (t.val - 1) (Nat.lt_of_le_of_lt (Nat.sub_le _ _) t.isLt)).2.2.2.2 j
      + ∑ k : Fin 1408, fb m c t (ix2 (j 0) k) * (show FVec Ideal S1408x1024 .bf16 from iblk m c 3 t) (ix2 k (j 1)) := by
  rw [fb, hb_next m c t h, outsAt0_B m c t h (by omega)]
  frame_out
  refine (congrArg₂ (fun (H : FVec Ideal S512x1024 .bf16) (S : FVec Ideal S512x1024 .f32) => k0_pay2 (F := Ideal) (k0_pay6 H (wb m c t)) (k0_pay8 H (wa m c t)) S (iblk m c 3 t) j) (read_h m c t) (read_s m c t)).trans ?_
  exact pay2_at _ _ _ _ j

/-- Every point writes both halves of its block of the gradient's factors. -/
theorem out5_at (t : Fin cfg0.N) (i : Fin 2) (r : Fin 512) (k : Fin 1408) :
    ((outsAt0 m c t.val t.isLt).2.1 (ix3 i r k) : EReal) = if i.val < 1 then (k0_pay8 (F := Ideal) (hb m c t) (wa m c t) (ix2 r k) : EReal) else k0_pay6 (F := Ideal) (hb m c t) (wb m c t) (ix2 r k) * (st (k0_pay5 (F := Ideal) (hb m c t) (wa m c t) (ix2 r k))
      * (1 + k0_pay5 (F := Ideal) (hb m c t) (wa m c t) (ix2 r k) * (1 - st (k0_pay5 (F := Ideal) (hb m c t) (wa m c t) (ix2 r k))))) := by
  by_cases q : t.val % 2 = 0
  · rw [hb_first m c t q, outsAt0_A m c t q (by omega)]
    frame_out
    canon_tiles x h
    · rw [if_neg (show ¬i.val < 1 by have e : i.val = 1 + (x 0).val := h0; omega)]
      obtain rfl : r = x 1 := Fin.ext h1
      obtain rfl : k = x 2 := Fin.ext h2
      exact pay10_at _ _ _ _
    · rw [if_pos (show i.val < 1 by have e : i.val = (x 0).val := h0; omega)]
      obtain rfl : r = x 1 := Fin.ext h1
      obtain rfl : k = x 2 := Fin.ext h2
      exact pay9_at _ _ _
  · rw [hb_next m c t q, outsAt0_B m c t q (by omega)]
    frame_out
    canon_tiles x h
    · rw [if_neg (show ¬i.val < 1 by have e : i.val = 1 + (x 0).val := h0; omega)]
      obtain rfl : r = x 1 := Fin.ext h1
      obtain rfl : k = x 2 := Fin.ext h2
      exact (congrArg (fun H : FVec Ideal S512x1024 .bf16 => k0_pay10 (F := Ideal) H (wa m c t) (wb m c t) x) (read_h m c t)).trans (pay10_at _ _ _ _)
    · rw [if_pos (show i.val < 1 by have e : i.val = (x 0).val := h0; omega)]
      obtain rfl : r = x 1 := Fin.ext h1
      obtain rfl : k = x 2 := Fin.ext h2
      exact (congrArg (fun H : FVec Ideal S512x1024 .bf16 => k0_pay9 (F := Ideal) H (wa m c t) x) (read_h m c t)).trans (pay9_at _ _ _)

end

end Cert.Kernel3Ideal.Fwd

end
-- ==== Proof.FwdFinal.lean ====
module

public import proofs.«01_k».proof.Proof.Fwd

/-! The forward pass of the feed-forward layer: each of its three results is the reference's. -/

@[expose] public section

set_option maxRecDepth 16384

noncomputable section

namespace Cert.Kernel3Ideal.Fwd

open Cert.Kernel3Ideal Cert.Kernel3Ideal.Gen Cert.FwdRef Cert.Reals Idealize.ShloMosaic Idealize.ShloMosaic.TcCoe Idealize.SL.Sem
open Cert.Reference3Ideal.Read
open Idealize.ShloMosaic.Pipeline (Dat)

variable (m : (ℓ : Loc nD τ sig) → Buf (Elt Ideal) ℓ)
variable (c : Dev nD) (hx : ∀ i, IsReal (X m c i)) (hg : ∀ i, IsReal (G m c i)) (hw : ∀ i, IsReal (W m c i))

theorem pair {a b : Nat} (y : (⟨2, ![a, b]⟩ : Shape).Idx) : y = ix2 (y 0) (y 1) :=
  funext fun k => by fin_cases k <;> rfl

theorem triple {a b d : Nat} (y : (⟨3, ![a, b, d]⟩ : Shape).Idx) : y = ix3 (y 0) (y 1) (y 2) :=
  funext fun k => by fin_cases k <;> rfl

/-- A sum over two halves. -/
theorem halves (f : Fin 2816 → EReal) : ∑ k, f k = ∑ k : Fin 1408, f ⟨k.val, by omega⟩ + ∑ k : Fin 1408, f ⟨1408 + k.val, by omega⟩ :=
  Fin.sum_univ_add (a := 1408) (b := 1408) f

include hx hg hw in
/-- The kernel's sigmoid of the gate is the reference's. -/
theorem st_blk (t : Fin cfg0.N) (r : Fin 512) (k : Fin 1408) :
    st (k0_pay5 (F := Ideal) (hb m c t) (wa m c t) (ix2 r k)) = sg (val_main_v14 (F := Ideal) (X m c) (G m c) (W m c) (ix2 (row t r) (unit t k))) := by
  rw [gate_blk]
  exact sigm_tanh (gate_real _ _ _ hx hg hw _ _)

include hx hg hw in
theorem silu_blk (t : Fin cfg0.N) (r : Fin 512) (k : Fin 1408) :
    (k0_pay8 (F := Ideal) (hb m c t) (wa m c t) (ix2 r k) : EReal) = val_main_v16_0 (F := Ideal) (X m c) (G m c) (W m c) (ix2 (row t r) (unit t k)) := by
  rw [silu_at]
  refine (pay8_at _ _ _).trans ?_
  rw [st_blk m c hx hg hw, gate_blk]

include hx hg hw in
theorem fb_blk (t : Fin cfg0.N) (r : Fin 512) (k : Fin 1408) :
    fb m c t (ix2 r k) = val_main_v17 (F := Ideal) (X m c) (G m c) (W m c) (ix2 (row t r) (unit t k)) := by
  rw [f_at]
  exact (pay1_at _ _ _).trans (congrArg₂ (· * ·) (silu_blk m c hx hg hw t r k) (up_blk m c t r k))

include hx hg hw in
theorem tile6 (t : Fin cfg0.N) (r : Fin 512) (k : Fin 1408) :
    ((outsAt0 m c t.val t.isLt).2.2.1 (ix2 r k) : EReal) = val_main_v28 (F := Ideal) (X m c) (G m c) (W m c) (ix2 (row t r) (unit t k)) :=
  (out6_at m c t _).trans ((fb_blk m c hx hg hw t r k).trans (fb_at _ _ _ _ _).symm)

include hx hg hw in
theorem tile5 (t : Fin cfg0.N) (i : Fin 2) (r : Fin 512) (k : Fin 1408) :
    ((outsAt0 m c t.val t.isLt).2.1 (ix3 i r k) : EReal) = val_main_v27 (F := Ideal) (X m c) (G m c) (W m c) (ix3 i (row t r) (unit t k)) := by
  rw [out5_at, fac_at, dup_at, dgate_at _ _ _ hx hg hw, silu_blk m c hx hg hw, st_blk m c hx hg hw, gate_blk, up_blk]

include hx hg hw in
theorem part_blk (t : Fin cfg0.N) (r : Fin 512) (d : Fin 1024) :
    ∑ k : Fin 1408, fb m c t (ix2 r k) * (show FVec Ideal S1408x1024 .bf16 from iblk m c 3 t) (ix2 k d)
      = ∑ k : Fin 1408, val_main_v17 (F := Ideal) (X m c) (G m c) (W m c) (ix2 (row t r) (unit t k)) * W' m c (ix2 (unit t k) d) :=
  Finset.sum_congr rfl fun k _ => congrArg₂ (· * ·) (fb_blk m c hx hg hw t r k) (blk3 m c t k d)

include hx hg hw in
theorem tile4 (t : Fin cfg0.N) (hm : t.val % 2 = 1) (r : Fin 512) (d : Fin 1024) :
    (outsAt0 m c t.val t.isLt).1 (ix2 r d) = val_main_v23 (F := Ideal) (X m c) (G m c) (W m c) (W' m c) (ix2 (row t r) d) := by
  have hN : t.val < 16 := t.isLt
  obtain ⟨s, hs⟩ : ∃ s : Fin cfg0.N, s.val = t.val - 1 := ⟨⟨t.val - 1, Nat.lt_of_le_of_lt (Nat.sub_le _ _) t.isLt⟩, rfl⟩
  have hr : row s r = row t r := Fin.ext (congrArg (fun z => z * 512 + r.val) (show s.val / 2 = t.val / 2 by omega))
  have first := first_at m c s (by omega) (ix2 r d)
  have e : (outsAt0 m c (t.val - 1) (Nat.lt_of_le_of_lt (Nat.sub_le _ _) t.isLt)).2.2.2.2 = (outsAt0 m c s.val s.isLt).2.2.2.2 := by
    obtain ⟨n, hn⟩ := s
    obtain rfl : n = t.val - 1 := hs
    rfl
  rw [next_at m c t (by omega), y_at, halves, ← add_assoc, e]
  refine congrArg₂ (· + ·) (first.trans (congrArg₂ (· + ·) ((blk0 m c s r d).trans (by rw [hr])) ((part_blk m c hx hg hw s r d).trans (Finset.sum_congr rfl fun k _ => ?_))))
    ((part_blk m c hx hg hw t r d).trans (Finset.sum_congr rfl fun k _ => ?_))
  · have u : unit s k = ⟨k.val, by omega⟩ := Fin.ext (show s.val % 2 * 1408 + k.val = k.val by omega)
    rw [u, hr]
  · have u : unit t k = ⟨1408 + k.val, by omega⟩ := Fin.ext (show t.val % 2 * 1408 + k.val = 1408 + k.val by omega)
    rw [u]

include hx hg hw in
/-- The layer's result. -/
theorem final4 : (dats m 0 c).arrAt 4 (cfgs 0).N = val_main_v23 (F := Ideal) (X m c) (G m c) (W m c) (W' m c) := by
  refine (dats m 0 c).arrAt_eq_of_covers 4 _ (by decide +kernel) fun t hf y => ?_
  have hm := (flush0_4 t).mp hf
  rw [after0_4]
  rw [pair y]
  refine (tile4 m c hx hg hw t hm _ _).trans ?_
  exact congrArg (val_main_v23 (F := Ideal) (X m c) (G m c) (W m c) (W' m c)) (show ix2 (row t (y 0)) (y 1) = _ by blk_ext [idx t])

include hx hg hw in
/-- The factors the backward pass multiplies by. -/
theorem final5 : (dats m 0 c).arrAt 5 (cfgs 0).N = val_main_v27 (F := Ideal) (X m c) (G m c) (W m c) := by
  refine (dats m 0 c).arrAt_eq_of_covers 5 _ (by decide +kernel) fun t hf y => ?_
  rw [after0_5]
  rw [triple y]
  refine (tile5 m c hx hg hw t _ _ _).trans ?_
  exact congrArg (val_main_v27 (F := Ideal) (X m c) (G m c) (W m c)) (show ix3 (y 0) (row t (y 1)) (unit t (y 2)) = _ by blk_ext [idx t])

include hx hg hw in
/-- The hidden activations. -/
theorem final6 : (dats m 0 c).arrAt 6 (cfgs 0).N = val_main_v28 (F := Ideal) (X m c) (G m c) (W m c) := by
  refine (dats m 0 c).arrAt_eq_of_covers 6 _ (by decide +kernel) fun t hf y => ?_
  rw [after0_6]
  rw [pair y]
  refine (tile6 m c hx hg hw t _ _).trans ?_
  exact congrArg (val_main_v28 (F := Ideal) (X m c) (G m c) (W m c)) (show ix2 (row t (y 0)) (unit t (y 1)) = _ by blk_ext [idx t])

end Cert.Kernel3Ideal.Fwd

end
-- ==== Proof.FwdPre.lean ====
module

public import proofs.«01_k».proof.Defs
public import proofs.«01_k».proof.Proof.Gen.Pre_finite3
public import proofs.«01_k».proof.Proof.BackPre

/-! The stated condition, read: every entry of the three arguments it names is a real number. -/

@[expose] public section

set_option maxRecDepth 16384

noncomputable section

namespace Cert.Reals

open Idealize.ShloMosaic Idealize.ShloMosaic.TcCoe Idealize.SL.Sem

/-- The condition of the forward call says that each entry of its first three arguments is a real number. -/
theorem of_finite3 (m : (ℓ : Loc Cert.Kernel3Ideal.nD Cert.Kernel3Ideal.τ Cert.Kernel3Ideal.sig) → Buf (Elt Ideal) ℓ)
    (h : Pre_Kernel3Ideal_finite3 m) (c : Dev Cert.Kernel3Ideal.nD) :
    (∀ i, IsReal ((show FVec Ideal Cert.Kernel3Ideal.S4096x1024 .f32 from m ((c.tc : Thread Cert.Kernel3Ideal.nD Cert.Kernel3Ideal.τ).loc Cert.Kernel3Ideal.main_arg0)) i))
    ∧ (∀ i, IsReal ((show FVec Ideal Cert.Kernel3Ideal.S1024 .f32 from m ((c.tc : Thread Cert.Kernel3Ideal.nD Cert.Kernel3Ideal.τ).loc Cert.Kernel3Ideal.main_arg1)) i))
    ∧ (∀ i, IsReal ((show FVec Ideal Cert.Kernel3Ideal.S1024x5632 .f32 from m ((c.tc : Thread Cert.Kernel3Ideal.nD Cert.Kernel3Ideal.τ).loc Cert.Kernel3Ideal.main_arg2)) i)) := by
  obtain ⟨a, b, d⟩ := h c
  have z : Cert.Pre_finite3.S_.Idx := fun k => k.elim0
  have a := congrFun a z
  have b := congrFun b z
  have d := congrFun d z
  dsimp only [Cert.Pre_finite3.fn] at a b d
  exact ⟨real_of_all _ _ _ _ z a, real_of_all _ _ _ _ z b, real_of_all _ _ _ _ z d⟩

end Cert.Reals

end
-- ==== Proof.Claims3.lean ====
module

public import proofs.«01_k».proof.Defs
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.FwdFinal
public import proofs.«01_k».proof.Proof.FwdPre

/-! The forward pass of the feed-forward layer: the call and its reference end with the same three arrays. -/

@[expose] public section

set_option maxRecDepth 16384

noncomputable section

namespace Cert.Proof

open Idealize.ShloMosaic Idealize.ShloMosaic.TcCoe Idealize.SL.Sem

section

open Cert.Reference3Ideal Cert.Reference3Ideal.Read

/-- What the reference leaves, by the names of its values. -/
theorem left3 (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v23) = val_main_v23 (F := Ideal) (m' ((c.tc : Thread nD τ).loc main_arg0)) (m' ((c.tc : Thread nD τ).loc main_arg1)) (m' ((c.tc : Thread nD τ).loc main_arg2)) (m' ((c.tc : Thread nD τ).loc main_arg3))
      ∧ r.2.mem ((c.tc : Thread nD τ).loc main_v27) = val_main_v27 (F := Ideal) (m' ((c.tc : Thread nD τ).loc main_arg0)) (m' ((c.tc : Thread nD τ).loc main_arg1)) (m' ((c.tc : Thread nD τ).loc main_arg2))
      ∧ r.2.mem ((c.tc : Thread nD τ).loc main_v28) = val_main_v28 (F := Ideal) (m' ((c.tc : Thread nD τ).loc main_arg0)) (m' ((c.tc : Thread nD τ).loc main_arg1)) (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) := by
  refine (θ_run _ _ _).mono (fun r h c => ?_) (Cert.Reference3Ideal.Value.run m' g')
  obtain ⟨a, b, d, p⟩ := h c
  exact ⟨a.trans (val_main_v23_eq _ _ _ _), b.trans (val_main_v27_eq m' c), d.trans (val_main_v28_eq _ _ _), p⟩

end

section

open Cert.Kernel3Ideal Cert.Kernel3Ideal.Gen

/-- What the call leaves in its three results and its arguments. -/
theorem kept3 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v5_0) = (dats m 0 c).arrAt 4 (cfgs 0).N
      ∧ r.2.mem ((c.tc : Thread nD τ).loc main_v5_1) = (dats m 0 c).arrAt 5 (cfgs 0).N
      ∧ r.2.mem ((c.tc : Thread nD τ).loc main_v5_2) = (dats m 0 c).arrAt 6 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h.1 c).1 4, (h.1 c).1 5, (h.1 c).1 6, h.2 c⟩) (θ_run_and (run_main m g) (unchanged m g))

end

/-- From equal arguments, the first three of which hold real numbers only, the call and its reference leave equal results. -/
theorem same3 : Cert.algebraic_Kernel3Ideal_Reference3Ideal_pre_finite3 := by
  intro m g m' g' hpre hagree
  refine ⟨fun c => (Cert.Kernel3Ideal.Gen.dats m 0 c).arrAt 4 (Cert.Kernel3Ideal.cfgs 0).N, fun c => (Cert.Kernel3Ideal.Gen.dats m 0 c).arrAt 5 (Cert.Kernel3Ideal.cfgs 0).N,
    fun c => (Cert.Kernel3Ideal.Gen.dats m 0 c).arrAt 6 (Cert.Kernel3Ideal.cfgs 0).N,
    kept3 m g, (θ_run _ _ _).mono (fun r h c => ?_) (left3 m' g')⟩
  obtain ⟨a, b, d, p⟩ := h c
  obtain ⟨h0, h1, h2, h3⟩ := hagree c
  obtain ⟨r0, r1, r2⟩ := Cert.Reals.of_finite3 m hpre c
  rw [h0, h1, h2, h3] at a
  rw [h0, h1, h2] at b d
  exact ⟨a.trans (Cert.Kernel3Ideal.Fwd.final4 m c r0 r1 r2).symm, b.trans (Cert.Kernel3Ideal.Fwd.final5 m c r0 r1 r2).symm,
    d.trans (Cert.Kernel3Ideal.Fwd.final6 m c r0 r1 r2).symm, p⟩

/-- The reference leaves its arguments and its counters as they were. -/
theorem still3 : Cert.quiescent_Reference3Ideal := fun m g _ =>
  (θ_run _ _ _).mono (fun r h => ⟨fun c => (h c).2.2.2, sem_eq_zero_of_no_sems (by decide) r.2⟩) (left3 m g)

end Cert.Proof

end
-- ==== Proof.GateUp.lean ====
module

public import proofs.«01_k».proof.Proof.Gen.Kernel4Ideal.Frame
public import proofs.«01_k».proof.Proof.Gen.Reference4Ideal
public import Idealize.ShloMosaic.Lib.Pipeline.ValueKit

@[expose] public section

set_option maxRecDepth 16384

noncomputable section

namespace Cert.Kernel4Ideal.GateUp

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The reference's result as one term of its two arguments. -/
abbrev REF (a : FVec Ideal S2x4096x2816 .bf16) (h : FVec Ideal S4096x1024 .bf16) : FVec Ideal S2x2816x1024 .bf16 :=
  truncf .bf16 (shapeCast _ (transpose Cert.Reference4Ideal.S5632x1024 [1, 0] (transpose Cert.Reference4Ideal.S1024x5632 [1, 0] (Host.dotGeneral Cert.Reference4Ideal.dot_S4096x5632_S4096x1024_S5632x1024_0_0_1_1_n_n none (concatenate Cert.Reference4Ideal.S4096x5632 1 [⟨Cert.Reference4Ideal.S4096x2816, (shapeCast _ (extractStridedSlice Cert.Reference4Ideal.S1x4096x2816 ![0, 0, 0] (extf .f32 a Cert.Reference4Ideal.Gen.bitsLt_bf16_f32) Cert.Reference4Ideal.Gen.slices_S2x4096x2816_S1x4096x2816_0_0_0) Cert.Reference4Ideal.Gen.shapeCasts_S1x4096x2816_S4096x2816)⟩, ⟨Cert.Reference4Ideal.S4096x2816, (shapeCast _ (extractStridedSlice Cert.Reference4Ideal.S1x4096x2816 ![1, 0, 0] (extf .f32 a Cert.Reference4Ideal.Gen.bitsLt_bf16_f32) Cert.Reference4Ideal.Gen.slices_S2x4096x2816_S1x4096x2816_1_0_0) Cert.Reference4Ideal.Gen.shapeCasts_S1x4096x2816_S4096x2816)⟩] Cert.Reference4Ideal.Gen.concatenates_S4096x2816_S4096x2816_S4096x5632_d1) (extf .f32 h Cert.Reference4Ideal.Gen.bitsLt_bf16_f32)) Cert.Reference4Ideal.Gen.transposes_S5632x1024_S1024x5632_1_0) Cert.Reference4Ideal.Gen.transposes_S1024x5632_S5632x1024_1_0) Cert.Reference4Ideal.Gen.shapeCasts_S5632x1024_S2x2816x1024) Cert.Reference4Ideal.Gen.bitsLt_bf16_f32

theorem idx : ∀ t : Fin cfg0.N, win0_0.index t = ![t.val / 4, t.val % 2, t.val / 2 % 2] ∧ win0_1.index t = ![t.val % 2, 0]
    ∧ win0_2.index t = ![t.val / 4, t.val / 2 % 2, 0] ∧ t.val < 8 :=
  (by decide +kernel : ∀ t : Fin grid0.N, _)

theorem zero_at (j) : k0_pay1 (F := Ideal) j = 0 := by pointwise [k0_pay1]

theorem step_at (acc : FVec Ideal S1408x1024 .f32) (x : FVec Ideal S1x2048x1408 .bf16) (y : FVec Ideal S2048x1024 .bf16) (j) :
    k0_pay2 acc x y j = acc j + ∑ k : Fin 2048, x (ix3 0 k (j 0)) * y (ix2 k (j 1)) := by
  pointwise [k0_pay2]

theorem ref_at (a : FVec Ideal S2x4096x2816 .bf16) (h : FVec Ideal S4096x1024 .bf16) (j) :
    REF a h j = ∑ l : Fin 4096, a (ix3 (j 0) l (j 1)) * h (ix2 l (j 2)) := by
  pointwise [REF]
  refine Fin.sum_fin_congr fun l => ?_
  have h0 : (j 0).val < 2 := (j 0).isLt
  have h1 : (j 1).val < 2816 := (j 1).isLt
  split
  · blk_point []
  · blk_point []

/-- What point `t` adds to the running sum. -/
abbrev part (c : Dev nD) (t : Fin cfg0.N) (j : S1408x1024.Idx) : EReal :=
  ∑ k : Fin 2048, (show FVec Ideal S1x2048x1408 .bf16 from iblk m c 0 t) (ix3 0 k (j 0)) * (show FVec Ideal S2048x1024 .bf16 from iblk m c 1 t) (ix2 k (j 1))

/-- The first point of a run starts the sum from zero. -/
theorem first_at (c : Dev nD) (t : Fin cfg0.N) (h : t.val % 2 = 0) (j) :
    (outsAt0 m c t.val t.isLt).2 j = 0 + part m c t j := by
  rw [outsAt0_A m c t h (by omega)]
  frame_out
  rw [step_at, zero_at]

/-- Every other point of a run adds to what the point before left. -/
theorem next_at (c : Dev nD) (t : Fin cfg0.N) (h : ¬t.val % 2 = 0) (j) :
    (outsAt0 m c t.val t.isLt).2 j = (outsAt0 m c (t.val - 1) (Nat.lt_of_le_of_lt (Nat.sub_le _ _) t.isLt)).2 j + part m c t j := by
  rw [outsAt0_B m c t h (by omega)]
  frame_out
  rw [step_at]
  exact congrArg₂ (· + ·) (congrFun ((Memref.isWhole_whole cc0_scratch0).read_unread _) j) rfl

/-- The last point of a run writes the sum to the result. -/
theorem out_at (c : Dev nD) (t : Fin cfg0.N) (h : t.val % 2 = 1) (y) :
    (outsAt0 m c t.val t.isLt).1 y = k0_pay3 (outsAt0 m c t.val t.isLt).2 y := by
  rw [outsAt0_B m c t (by omega) h]
  frame_out

/-- The result after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hm := (flush0_2 t).mp hf
  rw [after0_2, out_at m c t hm, ref_at]
  pointwise [k0_pay3]
  rw [Pipeline.eq_sum_fin_of_reset_step_apply_of_flush (fun n h => (outsAt0 m c n h).2) 2 (fun _ => 0) (part m c)
    (first_at m c) (next_at m c) t hm _, zero_add]
  refine Fin.sum_mul_add_congr fun s k hl => ?_
  blk_point [iblk, V, idx t, idx ⟨_, Pipeline.run_point_lt_of_flush t hm s⟩]

end Cert.Kernel4Ideal.GateUp

end
-- ==== Proof.Claims4.lean ====
module

public import proofs.«01_k».proof.Defs
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.GateUp

/-! The gradient of the two entry matrices: the call and its reference end with the same array. -/

@[expose] public section

set_option maxRecDepth 16384

noncomputable section

namespace Cert.Proof

open Idealize.ShloMosaic Idealize.ShloMosaic.TcCoe Idealize.SL.Sem

/-- From equal arguments the call and its reference leave equal results. -/
theorem same4 : Cert.algebraic_Kernel4Ideal_Reference4Ideal := by
  pair_intro
  · run_from Cert.Kernel4Ideal.Gen.run_main m g
  · run_from Cert.Reference4Ideal.Value.run m' g'
    exact (Cert.Kernel4Ideal.GateUp.final m c).symm

/-- The reference leaves its arguments and its counters as they were. -/
theorem still4 : Cert.quiescent_Reference4Ideal := fun m g _ =>
  (θ_run _ _ _).mono (fun r h => ⟨fun c => (h c).2, sem_eq_zero_of_no_sems (by decide) r.2⟩) (Cert.Reference4Ideal.Value.run m g)

end Cert.Proof

end
-- ==== Proof.Down.lean ====
module

public import proofs.«01_k».proof.Proof.Gen.Kernel5Ideal.Frame
public import proofs.«01_k».proof.Proof.Gen.Reference5Ideal
public import Idealize.ShloMosaic.Lib.Pipeline.ValueKit

/-! The gradient of the down matrix: the running sum over blocks of rows is the whole product. -/

@[expose] public section

set_option maxRecDepth 16384

noncomputable section

namespace Cert.Kernel5Ideal.Down

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The reference's result as one term of its two arguments. -/
abbrev REF (a : FVec Ideal S4096x2816 .bf16) (y : FVec Ideal S4096x1024 .f32) : FVec Ideal S1x2816x1024 .bf16 :=
  broadcastInDim Cert.Reference5Ideal.S1x2816x1024 ![1, 2] Cert.Reference5Ideal.Gen.bcast_S2816x1024_S1x2816x1024_1_2 (truncf .bf16 (transpose Cert.Reference5Ideal.S2816x1024 [1, 0] (Host.dotGeneral Cert.Reference5Ideal.dot_S4096x1024_S4096x2816_S1024x2816_0_0_1_1_n_n none y (extf .f32 a Cert.Reference5Ideal.Gen.bitsLt_bf16_f32)) Cert.Reference5Ideal.Gen.transposes_S1024x2816_S2816x1024_1_0) Cert.Reference5Ideal.Gen.bitsLt_bf16_f32)

/-- The blocks each point works on. -/
theorem idx : ∀ t : Fin cfg0.N, win0_0.index t = ![0, t.val % 4, t.val / 4] ∧ win0_1.index t = ![t.val % 4, 0]
    ∧ win0_2.index t = ![0, t.val / 4, 0] ∧ t.val < 8 :=
  (by decide +kernel : ∀ t : Fin grid0.N, _)

theorem zero_at (j) : k0_pay1 (F := Ideal) j = 0 := by pointwise [k0_pay1]

theorem step_at (acc : FVec Ideal S1408x1024 .f32) (x : FVec Ideal S1x1024x1408 .bf16) (y : FVec Ideal S1024x1024 .f32) (j) :
    k0_pay2 acc x y j = acc j + ∑ k : Fin 1024, x (ix3 0 k (j 0)) * y (ix2 k (j 1)) := by
  pointwise [k0_pay2]

theorem ref_at (a : FVec Ideal S4096x2816 .bf16) (y : FVec Ideal S4096x1024 .f32) (j) :
    REF a y j = ∑ l : Fin 4096, a (ix2 l (j 1)) * y (ix2 l (j 2)) := by
  pointwise [REF]
  exact Finset.sum_congr rfl fun l _ => mul_comm _ _

/-- What point `t` adds to the running sum. -/
abbrev part (c : Dev nD) (t : Fin cfg0.N) (j : S1408x1024.Idx) : EReal :=
  ∑ k : Fin 1024, (show FVec Ideal S1x1024x1408 .bf16 from iblk m c 0 t) (ix3 0 k (j 0)) * (show FVec Ideal S1024x1024 .f32 from iblk m c 1 t) (ix2 k (j 1))

/-- The first point of a run starts the sum from zero. -/
theorem first_at (c : Dev nD) (t : Fin cfg0.N) (h : t.val % 4 = 0) (j) :
    (outsAt0 m c t.val t.isLt).2 j = 0 + part m c t j := by
  rw [outsAt0_A m c t h (by omega)]
  frame_out
  rw [step_at, zero_at]

/-- Every other point of a run adds to what the point before left. -/
theorem next_at (c : Dev nD) (t : Fin cfg0.N) (h : ¬t.val % 4 = 0) (j) :
    (outsAt0 m c t.val t.isLt).2 j = (outsAt0 m c (t.val - 1) (Nat.lt_of_le_of_lt (Nat.sub_le _ _) t.isLt)).2 j + part m c t j := by
  by_cases h' : t.val % 4 = 3
  · rw [outsAt0_C m c t h h']
    frame_out
    rw [step_at]
    exact congrArg₂ (· + ·) (congrFun ((Memref.isWhole_whole cc0_scratch0).read_unread _) j) rfl
  · rw [outsAt0_B m c t h h']
    frame_out
    rw [step_at]
    exact congrArg₂ (· + ·) (congrFun ((Memref.isWhole_whole cc0_scratch0).read_unread _) j) rfl

/-- The last point of a run writes the sum to the result. -/
theorem out_at (c : Dev nD) (t : Fin cfg0.N) (h : t.val % 4 = 3) (y) :
    (outsAt0 m c t.val t.isLt).1 y = k0_pay3 (outsAt0 m c t.val t.isLt).2 y := by
  rw [outsAt0_C m c t (by omega) h]
  frame_out

/-- The result after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hm := (flush0_2 t).mp hf
  rw [after0_2, out_at m c t hm, ref_at]
  pointwise [k0_pay3]
  rw [Pipeline.eq_sum_fin_of_reset_step_apply_of_flush (fun n h => (outsAt0 m c n h).2) 4 (fun _ => 0) (part m c)
    (first_at m c) (next_at m c) t hm _, zero_add]
  refine Fin.sum_mul_add_congr fun s k hl => ?_
  blk_point [iblk, V, idx t, idx ⟨_, Pipeline.run_point_lt_of_flush t hm s⟩]

end Cert.Kernel5Ideal.Down

end
-- ==== Proof.Claims5.lean ====
module

public import proofs.«01_k».proof.Defs
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import proofs.«01_k».proof.Proof.Down

/-! The gradient of the exit matrix: the call and its reference end with the same array. -/

@[expose] public section

set_option maxRecDepth 16384

noncomputable section

namespace Cert.Proof

open Idealize.ShloMosaic Idealize.ShloMosaic.TcCoe Idealize.SL.Sem

/-- From equal arguments the call and its reference leave equal results. -/
theorem same5 : Cert.algebraic_Kernel5Ideal_Reference5Ideal := by
  pair_intro
  · run_from Cert.Kernel5Ideal.Gen.run_main m g
  · run_from Cert.Reference5Ideal.Value.run m' g'
    exact (Cert.Kernel5Ideal.Down.final m c).symm

/-- The reference leaves its arguments and its counters as they were. -/
theorem still5 : Cert.quiescent_Reference5Ideal := fun m g _ =>
  (θ_run _ _ _).mono (fun r h => ⟨fun c => (h c).2, sem_eq_zero_of_no_sems (by decide) r.2⟩) (Cert.Reference5Ideal.Value.run m g)

end Cert.Proof

end
-- ==== Proof.In.lean ====
module

public import proofs.«01_k».proof.Proof.Gen.Kernel6Ideal.Frame
public import proofs.«01_k».proof.Proof.Gen.Reference6Ideal
public import Idealize.ShloMosaic.Lib.Pipeline.ValueKit

/-! The gradient of the input matrix: the running sum over blocks of rows is the whole product. -/

@[expose] public section

set_option maxRecDepth 16384

noncomputable section

namespace Cert.Kernel6Ideal.In

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- The reference's result as one term of its two arguments. -/
abbrev REF (a : FVec Ideal S4096x1792 .bf16) (y : FVec Ideal S4096x1024 .bf16) : FVec Ideal S1x1792x1024 .bf16 :=
  broadcastInDim Cert.Reference6Ideal.S1x1792x1024 ![1, 2] Cert.Reference6Ideal.Gen.bcast_S1792x1024_S1x1792x1024_1_2 (transpose Cert.Reference6Ideal.S1792x1024 [1, 0] (truncf .bf16 (transpose Cert.Reference6Ideal.S1024x1792 [1, 0] (Host.dotGeneral Cert.Reference6Ideal.dot_S4096x1792_S4096x1024_S1792x1024_0_0_1_1_n_n none (extf .f32 a Cert.Reference6Ideal.Gen.bitsLt_bf16_f32) (extf .f32 y Cert.Reference6Ideal.Gen.bitsLt_bf16_f32)) Cert.Reference6Ideal.Gen.transposes_S1792x1024_S1024x1792_1_0) Cert.Reference6Ideal.Gen.bitsLt_bf16_f32) Cert.Reference6Ideal.Gen.transposes_S1024x1792_S1792x1024_1_0)

/-- The blocks each point works on. -/
theorem idx : ∀ t : Fin cfg0.N, win0_0.index t = ![0, t.val % 2, t.val / 2] ∧ win0_1.index t = ![t.val % 2, 0]
    ∧ win0_2.index t = ![0, t.val / 2, 0] ∧ t.val < 4 :=
  (by decide +kernel : ∀ t : Fin grid0.N, _)

theorem zero_at (j) : k0_pay1 (F := Ideal) j = 0 := by pointwise [k0_pay1]

theorem step_at (acc : FVec Ideal S896x1024 .f32) (x : FVec Ideal S1x2048x896 .bf16) (y : FVec Ideal S2048x1024 .bf16) (j) :
    k0_pay2 acc x y j = acc j + ∑ k : Fin 2048, x (ix3 0 k (j 0)) * y (ix2 k (j 1)) := by
  pointwise [k0_pay2]

theorem ref_at (a : FVec Ideal S4096x1792 .bf16) (y : FVec Ideal S4096x1024 .bf16) (j) :
    REF a y j = ∑ l : Fin 4096, a (ix2 l (j 1)) * y (ix2 l (j 2)) := by
  pointwise [REF]

/-- What point `t` adds to the running sum. -/
abbrev part (c : Dev nD) (t : Fin cfg0.N) (j : S896x1024.Idx) : EReal :=
  ∑ k : Fin 2048, (show FVec Ideal S1x2048x896 .bf16 from iblk m c 0 t) (ix3 0 k (j 0)) * (show FVec Ideal S2048x1024 .bf16 from iblk m c 1 t) (ix2 k (j 1))

/-- The first point of a run starts the sum from zero. -/
theorem first_at (c : Dev nD) (t : Fin cfg0.N) (h : t.val % 2 = 0) (j) :
    (outsAt0 m c t.val t.isLt).2 j = 0 + part m c t j := by
  rw [outsAt0_A m c t h (by omega)]
  frame_out
  rw [step_at, zero_at]

/-- Every other point of a run adds to what the point before left. -/
theorem next_at (c : Dev nD) (t : Fin cfg0.N) (h : ¬t.val % 2 = 0) (j) :
    (outsAt0 m c t.val t.isLt).2 j = (outsAt0 m c (t.val - 1) (Nat.lt_of_le_of_lt (Nat.sub_le _ _) t.isLt)).2 j + part m c t j := by
  rw [outsAt0_B m c t h (by omega)]
  frame_out
  rw [step_at]
  exact congrArg₂ (· + ·) (congrFun ((Memref.isWhole_whole cc0_scratch0).read_unread _) j) rfl

/-- The last point of a run writes the sum to the result. -/
theorem out_at (c : Dev nD) (t : Fin cfg0.N) (h : t.val % 2 = 1) (y) :
    (outsAt0 m c t.val t.isLt).1 y = k0_pay3 (outsAt0 m c t.val t.isLt).2 y := by
  rw [outsAt0_B m c t (by omega) h]
  frame_out

/-- The result after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hm := (flush0_2 t).mp hf
  rw [after0_2, out_at m c t hm, ref_at]
  pointwise [k0_pay3]
  rw [Pipeline.eq_sum_fin_of_reset_step_apply_of_flush (fun n h => (outsAt0 m c n h).2) 2 (fun _ => 0) (part m c)
    (first_at m c) (next_at m c) t hm _, zero_add]
  refine Fin.sum_mul_add_congr fun s k hl => ?_
  blk_point [iblk, V, idx t, idx ⟨_, Pipeline.run_point_lt_of_flush t hm s⟩]

end Cert.Kernel6Ideal.In

end
-- ==== Proof.Claims6.lean ====
module

public import proofs.«01_k».proof.Defs
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import proofs.«01_k».proof.Proof.In

/-! The gradient of the entry projection: the call and its reference end with the same array. -/

@[expose] public section

set_option maxRecDepth 16384

noncomputable section

namespace Cert.Proof

open Idealize.ShloMosaic Idealize.ShloMosaic.TcCoe Idealize.SL.Sem

/-- From equal arguments the call and its reference leave equal results. -/
theorem same6 : Cert.algebraic_Kernel6Ideal_Reference6Ideal := by
  pair_intro
  · run_from Cert.Kernel6Ideal.Gen.run_main m g
  · run_from Cert.Reference6Ideal.Value.run m' g'
    exact (Cert.Kernel6Ideal.In.final m c).symm

/-- The reference leaves its arguments and its counters as they were. -/
theorem still6 : Cert.quiescent_Reference6Ideal := fun m g _ =>
  (θ_run _ _ _).mono (fun r h => ⟨fun c => (h c).2, sem_eq_zero_of_no_sems (by decide) r.2⟩) (Cert.Reference6Ideal.Value.run m g)

end Cert.Proof

end
-- ==== Proof.Out.lean ====
module

public import proofs.«01_k».proof.Proof.Gen.Kernel7Ideal.Frame
public import proofs.«01_k».proof.Proof.Gen.Reference7Ideal
public import Idealize.ShloMosaic.Lib.Pipeline.ValueKit

/-! The gradient of the output matrix: the running sum over blocks of rows is the whole product. -/

@[expose] public section

set_option maxRecDepth 16384

noncomputable section

namespace Cert.Kernel7Ideal.Out

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- The reference's result as one term of its two arguments. -/
abbrev REF (a : FVec Ideal S4096x1024 .bf16) (y : FVec Ideal S4096x1024 .f32) : FVec Ideal S1x1024x1024 .bf16 :=
  broadcastInDim Cert.Reference7Ideal.S1x1024x1024 ![1, 2] Cert.Reference7Ideal.Gen.bcast_S1024x1024_S1x1024x1024_1_2 (truncf .bf16 (transpose Cert.Reference7Ideal.S1024x1024 [1, 0] (Host.dotGeneral Cert.Reference7Ideal.dot_S4096x1024_S4096x1024_S1024x1024_0_0_1_1_n_n none y (extf .f32 a Cert.Reference7Ideal.Gen.bitsLt_bf16_f32)) Cert.Reference7Ideal.Gen.transposes_S1024x1024_S1024x1024_1_0) Cert.Reference7Ideal.Gen.bitsLt_bf16_f32)

/-- The blocks each point works on. -/
theorem idx : ∀ t : Fin cfg0.N, win0_0.index t = ![0, t.val % 4, t.val / 4] ∧ win0_1.index t = ![t.val % 4, 0]
    ∧ win0_2.index t = ![0, t.val / 4, 0] ∧ t.val < 4 :=
  (by decide +kernel : ∀ t : Fin grid0.N, _)

theorem zero_at (j) : k0_pay1 (F := Ideal) j = 0 := by pointwise [k0_pay1]

theorem step_at (acc : FVec Ideal S1024x1024 .f32) (x : FVec Ideal S1x1024x1024 .bf16) (y : FVec Ideal S1024x1024 .f32) (j) :
    k0_pay2 acc x y j = acc j + ∑ k : Fin 1024, x (ix3 0 k (j 0)) * y (ix2 k (j 1)) := by
  pointwise [k0_pay2]

theorem ref_at (a : FVec Ideal S4096x1024 .bf16) (y : FVec Ideal S4096x1024 .f32) (j) :
    REF a y j = ∑ l : Fin 4096, a (ix2 l (j 1)) * y (ix2 l (j 2)) := by
  pointwise [REF]
  exact Finset.sum_congr rfl fun l _ => mul_comm _ _

/-- What point `t` adds to the running sum. -/
abbrev part (c : Dev nD) (t : Fin cfg0.N) (j : S1024x1024.Idx) : EReal :=
  ∑ k : Fin 1024, (show FVec Ideal S1x1024x1024 .bf16 from iblk m c 0 t) (ix3 0 k (j 0)) * (show FVec Ideal S1024x1024 .f32 from iblk m c 1 t) (ix2 k (j 1))

/-- The first point of a run starts the sum from zero. -/
theorem first_at (c : Dev nD) (t : Fin cfg0.N) (h : t.val % 4 = 0) (j) :
    (outsAt0 m c t.val t.isLt).2 j = 0 + part m c t j := by
  rw [outsAt0_A m c t h (by omega)]
  frame_out
  rw [step_at, zero_at]

/-- Every other point of a run adds to what the point before left. -/
theorem next_at (c : Dev nD) (t : Fin cfg0.N) (h : ¬t.val % 4 = 0) (j) :
    (outsAt0 m c t.val t.isLt).2 j = (outsAt0 m c (t.val - 1) (Nat.lt_of_le_of_lt (Nat.sub_le _ _) t.isLt)).2 j + part m c t j := by
  by_cases h' : t.val % 4 = 3
  · rw [outsAt0_C m c t h h']
    frame_out
    rw [step_at]
    exact congrArg₂ (· + ·) (congrFun ((Memref.isWhole_whole cc0_scratch0).read_unread _) j) rfl
  · rw [outsAt0_B m c t h h']
    frame_out
    rw [step_at]
    exact congrArg₂ (· + ·) (congrFun ((Memref.isWhole_whole cc0_scratch0).read_unread _) j) rfl

/-- The last point of a run writes the sum to the result. -/
theorem out_at (c : Dev nD) (t : Fin cfg0.N) (h : t.val % 4 = 3) (y) :
    (outsAt0 m c t.val t.isLt).1 y = k0_pay3 (outsAt0 m c t.val t.isLt).2 y := by
  rw [outsAt0_C m c t (by omega) h]
  frame_out

/-- The result after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hm := (flush0_2 t).mp hf
  rw [after0_2, out_at m c t hm, ref_at]
  pointwise [k0_pay3]
  rw [Pipeline.eq_sum_fin_of_reset_step_apply_of_flush (fun n h => (outsAt0 m c n h).2) 4 (fun _ => 0) (part m c)
    (first_at m c) (next_at m c) t hm _, zero_add]
  refine Fin.sum_mul_add_congr fun s k hl => ?_
  blk_point [iblk, V, idx t, idx ⟨_, Pipeline.run_point_lt_of_flush t hm s⟩]

end Cert.Kernel7Ideal.Out

end
-- ==== Proof.Claims7.lean ====
module

public import proofs.«01_k».proof.Defs
public import proofs.«01_k».proof.Proof.Gen.Kernel7Ideal
public import proofs.«01_k».proof.Proof.Gen.Reference7Ideal
public import proofs.«01_k».proof.Proof.Gen.Reference7Ideal.Run
public import proofs.«01_k».proof.Proof.Gen.Reference7Ideal.Read
public import proofs.«01_k».proof.Proof.Out

/-! The gradient of the exit projection: the call and its reference end with the same array. -/

@[expose] public section

set_option maxRecDepth 16384

noncomputable section

namespace Cert.Proof

open Idealize.ShloMosaic Idealize.ShloMosaic.TcCoe Idealize.SL.Sem

/-- From equal arguments the call and its reference leave equal results. -/
theorem same7 : Cert.algebraic_Kernel7Ideal_Reference7Ideal := by
  pair_intro
  · run_from Cert.Kernel7Ideal.Gen.run_main m g
  · run_from Cert.Reference7Ideal.Value.run m' g'
    exact (Cert.Kernel7Ideal.Out.final m c).symm

/-- The reference leaves its arguments and its counters as they were. -/
theorem still7 : Cert.quiescent_Reference7Ideal := fun m g _ =>
  (θ_run _ _ _).mono (fun r h => ⟨fun c => (h c).2, sem_eq_zero_of_no_sems (by decide) r.2⟩) (Cert.Reference7Ideal.Value.run m g)

end Cert.Proof

end
-- ==== Proof.Pw.lean ====
module

public import proofs.«01_k».proof.Proof.Gen.Kernel8Ideal.Frame
public import proofs.«01_k».proof.Proof.Gen.Reference8Ideal
public import Idealize.ShloMosaic.Lib.Pipeline.ValueKit

/-! The gradient of the pointwise matrix: the running sum over blocks of rows is the whole product. -/

@[expose] public section

set_option maxRecDepth 16384

noncomputable section

namespace Cert.Kernel8Ideal.Pw

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The reference's result as one term of its two arguments. -/
abbrev REF (a : FVec Ideal S4096x384 .bf16) (y : FVec Ideal S4096x384 .bf16) : FVec Ideal S1x384x384 .bf16 :=
  broadcastInDim Cert.Reference8Ideal.S1x384x384 ![1, 2] Cert.Reference8Ideal.Gen.bcast_S384x384_S1x384x384_1_2 (truncf .bf16 (transpose Cert.Reference8Ideal.S384x384 [1, 0] (Host.dotGeneral Cert.Reference8Ideal.dot_S4096x384_S4096x384_S384x384_0_0_1_1_n_n none (extf .f32 y Cert.Reference8Ideal.Gen.bitsLt_bf16_f32) (extf .f32 a Cert.Reference8Ideal.Gen.bitsLt_bf16_f32)) Cert.Reference8Ideal.Gen.transposes_S384x384_S384x384_1_0) Cert.Reference8Ideal.Gen.bitsLt_bf16_f32)

/-- The blocks each point works on. -/
theorem idx : ∀ t : Fin cfg0.N, win0_0.index t = ![0, t.val % 2, t.val / 2] ∧ win0_1.index t = ![t.val % 2, 0]
    ∧ win0_2.index t = ![0, t.val / 2, 0] ∧ t.val < 2 :=
  (by decide +kernel : ∀ t : Fin grid0.N, _)

theorem zero_at (j) : k0_pay1 (F := Ideal) j = 0 := by pointwise [k0_pay1]

theorem step_at (acc : FVec Ideal S384x384 .f32) (x : FVec Ideal S1x2048x384 .bf16) (y : FVec Ideal S2048x384 .bf16) (j) :
    k0_pay2 acc x y j = acc j + ∑ k : Fin 2048, x (ix3 0 k (j 0)) * y (ix2 k (j 1)) := by
  pointwise [k0_pay2]

theorem ref_at (a : FVec Ideal S4096x384 .bf16) (y : FVec Ideal S4096x384 .bf16) (j) :
    REF a y j = ∑ l : Fin 4096, a (ix2 l (j 1)) * y (ix2 l (j 2)) := by
  pointwise [REF]
  exact Finset.sum_congr rfl fun l _ => mul_comm _ _

/-- What point `t` adds to the running sum. -/
abbrev part (c : Dev nD) (t : Fin cfg0.N) (j : S384x384.Idx) : EReal :=
  ∑ k : Fin 2048, (show FVec Ideal S1x2048x384 .bf16 from iblk m c 0 t) (ix3 0 k (j 0)) * (show FVec Ideal S2048x384 .bf16 from iblk m c 1 t) (ix2 k (j 1))

/-- The first point of a run starts the sum from zero. -/
theorem first_at (c : Dev nD) (t : Fin cfg0.N) (h : t.val % 2 = 0) (j) :
    (outsAt0 m c t.val t.isLt).2 j = 0 + part m c t j := by
  rw [outsAt0_A m c t h (by omega)]
  frame_out
  rw [step_at, zero_at]

/-- Every other point of a run adds to what the point before left. -/
theorem next_at (c : Dev nD) (t : Fin cfg0.N) (h : ¬t.val % 2 = 0) (j) :
    (outsAt0 m c t.val t.isLt).2 j = (outsAt0 m c (t.val - 1) (Nat.lt_of_le_of_lt (Nat.sub_le _ _) t.isLt)).2 j + part m c t j := by
  rw [outsAt0_B m c t h (by omega)]
  frame_out
  rw [step_at]
  exact congrArg₂ (· + ·) (congrFun ((Memref.isWhole_whole cc0_scratch0).read_unread _) j) rfl

/-- The last point of a run writes the sum to the result. -/
theorem out_at (c : Dev nD) (t : Fin cfg0.N) (h : t.val % 2 = 1) (y) :
    (outsAt0 m c t.val t.isLt).1 y = k0_pay3 (outsAt0 m c t.val t.isLt).2 y := by
  rw [outsAt0_B m c t (by omega) h]
  frame_out

/-- The result after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hm := (flush0_2 t).mp hf
  rw [after0_2, out_at m c t hm, ref_at]
  pointwise [k0_pay3]
  rw [Pipeline.eq_sum_fin_of_reset_step_apply_of_flush (fun n h => (outsAt0 m c n h).2) 2 (fun _ => 0) (part m c)
    (first_at m c) (next_at m c) t hm _, zero_add]
  refine Fin.sum_mul_add_congr fun s k hl => ?_
  blk_point [iblk, V, idx t, idx ⟨_, Pipeline.run_point_lt_of_flush t hm s⟩]

end Cert.Kernel8Ideal.Pw

end
-- ==== Proof.Claims8.lean ====
module

public import proofs.«01_k».proof.Defs
public import proofs.«01_k».proof.Proof.Gen.Kernel8Ideal
public import proofs.«01_k».proof.Proof.Gen.Reference8Ideal
public import proofs.«01_k».proof.Proof.Gen.Reference8Ideal.Run
public import proofs.«01_k».proof.Proof.Gen.Reference8Ideal.Read
public import proofs.«01_k».proof.Proof.Pw

/-! The gradient of the gate projection: the call and its reference end with the same array. -/

@[expose] public section

set_option maxRecDepth 16384

noncomputable section

namespace Cert.Proof

open Idealize.ShloMosaic Idealize.ShloMosaic.TcCoe Idealize.SL.Sem

/-- From equal arguments the call and its reference leave equal results. -/
theorem same8 : Cert.algebraic_Kernel8Ideal_Reference8Ideal := by
  pair_intro
  · run_from Cert.Kernel8Ideal.Gen.run_main m g
  · run_from Cert.Reference8Ideal.Value.run m' g'
    exact (Cert.Kernel8Ideal.Pw.final m c).symm

/-- The reference leaves its arguments and its counters as they were. -/
theorem still8 : Cert.quiescent_Reference8Ideal := fun m g _ =>
  (θ_run _ _ _).mono (fun r h => ⟨fun c => (h c).2, sem_eq_zero_of_no_sems (by decide) r.2⟩) (Cert.Reference8Ideal.Value.run m g)

end Cert.Proof

end
-- ==== Proof.Adam.lean ====
module

public import Idealize.ShloMosaic.Lib.Pipeline.ValueKit

/-! One step of the optimiser on one number: what it makes of the weight, the gradient and the two moments. -/

@[expose] public section

set_option maxRecDepth 16384

noncomputable section

namespace Cert.Adam

open Idealize.ShloMosaic

/-- The new first moment from the gradient `g` and the old moment `m`. -/
abbrev NM (g m : EReal) : EReal := Ideal.ofBits .f32 0x3F666666#32 * m + Ideal.ofBits .f32 0x3DCCCCCD#32 * g

/-- The new second moment from the gradient `g` and the old moment `v`. -/
abbrev NV (g v : EReal) : EReal := Ideal.ofBits .f32 0x3F7FBE77#32 * v + Ideal.ofBits .f32 0x3A83126F#32 * (g * g)

/-- What the step adds to the weight `w`. -/
abbrev DL (g w m v : EReal) : EReal :=
  Ideal.ofBits .f32 0xBA83126F#32 * (Ideal.div (Ideal.div (NM g m) (Ideal.ofBits .f32 0x3F26BD02#32))
    (Ideal.sqrt (Ideal.div (NV g v) (Ideal.ofBits .f32 0x3C231ACC#32)) + Ideal.ofBits .f32 0x322BCC77#32)
      + Ideal.ofBits .f32 0x3C23D70A#32 * w)

theorem NM_eq {g g' m m' : EReal} (hg : g = g') (hm : m = m') : NM g m = NM g' m' := by rw [hg, hm]

theorem NV_eq {g g' v v' : EReal} (hg : g = g') (hv : v = v') : NV g v = NV g' v' := by rw [hg, hv]

theorem DL_eq {g g' w w' m m' v v' : EReal} (hg : g = g') (hw : w = w') (hm : m = m') (hv : v = v') : DL g w m v = DL g' w' m' v' := by
  rw [hg, hw, hm, hv]

theorem split2 {a b : Nat} (y : (⟨2, ![a, b]⟩ : Shape).Idx) : y = ix2 (y 0) (y 1) :=
  funext fun k => by fin_cases k <;> rfl

theorem split3 {a b d : Nat} (y : (⟨3, ![a, b, d]⟩ : Shape).Idx) : y = ix3 (y 0) (y 1) (y 2) :=
  funext fun k => by fin_cases k <;> rfl

theorem split4 {a b d e : Nat} (y : (⟨4, ![a, b, d, e]⟩ : Shape).Idx) : y = ix4 (y 0) (y 1) (y 2) (y 3) :=
  funext fun k => by fin_cases k <;> rfl

end Cert.Adam

end
-- ==== Proof.Adam9.lean ====
module

public import proofs.«01_k».proof.Proof.Gen.Kernel9Ideal.Frame
public import proofs.«01_k».proof.Proof.Gen.Reference9Ideal.Read
public import proofs.«01_k».proof.Proof.Adam
public import Idealize.ShloMosaic.Lib.Pipeline.ValueKit

/-! The optimiser on the weights of the norms: each of the call's 9 results is the reference's. -/

@[expose] public section

set_option maxRecDepth 16384

noncomputable section

namespace Cert.Kernel9Ideal.Adam

open Cert.Kernel9Ideal Cert.Kernel9Ideal.Gen Cert.Adam Idealize.ShloMosaic Idealize.ShloMosaic.TcCoe Idealize.SL.Sem
open Cert.Reference9Ideal.Read
open Idealize.ShloMosaic.Pipeline (Dat)

variable (m : (ℓ : Loc nD τ sig) → Buf (Elt Ideal) ℓ)

abbrev A0 (c : Dev nD) : FVec Ideal S2x1024 .f32 := m ((c : Thread nD τ).loc main_arg0)
abbrev A1 (c : Dev nD) : FVec Ideal S2x1024 .f32 := m ((c : Thread nD τ).loc main_arg1)
abbrev A2 (c : Dev nD) : FVec Ideal S1024 .f32 := m ((c : Thread nD τ).loc main_arg2)
abbrev A3 (c : Dev nD) : FVec Ideal S2x1024 .f32 := m ((c : Thread nD τ).loc main_arg3)
abbrev A4 (c : Dev nD) : FVec Ideal S2x1024 .f32 := m ((c : Thread nD τ).loc main_arg4)
abbrev A5 (c : Dev nD) : FVec Ideal S1024 .f32 := m ((c : Thread nD τ).loc main_arg5)
abbrev A6 (c : Dev nD) : FVec Ideal S2x1024 .f32 := m ((c : Thread nD τ).loc main_arg6)
abbrev A7 (c : Dev nD) : FVec Ideal S2x1024 .f32 := m ((c : Thread nD τ).loc main_arg7)
abbrev A8 (c : Dev nD) : FVec Ideal S1024 .f32 := m ((c : Thread nD τ).loc main_arg8)
abbrev A9 (c : Dev nD) : FVec Ideal S2x1024 .f32 := m ((c : Thread nD τ).loc main_arg9)
abbrev A10 (c : Dev nD) : FVec Ideal S2x1024 .f32 := m ((c : Thread nD τ).loc main_arg10)
abbrev A11 (c : Dev nD) : FVec Ideal S1024 .f32 := m ((c : Thread nD τ).loc main_arg11)

/-- There is one point, and its blocks are the whole arrays. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0] :=
  (by decide +kernel : ∀ t : Fin grid0.N, _)

/-! ## The blocks at an index -/

theorem blk0 (c : Dev nD) (t : Fin cfg0.N) (i : Fin 2) (r : Fin 1024) : (show FVec Ideal S2x1024 .f32 from iblk m c 0 t) (ix2 i r) = A0 m c (ix2 i r) := by
  blk_point [iblk, V, idx t]

theorem blk1 (c : Dev nD) (t : Fin cfg0.N) (i : Fin 2) (r : Fin 1024) : (show FVec Ideal S2x1024 .f32 from iblk m c 1 t) (ix2 i r) = A1 m c (ix2 i r) := by
  blk_point [iblk, V, idx t]

theorem host2 (c : Dev nD) (i : Fin 1) (r : Fin 1024) : (show FVec Ideal S1x1024 .f32 from V m c main_v0) (ix2 i r) = A2 m c (ix1 r) := by
  entry_read
  pointwise []

theorem blk2_of (B : FVec Ideal S1x1024 .f32) (t : Fin cfg0.N) (i : Fin 1) (r : Fin 1024) :
    (show FVec Ideal S1x1024 .f32 from ((cfg0.win 2).blk t).view.read (Elt Ideal) B) (ix2 i r) = B (ix2 i r) := by
  refine congrArg B ?_
  blk_ext [idx t]

theorem blk2 (c : Dev nD) (t : Fin cfg0.N) (i : Fin 1) (r : Fin 1024) : (show FVec Ideal S1x1024 .f32 from iblk m c 2 t) (ix2 i r) = A2 m c (ix1 r) :=
  (blk2_of _ t i r).trans (host2 m c i r)

theorem blk3 (c : Dev nD) (t : Fin cfg0.N) (i : Fin 2) (r : Fin 1024) : (show FVec Ideal S2x1024 .f32 from iblk m c 3 t) (ix2 i r) = A3 m c (ix2 i r) := by
  blk_point [iblk, V, idx t]

theorem blk4 (c : Dev nD) (t : Fin cfg0.N) (i : Fin 2) (r : Fin 1024) : (show FVec Ideal S2x1024 .f32 from iblk m c 4 t) (ix2 i r) = A4 m c (ix2 i r) := by
  blk_point [iblk, V, idx t]

theorem host5 (c : Dev nD) (i : Fin 1) (r : Fin 1024) : (show FVec Ideal S1x1024 .f32 from V m c main_v1) (ix2 i r) = A5 m c (ix1 r) := by
  entry_read
  pointwise []

theorem blk5_of (B : FVec Ideal S1x1024 .f32) (t : Fin cfg0.N) (i : Fin 1) (r : Fin 1024) :
    (show FVec Ideal S1x1024 .f32 from ((cfg0.win 5).blk t).view.read (Elt Ideal) B) (ix2 i r) = B (ix2 i r) := by
  refine congrArg B ?_
  blk_ext [idx t]

theorem blk5 (c : Dev nD) (t : Fin cfg0.N) (i : Fin 1) (r : Fin 1024) : (show FVec Ideal S1x1024 .f32 from iblk m c 5 t) (ix2 i r) = A5 m c (ix1 r) :=
  (blk5_of _ t i r).trans (host5 m c i r)

theorem blk6 (c : Dev nD) (t : Fin cfg0.N) (i : Fin 2) (r : Fin 1024) : (show FVec Ideal S2x1024 .f32 from iblk m c 6 t) (ix2 i r) = A6 m c (ix2 i r) := by
  blk_point [iblk, V, idx t]

theorem blk7 (c : Dev nD) (t : Fin cfg0.N) (i : Fin 2) (r : Fin 1024) : (show FVec Ideal S2x1024 .f32 from iblk m c 7 t) (ix2 i r) = A7 m c (ix2 i r) := by
  blk_point [iblk, V, idx t]

theorem host8 (c : Dev nD) (i : Fin 1) (r : Fin 1024) : (show FVec Ideal S1x1024 .f32 from V m c main_v2) (ix2 i r) = A8 m c (ix1 r) := by
  entry_read
  pointwise []

theorem blk8_of (B : FVec Ideal S1x1024 .f32) (t : Fin cfg0.N) (i : Fin 1) (r : Fin 1024) :
    (show FVec Ideal S1x1024 .f32 from ((cfg0.win 8).blk t).view.read (Elt Ideal) B) (ix2 i r) = B (ix2 i r) := by
  refine congrArg B ?_
  blk_ext [idx t]

theorem blk8 (c : Dev nD) (t : Fin cfg0.N) (i : Fin 1) (r : Fin 1024) : (show FVec Ideal S1x1024 .f32 from iblk m c 8 t) (ix2 i r) = A8 m c (ix1 r) :=
  (blk8_of _ t i r).trans (host8 m c i r)

theorem blk9 (c : Dev nD) (t : Fin cfg0.N) (i : Fin 2) (r : Fin 1024) : (show FVec Ideal S2x1024 .f32 from iblk m c 9 t) (ix2 i r) = A9 m c (ix2 i r) := by
  blk_point [iblk, V, idx t]

theorem blk10 (c : Dev nD) (t : Fin cfg0.N) (i : Fin 2) (r : Fin 1024) : (show FVec Ideal S2x1024 .f32 from iblk m c 10 t) (ix2 i r) = A10 m c (ix2 i r) := by
  blk_point [iblk, V, idx t]

theorem host11 (c : Dev nD) (i : Fin 1) (r : Fin 1024) : (show FVec Ideal S1x1024 .f32 from V m c main_v3) (ix2 i r) = A11 m c (ix1 r) := by
  entry_read
  pointwise []

theorem blk11_of (B : FVec Ideal S1x1024 .f32) (t : Fin cfg0.N) (i : Fin 1) (r : Fin 1024) :
    (show FVec Ideal S1x1024 .f32 from ((cfg0.win 11).blk t).view.read (Elt Ideal) B) (ix2 i r) = B (ix2 i r) := by
  refine congrArg B ?_
  blk_ext [idx t]

theorem blk11 (c : Dev nD) (t : Fin cfg0.N) (i : Fin 1) (r : Fin 1024) : (show FVec Ideal S1x1024 .f32 from iblk m c 11 t) (ix2 i r) = A11 m c (ix1 r) :=
  (blk11_of _ t i r).trans (host11 m c i r)

/-! ## The results -/

theorem pay12 (x0 x3 x6 x9 : FVec Ideal S2x1024 .f32) (i : Fin 2) (r : Fin 1024) :
    (k0_pay7 (F := Ideal) x3 x0 x6 x9 (ix2 i r) : EReal) = DL (x0 (ix2 i r)) (x3 (ix2 i r)) (x6 (ix2 i r)) (x9 (ix2 i r)) := by
  pointwise [k0_pay7, k0_pay5, k0_pay6]

theorem ref12 (x0 x3 x6 x9 : FVec Ideal S2x1024 .f32) (i : Fin 2) (r : Fin 1024) :
    (val_main_v23 (F := Ideal) x0 x3 x6 x9 (ix2 i r) : EReal) = DL (x0 (ix2 i r)) (x3 (ix2 i r)) (x6 (ix2 i r)) (x9 (ix2 i r)) := by
  pointwise [val_main_v23, val_main_v22, val_main_v21, val_main_cst_7, val_main_v18, val_main_v20, val_main_v12, val_main_v17, val_main_v19, val_main_v4, val_main_v11, val_main_v15, val_main_v16, val_main_cst_6, val_main_v1, val_main_v3, val_main_cst_3, val_main_v14, val_main_cst_5, val_main_v0, val_main_v2, val_main_v10, val_main_v13, val_main_cst, val_main_cst_0, val_main_v6, val_main_v9, val_main_cst_4, val_main_v5, val_main_v8, val_main_v7, val_main_cst_1, val_main_cst_2]

theorem tile12 (c : Dev nD) (t : Fin cfg0.N) (i : Fin 2) (r : Fin 1024) :
    (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 i r) : EReal) = val_main_v23 (F := Ideal) (A0 m c) (A3 m c) (A6 m c) (A9 m c) (ix2 i r) := by
  rw [ref12]
  unfold out0_12
  frame_out
  exact (pay12 (iblk m c 0 t) (iblk m c 3 t) (iblk m c 6 t) (iblk m c 9 t) i r).trans (DL_eq (blk0 m c t i r) (blk3 m c t i r) (blk6 m c t i r) (blk9 m c t i r))

theorem all12 (c : Dev nD) (t : Fin cfg0.N) (y : S2x1024.Idx) :
    (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y : EReal) = val_main_v23 (F := Ideal) (A0 m c) (A3 m c) (A6 m c) (A9 m c) y := by
  rw [split2 y]
  exact tile12 m c t (y 0) (y 1)

theorem final12 (c : Dev nD) : (dats m 0 c).arrAt 12 (cfgs 0).N = val_main_v23 (F := Ideal) (A0 m c) (A3 m c) (A6 m c) (A9 m c) := by
  refine (dats m 0 c).arrAt_eq_of_covers 12 _ (by decide +kernel) fun t hf y => ?_
  blk_simp
  rw [after0_12]
  have a := all12 m c t
  generalize out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = q at a ⊢
  have e : (win0_12.blk t).view.emb y = y := by
    blk_ext [idx t]
  exact (a y).trans (congrArg (val_main_v23 (F := Ideal) (A0 m c) (A3 m c) (A6 m c) (A9 m c)) e).symm

theorem pay13 (x1 x4 x7 x10 : FVec Ideal S2x1024 .f32) (i : Fin 2) (r : Fin 1024) :
    (k0_pay10 (F := Ideal) x4 x1 x7 x10 (ix2 i r) : EReal) = DL (x1 (ix2 i r)) (x4 (ix2 i r)) (x7 (ix2 i r)) (x10 (ix2 i r)) := by
  pointwise [k0_pay10, k0_pay8, k0_pay9]

theorem ref13 (x1 x4 x7 x10 : FVec Ideal S2x1024 .f32) (i : Fin 2) (r : Fin 1024) :
    (val_main_v47 (F := Ideal) x1 x4 x7 x10 (ix2 i r) : EReal) = DL (x1 (ix2 i r)) (x4 (ix2 i r)) (x7 (ix2 i r)) (x10 (ix2 i r)) := by
  pointwise [val_main_v47, val_main_v46, val_main_v45, val_main_cst_16, val_main_v42, val_main_v44, val_main_v36, val_main_v41, val_main_v43, val_main_v28, val_main_v35, val_main_v39, val_main_v40, val_main_cst_15, val_main_v25, val_main_v27, val_main_cst_12, val_main_v38, val_main_cst_14, val_main_v24, val_main_v26, val_main_v34, val_main_v37, val_main_cst_8, val_main_cst_9, val_main_v30, val_main_v33, val_main_cst_13, val_main_v29, val_main_v32, val_main_v31, val_main_cst_10, val_main_cst_11]

theorem tile13 (c : Dev nD) (t : Fin cfg0.N) (i : Fin 2) (r : Fin 1024) :
    (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 i r) : EReal) = val_main_v47 (F := Ideal) (A1 m c) (A4 m c) (A7 m c) (A10 m c) (ix2 i r) := by
  rw [ref13]
  unfold out0_13
  frame_out
  exact (pay13 (iblk m c 1 t) (iblk m c 4 t) (iblk m c 7 t) (iblk m c 10 t) i r).trans (DL_eq (blk1 m c t i r) (blk4 m c t i r) (blk7 m c t i r) (blk10 m c t i r))

theorem all13 (c : Dev nD) (t : Fin cfg0.N) (y : S2x1024.Idx) :
    (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y : EReal) = val_main_v47 (F := Ideal) (A1 m c) (A4 m c) (A7 m c) (A10 m c) y := by
  rw [split2 y]
  exact tile13 m c t (y 0) (y 1)

theorem final13 (c : Dev nD) : (dats m 0 c).arrAt 13 (cfgs 0).N = val_main_v47 (F := Ideal) (A1 m c) (A4 m c) (A7 m c) (A10 m c) := by
  refine (dats m 0 c).arrAt_eq_of_covers 13 _ (by decide +kernel) fun t hf y => ?_
  blk_simp
  rw [after0_13]
  have a := all13 m c t
  generalize out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = q at a ⊢
  have e : (win0_13.blk t).view.emb y = y := by
    blk_ext [idx t]
  exact (a y).trans (congrArg (val_main_v47 (F := Ideal) (A1 m c) (A4 m c) (A7 m c) (A10 m c)) e).symm

theorem pay14 (x2 x5 x8 x11 : FVec Ideal S1x1024 .f32) (i : Fin 1) (r : Fin 1024) :
    (k0_pay4 (F := Ideal) (k0_pay11 x5) x2 x8 x11 (ix2 i r) : EReal) = DL (x2 (ix2 i r)) (x5 (ix2 i r)) (x8 (ix2 i r)) (x11 (ix2 i r)) := by
  pointwise [k0_pay4, k0_pay11, k0_pay2, k0_pay3, k0_pay1]

theorem ref14 (x2 x5 x8 x11 : FVec Ideal S1024 .f32) (i : Fin 1) (r : Fin 1024) :
    (val_main_v72 (F := Ideal) x2 x5 x8 x11 (ix2 i r) : EReal) = DL (x2 (ix1 r)) (x5 (ix1 r)) (x8 (ix1 r)) (x11 (ix1 r)) := by
  pointwise [val_main_v72, val_main_v71, val_main_v70, val_main_v69, val_main_cst_25, val_main_v66, val_main_v68, val_main_v60, val_main_v65, val_main_v67, val_main_v52, val_main_v59, val_main_v63, val_main_v64, val_main_cst_24, val_main_v49, val_main_v51, val_main_cst_21, val_main_v62, val_main_cst_23, val_main_v48, val_main_v50, val_main_v58, val_main_v61, val_main_cst_17, val_main_cst_18, val_main_v54, val_main_v57, val_main_cst_22, val_main_v53, val_main_v56, val_main_v55, val_main_cst_19, val_main_cst_20]

theorem tile14 (c : Dev nD) (t : Fin cfg0.N) (i : Fin 1) (r : Fin 1024) :
    (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 i r) : EReal) = val_main_v72 (F := Ideal) (A2 m c) (A5 m c) (A8 m c) (A11 m c) (ix2 i r) := by
  rw [ref14]
  unfold out0_14
  frame_out
  exact (pay14 (iblk m c 2 t) (iblk m c 5 t) (iblk m c 8 t) (iblk m c 11 t) i r).trans (DL_eq (blk2 m c t i r) (blk5 m c t i r) (blk8 m c t i r) (blk11 m c t i r))

theorem all14 (c : Dev nD) (t : Fin cfg0.N) (y : S1x1024.Idx) :
    (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y : EReal) = val_main_v72 (F := Ideal) (A2 m c) (A5 m c) (A8 m c) (A11 m c) y := by
  rw [split2 y]
  exact tile14 m c t (y 0) (y 1)

theorem final14 (c : Dev nD) : (dats m 0 c).arrAt 14 (cfgs 0).N = val_main_v72 (F := Ideal) (A2 m c) (A5 m c) (A8 m c) (A11 m c) := by
  refine (dats m 0 c).arrAt_eq_of_covers 14 _ (by decide +kernel) fun t hf y => ?_
  blk_simp
  rw [after0_14]
  have a := all14 m c t
  generalize out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = q at a ⊢
  have e : (win0_14.blk t).view.emb y = y := by
    blk_ext [idx t]
  exact (a y).trans (congrArg (val_main_v72 (F := Ideal) (A2 m c) (A5 m c) (A8 m c) (A11 m c)) e).symm

theorem pay15 (x0 x6 : FVec Ideal S2x1024 .f32) (i : Fin 2) (r : Fin 1024) :
    (k0_pay5 (F := Ideal) x0 x6 (ix2 i r) : EReal) = NM (x0 (ix2 i r)) (x6 (ix2 i r)) := by
  pointwise [k0_pay5]

theorem ref15 (x0 x6 : FVec Ideal S2x1024 .f32) (i : Fin 2) (r : Fin 1024) :
    (val_main_v4 (F := Ideal) x0 x6 (ix2 i r) : EReal) = NM (x0 (ix2 i r)) (x6 (ix2 i r)) := by
  pointwise [val_main_v4, val_main_v1, val_main_v3, val_main_v0, val_main_v2, val_main_cst, val_main_cst_0]

theorem tile15 (c : Dev nD) (t : Fin cfg0.N) (i : Fin 2) (r : Fin 1024) :
    (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 i r) : EReal) = val_main_v4 (F := Ideal) (A0 m c) (A6 m c) (ix2 i r) := by
  rw [ref15]
  unfold out0_15
  frame_out
  exact (pay15 (iblk m c 0 t) (iblk m c 6 t) i r).trans (NM_eq (blk0 m c t i r) (blk6 m c t i r))

theorem all15 (c : Dev nD) (t : Fin cfg0.N) (y : S2x1024.Idx) :
    (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y : EReal) = val_main_v4 (F := Ideal) (A0 m c) (A6 m c) y := by
  rw [split2 y]
  exact tile15 m c t (y 0) (y 1)

theorem final15 (c : Dev nD) : (dats m 0 c).arrAt 15 (cfgs 0).N = val_main_v4 (F := Ideal) (A0 m c) (A6 m c) := by
  refine (dats m 0 c).arrAt_eq_of_covers 15 _ (by decide +kernel) fun t hf y => ?_
  blk_simp
  rw [after0_15]
  have a := all15 m c t
  generalize out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = q at a ⊢
  have e : (win0_15.blk t).view.emb y = y := by
    blk_ext [idx t]
  exact (a y).trans (congrArg (val_main_v4 (F := Ideal) (A0 m c) (A6 m c)) e).symm

theorem pay16 (x1 x7 : FVec Ideal S2x1024 .f32) (i : Fin 2) (r : Fin 1024) :
    (k0_pay8 (F := Ideal) x1 x7 (ix2 i r) : EReal) = NM (x1 (ix2 i r)) (x7 (ix2 i r)) := by
  pointwise [k0_pay8]

theorem ref16 (x1 x7 : FVec Ideal S2x1024 .f32) (i : Fin 2) (r : Fin 1024) :
    (val_main_v28 (F := Ideal) x1 x7 (ix2 i r) : EReal) = NM (x1 (ix2 i r)) (x7 (ix2 i r)) := by
  pointwise [val_main_v28, val_main_v25, val_main_v27, val_main_v24, val_main_v26, val_main_cst_8, val_main_cst_9]

theorem tile16 (c : Dev nD) (t : Fin cfg0.N) (i : Fin 2) (r : Fin 1024) :
    (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 i r) : EReal) = val_main_v28 (F := Ideal) (A1 m c) (A7 m c) (ix2 i r) := by
  rw [ref16]
  unfold out0_16
  frame_out
  exact (pay16 (iblk m c 1 t) (iblk m c 7 t) i r).trans (NM_eq (blk1 m c t i r) (blk7 m c t i r))

theorem all16 (c : Dev nD) (t : Fin cfg0.N) (y : S2x1024.Idx) :
    (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y : EReal) = val_main_v28 (F := Ideal) (A1 m c) (A7 m c) y := by
  rw [split2 y]
  exact tile16 m c t (y 0) (y 1)

theorem final16 (c : Dev nD) : (dats m 0 c).arrAt 16 (cfgs 0).N = val_main_v28 (F := Ideal) (A1 m c) (A7 m c) := by
  refine (dats m 0 c).arrAt_eq_of_covers 16 _ (by decide +kernel) fun t hf y => ?_
  blk_simp
  rw [after0_16]
  have a := all16 m c t
  generalize out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = q at a ⊢
  have e : (win0_16.blk t).view.emb y = y := by
    blk_ext [idx t]
  exact (a y).trans (congrArg (val_main_v28 (F := Ideal) (A1 m c) (A7 m c)) e).symm

theorem pay17 (x2 x8 : FVec Ideal S1x1024 .f32) (i : Fin 1) (r : Fin 1024) :
    (k0_pay2 (F := Ideal) x2 x8 (ix2 i r) : EReal) = NM (x2 (ix2 i r)) (x8 (ix2 i r)) := by
  pointwise [k0_pay2, k0_pay1]

theorem ref17 (x2 x8 : FVec Ideal S1024 .f32) (i : Fin 1) (r : Fin 1024) :
    (val_main_v73 (F := Ideal) x2 x8 (ix2 i r) : EReal) = NM (x2 (ix1 r)) (x8 (ix1 r)) := by
  pointwise [val_main_v73, val_main_v52, val_main_v49, val_main_v51, val_main_v48, val_main_v50, val_main_cst_17, val_main_cst_18]

theorem tile17 (c : Dev nD) (t : Fin cfg0.N) (i : Fin 1) (r : Fin 1024) :
    (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 i r) : EReal) = val_main_v73 (F := Ideal) (A2 m c) (A8 m c) (ix2 i r) := by
  rw [ref17]
  unfold out0_17
  frame_out
  exact (pay17 (iblk m c 2 t) (iblk m c 8 t) i r).trans (NM_eq (blk2 m c t i r) (blk8 m c t i r))

theorem all17 (c : Dev nD) (t : Fin cfg0.N) (y : S1x1024.Idx) :
    (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y : EReal) = val_main_v73 (F := Ideal) (A2 m c) (A8 m c) y := by
  rw [split2 y]
  exact tile17 m c t (y 0) (y 1)

theorem final17 (c : Dev nD) : (dats m 0 c).arrAt 17 (cfgs 0).N = val_main_v73 (F := Ideal) (A2 m c) (A8 m c) := by
  refine (dats m 0 c).arrAt_eq_of_covers 17 _ (by decide +kernel) fun t hf y => ?_
  blk_simp
  rw [after0_17]
  have a := all17 m c t
  generalize out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = q at a ⊢
  have e : (win0_17.blk t).view.emb y = y := by
    blk_ext [idx t]
  exact (a y).trans (congrArg (val_main_v73 (F := Ideal) (A2 m c) (A8 m c)) e).symm

theorem pay18 (x0 x9 : FVec Ideal S2x1024 .f32) (i : Fin 2) (r : Fin 1024) :
    (k0_pay6 (F := Ideal) x0 x9 (ix2 i r) : EReal) = NV (x0 (ix2 i r)) (x9 (ix2 i r)) := by
  pointwise [k0_pay6]

theorem ref18 (x0 x9 : FVec Ideal S2x1024 .f32) (i : Fin 2) (r : Fin 1024) :
    (val_main_v10 (F := Ideal) x0 x9 (ix2 i r) : EReal) = NV (x0 (ix2 i r)) (x9 (ix2 i r)) := by
  pointwise [val_main_v10, val_main_v6, val_main_v9, val_main_v5, val_main_v8, val_main_v7, val_main_cst_1, val_main_cst_2]

theorem tile18 (c : Dev nD) (t : Fin cfg0.N) (i : Fin 2) (r : Fin 1024) :
    (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 i r) : EReal) = val_main_v10 (F := Ideal) (A0 m c) (A9 m c) (ix2 i r) := by
  rw [ref18]
  unfold out0_18
  frame_out
  exact (pay18 (iblk m c 0 t) (iblk m c 9 t) i r).trans (NV_eq (blk0 m c t i r) (blk9 m c t i r))

theorem all18 (c : Dev nD) (t : Fin cfg0.N) (y : S2x1024.Idx) :
    (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y : EReal) = val_main_v10 (F := Ideal) (A0 m c) (A9 m c) y := by
  rw [split2 y]
  exact tile18 m c t (y 0) (y 1)

theorem final18 (c : Dev nD) : (dats m 0 c).arrAt 18 (cfgs 0).N = val_main_v10 (F := Ideal) (A0 m c) (A9 m c) := by
  refine (dats m 0 c).arrAt_eq_of_covers 18 _ (by decide +kernel) fun t hf y => ?_
  blk_simp
  rw [after0_18]
  have a := all18 m c t
  generalize out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = q at a ⊢
  have e : (win0_18.blk t).view.emb y = y := by
    blk_ext [idx t]
  exact (a y).trans (congrArg (val_main_v10 (F := Ideal) (A0 m c) (A9 m c)) e).symm

theorem pay19 (x1 x10 : FVec Ideal S2x1024 .f32) (i : Fin 2) (r : Fin 1024) :
    (k0_pay9 (F := Ideal) x1 x10 (ix2 i r) : EReal) = NV (x1 (ix2 i r)) (x10 (ix2 i r)) := by
  pointwise [k0_pay9]

theorem ref19 (x1 x10 : FVec Ideal S2x1024 .f32) (i : Fin 2) (r : Fin 1024) :
    (val_main_v34 (F := Ideal) x1 x10 (ix2 i r) : EReal) = NV (x1 (ix2 i r)) (x10 (ix2 i r)) := by
  pointwise [val_main_v34, val_main_v30, val_main_v33, val_main_v29, val_main_v32, val_main_v31, val_main_cst_10, val_main_cst_11]

theorem tile19 (c : Dev nD) (t : Fin cfg0.N) (i : Fin 2) (r : Fin 1024) :
    (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 i r) : EReal) = val_main_v34 (F := Ideal) (A1 m c) (A10 m c) (ix2 i r) := by
  rw [ref19]
  unfold out0_19
  frame_out
  exact (pay19 (iblk m c 1 t) (iblk m c 10 t) i r).trans (NV_eq (blk1 m c t i r) (blk10 m c t i r))

theorem all19 (c : Dev nD) (t : Fin cfg0.N) (y : S2x1024.Idx) :
    (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y : EReal) = val_main_v34 (F := Ideal) (A1 m c) (A10 m c) y := by
  rw [split2 y]
  exact tile19 m c t (y 0) (y 1)

theorem final19 (c : Dev nD) : (dats m 0 c).arrAt 19 (cfgs 0).N = val_main_v34 (F := Ideal) (A1 m c) (A10 m c) := by
  refine (dats m 0 c).arrAt_eq_of_covers 19 _ (by decide +kernel) fun t hf y => ?_
  blk_simp
  rw [after0_19]
  have a := all19 m c t
  generalize out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = q at a ⊢
  have e : (win0_19.blk t).view.emb y = y := by
    blk_ext [idx t]
  exact (a y).trans (congrArg (val_main_v34 (F := Ideal) (A1 m c) (A10 m c)) e).symm

theorem pay20 (x2 x11 : FVec Ideal S1x1024 .f32) (i : Fin 1) (r : Fin 1024) :
    (k0_pay3 (F := Ideal) x2 x11 (ix2 i r) : EReal) = NV (x2 (ix2 i r)) (x11 (ix2 i r)) := by
  pointwise [k0_pay3, k0_pay1]

theorem ref20 (x2 x11 : FVec Ideal S1024 .f32) (i : Fin 1) (r : Fin 1024) :
    (val_main_v74 (F := Ideal) x2 x11 (ix2 i r) : EReal) = NV (x2 (ix1 r)) (x11 (ix1 r)) := by
  pointwise [val_main_v74, val_main_v58, val_main_v54, val_main_v57, val_main_v53, val_main_v56, val_main_v55, val_main_cst_19, val_main_cst_20]

theorem tile20 (c : Dev nD) (t : Fin cfg0.N) (i : Fin 1) (r : Fin 1024) :
    (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 i r) : EReal) = val_main_v74 (F := Ideal) (A2 m c) (A11 m c) (ix2 i r) := by
  rw [ref20]
  unfold out0_20
  frame_out
  exact (pay20 (iblk m c 2 t) (iblk m c 11 t) i r).trans (NV_eq (blk2 m c t i r) (blk11 m c t i r))

theorem all20 (c : Dev nD) (t : Fin cfg0.N) (y : S1x1024.Idx) :
    (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y : EReal) = val_main_v74 (F := Ideal) (A2 m c) (A11 m c) y := by
  rw [split2 y]
  exact tile20 m c t (y 0) (y 1)

theorem final20 (c : Dev nD) : (dats m 0 c).arrAt 20 (cfgs 0).N = val_main_v74 (F := Ideal) (A2 m c) (A11 m c) := by
  refine (dats m 0 c).arrAt_eq_of_covers 20 _ (by decide +kernel) fun t hf y => ?_
  blk_simp
  rw [after0_20]
  have a := all20 m c t
  generalize out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = q at a ⊢
  have e : (win0_20.blk t).view.emb y = y := by
    blk_ext [idx t]
  exact (a y).trans (congrArg (val_main_v74 (F := Ideal) (A2 m c) (A11 m c)) e).symm

end Cert.Kernel9Ideal.Adam

end
-- ==== Proof.Claims9.lean ====
module

public import proofs.«01_k».proof.Defs
public import proofs.«01_k».proof.Proof.Gen.Kernel9Ideal
public import proofs.«01_k».proof.Proof.Gen.Reference9Ideal
public import proofs.«01_k».proof.Proof.Gen.Reference9Ideal.Run
public import proofs.«01_k».proof.Proof.Gen.Reference9Ideal.Read
public import proofs.«01_k».proof.Proof.Adam9

/-! The optimiser on the weights of the norms: the call and its reference end with the same 9 arrays. -/

@[expose] public section

set_option maxRecDepth 16384

noncomputable section

namespace Cert.Proof

open Idealize.ShloMosaic Idealize.ShloMosaic.TcCoe Idealize.SL.Sem

section

open Cert.Reference9Ideal Cert.Reference9Ideal.Read

/-- What the reference leaves, by the names of its values. -/
theorem left9 (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v23) = val_main_v23 (F := Ideal) (m' ((c.tc : Thread nD τ).loc main_arg0)) (m' ((c.tc : Thread nD τ).loc main_arg3)) (m' ((c.tc : Thread nD τ).loc main_arg6)) (m' ((c.tc : Thread nD τ).loc main_arg9))
      ∧ r.2.mem ((c.tc : Thread nD τ).loc main_v47) = val_main_v47 (F := Ideal) (m' ((c.tc : Thread nD τ).loc main_arg1)) (m' ((c.tc : Thread nD τ).loc main_arg4)) (m' ((c.tc : Thread nD τ).loc main_arg7)) (m' ((c.tc : Thread nD τ).loc main_arg10))
      ∧ r.2.mem ((c.tc : Thread nD τ).loc main_v72) = val_main_v72 (F := Ideal) (m' ((c.tc : Thread nD τ).loc main_arg2)) (m' ((c.tc : Thread nD τ).loc main_arg5)) (m' ((c.tc : Thread nD τ).loc main_arg8)) (m' ((c.tc : Thread nD τ).loc main_arg11))
      ∧ r.2.mem ((c.tc : Thread nD τ).loc main_v4) = val_main_v4 (F := Ideal) (m' ((c.tc : Thread nD τ).loc main_arg0)) (m' ((c.tc : Thread nD τ).loc main_arg6))
      ∧ r.2.mem ((c.tc : Thread nD τ).loc main_v28) = val_main_v28 (F := Ideal) (m' ((c.tc : Thread nD τ).loc main_arg1)) (m' ((c.tc : Thread nD τ).loc main_arg7))
      ∧ r.2.mem ((c.tc : Thread nD τ).loc main_v73) = val_main_v73 (F := Ideal) (m' ((c.tc : Thread nD τ).loc main_arg2)) (m' ((c.tc : Thread nD τ).loc main_arg8))
      ∧ r.2.mem ((c.tc : Thread nD τ).loc main_v10) = val_main_v10 (F := Ideal) (m' ((c.tc : Thread nD τ).loc main_arg0)) (m' ((c.tc : Thread nD τ).loc main_arg9))
      ∧ r.2.mem ((c.tc : Thread nD τ).loc main_v34) = val_main_v34 (F := Ideal) (m' ((c.tc : Thread nD τ).loc main_arg1)) (m' ((c.tc : Thread nD τ).loc main_arg10))
      ∧ r.2.mem ((c.tc : Thread nD τ).loc main_v74) = val_main_v74 (F := Ideal) (m' ((c.tc : Thread nD τ).loc main_arg2)) (m' ((c.tc : Thread nD τ).loc main_arg11))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11) := by
  refine (θ_run _ _ _).mono (fun r h c => ?_) (Cert.Reference9Ideal.Value.run m' g')
  obtain ⟨a0, a1, a2, a3, a4, a5, a6, a7, a8, p⟩ := h c
  exact ⟨a0.trans (val_main_v23_eq _ _ _ _), a1.trans (val_main_v47_eq _ _ _ _), a2.trans (val_main_v72_eq _ _ _ _), a3.trans (val_main_v4_eq _ _), a4.trans (val_main_v28_eq _ _), a5.trans (val_main_v73_eq _ _), a6.trans (val_main_v10_eq _ _), a7.trans (val_main_v34_eq _ _), a8.trans (val_main_v74_eq _ _), p⟩

end

section

open Cert.Kernel9Ideal Cert.Kernel9Ideal.Gen

/-- What the call leaves in its 9 results and its arguments. -/
theorem kept9 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4_0) = (dats m 0 c).arrAt 12 (cfgs 0).N
      ∧ r.2.mem ((c.tc : Thread nD τ).loc main_v4_1) = (dats m 0 c).arrAt 13 (cfgs 0).N
      ∧ r.2.mem ((c.tc : Thread nD τ).loc main_v4_2) = (dats m 0 c).arrAt 14 (cfgs 0).N
      ∧ r.2.mem ((c.tc : Thread nD τ).loc main_v4_3) = (dats m 0 c).arrAt 15 (cfgs 0).N
      ∧ r.2.mem ((c.tc : Thread nD τ).loc main_v4_4) = (dats m 0 c).arrAt 16 (cfgs 0).N
      ∧ r.2.mem ((c.tc : Thread nD τ).loc main_v4_5) = (dats m 0 c).arrAt 17 (cfgs 0).N
      ∧ r.2.mem ((c.tc : Thread nD τ).loc main_v4_6) = (dats m 0 c).arrAt 18 (cfgs 0).N
      ∧ r.2.mem ((c.tc : Thread nD τ).loc main_v4_7) = (dats m 0 c).arrAt 19 (cfgs 0).N
      ∧ r.2.mem ((c.tc : Thread nD τ).loc main_v4_8) = (dats m 0 c).arrAt 20 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run _ _ _).mono (fun r h c => ⟨(h.1 c).1 12, (h.1 c).1 13, (h.1 c).1 14, (h.1 c).1 15, (h.1 c).1 16, (h.1 c).1 17, (h.1 c).1 18, (h.1 c).1 19, (h.1 c).1 20, h.2 c⟩) (θ_run_and (run_main m g) (unchanged m g))

end

/-- From equal arguments the call and its reference leave equal results. -/
theorem same9 : Cert.algebraic_Kernel9Ideal_Reference9Ideal := by
  intro m g m' g' hpre hagree
  refine ⟨fun c => (Cert.Kernel9Ideal.Gen.dats m 0 c).arrAt 12 (Cert.Kernel9Ideal.cfgs 0).N, fun c => (Cert.Kernel9Ideal.Gen.dats m 0 c).arrAt 13 (Cert.Kernel9Ideal.cfgs 0).N, fun c => (Cert.Kernel9Ideal.Gen.dats m 0 c).arrAt 14 (Cert.Kernel9Ideal.cfgs 0).N, fun c => (Cert.Kernel9Ideal.Gen.dats m 0 c).arrAt 15 (Cert.Kernel9Ideal.cfgs 0).N, fun c => (Cert.Kernel9Ideal.Gen.dats m 0 c).arrAt 16 (Cert.Kernel9Ideal.cfgs 0).N, fun c => (Cert.Kernel9Ideal.Gen.dats m 0 c).arrAt 17 (Cert.Kernel9Ideal.cfgs 0).N, fun c => (Cert.Kernel9Ideal.Gen.dats m 0 c).arrAt 18 (Cert.Kernel9Ideal.cfgs 0).N, fun c => (Cert.Kernel9Ideal.Gen.dats m 0 c).arrAt 19 (Cert.Kernel9Ideal.cfgs 0).N, fun c => (Cert.Kernel9Ideal.Gen.dats m 0 c).arrAt 20 (Cert.Kernel9Ideal.cfgs 0).N,
    kept9 m g, (θ_run _ _ _).mono (fun r h c => ?_) (left9 m' g')⟩
  obtain ⟨a0, a1, a2, a3, a4, a5, a6, a7, a8, p⟩ := h c
  obtain ⟨h0, h1, h2, h3, h4, h5, h6, h7, h8, h9, h10, h11⟩ := hagree c
  rw [h0, h3, h6, h9] at a0
  rw [h1, h4, h7, h10] at a1
  rw [h2, h5, h8, h11] at a2
  rw [h0, h6] at a3
  rw [h1, h7] at a4
  rw [h2, h8] at a5
  rw [h0, h9] at a6
  rw [h1, h10] at a7
  rw [h2, h11] at a8
  exact ⟨a0.trans (Cert.Kernel9Ideal.Adam.final12 m c).symm, a1.trans (Cert.Kernel9Ideal.Adam.final13 m c).symm, a2.trans (Cert.Kernel9Ideal.Adam.final14 m c).symm, a3.trans (Cert.Kernel9Ideal.Adam.final15 m c).symm, a4.trans (Cert.Kernel9Ideal.Adam.final16 m c).symm, a5.trans (Cert.Kernel9Ideal.Adam.final17 m c).symm, a6.trans (Cert.Kernel9Ideal.Adam.final18 m c).symm, a7.trans (Cert.Kernel9Ideal.Adam.final19 m c).symm, a8.trans (Cert.Kernel9Ideal.Adam.final20 m c).symm, p⟩

/-- The reference leaves its arguments and its counters as they were. -/
theorem still9 : Cert.quiescent_Reference9Ideal := fun m g _ =>
  (θ_run _ _ _).mono (fun r h => ⟨fun c => (h c).2.2.2.2.2.2.2.2.2, sem_eq_zero_of_no_sems (by decide) r.2⟩) (left9 m g)

end Cert.Proof

end
-- ==== Proof.Adam10.lean ====
module

public import proofs.«01_k».proof.Proof.Gen.Kernel10Ideal.Frame
public import proofs.«01_k».proof.Proof.Gen.Reference10Ideal.Read
public import proofs.«01_k».proof.Proof.Adam
public import Idealize.ShloMosaic.Lib.Pipeline.ValueKit

/-! The optimiser on the shard of the input matrix: each of its four results is the reference's. -/

@[expose] public section

set_option maxRecDepth 16384

noncomputable section

namespace Cert.Kernel10Ideal.Adam

open Cert.Kernel10Ideal Cert.Kernel10Ideal.Gen Cert.Adam Idealize.ShloMosaic Idealize.ShloMosaic.TcCoe Idealize.SL.Sem
open Cert.Reference10Ideal.Read
open Idealize.ShloMosaic.Pipeline (Dat)

/-! ## The reference's arrays with the two axes of a layer exchanged -/

abbrev turnG (P Q : FVec Ideal S8x224x1024 .bf16) : FVec Ideal S2x224x1024 .f32 :=
  transpose S2x224x1024 [0, 2, 1] (val_main_v7 (F := Ideal) P Q) transposes_S2x1024x224_S2x224x1024_0_2_1

abbrev turnD (P Q : FVec Ideal S8x224x1024 .bf16) (W M V : FVec Ideal S2x1024x224 .f32) : FVec Ideal S2x224x1024 .f32 :=
  transpose S2x224x1024 [0, 2, 1] (val_main_v31 (F := Ideal) P Q W M V) transposes_S2x1024x224_S2x224x1024_0_2_1

abbrev turnM (P Q : FVec Ideal S8x224x1024 .bf16) (M : FVec Ideal S2x1024x224 .f32) : FVec Ideal S2x224x1024 .f32 :=
  transpose S2x224x1024 [0, 2, 1] (val_main_v12 (F := Ideal) P Q M) transposes_S2x1024x224_S2x224x1024_0_2_1

abbrev turnV (P Q : FVec Ideal S8x224x1024 .bf16) (V : FVec Ideal S2x1024x224 .f32) : FVec Ideal S2x224x1024 .f32 :=
  transpose S2x224x1024 [0, 2, 1] (val_main_v18 (F := Ideal) P Q V) transposes_S2x1024x224_S2x224x1024_0_2_1

section

variable (P Q : FVec Ideal S8x224x1024 .bf16) (W M V : FVec Ideal S2x1024x224 .f32)

/-! ## The reference at an index -/

theorem g0_at (r : Fin 224) (d : Fin 1024) : (val_main_v6 (F := Ideal) P Q (ix3 0 r d) : EReal) = ∑ e : Fin 8, P (ix3 e r d) := by
  pointwise [val_main_v6, val_main_v5, val_main_v4, val_main_v3, val_main_v2, val_main_v1, val_main_v0, val_main_cst, val_main_cst_0]

theorem g1_at (r : Fin 224) (d : Fin 1024) : (val_main_v6 (F := Ideal) P Q (ix3 1 r d) : EReal) = ∑ e : Fin 8, Q (ix3 e r d) := by
  pointwise [val_main_v6, val_main_v5, val_main_v4, val_main_v3, val_main_v2, val_main_v1, val_main_v0, val_main_cst, val_main_cst_0]

theorem rm_at (l : Fin 2) (r : Fin 224) (d : Fin 1024) : (turnM P Q M (ix3 l r d) : EReal)
    = NM (val_main_v6 (F := Ideal) P Q (ix3 l r d)) (M (ix3 l d r)) := by
  pointwise [val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, turnD, turnM, turnV, val_main_v7, val_main_cst_1, val_main_cst_2, val_main_cst_3, val_main_cst_4, val_main_cst_5, val_main_cst_6, val_main_cst_7, val_main_cst_8, val_main_cst_9]

theorem rv_at (l : Fin 2) (r : Fin 224) (d : Fin 1024) : (turnV P Q V (ix3 l r d) : EReal)
    = NV (val_main_v6 (F := Ideal) P Q (ix3 l r d)) (V (ix3 l d r)) := by
  pointwise [val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, turnD, turnM, turnV, val_main_v7, val_main_cst_1, val_main_cst_2, val_main_cst_3, val_main_cst_4, val_main_cst_5, val_main_cst_6, val_main_cst_7, val_main_cst_8, val_main_cst_9]

theorem rd_at (l : Fin 2) (r : Fin 224) (d : Fin 1024) : (turnD P Q W M V (ix3 l r d) : EReal)
    = DL (val_main_v6 (F := Ideal) P Q (ix3 l r d)) (W (ix3 l d r)) (M (ix3 l d r)) (V (ix3 l d r)) := by
  pointwise [val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, turnD, turnM, turnV, val_main_v7, val_main_cst_1, val_main_cst_2, val_main_cst_3, val_main_cst_4, val_main_cst_5, val_main_cst_6, val_main_cst_7, val_main_cst_8, val_main_cst_9]

theorem rg_at (l : Fin 2) (r : Fin 224) (d : Fin 1024) : (turnG P Q (ix3 l r d) : EReal)
    = val_main_v6 (F := Ideal) P Q (ix3 l r d) := by
  pointwise [turnG, val_main_v7]

end

/-! ## The payloads at an index -/

theorem sumA_at (a0 a1 a2 a3 a4 a5 a6 a7 : FVec Ideal S1x112x1024 .bf16) (r : Fin 112) (d : Fin 1024) :
    (k0_pay5 (F := Ideal) a0 a1 a2 a3 a4 a5 a6 a7 (ix2 r d) : EReal) = a0 (ix3 0 r d) + a1 (ix3 0 r d) + a2 (ix3 0 r d) + a3 (ix3 0 r d)
      + a4 (ix3 0 r d) + a5 (ix3 0 r d) + a6 (ix3 0 r d) + a7 (ix3 0 r d) := by
  pointwise [k0_pay5]

theorem ogA_at (G : FVec Ideal S112x1024 .f32) (i : Fin 1) (r : Fin 112) (d : Fin 1024) :
    (k0_pay9 (F := Ideal) G (ix3 i r d) : EReal) = G (ix2 r d) := by
  pointwise [k0_pay9]

theorem omA_at (G : FVec Ideal S112x1024 .f32) (M : FVec Ideal S1x112x1024 .f32) (i : Fin 1) (r : Fin 112) (d : Fin 1024) :
    (k0_pay1 (F := Ideal) (k0_pay7 G M) (ix3 i r d) : EReal) = NM (G (ix2 r d)) (M (ix3 0 r d)) := by
  pointwise [k0_pay1, k0_pay7]

theorem ovA_at (G : FVec Ideal S112x1024 .f32) (V : FVec Ideal S1x112x1024 .f32) (i : Fin 1) (r : Fin 112) (d : Fin 1024) :
    (k0_pay2 (F := Ideal) (k0_pay8 G V) (ix3 i r d) : EReal) = NV (G (ix2 r d)) (V (ix3 0 r d)) := by
  pointwise [k0_pay2, k0_pay8]

theorem odA_at (G : FVec Ideal S112x1024 .f32) (W M V : FVec Ideal S1x112x1024 .f32) (i : Fin 1) (r : Fin 112) (d : Fin 1024) :
    (k0_pay10 (F := Ideal) G (k0_pay6 W) M V (ix3 i r d) : EReal) = DL (G (ix2 r d)) (W (ix3 0 r d)) (M (ix3 0 r d)) (V (ix3 0 r d)) := by
  pointwise [k0_pay10, k0_pay6, k0_pay7, k0_pay8]

theorem sumB_at (a0 a1 a2 a3 a4 a5 a6 a7 : FVec Ideal S1x112x1024 .bf16) (r : Fin 112) (d : Fin 1024) :
    (k0_pay11 (F := Ideal) a0 a1 a2 a3 a4 a5 a6 a7 (ix2 r d) : EReal) = a0 (ix3 0 r d) + a1 (ix3 0 r d) + a2 (ix3 0 r d) + a3 (ix3 0 r d)
      + a4 (ix3 0 r d) + a5 (ix3 0 r d) + a6 (ix3 0 r d) + a7 (ix3 0 r d) := by
  pointwise [k0_pay11]

theorem ogB_at (G : FVec Ideal S112x1024 .f32) (i : Fin 1) (r : Fin 112) (d : Fin 1024) :
    (k0_pay15 (F := Ideal) G (ix3 i r d) : EReal) = G (ix2 r d) := by
  pointwise [k0_pay15]

theorem omB_at (G : FVec Ideal S112x1024 .f32) (M : FVec Ideal S1x112x1024 .f32) (i : Fin 1) (r : Fin 112) (d : Fin 1024) :
    (k0_pay3 (F := Ideal) (k0_pay13 G M) (ix3 i r d) : EReal) = NM (G (ix2 r d)) (M (ix3 0 r d)) := by
  pointwise [k0_pay3, k0_pay13]

theorem ovB_at (G : FVec Ideal S112x1024 .f32) (V : FVec Ideal S1x112x1024 .f32) (i : Fin 1) (r : Fin 112) (d : Fin 1024) :
    (k0_pay4 (F := Ideal) (k0_pay14 G V) (ix3 i r d) : EReal) = NV (G (ix2 r d)) (V (ix3 0 r d)) := by
  pointwise [k0_pay4, k0_pay14]

theorem odB_at (G : FVec Ideal S112x1024 .f32) (W M V : FVec Ideal S1x112x1024 .f32) (i : Fin 1) (r : Fin 112) (d : Fin 1024) :
    (k0_pay16 (F := Ideal) G (k0_pay12 W) M V (ix3 i r d) : EReal) = DL (G (ix2 r d)) (W (ix3 0 r d)) (M (ix3 0 r d)) (V (ix3 0 r d)) := by
  pointwise [k0_pay16, k0_pay12, k0_pay13, k0_pay14]

/-! ## The blocks at an index -/

variable (m : (ℓ : Loc nD τ sig) → Buf (Elt Ideal) ℓ)

abbrev P (c : Dev nD) : FVec Ideal S8x224x1024 .bf16 := m ((c : Thread nD τ).loc main_arg0)
abbrev Q (c : Dev nD) : FVec Ideal S8x224x1024 .bf16 := m ((c : Thread nD τ).loc main_arg1)
abbrev W (c : Dev nD) : FVec Ideal S2x1024x224 .f32 := m ((c : Thread nD τ).loc main_arg2)
abbrev M (c : Dev nD) : FVec Ideal S2x1024x224 .f32 := m ((c : Thread nD τ).loc main_arg3)
abbrev U (c : Dev nD) : FVec Ideal S2x1024x224 .f32 := m ((c : Thread nD τ).loc main_arg4)

/-- The blocks each point works on. -/
theorem idx : ∀ t : Fin cfg0.N, (t.val < 2 → win0_0.index t = ![0, t.val % 2, 0]) ∧ (2 ≤ t.val → win0_1.index t = ![0, t.val % 2, 0])
    ∧ win0_2.index t = ![t.val / 2, t.val % 2, 0] ∧ win0_3.index t = ![t.val / 2, t.val % 2, 0]
    ∧ win0_4.index t = ![t.val / 2, t.val % 2, 0] ∧ win0_5.index t = ![t.val / 2, t.val % 2, 0]
    ∧ win0_6.index t = ![t.val / 2, t.val % 2, 0] ∧ win0_7.index t = ![t.val / 2, t.val % 2, 0]
    ∧ win0_8.index t = ![t.val / 2, t.val % 2, 0] ∧ t.val < 4 :=
  (by decide +kernel : ∀ t : Fin grid0.N, _)

theorem lt_lay (t : Fin cfg0.N) : t.val / 2 < 2 := by
  have := (idx t).2.2.2.2.2.2.2.2.2
  omega

/-- The layer point `t` works on. -/
abbrev lay (t : Fin cfg0.N) : Fin 2 := ⟨t.val / 2, lt_lay t⟩

/-- Row `r` of the block point `t` works on. -/
abbrev row (t : Fin cfg0.N) (r : Fin 112) : Fin 224 := ⟨t.val % 2 * 112 + r.val, by omega⟩

theorem part0_of (B : FVec Ideal S8x224x1024 .bf16) (t : Fin cfg0.N) (h : t.val < 2) (e : Nat) (he : e < 8)
    (inb : ∀ i, ![e, 0, 0] i + S1x112x1024.size i ≤ S8x112x1024.size i) (i : Fin 1) (r : Fin 112) (d : Fin 1024) :
    (show FVec Ideal S1x112x1024 .bf16 from View.ld (((cfg0.win 0).blk t).view.read (Elt Ideal) B) (Rect.unit ![e, 0, 0] ![1, 112, 1024] inb)) (ix3 i r d)
      = B (ix3 ⟨e, he⟩ (row t r) d) := by
  refine congrArg B ?_
  blk_ext [(idx t).1 h]
  · show e + 1 * i.val = e; omega
  · show t.val % 2 * 112 + (0 + 1 * r.val) = _; omega
  · show 0 + 1 * d.val = _; omega

theorem part1_of (B : FVec Ideal S8x224x1024 .bf16) (t : Fin cfg0.N) (h : 2 ≤ t.val) (e : Nat) (he : e < 8)
    (inb : ∀ i, ![e, 0, 0] i + S1x112x1024.size i ≤ S8x112x1024.size i) (i : Fin 1) (r : Fin 112) (d : Fin 1024) :
    (show FVec Ideal S1x112x1024 .bf16 from View.ld (((cfg0.win 1).blk t).view.read (Elt Ideal) B) (Rect.unit ![e, 0, 0] ![1, 112, 1024] inb)) (ix3 i r d)
      = B (ix3 ⟨e, he⟩ (row t r) d) := by
  refine congrArg B ?_
  blk_ext [(idx t).2.1 h]
  · show e + 1 * i.val = e; omega
  · show t.val % 2 * 112 + (0 + 1 * r.val) = _; omega
  · show 0 + 1 * d.val = _; omega

/-- What the host operations before the region leave in a buffer. -/
theorem entry (c : Dev nD) (b : Ref sig .tc) :
    V m c b = StableHlo.after hostOps0 (fun b => m (c, b)) (Proc.devRef .tc b) := by
  show StableHlo.after [hostOps0].flatten _ _ = _
  rw [List.flatten_cons, List.flatten_nil, List.append_nil]

theorem host2 (c : Dev nD) (l : Fin 2) (r : Fin 224) (d : Fin 1024) :
    (show FVec Ideal S2x224x1024 .f32 from V m c main_v0) (ix3 l r d) = W m c (ix3 l d r) := by
  refine (congrFun (entry m c main_v0) _).trans ?_
  entry_read
  pointwise []

theorem blk2_of (B : FVec Ideal S2x224x1024 .f32) (t : Fin cfg0.N) (i : Fin 1) (r : Fin 112) (d : Fin 1024) :
    (show FVec Ideal S1x112x1024 .f32 from ((cfg0.win 2).blk t).view.read (Elt Ideal) B) (ix3 i r d) = B (ix3 (lay t) (row t r) d) := by
  refine congrArg B ?_
  blk_ext [idx t]

theorem blk2 (c : Dev nD) (t : Fin cfg0.N) (i : Fin 1) (r : Fin 112) (d : Fin 1024) :
    (show FVec Ideal S1x112x1024 .f32 from iblk m c 2 t) (ix3 i r d) = W m c (ix3 (lay t) d (row t r)) :=
  (blk2_of _ t i r d).trans (host2 m c _ _ _)

theorem host3 (c : Dev nD) (l : Fin 2) (r : Fin 224) (d : Fin 1024) :
    (show FVec Ideal S2x224x1024 .f32 from V m c main_v1) (ix3 l r d) = M m c (ix3 l d r) := by
  refine (congrFun (entry m c main_v1) _).trans ?_
  entry_read
  pointwise []

theorem blk3_of (B : FVec Ideal S2x224x1024 .f32) (t : Fin cfg0.N) (i : Fin 1) (r : Fin 112) (d : Fin 1024) :
    (show FVec Ideal S1x112x1024 .f32 from ((cfg0.win 3).blk t).view.read (Elt Ideal) B) (ix3 i r d) = B (ix3 (lay t) (row t r) d) := by
  refine congrArg B ?_
  blk_ext [idx t]

theorem blk3 (c : Dev nD) (t : Fin cfg0.N) (i : Fin 1) (r : Fin 112) (d : Fin 1024) :
    (show FVec Ideal S1x112x1024 .f32 from iblk m c 3 t) (ix3 i r d) = M m c (ix3 (lay t) d (row t r)) :=
  (blk3_of _ t i r d).trans (host3 m c _ _ _)

theorem host4 (c : Dev nD) (l : Fin 2) (r : Fin 224) (d : Fin 1024) :
    (show FVec Ideal S2x224x1024 .f32 from V m c main_v2) (ix3 l r d) = U m c (ix3 l d r) := by
  refine (congrFun (entry m c main_v2) _).trans ?_
  entry_read
  pointwise []

theorem blk4_of (B : FVec Ideal S2x224x1024 .f32) (t : Fin cfg0.N) (i : Fin 1) (r : Fin 112) (d : Fin 1024) :
    (show FVec Ideal S1x112x1024 .f32 from ((cfg0.win 4).blk t).view.read (Elt Ideal) B) (ix3 i r d) = B (ix3 (lay t) (row t r) d) := by
  refine congrArg B ?_
  blk_ext [idx t]

theorem blk4 (c : Dev nD) (t : Fin cfg0.N) (i : Fin 1) (r : Fin 112) (d : Fin 1024) :
    (show FVec Ideal S1x112x1024 .f32 from iblk m c 4 t) (ix3 i r d) = U m c (ix3 (lay t) d (row t r)) :=
  (blk4_of _ t i r d).trans (host4 m c _ _ _)

/-- The eight partial gradients of layer 0, as the kernel adds them. -/
abbrev gA (c : Dev nD) (t : Fin cfg0.N) : FVec Ideal S112x1024 .f32 :=
  k0_pay5 (F := Ideal) (View.ld (iblk m c 0 t) (Rect.unit ![0, 0, 0] ![1, 112, 1024] inb_S8x112x1024_S1x112x1024_0_0_0)) (View.ld (iblk m c 0 t) (Rect.unit ![1, 0, 0] ![1, 112, 1024] inb_S8x112x1024_S1x112x1024_1_0_0)) (View.ld (iblk m c 0 t) (Rect.unit ![2, 0, 0] ![1, 112, 1024] inb_S8x112x1024_S1x112x1024_2_0_0)) (View.ld (iblk m c 0 t) (Rect.unit ![3, 0, 0] ![1, 112, 1024] inb_S8x112x1024_S1x112x1024_3_0_0)) (View.ld (iblk m c 0 t) (Rect.unit ![4, 0, 0] ![1, 112, 1024] inb_S8x112x1024_S1x112x1024_4_0_0)) (View.ld (iblk m c 0 t) (Rect.unit ![5, 0, 0] ![1, 112, 1024] inb_S8x112x1024_S1x112x1024_5_0_0)) (View.ld (iblk m c 0 t) (Rect.unit ![6, 0, 0] ![1, 112, 1024] inb_S8x112x1024_S1x112x1024_6_0_0)) (View.ld (iblk m c 0 t) (Rect.unit ![7, 0, 0] ![1, 112, 1024] inb_S8x112x1024_S1x112x1024_7_0_0))

theorem gA_at (c : Dev nD) (t : Fin cfg0.N) (h : t.val < 2) (r : Fin 112) (d : Fin 1024) :
    (gA m c t (ix2 r d) : EReal) = val_main_v6 (F := Ideal) (P m c) (Q m c) (ix3 (lay t) (row t r) d) := by
  have hl : lay t = 0 := Fin.ext (show t.val / 2 = 0 by have := (idx t).2.2.2.2.2.2.2.2.2; omega)
  rw [hl, g0_at, Fin.sum_univ_eight]
  exact (sumA_at _ _ _ _ _ _ _ _ r d).trans
    (congrArg₂ (· + ·) (congrArg₂ (· + ·) (congrArg₂ (· + ·) (congrArg₂ (· + ·) (congrArg₂ (· + ·) (congrArg₂ (· + ·) (congrArg₂ (· + ·) (part0_of _ t h 0 (by omega) inb_S8x112x1024_S1x112x1024_0_0_0 0 r d) (part0_of _ t h 1 (by omega) inb_S8x112x1024_S1x112x1024_1_0_0 0 r d)) (part0_of _ t h 2 (by omega) inb_S8x112x1024_S1x112x1024_2_0_0 0 r d)) (part0_of _ t h 3 (by omega) inb_S8x112x1024_S1x112x1024_3_0_0 0 r d)) (part0_of _ t h 4 (by omega) inb_S8x112x1024_S1x112x1024_4_0_0 0 r d)) (part0_of _ t h 5 (by omega) inb_S8x112x1024_S1x112x1024_5_0_0 0 r d)) (part0_of _ t h 6 (by omega) inb_S8x112x1024_S1x112x1024_6_0_0 0 r d)) (part0_of _ t h 7 (by omega) inb_S8x112x1024_S1x112x1024_7_0_0 0 r d))

/-- The eight partial gradients of layer 1, as the kernel adds them. -/
abbrev gB (c : Dev nD) (t : Fin cfg0.N) : FVec Ideal S112x1024 .f32 :=
  k0_pay11 (F := Ideal) (View.ld (iblk m c 1 t) (Rect.unit ![0, 0, 0] ![1, 112, 1024] inb_S8x112x1024_S1x112x1024_0_0_0)) (View.ld (iblk m c 1 t) (Rect.unit ![1, 0, 0] ![1, 112, 1024] inb_S8x112x1024_S1x112x1024_1_0_0)) (View.ld (iblk m c 1 t) (Rect.unit ![2, 0, 0] ![1, 112, 1024] inb_S8x112x1024_S1x112x1024_2_0_0)) (View.ld (iblk m c 1 t) (Rect.unit ![3, 0, 0] ![1, 112, 1024] inb_S8x112x1024_S1x112x1024_3_0_0)) (View.ld (iblk m c 1 t) (Rect.unit ![4, 0, 0] ![1, 112, 1024] inb_S8x112x1024_S1x112x1024_4_0_0)) (View.ld (iblk m c 1 t) (Rect.unit ![5, 0, 0] ![1, 112, 1024] inb_S8x112x1024_S1x112x1024_5_0_0)) (View.ld (iblk m c 1 t) (Rect.unit ![6, 0, 0] ![1, 112, 1024] inb_S8x112x1024_S1x112x1024_6_0_0)) (View.ld (iblk m c 1 t) (Rect.unit ![7, 0, 0] ![1, 112, 1024] inb_S8x112x1024_S1x112x1024_7_0_0))

theorem gB_at (c : Dev nD) (t : Fin cfg0.N) (h : 2 ≤ t.val) (r : Fin 112) (d : Fin 1024) :
    (gB m c t (ix2 r d) : EReal) = val_main_v6 (F := Ideal) (P m c) (Q m c) (ix3 (lay t) (row t r) d) := by
  have hl : lay t = 1 := Fin.ext (show t.val / 2 = 1 by have := (idx t).2.2.2.2.2.2.2.2.2; omega)
  rw [hl, g1_at, Fin.sum_univ_eight]
  exact (sumB_at _ _ _ _ _ _ _ _ r d).trans
    (congrArg₂ (· + ·) (congrArg₂ (· + ·) (congrArg₂ (· + ·) (congrArg₂ (· + ·) (congrArg₂ (· + ·) (congrArg₂ (· + ·) (congrArg₂ (· + ·) (part1_of _ t h 0 (by omega) inb_S8x112x1024_S1x112x1024_0_0_0 0 r d) (part1_of _ t h 1 (by omega) inb_S8x112x1024_S1x112x1024_1_0_0 0 r d)) (part1_of _ t h 2 (by omega) inb_S8x112x1024_S1x112x1024_2_0_0 0 r d)) (part1_of _ t h 3 (by omega) inb_S8x112x1024_S1x112x1024_3_0_0 0 r d)) (part1_of _ t h 4 (by omega) inb_S8x112x1024_S1x112x1024_4_0_0 0 r d)) (part1_of _ t h 5 (by omega) inb_S8x112x1024_S1x112x1024_5_0_0 0 r d)) (part1_of _ t h 6 (by omega) inb_S8x112x1024_S1x112x1024_6_0_0 0 r d)) (part1_of _ t h 7 (by omega) inb_S8x112x1024_S1x112x1024_7_0_0 0 r d))

/-! ## What each point leaves in the results -/

theorem tile5 (c : Dev nD) (t : Fin cfg0.N) (i : Fin 1) (r : Fin 112) (d : Fin 1024) :
    ((outsAt0 m c t.val t.isLt).1 (ix3 i r d) : EReal) = turnG (P m c) (Q m c) (ix3 (lay t) (row t r) d) := by
  have hN := (idx t).2.2.2.2.2.2.2.2.2
  rw [rg_at]
  by_cases hc : t.val < 2
  · rw [outsAt0_A m c t (by omega) (by omega)]
    frame_out
    exact (ogA_at (gA m c t) i r d).trans (gA_at m c t hc r d)
  · replace hc : 2 ≤ t.val := by omega
    rw [outsAt0_B m c t (by omega) (by omega)]
    frame_out
    exact (ogB_at (gB m c t) i r d).trans (gB_at m c t hc r d)

/-- The gradient. -/
theorem final5 (c : Dev nD) : (dats m 0 c).arrAt 5 (cfgs 0).N = turnG (P m c) (Q m c) := by
  refine (dats m 0 c).arrAt_eq_of_covers 5 _ (by decide +kernel) fun t hf y => ?_
  rw [after0_5]
  rw [split3 y]
  refine (tile5 m c t _ _ _).trans ?_
  exact congrArg (turnG (P m c) (Q m c)) (show ix3 (lay t) (row t (y 1)) (y 2) = _ by blk_ext [idx t])

theorem tile6 (c : Dev nD) (t : Fin cfg0.N) (i : Fin 1) (r : Fin 112) (d : Fin 1024) :
    ((outsAt0 m c t.val t.isLt).2.1 (ix3 i r d) : EReal) = turnD (P m c) (Q m c) (W m c) (M m c) (U m c) (ix3 (lay t) (row t r) d) := by
  have hN := (idx t).2.2.2.2.2.2.2.2.2
  rw [rd_at]
  by_cases hc : t.val < 2
  · rw [outsAt0_A m c t (by omega) (by omega)]
    frame_out
    exact (odA_at (gA m c t) (iblk m c 2 t) (iblk m c 3 t) (iblk m c 4 t) i r d).trans (DL_eq (gA_at m c t hc r d) (blk2 m c t 0 r d) (blk3 m c t 0 r d) (blk4 m c t 0 r d))
  · replace hc : 2 ≤ t.val := by omega
    rw [outsAt0_B m c t (by omega) (by omega)]
    frame_out
    exact (odB_at (gB m c t) (iblk m c 2 t) (iblk m c 3 t) (iblk m c 4 t) i r d).trans (DL_eq (gB_at m c t hc r d) (blk2 m c t 0 r d) (blk3 m c t 0 r d) (blk4 m c t 0 r d))

/-- What the step adds to the weights. -/
theorem final6 (c : Dev nD) : (dats m 0 c).arrAt 6 (cfgs 0).N = turnD (P m c) (Q m c) (W m c) (M m c) (U m c) := by
  refine (dats m 0 c).arrAt_eq_of_covers 6 _ (by decide +kernel) fun t hf y => ?_
  rw [after0_6]
  rw [split3 y]
  refine (tile6 m c t _ _ _).trans ?_
  exact congrArg (turnD (P m c) (Q m c) (W m c) (M m c) (U m c)) (show ix3 (lay t) (row t (y 1)) (y 2) = _ by blk_ext [idx t])

theorem tile7 (c : Dev nD) (t : Fin cfg0.N) (i : Fin 1) (r : Fin 112) (d : Fin 1024) :
    ((outsAt0 m c t.val t.isLt).2.2.1 (ix3 i r d) : EReal) = turnM (P m c) (Q m c) (M m c) (ix3 (lay t) (row t r) d) := by
  have hN := (idx t).2.2.2.2.2.2.2.2.2
  rw [rm_at]
  by_cases hc : t.val < 2
  · rw [outsAt0_A m c t (by omega) (by omega)]
    frame_out
    exact (omA_at (gA m c t) (iblk m c 3 t) i r d).trans (NM_eq (gA_at m c t hc r d) (blk3 m c t 0 r d))
  · replace hc : 2 ≤ t.val := by omega
    rw [outsAt0_B m c t (by omega) (by omega)]
    frame_out
    exact (omB_at (gB m c t) (iblk m c 3 t) i r d).trans (NM_eq (gB_at m c t hc r d) (blk3 m c t 0 r d))

/-- The new first moment. -/
theorem final7 (c : Dev nD) : (dats m 0 c).arrAt 7 (cfgs 0).N = turnM (P m c) (Q m c) (M m c) := by
  refine (dats m 0 c).arrAt_eq_of_covers 7 _ (by decide +kernel) fun t hf y => ?_
  rw [after0_7]
  rw [split3 y]
  refine (tile7 m c t _ _ _).trans ?_
  exact congrArg (turnM (P m c) (Q m c) (M m c)) (show ix3 (lay t) (row t (y 1)) (y 2) = _ by blk_ext [idx t])

theorem tile8 (c : Dev nD) (t : Fin cfg0.N) (i : Fin 1) (r : Fin 112) (d : Fin 1024) :
    ((outsAt0 m c t.val t.isLt).2.2.2 (ix3 i r d) : EReal) = turnV (P m c) (Q m c) (U m c) (ix3 (lay t) (row t r) d) := by
  have hN := (idx t).2.2.2.2.2.2.2.2.2
  rw [rv_at]
  by_cases hc : t.val < 2
  · rw [outsAt0_A m c t (by omega) (by omega)]
    frame_out
    exact (ovA_at (gA m c t) (iblk m c 4 t) i r d).trans (NV_eq (gA_at m c t hc r d) (blk4 m c t 0 r d))
  · replace hc : 2 ≤ t.val := by omega
    rw [outsAt0_B m c t (by omega) (by omega)]
    frame_out
    exact (ovB_at (gB m c t) (iblk m c 4 t) i r d).trans (NV_eq (gB_at m c t hc r d) (blk4 m c t 0 r d))

/-- The new second moment. -/
theorem final8 (c : Dev nD) : (dats m 0 c).arrAt 8 (cfgs 0).N = turnV (P m c) (Q m c) (U m c) := by
  refine (dats m 0 c).arrAt_eq_of_covers 8 _ (by decide +kernel) fun t hf y => ?_
  rw [after0_8]
  rw [split3 y]
  refine (tile8 m c t _ _ _).trans ?_
  exact congrArg (turnV (P m c) (Q m c) (U m c)) (show ix3 (lay t) (row t (y 1)) (y 2) = _ by blk_ext [idx t])

/-! ## The host's exchange of the axes after the call -/

/-- Exchanging the two axes of a layer twice gives back the array. -/
theorem turn_turn (B : FVec Ideal S2x1024x224 .f32) :
    transpose S2x1024x224 [0, 2, 1] (transpose S2x224x1024 [0, 2, 1] B transposes_S2x1024x224_S2x224x1024_0_2_1) transposes_S2x224x1024_S2x1024x224_0_2_1 = B := by
  funext y
  rw [split3 y]
  pointwise []

/-- The arrays the host starts from after the call. -/
abbrev after (c : Dev nD) : Valuation τ sig (Elt Ideal) :=
  Pipeline.withArrays spec0 c (V0 m c) fun w => (dats m 0 c).arrAt w (cfgs 0).N

theorem after_tail (c : Dev nD) (b : Ref sig .tc) :
    Pipeline.afterTail₀ cfgs (dats m) 0 (V0 m) [hostOps1] c b = StableHlo.after hostOps1 (after m c) (Proc.devRef .tc b) := by
  show StableHlo.after [hostOps1].flatten _ _ = _
  rw [List.flatten_cons, List.flatten_nil, List.append_nil]

theorem result4 (c : Dev nD) :
    Pipeline.afterTail₀ cfgs (dats m) 0 (V0 m) [hostOps1] c main_v4 = val_main_v7 (F := Ideal) (P m c) (Q m c) := by
  have e : after m c (Proc.devRef .tc main_v3_0) = turnG (P m c) (Q m c) :=
    (Pipeline.withArrays_arr spec0 (by decide) c (V0 m c) (fun w => (dats m 0 c).arrAt w (cfgs 0).N) 5).trans (final5 m c)
  rw [after_tail]
  after_results
  rw [e]
  exact turn_turn _

theorem result5 (c : Dev nD) :
    Pipeline.afterTail₀ cfgs (dats m) 0 (V0 m) [hostOps1] c main_v5 = val_main_v31 (F := Ideal) (P m c) (Q m c) (W m c) (M m c) (U m c) := by
  have e : after m c (Proc.devRef .tc main_v3_1) = turnD (P m c) (Q m c) (W m c) (M m c) (U m c) :=
    (Pipeline.withArrays_arr spec0 (by decide) c (V0 m c) (fun w => (dats m 0 c).arrAt w (cfgs 0).N) 6).trans (final6 m c)
  rw [after_tail]
  after_results
  rw [e]
  exact turn_turn _

theorem result6 (c : Dev nD) :
    Pipeline.afterTail₀ cfgs (dats m) 0 (V0 m) [hostOps1] c main_v6 = val_main_v12 (F := Ideal) (P m c) (Q m c) (M m c) := by
  have e : after m c (Proc.devRef .tc main_v3_2) = turnM (P m c) (Q m c) (M m c) :=
    (Pipeline.withArrays_arr spec0 (by decide) c (V0 m c) (fun w => (dats m 0 c).arrAt w (cfgs 0).N) 7).trans (final7 m c)
  rw [after_tail]
  after_results
  rw [e]
  exact turn_turn _

theorem result7 (c : Dev nD) :
    Pipeline.afterTail₀ cfgs (dats m) 0 (V0 m) [hostOps1] c main_v7 = val_main_v18 (F := Ideal) (P m c) (Q m c) (U m c) := by
  have e : after m c (Proc.devRef .tc main_v3_3) = turnV (P m c) (Q m c) (U m c) :=
    (Pipeline.withArrays_arr spec0 (by decide) c (V0 m c) (fun w => (dats m 0 c).arrAt w (cfgs 0).N) 8).trans (final8 m c)
  rw [after_tail]
  after_results
  rw [e]
  exact turn_turn _

end Cert.Kernel10Ideal.Adam

end
-- ==== Proof.Claims10.lean ====
module

public import proofs.«01_k».proof.Defs
public import proofs.«01_k».proof.Proof.Gen.Kernel10Ideal
public import proofs.«01_k».proof.Proof.Gen.Reference10Ideal
public import proofs.«01_k».proof.Proof.Gen.Reference10Ideal.Run
public import proofs.«01_k».proof.Proof.Gen.Reference10Ideal.Read
public import proofs.«01_k».proof.Proof.Adam10

/-! The optimiser on the shard of the input matrix: the call and its reference end with the same four arrays. -/

@[expose] public section

set_option maxRecDepth 16384

noncomputable section

namespace Cert.Proof

open Idealize.ShloMosaic Idealize.ShloMosaic.TcCoe Idealize.SL.Sem

section

open Cert.Reference10Ideal Cert.Reference10Ideal.Read

/-- What the reference leaves, by the names of its values. -/
theorem left10 (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v7) = val_main_v7 (F := Ideal) (m' ((c.tc : Thread nD τ).loc main_arg0)) (m' ((c.tc : Thread nD τ).loc main_arg1))
      ∧ r.2.mem ((c.tc : Thread nD τ).loc main_v31) = val_main_v31 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))
      ∧ r.2.mem ((c.tc : Thread nD τ).loc main_v12) = val_main_v12 (F := Ideal) (m' ((c.tc : Thread nD τ).loc main_arg0)) (m' ((c.tc : Thread nD τ).loc main_arg1)) (m' ((c.tc : Thread nD τ).loc main_arg3))
      ∧ r.2.mem ((c.tc : Thread nD τ).loc main_v18) = val_main_v18 (F := Ideal) (m' ((c.tc : Thread nD τ).loc main_arg0)) (m' ((c.tc : Thread nD τ).loc main_arg1)) (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) := by
  refine (θ_run _ _ _).mono (fun r h c => ?_) (Cert.Reference10Ideal.Value.run m' g')
  obtain ⟨a, b, d, e, p⟩ := h c
  exact ⟨a.trans (val_main_v7_eq _ _), b.trans (val_main_v31_eq _ _ _ _ _), d.trans (val_main_v12_eq _ _ _), e.trans (val_main_v18_eq _ _ _), p⟩

end

section

open Cert.Kernel10Ideal Cert.Kernel10Ideal.Gen

/-- What the call leaves in its four results and its arguments. -/
theorem kept10 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4) = Pipeline.afterTail₀ cfgs (dats m) 0 (V0 m) [hostOps1] c main_v4
      ∧ r.2.mem ((c.tc : Thread nD τ).loc main_v5) = Pipeline.afterTail₀ cfgs (dats m) 0 (V0 m) [hostOps1] c main_v5
      ∧ r.2.mem ((c.tc : Thread nD τ).loc main_v6) = Pipeline.afterTail₀ cfgs (dats m) 0 (V0 m) [hostOps1] c main_v6
      ∧ r.2.mem ((c.tc : Thread nD τ).loc main_v7) = Pipeline.afterTail₀ cfgs (dats m) 0 (V0 m) [hostOps1] c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h.1 c).2 main_v4 (by decide), (h.1 c).2 main_v5 (by decide), (h.1 c).2 main_v6 (by decide), (h.1 c).2 main_v7 (by decide), h.2 c⟩) (θ_run_and (run_main m g) (unchanged m g))

end

/-- From equal arguments the call and its reference leave equal results. -/
theorem same10 : Cert.algebraic_Kernel10Ideal_Reference10Ideal := by
  intro m g m' g' hpre hagree
  refine ⟨fun c => Pipeline.afterTail₀ Cert.Kernel10Ideal.cfgs (Cert.Kernel10Ideal.Gen.dats m) 0 (Cert.Kernel10Ideal.Gen.V0 m) [Cert.Kernel10Ideal.Gen.hostOps1] c Cert.Kernel10Ideal.main_v4, fun c => Pipeline.afterTail₀ Cert.Kernel10Ideal.cfgs (Cert.Kernel10Ideal.Gen.dats m) 0 (Cert.Kernel10Ideal.Gen.V0 m) [Cert.Kernel10Ideal.Gen.hostOps1] c Cert.Kernel10Ideal.main_v5, fun c => Pipeline.afterTail₀ Cert.Kernel10Ideal.cfgs (Cert.Kernel10Ideal.Gen.dats m) 0 (Cert.Kernel10Ideal.Gen.V0 m) [Cert.Kernel10Ideal.Gen.hostOps1] c Cert.Kernel10Ideal.main_v6, fun c => Pipeline.afterTail₀ Cert.Kernel10Ideal.cfgs (Cert.Kernel10Ideal.Gen.dats m) 0 (Cert.Kernel10Ideal.Gen.V0 m) [Cert.Kernel10Ideal.Gen.hostOps1] c Cert.Kernel10Ideal.main_v7,
    kept10 m g, (θ_run _ _ _).mono (fun r h c => ?_) (left10 m' g')⟩
  obtain ⟨a, b, d, e, p⟩ := h c
  obtain ⟨h0, h1, h2, h3, h4⟩ := hagree c
  rw [h0, h1] at a
  rw [h0, h1, h2, h3, h4] at b
  rw [h0, h1, h3] at d
  rw [h0, h1, h4] at e
  exact ⟨a.trans (Cert.Kernel10Ideal.Adam.result4 m c).symm, b.trans (Cert.Kernel10Ideal.Adam.result5 m c).symm, d.trans (Cert.Kernel10Ideal.Adam.result6 m c).symm, e.trans (Cert.Kernel10Ideal.Adam.result7 m c).symm, p⟩

/-- The reference leaves its arguments and its counters as they were. -/
theorem still10 : Cert.quiescent_Reference10Ideal := fun m g _ =>
  (θ_run _ _ _).mono (fun r h => ⟨fun c => (h c).2.2.2.2, sem_eq_zero_of_no_sems (by decide) r.2⟩) (left10 m g)

end Cert.Proof

end
-- ==== Proof.Adam11.lean ====
module

public import proofs.«01_k».proof.Proof.Gen.Kernel11Ideal.Frame
public import proofs.«01_k».proof.Proof.Gen.Reference11Ideal.Read
public import proofs.«01_k».proof.Proof.Adam
public import Idealize.ShloMosaic.Lib.Pipeline.ValueKit

/-! The optimiser on the shard of the gate and up matrix: each of its four results is the reference's. -/

@[expose] public section

set_option maxRecDepth 16384

noncomputable section

namespace Cert.Kernel11Ideal.Adam

open Cert.Kernel11Ideal Cert.Kernel11Ideal.Gen Cert.Adam Idealize.ShloMosaic Idealize.ShloMosaic.TcCoe Idealize.SL.Sem
open Cert.Reference11Ideal.Read
open Idealize.ShloMosaic.Pipeline (Dat)

/-! ## The reference's arrays with the two axes of a layer exchanged -/

abbrev turnG (P Q : FVec Ideal S8x704x1024 .bf16) : FVec Ideal S2x704x1024 .f32 :=
  transpose S2x704x1024 [0, 2, 1] (val_main_v7 (F := Ideal) P Q) transposes_S2x1024x704_S2x704x1024_0_2_1

abbrev turnD (P Q : FVec Ideal S8x704x1024 .bf16) (W M V : FVec Ideal S2x1024x704 .f32) : FVec Ideal S2x704x1024 .f32 :=
  transpose S2x704x1024 [0, 2, 1] (val_main_v31 (F := Ideal) P Q W M V) transposes_S2x1024x704_S2x704x1024_0_2_1

abbrev turnM (P Q : FVec Ideal S8x704x1024 .bf16) (M : FVec Ideal S2x1024x704 .f32) : FVec Ideal S2x704x1024 .f32 :=
  transpose S2x704x1024 [0, 2, 1] (val_main_v12 (F := Ideal) P Q M) transposes_S2x1024x704_S2x704x1024_0_2_1

abbrev turnV (P Q : FVec Ideal S8x704x1024 .bf16) (V : FVec Ideal S2x1024x704 .f32) : FVec Ideal S2x704x1024 .f32 :=
  transpose S2x704x1024 [0, 2, 1] (val_main_v18 (F := Ideal) P Q V) transposes_S2x1024x704_S2x704x1024_0_2_1

section

variable (P Q : FVec Ideal S8x704x1024 .bf16) (W M V : FVec Ideal S2x1024x704 .f32)

/-! ## The reference at an index -/

theorem g0_at (r : Fin 704) (d : Fin 1024) : (val_main_v6 (F := Ideal) P Q (ix3 0 r d) : EReal) = ∑ e : Fin 8, P (ix3 e r d) := by
  pointwise [val_main_v6, val_main_v5, val_main_v4, val_main_v3, val_main_v2, val_main_v1, val_main_v0, val_main_cst, val_main_cst_0]

theorem g1_at (r : Fin 704) (d : Fin 1024) : (val_main_v6 (F := Ideal) P Q (ix3 1 r d) : EReal) = ∑ e : Fin 8, Q (ix3 e r d) := by
  pointwise [val_main_v6, val_main_v5, val_main_v4, val_main_v3, val_main_v2, val_main_v1, val_main_v0, val_main_cst, val_main_cst_0]

theorem rm_at (l : Fin 2) (r : Fin 704) (d : Fin 1024) : (turnM P Q M (ix3 l r d) : EReal)
    = NM (val_main_v6 (F := Ideal) P Q (ix3 l r d)) (M (ix3 l d r)) := by
  pointwise [val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, turnD, turnM, turnV, val_main_v7, val_main_cst_1, val_main_cst_2, val_main_cst_3, val_main_cst_4, val_main_cst_5, val_main_cst_6, val_main_cst_7, val_main_cst_8, val_main_cst_9]

theorem rv_at (l : Fin 2) (r : Fin 704) (d : Fin 1024) : (turnV P Q V (ix3 l r d) : EReal)
    = NV (val_main_v6 (F := Ideal) P Q (ix3 l r d)) (V (ix3 l d r)) := by
  pointwise [val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, turnD, turnM, turnV, val_main_v7, val_main_cst_1, val_main_cst_2, val_main_cst_3, val_main_cst_4, val_main_cst_5, val_main_cst_6, val_main_cst_7, val_main_cst_8, val_main_cst_9]

theorem rd_at (l : Fin 2) (r : Fin 704) (d : Fin 1024) : (turnD P Q W M V (ix3 l r d) : EReal)
    = DL (val_main_v6 (F := Ideal) P Q (ix3 l r d)) (W (ix3 l d r)) (M (ix3 l d r)) (V (ix3 l d r)) := by
  pointwise [val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, turnD, turnM, turnV, val_main_v7, val_main_cst_1, val_main_cst_2, val_main_cst_3, val_main_cst_4, val_main_cst_5, val_main_cst_6, val_main_cst_7, val_main_cst_8, val_main_cst_9]

theorem rg_at (l : Fin 2) (r : Fin 704) (d : Fin 1024) : (turnG P Q (ix3 l r d) : EReal)
    = val_main_v6 (F := Ideal) P Q (ix3 l r d) := by
  pointwise [turnG, val_main_v7]

end

/-! ## The payloads at an index -/

theorem sumA_at (a0 a1 a2 a3 a4 a5 a6 a7 : FVec Ideal S1x176x1024 .bf16) (r : Fin 176) (d : Fin 1024) :
    (k0_pay5 (F := Ideal) a0 a1 a2 a3 a4 a5 a6 a7 (ix2 r d) : EReal) = a0 (ix3 0 r d) + a1 (ix3 0 r d) + a2 (ix3 0 r d) + a3 (ix3 0 r d)
      + a4 (ix3 0 r d) + a5 (ix3 0 r d) + a6 (ix3 0 r d) + a7 (ix3 0 r d) := by
  pointwise [k0_pay5]

theorem ogA_at (G : FVec Ideal S176x1024 .f32) (i : Fin 1) (r : Fin 176) (d : Fin 1024) :
    (k0_pay9 (F := Ideal) G (ix3 i r d) : EReal) = G (ix2 r d) := by
  pointwise [k0_pay9]

theorem omA_at (G : FVec Ideal S176x1024 .f32) (M : FVec Ideal S1x176x1024 .f32) (i : Fin 1) (r : Fin 176) (d : Fin 1024) :
    (k0_pay1 (F := Ideal) (k0_pay7 G M) (ix3 i r d) : EReal) = NM (G (ix2 r d)) (M (ix3 0 r d)) := by
  pointwise [k0_pay1, k0_pay7]

theorem ovA_at (G : FVec Ideal S176x1024 .f32) (V : FVec Ideal S1x176x1024 .f32) (i : Fin 1) (r : Fin 176) (d : Fin 1024) :
    (k0_pay2 (F := Ideal) (k0_pay8 G V) (ix3 i r d) : EReal) = NV (G (ix2 r d)) (V (ix3 0 r d)) := by
  pointwise [k0_pay2, k0_pay8]

theorem odA_at (G : FVec Ideal S176x1024 .f32) (W M V : FVec Ideal S1x176x1024 .f32) (i : Fin 1) (r : Fin 176) (d : Fin 1024) :
    (k0_pay10 (F := Ideal) G (k0_pay6 W) M V (ix3 i r d) : EReal) = DL (G (ix2 r d)) (W (ix3 0 r d)) (M (ix3 0 r d)) (V (ix3 0 r d)) := by
  pointwise [k0_pay10, k0_pay6, k0_pay7, k0_pay8]

theorem sumB_at (a0 a1 a2 a3 a4 a5 a6 a7 : FVec Ideal S1x176x1024 .bf16) (r : Fin 176) (d : Fin 1024) :
    (k0_pay11 (F := Ideal) a0 a1 a2 a3 a4 a5 a6 a7 (ix2 r d) : EReal) = a0 (ix3 0 r d) + a1 (ix3 0 r d) + a2 (ix3 0 r d) + a3 (ix3 0 r d)
      + a4 (ix3 0 r d) + a5 (ix3 0 r d) + a6 (ix3 0 r d) + a7 (ix3 0 r d) := by
  pointwise [k0_pay11]

theorem ogB_at (G : FVec Ideal S176x1024 .f32) (i : Fin 1) (r : Fin 176) (d : Fin 1024) :
    (k0_pay15 (F := Ideal) G (ix3 i r d) : EReal) = G (ix2 r d) := by
  pointwise [k0_pay15]

theorem omB_at (G : FVec Ideal S176x1024 .f32) (M : FVec Ideal S1x176x1024 .f32) (i : Fin 1) (r : Fin 176) (d : Fin 1024) :
    (k0_pay3 (F := Ideal) (k0_pay13 G M) (ix3 i r d) : EReal) = NM (G (ix2 r d)) (M (ix3 0 r d)) := by
  pointwise [k0_pay3, k0_pay13]

theorem ovB_at (G : FVec Ideal S176x1024 .f32) (V : FVec Ideal S1x176x1024 .f32) (i : Fin 1) (r : Fin 176) (d : Fin 1024) :
    (k0_pay4 (F := Ideal) (k0_pay14 G V) (ix3 i r d) : EReal) = NV (G (ix2 r d)) (V (ix3 0 r d)) := by
  pointwise [k0_pay4, k0_pay14]

theorem odB_at (G : FVec Ideal S176x1024 .f32) (W M V : FVec Ideal S1x176x1024 .f32) (i : Fin 1) (r : Fin 176) (d : Fin 1024) :
    (k0_pay16 (F := Ideal) G (k0_pay12 W) M V (ix3 i r d) : EReal) = DL (G (ix2 r d)) (W (ix3 0 r d)) (M (ix3 0 r d)) (V (ix3 0 r d)) := by
  pointwise [k0_pay16, k0_pay12, k0_pay13, k0_pay14]

/-! ## The blocks at an index -/

variable (m : (ℓ : Loc nD τ sig) → Buf (Elt Ideal) ℓ)

abbrev P (c : Dev nD) : FVec Ideal S8x704x1024 .bf16 := m ((c : Thread nD τ).loc main_arg0)
abbrev Q (c : Dev nD) : FVec Ideal S8x704x1024 .bf16 := m ((c : Thread nD τ).loc main_arg1)
abbrev W (c : Dev nD) : FVec Ideal S2x1024x704 .f32 := m ((c : Thread nD τ).loc main_arg2)
abbrev M (c : Dev nD) : FVec Ideal S2x1024x704 .f32 := m ((c : Thread nD τ).loc main_arg3)
abbrev U (c : Dev nD) : FVec Ideal S2x1024x704 .f32 := m ((c : Thread nD τ).loc main_arg4)

/-- The blocks each point works on. -/
theorem idx : ∀ t : Fin cfg0.N, (t.val < 4 → win0_0.index t = ![0, t.val % 4, 0]) ∧ (4 ≤ t.val → win0_1.index t = ![0, t.val % 4, 0])
    ∧ win0_2.index t = ![t.val / 4, t.val % 4, 0] ∧ win0_3.index t = ![t.val / 4, t.val % 4, 0]
    ∧ win0_4.index t = ![t.val / 4, t.val % 4, 0] ∧ win0_5.index t = ![t.val / 4, t.val % 4, 0]
    ∧ win0_6.index t = ![t.val / 4, t.val % 4, 0] ∧ win0_7.index t = ![t.val / 4, t.val % 4, 0]
    ∧ win0_8.index t = ![t.val / 4, t.val % 4, 0] ∧ t.val < 8 :=
  (by decide +kernel : ∀ t : Fin grid0.N, _)

theorem lt_lay (t : Fin cfg0.N) : t.val / 4 < 2 := by
  have := (idx t).2.2.2.2.2.2.2.2.2
  omega

/-- The layer point `t` works on. -/
abbrev lay (t : Fin cfg0.N) : Fin 2 := ⟨t.val / 4, lt_lay t⟩

/-- Row `r` of the block point `t` works on. -/
abbrev row (t : Fin cfg0.N) (r : Fin 176) : Fin 704 := ⟨t.val % 4 * 176 + r.val, by omega⟩

theorem part0_of (B : FVec Ideal S8x704x1024 .bf16) (t : Fin cfg0.N) (h : t.val < 4) (e : Nat) (he : e < 8)
    (inb : ∀ i, ![e, 0, 0] i + S1x176x1024.size i ≤ S8x176x1024.size i) (i : Fin 1) (r : Fin 176) (d : Fin 1024) :
    (show FVec Ideal S1x176x1024 .bf16 from View.ld (((cfg0.win 0).blk t).view.read (Elt Ideal) B) (Rect.unit ![e, 0, 0] ![1, 176, 1024] inb)) (ix3 i r d)
      = B (ix3 ⟨e, he⟩ (row t r) d) := by
  refine congrArg B ?_
  blk_ext [(idx t).1 h]
  · show e + 1 * i.val = e; omega
  · show t.val % 4 * 176 + (0 + 1 * r.val) = _; omega
  · show 0 + 1 * d.val = _; omega

theorem part1_of (B : FVec Ideal S8x704x1024 .bf16) (t : Fin cfg0.N) (h : 4 ≤ t.val) (e : Nat) (he : e < 8)
    (inb : ∀ i, ![e, 0, 0] i + S1x176x1024.size i ≤ S8x176x1024.size i) (i : Fin 1) (r : Fin 176) (d : Fin 1024) :
    (show FVec Ideal S1x176x1024 .bf16 from View.ld (((cfg0.win 1).blk t).view.read (Elt Ideal) B) (Rect.unit ![e, 0, 0] ![1, 176, 1024] inb)) (ix3 i r d)
      = B (ix3 ⟨e, he⟩ (row t r) d) := by
  refine congrArg B ?_
  blk_ext [(idx t).2.1 h]
  · show e + 1 * i.val = e; omega
  · show t.val % 4 * 176 + (0 + 1 * r.val) = _; omega
  · show 0 + 1 * d.val = _; omega

/-- What the host operations before the region leave in a buffer. -/
theorem entry (c : Dev nD) (b : Ref sig .tc) :
    V m c b = StableHlo.after hostOps0 (fun b => m (c, b)) (Proc.devRef .tc b) := by
  show StableHlo.after [hostOps0].flatten _ _ = _
  rw [List.flatten_cons, List.flatten_nil, List.append_nil]

theorem host2 (c : Dev nD) (l : Fin 2) (r : Fin 704) (d : Fin 1024) :
    (show FVec Ideal S2x704x1024 .f32 from V m c main_v0) (ix3 l r d) = W m c (ix3 l d r) := by
  refine (congrFun (entry m c main_v0) _).trans ?_
  entry_read
  pointwise []

theorem blk2_of (B : FVec Ideal S2x704x1024 .f32) (t : Fin cfg0.N) (i : Fin 1) (r : Fin 176) (d : Fin 1024) :
    (show FVec Ideal S1x176x1024 .f32 from ((cfg0.win 2).blk t).view.read (Elt Ideal) B) (ix3 i r d) = B (ix3 (lay t) (row t r) d) := by
  refine congrArg B ?_
  blk_ext [idx t]

theorem blk2 (c : Dev nD) (t : Fin cfg0.N) (i : Fin 1) (r : Fin 176) (d : Fin 1024) :
    (show FVec Ideal S1x176x1024 .f32 from iblk m c 2 t) (ix3 i r d) = W m c (ix3 (lay t) d (row t r)) :=
  (blk2_of _ t i r d).trans (host2 m c _ _ _)

theorem host3 (c : Dev nD) (l : Fin 2) (r : Fin 704) (d : Fin 1024) :
    (show FVec Ideal S2x704x1024 .f32 from V m c main_v1) (ix3 l r d) = M m c (ix3 l d r) := by
  refine (congrFun (entry m c main_v1) _).trans ?_
  entry_read
  pointwise []

theorem blk3_of (B : FVec Ideal S2x704x1024 .f32) (t : Fin cfg0.N) (i : Fin 1) (r : Fin 176) (d : Fin 1024) :
    (show FVec Ideal S1x176x1024 .f32 from ((cfg0.win 3).blk t).view.read (Elt Ideal) B) (ix3 i r d) = B (ix3 (lay t) (row t r) d) := by
  refine congrArg B ?_
  blk_ext [idx t]

theorem blk3 (c : Dev nD) (t : Fin cfg0.N) (i : Fin 1) (r : Fin 176) (d : Fin 1024) :
    (show FVec Ideal S1x176x1024 .f32 from iblk m c 3 t) (ix3 i r d) = M m c (ix3 (lay t) d (row t r)) :=
  (blk3_of _ t i r d).trans (host3 m c _ _ _)

theorem host4 (c : Dev nD) (l : Fin 2) (r : Fin 704) (d : Fin 1024) :
    (show FVec Ideal S2x704x1024 .f32 from V m c main_v2) (ix3 l r d) = U m c (ix3 l d r) := by
  refine (congrFun (entry m c main_v2) _).trans ?_
  entry_read
  pointwise []

theorem blk4_of (B : FVec Ideal S2x704x1024 .f32) (t : Fin cfg0.N) (i : Fin 1) (r : Fin 176) (d : Fin 1024) :
    (show FVec Ideal S1x176x1024 .f32 from ((cfg0.win 4).blk t).view.read (Elt Ideal) B) (ix3 i r d) = B (ix3 (lay t) (row t r) d) := by
  refine congrArg B ?_
  blk_ext [idx t]

theorem blk4 (c : Dev nD) (t : Fin cfg0.N) (i : Fin 1) (r : Fin 176) (d : Fin 1024) :
    (show FVec Ideal S1x176x1024 .f32 from iblk m c 4 t) (ix3 i r d) = U m c (ix3 (lay t) d (row t r)) :=
  (blk4_of _ t i r d).trans (host4 m c _ _ _)

/-- The eight partial gradients of layer 0, as the kernel adds them. -/
abbrev gA (c : Dev nD) (t : Fin cfg0.N) : FVec Ideal S176x1024 .f32 :=
  k0_pay5 (F := Ideal) (View.ld (iblk m c 0 t) (Rect.unit ![0, 0, 0] ![1, 176, 1024] inb_S8x176x1024_S1x176x1024_0_0_0)) (View.ld (iblk m c 0 t) (Rect.unit ![1, 0, 0] ![1, 176, 1024] inb_S8x176x1024_S1x176x1024_1_0_0)) (View.ld (iblk m c 0 t) (Rect.unit ![2, 0, 0] ![1, 176, 1024] inb_S8x176x1024_S1x176x1024_2_0_0)) (View.ld (iblk m c 0 t) (Rect.unit ![3, 0, 0] ![1, 176, 1024] inb_S8x176x1024_S1x176x1024_3_0_0)) (View.ld (iblk m c 0 t) (Rect.unit ![4, 0, 0] ![1, 176, 1024] inb_S8x176x1024_S1x176x1024_4_0_0)) (View.ld (iblk m c 0 t) (Rect.unit ![5, 0, 0] ![1, 176, 1024] inb_S8x176x1024_S1x176x1024_5_0_0)) (View.ld (iblk m c 0 t) (Rect.unit ![6, 0, 0] ![1, 176, 1024] inb_S8x176x1024_S1x176x1024_6_0_0)) (View.ld (iblk m c 0 t) (Rect.unit ![7, 0, 0] ![1, 176, 1024] inb_S8x176x1024_S1x176x1024_7_0_0))

theorem gA_at (c : Dev nD) (t : Fin cfg0.N) (h : t.val < 4) (r : Fin 176) (d : Fin 1024) :
    (gA m c t (ix2 r d) : EReal) = val_main_v6 (F := Ideal) (P m c) (Q m c) (ix3 (lay t) (row t r) d) := by
  have hl : lay t = 0 := Fin.ext (show t.val / 4 = 0 by have := (idx t).2.2.2.2.2.2.2.2.2; omega)
  rw [hl, g0_at, Fin.sum_univ_eight]
  exact (sumA_at _ _ _ _ _ _ _ _ r d).trans
    (congrArg₂ (· + ·) (congrArg₂ (· + ·) (congrArg₂ (· + ·) (congrArg₂ (· + ·) (congrArg₂ (· + ·) (congrArg₂ (· + ·) (congrArg₂ (· + ·) (part0_of _ t h 0 (by omega) inb_S8x176x1024_S1x176x1024_0_0_0 0 r d) (part0_of _ t h 1 (by omega) inb_S8x176x1024_S1x176x1024_1_0_0 0 r d)) (part0_of _ t h 2 (by omega) inb_S8x176x1024_S1x176x1024_2_0_0 0 r d)) (part0_of _ t h 3 (by omega) inb_S8x176x1024_S1x176x1024_3_0_0 0 r d)) (part0_of _ t h 4 (by omega) inb_S8x176x1024_S1x176x1024_4_0_0 0 r d)) (part0_of _ t h 5 (by omega) inb_S8x176x1024_S1x176x1024_5_0_0 0 r d)) (part0_of _ t h 6 (by omega) inb_S8x176x1024_S1x176x1024_6_0_0 0 r d)) (part0_of _ t h 7 (by omega) inb_S8x176x1024_S1x176x1024_7_0_0 0 r d))

/-- The eight partial gradients of layer 1, as the kernel adds them. -/
abbrev gB (c : Dev nD) (t : Fin cfg0.N) : FVec Ideal S176x1024 .f32 :=
  k0_pay11 (F := Ideal) (View.ld (iblk m c 1 t) (Rect.unit ![0, 0, 0] ![1, 176, 1024] inb_S8x176x1024_S1x176x1024_0_0_0)) (View.ld (iblk m c 1 t) (Rect.unit ![1, 0, 0] ![1, 176, 1024] inb_S8x176x1024_S1x176x1024_1_0_0)) (View.ld (iblk m c 1 t) (Rect.unit ![2, 0, 0] ![1, 176, 1024] inb_S8x176x1024_S1x176x1024_2_0_0)) (View.ld (iblk m c 1 t) (Rect.unit ![3, 0, 0] ![1, 176, 1024] inb_S8x176x1024_S1x176x1024_3_0_0)) (View.ld (iblk m c 1 t) (Rect.unit ![4, 0, 0] ![1, 176, 1024] inb_S8x176x1024_S1x176x1024_4_0_0)) (View.ld (iblk m c 1 t) (Rect.unit ![5, 0, 0] ![1, 176, 1024] inb_S8x176x1024_S1x176x1024_5_0_0)) (View.ld (iblk m c 1 t) (Rect.unit ![6, 0, 0] ![1, 176, 1024] inb_S8x176x1024_S1x176x1024_6_0_0)) (View.ld (iblk m c 1 t) (Rect.unit ![7, 0, 0] ![1, 176, 1024] inb_S8x176x1024_S1x176x1024_7_0_0))

theorem gB_at (c : Dev nD) (t : Fin cfg0.N) (h : 4 ≤ t.val) (r : Fin 176) (d : Fin 1024) :
    (gB m c t (ix2 r d) : EReal) = val_main_v6 (F := Ideal) (P m c) (Q m c) (ix3 (lay t) (row t r) d) := by
  have hl : lay t = 1 := Fin.ext (show t.val / 4 = 1 by have := (idx t).2.2.2.2.2.2.2.2.2; omega)
  rw [hl, g1_at, Fin.sum_univ_eight]
  exact (sumB_at _ _ _ _ _ _ _ _ r d).trans
    (congrArg₂ (· + ·) (congrArg₂ (· + ·) (congrArg₂ (· + ·) (congrArg₂ (· + ·) (congrArg₂ (· + ·) (congrArg₂ (· + ·) (congrArg₂ (· + ·) (part1_of _ t h 0 (by omega) inb_S8x176x1024_S1x176x1024_0_0_0 0 r d) (part1_of _ t h 1 (by omega) inb_S8x176x1024_S1x176x1024_1_0_0 0 r d)) (part1_of _ t h 2 (by omega) inb_S8x176x1024_S1x176x1024_2_0_0 0 r d)) (part1_of _ t h 3 (by omega) inb_S8x176x1024_S1x176x1024_3_0_0 0 r d)) (part1_of _ t h 4 (by omega) inb_S8x176x1024_S1x176x1024_4_0_0 0 r d)) (part1_of _ t h 5 (by omega) inb_S8x176x1024_S1x176x1024_5_0_0 0 r d)) (part1_of _ t h 6 (by omega) inb_S8x176x1024_S1x176x1024_6_0_0 0 r d)) (part1_of _ t h 7 (by omega) inb_S8x176x1024_S1x176x1024_7_0_0 0 r d))

/-! ## What each point leaves in the results -/

theorem tile5 (c : Dev nD) (t : Fin cfg0.N) (i : Fin 1) (r : Fin 176) (d : Fin 1024) :
    ((outsAt0 m c t.val t.isLt).1 (ix3 i r d) : EReal) = turnG (P m c) (Q m c) (ix3 (lay t) (row t r) d) := by
  have hN := (idx t).2.2.2.2.2.2.2.2.2
  rw [rg_at]
  by_cases hc : t.val < 4
  · rw [outsAt0_A m c t (by omega) (by omega)]
    frame_out
    exact (ogA_at (gA m c t) i r d).trans (gA_at m c t hc r d)
  · replace hc : 4 ≤ t.val := by omega
    rw [outsAt0_B m c t (by omega) (by omega)]
    frame_out
    exact (ogB_at (gB m c t) i r d).trans (gB_at m c t hc r d)

/-- The gradient. -/
theorem final5 (c : Dev nD) : (dats m 0 c).arrAt 5 (cfgs 0).N = turnG (P m c) (Q m c) := by
  refine (dats m 0 c).arrAt_eq_of_covers 5 _ (by decide +kernel) fun t hf y => ?_
  rw [after0_5]
  rw [split3 y]
  refine (tile5 m c t _ _ _).trans ?_
  exact congrArg (turnG (P m c) (Q m c)) (show ix3 (lay t) (row t (y 1)) (y 2) = _ by blk_ext [idx t])

theorem tile6 (c : Dev nD) (t : Fin cfg0.N) (i : Fin 1) (r : Fin 176) (d : Fin 1024) :
    ((outsAt0 m c t.val t.isLt).2.1 (ix3 i r d) : EReal) = turnD (P m c) (Q m c) (W m c) (M m c) (U m c) (ix3 (lay t) (row t r) d) := by
  have hN := (idx t).2.2.2.2.2.2.2.2.2
  rw [rd_at]
  by_cases hc : t.val < 4
  · rw [outsAt0_A m c t (by omega) (by omega)]
    frame_out
    exact (odA_at (gA m c t) (iblk m c 2 t) (iblk m c 3 t) (iblk m c 4 t) i r d).trans (DL_eq (gA_at m c t hc r d) (blk2 m c t 0 r d) (blk3 m c t 0 r d) (blk4 m c t 0 r d))
  · replace hc : 4 ≤ t.val := by omega
    rw [outsAt0_B m c t (by omega) (by omega)]
    frame_out
    exact (odB_at (gB m c t) (iblk m c 2 t) (iblk m c 3 t) (iblk m c 4 t) i r d).trans (DL_eq (gB_at m c t hc r d) (blk2 m c t 0 r d) (blk3 m c t 0 r d) (blk4 m c t 0 r d))

/-- What the step adds to the weights. -/
theorem final6 (c : Dev nD) : (dats m 0 c).arrAt 6 (cfgs 0).N = turnD (P m c) (Q m c) (W m c) (M m c) (U m c) := by
  refine (dats m 0 c).arrAt_eq_of_covers 6 _ (by decide +kernel) fun t hf y => ?_
  rw [after0_6]
  rw [split3 y]
  refine (tile6 m c t _ _ _).trans ?_
  exact congrArg (turnD (P m c) (Q m c) (W m c) (M m c) (U m c)) (show ix3 (lay t) (row t (y 1)) (y 2) = _ by blk_ext [idx t])

theorem tile7 (c : Dev nD) (t : Fin cfg0.N) (i : Fin 1) (r : Fin 176) (d : Fin 1024) :
    ((outsAt0 m c t.val t.isLt).2.2.1 (ix3 i r d) : EReal) = turnM (P m c) (Q m c) (M m c) (ix3 (lay t) (row t r) d) := by
  have hN := (idx t).2.2.2.2.2.2.2.2.2
  rw [rm_at]
  by_cases hc : t.val < 4
  · rw [outsAt0_A m c t (by omega) (by omega)]
    frame_out
    exact (omA_at (gA m c t) (iblk m c 3 t) i r d).trans (NM_eq (gA_at m c t hc r d) (blk3 m c t 0 r d))
  · replace hc : 4 ≤ t.val := by omega
    rw [outsAt0_B m c t (by omega) (by omega)]
    frame_out
    exact (omB_at (gB m c t) (iblk m c 3 t) i r d).trans (NM_eq (gB_at m c t hc r d) (blk3 m c t 0 r d))

/-- The new first moment. -/
theorem final7 (c : Dev nD) : (dats m 0 c).arrAt 7 (cfgs 0).N = turnM (P m c) (Q m c) (M m c) := by
  refine (dats m 0 c).arrAt_eq_of_covers 7 _ (by decide +kernel) fun t hf y => ?_
  rw [after0_7]
  rw [split3 y]
  refine (tile7 m c t _ _ _).trans ?_
  exact congrArg (turnM (P m c) (Q m c) (M m c)) (show ix3 (lay t) (row t (y 1)) (y 2) = _ by blk_ext [idx t])

theorem tile8 (c : Dev nD) (t : Fin cfg0.N) (i : Fin 1) (r : Fin 176) (d : Fin 1024) :
    ((outsAt0 m c t.val t.isLt).2.2.2 (ix3 i r d) : EReal) = turnV (P m c) (Q m c) (U m c) (ix3 (lay t) (row t r) d) := by
  have hN := (idx t).2.2.2.2.2.2.2.2.2
  rw [rv_at]
  by_cases hc : t.val < 4
  · rw [outsAt0_A m c t (by omega) (by omega)]
    frame_out
    exact (ovA_at (gA m c t) (iblk m c 4 t) i r d).trans (NV_eq (gA_at m c t hc r d) (blk4 m c t 0 r d))
  · replace hc : 4 ≤ t.val := by omega
    rw [outsAt0_B m c t (by omega) (by omega)]
    frame_out
    exact (ovB_at (gB m c t) (iblk m c 4 t) i r d).trans (NV_eq (gB_at m c t hc r d) (blk4 m c t 0 r d))

/-- The new second moment. -/
theorem final8 (c : Dev nD) : (dats m 0 c).arrAt 8 (cfgs 0).N = turnV (P m c) (Q m c) (U m c) := by
  refine (dats m 0 c).arrAt_eq_of_covers 8 _ (by decide +kernel) fun t hf y => ?_
  rw [after0_8]
  rw [split3 y]
  refine (tile8 m c t _ _ _).trans ?_
  exact congrArg (turnV (P m c) (Q m c) (U m c)) (show ix3 (lay t) (row t (y 1)) (y 2) = _ by blk_ext [idx t])

/-! ## The host's exchange of the axes after the call -/

/-- Exchanging the two axes of a layer twice gives back the array. -/
theorem turn_turn (B : FVec Ideal S2x1024x704 .f32) :
    transpose S2x1024x704 [0, 2, 1] (transpose S2x704x1024 [0, 2, 1] B transposes_S2x1024x704_S2x704x1024_0_2_1) transposes_S2x704x1024_S2x1024x704_0_2_1 = B := by
  funext y
  rw [split3 y]
  pointwise []

/-- The arrays the host starts from after the call. -/
abbrev after (c : Dev nD) : Valuation τ sig (Elt Ideal) :=
  Pipeline.withArrays spec0 c (V0 m c) fun w => (dats m 0 c).arrAt w (cfgs 0).N

theorem after_tail (c : Dev nD) (b : Ref sig .tc) :
    Pipeline.afterTail₀ cfgs (dats m) 0 (V0 m) [hostOps1] c b = StableHlo.after hostOps1 (after m c) (Proc.devRef .tc b) := by
  show StableHlo.after [hostOps1].flatten _ _ = _
  rw [List.flatten_cons, List.flatten_nil, List.append_nil]

theorem result4 (c : Dev nD) :
    Pipeline.afterTail₀ cfgs (dats m) 0 (V0 m) [hostOps1] c main_v4 = val_main_v7 (F := Ideal) (P m c) (Q m c) := by
  have e : after m c (Proc.devRef .tc main_v3_0) = turnG (P m c) (Q m c) :=
    (Pipeline.withArrays_arr spec0 (by decide) c (V0 m c) (fun w => (dats m 0 c).arrAt w (cfgs 0).N) 5).trans (final5 m c)
  rw [after_tail]
  after_results
  rw [e]
  exact turn_turn _

theorem result5 (c : Dev nD) :
    Pipeline.afterTail₀ cfgs (dats m) 0 (V0 m) [hostOps1] c main_v5 = val_main_v31 (F := Ideal) (P m c) (Q m c) (W m c) (M m c) (U m c) := by
  have e : after m c (Proc.devRef .tc main_v3_1) = turnD (P m c) (Q m c) (W m c) (M m c) (U m c) :=
    (Pipeline.withArrays_arr spec0 (by decide) c (V0 m c) (fun w => (dats m 0 c).arrAt w (cfgs 0).N) 6).trans (final6 m c)
  rw [after_tail]
  after_results
  rw [e]
  exact turn_turn _

theorem result6 (c : Dev nD) :
    Pipeline.afterTail₀ cfgs (dats m) 0 (V0 m) [hostOps1] c main_v6 = val_main_v12 (F := Ideal) (P m c) (Q m c) (M m c) := by
  have e : after m c (Proc.devRef .tc main_v3_2) = turnM (P m c) (Q m c) (M m c) :=
    (Pipeline.withArrays_arr spec0 (by decide) c (V0 m c) (fun w => (dats m 0 c).arrAt w (cfgs 0).N) 7).trans (final7 m c)
  rw [after_tail]
  after_results
  rw [e]
  exact turn_turn _

theorem result7 (c : Dev nD) :
    Pipeline.afterTail₀ cfgs (dats m) 0 (V0 m) [hostOps1] c main_v7 = val_main_v18 (F := Ideal) (P m c) (Q m c) (U m c) := by
  have e : after m c (Proc.devRef .tc main_v3_3) = turnV (P m c) (Q m c) (U m c) :=
    (Pipeline.withArrays_arr spec0 (by decide) c (V0 m c) (fun w => (dats m 0 c).arrAt w (cfgs 0).N) 8).trans (final8 m c)
  rw [after_tail]
  after_results
  rw [e]
  exact turn_turn _

end Cert.Kernel11Ideal.Adam

end
-- ==== Proof.Claims11.lean ====
module

public import proofs.«01_k».proof.Defs
public import proofs.«01_k».proof.Proof.Gen.Kernel11Ideal
public import proofs.«01_k».proof.Proof.Gen.Reference11Ideal
public import proofs.«01_k».proof.Proof.Gen.Reference11Ideal.Run
public import proofs.«01_k».proof.Proof.Gen.Reference11Ideal.Read
public import proofs.«01_k».proof.Proof.Adam11

/-! The optimiser on the shard of the gate and up matrix: the call and its reference end with the same four arrays. -/

@[expose] public section

set_option maxRecDepth 16384

noncomputable section

namespace Cert.Proof

open Idealize.ShloMosaic Idealize.ShloMosaic.TcCoe Idealize.SL.Sem

section

open Cert.Reference11Ideal Cert.Reference11Ideal.Read

/-- What the reference leaves, by the names of its values. -/
theorem left11 (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v7) = val_main_v7 (F := Ideal) (m' ((c.tc : Thread nD τ).loc main_arg0)) (m' ((c.tc : Thread nD τ).loc main_arg1))
      ∧ r.2.mem ((c.tc : Thread nD τ).loc main_v31) = val_main_v31 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))
      ∧ r.2.mem ((c.tc : Thread nD τ).loc main_v12) = val_main_v12 (F := Ideal) (m' ((c.tc : Thread nD τ).loc main_arg0)) (m' ((c.tc : Thread nD τ).loc main_arg1)) (m' ((c.tc : Thread nD τ).loc main_arg3))
      ∧ r.2.mem ((c.tc : Thread nD τ).loc main_v18) = val_main_v18 (F := Ideal) (m' ((c.tc : Thread nD τ).loc main_arg0)) (m' ((c.tc : Thread nD τ).loc main_arg1)) (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) := by
  refine (θ_run _ _ _).mono (fun r h c => ?_) (Cert.Reference11Ideal.Value.run m' g')
  obtain ⟨a, b, d, e, p⟩ := h c
  exact ⟨a.trans (val_main_v7_eq _ _), b.trans (val_main_v31_eq _ _ _ _ _), d.trans (val_main_v12_eq _ _ _), e.trans (val_main_v18_eq _ _ _), p⟩

end

section

open Cert.Kernel11Ideal Cert.Kernel11Ideal.Gen

/-- What the call leaves in its four results and its arguments. -/
theorem kept11 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4) = Pipeline.afterTail₀ cfgs (dats m) 0 (V0 m) [hostOps1] c main_v4
      ∧ r.2.mem ((c.tc : Thread nD τ).loc main_v5) = Pipeline.afterTail₀ cfgs (dats m) 0 (V0 m) [hostOps1] c main_v5
      ∧ r.2.mem ((c.tc : Thread nD τ).loc main_v6) = Pipeline.afterTail₀ cfgs (dats m) 0 (V0 m) [hostOps1] c main_v6
      ∧ r.2.mem ((c.tc : Thread nD τ).loc main_v7) = Pipeline.afterTail₀ cfgs (dats m) 0 (V0 m) [hostOps1] c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h.1 c).2 main_v4 (by decide), (h.1 c).2 main_v5 (by decide), (h.1 c).2 main_v6 (by decide), (h.1 c).2 main_v7 (by decide), h.2 c⟩) (θ_run_and (run_main m g) (unchanged m g))

end

/-- From equal arguments the call and its reference leave equal results. -/
theorem same11 : Cert.algebraic_Kernel11Ideal_Reference11Ideal := by
  intro m g m' g' hpre hagree
  refine ⟨fun c => Pipeline.afterTail₀ Cert.Kernel11Ideal.cfgs (Cert.Kernel11Ideal.Gen.dats m) 0 (Cert.Kernel11Ideal.Gen.V0 m) [Cert.Kernel11Ideal.Gen.hostOps1] c Cert.Kernel11Ideal.main_v4, fun c => Pipeline.afterTail₀ Cert.Kernel11Ideal.cfgs (Cert.Kernel11Ideal.Gen.dats m) 0 (Cert.Kernel11Ideal.Gen.V0 m) [Cert.Kernel11Ideal.Gen.hostOps1] c Cert.Kernel11Ideal.main_v5, fun c => Pipeline.afterTail₀ Cert.Kernel11Ideal.cfgs (Cert.Kernel11Ideal.Gen.dats m) 0 (Cert.Kernel11Ideal.Gen.V0 m) [Cert.Kernel11Ideal.Gen.hostOps1] c Cert.Kernel11Ideal.main_v6, fun c => Pipeline.afterTail₀ Cert.Kernel11Ideal.cfgs (Cert.Kernel11Ideal.Gen.dats m) 0 (Cert.Kernel11Ideal.Gen.V0 m) [Cert.Kernel11Ideal.Gen.hostOps1] c Cert.Kernel11Ideal.main_v7,
    kept11 m g, (θ_run _ _ _).mono (fun r h c => ?_) (left11 m' g')⟩
  obtain ⟨a, b, d, e, p⟩ := h c
  obtain ⟨h0, h1, h2, h3, h4⟩ := hagree c
  rw [h0, h1] at a
  rw [h0, h1, h2, h3, h4] at b
  rw [h0, h1, h3] at d
  rw [h0, h1, h4] at e
  exact ⟨a.trans (Cert.Kernel11Ideal.Adam.result4 m c).symm, b.trans (Cert.Kernel11Ideal.Adam.result5 m c).symm, d.trans (Cert.Kernel11Ideal.Adam.result6 m c).symm, e.trans (Cert.Kernel11Ideal.Adam.result7 m c).symm, p⟩

/-- The reference leaves its arguments and its counters as they were. -/
theorem still11 : Cert.quiescent_Reference11Ideal := fun m g _ =>
  (θ_run _ _ _).mono (fun r h => ⟨fun c => (h c).2.2.2.2, sem_eq_zero_of_no_sems (by decide) r.2⟩) (left11 m g)

end Cert.Proof

end
-- ==== Proof.Adam12.lean ====
module

public import proofs.«01_k».proof.Proof.Gen.Kernel12Ideal.Frame
public import proofs.«01_k».proof.Proof.Gen.Reference12Ideal.Read
public import proofs.«01_k».proof.Proof.Adam
public import Idealize.ShloMosaic.Lib.Pipeline.ValueKit

/-! The optimiser on the shard of the down matrix: each of its four results is the reference's. -/

@[expose] public section

set_option maxRecDepth 16384

noncomputable section

namespace Cert.Kernel12Ideal.Adam

open Cert.Kernel12Ideal Cert.Kernel12Ideal.Gen Cert.Adam Idealize.ShloMosaic Idealize.ShloMosaic.TcCoe Idealize.SL.Sem
open Cert.Reference12Ideal.Read
open Idealize.ShloMosaic.Pipeline (Dat)

section

variable (P Q : FVec Ideal S8x352x1024 .bf16) (W M V : FVec Ideal S2x352x1024 .f32)

/-! ## The reference at an index -/

theorem g0_at (r : Fin 352) (d : Fin 1024) : (val_main_v6 (F := Ideal) P Q (ix3 0 r d) : EReal) = ∑ e : Fin 8, P (ix3 e r d) := by
  pointwise [val_main_v6, val_main_v5, val_main_v4, val_main_v3, val_main_v2, val_main_v1, val_main_v0, val_main_cst, val_main_cst_0]

theorem g1_at (r : Fin 352) (d : Fin 1024) : (val_main_v6 (F := Ideal) P Q (ix3 1 r d) : EReal) = ∑ e : Fin 8, Q (ix3 e r d) := by
  pointwise [val_main_v6, val_main_v5, val_main_v4, val_main_v3, val_main_v2, val_main_v1, val_main_v0, val_main_cst, val_main_cst_0]

theorem rm_at (l : Fin 2) (r : Fin 352) (d : Fin 1024) : (val_main_v11 (F := Ideal) P Q M (ix3 l r d) : EReal)
    = NM (val_main_v6 (F := Ideal) P Q (ix3 l r d)) (M (ix3 l r d)) := by
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst_1, val_main_cst_2, val_main_cst_3, val_main_cst_4, val_main_cst_5, val_main_cst_6, val_main_cst_7, val_main_cst_8, val_main_cst_9]

theorem rv_at (l : Fin 2) (r : Fin 352) (d : Fin 1024) : (val_main_v17 (F := Ideal) P Q V (ix3 l r d) : EReal)
    = NV (val_main_v6 (F := Ideal) P Q (ix3 l r d)) (V (ix3 l r d)) := by
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst_1, val_main_cst_2, val_main_cst_3, val_main_cst_4, val_main_cst_5, val_main_cst_6, val_main_cst_7, val_main_cst_8, val_main_cst_9]

theorem rd_at (l : Fin 2) (r : Fin 352) (d : Fin 1024) : (val_main_v30 (F := Ideal) P Q W M V (ix3 l r d) : EReal)
    = DL (val_main_v6 (F := Ideal) P Q (ix3 l r d)) (W (ix3 l r d)) (M (ix3 l r d)) (V (ix3 l r d)) := by
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst_1, val_main_cst_2, val_main_cst_3, val_main_cst_4, val_main_cst_5, val_main_cst_6, val_main_cst_7, val_main_cst_8, val_main_cst_9]

end

/-! ## The payloads at an index -/

theorem sumA_at (a0 a1 a2 a3 a4 a5 a6 a7 : FVec Ideal S1x176x1024 .bf16) (r : Fin 176) (d : Fin 1024) :
    (k0_pay5 (F := Ideal) a0 a1 a2 a3 a4 a5 a6 a7 (ix2 r d) : EReal) = a0 (ix3 0 r d) + a1 (ix3 0 r d) + a2 (ix3 0 r d) + a3 (ix3 0 r d)
      + a4 (ix3 0 r d) + a5 (ix3 0 r d) + a6 (ix3 0 r d) + a7 (ix3 0 r d) := by
  pointwise [k0_pay5]

theorem ogA_at (G : FVec Ideal S176x1024 .f32) (i : Fin 1) (r : Fin 176) (d : Fin 1024) :
    (k0_pay9 (F := Ideal) G (ix3 i r d) : EReal) = G (ix2 r d) := by
  pointwise [k0_pay9]

theorem omA_at (G : FVec Ideal S176x1024 .f32) (M : FVec Ideal S1x176x1024 .f32) (i : Fin 1) (r : Fin 176) (d : Fin 1024) :
    (k0_pay1 (F := Ideal) (k0_pay7 G M) (ix3 i r d) : EReal) = NM (G (ix2 r d)) (M (ix3 0 r d)) := by
  pointwise [k0_pay1, k0_pay7]

theorem ovA_at (G : FVec Ideal S176x1024 .f32) (V : FVec Ideal S1x176x1024 .f32) (i : Fin 1) (r : Fin 176) (d : Fin 1024) :
    (k0_pay2 (F := Ideal) (k0_pay8 G V) (ix3 i r d) : EReal) = NV (G (ix2 r d)) (V (ix3 0 r d)) := by
  pointwise [k0_pay2, k0_pay8]

theorem odA_at (G : FVec Ideal S176x1024 .f32) (W M V : FVec Ideal S1x176x1024 .f32) (i : Fin 1) (r : Fin 176) (d : Fin 1024) :
    (k0_pay10 (F := Ideal) G (k0_pay6 W) M V (ix3 i r d) : EReal) = DL (G (ix2 r d)) (W (ix3 0 r d)) (M (ix3 0 r d)) (V (ix3 0 r d)) := by
  pointwise [k0_pay10, k0_pay6, k0_pay7, k0_pay8]

theorem sumB_at (a0 a1 a2 a3 a4 a5 a6 a7 : FVec Ideal S1x176x1024 .bf16) (r : Fin 176) (d : Fin 1024) :
    (k0_pay11 (F := Ideal) a0 a1 a2 a3 a4 a5 a6 a7 (ix2 r d) : EReal) = a0 (ix3 0 r d) + a1 (ix3 0 r d) + a2 (ix3 0 r d) + a3 (ix3 0 r d)
      + a4 (ix3 0 r d) + a5 (ix3 0 r d) + a6 (ix3 0 r d) + a7 (ix3 0 r d) := by
  pointwise [k0_pay11]

theorem ogB_at (G : FVec Ideal S176x1024 .f32) (i : Fin 1) (r : Fin 176) (d : Fin 1024) :
    (k0_pay15 (F := Ideal) G (ix3 i r d) : EReal) = G (ix2 r d) := by
  pointwise [k0_pay15]

theorem omB_at (G : FVec Ideal S176x1024 .f32) (M : FVec Ideal S1x176x1024 .f32) (i : Fin 1) (r : Fin 176) (d : Fin 1024) :
    (k0_pay3 (F := Ideal) (k0_pay13 G M) (ix3 i r d) : EReal) = NM (G (ix2 r d)) (M (ix3 0 r d)) := by
  pointwise [k0_pay3, k0_pay13]

theorem ovB_at (G : FVec Ideal S176x1024 .f32) (V : FVec Ideal S1x176x1024 .f32) (i : Fin 1) (r : Fin 176) (d : Fin 1024) :
    (k0_pay4 (F := Ideal) (k0_pay14 G V) (ix3 i r d) : EReal) = NV (G (ix2 r d)) (V (ix3 0 r d)) := by
  pointwise [k0_pay4, k0_pay14]

theorem odB_at (G : FVec Ideal S176x1024 .f32) (W M V : FVec Ideal S1x176x1024 .f32) (i : Fin 1) (r : Fin 176) (d : Fin 1024) :
    (k0_pay16 (F := Ideal) G (k0_pay12 W) M V (ix3 i r d) : EReal) = DL (G (ix2 r d)) (W (ix3 0 r d)) (M (ix3 0 r d)) (V (ix3 0 r d)) := by
  pointwise [k0_pay16, k0_pay12, k0_pay13, k0_pay14]

/-! ## The blocks at an index -/

variable (m : (ℓ : Loc nD τ sig) → Buf (Elt Ideal) ℓ)

abbrev P (c : Dev nD) : FVec Ideal S8x352x1024 .bf16 := m ((c : Thread nD τ).loc main_arg0)
abbrev Q (c : Dev nD) : FVec Ideal S8x352x1024 .bf16 := m ((c : Thread nD τ).loc main_arg1)
abbrev W (c : Dev nD) : FVec Ideal S2x352x1024 .f32 := m ((c : Thread nD τ).loc main_arg2)
abbrev M (c : Dev nD) : FVec Ideal S2x352x1024 .f32 := m ((c : Thread nD τ).loc main_arg3)
abbrev U (c : Dev nD) : FVec Ideal S2x352x1024 .f32 := m ((c : Thread nD τ).loc main_arg4)

/-- The blocks each point works on. -/
theorem idx : ∀ t : Fin cfg0.N, (t.val < 2 → win0_0.index t = ![0, t.val % 2, 0]) ∧ (2 ≤ t.val → win0_1.index t = ![0, t.val % 2, 0])
    ∧ win0_2.index t = ![t.val / 2, t.val % 2, 0] ∧ win0_3.index t = ![t.val / 2, t.val % 2, 0]
    ∧ win0_4.index t = ![t.val / 2, t.val % 2, 0] ∧ win0_5.index t = ![t.val / 2, t.val % 2, 0]
    ∧ win0_6.index t = ![t.val / 2, t.val % 2, 0] ∧ win0_7.index t = ![t.val / 2, t.val % 2, 0]
    ∧ win0_8.index t = ![t.val / 2, t.val % 2, 0] ∧ t.val < 4 :=
  (by decide +kernel : ∀ t : Fin grid0.N, _)

theorem lt_lay (t : Fin cfg0.N) : t.val / 2 < 2 := by
  have := (idx t).2.2.2.2.2.2.2.2.2
  omega

/-- The layer point `t` works on. -/
abbrev lay (t : Fin cfg0.N) : Fin 2 := ⟨t.val / 2, lt_lay t⟩

/-- Row `r` of the block point `t` works on. -/
abbrev row (t : Fin cfg0.N) (r : Fin 176) : Fin 352 := ⟨t.val % 2 * 176 + r.val, by omega⟩

theorem part0_of (B : FVec Ideal S8x352x1024 .bf16) (t : Fin cfg0.N) (h : t.val < 2) (e : Nat) (he : e < 8)
    (inb : ∀ i, ![e, 0, 0] i + S1x176x1024.size i ≤ S8x176x1024.size i) (i : Fin 1) (r : Fin 176) (d : Fin 1024) :
    (show FVec Ideal S1x176x1024 .bf16 from View.ld (((cfg0.win 0).blk t).view.read (Elt Ideal) B) (Rect.unit ![e, 0, 0] ![1, 176, 1024] inb)) (ix3 i r d)
      = B (ix3 ⟨e, he⟩ (row t r) d) := by
  refine congrArg B ?_
  blk_ext [(idx t).1 h]
  · show e + 1 * i.val = e; omega
  · show t.val % 2 * 176 + (0 + 1 * r.val) = _; omega
  · show 0 + 1 * d.val = _; omega

theorem part1_of (B : FVec Ideal S8x352x1024 .bf16) (t : Fin cfg0.N) (h : 2 ≤ t.val) (e : Nat) (he : e < 8)
    (inb : ∀ i, ![e, 0, 0] i + S1x176x1024.size i ≤ S8x176x1024.size i) (i : Fin 1) (r : Fin 176) (d : Fin 1024) :
    (show FVec Ideal S1x176x1024 .bf16 from View.ld (((cfg0.win 1).blk t).view.read (Elt Ideal) B) (Rect.unit ![e, 0, 0] ![1, 176, 1024] inb)) (ix3 i r d)
      = B (ix3 ⟨e, he⟩ (row t r) d) := by
  refine congrArg B ?_
  blk_ext [(idx t).2.1 h]
  · show e + 1 * i.val = e; omega
  · show t.val % 2 * 176 + (0 + 1 * r.val) = _; omega
  · show 0 + 1 * d.val = _; omega

theorem blk2 (c : Dev nD) (t : Fin cfg0.N) (i : Fin 1) (r : Fin 176) (d : Fin 1024) :
    (show FVec Ideal S1x176x1024 .f32 from iblk m c 2 t) (ix3 i r d) = W m c (ix3 (lay t) (row t r) d) := by
  blk_point [iblk, V, idx t]

theorem blk3 (c : Dev nD) (t : Fin cfg0.N) (i : Fin 1) (r : Fin 176) (d : Fin 1024) :
    (show FVec Ideal S1x176x1024 .f32 from iblk m c 3 t) (ix3 i r d) = M m c (ix3 (lay t) (row t r) d) := by
  blk_point [iblk, V, idx t]

theorem blk4 (c : Dev nD) (t : Fin cfg0.N) (i : Fin 1) (r : Fin 176) (d : Fin 1024) :
    (show FVec Ideal S1x176x1024 .f32 from iblk m c 4 t) (ix3 i r d) = U m c (ix3 (lay t) (row t r) d) := by
  blk_point [iblk, V, idx t]

/-- The eight partial gradients of layer 0, as the kernel adds them. -/
abbrev gA (c : Dev nD) (t : Fin cfg0.N) : FVec Ideal S176x1024 .f32 :=
  k0_pay5 (F := Ideal) (View.ld (iblk m c 0 t) (Rect.unit ![0, 0, 0] ![1, 176, 1024] inb_S8x176x1024_S1x176x1024_0_0_0)) (View.ld (iblk m c 0 t) (Rect.unit ![1, 0, 0] ![1, 176, 1024] inb_S8x176x1024_S1x176x1024_1_0_0)) (View.ld (iblk m c 0 t) (Rect.unit ![2, 0, 0] ![1, 176, 1024] inb_S8x176x1024_S1x176x1024_2_0_0)) (View.ld (iblk m c 0 t) (Rect.unit ![3, 0, 0] ![1, 176, 1024] inb_S8x176x1024_S1x176x1024_3_0_0)) (View.ld (iblk m c 0 t) (Rect.unit ![4, 0, 0] ![1, 176, 1024] inb_S8x176x1024_S1x176x1024_4_0_0)) (View.ld (iblk m c 0 t) (Rect.unit ![5, 0, 0] ![1, 176, 1024] inb_S8x176x1024_S1x176x1024_5_0_0)) (View.ld (iblk m c 0 t) (Rect.unit ![6, 0, 0] ![1, 176, 1024] inb_S8x176x1024_S1x176x1024_6_0_0)) (View.ld (iblk m c 0 t) (Rect.unit ![7, 0, 0] ![1, 176, 1024] inb_S8x176x1024_S1x176x1024_7_0_0))

theorem gA_at (c : Dev nD) (t : Fin cfg0.N) (h : t.val < 2) (r : Fin 176) (d : Fin 1024) :
    (gA m c t (ix2 r d) : EReal) = val_main_v6 (F := Ideal) (P m c) (Q m c) (ix3 (lay t) (row t r) d) := by
  have hl : lay t = 0 := Fin.ext (show t.val / 2 = 0 by have := (idx t).2.2.2.2.2.2.2.2.2; omega)
  rw [hl, g0_at, Fin.sum_univ_eight]
  exact (sumA_at _ _ _ _ _ _ _ _ r d).trans
    (congrArg₂ (· + ·) (congrArg₂ (· + ·) (congrArg₂ (· + ·) (congrArg₂ (· + ·) (congrArg₂ (· + ·) (congrArg₂ (· + ·) (congrArg₂ (· + ·) (part0_of _ t h 0 (by omega) inb_S8x176x1024_S1x176x1024_0_0_0 0 r d) (part0_of _ t h 1 (by omega) inb_S8x176x1024_S1x176x1024_1_0_0 0 r d)) (part0_of _ t h 2 (by omega) inb_S8x176x1024_S1x176x1024_2_0_0 0 r d)) (part0_of _ t h 3 (by omega) inb_S8x176x1024_S1x176x1024_3_0_0 0 r d)) (part0_of _ t h 4 (by omega) inb_S8x176x1024_S1x176x1024_4_0_0 0 r d)) (part0_of _ t h 5 (by omega) inb_S8x176x1024_S1x176x1024_5_0_0 0 r d)) (part0_of _ t h 6 (by omega) inb_S8x176x1024_S1x176x1024_6_0_0 0 r d)) (part0_of _ t h 7 (by omega) inb_S8x176x1024_S1x176x1024_7_0_0 0 r d))

/-- The eight partial gradients of layer 1, as the kernel adds them. -/
abbrev gB (c : Dev nD) (t : Fin cfg0.N) : FVec Ideal S176x1024 .f32 :=
  k0_pay11 (F := Ideal) (View.ld (iblk m c 1 t) (Rect.unit ![0, 0, 0] ![1, 176, 1024] inb_S8x176x1024_S1x176x1024_0_0_0)) (View.ld (iblk m c 1 t) (Rect.unit ![1, 0, 0] ![1, 176, 1024] inb_S8x176x1024_S1x176x1024_1_0_0)) (View.ld (iblk m c 1 t) (Rect.unit ![2, 0, 0] ![1, 176, 1024] inb_S8x176x1024_S1x176x1024_2_0_0)) (View.ld (iblk m c 1 t) (Rect.unit ![3, 0, 0] ![1, 176, 1024] inb_S8x176x1024_S1x176x1024_3_0_0)) (View.ld (iblk m c 1 t) (Rect.unit ![4, 0, 0] ![1, 176, 1024] inb_S8x176x1024_S1x176x1024_4_0_0)) (View.ld (iblk m c 1 t) (Rect.unit ![5, 0, 0] ![1, 176, 1024] inb_S8x176x1024_S1x176x1024_5_0_0)) (View.ld (iblk m c 1 t) (Rect.unit ![6, 0, 0] ![1, 176, 1024] inb_S8x176x1024_S1x176x1024_6_0_0)) (View.ld (iblk m c 1 t) (Rect.unit ![7, 0, 0] ![1, 176, 1024] inb_S8x176x1024_S1x176x1024_7_0_0))

theorem gB_at (c : Dev nD) (t : Fin cfg0.N) (h : 2 ≤ t.val) (r : Fin 176) (d : Fin 1024) :
    (gB m c t (ix2 r d) : EReal) = val_main_v6 (F := Ideal) (P m c) (Q m c) (ix3 (lay t) (row t r) d) := by
  have hl : lay t = 1 := Fin.ext (show t.val / 2 = 1 by have := (idx t).2.2.2.2.2.2.2.2.2; omega)
  rw [hl, g1_at, Fin.sum_univ_eight]
  exact (sumB_at _ _ _ _ _ _ _ _ r d).trans
    (congrArg₂ (· + ·) (congrArg₂ (· + ·) (congrArg₂ (· + ·) (congrArg₂ (· + ·) (congrArg₂ (· + ·) (congrArg₂ (· + ·) (congrArg₂ (· + ·) (part1_of _ t h 0 (by omega) inb_S8x176x1024_S1x176x1024_0_0_0 0 r d) (part1_of _ t h 1 (by omega) inb_S8x176x1024_S1x176x1024_1_0_0 0 r d)) (part1_of _ t h 2 (by omega) inb_S8x176x1024_S1x176x1024_2_0_0 0 r d)) (part1_of _ t h 3 (by omega) inb_S8x176x1024_S1x176x1024_3_0_0 0 r d)) (part1_of _ t h 4 (by omega) inb_S8x176x1024_S1x176x1024_4_0_0 0 r d)) (part1_of _ t h 5 (by omega) inb_S8x176x1024_S1x176x1024_5_0_0 0 r d)) (part1_of _ t h 6 (by omega) inb_S8x176x1024_S1x176x1024_6_0_0 0 r d)) (part1_of _ t h 7 (by omega) inb_S8x176x1024_S1x176x1024_7_0_0 0 r d))

/-! ## What each point leaves in the results -/

theorem tile5 (c : Dev nD) (t : Fin cfg0.N) (i : Fin 1) (r : Fin 176) (d : Fin 1024) :
    ((outsAt0 m c t.val t.isLt).1 (ix3 i r d) : EReal) = val_main_v6 (F := Ideal) (P m c) (Q m c) (ix3 (lay t) (row t r) d) := by
  have hN := (idx t).2.2.2.2.2.2.2.2.2
  by_cases hc : t.val < 2
  · rw [outsAt0_A m c t (by omega) (by omega)]
    frame_out
    exact (ogA_at (gA m c t) i r d).trans (gA_at m c t hc r d)
  · replace hc : 2 ≤ t.val := by omega
    rw [outsAt0_B m c t (by omega) (by omega)]
    frame_out
    exact (ogB_at (gB m c t) i r d).trans (gB_at m c t hc r d)

/-- The gradient. -/
theorem final5 (c : Dev nD) : (dats m 0 c).arrAt 5 (cfgs 0).N = val_main_v6 (F := Ideal) (P m c) (Q m c) := by
  refine (dats m 0 c).arrAt_eq_of_covers 5 _ (by decide +kernel) fun t hf y => ?_
  rw [after0_5]
  rw [split3 y]
  refine (tile5 m c t _ _ _).trans ?_
  exact congrArg (val_main_v6 (F := Ideal) (P m c) (Q m c)) (show ix3 (lay t) (row t (y 1)) (y 2) = _ by blk_ext [idx t])

theorem tile6 (c : Dev nD) (t : Fin cfg0.N) (i : Fin 1) (r : Fin 176) (d : Fin 1024) :
    ((outsAt0 m c t.val t.isLt).2.1 (ix3 i r d) : EReal) = val_main_v30 (F := Ideal) (P m c) (Q m c) (W m c) (M m c) (U m c) (ix3 (lay t) (row t r) d) := by
  have hN := (idx t).2.2.2.2.2.2.2.2.2
  rw [rd_at]
  by_cases hc : t.val < 2
  · rw [outsAt0_A m c t (by omega) (by omega)]
    frame_out
    exact (odA_at (gA m c t) (iblk m c 2 t) (iblk m c 3 t) (iblk m c 4 t) i r d).trans (DL_eq (gA_at m c t hc r d) (blk2 m c t 0 r d) (blk3 m c t 0 r d) (blk4 m c t 0 r d))
  · replace hc : 2 ≤ t.val := by omega
    rw [outsAt0_B m c t (by omega) (by omega)]
    frame_out
    exact (odB_at (gB m c t) (iblk m c 2 t) (iblk m c 3 t) (iblk m c 4 t) i r d).trans (DL_eq (gB_at m c t hc r d) (blk2 m c t 0 r d) (blk3 m c t 0 r d) (blk4 m c t 0 r d))

/-- What the step adds to the weights. -/
theorem final6 (c : Dev nD) : (dats m 0 c).arrAt 6 (cfgs 0).N = val_main_v30 (F := Ideal) (P m c) (Q m c) (W m c) (M m c) (U m c) := by
  refine (dats m 0 c).arrAt_eq_of_covers 6 _ (by decide +kernel) fun t hf y => ?_
  rw [after0_6]
  rw [split3 y]
  refine (tile6 m c t _ _ _).trans ?_
  exact congrArg (val_main_v30 (F := Ideal) (P m c) (Q m c) (W m c) (M m c) (U m c)) (show ix3 (lay t) (row t (y 1)) (y 2) = _ by blk_ext [idx t])

theorem tile7 (c : Dev nD) (t : Fin cfg0.N) (i : Fin 1) (r : Fin 176) (d : Fin 1024) :
    ((outsAt0 m c t.val t.isLt).2.2.1 (ix3 i r d) : EReal) = val_main_v11 (F := Ideal) (P m c) (Q m c) (M m c) (ix3 (lay t) (row t r) d) := by
  have hN := (idx t).2.2.2.2.2.2.2.2.2
  rw [rm_at]
  by_cases hc : t.val < 2
  · rw [outsAt0_A m c t (by omega) (by omega)]
    frame_out
    exact (omA_at (gA m c t) (iblk m c 3 t) i r d).trans (NM_eq (gA_at m c t hc r d) (blk3 m c t 0 r d))
  · replace hc : 2 ≤ t.val := by omega
    rw [outsAt0_B m c t (by omega) (by omega)]
    frame_out
    exact (omB_at (gB m c t) (iblk m c 3 t) i r d).trans (NM_eq (gB_at m c t hc r d) (blk3 m c t 0 r d))

/-- The new first moment. -/
theorem final7 (c : Dev nD) : (dats m 0 c).arrAt 7 (cfgs 0).N = val_main_v11 (F := Ideal) (P m c) (Q m c) (M m c) := by
  refine (dats m 0 c).arrAt_eq_of_covers 7 _ (by decide +kernel) fun t hf y => ?_
  rw [after0_7]
  rw [split3 y]
  refine (tile7 m c t _ _ _).trans ?_
  exact congrArg (val_main_v11 (F := Ideal) (P m c) (Q m c) (M m c)) (show ix3 (lay t) (row t (y 1)) (y 2) = _ by blk_ext [idx t])

theorem tile8 (c : Dev nD) (t : Fin cfg0.N) (i : Fin 1) (r : Fin 176) (d : Fin 1024) :
    ((outsAt0 m c t.val t.isLt).2.2.2 (ix3 i r d) : EReal) = val_main_v17 (F := Ideal) (P m c) (Q m c) (U m c) (ix3 (lay t) (row t r) d) := by
  have hN := (idx t).2.2.2.2.2.2.2.2.2
  rw [rv_at]
  by_cases hc : t.val < 2
  · rw [outsAt0_A m c t (by omega) (by omega)]
    frame_out
    exact (ovA_at (gA m c t) (iblk m c 4 t) i r d).trans (NV_eq (gA_at m c t hc r d) (blk4 m c t 0 r d))
  · replace hc : 2 ≤ t.val := by omega
    rw [outsAt0_B m c t (by omega) (by omega)]
    frame_out
    exact (ovB_at (gB m c t) (iblk m c 4 t) i r d).trans (NV_eq (gB_at m c t hc r d) (blk4 m c t 0 r d))

/-- The new second moment. -/
theorem final8 (c : Dev nD) : (dats m 0 c).arrAt 8 (cfgs 0).N = val_main_v17 (F := Ideal) (P m c) (Q m c) (U m c) := by
  refine (dats m 0 c).arrAt_eq_of_covers 8 _ (by decide +kernel) fun t hf y => ?_
  rw [after0_8]
  rw [split3 y]
  refine (tile8 m c t _ _ _).trans ?_
  exact congrArg (val_main_v17 (F := Ideal) (P m c) (Q m c) (U m c)) (show ix3 (lay t) (row t (y 1)) (y 2) = _ by blk_ext [idx t])

end Cert.Kernel12Ideal.Adam

end
-- ==== Proof.Claims12.lean ====
module

public import proofs.«01_k».proof.Defs
public import proofs.«01_k».proof.Proof.Gen.Kernel12Ideal
public import proofs.«01_k».proof.Proof.Gen.Reference12Ideal
public import proofs.«01_k».proof.Proof.Gen.Reference12Ideal.Run
public import proofs.«01_k».proof.Proof.Gen.Reference12Ideal.Read
public import proofs.«01_k».proof.Proof.Adam12

/-! The optimiser on the shard of the down matrix: the call and its reference end with the same four arrays. -/

@[expose] public section

set_option maxRecDepth 16384

noncomputable section

namespace Cert.Proof

open Idealize.ShloMosaic Idealize.ShloMosaic.TcCoe Idealize.SL.Sem

section

open Cert.Reference12Ideal Cert.Reference12Ideal.Read

/-- What the reference leaves, by the names of its values. -/
theorem left12 (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v6) = val_main_v6 (F := Ideal) (m' ((c.tc : Thread nD τ).loc main_arg0)) (m' ((c.tc : Thread nD τ).loc main_arg1))
      ∧ r.2.mem ((c.tc : Thread nD τ).loc main_v30) = val_main_v30 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))
      ∧ r.2.mem ((c.tc : Thread nD τ).loc main_v11) = val_main_v11 (F := Ideal) (m' ((c.tc : Thread nD τ).loc main_arg0)) (m' ((c.tc : Thread nD τ).loc main_arg1)) (m' ((c.tc : Thread nD τ).loc main_arg3))
      ∧ r.2.mem ((c.tc : Thread nD τ).loc main_v17) = val_main_v17 (F := Ideal) (m' ((c.tc : Thread nD τ).loc main_arg0)) (m' ((c.tc : Thread nD τ).loc main_arg1)) (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) := by
  refine (θ_run _ _ _).mono (fun r h c => ?_) (Cert.Reference12Ideal.Value.run m' g')
  obtain ⟨a, b, d, e, p⟩ := h c
  exact ⟨a.trans (val_main_v6_eq _ _), b.trans (val_main_v30_eq _ _ _ _ _), d.trans (val_main_v11_eq _ _ _), e.trans (val_main_v17_eq _ _ _), p⟩

end

section

open Cert.Kernel12Ideal Cert.Kernel12Ideal.Gen

/-- What the call leaves in its four results and its arguments. -/
theorem kept12 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = (dats m 0 c).arrAt 5 (cfgs 0).N
      ∧ r.2.mem ((c.tc : Thread nD τ).loc main_v0_1) = (dats m 0 c).arrAt 6 (cfgs 0).N
      ∧ r.2.mem ((c.tc : Thread nD τ).loc main_v0_2) = (dats m 0 c).arrAt 7 (cfgs 0).N
      ∧ r.2.mem ((c.tc : Thread nD τ).loc main_v0_3) = (dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h.1 c).1 5, (h.1 c).1 6, (h.1 c).1 7, (h.1 c).1 8, h.2 c⟩) (θ_run_and (run_main m g) (unchanged m g))

end

/-- From equal arguments the call and its reference leave equal results. -/
theorem same12 : Cert.algebraic_Kernel12Ideal_Reference12Ideal := by
  intro m g m' g' hpre hagree
  refine ⟨fun c => (Cert.Kernel12Ideal.Gen.dats m 0 c).arrAt 5 (Cert.Kernel12Ideal.cfgs 0).N, fun c => (Cert.Kernel12Ideal.Gen.dats m 0 c).arrAt 6 (Cert.Kernel12Ideal.cfgs 0).N, fun c => (Cert.Kernel12Ideal.Gen.dats m 0 c).arrAt 7 (Cert.Kernel12Ideal.cfgs 0).N, fun c => (Cert.Kernel12Ideal.Gen.dats m 0 c).arrAt 8 (Cert.Kernel12Ideal.cfgs 0).N,
    kept12 m g, (θ_run _ _ _).mono (fun r h c => ?_) (left12 m' g')⟩
  obtain ⟨a, b, d, e, p⟩ := h c
  obtain ⟨h0, h1, h2, h3, h4⟩ := hagree c
  rw [h0, h1] at a
  rw [h0, h1, h2, h3, h4] at b
  rw [h0, h1, h3] at d
  rw [h0, h1, h4] at e
  exact ⟨a.trans (Cert.Kernel12Ideal.Adam.final5 m c).symm, b.trans (Cert.Kernel12Ideal.Adam.final6 m c).symm, d.trans (Cert.Kernel12Ideal.Adam.final7 m c).symm, e.trans (Cert.Kernel12Ideal.Adam.final8 m c).symm, p⟩

/-- The reference leaves its arguments and its counters as they were. -/
theorem still12 : Cert.quiescent_Reference12Ideal := fun m g _ =>
  (θ_run _ _ _).mono (fun r h => ⟨fun c => (h c).2.2.2.2, sem_eq_zero_of_no_sems (by decide) r.2⟩) (left12 m g)

end Cert.Proof

end
-- ==== Proof.Adam13.lean ====
module

public import proofs.«01_k».proof.Proof.Gen.Kernel13Ideal.Frame
public import proofs.«01_k».proof.Proof.Gen.Reference13Ideal.Read
public import proofs.«01_k».proof.Proof.Adam
public import Idealize.ShloMosaic.Lib.Pipeline.ValueKit

/-! The optimiser on the shard of the output matrix: each of its four results is the reference's. -/

@[expose] public section

set_option maxRecDepth 16384

noncomputable section

namespace Cert.Kernel13Ideal.Adam

open Cert.Kernel13Ideal Cert.Kernel13Ideal.Gen Cert.Adam Idealize.ShloMosaic Idealize.ShloMosaic.TcCoe Idealize.SL.Sem
open Cert.Reference13Ideal.Read
open Idealize.ShloMosaic.Pipeline (Dat)

section

variable (P Q : FVec Ideal S8x128x1024 .bf16) (W M V : FVec Ideal S2x128x1024 .f32)

/-! ## The reference at an index -/

theorem g0_at (r : Fin 128) (d : Fin 1024) : (val_main_v6 (F := Ideal) P Q (ix3 0 r d) : EReal) = ∑ e : Fin 8, P (ix3 e r d) := by
  pointwise [val_main_v6, val_main_v5, val_main_v4, val_main_v3, val_main_v2, val_main_v1, val_main_v0, val_main_cst, val_main_cst_0]

theorem g1_at (r : Fin 128) (d : Fin 1024) : (val_main_v6 (F := Ideal) P Q (ix3 1 r d) : EReal) = ∑ e : Fin 8, Q (ix3 e r d) := by
  pointwise [val_main_v6, val_main_v5, val_main_v4, val_main_v3, val_main_v2, val_main_v1, val_main_v0, val_main_cst, val_main_cst_0]

theorem rm_at (l : Fin 2) (r : Fin 128) (d : Fin 1024) : (val_main_v11 (F := Ideal) P Q M (ix3 l r d) : EReal)
    = NM (val_main_v6 (F := Ideal) P Q (ix3 l r d)) (M (ix3 l r d)) := by
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst_1, val_main_cst_2, val_main_cst_3, val_main_cst_4, val_main_cst_5, val_main_cst_6, val_main_cst_7, val_main_cst_8, val_main_cst_9]

theorem rv_at (l : Fin 2) (r : Fin 128) (d : Fin 1024) : (val_main_v17 (F := Ideal) P Q V (ix3 l r d) : EReal)
    = NV (val_main_v6 (F := Ideal) P Q (ix3 l r d)) (V (ix3 l r d)) := by
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst_1, val_main_cst_2, val_main_cst_3, val_main_cst_4, val_main_cst_5, val_main_cst_6, val_main_cst_7, val_main_cst_8, val_main_cst_9]

theorem rd_at (l : Fin 2) (r : Fin 128) (d : Fin 1024) : (val_main_v30 (F := Ideal) P Q W M V (ix3 l r d) : EReal)
    = DL (val_main_v6 (F := Ideal) P Q (ix3 l r d)) (W (ix3 l r d)) (M (ix3 l r d)) (V (ix3 l r d)) := by
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst_1, val_main_cst_2, val_main_cst_3, val_main_cst_4, val_main_cst_5, val_main_cst_6, val_main_cst_7, val_main_cst_8, val_main_cst_9]

end

/-! ## The payloads at an index -/

theorem sumA_at (a0 a1 a2 a3 a4 a5 a6 a7 : FVec Ideal S1x128x1024 .bf16) (r : Fin 128) (d : Fin 1024) :
    (k0_pay5 (F := Ideal) a0 a1 a2 a3 a4 a5 a6 a7 (ix2 r d) : EReal) = a0 (ix3 0 r d) + a1 (ix3 0 r d) + a2 (ix3 0 r d) + a3 (ix3 0 r d)
      + a4 (ix3 0 r d) + a5 (ix3 0 r d) + a6 (ix3 0 r d) + a7 (ix3 0 r d) := by
  pointwise [k0_pay5]

theorem ogA_at (G : FVec Ideal S128x1024 .f32) (i : Fin 1) (r : Fin 128) (d : Fin 1024) :
    (k0_pay9 (F := Ideal) G (ix3 i r d) : EReal) = G (ix2 r d) := by
  pointwise [k0_pay9]

theorem omA_at (G : FVec Ideal S128x1024 .f32) (M : FVec Ideal S1x128x1024 .f32) (i : Fin 1) (r : Fin 128) (d : Fin 1024) :
    (k0_pay1 (F := Ideal) (k0_pay7 G M) (ix3 i r d) : EReal) = NM (G (ix2 r d)) (M (ix3 0 r d)) := by
  pointwise [k0_pay1, k0_pay7]

theorem ovA_at (G : FVec Ideal S128x1024 .f32) (V : FVec Ideal S1x128x1024 .f32) (i : Fin 1) (r : Fin 128) (d : Fin 1024) :
    (k0_pay2 (F := Ideal) (k0_pay8 G V) (ix3 i r d) : EReal) = NV (G (ix2 r d)) (V (ix3 0 r d)) := by
  pointwise [k0_pay2, k0_pay8]

theorem odA_at (G : FVec Ideal S128x1024 .f32) (W M V : FVec Ideal S1x128x1024 .f32) (i : Fin 1) (r : Fin 128) (d : Fin 1024) :
    (k0_pay10 (F := Ideal) G (k0_pay6 W) M V (ix3 i r d) : EReal) = DL (G (ix2 r d)) (W (ix3 0 r d)) (M (ix3 0 r d)) (V (ix3 0 r d)) := by
  pointwise [k0_pay10, k0_pay6, k0_pay7, k0_pay8]

theorem sumB_at (a0 a1 a2 a3 a4 a5 a6 a7 : FVec Ideal S1x128x1024 .bf16) (r : Fin 128) (d : Fin 1024) :
    (k0_pay11 (F := Ideal) a0 a1 a2 a3 a4 a5 a6 a7 (ix2 r d) : EReal) = a0 (ix3 0 r d) + a1 (ix3 0 r d) + a2 (ix3 0 r d) + a3 (ix3 0 r d)
      + a4 (ix3 0 r d) + a5 (ix3 0 r d) + a6 (ix3 0 r d) + a7 (ix3 0 r d) := by
  pointwise [k0_pay11]

theorem ogB_at (G : FVec Ideal S128x1024 .f32) (i : Fin 1) (r : Fin 128) (d : Fin 1024) :
    (k0_pay15 (F := Ideal) G (ix3 i r d) : EReal) = G (ix2 r d) := by
  pointwise [k0_pay15]

theorem omB_at (G : FVec Ideal S128x1024 .f32) (M : FVec Ideal S1x128x1024 .f32) (i : Fin 1) (r : Fin 128) (d : Fin 1024) :
    (k0_pay3 (F := Ideal) (k0_pay13 G M) (ix3 i r d) : EReal) = NM (G (ix2 r d)) (M (ix3 0 r d)) := by
  pointwise [k0_pay3, k0_pay13]

theorem ovB_at (G : FVec Ideal S128x1024 .f32) (V : FVec Ideal S1x128x1024 .f32) (i : Fin 1) (r : Fin 128) (d : Fin 1024) :
    (k0_pay4 (F := Ideal) (k0_pay14 G V) (ix3 i r d) : EReal) = NV (G (ix2 r d)) (V (ix3 0 r d)) := by
  pointwise [k0_pay4, k0_pay14]

theorem odB_at (G : FVec Ideal S128x1024 .f32) (W M V : FVec Ideal S1x128x1024 .f32) (i : Fin 1) (r : Fin 128) (d : Fin 1024) :
    (k0_pay16 (F := Ideal) G (k0_pay12 W) M V (ix3 i r d) : EReal) = DL (G (ix2 r d)) (W (ix3 0 r d)) (M (ix3 0 r d)) (V (ix3 0 r d)) := by
  pointwise [k0_pay16, k0_pay12, k0_pay13, k0_pay14]

/-! ## The blocks at an index -/

variable (m : (ℓ : Loc nD τ sig) → Buf (Elt Ideal) ℓ)

abbrev P (c : Dev nD) : FVec Ideal S8x128x1024 .bf16 := m ((c : Thread nD τ).loc main_arg0)
abbrev Q (c : Dev nD) : FVec Ideal S8x128x1024 .bf16 := m ((c : Thread nD τ).loc main_arg1)
abbrev W (c : Dev nD) : FVec Ideal S2x128x1024 .f32 := m ((c : Thread nD τ).loc main_arg2)
abbrev M (c : Dev nD) : FVec Ideal S2x128x1024 .f32 := m ((c : Thread nD τ).loc main_arg3)
abbrev U (c : Dev nD) : FVec Ideal S2x128x1024 .f32 := m ((c : Thread nD τ).loc main_arg4)

/-- The blocks each point works on. -/
theorem idx : ∀ t : Fin cfg0.N, (t.val < 1 → win0_0.index t = ![0, t.val % 1, 0]) ∧ (1 ≤ t.val → win0_1.index t = ![0, t.val % 1, 0])
    ∧ win0_2.index t = ![t.val / 1, t.val % 1, 0] ∧ win0_3.index t = ![t.val / 1, t.val % 1, 0]
    ∧ win0_4.index t = ![t.val / 1, t.val % 1, 0] ∧ win0_5.index t = ![t.val / 1, t.val % 1, 0]
    ∧ win0_6.index t = ![t.val / 1, t.val % 1, 0] ∧ win0_7.index t = ![t.val / 1, t.val % 1, 0]
    ∧ win0_8.index t = ![t.val / 1, t.val % 1, 0] ∧ t.val < 2 :=
  (by decide +kernel : ∀ t : Fin grid0.N, _)

theorem lt_lay (t : Fin cfg0.N) : t.val / 1 < 2 := by
  have := (idx t).2.2.2.2.2.2.2.2.2
  omega

/-- The layer point `t` works on. -/
abbrev lay (t : Fin cfg0.N) : Fin 2 := ⟨t.val / 1, lt_lay t⟩

/-- Row `r` of the block point `t` works on. -/
abbrev row (t : Fin cfg0.N) (r : Fin 128) : Fin 128 := ⟨t.val % 1 * 128 + r.val, by omega⟩

theorem part0_of (B : FVec Ideal S8x128x1024 .bf16) (t : Fin cfg0.N) (h : t.val < 1) (e : Nat) (he : e < 8)
    (inb : ∀ i, ![e, 0, 0] i + S1x128x1024.size i ≤ S8x128x1024.size i) (i : Fin 1) (r : Fin 128) (d : Fin 1024) :
    (show FVec Ideal S1x128x1024 .bf16 from View.ld (((cfg0.win 0).blk t).view.read (Elt Ideal) B) (Rect.unit ![e, 0, 0] ![1, 128, 1024] inb)) (ix3 i r d)
      = B (ix3 ⟨e, he⟩ (row t r) d) := by
  refine congrArg B ?_
  blk_ext [(idx t).1 h]
  · show e + 1 * i.val = e; omega
  · show t.val % 1 * 128 + (0 + 1 * r.val) = _; omega
  · show 0 + 1 * d.val = _; omega

theorem part1_of (B : FVec Ideal S8x128x1024 .bf16) (t : Fin cfg0.N) (h : 1 ≤ t.val) (e : Nat) (he : e < 8)
    (inb : ∀ i, ![e, 0, 0] i + S1x128x1024.size i ≤ S8x128x1024.size i) (i : Fin 1) (r : Fin 128) (d : Fin 1024) :
    (show FVec Ideal S1x128x1024 .bf16 from View.ld (((cfg0.win 1).blk t).view.read (Elt Ideal) B) (Rect.unit ![e, 0, 0] ![1, 128, 1024] inb)) (ix3 i r d)
      = B (ix3 ⟨e, he⟩ (row t r) d) := by
  refine congrArg B ?_
  blk_ext [(idx t).2.1 h]
  · show e + 1 * i.val = e; omega
  · show t.val % 1 * 128 + (0 + 1 * r.val) = _; omega
  · show 0 + 1 * d.val = _; omega

theorem blk2 (c : Dev nD) (t : Fin cfg0.N) (i : Fin 1) (r : Fin 128) (d : Fin 1024) :
    (show FVec Ideal S1x128x1024 .f32 from iblk m c 2 t) (ix3 i r d) = W m c (ix3 (lay t) (row t r) d) := by
  blk_point [iblk, V, idx t]

theorem blk3 (c : Dev nD) (t : Fin cfg0.N) (i : Fin 1) (r : Fin 128) (d : Fin 1024) :
    (show FVec Ideal S1x128x1024 .f32 from iblk m c 3 t) (ix3 i r d) = M m c (ix3 (lay t) (row t r) d) := by
  blk_point [iblk, V, idx t]

theorem blk4 (c : Dev nD) (t : Fin cfg0.N) (i : Fin 1) (r : Fin 128) (d : Fin 1024) :
    (show FVec Ideal S1x128x1024 .f32 from iblk m c 4 t) (ix3 i r d) = U m c (ix3 (lay t) (row t r) d) := by
  blk_point [iblk, V, idx t]

/-- The eight partial gradients of layer 0, as the kernel adds them. -/
abbrev gA (c : Dev nD) (t : Fin cfg0.N) : FVec Ideal S128x1024 .f32 :=
  k0_pay5 (F := Ideal) (View.ld (iblk m c 0 t) (Rect.unit ![0, 0, 0] ![1, 128, 1024] inb_S8x128x1024_S1x128x1024_0_0_0)) (View.ld (iblk m c 0 t) (Rect.unit ![1, 0, 0] ![1, 128, 1024] inb_S8x128x1024_S1x128x1024_1_0_0)) (View.ld (iblk m c 0 t) (Rect.unit ![2, 0, 0] ![1, 128, 1024] inb_S8x128x1024_S1x128x1024_2_0_0)) (View.ld (iblk m c 0 t) (Rect.unit ![3, 0, 0] ![1, 128, 1024] inb_S8x128x1024_S1x128x1024_3_0_0)) (View.ld (iblk m c 0 t) (Rect.unit ![4, 0, 0] ![1, 128, 1024] inb_S8x128x1024_S1x128x1024_4_0_0)) (View.ld (iblk m c 0 t) (Rect.unit ![5, 0, 0] ![1, 128, 1024] inb_S8x128x1024_S1x128x1024_5_0_0)) (View.ld (iblk m c 0 t) (Rect.unit ![6, 0, 0] ![1, 128, 1024] inb_S8x128x1024_S1x128x1024_6_0_0)) (View.ld (iblk m c 0 t) (Rect.unit ![7, 0, 0] ![1, 128, 1024] inb_S8x128x1024_S1x128x1024_7_0_0))

theorem gA_at (c : Dev nD) (t : Fin cfg0.N) (h : t.val < 1) (r : Fin 128) (d : Fin 1024) :
    (gA m c t (ix2 r d) : EReal) = val_main_v6 (F := Ideal) (P m c) (Q m c) (ix3 (lay t) (row t r) d) := by
  have hl : lay t = 0 := Fin.ext (show t.val / 1 = 0 by have := (idx t).2.2.2.2.2.2.2.2.2; omega)
  rw [hl, g0_at, Fin.sum_univ_eight]
  exact (sumA_at _ _ _ _ _ _ _ _ r d).trans
    (congrArg₂ (· + ·) (congrArg₂ (· + ·) (congrArg₂ (· + ·) (congrArg₂ (· + ·) (congrArg₂ (· + ·) (congrArg₂ (· + ·) (congrArg₂ (· + ·) (part0_of _ t h 0 (by omega) inb_S8x128x1024_S1x128x1024_0_0_0 0 r d) (part0_of _ t h 1 (by omega) inb_S8x128x1024_S1x128x1024_1_0_0 0 r d)) (part0_of _ t h 2 (by omega) inb_S8x128x1024_S1x128x1024_2_0_0 0 r d)) (part0_of _ t h 3 (by omega) inb_S8x128x1024_S1x128x1024_3_0_0 0 r d)) (part0_of _ t h 4 (by omega) inb_S8x128x1024_S1x128x1024_4_0_0 0 r d)) (part0_of _ t h 5 (by omega) inb_S8x128x1024_S1x128x1024_5_0_0 0 r d)) (part0_of _ t h 6 (by omega) inb_S8x128x1024_S1x128x1024_6_0_0 0 r d)) (part0_of _ t h 7 (by omega) inb_S8x128x1024_S1x128x1024_7_0_0 0 r d))

/-- The eight partial gradients of layer 1, as the kernel adds them. -/
abbrev gB (c : Dev nD) (t : Fin cfg0.N) : FVec Ideal S128x1024 .f32 :=
  k0_pay11 (F := Ideal) (View.ld (iblk m c 1 t) (Rect.unit ![0, 0, 0] ![1, 128, 1024] inb_S8x128x1024_S1x128x1024_0_0_0)) (View.ld (iblk m c 1 t) (Rect.unit ![1, 0, 0] ![1, 128, 1024] inb_S8x128x1024_S1x128x1024_1_0_0)) (View.ld (iblk m c 1 t) (Rect.unit ![2, 0, 0] ![1, 128, 1024] inb_S8x128x1024_S1x128x1024_2_0_0)) (View.ld (iblk m c 1 t) (Rect.unit ![3, 0, 0] ![1, 128, 1024] inb_S8x128x1024_S1x128x1024_3_0_0)) (View.ld (iblk m c 1 t) (Rect.unit ![4, 0, 0] ![1, 128, 1024] inb_S8x128x1024_S1x128x1024_4_0_0)) (View.ld (iblk m c 1 t) (Rect.unit ![5, 0, 0] ![1, 128, 1024] inb_S8x128x1024_S1x128x1024_5_0_0)) (View.ld (iblk m c 1 t) (Rect.unit ![6, 0, 0] ![1, 128, 1024] inb_S8x128x1024_S1x128x1024_6_0_0)) (View.ld (iblk m c 1 t) (Rect.unit ![7, 0, 0] ![1, 128, 1024] inb_S8x128x1024_S1x128x1024_7_0_0))

theorem gB_at (c : Dev nD) (t : Fin cfg0.N) (h : 1 ≤ t.val) (r : Fin 128) (d : Fin 1024) :
    (gB m c t (ix2 r d) : EReal) = val_main_v6 (F := Ideal) (P m c) (Q m c) (ix3 (lay t) (row t r) d) := by
  have hl : lay t = 1 := Fin.ext (show t.val / 1 = 1 by have := (idx t).2.2.2.2.2.2.2.2.2; omega)
  rw [hl, g1_at, Fin.sum_univ_eight]
  exact (sumB_at _ _ _ _ _ _ _ _ r d).trans
    (congrArg₂ (· + ·) (congrArg₂ (· + ·) (congrArg₂ (· + ·) (congrArg₂ (· + ·) (congrArg₂ (· + ·) (congrArg₂ (· + ·) (congrArg₂ (· + ·) (part1_of _ t h 0 (by omega) inb_S8x128x1024_S1x128x1024_0_0_0 0 r d) (part1_of _ t h 1 (by omega) inb_S8x128x1024_S1x128x1024_1_0_0 0 r d)) (part1_of _ t h 2 (by omega) inb_S8x128x1024_S1x128x1024_2_0_0 0 r d)) (part1_of _ t h 3 (by omega) inb_S8x128x1024_S1x128x1024_3_0_0 0 r d)) (part1_of _ t h 4 (by omega) inb_S8x128x1024_S1x128x1024_4_0_0 0 r d)) (part1_of _ t h 5 (by omega) inb_S8x128x1024_S1x128x1024_5_0_0 0 r d)) (part1_of _ t h 6 (by omega) inb_S8x128x1024_S1x128x1024_6_0_0 0 r d)) (part1_of _ t h 7 (by omega) inb_S8x128x1024_S1x128x1024_7_0_0 0 r d))

/-! ## What each point leaves in the results -/

theorem tile5 (c : Dev nD) (t : Fin cfg0.N) (i : Fin 1) (r : Fin 128) (d : Fin 1024) :
    ((outsAt0 m c t.val t.isLt).1 (ix3 i r d) : EReal) = val_main_v6 (F := Ideal) (P m c) (Q m c) (ix3 (lay t) (row t r) d) := by
  have hN := (idx t).2.2.2.2.2.2.2.2.2
  by_cases hc : t.val < 1
  · rw [outsAt0_A m c t (by omega) (by omega)]
    frame_out
    exact (ogA_at (gA m c t) i r d).trans (gA_at m c t hc r d)
  · replace hc : 1 ≤ t.val := by omega
    rw [outsAt0_B m c t (by omega) (by omega)]
    frame_out
    exact (ogB_at (gB m c t) i r d).trans (gB_at m c t hc r d)

/-- The gradient. -/
theorem final5 (c : Dev nD) : (dats m 0 c).arrAt 5 (cfgs 0).N = val_main_v6 (F := Ideal) (P m c) (Q m c) := by
  refine (dats m 0 c).arrAt_eq_of_covers 5 _ (by decide +kernel) fun t hf y => ?_
  rw [after0_5]
  rw [split3 y]
  refine (tile5 m c t _ _ _).trans ?_
  exact congrArg (val_main_v6 (F := Ideal) (P m c) (Q m c)) (show ix3 (lay t) (row t (y 1)) (y 2) = _ by blk_ext [idx t])

theorem tile6 (c : Dev nD) (t : Fin cfg0.N) (i : Fin 1) (r : Fin 128) (d : Fin 1024) :
    ((outsAt0 m c t.val t.isLt).2.1 (ix3 i r d) : EReal) = val_main_v30 (F := Ideal) (P m c) (Q m c) (W m c) (M m c) (U m c) (ix3 (lay t) (row t r) d) := by
  have hN := (idx t).2.2.2.2.2.2.2.2.2
  rw [rd_at]
  by_cases hc : t.val < 1
  · rw [outsAt0_A m c t (by omega) (by omega)]
    frame_out
    exact (odA_at (gA m c t) (iblk m c 2 t) (iblk m c 3 t) (iblk m c 4 t) i r d).trans (DL_eq (gA_at m c t hc r d) (blk2 m c t 0 r d) (blk3 m c t 0 r d) (blk4 m c t 0 r d))
  · replace hc : 1 ≤ t.val := by omega
    rw [outsAt0_B m c t (by omega) (by omega)]
    frame_out
    exact (odB_at (gB m c t) (iblk m c 2 t) (iblk m c 3 t) (iblk m c 4 t) i r d).trans (DL_eq (gB_at m c t hc r d) (blk2 m c t 0 r d) (blk3 m c t 0 r d) (blk4 m c t 0 r d))

/-- What the step adds to the weights. -/
theorem final6 (c : Dev nD) : (dats m 0 c).arrAt 6 (cfgs 0).N = val_main_v30 (F := Ideal) (P m c) (Q m c) (W m c) (M m c) (U m c) := by
  refine (dats m 0 c).arrAt_eq_of_covers 6 _ (by decide +kernel) fun t hf y => ?_
  rw [after0_6]
  rw [split3 y]
  refine (tile6 m c t _ _ _).trans ?_
  exact congrArg (val_main_v30 (F := Ideal) (P m c) (Q m c) (W m c) (M m c) (U m c)) (show ix3 (lay t) (row t (y 1)) (y 2) = _ by blk_ext [idx t])

theorem tile7 (c : Dev nD) (t : Fin cfg0.N) (i : Fin 1) (r : Fin 128) (d : Fin 1024) :
    ((outsAt0 m c t.val t.isLt).2.2.1 (ix3 i r d) : EReal) = val_main_v11 (F := Ideal) (P m c) (Q m c) (M m c) (ix3 (lay t) (row t r) d) := by
  have hN := (idx t).2.2.2.2.2.2.2.2.2
  rw [rm_at]
  by_cases hc : t.val < 1
  · rw [outsAt0_A m c t (by omega) (by omega)]
    frame_out
    exact (omA_at (gA m c t) (iblk m c 3 t) i r d).trans (NM_eq (gA_at m c t hc r d) (blk3 m c t 0 r d))
  · replace hc : 1 ≤ t.val := by omega
    rw [outsAt0_B m c t (by omega) (by omega)]
    frame_out
    exact (omB_at (gB m c t) (iblk m c 3 t) i r d).trans (NM_eq (gB_at m c t hc r d) (blk3 m c t 0 r d))

/-- The new first moment. -/
theorem final7 (c : Dev nD) : (dats m 0 c).arrAt 7 (cfgs 0).N = val_main_v11 (F := Ideal) (P m c) (Q m c) (M m c) := by
  refine (dats m 0 c).arrAt_eq_of_covers 7 _ (by decide +kernel) fun t hf y => ?_
  rw [after0_7]
  rw [split3 y]
  refine (tile7 m c t _ _ _).trans ?_
  exact congrArg (val_main_v11 (F := Ideal) (P m c) (Q m c) (M m c)) (show ix3 (lay t) (row t (y 1)) (y 2) = _ by blk_ext [idx t])

theorem tile8 (c : Dev nD) (t : Fin cfg0.N) (i : Fin 1) (r : Fin 128) (d : Fin 1024) :
    ((outsAt0 m c t.val t.isLt).2.2.2 (ix3 i r d) : EReal) = val_main_v17 (F := Ideal) (P m c) (Q m c) (U m c) (ix3 (lay t) (row t r) d) := by
  have hN := (idx t).2.2.2.2.2.2.2.2.2
  rw [rv_at]
  by_cases hc : t.val < 1
  · rw [outsAt0_A m c t (by omega) (by omega)]
    frame_out
    exact (ovA_at (gA m c t) (iblk m c 4 t) i r d).trans (NV_eq (gA_at m c t hc r d) (blk4 m c t 0 r d))
  · replace hc : 1 ≤ t.val := by omega
    rw [outsAt0_B m c t (by omega) (by omega)]
    frame_out
    exact (ovB_at (gB m c t) (iblk m c 4 t) i r d).trans (NV_eq (gB_at m c t hc r d) (blk4 m c t 0 r d))

/-- The new second moment. -/
theorem final8 (c : Dev nD) : (dats m 0 c).arrAt 8 (cfgs 0).N = val_main_v17 (F := Ideal) (P m c) (Q m c) (U m c) := by
  refine (dats m 0 c).arrAt_eq_of_covers 8 _ (by decide +kernel) fun t hf y => ?_
  rw [after0_8]
  rw [split3 y]
  refine (tile8 m c t _ _ _).trans ?_
  exact congrArg (val_main_v17 (F := Ideal) (P m c) (Q m c) (U m c)) (show ix3 (lay t) (row t (y 1)) (y 2) = _ by blk_ext [idx t])

end Cert.Kernel13Ideal.Adam

end
-- ==== Proof.Claims13.lean ====
module

public import proofs.«01_k».proof.Defs
public import proofs.«01_k».proof.Proof.Gen.Kernel13Ideal
public import proofs.«01_k».proof.Proof.Gen.Reference13Ideal
public import proofs.«01_k».proof.Proof.Gen.Reference13Ideal.Run
public import proofs.«01_k».proof.Proof.Gen.Reference13Ideal.Read
public import proofs.«01_k».proof.Proof.Adam13

/-! The optimiser on the shard of the output matrix: the call and its reference end with the same four arrays. -/

@[expose] public section

set_option maxRecDepth 16384

noncomputable section

namespace Cert.Proof

open Idealize.ShloMosaic Idealize.ShloMosaic.TcCoe Idealize.SL.Sem

section

open Cert.Reference13Ideal Cert.Reference13Ideal.Read

/-- What the reference leaves, by the names of its values. -/
theorem left13 (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v6) = val_main_v6 (F := Ideal) (m' ((c.tc : Thread nD τ).loc main_arg0)) (m' ((c.tc : Thread nD τ).loc main_arg1))
      ∧ r.2.mem ((c.tc : Thread nD τ).loc main_v30) = val_main_v30 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))
      ∧ r.2.mem ((c.tc : Thread nD τ).loc main_v11) = val_main_v11 (F := Ideal) (m' ((c.tc : Thread nD τ).loc main_arg0)) (m' ((c.tc : Thread nD τ).loc main_arg1)) (m' ((c.tc : Thread nD τ).loc main_arg3))
      ∧ r.2.mem ((c.tc : Thread nD τ).loc main_v17) = val_main_v17 (F := Ideal) (m' ((c.tc : Thread nD τ).loc main_arg0)) (m' ((c.tc : Thread nD τ).loc main_arg1)) (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) := by
  refine (θ_run _ _ _).mono (fun r h c => ?_) (Cert.Reference13Ideal.Value.run m' g')
  obtain ⟨a, b, d, e, p⟩ := h c
  exact ⟨a.trans (val_main_v6_eq _ _), b.trans (val_main_v30_eq _ _ _ _ _), d.trans (val_main_v11_eq _ _ _), e.trans (val_main_v17_eq _ _ _), p⟩

end

section

open Cert.Kernel13Ideal Cert.Kernel13Ideal.Gen

/-- What the call leaves in its four results and its arguments. -/
theorem kept13 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = (dats m 0 c).arrAt 5 (cfgs 0).N
      ∧ r.2.mem ((c.tc : Thread nD τ).loc main_v0_1) = (dats m 0 c).arrAt 6 (cfgs 0).N
      ∧ r.2.mem ((c.tc : Thread nD τ).loc main_v0_2) = (dats m 0 c).arrAt 7 (cfgs 0).N
      ∧ r.2.mem ((c.tc : Thread nD τ).loc main_v0_3) = (dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h.1 c).1 5, (h.1 c).1 6, (h.1 c).1 7, (h.1 c).1 8, h.2 c⟩) (θ_run_and (run_main m g) (unchanged m g))

end

/-- From equal arguments the call and its reference leave equal results. -/
theorem same13 : Cert.algebraic_Kernel13Ideal_Reference13Ideal := by
  intro m g m' g' hpre hagree
  refine ⟨fun c => (Cert.Kernel13Ideal.Gen.dats m 0 c).arrAt 5 (Cert.Kernel13Ideal.cfgs 0).N, fun c => (Cert.Kernel13Ideal.Gen.dats m 0 c).arrAt 6 (Cert.Kernel13Ideal.cfgs 0).N, fun c => (Cert.Kernel13Ideal.Gen.dats m 0 c).arrAt 7 (Cert.Kernel13Ideal.cfgs 0).N, fun c => (Cert.Kernel13Ideal.Gen.dats m 0 c).arrAt 8 (Cert.Kernel13Ideal.cfgs 0).N,
    kept13 m g, (θ_run _ _ _).mono (fun r h c => ?_) (left13 m' g')⟩
  obtain ⟨a, b, d, e, p⟩ := h c
  obtain ⟨h0, h1, h2, h3, h4⟩ := hagree c
  rw [h0, h1] at a
  rw [h0, h1, h2, h3, h4] at b
  rw [h0, h1, h3] at d
  rw [h0, h1, h4] at e
  exact ⟨a.trans (Cert.Kernel13Ideal.Adam.final5 m c).symm, b.trans (Cert.Kernel13Ideal.Adam.final6 m c).symm, d.trans (Cert.Kernel13Ideal.Adam.final7 m c).symm, e.trans (Cert.Kernel13Ideal.Adam.final8 m c).symm, p⟩

/-- The reference leaves its arguments and its counters as they were. -/
theorem still13 : Cert.quiescent_Reference13Ideal := fun m g _ =>
  (θ_run _ _ _).mono (fun r h => ⟨fun c => (h c).2.2.2.2, sem_eq_zero_of_no_sems (by decide) r.2⟩) (left13 m g)

end Cert.Proof

end
-- ==== Proof.Adam14.lean ====
module

public import proofs.«01_k».proof.Proof.Gen.Kernel14Ideal.Frame
public import proofs.«01_k».proof.Proof.Gen.Reference14Ideal.Read
public import proofs.«01_k».proof.Proof.Adam
public import Idealize.ShloMosaic.Lib.Pipeline.ValueKit

/-! The optimiser on the shard of the pointwise matrix: each of its four results is the reference's. -/

@[expose] public section

set_option maxRecDepth 16384

noncomputable section

namespace Cert.Kernel14Ideal.Adam

open Cert.Kernel14Ideal Cert.Kernel14Ideal.Gen Cert.Adam Idealize.ShloMosaic Idealize.ShloMosaic.TcCoe Idealize.SL.Sem
open Cert.Reference14Ideal.Read
open Idealize.ShloMosaic.Pipeline (Dat)

section

variable (P Q : FVec Ideal S8x48x384 .bf16) (W M V : FVec Ideal S2x48x384 .f32)

/-! ## The reference at an index -/

theorem g0_at (r : Fin 48) (d : Fin 384) : (val_main_v6 (F := Ideal) P Q (ix3 0 r d) : EReal) = ∑ e : Fin 8, P (ix3 e r d) := by
  pointwise [val_main_v6, val_main_v5, val_main_v4, val_main_v3, val_main_v2, val_main_v1, val_main_v0, val_main_cst, val_main_cst_0]

theorem g1_at (r : Fin 48) (d : Fin 384) : (val_main_v6 (F := Ideal) P Q (ix3 1 r d) : EReal) = ∑ e : Fin 8, Q (ix3 e r d) := by
  pointwise [val_main_v6, val_main_v5, val_main_v4, val_main_v3, val_main_v2, val_main_v1, val_main_v0, val_main_cst, val_main_cst_0]

theorem rm_at (l : Fin 2) (r : Fin 48) (d : Fin 384) : (val_main_v11 (F := Ideal) P Q M (ix3 l r d) : EReal)
    = NM (val_main_v6 (F := Ideal) P Q (ix3 l r d)) (M (ix3 l r d)) := by
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst_1, val_main_cst_2, val_main_cst_3, val_main_cst_4, val_main_cst_5, val_main_cst_6, val_main_cst_7, val_main_cst_8, val_main_cst_9]

theorem rv_at (l : Fin 2) (r : Fin 48) (d : Fin 384) : (val_main_v17 (F := Ideal) P Q V (ix3 l r d) : EReal)
    = NV (val_main_v6 (F := Ideal) P Q (ix3 l r d)) (V (ix3 l r d)) := by
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst_1, val_main_cst_2, val_main_cst_3, val_main_cst_4, val_main_cst_5, val_main_cst_6, val_main_cst_7, val_main_cst_8, val_main_cst_9]

theorem rd_at (l : Fin 2) (r : Fin 48) (d : Fin 384) : (val_main_v30 (F := Ideal) P Q W M V (ix3 l r d) : EReal)
    = DL (val_main_v6 (F := Ideal) P Q (ix3 l r d)) (W (ix3 l r d)) (M (ix3 l r d)) (V (ix3 l r d)) := by
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst_1, val_main_cst_2, val_main_cst_3, val_main_cst_4, val_main_cst_5, val_main_cst_6, val_main_cst_7, val_main_cst_8, val_main_cst_9]

end

/-! ## The payloads at an index -/

theorem sumA_at (a0 a1 a2 a3 a4 a5 a6 a7 : FVec Ideal S1x48x384 .bf16) (r : Fin 48) (d : Fin 384) :
    (k0_pay5 (F := Ideal) a0 a1 a2 a3 a4 a5 a6 a7 (ix2 r d) : EReal) = a0 (ix3 0 r d) + a1 (ix3 0 r d) + a2 (ix3 0 r d) + a3 (ix3 0 r d)
      + a4 (ix3 0 r d) + a5 (ix3 0 r d) + a6 (ix3 0 r d) + a7 (ix3 0 r d) := by
  pointwise [k0_pay5]

theorem ogA_at (G : FVec Ideal S48x384 .f32) (i : Fin 1) (r : Fin 48) (d : Fin 384) :
    (k0_pay9 (F := Ideal) G (ix3 i r d) : EReal) = G (ix2 r d) := by
  pointwise [k0_pay9]

theorem omA_at (G : FVec Ideal S48x384 .f32) (M : FVec Ideal S1x48x384 .f32) (i : Fin 1) (r : Fin 48) (d : Fin 384) :
    (k0_pay1 (F := Ideal) (k0_pay7 G M) (ix3 i r d) : EReal) = NM (G (ix2 r d)) (M (ix3 0 r d)) := by
  pointwise [k0_pay1, k0_pay7]

theorem ovA_at (G : FVec Ideal S48x384 .f32) (V : FVec Ideal S1x48x384 .f32) (i : Fin 1) (r : Fin 48) (d : Fin 384) :
    (k0_pay2 (F := Ideal) (k0_pay8 G V) (ix3 i r d) : EReal) = NV (G (ix2 r d)) (V (ix3 0 r d)) := by
  pointwise [k0_pay2, k0_pay8]

theorem odA_at (G : FVec Ideal S48x384 .f32) (W M V : FVec Ideal S1x48x384 .f32) (i : Fin 1) (r : Fin 48) (d : Fin 384) :
    (k0_pay10 (F := Ideal) G (k0_pay6 W) M V (ix3 i r d) : EReal) = DL (G (ix2 r d)) (W (ix3 0 r d)) (M (ix3 0 r d)) (V (ix3 0 r d)) := by
  pointwise [k0_pay10, k0_pay6, k0_pay7, k0_pay8]

theorem sumB_at (a0 a1 a2 a3 a4 a5 a6 a7 : FVec Ideal S1x48x384 .bf16) (r : Fin 48) (d : Fin 384) :
    (k0_pay11 (F := Ideal) a0 a1 a2 a3 a4 a5 a6 a7 (ix2 r d) : EReal) = a0 (ix3 0 r d) + a1 (ix3 0 r d) + a2 (ix3 0 r d) + a3 (ix3 0 r d)
      + a4 (ix3 0 r d) + a5 (ix3 0 r d) + a6 (ix3 0 r d) + a7 (ix3 0 r d) := by
  pointwise [k0_pay11]

theorem ogB_at (G : FVec Ideal S48x384 .f32) (i : Fin 1) (r : Fin 48) (d : Fin 384) :
    (k0_pay15 (F := Ideal) G (ix3 i r d) : EReal) = G (ix2 r d) := by
  pointwise [k0_pay15]

theorem omB_at (G : FVec Ideal S48x384 .f32) (M : FVec Ideal S1x48x384 .f32) (i : Fin 1) (r : Fin 48) (d : Fin 384) :
    (k0_pay3 (F := Ideal) (k0_pay13 G M) (ix3 i r d) : EReal) = NM (G (ix2 r d)) (M (ix3 0 r d)) := by
  pointwise [k0_pay3, k0_pay13]

theorem ovB_at (G : FVec Ideal S48x384 .f32) (V : FVec Ideal S1x48x384 .f32) (i : Fin 1) (r : Fin 48) (d : Fin 384) :
    (k0_pay4 (F := Ideal) (k0_pay14 G V) (ix3 i r d) : EReal) = NV (G (ix2 r d)) (V (ix3 0 r d)) := by
  pointwise [k0_pay4, k0_pay14]

theorem odB_at (G : FVec Ideal S48x384 .f32) (W M V : FVec Ideal S1x48x384 .f32) (i : Fin 1) (r : Fin 48) (d : Fin 384) :
    (k0_pay16 (F := Ideal) G (k0_pay12 W) M V (ix3 i r d) : EReal) = DL (G (ix2 r d)) (W (ix3 0 r d)) (M (ix3 0 r d)) (V (ix3 0 r d)) := by
  pointwise [k0_pay16, k0_pay12, k0_pay13, k0_pay14]

/-! ## The blocks at an index -/

variable (m : (ℓ : Loc nD τ sig) → Buf (Elt Ideal) ℓ)

abbrev P (c : Dev nD) : FVec Ideal S8x48x384 .bf16 := m ((c : Thread nD τ).loc main_arg0)
abbrev Q (c : Dev nD) : FVec Ideal S8x48x384 .bf16 := m ((c : Thread nD τ).loc main_arg1)
abbrev W (c : Dev nD) : FVec Ideal S2x48x384 .f32 := m ((c : Thread nD τ).loc main_arg2)
abbrev M (c : Dev nD) : FVec Ideal S2x48x384 .f32 := m ((c : Thread nD τ).loc main_arg3)
abbrev U (c : Dev nD) : FVec Ideal S2x48x384 .f32 := m ((c : Thread nD τ).loc main_arg4)

/-- The blocks each point works on. -/
theorem idx : ∀ t : Fin cfg0.N, (t.val < 1 → win0_0.index t = ![0, t.val % 1, 0]) ∧ (1 ≤ t.val → win0_1.index t = ![0, t.val % 1, 0])
    ∧ win0_2.index t = ![t.val / 1, t.val % 1, 0] ∧ win0_3.index t = ![t.val / 1, t.val % 1, 0]
    ∧ win0_4.index t = ![t.val / 1, t.val % 1, 0] ∧ win0_5.index t = ![t.val / 1, t.val % 1, 0]
    ∧ win0_6.index t = ![t.val / 1, t.val % 1, 0] ∧ win0_7.index t = ![t.val / 1, t.val % 1, 0]
    ∧ win0_8.index t = ![t.val / 1, t.val % 1, 0] ∧ t.val < 2 :=
  (by decide +kernel : ∀ t : Fin grid0.N, _)

theorem lt_lay (t : Fin cfg0.N) : t.val / 1 < 2 := by
  have := (idx t).2.2.2.2.2.2.2.2.2
  omega

/-- The layer point `t` works on. -/
abbrev lay (t : Fin cfg0.N) : Fin 2 := ⟨t.val / 1, lt_lay t⟩

/-- Row `r` of the block point `t` works on. -/
abbrev row (t : Fin cfg0.N) (r : Fin 48) : Fin 48 := ⟨t.val % 1 * 48 + r.val, by omega⟩

theorem part0_of (B : FVec Ideal S8x48x384 .bf16) (t : Fin cfg0.N) (h : t.val < 1) (e : Nat) (he : e < 8)
    (inb : ∀ i, ![e, 0, 0] i + S1x48x384.size i ≤ S8x48x384.size i) (i : Fin 1) (r : Fin 48) (d : Fin 384) :
    (show FVec Ideal S1x48x384 .bf16 from View.ld (((cfg0.win 0).blk t).view.read (Elt Ideal) B) (Rect.unit ![e, 0, 0] ![1, 48, 384] inb)) (ix3 i r d)
      = B (ix3 ⟨e, he⟩ (row t r) d) := by
  refine congrArg B ?_
  blk_ext [(idx t).1 h]
  · show e + 1 * i.val = e; omega
  · show t.val % 1 * 48 + (0 + 1 * r.val) = _; omega
  · show 0 + 1 * d.val = _; omega

theorem part1_of (B : FVec Ideal S8x48x384 .bf16) (t : Fin cfg0.N) (h : 1 ≤ t.val) (e : Nat) (he : e < 8)
    (inb : ∀ i, ![e, 0, 0] i + S1x48x384.size i ≤ S8x48x384.size i) (i : Fin 1) (r : Fin 48) (d : Fin 384) :
    (show FVec Ideal S1x48x384 .bf16 from View.ld (((cfg0.win 1).blk t).view.read (Elt Ideal) B) (Rect.unit ![e, 0, 0] ![1, 48, 384] inb)) (ix3 i r d)
      = B (ix3 ⟨e, he⟩ (row t r) d) := by
  refine congrArg B ?_
  blk_ext [(idx t).2.1 h]
  · show e + 1 * i.val = e; omega
  · show t.val % 1 * 48 + (0 + 1 * r.val) = _; omega
  · show 0 + 1 * d.val = _; omega

theorem blk2 (c : Dev nD) (t : Fin cfg0.N) (i : Fin 1) (r : Fin 48) (d : Fin 384) :
    (show FVec Ideal S1x48x384 .f32 from iblk m c 2 t) (ix3 i r d) = W m c (ix3 (lay t) (row t r) d) := by
  blk_point [iblk, V, idx t]

theorem blk3 (c : Dev nD) (t : Fin cfg0.N) (i : Fin 1) (r : Fin 48) (d : Fin 384) :
    (show FVec Ideal S1x48x384 .f32 from iblk m c 3 t) (ix3 i r d) = M m c (ix3 (lay t) (row t r) d) := by
  blk_point [iblk, V, idx t]

theorem blk4 (c : Dev nD) (t : Fin cfg0.N) (i : Fin 1) (r : Fin 48) (d : Fin 384) :
    (show FVec Ideal S1x48x384 .f32 from iblk m c 4 t) (ix3 i r d) = U m c (ix3 (lay t) (row t r) d) := by
  blk_point [iblk, V, idx t]

/-- The eight partial gradients of layer 0, as the kernel adds them. -/
abbrev gA (c : Dev nD) (t : Fin cfg0.N) : FVec Ideal S48x384 .f32 :=
  k0_pay5 (F := Ideal) (View.ld (iblk m c 0 t) (Rect.unit ![0, 0, 0] ![1, 48, 384] inb_S8x48x384_S1x48x384_0_0_0)) (View.ld (iblk m c 0 t) (Rect.unit ![1, 0, 0] ![1, 48, 384] inb_S8x48x384_S1x48x384_1_0_0)) (View.ld (iblk m c 0 t) (Rect.unit ![2, 0, 0] ![1, 48, 384] inb_S8x48x384_S1x48x384_2_0_0)) (View.ld (iblk m c 0 t) (Rect.unit ![3, 0, 0] ![1, 48, 384] inb_S8x48x384_S1x48x384_3_0_0)) (View.ld (iblk m c 0 t) (Rect.unit ![4, 0, 0] ![1, 48, 384] inb_S8x48x384_S1x48x384_4_0_0)) (View.ld (iblk m c 0 t) (Rect.unit ![5, 0, 0] ![1, 48, 384] inb_S8x48x384_S1x48x384_5_0_0)) (View.ld (iblk m c 0 t) (Rect.unit ![6, 0, 0] ![1, 48, 384] inb_S8x48x384_S1x48x384_6_0_0)) (View.ld (iblk m c 0 t) (Rect.unit ![7, 0, 0] ![1, 48, 384] inb_S8x48x384_S1x48x384_7_0_0))

theorem gA_at (c : Dev nD) (t : Fin cfg0.N) (h : t.val < 1) (r : Fin 48) (d : Fin 384) :
    (gA m c t (ix2 r d) : EReal) = val_main_v6 (F := Ideal) (P m c) (Q m c) (ix3 (lay t) (row t r) d) := by
  have hl : lay t = 0 := Fin.ext (show t.val / 1 = 0 by have := (idx t).2.2.2.2.2.2.2.2.2; omega)
  rw [hl, g0_at, Fin.sum_univ_eight]
  exact (sumA_at _ _ _ _ _ _ _ _ r d).trans
    (congrArg₂ (· + ·) (congrArg₂ (· + ·) (congrArg₂ (· + ·) (congrArg₂ (· + ·) (congrArg₂ (· + ·) (congrArg₂ (· + ·) (congrArg₂ (· + ·) (part0_of _ t h 0 (by omega) inb_S8x48x384_S1x48x384_0_0_0 0 r d) (part0_of _ t h 1 (by omega) inb_S8x48x384_S1x48x384_1_0_0 0 r d)) (part0_of _ t h 2 (by omega) inb_S8x48x384_S1x48x384_2_0_0 0 r d)) (part0_of _ t h 3 (by omega) inb_S8x48x384_S1x48x384_3_0_0 0 r d)) (part0_of _ t h 4 (by omega) inb_S8x48x384_S1x48x384_4_0_0 0 r d)) (part0_of _ t h 5 (by omega) inb_S8x48x384_S1x48x384_5_0_0 0 r d)) (part0_of _ t h 6 (by omega) inb_S8x48x384_S1x48x384_6_0_0 0 r d)) (part0_of _ t h 7 (by omega) inb_S8x48x384_S1x48x384_7_0_0 0 r d))

/-- The eight partial gradients of layer 1, as the kernel adds them. -/
abbrev gB (c : Dev nD) (t : Fin cfg0.N) : FVec Ideal S48x384 .f32 :=
  k0_pay11 (F := Ideal) (View.ld (iblk m c 1 t) (Rect.unit ![0, 0, 0] ![1, 48, 384] inb_S8x48x384_S1x48x384_0_0_0)) (View.ld (iblk m c 1 t) (Rect.unit ![1, 0, 0] ![1, 48, 384] inb_S8x48x384_S1x48x384_1_0_0)) (View.ld (iblk m c 1 t) (Rect.unit ![2, 0, 0] ![1, 48, 384] inb_S8x48x384_S1x48x384_2_0_0)) (View.ld (iblk m c 1 t) (Rect.unit ![3, 0, 0] ![1, 48, 384] inb_S8x48x384_S1x48x384_3_0_0)) (View.ld (iblk m c 1 t) (Rect.unit ![4, 0, 0] ![1, 48, 384] inb_S8x48x384_S1x48x384_4_0_0)) (View.ld (iblk m c 1 t) (Rect.unit ![5, 0, 0] ![1, 48, 384] inb_S8x48x384_S1x48x384_5_0_0)) (View.ld (iblk m c 1 t) (Rect.unit ![6, 0, 0] ![1, 48, 384] inb_S8x48x384_S1x48x384_6_0_0)) (View.ld (iblk m c 1 t) (Rect.unit ![7, 0, 0] ![1, 48, 384] inb_S8x48x384_S1x48x384_7_0_0))

theorem gB_at (c : Dev nD) (t : Fin cfg0.N) (h : 1 ≤ t.val) (r : Fin 48) (d : Fin 384) :
    (gB m c t (ix2 r d) : EReal) = val_main_v6 (F := Ideal) (P m c) (Q m c) (ix3 (lay t) (row t r) d) := by
  have hl : lay t = 1 := Fin.ext (show t.val / 1 = 1 by have := (idx t).2.2.2.2.2.2.2.2.2; omega)
  rw [hl, g1_at, Fin.sum_univ_eight]
  exact (sumB_at _ _ _ _ _ _ _ _ r d).trans
    (congrArg₂ (· + ·) (congrArg₂ (· + ·) (congrArg₂ (· + ·) (congrArg₂ (· + ·) (congrArg₂ (· + ·) (congrArg₂ (· + ·) (congrArg₂ (· + ·) (part1_of _ t h 0 (by omega) inb_S8x48x384_S1x48x384_0_0_0 0 r d) (part1_of _ t h 1 (by omega) inb_S8x48x384_S1x48x384_1_0_0 0 r d)) (part1_of _ t h 2 (by omega) inb_S8x48x384_S1x48x384_2_0_0 0 r d)) (part1_of _ t h 3 (by omega) inb_S8x48x384_S1x48x384_3_0_0 0 r d)) (part1_of _ t h 4 (by omega) inb_S8x48x384_S1x48x384_4_0_0 0 r d)) (part1_of _ t h 5 (by omega) inb_S8x48x384_S1x48x384_5_0_0 0 r d)) (part1_of _ t h 6 (by omega) inb_S8x48x384_S1x48x384_6_0_0 0 r d)) (part1_of _ t h 7 (by omega) inb_S8x48x384_S1x48x384_7_0_0 0 r d))

/-! ## What each point leaves in the results -/

theorem tile5 (c : Dev nD) (t : Fin cfg0.N) (i : Fin 1) (r : Fin 48) (d : Fin 384) :
    ((outsAt0 m c t.val t.isLt).1 (ix3 i r d) : EReal) = val_main_v6 (F := Ideal) (P m c) (Q m c) (ix3 (lay t) (row t r) d) := by
  have hN := (idx t).2.2.2.2.2.2.2.2.2
  by_cases hc : t.val < 1
  · rw [outsAt0_A m c t (by omega) (by omega)]
    frame_out
    exact (ogA_at (gA m c t) i r d).trans (gA_at m c t hc r d)
  · replace hc : 1 ≤ t.val := by omega
    rw [outsAt0_B m c t (by omega) (by omega)]
    frame_out
    exact (ogB_at (gB m c t) i r d).trans (gB_at m c t hc r d)

/-- The gradient. -/
theorem final5 (c : Dev nD) : (dats m 0 c).arrAt 5 (cfgs 0).N = val_main_v6 (F := Ideal) (P m c) (Q m c) := by
  refine (dats m 0 c).arrAt_eq_of_covers 5 _ (by decide +kernel) fun t hf y => ?_
  rw [after0_5]
  rw [split3 y]
  refine (tile5 m c t _ _ _).trans ?_
  exact congrArg (val_main_v6 (F := Ideal) (P m c) (Q m c)) (show ix3 (lay t) (row t (y 1)) (y 2) = _ by blk_ext [idx t])

theorem tile6 (c : Dev nD) (t : Fin cfg0.N) (i : Fin 1) (r : Fin 48) (d : Fin 384) :
    ((outsAt0 m c t.val t.isLt).2.1 (ix3 i r d) : EReal) = val_main_v30 (F := Ideal) (P m c) (Q m c) (W m c) (M m c) (U m c) (ix3 (lay t) (row t r) d) := by
  have hN := (idx t).2.2.2.2.2.2.2.2.2
  rw [rd_at]
  by_cases hc : t.val < 1
  · rw [outsAt0_A m c t (by omega) (by omega)]
    frame_out
    exact (odA_at (gA m c t) (iblk m c 2 t) (iblk m c 3 t) (iblk m c 4 t) i r d).trans (DL_eq (gA_at m c t hc r d) (blk2 m c t 0 r d) (blk3 m c t 0 r d) (blk4 m c t 0 r d))
  · replace hc : 1 ≤ t.val := by omega
    rw [outsAt0_B m c t (by omega) (by omega)]
    frame_out
    exact (odB_at (gB m c t) (iblk m c 2 t) (iblk m c 3 t) (iblk m c 4 t) i r d).trans (DL_eq (gB_at m c t hc r d) (blk2 m c t 0 r d) (blk3 m c t 0 r d) (blk4 m c t 0 r d))

/-- What the step adds to the weights. -/
theorem final6 (c : Dev nD) : (dats m 0 c).arrAt 6 (cfgs 0).N = val_main_v30 (F := Ideal) (P m c) (Q m c) (W m c) (M m c) (U m c) := by
  refine (dats m 0 c).arrAt_eq_of_covers 6 _ (by decide +kernel) fun t hf y => ?_
  rw [after0_6]
  rw [split3 y]
  refine (tile6 m c t _ _ _).trans ?_
  exact congrArg (val_main_v30 (F := Ideal) (P m c) (Q m c) (W m c) (M m c) (U m c)) (show ix3 (lay t) (row t (y 1)) (y 2) = _ by blk_ext [idx t])

theorem tile7 (c : Dev nD) (t : Fin cfg0.N) (i : Fin 1) (r : Fin 48) (d : Fin 384) :
    ((outsAt0 m c t.val t.isLt).2.2.1 (ix3 i r d) : EReal) = val_main_v11 (F := Ideal) (P m c) (Q m c) (M m c) (ix3 (lay t) (row t r) d) := by
  have hN := (idx t).2.2.2.2.2.2.2.2.2
  rw [rm_at]
  by_cases hc : t.val < 1
  · rw [outsAt0_A m c t (by omega) (by omega)]
    frame_out
    exact (omA_at (gA m c t) (iblk m c 3 t) i r d).trans (NM_eq (gA_at m c t hc r d) (blk3 m c t 0 r d))
  · replace hc : 1 ≤ t.val := by omega
    rw [outsAt0_B m c t (by omega) (by omega)]
    frame_out
    exact (omB_at (gB m c t) (iblk m c 3 t) i r d).trans (NM_eq (gB_at m c t hc r d) (blk3 m c t 0 r d))

/-- The new first moment. -/
theorem final7 (c : Dev nD) : (dats m 0 c).arrAt 7 (cfgs 0).N = val_main_v11 (F := Ideal) (P m c) (Q m c) (M m c) := by
  refine (dats m 0 c).arrAt_eq_of_covers 7 _ (by decide +kernel) fun t hf y => ?_
  rw [after0_7]
  rw [split3 y]
  refine (tile7 m c t _ _ _).trans ?_
  exact congrArg (val_main_v11 (F := Ideal) (P m c) (Q m c) (M m c)) (show ix3 (lay t) (row t (y 1)) (y 2) = _ by blk_ext [idx t])

theorem tile8 (c : Dev nD) (t : Fin cfg0.N) (i : Fin 1) (r : Fin 48) (d : Fin 384) :
    ((outsAt0 m c t.val t.isLt).2.2.2 (ix3 i r d) : EReal) = val_main_v17 (F := Ideal) (P m c) (Q m c) (U m c) (ix3 (lay t) (row t r) d) := by
  have hN := (idx t).2.2.2.2.2.2.2.2.2
  rw [rv_at]
  by_cases hc : t.val < 1
  · rw [outsAt0_A m c t (by omega) (by omega)]
    frame_out
    exact (ovA_at (gA m c t) (iblk m c 4 t) i r d).trans (NV_eq (gA_at m c t hc r d) (blk4 m c t 0 r d))
  · replace hc : 1 ≤ t.val := by omega
    rw [outsAt0_B m c t (by omega) (by omega)]
    frame_out
    exact (ovB_at (gB m c t) (iblk m c 4 t) i r d).trans (NV_eq (gB_at m c t hc r d) (blk4 m c t 0 r d))

/-- The new second moment. -/
theorem final8 (c : Dev nD) : (dats m 0 c).arrAt 8 (cfgs 0).N = val_main_v17 (F := Ideal) (P m c) (Q m c) (U m c) := by
  refine (dats m 0 c).arrAt_eq_of_covers 8 _ (by decide +kernel) fun t hf y => ?_
  rw [after0_8]
  rw [split3 y]
  refine (tile8 m c t _ _ _).trans ?_
  exact congrArg (val_main_v17 (F := Ideal) (P m c) (Q m c) (U m c)) (show ix3 (lay t) (row t (y 1)) (y 2) = _ by blk_ext [idx t])

end Cert.Kernel14Ideal.Adam

end
-- ==== Proof.Claims14.lean ====
module

public import proofs.«01_k».proof.Defs
public import proofs.«01_k».proof.Proof.Gen.Kernel14Ideal
public import proofs.«01_k».proof.Proof.Gen.Reference14Ideal
public import proofs.«01_k».proof.Proof.Gen.Reference14Ideal.Run
public import proofs.«01_k».proof.Proof.Gen.Reference14Ideal.Read
public import proofs.«01_k».proof.Proof.Adam14

/-! The optimiser on the shard of the pointwise matrix: the call and its reference end with the same four arrays. -/

@[expose] public section

set_option maxRecDepth 16384

noncomputable section

namespace Cert.Proof

open Idealize.ShloMosaic Idealize.ShloMosaic.TcCoe Idealize.SL.Sem

section

open Cert.Reference14Ideal Cert.Reference14Ideal.Read

/-- What the reference leaves, by the names of its values. -/
theorem left14 (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v6) = val_main_v6 (F := Ideal) (m' ((c.tc : Thread nD τ).loc main_arg0)) (m' ((c.tc : Thread nD τ).loc main_arg1))
      ∧ r.2.mem ((c.tc : Thread nD τ).loc main_v30) = val_main_v30 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))
      ∧ r.2.mem ((c.tc : Thread nD τ).loc main_v11) = val_main_v11 (F := Ideal) (m' ((c.tc : Thread nD τ).loc main_arg0)) (m' ((c.tc : Thread nD τ).loc main_arg1)) (m' ((c.tc : Thread nD τ).loc main_arg3))
      ∧ r.2.mem ((c.tc : Thread nD τ).loc main_v17) = val_main_v17 (F := Ideal) (m' ((c.tc : Thread nD τ).loc main_arg0)) (m' ((c.tc : Thread nD τ).loc main_arg1)) (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) := by
  refine (θ_run _ _ _).mono (fun r h c => ?_) (Cert.Reference14Ideal.Value.run m' g')
  obtain ⟨a, b, d, e, p⟩ := h c
  exact ⟨a.trans (val_main_v6_eq _ _), b.trans (val_main_v30_eq _ _ _ _ _), d.trans (val_main_v11_eq _ _ _), e.trans (val_main_v17_eq _ _ _), p⟩

end

section

open Cert.Kernel14Ideal Cert.Kernel14Ideal.Gen

/-- What the call leaves in its four results and its arguments. -/
theorem kept14 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = (dats m 0 c).arrAt 5 (cfgs 0).N
      ∧ r.2.mem ((c.tc : Thread nD τ).loc main_v0_1) = (dats m 0 c).arrAt 6 (cfgs 0).N
      ∧ r.2.mem ((c.tc : Thread nD τ).loc main_v0_2) = (dats m 0 c).arrAt 7 (cfgs 0).N
      ∧ r.2.mem ((c.tc : Thread nD τ).loc main_v0_3) = (dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h.1 c).1 5, (h.1 c).1 6, (h.1 c).1 7, (h.1 c).1 8, h.2 c⟩) (θ_run_and (run_main m g) (unchanged m g))

end

/-- From equal arguments the call and its reference leave equal results. -/
theorem same14 : Cert.algebraic_Kernel14Ideal_Reference14Ideal := by
  intro m g m' g' hpre hagree
  refine ⟨fun c => (Cert.Kernel14Ideal.Gen.dats m 0 c).arrAt 5 (Cert.Kernel14Ideal.cfgs 0).N, fun c => (Cert.Kernel14Ideal.Gen.dats m 0 c).arrAt 6 (Cert.Kernel14Ideal.cfgs 0).N, fun c => (Cert.Kernel14Ideal.Gen.dats m 0 c).arrAt 7 (Cert.Kernel14Ideal.cfgs 0).N, fun c => (Cert.Kernel14Ideal.Gen.dats m 0 c).arrAt 8 (Cert.Kernel14Ideal.cfgs 0).N,
    kept14 m g, (θ_run _ _ _).mono (fun r h c => ?_) (left14 m' g')⟩
  obtain ⟨a, b, d, e, p⟩ := h c
  obtain ⟨h0, h1, h2, h3, h4⟩ := hagree c
  rw [h0, h1] at a
  rw [h0, h1, h2, h3, h4] at b
  rw [h0, h1, h3] at d
  rw [h0, h1, h4] at e
  exact ⟨a.trans (Cert.Kernel14Ideal.Adam.final5 m c).symm, b.trans (Cert.Kernel14Ideal.Adam.final6 m c).symm, d.trans (Cert.Kernel14Ideal.Adam.final7 m c).symm, e.trans (Cert.Kernel14Ideal.Adam.final8 m c).symm, p⟩

/-- The reference leaves its arguments and its counters as they were. -/
theorem still14 : Cert.quiescent_Reference14Ideal := fun m g _ =>
  (θ_run _ _ _).mono (fun r h => ⟨fun c => (h c).2.2.2.2, sem_eq_zero_of_no_sems (by decide) r.2⟩) (left14 m g)

end Cert.Proof

end
-- ==== Proof.Adam15.lean ====
module

public import proofs.«01_k».proof.Proof.Gen.Kernel15Ideal.Frame
public import proofs.«01_k».proof.Proof.Gen.Reference15Ideal.Read
public import proofs.«01_k».proof.Proof.Adam
public import Idealize.ShloMosaic.Lib.Pipeline.ValueKit

/-! The optimiser on the weights of the convolution: each of the call's 12 results is the reference's. -/

@[expose] public section

set_option maxRecDepth 16384
set_option synthInstance.maxSize 4096

noncomputable section

namespace Cert.Kernel15Ideal.Adam

open Cert.Kernel15Ideal Cert.Kernel15Ideal.Gen Cert.Adam Idealize.ShloMosaic Idealize.ShloMosaic.TcCoe Idealize.SL.Sem
open Cert.Reference15Ideal.Read
open Idealize.ShloMosaic.Pipeline (Dat)

variable (m : (ℓ : Loc nD τ sig) → Buf (Elt Ideal) ℓ)

abbrev A0 (c : Dev nD) : FVec Ideal S2x31x48 .f32 := m ((c : Thread nD τ).loc main_arg0)
abbrev A1 (c : Dev nD) : FVec Ideal S2x384 .f32 := m ((c : Thread nD τ).loc main_arg1)
abbrev A2 (c : Dev nD) : FVec Ideal S2x384 .f32 := m ((c : Thread nD τ).loc main_arg2)
abbrev A3 (c : Dev nD) : FVec Ideal S2x384 .f32 := m ((c : Thread nD τ).loc main_arg3)
abbrev A4 (c : Dev nD) : FVec Ideal S2x31x48 .f32 := m ((c : Thread nD τ).loc main_arg4)
abbrev A5 (c : Dev nD) : FVec Ideal S2x384 .f32 := m ((c : Thread nD τ).loc main_arg5)
abbrev A6 (c : Dev nD) : FVec Ideal S2x384 .f32 := m ((c : Thread nD τ).loc main_arg6)
abbrev A7 (c : Dev nD) : FVec Ideal S2x384 .f32 := m ((c : Thread nD τ).loc main_arg7)
abbrev A8 (c : Dev nD) : FVec Ideal S2x31x48 .f32 := m ((c : Thread nD τ).loc main_arg8)
abbrev A9 (c : Dev nD) : FVec Ideal S2x384 .f32 := m ((c : Thread nD τ).loc main_arg9)
abbrev A10 (c : Dev nD) : FVec Ideal S2x384 .f32 := m ((c : Thread nD τ).loc main_arg10)
abbrev A11 (c : Dev nD) : FVec Ideal S2x384 .f32 := m ((c : Thread nD τ).loc main_arg11)
abbrev A12 (c : Dev nD) : FVec Ideal S2x31x48 .f32 := m ((c : Thread nD τ).loc main_arg12)
abbrev A13 (c : Dev nD) : FVec Ideal S2x384 .f32 := m ((c : Thread nD τ).loc main_arg13)
abbrev A14 (c : Dev nD) : FVec Ideal S2x384 .f32 := m ((c : Thread nD τ).loc main_arg14)
abbrev A15 (c : Dev nD) : FVec Ideal S2x384 .f32 := m ((c : Thread nD τ).loc main_arg15)

/-- There is one point, and its blocks are the whole arrays. -/
theorem idx : ∀ t : Fin cfg0.N, win0_0.index t = ![0, 0, 0]
    ∧ win0_1.index t = ![0, 0]
    ∧ win0_2.index t = ![0, 0]
    ∧ win0_3.index t = ![0, 0]
    ∧ win0_4.index t = ![0, 0, 0]
    ∧ win0_5.index t = ![0, 0]
    ∧ win0_6.index t = ![0, 0]
    ∧ win0_7.index t = ![0, 0]
    ∧ win0_8.index t = ![0, 0, 0]
    ∧ win0_9.index t = ![0, 0]
    ∧ win0_10.index t = ![0, 0]
    ∧ win0_11.index t = ![0, 0]
    ∧ win0_12.index t = ![0, 0, 0]
    ∧ win0_13.index t = ![0, 0]
    ∧ win0_14.index t = ![0, 0]
    ∧ win0_15.index t = ![0, 0]
    ∧ win0_16.index t = ![0, 0, 0]
    ∧ win0_17.index t = ![0, 0]
    ∧ win0_18.index t = ![0, 0]
    ∧ win0_19.index t = ![0, 0]
    ∧ win0_20.index t = ![0, 0, 0]
    ∧ win0_21.index t = ![0, 0]
    ∧ win0_22.index t = ![0, 0]
    ∧ win0_23.index t = ![0, 0]
    ∧ win0_24.index t = ![0, 0, 0]
    ∧ win0_25.index t = ![0, 0]
    ∧ win0_26.index t = ![0, 0]
    ∧ win0_27.index t = ![0, 0] :=
  (by decide +kernel : ∀ t : Fin grid0.N, _)

/-! ## The blocks at an index -/

theorem blk0 (c : Dev nD) (t : Fin cfg0.N) (i : Fin 2) (r : Fin 31) (d : Fin 48) : (show FVec Ideal S2x31x48 .f32 from iblk m c 0 t) (ix3 i r d) = A0 m c (ix3 i r d) := by
  blk_point [iblk, V, idx t]

theorem blk1 (c : Dev nD) (t : Fin cfg0.N) (i : Fin 2) (r : Fin 384) : (show FVec Ideal S2x384 .f32 from iblk m c 1 t) (ix2 i r) = A1 m c (ix2 i r) := by
  blk_point [iblk, V, idx t]

theorem blk2 (c : Dev nD) (t : Fin cfg0.N) (i : Fin 2) (r : Fin 384) : (show FVec Ideal S2x384 .f32 from iblk m c 2 t) (ix2 i r) = A2 m c (ix2 i r) := by
  blk_point [iblk, V, idx t]

theorem blk3 (c : Dev nD) (t : Fin cfg0.N) (i : Fin 2) (r : Fin 384) : (show FVec Ideal S2x384 .f32 from iblk m c 3 t) (ix2 i r) = A3 m c (ix2 i r) := by
  blk_point [iblk, V, idx t]

theorem blk4 (c : Dev nD) (t : Fin cfg0.N) (i : Fin 2) (r : Fin 31) (d : Fin 48) : (show FVec Ideal S2x31x48 .f32 from iblk m c 4 t) (ix3 i r d) = A4 m c (ix3 i r d) := by
  blk_point [iblk, V, idx t]

theorem blk5 (c : Dev nD) (t : Fin cfg0.N) (i : Fin 2) (r : Fin 384) : (show FVec Ideal S2x384 .f32 from iblk m c 5 t) (ix2 i r) = A5 m c (ix2 i r) := by
  blk_point [iblk, V, idx t]

theorem blk6 (c : Dev nD) (t : Fin cfg0.N) (i : Fin 2) (r : Fin 384) : (show FVec Ideal S2x384 .f32 from iblk m c 6 t) (ix2 i r) = A6 m c (ix2 i r) := by
  blk_point [iblk, V, idx t]

theorem blk7 (c : Dev nD) (t : Fin cfg0.N) (i : Fin 2) (r : Fin 384) : (show FVec Ideal S2x384 .f32 from iblk m c 7 t) (ix2 i r) = A7 m c (ix2 i r) := by
  blk_point [iblk, V, idx t]

theorem blk8 (c : Dev nD) (t : Fin cfg0.N) (i : Fin 2) (r : Fin 31) (d : Fin 48) : (show FVec Ideal S2x31x48 .f32 from iblk m c 8 t) (ix3 i r d) = A8 m c (ix3 i r d) := by
  blk_point [iblk, V, idx t]

theorem blk9 (c : Dev nD) (t : Fin cfg0.N) (i : Fin 2) (r : Fin 384) : (show FVec Ideal S2x384 .f32 from iblk m c 9 t) (ix2 i r) = A9 m c (ix2 i r) := by
  blk_point [iblk, V, idx t]

theorem blk10 (c : Dev nD) (t : Fin cfg0.N) (i : Fin 2) (r : Fin 384) : (show FVec Ideal S2x384 .f32 from iblk m c 10 t) (ix2 i r) = A10 m c (ix2 i r) := by
  blk_point [iblk, V, idx t]

theorem blk11 (c : Dev nD) (t : Fin cfg0.N) (i : Fin 2) (r : Fin 384) : (show FVec Ideal S2x384 .f32 from iblk m c 11 t) (ix2 i r) = A11 m c (ix2 i r) := by
  blk_point [iblk, V, idx t]

theorem blk12 (c : Dev nD) (t : Fin cfg0.N) (i : Fin 2) (r : Fin 31) (d : Fin 48) : (show FVec Ideal S2x31x48 .f32 from iblk m c 12 t) (ix3 i r d) = A12 m c (ix3 i r d) := by
  blk_point [iblk, V, idx t]

theorem blk13 (c : Dev nD) (t : Fin cfg0.N) (i : Fin 2) (r : Fin 384) : (show FVec Ideal S2x384 .f32 from iblk m c 13 t) (ix2 i r) = A13 m c (ix2 i r) := by
  blk_point [iblk, V, idx t]

theorem blk14 (c : Dev nD) (t : Fin cfg0.N) (i : Fin 2) (r : Fin 384) : (show FVec Ideal S2x384 .f32 from iblk m c 14 t) (ix2 i r) = A14 m c (ix2 i r) := by
  blk_point [iblk, V, idx t]

theorem blk15 (c : Dev nD) (t : Fin cfg0.N) (i : Fin 2) (r : Fin 384) : (show FVec Ideal S2x384 .f32 from iblk m c 15 t) (ix2 i r) = A15 m c (ix2 i r) := by
  blk_point [iblk, V, idx t]

/-! ## The results -/

theorem pay16 (x0 x4 x8 x12 : FVec Ideal S2x31x48 .f32) (i : Fin 2) (r : Fin 31) (d : Fin 48) :
    (k0_pay6 (F := Ideal) x4 x0 x8 x12 (ix3 i r d) : EReal) = DL (x0 (ix3 i r d)) (x4 (ix3 i r d)) (x8 (ix3 i r d)) (x12 (ix3 i r d)) := by
  pointwise [k0_pay6, k0_pay4, k0_pay5]

theorem ref16 (x0 x4 x8 x12 : FVec Ideal S2x31x48 .f32) (i : Fin 2) (r : Fin 31) (d : Fin 48) :
    (val_main_v23 (F := Ideal) x0 x4 x8 x12 (ix3 i r d) : EReal) = DL (x0 (ix3 i r d)) (x4 (ix3 i r d)) (x8 (ix3 i r d)) (x12 (ix3 i r d)) := by
  pointwise [val_main_v23, val_main_v22, val_main_v21, val_main_cst_7, val_main_v18, val_main_v20, val_main_v12, val_main_v17, val_main_v19, val_main_v4, val_main_v11, val_main_v15, val_main_v16, val_main_cst_6, val_main_v1, val_main_v3, val_main_cst_3, val_main_v14, val_main_cst_5, val_main_v0, val_main_v2, val_main_v10, val_main_v13, val_main_cst, val_main_cst_0, val_main_v6, val_main_v9, val_main_cst_4, val_main_v5, val_main_v8, val_main_v7, val_main_cst_1, val_main_cst_2]

theorem tile16 (c : Dev nD) (t : Fin cfg0.N) (i : Fin 2) (r : Fin 31) (d : Fin 48) :
    (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 i r d) : EReal) = val_main_v23 (F := Ideal) (A0 m c) (A4 m c) (A8 m c) (A12 m c) (ix3 i r d) := by
  rw [ref16]
  unfold out0_16
  frame_out
  exact (pay16 (iblk m c 0 t) (iblk m c 4 t) (iblk m c 8 t) (iblk m c 12 t) i r d).trans (DL_eq (blk0 m c t i r d) (blk4 m c t i r d) (blk8 m c t i r d) (blk12 m c t i r d))

theorem all16 (c : Dev nD) (t : Fin cfg0.N) (y : S2x31x48.Idx) :
    (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v23 (F := Ideal) (A0 m c) (A4 m c) (A8 m c) (A12 m c) y := by
  rw [split3 y]
  exact tile16 m c t (y 0) (y 1) (y 2)

theorem final16 (c : Dev nD) : (dats m 0 c).arrAt 16 (cfgs 0).N = val_main_v23 (F := Ideal) (A0 m c) (A4 m c) (A8 m c) (A12 m c) := by
  refine (dats m 0 c).arrAt_eq_of_covers 16 _ (by decide +kernel) fun t hf y => ?_
  blk_simp
  rw [after0_16]
  have a := all16 m c t
  generalize out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_16.blk t).view.emb y = y := by
    blk_ext [idx t]
  exact (a y).trans (congrArg (val_main_v23 (F := Ideal) (A0 m c) (A4 m c) (A8 m c) (A12 m c)) e).symm

theorem pay17 (x1 x5 x9 x13 : FVec Ideal S2x384 .f32) (i : Fin 2) (r : Fin 384) :
    (k0_pay9 (F := Ideal) x5 x1 x9 x13 (ix2 i r) : EReal) = DL (x1 (ix2 i r)) (x5 (ix2 i r)) (x9 (ix2 i r)) (x13 (ix2 i r)) := by
  pointwise [k0_pay9, k0_pay7, k0_pay8]

theorem ref17 (x1 x5 x9 x13 : FVec Ideal S2x384 .f32) (i : Fin 2) (r : Fin 384) :
    (val_main_v47 (F := Ideal) x1 x5 x9 x13 (ix2 i r) : EReal) = DL (x1 (ix2 i r)) (x5 (ix2 i r)) (x9 (ix2 i r)) (x13 (ix2 i r)) := by
  pointwise [val_main_v47, val_main_v46, val_main_v45, val_main_cst_16, val_main_v42, val_main_v44, val_main_v36, val_main_v41, val_main_v43, val_main_v28, val_main_v35, val_main_v39, val_main_v40, val_main_cst_15, val_main_v25, val_main_v27, val_main_cst_12, val_main_v38, val_main_cst_14, val_main_v24, val_main_v26, val_main_v34, val_main_v37, val_main_cst_8, val_main_cst_9, val_main_v30, val_main_v33, val_main_cst_13, val_main_v29, val_main_v32, val_main_v31, val_main_cst_10, val_main_cst_11]

theorem tile17 (c : Dev nD) (t : Fin cfg0.N) (i : Fin 2) (r : Fin 384) :
    (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 i r) : EReal) = val_main_v47 (F := Ideal) (A1 m c) (A5 m c) (A9 m c) (A13 m c) (ix2 i r) := by
  rw [ref17]
  unfold out0_17
  frame_out
  exact (pay17 (iblk m c 1 t) (iblk m c 5 t) (iblk m c 9 t) (iblk m c 13 t) i r).trans (DL_eq (blk1 m c t i r) (blk5 m c t i r) (blk9 m c t i r) (blk13 m c t i r))

theorem all17 (c : Dev nD) (t : Fin cfg0.N) (y : S2x384.Idx) :
    (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v47 (F := Ideal) (A1 m c) (A5 m c) (A9 m c) (A13 m c) y := by
  rw [split2 y]
  exact tile17 m c t (y 0) (y 1)

theorem final17 (c : Dev nD) : (dats m 0 c).arrAt 17 (cfgs 0).N = val_main_v47 (F := Ideal) (A1 m c) (A5 m c) (A9 m c) (A13 m c) := by
  refine (dats m 0 c).arrAt_eq_of_covers 17 _ (by decide +kernel) fun t hf y => ?_
  blk_simp
  rw [after0_17]
  have a := all17 m c t
  generalize out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_17.blk t).view.emb y = y := by
    blk_ext [idx t]
  exact (a y).trans (congrArg (val_main_v47 (F := Ideal) (A1 m c) (A5 m c) (A9 m c) (A13 m c)) e).symm

theorem pay18 (x2 x6 x10 x14 : FVec Ideal S2x384 .f32) (i : Fin 2) (r : Fin 384) :
    (k0_pay12 (F := Ideal) x6 x2 x10 x14 (ix2 i r) : EReal) = DL (x2 (ix2 i r)) (x6 (ix2 i r)) (x10 (ix2 i r)) (x14 (ix2 i r)) := by
  pointwise [k0_pay12, k0_pay10, k0_pay11]

theorem ref18 (x2 x6 x10 x14 : FVec Ideal S2x384 .f32) (i : Fin 2) (r : Fin 384) :
    (val_main_v71 (F := Ideal) x2 x6 x10 x14 (ix2 i r) : EReal) = DL (x2 (ix2 i r)) (x6 (ix2 i r)) (x10 (ix2 i r)) (x14 (ix2 i r)) := by
  pointwise [val_main_v71, val_main_v70, val_main_v69, val_main_cst_25, val_main_v66, val_main_v68, val_main_v60, val_main_v65, val_main_v67, val_main_v52, val_main_v59, val_main_v63, val_main_v64, val_main_cst_24, val_main_v49, val_main_v51, val_main_cst_21, val_main_v62, val_main_cst_23, val_main_v48, val_main_v50, val_main_v58, val_main_v61, val_main_cst_17, val_main_cst_18, val_main_v54, val_main_v57, val_main_cst_22, val_main_v53, val_main_v56, val_main_v55, val_main_cst_19, val_main_cst_20]

theorem tile18 (c : Dev nD) (t : Fin cfg0.N) (i : Fin 2) (r : Fin 384) :
    (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 i r) : EReal) = val_main_v71 (F := Ideal) (A2 m c) (A6 m c) (A10 m c) (A14 m c) (ix2 i r) := by
  rw [ref18]
  unfold out0_18
  frame_out
  exact (pay18 (iblk m c 2 t) (iblk m c 6 t) (iblk m c 10 t) (iblk m c 14 t) i r).trans (DL_eq (blk2 m c t i r) (blk6 m c t i r) (blk10 m c t i r) (blk14 m c t i r))

theorem all18 (c : Dev nD) (t : Fin cfg0.N) (y : S2x384.Idx) :
    (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v71 (F := Ideal) (A2 m c) (A6 m c) (A10 m c) (A14 m c) y := by
  rw [split2 y]
  exact tile18 m c t (y 0) (y 1)

theorem final18 (c : Dev nD) : (dats m 0 c).arrAt 18 (cfgs 0).N = val_main_v71 (F := Ideal) (A2 m c) (A6 m c) (A10 m c) (A14 m c) := by
  refine (dats m 0 c).arrAt_eq_of_covers 18 _ (by decide +kernel) fun t hf y => ?_
  blk_simp
  rw [after0_18]
  have a := all18 m c t
  generalize out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_18.blk t).view.emb y = y := by
    blk_ext [idx t]
  exact (a y).trans (congrArg (val_main_v71 (F := Ideal) (A2 m c) (A6 m c) (A10 m c) (A14 m c)) e).symm

theorem pay19 (x3 x7 x11 x15 : FVec Ideal S2x384 .f32) (i : Fin 2) (r : Fin 384) :
    (k0_pay3 (F := Ideal) x7 x3 x11 x15 (ix2 i r) : EReal) = DL (x3 (ix2 i r)) (x7 (ix2 i r)) (x11 (ix2 i r)) (x15 (ix2 i r)) := by
  pointwise [k0_pay3, k0_pay1, k0_pay2]

theorem ref19 (x3 x7 x11 x15 : FVec Ideal S2x384 .f32) (i : Fin 2) (r : Fin 384) :
    (val_main_v95 (F := Ideal) x3 x7 x11 x15 (ix2 i r) : EReal) = DL (x3 (ix2 i r)) (x7 (ix2 i r)) (x11 (ix2 i r)) (x15 (ix2 i r)) := by
  pointwise [val_main_v95, val_main_v94, val_main_v93, val_main_cst_34, val_main_v90, val_main_v92, val_main_v84, val_main_v89, val_main_v91, val_main_v76, val_main_v83, val_main_v87, val_main_v88, val_main_cst_33, val_main_v73, val_main_v75, val_main_cst_30, val_main_v86, val_main_cst_32, val_main_v72, val_main_v74, val_main_v82, val_main_v85, val_main_cst_26, val_main_cst_27, val_main_v78, val_main_v81, val_main_cst_31, val_main_v77, val_main_v80, val_main_v79, val_main_cst_28, val_main_cst_29]

theorem tile19 (c : Dev nD) (t : Fin cfg0.N) (i : Fin 2) (r : Fin 384) :
    (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 i r) : EReal) = val_main_v95 (F := Ideal) (A3 m c) (A7 m c) (A11 m c) (A15 m c) (ix2 i r) := by
  rw [ref19]
  unfold out0_19
  frame_out
  exact (pay19 (iblk m c 3 t) (iblk m c 7 t) (iblk m c 11 t) (iblk m c 15 t) i r).trans (DL_eq (blk3 m c t i r) (blk7 m c t i r) (blk11 m c t i r) (blk15 m c t i r))

theorem all19 (c : Dev nD) (t : Fin cfg0.N) (y : S2x384.Idx) :
    (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v95 (F := Ideal) (A3 m c) (A7 m c) (A11 m c) (A15 m c) y := by
  rw [split2 y]
  exact tile19 m c t (y 0) (y 1)

theorem final19 (c : Dev nD) : (dats m 0 c).arrAt 19 (cfgs 0).N = val_main_v95 (F := Ideal) (A3 m c) (A7 m c) (A11 m c) (A15 m c) := by
  refine (dats m 0 c).arrAt_eq_of_covers 19 _ (by decide +kernel) fun t hf y => ?_
  blk_simp
  rw [after0_19]
  have a := all19 m c t
  generalize out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_19.blk t).view.emb y = y := by
    blk_ext [idx t]
  exact (a y).trans (congrArg (val_main_v95 (F := Ideal) (A3 m c) (A7 m c) (A11 m c) (A15 m c)) e).symm

theorem pay20 (x0 x8 : FVec Ideal S2x31x48 .f32) (i : Fin 2) (r : Fin 31) (d : Fin 48) :
    (k0_pay4 (F := Ideal) x0 x8 (ix3 i r d) : EReal) = NM (x0 (ix3 i r d)) (x8 (ix3 i r d)) := by
  pointwise [k0_pay4]

theorem ref20 (x0 x8 : FVec Ideal S2x31x48 .f32) (i : Fin 2) (r : Fin 31) (d : Fin 48) :
    (val_main_v4 (F := Ideal) x0 x8 (ix3 i r d) : EReal) = NM (x0 (ix3 i r d)) (x8 (ix3 i r d)) := by
  pointwise [val_main_v4, val_main_v1, val_main_v3, val_main_v0, val_main_v2, val_main_cst, val_main_cst_0]

theorem tile20 (c : Dev nD) (t : Fin cfg0.N) (i : Fin 2) (r : Fin 31) (d : Fin 48) :
    (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 i r d) : EReal) = val_main_v4 (F := Ideal) (A0 m c) (A8 m c) (ix3 i r d) := by
  rw [ref20]
  unfold out0_20
  frame_out
  exact (pay20 (iblk m c 0 t) (iblk m c 8 t) i r d).trans (NM_eq (blk0 m c t i r d) (blk8 m c t i r d))

theorem all20 (c : Dev nD) (t : Fin cfg0.N) (y : S2x31x48.Idx) :
    (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v4 (F := Ideal) (A0 m c) (A8 m c) y := by
  rw [split3 y]
  exact tile20 m c t (y 0) (y 1) (y 2)

theorem final20 (c : Dev nD) : (dats m 0 c).arrAt 20 (cfgs 0).N = val_main_v4 (F := Ideal) (A0 m c) (A8 m c) := by
  refine (dats m 0 c).arrAt_eq_of_covers 20 _ (by decide +kernel) fun t hf y => ?_
  blk_simp
  rw [after0_20]
  have a := all20 m c t
  generalize out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_20.blk t).view.emb y = y := by
    blk_ext [idx t]
  exact (a y).trans (congrArg (val_main_v4 (F := Ideal) (A0 m c) (A8 m c)) e).symm

theorem pay21 (x1 x9 : FVec Ideal S2x384 .f32) (i : Fin 2) (r : Fin 384) :
    (k0_pay7 (F := Ideal) x1 x9 (ix2 i r) : EReal) = NM (x1 (ix2 i r)) (x9 (ix2 i r)) := by
  pointwise [k0_pay7]

theorem ref21 (x1 x9 : FVec Ideal S2x384 .f32) (i : Fin 2) (r : Fin 384) :
    (val_main_v28 (F := Ideal) x1 x9 (ix2 i r) : EReal) = NM (x1 (ix2 i r)) (x9 (ix2 i r)) := by
  pointwise [val_main_v28, val_main_v25, val_main_v27, val_main_v24, val_main_v26, val_main_cst_8, val_main_cst_9]

theorem tile21 (c : Dev nD) (t : Fin cfg0.N) (i : Fin 2) (r : Fin 384) :
    (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 i r) : EReal) = val_main_v28 (F := Ideal) (A1 m c) (A9 m c) (ix2 i r) := by
  rw [ref21]
  unfold out0_21
  frame_out
  exact (pay21 (iblk m c 1 t) (iblk m c 9 t) i r).trans (NM_eq (blk1 m c t i r) (blk9 m c t i r))

theorem all21 (c : Dev nD) (t : Fin cfg0.N) (y : S2x384.Idx) :
    (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v28 (F := Ideal) (A1 m c) (A9 m c) y := by
  rw [split2 y]
  exact tile21 m c t (y 0) (y 1)

theorem final21 (c : Dev nD) : (dats m 0 c).arrAt 21 (cfgs 0).N = val_main_v28 (F := Ideal) (A1 m c) (A9 m c) := by
  refine (dats m 0 c).arrAt_eq_of_covers 21 _ (by decide +kernel) fun t hf y => ?_
  blk_simp
  rw [after0_21]
  have a := all21 m c t
  generalize out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_21.blk t).view.emb y = y := by
    blk_ext [idx t]
  exact (a y).trans (congrArg (val_main_v28 (F := Ideal) (A1 m c) (A9 m c)) e).symm

theorem pay22 (x2 x10 : FVec Ideal S2x384 .f32) (i : Fin 2) (r : Fin 384) :
    (k0_pay10 (F := Ideal) x2 x10 (ix2 i r) : EReal) = NM (x2 (ix2 i r)) (x10 (ix2 i r)) := by
  pointwise [k0_pay10]

theorem ref22 (x2 x10 : FVec Ideal S2x384 .f32) (i : Fin 2) (r : Fin 384) :
    (val_main_v52 (F := Ideal) x2 x10 (ix2 i r) : EReal) = NM (x2 (ix2 i r)) (x10 (ix2 i r)) := by
  pointwise [val_main_v52, val_main_v49, val_main_v51, val_main_v48, val_main_v50, val_main_cst_17, val_main_cst_18]

theorem tile22 (c : Dev nD) (t : Fin cfg0.N) (i : Fin 2) (r : Fin 384) :
    (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 i r) : EReal) = val_main_v52 (F := Ideal) (A2 m c) (A10 m c) (ix2 i r) := by
  rw [ref22]
  unfold out0_22
  frame_out
  exact (pay22 (iblk m c 2 t) (iblk m c 10 t) i r).trans (NM_eq (blk2 m c t i r) (blk10 m c t i r))

theorem all22 (c : Dev nD) (t : Fin cfg0.N) (y : S2x384.Idx) :
    (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v52 (F := Ideal) (A2 m c) (A10 m c) y := by
  rw [split2 y]
  exact tile22 m c t (y 0) (y 1)

theorem final22 (c : Dev nD) : (dats m 0 c).arrAt 22 (cfgs 0).N = val_main_v52 (F := Ideal) (A2 m c) (A10 m c) := by
  refine (dats m 0 c).arrAt_eq_of_covers 22 _ (by decide +kernel) fun t hf y => ?_
  blk_simp
  rw [after0_22]
  have a := all22 m c t
  generalize out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_22.blk t).view.emb y = y := by
    blk_ext [idx t]
  exact (a y).trans (congrArg (val_main_v52 (F := Ideal) (A2 m c) (A10 m c)) e).symm

theorem pay23 (x3 x11 : FVec Ideal S2x384 .f32) (i : Fin 2) (r : Fin 384) :
    (k0_pay1 (F := Ideal) x3 x11 (ix2 i r) : EReal) = NM (x3 (ix2 i r)) (x11 (ix2 i r)) := by
  pointwise [k0_pay1]

theorem ref23 (x3 x11 : FVec Ideal S2x384 .f32) (i : Fin 2) (r : Fin 384) :
    (val_main_v76 (F := Ideal) x3 x11 (ix2 i r) : EReal) = NM (x3 (ix2 i r)) (x11 (ix2 i r)) := by
  pointwise [val_main_v76, val_main_v73, val_main_v75, val_main_v72, val_main_v74, val_main_cst_26, val_main_cst_27]

theorem tile23 (c : Dev nD) (t : Fin cfg0.N) (i : Fin 2) (r : Fin 384) :
    (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 i r) : EReal) = val_main_v76 (F := Ideal) (A3 m c) (A11 m c) (ix2 i r) := by
  rw [ref23]
  unfold out0_23
  frame_out
  exact (pay23 (iblk m c 3 t) (iblk m c 11 t) i r).trans (NM_eq (blk3 m c t i r) (blk11 m c t i r))

theorem all23 (c : Dev nD) (t : Fin cfg0.N) (y : S2x384.Idx) :
    (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v76 (F := Ideal) (A3 m c) (A11 m c) y := by
  rw [split2 y]
  exact tile23 m c t (y 0) (y 1)

theorem final23 (c : Dev nD) : (dats m 0 c).arrAt 23 (cfgs 0).N = val_main_v76 (F := Ideal) (A3 m c) (A11 m c) := by
  refine (dats m 0 c).arrAt_eq_of_covers 23 _ (by decide +kernel) fun t hf y => ?_
  blk_simp
  rw [after0_23]
  have a := all23 m c t
  generalize out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_23.blk t).view.emb y = y := by
    blk_ext [idx t]
  exact (a y).trans (congrArg (val_main_v76 (F := Ideal) (A3 m c) (A11 m c)) e).symm

theorem pay24 (x0 x12 : FVec Ideal S2x31x48 .f32) (i : Fin 2) (r : Fin 31) (d : Fin 48) :
    (k0_pay5 (F := Ideal) x0 x12 (ix3 i r d) : EReal) = NV (x0 (ix3 i r d)) (x12 (ix3 i r d)) := by
  pointwise [k0_pay5]

theorem ref24 (x0 x12 : FVec Ideal S2x31x48 .f32) (i : Fin 2) (r : Fin 31) (d : Fin 48) :
    (val_main_v10 (F := Ideal) x0 x12 (ix3 i r d) : EReal) = NV (x0 (ix3 i r d)) (x12 (ix3 i r d)) := by
  pointwise [val_main_v10, val_main_v6, val_main_v9, val_main_v5, val_main_v8, val_main_v7, val_main_cst_1, val_main_cst_2]

theorem tile24 (c : Dev nD) (t : Fin cfg0.N) (i : Fin 2) (r : Fin 31) (d : Fin 48) :
    (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 i r d) : EReal) = val_main_v10 (F := Ideal) (A0 m c) (A12 m c) (ix3 i r d) := by
  rw [ref24]
  unfold out0_24
  frame_out
  exact (pay24 (iblk m c 0 t) (iblk m c 12 t) i r d).trans (NV_eq (blk0 m c t i r d) (blk12 m c t i r d))

theorem all24 (c : Dev nD) (t : Fin cfg0.N) (y : S2x31x48.Idx) :
    (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v10 (F := Ideal) (A0 m c) (A12 m c) y := by
  rw [split3 y]
  exact tile24 m c t (y 0) (y 1) (y 2)

theorem final24 (c : Dev nD) : (dats m 0 c).arrAt 24 (cfgs 0).N = val_main_v10 (F := Ideal) (A0 m c) (A12 m c) := by
  refine (dats m 0 c).arrAt_eq_of_covers 24 _ (by decide +kernel) fun t hf y => ?_
  blk_simp
  rw [after0_24]
  have a := all24 m c t
  generalize out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_24.blk t).view.emb y = y := by
    blk_ext [idx t]
  exact (a y).trans (congrArg (val_main_v10 (F := Ideal) (A0 m c) (A12 m c)) e).symm

theorem pay25 (x1 x13 : FVec Ideal S2x384 .f32) (i : Fin 2) (r : Fin 384) :
    (k0_pay8 (F := Ideal) x1 x13 (ix2 i r) : EReal) = NV (x1 (ix2 i r)) (x13 (ix2 i r)) := by
  pointwise [k0_pay8]

theorem ref25 (x1 x13 : FVec Ideal S2x384 .f32) (i : Fin 2) (r : Fin 384) :
    (val_main_v34 (F := Ideal) x1 x13 (ix2 i r) : EReal) = NV (x1 (ix2 i r)) (x13 (ix2 i r)) := by
  pointwise [val_main_v34, val_main_v30, val_main_v33, val_main_v29, val_main_v32, val_main_v31, val_main_cst_10, val_main_cst_11]

theorem tile25 (c : Dev nD) (t : Fin cfg0.N) (i : Fin 2) (r : Fin 384) :
    (out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 i r) : EReal) = val_main_v34 (F := Ideal) (A1 m c) (A13 m c) (ix2 i r) := by
  rw [ref25]
  unfold out0_25
  frame_out
  exact (pay25 (iblk m c 1 t) (iblk m c 13 t) i r).trans (NV_eq (blk1 m c t i r) (blk13 m c t i r))

theorem all25 (c : Dev nD) (t : Fin cfg0.N) (y : S2x384.Idx) :
    (out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v34 (F := Ideal) (A1 m c) (A13 m c) y := by
  rw [split2 y]
  exact tile25 m c t (y 0) (y 1)

theorem final25 (c : Dev nD) : (dats m 0 c).arrAt 25 (cfgs 0).N = val_main_v34 (F := Ideal) (A1 m c) (A13 m c) := by
  refine (dats m 0 c).arrAt_eq_of_covers 25 _ (by decide +kernel) fun t hf y => ?_
  blk_simp
  rw [after0_25]
  have a := all25 m c t
  generalize out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_25.blk t).view.emb y = y := by
    blk_ext [idx t]
  exact (a y).trans (congrArg (val_main_v34 (F := Ideal) (A1 m c) (A13 m c)) e).symm

theorem pay26 (x2 x14 : FVec Ideal S2x384 .f32) (i : Fin 2) (r : Fin 384) :
    (k0_pay11 (F := Ideal) x2 x14 (ix2 i r) : EReal) = NV (x2 (ix2 i r)) (x14 (ix2 i r)) := by
  pointwise [k0_pay11]

theorem ref26 (x2 x14 : FVec Ideal S2x384 .f32) (i : Fin 2) (r : Fin 384) :
    (val_main_v58 (F := Ideal) x2 x14 (ix2 i r) : EReal) = NV (x2 (ix2 i r)) (x14 (ix2 i r)) := by
  pointwise [val_main_v58, val_main_v54, val_main_v57, val_main_v53, val_main_v56, val_main_v55, val_main_cst_19, val_main_cst_20]

theorem tile26 (c : Dev nD) (t : Fin cfg0.N) (i : Fin 2) (r : Fin 384) :
    (out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 i r) : EReal) = val_main_v58 (F := Ideal) (A2 m c) (A14 m c) (ix2 i r) := by
  rw [ref26]
  unfold out0_26
  frame_out
  exact (pay26 (iblk m c 2 t) (iblk m c 14 t) i r).trans (NV_eq (blk2 m c t i r) (blk14 m c t i r))

theorem all26 (c : Dev nD) (t : Fin cfg0.N) (y : S2x384.Idx) :
    (out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v58 (F := Ideal) (A2 m c) (A14 m c) y := by
  rw [split2 y]
  exact tile26 m c t (y 0) (y 1)

theorem final26 (c : Dev nD) : (dats m 0 c).arrAt 26 (cfgs 0).N = val_main_v58 (F := Ideal) (A2 m c) (A14 m c) := by
  refine (dats m 0 c).arrAt_eq_of_covers 26 _ (by decide +kernel) fun t hf y => ?_
  blk_simp
  rw [after0_26]
  have a := all26 m c t
  generalize out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_26.blk t).view.emb y = y := by
    blk_ext [idx t]
  exact (a y).trans (congrArg (val_main_v58 (F := Ideal) (A2 m c) (A14 m c)) e).symm

theorem pay27 (x3 x15 : FVec Ideal S2x384 .f32) (i : Fin 2) (r : Fin 384) :
    (k0_pay2 (F := Ideal) x3 x15 (ix2 i r) : EReal) = NV (x3 (ix2 i r)) (x15 (ix2 i r)) := by
  pointwise [k0_pay2]

theorem ref27 (x3 x15 : FVec Ideal S2x384 .f32) (i : Fin 2) (r : Fin 384) :
    (val_main_v82 (F := Ideal) x3 x15 (ix2 i r) : EReal) = NV (x3 (ix2 i r)) (x15 (ix2 i r)) := by
  pointwise [val_main_v82, val_main_v78, val_main_v81, val_main_v77, val_main_v80, val_main_v79, val_main_cst_28, val_main_cst_29]

theorem tile27 (c : Dev nD) (t : Fin cfg0.N) (i : Fin 2) (r : Fin 384) :
    (out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 i r) : EReal) = val_main_v82 (F := Ideal) (A3 m c) (A15 m c) (ix2 i r) := by
  rw [ref27]
  unfold out0_27
  frame_out
  exact (pay27 (iblk m c 3 t) (iblk m c 15 t) i r).trans (NV_eq (blk3 m c t i r) (blk15 m c t i r))

theorem all27 (c : Dev nD) (t : Fin cfg0.N) (y : S2x384.Idx) :
    (out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v82 (F := Ideal) (A3 m c) (A15 m c) y := by
  rw [split2 y]
  exact tile27 m c t (y 0) (y 1)

theorem final27 (c : Dev nD) : (dats m 0 c).arrAt 27 (cfgs 0).N = val_main_v82 (F := Ideal) (A3 m c) (A15 m c) := by
  refine (dats m 0 c).arrAt_eq_of_covers 27 _ (by decide +kernel) fun t hf y => ?_
  blk_simp
  rw [after0_27]
  have a := all27 m c t
  generalize out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_27.blk t).view.emb y = y := by
    blk_ext [idx t]
  exact (a y).trans (congrArg (val_main_v82 (F := Ideal) (A3 m c) (A15 m c)) e).symm

end Cert.Kernel15Ideal.Adam

end
-- ==== Proof.Claims15.lean ====
module

public import proofs.«01_k».proof.Defs
public import proofs.«01_k».proof.Proof.Gen.Kernel15Ideal
public import proofs.«01_k».proof.Proof.Gen.Reference15Ideal
public import proofs.«01_k».proof.Proof.Gen.Reference15Ideal.Run
public import proofs.«01_k».proof.Proof.Gen.Reference15Ideal.Read
public import proofs.«01_k».proof.Proof.Adam15

/-! The optimiser on the weights of the convolution: the call and its reference end with the same 12 arrays. -/

@[expose] public section

set_option maxRecDepth 16384

noncomputable section

namespace Cert.Proof

open Idealize.ShloMosaic Idealize.ShloMosaic.TcCoe Idealize.SL.Sem

section

open Cert.Reference15Ideal Cert.Reference15Ideal.Read

/-- What the reference leaves, by the names of its values. -/
theorem left15 (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v23) = val_main_v23 (F := Ideal) (m' ((c.tc : Thread nD τ).loc main_arg0)) (m' ((c.tc : Thread nD τ).loc main_arg4)) (m' ((c.tc : Thread nD τ).loc main_arg8)) (m' ((c.tc : Thread nD τ).loc main_arg12))
      ∧ r.2.mem ((c.tc : Thread nD τ).loc main_v47) = val_main_v47 (F := Ideal) (m' ((c.tc : Thread nD τ).loc main_arg1)) (m' ((c.tc : Thread nD τ).loc main_arg5)) (m' ((c.tc : Thread nD τ).loc main_arg9)) (m' ((c.tc : Thread nD τ).loc main_arg13))
      ∧ r.2.mem ((c.tc : Thread nD τ).loc main_v71) = val_main_v71 (F := Ideal) (m' ((c.tc : Thread nD τ).loc main_arg2)) (m' ((c.tc : Thread nD τ).loc main_arg6)) (m' ((c.tc : Thread nD τ).loc main_arg10)) (m' ((c.tc : Thread nD τ).loc main_arg14))
      ∧ r.2.mem ((c.tc : Thread nD τ).loc main_v95) = val_main_v95 (F := Ideal) (m' ((c.tc : Thread nD τ).loc main_arg3)) (m' ((c.tc : Thread nD τ).loc main_arg7)) (m' ((c.tc : Thread nD τ).loc main_arg11)) (m' ((c.tc : Thread nD τ).loc main_arg15))
      ∧ r.2.mem ((c.tc : Thread nD τ).loc main_v4) = val_main_v4 (F := Ideal) (m' ((c.tc : Thread nD τ).loc main_arg0)) (m' ((c.tc : Thread nD τ).loc main_arg8))
      ∧ r.2.mem ((c.tc : Thread nD τ).loc main_v28) = val_main_v28 (F := Ideal) (m' ((c.tc : Thread nD τ).loc main_arg1)) (m' ((c.tc : Thread nD τ).loc main_arg9))
      ∧ r.2.mem ((c.tc : Thread nD τ).loc main_v52) = val_main_v52 (F := Ideal) (m' ((c.tc : Thread nD τ).loc main_arg2)) (m' ((c.tc : Thread nD τ).loc main_arg10))
      ∧ r.2.mem ((c.tc : Thread nD τ).loc main_v76) = val_main_v76 (F := Ideal) (m' ((c.tc : Thread nD τ).loc main_arg3)) (m' ((c.tc : Thread nD τ).loc main_arg11))
      ∧ r.2.mem ((c.tc : Thread nD τ).loc main_v10) = val_main_v10 (F := Ideal) (m' ((c.tc : Thread nD τ).loc main_arg0)) (m' ((c.tc : Thread nD τ).loc main_arg12))
      ∧ r.2.mem ((c.tc : Thread nD τ).loc main_v34) = val_main_v34 (F := Ideal) (m' ((c.tc : Thread nD τ).loc main_arg1)) (m' ((c.tc : Thread nD τ).loc main_arg13))
      ∧ r.2.mem ((c.tc : Thread nD τ).loc main_v58) = val_main_v58 (F := Ideal) (m' ((c.tc : Thread nD τ).loc main_arg2)) (m' ((c.tc : Thread nD τ).loc main_arg14))
      ∧ r.2.mem ((c.tc : Thread nD τ).loc main_v82) = val_main_v82 (F := Ideal) (m' ((c.tc : Thread nD τ).loc main_arg3)) (m' ((c.tc : Thread nD τ).loc main_arg15))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15) := by
  refine (θ_run _ _ _).mono (fun r h c => ?_) (Cert.Reference15Ideal.Value.run m' g')
  obtain ⟨a0, a1, a2, a3, a4, a5, a6, a7, a8, a9, a10, a11, p⟩ := h c
  exact ⟨a0.trans (val_main_v23_eq _ _ _ _), a1.trans (val_main_v47_eq _ _ _ _), a2.trans (val_main_v71_eq _ _ _ _), a3.trans (val_main_v95_eq _ _ _ _), a4.trans (val_main_v4_eq _ _), a5.trans (val_main_v28_eq _ _), a6.trans (val_main_v52_eq _ _), a7.trans (val_main_v76_eq _ _), a8.trans (val_main_v10_eq _ _), a9.trans (val_main_v34_eq _ _), a10.trans (val_main_v58_eq _ _), a11.trans (val_main_v82_eq _ _), p⟩

end

section

open Cert.Kernel15Ideal Cert.Kernel15Ideal.Gen

/-- What the call leaves in its 12 results and its arguments. -/
theorem kept15 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = (dats m 0 c).arrAt 16 (cfgs 0).N
      ∧ r.2.mem ((c.tc : Thread nD τ).loc main_v0_1) = (dats m 0 c).arrAt 17 (cfgs 0).N
      ∧ r.2.mem ((c.tc : Thread nD τ).loc main_v0_2) = (dats m 0 c).arrAt 18 (cfgs 0).N
      ∧ r.2.mem ((c.tc : Thread nD τ).loc main_v0_3) = (dats m 0 c).arrAt 19 (cfgs 0).N
      ∧ r.2.mem ((c.tc : Thread nD τ).loc main_v0_4) = (dats m 0 c).arrAt 20 (cfgs 0).N
      ∧ r.2.mem ((c.tc : Thread nD τ).loc main_v0_5) = (dats m 0 c).arrAt 21 (cfgs 0).N
      ∧ r.2.mem ((c.tc : Thread nD τ).loc main_v0_6) = (dats m 0 c).arrAt 22 (cfgs 0).N
      ∧ r.2.mem ((c.tc : Thread nD τ).loc main_v0_7) = (dats m 0 c).arrAt 23 (cfgs 0).N
      ∧ r.2.mem ((c.tc : Thread nD τ).loc main_v0_8) = (dats m 0 c).arrAt 24 (cfgs 0).N
      ∧ r.2.mem ((c.tc : Thread nD τ).loc main_v0_9) = (dats m 0 c).arrAt 25 (cfgs 0).N
      ∧ r.2.mem ((c.tc : Thread nD τ).loc main_v0_10) = (dats m 0 c).arrAt 26 (cfgs 0).N
      ∧ r.2.mem ((c.tc : Thread nD τ).loc main_v0_11) = (dats m 0 c).arrAt 27 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run _ _ _).mono (fun r h c => ⟨(h.1 c).1 16, (h.1 c).1 17, (h.1 c).1 18, (h.1 c).1 19, (h.1 c).1 20, (h.1 c).1 21, (h.1 c).1 22, (h.1 c).1 23, (h.1 c).1 24, (h.1 c).1 25, (h.1 c).1 26, (h.1 c).1 27, h.2 c⟩) (θ_run_and (run_main m g) (unchanged m g))

end

/-- From equal arguments the call and its reference leave equal results. -/
theorem same15 : Cert.algebraic_Kernel15Ideal_Reference15Ideal := by
  intro m g m' g' hpre hagree
  refine ⟨fun c => (Cert.Kernel15Ideal.Gen.dats m 0 c).arrAt 16 (Cert.Kernel15Ideal.cfgs 0).N, fun c => (Cert.Kernel15Ideal.Gen.dats m 0 c).arrAt 17 (Cert.Kernel15Ideal.cfgs 0).N, fun c => (Cert.Kernel15Ideal.Gen.dats m 0 c).arrAt 18 (Cert.Kernel15Ideal.cfgs 0).N, fun c => (Cert.Kernel15Ideal.Gen.dats m 0 c).arrAt 19 (Cert.Kernel15Ideal.cfgs 0).N, fun c => (Cert.Kernel15Ideal.Gen.dats m 0 c).arrAt 20 (Cert.Kernel15Ideal.cfgs 0).N, fun c => (Cert.Kernel15Ideal.Gen.dats m 0 c).arrAt 21 (Cert.Kernel15Ideal.cfgs 0).N, fun c => (Cert.Kernel15Ideal.Gen.dats m 0 c).arrAt 22 (Cert.Kernel15Ideal.cfgs 0).N, fun c => (Cert.Kernel15Ideal.Gen.dats m 0 c).arrAt 23 (Cert.Kernel15Ideal.cfgs 0).N, fun c => (Cert.Kernel15Ideal.Gen.dats m 0 c).arrAt 24 (Cert.Kernel15Ideal.cfgs 0).N, fun c => (Cert.Kernel15Ideal.Gen.dats m 0 c).arrAt 25 (Cert.Kernel15Ideal.cfgs 0).N, fun c => (Cert.Kernel15Ideal.Gen.dats m 0 c).arrAt 26 (Cert.Kernel15Ideal.cfgs 0).N, fun c => (Cert.Kernel15Ideal.Gen.dats m 0 c).arrAt 27 (Cert.Kernel15Ideal.cfgs 0).N,
    kept15 m g, (θ_run _ _ _).mono (fun r h c => ?_) (left15 m' g')⟩
  obtain ⟨a0, a1, a2, a3, a4, a5, a6, a7, a8, a9, a10, a11, p⟩ := h c
  obtain ⟨h0, h1, h2, h3, h4, h5, h6, h7, h8, h9, h10, h11, h12, h13, h14, h15⟩ := hagree c
  rw [h0, h4, h8, h12] at a0
  rw [h1, h5, h9, h13] at a1
  rw [h2, h6, h10, h14] at a2
  rw [h3, h7, h11, h15] at a3
  rw [h0, h8] at a4
  rw [h1, h9] at a5
  rw [h2, h10] at a6
  rw [h3, h11] at a7
  rw [h0, h12] at a8
  rw [h1, h13] at a9
  rw [h2, h14] at a10
  rw [h3, h15] at a11
  exact ⟨a0.trans (Cert.Kernel15Ideal.Adam.final16 m c).symm, a1.trans (Cert.Kernel15Ideal.Adam.final17 m c).symm, a2.trans (Cert.Kernel15Ideal.Adam.final18 m c).symm, a3.trans (Cert.Kernel15Ideal.Adam.final19 m c).symm, a4.trans (Cert.Kernel15Ideal.Adam.final20 m c).symm, a5.trans (Cert.Kernel15Ideal.Adam.final21 m c).symm, a6.trans (Cert.Kernel15Ideal.Adam.final22 m c).symm, a7.trans (Cert.Kernel15Ideal.Adam.final23 m c).symm, a8.trans (Cert.Kernel15Ideal.Adam.final24 m c).symm, a9.trans (Cert.Kernel15Ideal.Adam.final25 m c).symm, a10.trans (Cert.Kernel15Ideal.Adam.final26 m c).symm, a11.trans (Cert.Kernel15Ideal.Adam.final27 m c).symm, p⟩

/-- The reference leaves its arguments and its counters as they were. -/
theorem still15 : Cert.quiescent_Reference15Ideal := fun m g _ =>
  (θ_run _ _ _).mono (fun r h => ⟨fun c => (h c).2.2.2.2.2.2.2.2.2.2.2.2, sem_eq_zero_of_no_sems (by decide) r.2⟩) (left15 m g)

end Cert.Proof

end
-- ==== Proof.Adam16.lean ====
module

public import proofs.«01_k».proof.Proof.Gen.Kernel16Ideal.Frame
public import proofs.«01_k».proof.Proof.Gen.Reference16Ideal.Read
public import proofs.«01_k».proof.Proof.Adam
public import Idealize.ShloMosaic.Lib.Pipeline.ValueKit

/-! The optimiser on the weights of the spatial gate: each of the call's 12 results is the reference's. -/

@[expose] public section

set_option maxRecDepth 16384
set_option synthInstance.maxSize 4096

noncomputable section

namespace Cert.Kernel16Ideal.Adam

open Cert.Kernel16Ideal Cert.Kernel16Ideal.Gen Cert.Adam Idealize.ShloMosaic Idealize.ShloMosaic.TcCoe Idealize.SL.Sem
open Cert.Reference16Ideal.Read
open Idealize.ShloMosaic.Pipeline (Dat)

variable (m : (ℓ : Loc nD τ sig) → Buf (Elt Ideal) ℓ)

abbrev A0 (c : Dev nD) : FVec Ideal S2x384 .f32 := m ((c : Thread nD τ).loc main_arg0)
abbrev A1 (c : Dev nD) : FVec Ideal S2x384 .f32 := m ((c : Thread nD τ).loc main_arg1)
abbrev A2 (c : Dev nD) : FVec Ideal S2x4x128x128 .f32 := m ((c : Thread nD τ).loc main_arg2)
abbrev A3 (c : Dev nD) : FVec Ideal S2x4x128 .f32 := m ((c : Thread nD τ).loc main_arg3)
abbrev A4 (c : Dev nD) : FVec Ideal S2x384 .f32 := m ((c : Thread nD τ).loc main_arg4)
abbrev A5 (c : Dev nD) : FVec Ideal S2x384 .f32 := m ((c : Thread nD τ).loc main_arg5)
abbrev A6 (c : Dev nD) : FVec Ideal S2x4x128x128 .f32 := m ((c : Thread nD τ).loc main_arg6)
abbrev A7 (c : Dev nD) : FVec Ideal S2x4x128 .f32 := m ((c : Thread nD τ).loc main_arg7)
abbrev A8 (c : Dev nD) : FVec Ideal S2x384 .f32 := m ((c : Thread nD τ).loc main_arg8)
abbrev A9 (c : Dev nD) : FVec Ideal S2x384 .f32 := m ((c : Thread nD τ).loc main_arg9)
abbrev A10 (c : Dev nD) : FVec Ideal S2x4x128x128 .f32 := m ((c : Thread nD τ).loc main_arg10)
abbrev A11 (c : Dev nD) : FVec Ideal S2x4x128 .f32 := m ((c : Thread nD τ).loc main_arg11)
abbrev A12 (c : Dev nD) : FVec Ideal S2x384 .f32 := m ((c : Thread nD τ).loc main_arg12)
abbrev A13 (c : Dev nD) : FVec Ideal S2x384 .f32 := m ((c : Thread nD τ).loc main_arg13)
abbrev A14 (c : Dev nD) : FVec Ideal S2x4x128x128 .f32 := m ((c : Thread nD τ).loc main_arg14)
abbrev A15 (c : Dev nD) : FVec Ideal S2x4x128 .f32 := m ((c : Thread nD τ).loc main_arg15)

/-- There is one point, and its blocks are the whole arrays. -/
theorem idx : ∀ t : Fin cfg0.N, win0_0.index t = ![0, 0]
    ∧ win0_1.index t = ![0, 0]
    ∧ win0_2.index t = ![0, 0, 0, 0]
    ∧ win0_3.index t = ![0, 0, 0]
    ∧ win0_4.index t = ![0, 0]
    ∧ win0_5.index t = ![0, 0]
    ∧ win0_6.index t = ![0, 0, 0, 0]
    ∧ win0_7.index t = ![0, 0, 0]
    ∧ win0_8.index t = ![0, 0]
    ∧ win0_9.index t = ![0, 0]
    ∧ win0_10.index t = ![0, 0, 0, 0]
    ∧ win0_11.index t = ![0, 0, 0]
    ∧ win0_12.index t = ![0, 0]
    ∧ win0_13.index t = ![0, 0]
    ∧ win0_14.index t = ![0, 0, 0, 0]
    ∧ win0_15.index t = ![0, 0, 0]
    ∧ win0_16.index t = ![0, 0]
    ∧ win0_17.index t = ![0, 0]
    ∧ win0_18.index t = ![0, 0, 0, 0]
    ∧ win0_19.index t = ![0, 0, 0]
    ∧ win0_20.index t = ![0, 0]
    ∧ win0_21.index t = ![0, 0]
    ∧ win0_22.index t = ![0, 0, 0, 0]
    ∧ win0_23.index t = ![0, 0, 0]
    ∧ win0_24.index t = ![0, 0]
    ∧ win0_25.index t = ![0, 0]
    ∧ win0_26.index t = ![0, 0, 0, 0]
    ∧ win0_27.index t = ![0, 0, 0] :=
  (by decide +kernel : ∀ t : Fin grid0.N, _)

/-! ## The blocks at an index -/

theorem blk0 (c : Dev nD) (t : Fin cfg0.N) (i : Fin 2) (r : Fin 384) : (show FVec Ideal S2x384 .f32 from iblk m c 0 t) (ix2 i r) = A0 m c (ix2 i r) := by
  blk_point [iblk, V, idx t]

theorem blk1 (c : Dev nD) (t : Fin cfg0.N) (i : Fin 2) (r : Fin 384) : (show FVec Ideal S2x384 .f32 from iblk m c 1 t) (ix2 i r) = A1 m c (ix2 i r) := by
  blk_point [iblk, V, idx t]

theorem blk2 (c : Dev nD) (t : Fin cfg0.N) (i : Fin 2) (r : Fin 4) (d : Fin 128) (e : Fin 128) : (show FVec Ideal S2x4x128x128 .f32 from iblk m c 2 t) (ix4 i r d e) = A2 m c (ix4 i r d e) := by
  blk_point [iblk, V, idx t]

theorem blk3 (c : Dev nD) (t : Fin cfg0.N) (i : Fin 2) (r : Fin 4) (d : Fin 128) : (show FVec Ideal S2x4x128 .f32 from iblk m c 3 t) (ix3 i r d) = A3 m c (ix3 i r d) := by
  blk_point [iblk, V, idx t]

theorem blk4 (c : Dev nD) (t : Fin cfg0.N) (i : Fin 2) (r : Fin 384) : (show FVec Ideal S2x384 .f32 from iblk m c 4 t) (ix2 i r) = A4 m c (ix2 i r) := by
  blk_point [iblk, V, idx t]

theorem blk5 (c : Dev nD) (t : Fin cfg0.N) (i : Fin 2) (r : Fin 384) : (show FVec Ideal S2x384 .f32 from iblk m c 5 t) (ix2 i r) = A5 m c (ix2 i r) := by
  blk_point [iblk, V, idx t]

theorem blk6 (c : Dev nD) (t : Fin cfg0.N) (i : Fin 2) (r : Fin 4) (d : Fin 128) (e : Fin 128) : (show FVec Ideal S2x4x128x128 .f32 from iblk m c 6 t) (ix4 i r d e) = A6 m c (ix4 i r d e) := by
  blk_point [iblk, V, idx t]

theorem blk7 (c : Dev nD) (t : Fin cfg0.N) (i : Fin 2) (r : Fin 4) (d : Fin 128) : (show FVec Ideal S2x4x128 .f32 from iblk m c 7 t) (ix3 i r d) = A7 m c (ix3 i r d) := by
  blk_point [iblk, V, idx t]

theorem blk8 (c : Dev nD) (t : Fin cfg0.N) (i : Fin 2) (r : Fin 384) : (show FVec Ideal S2x384 .f32 from iblk m c 8 t) (ix2 i r) = A8 m c (ix2 i r) := by
  blk_point [iblk, V, idx t]

theorem blk9 (c : Dev nD) (t : Fin cfg0.N) (i : Fin 2) (r : Fin 384) : (show FVec Ideal S2x384 .f32 from iblk m c 9 t) (ix2 i r) = A9 m c (ix2 i r) := by
  blk_point [iblk, V, idx t]

theorem blk10 (c : Dev nD) (t : Fin cfg0.N) (i : Fin 2) (r : Fin 4) (d : Fin 128) (e : Fin 128) : (show FVec Ideal S2x4x128x128 .f32 from iblk m c 10 t) (ix4 i r d e) = A10 m c (ix4 i r d e) := by
  blk_point [iblk, V, idx t]

theorem blk11 (c : Dev nD) (t : Fin cfg0.N) (i : Fin 2) (r : Fin 4) (d : Fin 128) : (show FVec Ideal S2x4x128 .f32 from iblk m c 11 t) (ix3 i r d) = A11 m c (ix3 i r d) := by
  blk_point [iblk, V, idx t]

theorem blk12 (c : Dev nD) (t : Fin cfg0.N) (i : Fin 2) (r : Fin 384) : (show FVec Ideal S2x384 .f32 from iblk m c 12 t) (ix2 i r) = A12 m c (ix2 i r) := by
  blk_point [iblk, V, idx t]

theorem blk13 (c : Dev nD) (t : Fin cfg0.N) (i : Fin 2) (r : Fin 384) : (show FVec Ideal S2x384 .f32 from iblk m c 13 t) (ix2 i r) = A13 m c (ix2 i r) := by
  blk_point [iblk, V, idx t]

theorem blk14 (c : Dev nD) (t : Fin cfg0.N) (i : Fin 2) (r : Fin 4) (d : Fin 128) (e : Fin 128) : (show FVec Ideal S2x4x128x128 .f32 from iblk m c 14 t) (ix4 i r d e) = A14 m c (ix4 i r d e) := by
  blk_point [iblk, V, idx t]

theorem blk15 (c : Dev nD) (t : Fin cfg0.N) (i : Fin 2) (r : Fin 4) (d : Fin 128) : (show FVec Ideal S2x4x128 .f32 from iblk m c 15 t) (ix3 i r d) = A15 m c (ix3 i r d) := by
  blk_point [iblk, V, idx t]

/-! ## The results -/

theorem pay16 (x0 x4 x8 x12 : FVec Ideal S2x384 .f32) (i : Fin 2) (r : Fin 384) :
    (k0_pay3 (F := Ideal) x4 x0 x8 x12 (ix2 i r) : EReal) = DL (x0 (ix2 i r)) (x4 (ix2 i r)) (x8 (ix2 i r)) (x12 (ix2 i r)) := by
  pointwise [k0_pay3, k0_pay1, k0_pay2]

theorem ref16 (x0 x4 x8 x12 : FVec Ideal S2x384 .f32) (i : Fin 2) (r : Fin 384) :
    (val_main_v23 (F := Ideal) x0 x4 x8 x12 (ix2 i r) : EReal) = DL (x0 (ix2 i r)) (x4 (ix2 i r)) (x8 (ix2 i r)) (x12 (ix2 i r)) := by
  pointwise [val_main_v23, val_main_v22, val_main_v21, val_main_cst_7, val_main_v18, val_main_v20, val_main_v12, val_main_v17, val_main_v19, val_main_v4, val_main_v11, val_main_v15, val_main_v16, val_main_cst_6, val_main_v1, val_main_v3, val_main_cst_3, val_main_v14, val_main_cst_5, val_main_v0, val_main_v2, val_main_v10, val_main_v13, val_main_cst, val_main_cst_0, val_main_v6, val_main_v9, val_main_cst_4, val_main_v5, val_main_v8, val_main_v7, val_main_cst_1, val_main_cst_2]

theorem tile16 (c : Dev nD) (t : Fin cfg0.N) (i : Fin 2) (r : Fin 384) :
    (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 i r) : EReal) = val_main_v23 (F := Ideal) (A0 m c) (A4 m c) (A8 m c) (A12 m c) (ix2 i r) := by
  rw [ref16]
  unfold out0_16
  frame_out
  exact (pay16 (iblk m c 0 t) (iblk m c 4 t) (iblk m c 8 t) (iblk m c 12 t) i r).trans (DL_eq (blk0 m c t i r) (blk4 m c t i r) (blk8 m c t i r) (blk12 m c t i r))

theorem all16 (c : Dev nD) (t : Fin cfg0.N) (y : S2x384.Idx) :
    (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v23 (F := Ideal) (A0 m c) (A4 m c) (A8 m c) (A12 m c) y := by
  rw [split2 y]
  exact tile16 m c t (y 0) (y 1)

theorem final16 (c : Dev nD) : (dats m 0 c).arrAt 16 (cfgs 0).N = val_main_v23 (F := Ideal) (A0 m c) (A4 m c) (A8 m c) (A12 m c) := by
  refine (dats m 0 c).arrAt_eq_of_covers 16 _ (by decide +kernel) fun t hf y => ?_
  blk_simp
  rw [after0_16]
  have a := all16 m c t
  generalize out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_16.blk t).view.emb y = y := by
    blk_ext [idx t]
  exact (a y).trans (congrArg (val_main_v23 (F := Ideal) (A0 m c) (A4 m c) (A8 m c) (A12 m c)) e).symm

theorem pay17 (x1 x5 x9 x13 : FVec Ideal S2x384 .f32) (i : Fin 2) (r : Fin 384) :
    (k0_pay6 (F := Ideal) x5 x1 x9 x13 (ix2 i r) : EReal) = DL (x1 (ix2 i r)) (x5 (ix2 i r)) (x9 (ix2 i r)) (x13 (ix2 i r)) := by
  pointwise [k0_pay6, k0_pay4, k0_pay5]

theorem ref17 (x1 x5 x9 x13 : FVec Ideal S2x384 .f32) (i : Fin 2) (r : Fin 384) :
    (val_main_v47 (F := Ideal) x1 x5 x9 x13 (ix2 i r) : EReal) = DL (x1 (ix2 i r)) (x5 (ix2 i r)) (x9 (ix2 i r)) (x13 (ix2 i r)) := by
  pointwise [val_main_v47, val_main_v46, val_main_v45, val_main_cst_16, val_main_v42, val_main_v44, val_main_v36, val_main_v41, val_main_v43, val_main_v28, val_main_v35, val_main_v39, val_main_v40, val_main_cst_15, val_main_v25, val_main_v27, val_main_cst_12, val_main_v38, val_main_cst_14, val_main_v24, val_main_v26, val_main_v34, val_main_v37, val_main_cst_8, val_main_cst_9, val_main_v30, val_main_v33, val_main_cst_13, val_main_v29, val_main_v32, val_main_v31, val_main_cst_10, val_main_cst_11]

theorem tile17 (c : Dev nD) (t : Fin cfg0.N) (i : Fin 2) (r : Fin 384) :
    (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 i r) : EReal) = val_main_v47 (F := Ideal) (A1 m c) (A5 m c) (A9 m c) (A13 m c) (ix2 i r) := by
  rw [ref17]
  unfold out0_17
  frame_out
  exact (pay17 (iblk m c 1 t) (iblk m c 5 t) (iblk m c 9 t) (iblk m c 13 t) i r).trans (DL_eq (blk1 m c t i r) (blk5 m c t i r) (blk9 m c t i r) (blk13 m c t i r))

theorem all17 (c : Dev nD) (t : Fin cfg0.N) (y : S2x384.Idx) :
    (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v47 (F := Ideal) (A1 m c) (A5 m c) (A9 m c) (A13 m c) y := by
  rw [split2 y]
  exact tile17 m c t (y 0) (y 1)

theorem final17 (c : Dev nD) : (dats m 0 c).arrAt 17 (cfgs 0).N = val_main_v47 (F := Ideal) (A1 m c) (A5 m c) (A9 m c) (A13 m c) := by
  refine (dats m 0 c).arrAt_eq_of_covers 17 _ (by decide +kernel) fun t hf y => ?_
  blk_simp
  rw [after0_17]
  have a := all17 m c t
  generalize out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_17.blk t).view.emb y = y := by
    blk_ext [idx t]
  exact (a y).trans (congrArg (val_main_v47 (F := Ideal) (A1 m c) (A5 m c) (A9 m c) (A13 m c)) e).symm

theorem pay18 (x2 x6 x10 x14 : FVec Ideal S2x4x128x128 .f32) (i : Fin 2) (r : Fin 4) (d : Fin 128) (e : Fin 128) :
    (k0_pay9 (F := Ideal) x6 x2 x10 x14 (ix4 i r d e) : EReal) = DL (x2 (ix4 i r d e)) (x6 (ix4 i r d e)) (x10 (ix4 i r d e)) (x14 (ix4 i r d e)) := by
  pointwise [k0_pay9, k0_pay7, k0_pay8]

theorem ref18 (x2 x6 x10 x14 : FVec Ideal S2x4x128x128 .f32) (i : Fin 2) (r : Fin 4) (d : Fin 128) (e : Fin 128) :
    (val_main_v71 (F := Ideal) x2 x6 x10 x14 (ix4 i r d e) : EReal) = DL (x2 (ix4 i r d e)) (x6 (ix4 i r d e)) (x10 (ix4 i r d e)) (x14 (ix4 i r d e)) := by
  pointwise [val_main_v71, val_main_v70, val_main_v69, val_main_cst_25, val_main_v66, val_main_v68, val_main_v60, val_main_v65, val_main_v67, val_main_v52, val_main_v59, val_main_v63, val_main_v64, val_main_cst_24, val_main_v49, val_main_v51, val_main_cst_21, val_main_v62, val_main_cst_23, val_main_v48, val_main_v50, val_main_v58, val_main_v61, val_main_cst_17, val_main_cst_18, val_main_v54, val_main_v57, val_main_cst_22, val_main_v53, val_main_v56, val_main_v55, val_main_cst_19, val_main_cst_20]

theorem tile18 (c : Dev nD) (t : Fin cfg0.N) (i : Fin 2) (r : Fin 4) (d : Fin 128) (e : Fin 128) :
    (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix4 i r d e) : EReal) = val_main_v71 (F := Ideal) (A2 m c) (A6 m c) (A10 m c) (A14 m c) (ix4 i r d e) := by
  rw [ref18]
  unfold out0_18
  frame_out
  exact (pay18 (iblk m c 2 t) (iblk m c 6 t) (iblk m c 10 t) (iblk m c 14 t) i r d e).trans (DL_eq (blk2 m c t i r d e) (blk6 m c t i r d e) (blk10 m c t i r d e) (blk14 m c t i r d e))

theorem all18 (c : Dev nD) (t : Fin cfg0.N) (y : S2x4x128x128.Idx) :
    (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v71 (F := Ideal) (A2 m c) (A6 m c) (A10 m c) (A14 m c) y := by
  rw [split4 y]
  exact tile18 m c t (y 0) (y 1) (y 2) (y 3)

theorem final18 (c : Dev nD) : (dats m 0 c).arrAt 18 (cfgs 0).N = val_main_v71 (F := Ideal) (A2 m c) (A6 m c) (A10 m c) (A14 m c) := by
  refine (dats m 0 c).arrAt_eq_of_covers 18 _ (by decide +kernel) fun t hf y => ?_
  blk_simp
  rw [after0_18]
  have a := all18 m c t
  generalize out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_18.blk t).view.emb y = y := by
    blk_ext [idx t]
  exact (a y).trans (congrArg (val_main_v71 (F := Ideal) (A2 m c) (A6 m c) (A10 m c) (A14 m c)) e).symm

theorem pay19 (x3 x7 x11 x15 : FVec Ideal S2x4x128 .f32) (i : Fin 2) (r : Fin 4) (d : Fin 128) :
    (k0_pay12 (F := Ideal) x7 x3 x11 x15 (ix3 i r d) : EReal) = DL (x3 (ix3 i r d)) (x7 (ix3 i r d)) (x11 (ix3 i r d)) (x15 (ix3 i r d)) := by
  pointwise [k0_pay12, k0_pay10, k0_pay11]

theorem ref19 (x3 x7 x11 x15 : FVec Ideal S2x4x128 .f32) (i : Fin 2) (r : Fin 4) (d : Fin 128) :
    (val_main_v95 (F := Ideal) x3 x7 x11 x15 (ix3 i r d) : EReal) = DL (x3 (ix3 i r d)) (x7 (ix3 i r d)) (x11 (ix3 i r d)) (x15 (ix3 i r d)) := by
  pointwise [val_main_v95, val_main_v94, val_main_v93, val_main_cst_34, val_main_v90, val_main_v92, val_main_v84, val_main_v89, val_main_v91, val_main_v76, val_main_v83, val_main_v87, val_main_v88, val_main_cst_33, val_main_v73, val_main_v75, val_main_cst_30, val_main_v86, val_main_cst_32, val_main_v72, val_main_v74, val_main_v82, val_main_v85, val_main_cst_26, val_main_cst_27, val_main_v78, val_main_v81, val_main_cst_31, val_main_v77, val_main_v80, val_main_v79, val_main_cst_28, val_main_cst_29]

theorem tile19 (c : Dev nD) (t : Fin cfg0.N) (i : Fin 2) (r : Fin 4) (d : Fin 128) :
    (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 i r d) : EReal) = val_main_v95 (F := Ideal) (A3 m c) (A7 m c) (A11 m c) (A15 m c) (ix3 i r d) := by
  rw [ref19]
  unfold out0_19
  frame_out
  exact (pay19 (iblk m c 3 t) (iblk m c 7 t) (iblk m c 11 t) (iblk m c 15 t) i r d).trans (DL_eq (blk3 m c t i r d) (blk7 m c t i r d) (blk11 m c t i r d) (blk15 m c t i r d))

theorem all19 (c : Dev nD) (t : Fin cfg0.N) (y : S2x4x128.Idx) :
    (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v95 (F := Ideal) (A3 m c) (A7 m c) (A11 m c) (A15 m c) y := by
  rw [split3 y]
  exact tile19 m c t (y 0) (y 1) (y 2)

theorem final19 (c : Dev nD) : (dats m 0 c).arrAt 19 (cfgs 0).N = val_main_v95 (F := Ideal) (A3 m c) (A7 m c) (A11 m c) (A15 m c) := by
  refine (dats m 0 c).arrAt_eq_of_covers 19 _ (by decide +kernel) fun t hf y => ?_
  blk_simp
  rw [after0_19]
  have a := all19 m c t
  generalize out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_19.blk t).view.emb y = y := by
    blk_ext [idx t]
  exact (a y).trans (congrArg (val_main_v95 (F := Ideal) (A3 m c) (A7 m c) (A11 m c) (A15 m c)) e).symm

theorem pay20 (x0 x8 : FVec Ideal S2x384 .f32) (i : Fin 2) (r : Fin 384) :
    (k0_pay1 (F := Ideal) x0 x8 (ix2 i r) : EReal) = NM (x0 (ix2 i r)) (x8 (ix2 i r)) := by
  pointwise [k0_pay1]

theorem ref20 (x0 x8 : FVec Ideal S2x384 .f32) (i : Fin 2) (r : Fin 384) :
    (val_main_v4 (F := Ideal) x0 x8 (ix2 i r) : EReal) = NM (x0 (ix2 i r)) (x8 (ix2 i r)) := by
  pointwise [val_main_v4, val_main_v1, val_main_v3, val_main_v0, val_main_v2, val_main_cst, val_main_cst_0]

theorem tile20 (c : Dev nD) (t : Fin cfg0.N) (i : Fin 2) (r : Fin 384) :
    (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 i r) : EReal) = val_main_v4 (F := Ideal) (A0 m c) (A8 m c) (ix2 i r) := by
  rw [ref20]
  unfold out0_20
  frame_out
  exact (pay20 (iblk m c 0 t) (iblk m c 8 t) i r).trans (NM_eq (blk0 m c t i r) (blk8 m c t i r))

theorem all20 (c : Dev nD) (t : Fin cfg0.N) (y : S2x384.Idx) :
    (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v4 (F := Ideal) (A0 m c) (A8 m c) y := by
  rw [split2 y]
  exact tile20 m c t (y 0) (y 1)

theorem final20 (c : Dev nD) : (dats m 0 c).arrAt 20 (cfgs 0).N = val_main_v4 (F := Ideal) (A0 m c) (A8 m c) := by
  refine (dats m 0 c).arrAt_eq_of_covers 20 _ (by decide +kernel) fun t hf y => ?_
  blk_simp
  rw [after0_20]
  have a := all20 m c t
  generalize out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_20.blk t).view.emb y = y := by
    blk_ext [idx t]
  exact (a y).trans (congrArg (val_main_v4 (F := Ideal) (A0 m c) (A8 m c)) e).symm

theorem pay21 (x1 x9 : FVec Ideal S2x384 .f32) (i : Fin 2) (r : Fin 384) :
    (k0_pay4 (F := Ideal) x1 x9 (ix2 i r) : EReal) = NM (x1 (ix2 i r)) (x9 (ix2 i r)) := by
  pointwise [k0_pay4]

theorem ref21 (x1 x9 : FVec Ideal S2x384 .f32) (i : Fin 2) (r : Fin 384) :
    (val_main_v28 (F := Ideal) x1 x9 (ix2 i r) : EReal) = NM (x1 (ix2 i r)) (x9 (ix2 i r)) := by
  pointwise [val_main_v28, val_main_v25, val_main_v27, val_main_v24, val_main_v26, val_main_cst_8, val_main_cst_9]

theorem tile21 (c : Dev nD) (t : Fin cfg0.N) (i : Fin 2) (r : Fin 384) :
    (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 i r) : EReal) = val_main_v28 (F := Ideal) (A1 m c) (A9 m c) (ix2 i r) := by
  rw [ref21]
  unfold out0_21
  frame_out
  exact (pay21 (iblk m c 1 t) (iblk m c 9 t) i r).trans (NM_eq (blk1 m c t i r) (blk9 m c t i r))

theorem all21 (c : Dev nD) (t : Fin cfg0.N) (y : S2x384.Idx) :
    (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v28 (F := Ideal) (A1 m c) (A9 m c) y := by
  rw [split2 y]
  exact tile21 m c t (y 0) (y 1)

theorem final21 (c : Dev nD) : (dats m 0 c).arrAt 21 (cfgs 0).N = val_main_v28 (F := Ideal) (A1 m c) (A9 m c) := by
  refine (dats m 0 c).arrAt_eq_of_covers 21 _ (by decide +kernel) fun t hf y => ?_
  blk_simp
  rw [after0_21]
  have a := all21 m c t
  generalize out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_21.blk t).view.emb y = y := by
    blk_ext [idx t]
  exact (a y).trans (congrArg (val_main_v28 (F := Ideal) (A1 m c) (A9 m c)) e).symm

theorem pay22 (x2 x10 : FVec Ideal S2x4x128x128 .f32) (i : Fin 2) (r : Fin 4) (d : Fin 128) (e : Fin 128) :
    (k0_pay7 (F := Ideal) x2 x10 (ix4 i r d e) : EReal) = NM (x2 (ix4 i r d e)) (x10 (ix4 i r d e)) := by
  pointwise [k0_pay7]

theorem ref22 (x2 x10 : FVec Ideal S2x4x128x128 .f32) (i : Fin 2) (r : Fin 4) (d : Fin 128) (e : Fin 128) :
    (val_main_v52 (F := Ideal) x2 x10 (ix4 i r d e) : EReal) = NM (x2 (ix4 i r d e)) (x10 (ix4 i r d e)) := by
  pointwise [val_main_v52, val_main_v49, val_main_v51, val_main_v48, val_main_v50, val_main_cst_17, val_main_cst_18]

theorem tile22 (c : Dev nD) (t : Fin cfg0.N) (i : Fin 2) (r : Fin 4) (d : Fin 128) (e : Fin 128) :
    (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix4 i r d e) : EReal) = val_main_v52 (F := Ideal) (A2 m c) (A10 m c) (ix4 i r d e) := by
  rw [ref22]
  unfold out0_22
  frame_out
  exact (pay22 (iblk m c 2 t) (iblk m c 10 t) i r d e).trans (NM_eq (blk2 m c t i r d e) (blk10 m c t i r d e))

theorem all22 (c : Dev nD) (t : Fin cfg0.N) (y : S2x4x128x128.Idx) :
    (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v52 (F := Ideal) (A2 m c) (A10 m c) y := by
  rw [split4 y]
  exact tile22 m c t (y 0) (y 1) (y 2) (y 3)

theorem final22 (c : Dev nD) : (dats m 0 c).arrAt 22 (cfgs 0).N = val_main_v52 (F := Ideal) (A2 m c) (A10 m c) := by
  refine (dats m 0 c).arrAt_eq_of_covers 22 _ (by decide +kernel) fun t hf y => ?_
  blk_simp
  rw [after0_22]
  have a := all22 m c t
  generalize out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_22.blk t).view.emb y = y := by
    blk_ext [idx t]
  exact (a y).trans (congrArg (val_main_v52 (F := Ideal) (A2 m c) (A10 m c)) e).symm

theorem pay23 (x3 x11 : FVec Ideal S2x4x128 .f32) (i : Fin 2) (r : Fin 4) (d : Fin 128) :
    (k0_pay10 (F := Ideal) x3 x11 (ix3 i r d) : EReal) = NM (x3 (ix3 i r d)) (x11 (ix3 i r d)) := by
  pointwise [k0_pay10]

theorem ref23 (x3 x11 : FVec Ideal S2x4x128 .f32) (i : Fin 2) (r : Fin 4) (d : Fin 128) :
    (val_main_v76 (F := Ideal) x3 x11 (ix3 i r d) : EReal) = NM (x3 (ix3 i r d)) (x11 (ix3 i r d)) := by
  pointwise [val_main_v76, val_main_v73, val_main_v75, val_main_v72, val_main_v74, val_main_cst_26, val_main_cst_27]

theorem tile23 (c : Dev nD) (t : Fin cfg0.N) (i : Fin 2) (r : Fin 4) (d : Fin 128) :
    (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 i r d) : EReal) = val_main_v76 (F := Ideal) (A3 m c) (A11 m c) (ix3 i r d) := by
  rw [ref23]
  unfold out0_23
  frame_out
  exact (pay23 (iblk m c 3 t) (iblk m c 11 t) i r d).trans (NM_eq (blk3 m c t i r d) (blk11 m c t i r d))

theorem all23 (c : Dev nD) (t : Fin cfg0.N) (y : S2x4x128.Idx) :
    (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v76 (F := Ideal) (A3 m c) (A11 m c) y := by
  rw [split3 y]
  exact tile23 m c t (y 0) (y 1) (y 2)

theorem final23 (c : Dev nD) : (dats m 0 c).arrAt 23 (cfgs 0).N = val_main_v76 (F := Ideal) (A3 m c) (A11 m c) := by
  refine (dats m 0 c).arrAt_eq_of_covers 23 _ (by decide +kernel) fun t hf y => ?_
  blk_simp
  rw [after0_23]
  have a := all23 m c t
  generalize out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_23.blk t).view.emb y = y := by
    blk_ext [idx t]
  exact (a y).trans (congrArg (val_main_v76 (F := Ideal) (A3 m c) (A11 m c)) e).symm

theorem pay24 (x0 x12 : FVec Ideal S2x384 .f32) (i : Fin 2) (r : Fin 384) :
    (k0_pay2 (F := Ideal) x0 x12 (ix2 i r) : EReal) = NV (x0 (ix2 i r)) (x12 (ix2 i r)) := by
  pointwise [k0_pay2]

theorem ref24 (x0 x12 : FVec Ideal S2x384 .f32) (i : Fin 2) (r : Fin 384) :
    (val_main_v10 (F := Ideal) x0 x12 (ix2 i r) : EReal) = NV (x0 (ix2 i r)) (x12 (ix2 i r)) := by
  pointwise [val_main_v10, val_main_v6, val_main_v9, val_main_v5, val_main_v8, val_main_v7, val_main_cst_1, val_main_cst_2]

theorem tile24 (c : Dev nD) (t : Fin cfg0.N) (i : Fin 2) (r : Fin 384) :
    (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 i r) : EReal) = val_main_v10 (F := Ideal) (A0 m c) (A12 m c) (ix2 i r) := by
  rw [ref24]
  unfold out0_24
  frame_out
  exact (pay24 (iblk m c 0 t) (iblk m c 12 t) i r).trans (NV_eq (blk0 m c t i r) (blk12 m c t i r))

theorem all24 (c : Dev nD) (t : Fin cfg0.N) (y : S2x384.Idx) :
    (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v10 (F := Ideal) (A0 m c) (A12 m c) y := by
  rw [split2 y]
  exact tile24 m c t (y 0) (y 1)

theorem final24 (c : Dev nD) : (dats m 0 c).arrAt 24 (cfgs 0).N = val_main_v10 (F := Ideal) (A0 m c) (A12 m c) := by
  refine (dats m 0 c).arrAt_eq_of_covers 24 _ (by decide +kernel) fun t hf y => ?_
  blk_simp
  rw [after0_24]
  have a := all24 m c t
  generalize out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_24.blk t).view.emb y = y := by
    blk_ext [idx t]
  exact (a y).trans (congrArg (val_main_v10 (F := Ideal) (A0 m c) (A12 m c)) e).symm

theorem pay25 (x1 x13 : FVec Ideal S2x384 .f32) (i : Fin 2) (r : Fin 384) :
    (k0_pay5 (F := Ideal) x1 x13 (ix2 i r) : EReal) = NV (x1 (ix2 i r)) (x13 (ix2 i r)) := by
  pointwise [k0_pay5]

theorem ref25 (x1 x13 : FVec Ideal S2x384 .f32) (i : Fin 2) (r : Fin 384) :
    (val_main_v34 (F := Ideal) x1 x13 (ix2 i r) : EReal) = NV (x1 (ix2 i r)) (x13 (ix2 i r)) := by
  pointwise [val_main_v34, val_main_v30, val_main_v33, val_main_v29, val_main_v32, val_main_v31, val_main_cst_10, val_main_cst_11]

theorem tile25 (c : Dev nD) (t : Fin cfg0.N) (i : Fin 2) (r : Fin 384) :
    (out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 i r) : EReal) = val_main_v34 (F := Ideal) (A1 m c) (A13 m c) (ix2 i r) := by
  rw [ref25]
  unfold out0_25
  frame_out
  exact (pay25 (iblk m c 1 t) (iblk m c 13 t) i r).trans (NV_eq (blk1 m c t i r) (blk13 m c t i r))

theorem all25 (c : Dev nD) (t : Fin cfg0.N) (y : S2x384.Idx) :
    (out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v34 (F := Ideal) (A1 m c) (A13 m c) y := by
  rw [split2 y]
  exact tile25 m c t (y 0) (y 1)

theorem final25 (c : Dev nD) : (dats m 0 c).arrAt 25 (cfgs 0).N = val_main_v34 (F := Ideal) (A1 m c) (A13 m c) := by
  refine (dats m 0 c).arrAt_eq_of_covers 25 _ (by decide +kernel) fun t hf y => ?_
  blk_simp
  rw [after0_25]
  have a := all25 m c t
  generalize out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_25.blk t).view.emb y = y := by
    blk_ext [idx t]
  exact (a y).trans (congrArg (val_main_v34 (F := Ideal) (A1 m c) (A13 m c)) e).symm

theorem pay26 (x2 x14 : FVec Ideal S2x4x128x128 .f32) (i : Fin 2) (r : Fin 4) (d : Fin 128) (e : Fin 128) :
    (k0_pay8 (F := Ideal) x2 x14 (ix4 i r d e) : EReal) = NV (x2 (ix4 i r d e)) (x14 (ix4 i r d e)) := by
  pointwise [k0_pay8]

theorem ref26 (x2 x14 : FVec Ideal S2x4x128x128 .f32) (i : Fin 2) (r : Fin 4) (d : Fin 128) (e : Fin 128) :
    (val_main_v58 (F := Ideal) x2 x14 (ix4 i r d e) : EReal) = NV (x2 (ix4 i r d e)) (x14 (ix4 i r d e)) := by
  pointwise [val_main_v58, val_main_v54, val_main_v57, val_main_v53, val_main_v56, val_main_v55, val_main_cst_19, val_main_cst_20]

theorem tile26 (c : Dev nD) (t : Fin cfg0.N) (i : Fin 2) (r : Fin 4) (d : Fin 128) (e : Fin 128) :
    (out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix4 i r d e) : EReal) = val_main_v58 (F := Ideal) (A2 m c) (A14 m c) (ix4 i r d e) := by
  rw [ref26]
  unfold out0_26
  frame_out
  exact (pay26 (iblk m c 2 t) (iblk m c 14 t) i r d e).trans (NV_eq (blk2 m c t i r d e) (blk14 m c t i r d e))

theorem all26 (c : Dev nD) (t : Fin cfg0.N) (y : S2x4x128x128.Idx) :
    (out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v58 (F := Ideal) (A2 m c) (A14 m c) y := by
  rw [split4 y]
  exact tile26 m c t (y 0) (y 1) (y 2) (y 3)

theorem final26 (c : Dev nD) : (dats m 0 c).arrAt 26 (cfgs 0).N = val_main_v58 (F := Ideal) (A2 m c) (A14 m c) := by
  refine (dats m 0 c).arrAt_eq_of_covers 26 _ (by decide +kernel) fun t hf y => ?_
  blk_simp
  rw [after0_26]
  have a := all26 m c t
  generalize out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_26.blk t).view.emb y = y := by
    blk_ext [idx t]
  exact (a y).trans (congrArg (val_main_v58 (F := Ideal) (A2 m c) (A14 m c)) e).symm

theorem pay27 (x3 x15 : FVec Ideal S2x4x128 .f32) (i : Fin 2) (r : Fin 4) (d : Fin 128) :
    (k0_pay11 (F := Ideal) x3 x15 (ix3 i r d) : EReal) = NV (x3 (ix3 i r d)) (x15 (ix3 i r d)) := by
  pointwise [k0_pay11]

theorem ref27 (x3 x15 : FVec Ideal S2x4x128 .f32) (i : Fin 2) (r : Fin 4) (d : Fin 128) :
    (val_main_v82 (F := Ideal) x3 x15 (ix3 i r d) : EReal) = NV (x3 (ix3 i r d)) (x15 (ix3 i r d)) := by
  pointwise [val_main_v82, val_main_v78, val_main_v81, val_main_v77, val_main_v80, val_main_v79, val_main_cst_28, val_main_cst_29]

theorem tile27 (c : Dev nD) (t : Fin cfg0.N) (i : Fin 2) (r : Fin 4) (d : Fin 128) :
    (out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 i r d) : EReal) = val_main_v82 (F := Ideal) (A3 m c) (A15 m c) (ix3 i r d) := by
  rw [ref27]
  unfold out0_27
  frame_out
  exact (pay27 (iblk m c 3 t) (iblk m c 15 t) i r d).trans (NV_eq (blk3 m c t i r d) (blk15 m c t i r d))

theorem all27 (c : Dev nD) (t : Fin cfg0.N) (y : S2x4x128.Idx) :
    (out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y : EReal) = val_main_v82 (F := Ideal) (A3 m c) (A15 m c) y := by
  rw [split3 y]
  exact tile27 m c t (y 0) (y 1) (y 2)

theorem final27 (c : Dev nD) : (dats m 0 c).arrAt 27 (cfgs 0).N = val_main_v82 (F := Ideal) (A3 m c) (A15 m c) := by
  refine (dats m 0 c).arrAt_eq_of_covers 27 _ (by decide +kernel) fun t hf y => ?_
  blk_simp
  rw [after0_27]
  have a := all27 m c t
  generalize out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = q at a ⊢
  have e : (win0_27.blk t).view.emb y = y := by
    blk_ext [idx t]
  exact (a y).trans (congrArg (val_main_v82 (F := Ideal) (A3 m c) (A15 m c)) e).symm

end Cert.Kernel16Ideal.Adam

end
-- ==== Proof.Claims16.lean ====
module

public import proofs.«01_k».proof.Defs
public import proofs.«01_k».proof.Proof.Gen.Kernel16Ideal
public import proofs.«01_k».proof.Proof.Gen.Reference16Ideal
public import proofs.«01_k».proof.Proof.Gen.Reference16Ideal.Run
public import proofs.«01_k».proof.Proof.Gen.Reference16Ideal.Read
public import proofs.«01_k».proof.Proof.Adam16

/-! The optimiser on the weights of the spatial gate: the call and its reference end with the same 12 arrays. -/

@[expose] public section

set_option maxRecDepth 16384

noncomputable section

namespace Cert.Proof

open Idealize.ShloMosaic Idealize.ShloMosaic.TcCoe Idealize.SL.Sem

section

open Cert.Reference16Ideal Cert.Reference16Ideal.Read

/-- What the reference leaves, by the names of its values. -/
theorem left16 (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v23) = val_main_v23 (F := Ideal) (m' ((c.tc : Thread nD τ).loc main_arg0)) (m' ((c.tc : Thread nD τ).loc main_arg4)) (m' ((c.tc : Thread nD τ).loc main_arg8)) (m' ((c.tc : Thread nD τ).loc main_arg12))
      ∧ r.2.mem ((c.tc : Thread nD τ).loc main_v47) = val_main_v47 (F := Ideal) (m' ((c.tc : Thread nD τ).loc main_arg1)) (m' ((c.tc : Thread nD τ).loc main_arg5)) (m' ((c.tc : Thread nD τ).loc main_arg9)) (m' ((c.tc : Thread nD τ).loc main_arg13))
      ∧ r.2.mem ((c.tc : Thread nD τ).loc main_v71) = val_main_v71 (F := Ideal) (m' ((c.tc : Thread nD τ).loc main_arg2)) (m' ((c.tc : Thread nD τ).loc main_arg6)) (m' ((c.tc : Thread nD τ).loc main_arg10)) (m' ((c.tc : Thread nD τ).loc main_arg14))
      ∧ r.2.mem ((c.tc : Thread nD τ).loc main_v95) = val_main_v95 (F := Ideal) (m' ((c.tc : Thread nD τ).loc main_arg3)) (m' ((c.tc : Thread nD τ).loc main_arg7)) (m' ((c.tc : Thread nD τ).loc main_arg11)) (m' ((c.tc : Thread nD τ).loc main_arg15))
      ∧ r.2.mem ((c.tc : Thread nD τ).loc main_v4) = val_main_v4 (F := Ideal) (m' ((c.tc : Thread nD τ).loc main_arg0)) (m' ((c.tc : Thread nD τ).loc main_arg8))
      ∧ r.2.mem ((c.tc : Thread nD τ).loc main_v28) = val_main_v28 (F := Ideal) (m' ((c.tc : Thread nD τ).loc main_arg1)) (m' ((c.tc : Thread nD τ).loc main_arg9))
      ∧ r.2.mem ((c.tc : Thread nD τ).loc main_v52) = val_main_v52 (F := Ideal) (m' ((c.tc : Thread nD τ).loc main_arg2)) (m' ((c.tc : Thread nD τ).loc main_arg10))
      ∧ r.2.mem ((c.tc : Thread nD τ).loc main_v76) = val_main_v76 (F := Ideal) (m' ((c.tc : Thread nD τ).loc main_arg3)) (m' ((c.tc : Thread nD τ).loc main_arg11))
      ∧ r.2.mem ((c.tc : Thread nD τ).loc main_v10) = val_main_v10 (F := Ideal) (m' ((c.tc : Thread nD τ).loc main_arg0)) (m' ((c.tc : Thread nD τ).loc main_arg12))
      ∧ r.2.mem ((c.tc : Thread nD τ).loc main_v34) = val_main_v34 (F := Ideal) (m' ((c.tc : Thread nD τ).loc main_arg1)) (m' ((c.tc : Thread nD τ).loc main_arg13))
      ∧ r.2.mem ((c.tc : Thread nD τ).loc main_v58) = val_main_v58 (F := Ideal) (m' ((c.tc : Thread nD τ).loc main_arg2)) (m' ((c.tc : Thread nD τ).loc main_arg14))
      ∧ r.2.mem ((c.tc : Thread nD τ).loc main_v82) = val_main_v82 (F := Ideal) (m' ((c.tc : Thread nD τ).loc main_arg3)) (m' ((c.tc : Thread nD τ).loc main_arg15))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15) := by
  refine (θ_run _ _ _).mono (fun r h c => ?_) (Cert.Reference16Ideal.Value.run m' g')
  obtain ⟨a0, a1, a2, a3, a4, a5, a6, a7, a8, a9, a10, a11, p⟩ := h c
  exact ⟨a0.trans (val_main_v23_eq _ _ _ _), a1.trans (val_main_v47_eq _ _ _ _), a2.trans (val_main_v71_eq _ _ _ _), a3.trans (val_main_v95_eq _ _ _ _), a4.trans (val_main_v4_eq _ _), a5.trans (val_main_v28_eq _ _), a6.trans (val_main_v52_eq _ _), a7.trans (val_main_v76_eq _ _), a8.trans (val_main_v10_eq _ _), a9.trans (val_main_v34_eq _ _), a10.trans (val_main_v58_eq _ _), a11.trans (val_main_v82_eq _ _), p⟩

end

section

open Cert.Kernel16Ideal Cert.Kernel16Ideal.Gen

/-- What the call leaves in its 12 results and its arguments. -/
theorem kept16 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = (dats m 0 c).arrAt 16 (cfgs 0).N
      ∧ r.2.mem ((c.tc : Thread nD τ).loc main_v0_1) = (dats m 0 c).arrAt 17 (cfgs 0).N
      ∧ r.2.mem ((c.tc : Thread nD τ).loc main_v0_2) = (dats m 0 c).arrAt 18 (cfgs 0).N
      ∧ r.2.mem ((c.tc : Thread nD τ).loc main_v0_3) = (dats m 0 c).arrAt 19 (cfgs 0).N
      ∧ r.2.mem ((c.tc : Thread nD τ).loc main_v0_4) = (dats m 0 c).arrAt 20 (cfgs 0).N
      ∧ r.2.mem ((c.tc : Thread nD τ).loc main_v0_5) = (dats m 0 c).arrAt 21 (cfgs 0).N
      ∧ r.2.mem ((c.tc : Thread nD τ).loc main_v0_6) = (dats m 0 c).arrAt 22 (cfgs 0).N
      ∧ r.2.mem ((c.tc : Thread nD τ).loc main_v0_7) = (dats m 0 c).arrAt 23 (cfgs 0).N
      ∧ r.2.mem ((c.tc : Thread nD τ).loc main_v0_8) = (dats m 0 c).arrAt 24 (cfgs 0).N
      ∧ r.2.mem ((c.tc : Thread nD τ).loc main_v0_9) = (dats m 0 c).arrAt 25 (cfgs 0).N
      ∧ r.2.mem ((c.tc : Thread nD τ).loc main_v0_10) = (dats m 0 c).arrAt 26 (cfgs 0).N
      ∧ r.2.mem ((c.tc : Thread nD τ).loc main_v0_11) = (dats m 0 c).arrAt 27 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run _ _ _).mono (fun r h c => ⟨(h.1 c).1 16, (h.1 c).1 17, (h.1 c).1 18, (h.1 c).1 19, (h.1 c).1 20, (h.1 c).1 21, (h.1 c).1 22, (h.1 c).1 23, (h.1 c).1 24, (h.1 c).1 25, (h.1 c).1 26, (h.1 c).1 27, h.2 c⟩) (θ_run_and (run_main m g) (unchanged m g))

end

/-- From equal arguments the call and its reference leave equal results. -/
theorem same16 : Cert.algebraic_Kernel16Ideal_Reference16Ideal := by
  intro m g m' g' hpre hagree
  refine ⟨fun c => (Cert.Kernel16Ideal.Gen.dats m 0 c).arrAt 16 (Cert.Kernel16Ideal.cfgs 0).N, fun c => (Cert.Kernel16Ideal.Gen.dats m 0 c).arrAt 17 (Cert.Kernel16Ideal.cfgs 0).N, fun c => (Cert.Kernel16Ideal.Gen.dats m 0 c).arrAt 18 (Cert.Kernel16Ideal.cfgs 0).N, fun c => (Cert.Kernel16Ideal.Gen.dats m 0 c).arrAt 19 (Cert.Kernel16Ideal.cfgs 0).N, fun c => (Cert.Kernel16Ideal.Gen.dats m 0 c).arrAt 20 (Cert.Kernel16Ideal.cfgs 0).N, fun c => (Cert.Kernel16Ideal.Gen.dats m 0 c).arrAt 21 (Cert.Kernel16Ideal.cfgs 0).N, fun c => (Cert.Kernel16Ideal.Gen.dats m 0 c).arrAt 22 (Cert.Kernel16Ideal.cfgs 0).N, fun c => (Cert.Kernel16Ideal.Gen.dats m 0 c).arrAt 23 (Cert.Kernel16Ideal.cfgs 0).N, fun c => (Cert.Kernel16Ideal.Gen.dats m 0 c).arrAt 24 (Cert.Kernel16Ideal.cfgs 0).N, fun c => (Cert.Kernel16Ideal.Gen.dats m 0 c).arrAt 25 (Cert.Kernel16Ideal.cfgs 0).N, fun c => (Cert.Kernel16Ideal.Gen.dats m 0 c).arrAt 26 (Cert.Kernel16Ideal.cfgs 0).N, fun c => (Cert.Kernel16Ideal.Gen.dats m 0 c).arrAt 27 (Cert.Kernel16Ideal.cfgs 0).N,
    kept16 m g, (θ_run _ _ _).mono (fun r h c => ?_) (left16 m' g')⟩
  obtain ⟨a0, a1, a2, a3, a4, a5, a6, a7, a8, a9, a10, a11, p⟩ := h c
  obtain ⟨h0, h1, h2, h3, h4, h5, h6, h7, h8, h9, h10, h11, h12, h13, h14, h15⟩ := hagree c
  rw [h0, h4, h8, h12] at a0
  rw [h1, h5, h9, h13] at a1
  rw [h2, h6, h10, h14] at a2
  rw [h3, h7, h11, h15] at a3
  rw [h0, h8] at a4
  rw [h1, h9] at a5
  rw [h2, h10] at a6
  rw [h3, h11] at a7
  rw [h0, h12] at a8
  rw [h1, h13] at a9
  rw [h2, h14] at a10
  rw [h3, h15] at a11
  exact ⟨a0.trans (Cert.Kernel16Ideal.Adam.final16 m c).symm, a1.trans (Cert.Kernel16Ideal.Adam.final17 m c).symm, a2.trans (Cert.Kernel16Ideal.Adam.final18 m c).symm, a3.trans (Cert.Kernel16Ideal.Adam.final19 m c).symm, a4.trans (Cert.Kernel16Ideal.Adam.final20 m c).symm, a5.trans (Cert.Kernel16Ideal.Adam.final21 m c).symm, a6.trans (Cert.Kernel16Ideal.Adam.final22 m c).symm, a7.trans (Cert.Kernel16Ideal.Adam.final23 m c).symm, a8.trans (Cert.Kernel16Ideal.Adam.final24 m c).symm, a9.trans (Cert.Kernel16Ideal.Adam.final25 m c).symm, a10.trans (Cert.Kernel16Ideal.Adam.final26 m c).symm, a11.trans (Cert.Kernel16Ideal.Adam.final27 m c).symm, p⟩

/-- The reference leaves its arguments and its counters as they were. -/
theorem still16 : Cert.quiescent_Reference16Ideal := fun m g _ =>
  (θ_run _ _ _).mono (fun r h => ⟨fun c => (h c).2.2.2.2.2.2.2.2.2.2.2.2, sem_eq_zero_of_no_sems (by decide) r.2⟩) (left16 m g)

end Cert.Proof

end
-- ==== Proof.Adam17.lean ====
module

public import proofs.«01_k».proof.Proof.Gen.Kernel17Ideal.Frame
public import proofs.«01_k».proof.Proof.Gen.Reference17Ideal.Read
public import proofs.«01_k».proof.Proof.Adam
public import Idealize.ShloMosaic.Lib.Pipeline.ValueKit

/-! The optimiser on the weights of the pooling: each of the call's 6 results is the reference's. -/

@[expose] public section

set_option maxRecDepth 16384

noncomputable section

namespace Cert.Kernel17Ideal.Adam

open Cert.Kernel17Ideal Cert.Kernel17Ideal.Gen Cert.Adam Idealize.ShloMosaic Idealize.ShloMosaic.TcCoe Idealize.SL.Sem
open Cert.Reference17Ideal.Read
open Idealize.ShloMosaic.Pipeline (Dat)

variable (m : (ℓ : Loc nD τ sig) → Buf (Elt Ideal) ℓ)

abbrev A0 (c : Dev nD) : FVec Ideal S2x4x64x64 .f32 := m ((c : Thread nD τ).loc main_arg0)
abbrev A1 (c : Dev nD) : FVec Ideal S2x256 .f32 := m ((c : Thread nD τ).loc main_arg1)
abbrev A2 (c : Dev nD) : FVec Ideal S2x4x64x64 .f32 := m ((c : Thread nD τ).loc main_arg2)
abbrev A3 (c : Dev nD) : FVec Ideal S2x256 .f32 := m ((c : Thread nD τ).loc main_arg3)
abbrev A4 (c : Dev nD) : FVec Ideal S2x4x64x64 .f32 := m ((c : Thread nD τ).loc main_arg4)
abbrev A5 (c : Dev nD) : FVec Ideal S2x256 .f32 := m ((c : Thread nD τ).loc main_arg5)
abbrev A6 (c : Dev nD) : FVec Ideal S2x4x64x64 .f32 := m ((c : Thread nD τ).loc main_arg6)
abbrev A7 (c : Dev nD) : FVec Ideal S2x256 .f32 := m ((c : Thread nD τ).loc main_arg7)

/-- There is one point, and its blocks are the whole arrays. -/
theorem idx : ∀ t : Fin cfg0.N, win0_0.index t = ![0, 0, 0, 0]
    ∧ win0_1.index t = ![0, 0]
    ∧ win0_2.index t = ![0, 0, 0, 0]
    ∧ win0_3.index t = ![0, 0]
    ∧ win0_4.index t = ![0, 0, 0, 0]
    ∧ win0_5.index t = ![0, 0]
    ∧ win0_6.index t = ![0, 0, 0, 0]
    ∧ win0_7.index t = ![0, 0]
    ∧ win0_8.index t = ![0, 0, 0, 0]
    ∧ win0_9.index t = ![0, 0]
    ∧ win0_10.index t = ![0, 0, 0, 0]
    ∧ win0_11.index t = ![0, 0]
    ∧ win0_12.index t = ![0, 0, 0, 0]
    ∧ win0_13.index t = ![0, 0] :=
  (by decide +kernel : ∀ t : Fin grid0.N, _)

/-! ## The blocks at an index -/

theorem blk0 (c : Dev nD) (t : Fin cfg0.N) (i : Fin 2) (r : Fin 4) (d : Fin 64) (e : Fin 64) : (show FVec Ideal S2x4x64x64 .f32 from iblk m c 0 t) (ix4 i r d e) = A0 m c (ix4 i r d e) := by
  blk_point [iblk, V, idx t]

theorem blk1 (c : Dev nD) (t : Fin cfg0.N) (i : Fin 2) (r : Fin 256) : (show FVec Ideal S2x256 .f32 from iblk m c 1 t) (ix2 i r) = A1 m c (ix2 i r) := by
  blk_point [iblk, V, idx t]

theorem blk2 (c : Dev nD) (t : Fin cfg0.N) (i : Fin 2) (r : Fin 4) (d : Fin 64) (e : Fin 64) : (show FVec Ideal S2x4x64x64 .f32 from iblk m c 2 t) (ix4 i r d e) = A2 m c (ix4 i r d e) := by
  blk_point [iblk, V, idx t]

theorem blk3 (c : Dev nD) (t : Fin cfg0.N) (i : Fin 2) (r : Fin 256) : (show FVec Ideal S2x256 .f32 from iblk m c 3 t) (ix2 i r) = A3 m c (ix2 i r) := by
  blk_point [iblk, V, idx t]

theorem blk4 (c : Dev nD) (t : Fin cfg0.N) (i : Fin 2) (r : Fin 4) (d : Fin 64) (e : Fin 64) : (show FVec Ideal S2x4x64x64 .f32 from iblk m c 4 t) (ix4 i r d e) = A4 m c (ix4 i r d e) := by
  blk_point [iblk, V, idx t]

theorem blk5 (c : Dev nD) (t : Fin cfg0.N) (i : Fin 2) (r : Fin 256) : (show FVec Ideal S2x256 .f32 from iblk m c 5 t) (ix2 i r) = A5 m c (ix2 i r) := by
  blk_point [iblk, V, idx t]

theorem blk6 (c : Dev nD) (t : Fin cfg0.N) (i : Fin 2) (r : Fin 4) (d : Fin 64) (e : Fin 64) : (show FVec Ideal S2x4x64x64 .f32 from iblk m c 6 t) (ix4 i r d e) = A6 m c (ix4 i r d e) := by
  blk_point [iblk, V, idx t]

theorem blk7 (c : Dev nD) (t : Fin cfg0.N) (i : Fin 2) (r : Fin 256) : (show FVec Ideal S2x256 .f32 from iblk m c 7 t) (ix2 i r) = A7 m c (ix2 i r) := by
  blk_point [iblk, V, idx t]

/-! ## The results -/

theorem pay8 (x0 x2 x4 x6 : FVec Ideal S2x4x64x64 .f32) (i : Fin 2) (r : Fin 4) (d : Fin 64) (e : Fin 64) :
    (k0_pay3 (F := Ideal) x2 x0 x4 x6 (ix4 i r d e) : EReal) = DL (x0 (ix4 i r d e)) (x2 (ix4 i r d e)) (x4 (ix4 i r d e)) (x6 (ix4 i r d e)) := by
  pointwise [k0_pay3, k0_pay1, k0_pay2]

theorem ref8 (x0 x2 x4 x6 : FVec Ideal S2x4x64x64 .f32) (i : Fin 2) (r : Fin 4) (d : Fin 64) (e : Fin 64) :
    (val_main_v23 (F := Ideal) x0 x2 x4 x6 (ix4 i r d e) : EReal) = DL (x0 (ix4 i r d e)) (x2 (ix4 i r d e)) (x4 (ix4 i r d e)) (x6 (ix4 i r d e)) := by
  pointwise [val_main_v23, val_main_v22, val_main_v21, val_main_cst_7, val_main_v18, val_main_v20, val_main_v12, val_main_v17, val_main_v19, val_main_v4, val_main_v11, val_main_v15, val_main_v16, val_main_cst_6, val_main_v1, val_main_v3, val_main_cst_3, val_main_v14, val_main_cst_5, val_main_v0, val_main_v2, val_main_v10, val_main_v13, val_main_cst, val_main_cst_0, val_main_v6, val_main_v9, val_main_cst_4, val_main_v5, val_main_v8, val_main_v7, val_main_cst_1, val_main_cst_2]

theorem tile8 (c : Dev nD) (t : Fin cfg0.N) (i : Fin 2) (r : Fin 4) (d : Fin 64) (e : Fin 64) :
    (out0_8 (iblk m c 0 t) (iblk m c 1 t) (iblk m c 2 t) (iblk m c 3 t) (iblk m c 4 t) (iblk m c 5 t) (iblk m c 6 t) (iblk m c 7 t) (ix4 i r d e) : EReal) = val_main_v23 (F := Ideal) (A0 m c) (A2 m c) (A4 m c) (A6 m c) (ix4 i r d e) := by
  rw [ref8]
  unfold out0_8
  frame_out
  exact (pay8 (iblk m c 0 t) (iblk m c 2 t) (iblk m c 4 t) (iblk m c 6 t) i r d e).trans (DL_eq (blk0 m c t i r d e) (blk2 m c t i r d e) (blk4 m c t i r d e) (blk6 m c t i r d e))

theorem all8 (c : Dev nD) (t : Fin cfg0.N) (y : S2x4x64x64.Idx) :
    (out0_8 (iblk m c 0 t) (iblk m c 1 t) (iblk m c 2 t) (iblk m c 3 t) (iblk m c 4 t) (iblk m c 5 t) (iblk m c 6 t) (iblk m c 7 t) y : EReal) = val_main_v23 (F := Ideal) (A0 m c) (A2 m c) (A4 m c) (A6 m c) y := by
  rw [split4 y]
  exact tile8 m c t (y 0) (y 1) (y 2) (y 3)

theorem final8 (c : Dev nD) : (dats m 0 c).arrAt 8 (cfgs 0).N = val_main_v23 (F := Ideal) (A0 m c) (A2 m c) (A4 m c) (A6 m c) := by
  refine (dats m 0 c).arrAt_eq_of_covers 8 _ (by decide +kernel) fun t hf y => ?_
  blk_simp
  rw [after0_8]
  have a := all8 m c t
  generalize out0_8 (iblk m c 0 t) (iblk m c 1 t) (iblk m c 2 t) (iblk m c 3 t) (iblk m c 4 t) (iblk m c 5 t) (iblk m c 6 t) (iblk m c 7 t) = q at a ⊢
  have e : (win0_8.blk t).view.emb y = y := by
    blk_ext [idx t]
  exact (a y).trans (congrArg (val_main_v23 (F := Ideal) (A0 m c) (A2 m c) (A4 m c) (A6 m c)) e).symm

theorem pay9 (x1 x3 x5 x7 : FVec Ideal S2x256 .f32) (i : Fin 2) (r : Fin 256) :
    (k0_pay6 (F := Ideal) x3 x1 x5 x7 (ix2 i r) : EReal) = DL (x1 (ix2 i r)) (x3 (ix2 i r)) (x5 (ix2 i r)) (x7 (ix2 i r)) := by
  pointwise [k0_pay6, k0_pay4, k0_pay5]

theorem ref9 (x1 x3 x5 x7 : FVec Ideal S2x256 .f32) (i : Fin 2) (r : Fin 256) :
    (val_main_v47 (F := Ideal) x1 x3 x5 x7 (ix2 i r) : EReal) = DL (x1 (ix2 i r)) (x3 (ix2 i r)) (x5 (ix2 i r)) (x7 (ix2 i r)) := by
  pointwise [val_main_v47, val_main_v46, val_main_v45, val_main_cst_16, val_main_v42, val_main_v44, val_main_v36, val_main_v41, val_main_v43, val_main_v28, val_main_v35, val_main_v39, val_main_v40, val_main_cst_15, val_main_v25, val_main_v27, val_main_cst_12, val_main_v38, val_main_cst_14, val_main_v24, val_main_v26, val_main_v34, val_main_v37, val_main_cst_8, val_main_cst_9, val_main_v30, val_main_v33, val_main_cst_13, val_main_v29, val_main_v32, val_main_v31, val_main_cst_10, val_main_cst_11]

theorem tile9 (c : Dev nD) (t : Fin cfg0.N) (i : Fin 2) (r : Fin 256) :
    (out0_9 (iblk m c 0 t) (iblk m c 1 t) (iblk m c 2 t) (iblk m c 3 t) (iblk m c 4 t) (iblk m c 5 t) (iblk m c 6 t) (iblk m c 7 t) (ix2 i r) : EReal) = val_main_v47 (F := Ideal) (A1 m c) (A3 m c) (A5 m c) (A7 m c) (ix2 i r) := by
  rw [ref9]
  unfold out0_9
  frame_out
  exact (pay9 (iblk m c 1 t) (iblk m c 3 t) (iblk m c 5 t) (iblk m c 7 t) i r).trans (DL_eq (blk1 m c t i r) (blk3 m c t i r) (blk5 m c t i r) (blk7 m c t i r))

theorem all9 (c : Dev nD) (t : Fin cfg0.N) (y : S2x256.Idx) :
    (out0_9 (iblk m c 0 t) (iblk m c 1 t) (iblk m c 2 t) (iblk m c 3 t) (iblk m c 4 t) (iblk m c 5 t) (iblk m c 6 t) (iblk m c 7 t) y : EReal) = val_main_v47 (F := Ideal) (A1 m c) (A3 m c) (A5 m c) (A7 m c) y := by
  rw [split2 y]
  exact tile9 m c t (y 0) (y 1)

theorem final9 (c : Dev nD) : (dats m 0 c).arrAt 9 (cfgs 0).N = val_main_v47 (F := Ideal) (A1 m c) (A3 m c) (A5 m c) (A7 m c) := by
  refine (dats m 0 c).arrAt_eq_of_covers 9 _ (by decide +kernel) fun t hf y => ?_
  blk_simp
  rw [after0_9]
  have a := all9 m c t
  generalize out0_9 (iblk m c 0 t) (iblk m c 1 t) (iblk m c 2 t) (iblk m c 3 t) (iblk m c 4 t) (iblk m c 5 t) (iblk m c 6 t) (iblk m c 7 t) = q at a ⊢
  have e : (win0_9.blk t).view.emb y = y := by
    blk_ext [idx t]
  exact (a y).trans (congrArg (val_main_v47 (F := Ideal) (A1 m c) (A3 m c) (A5 m c) (A7 m c)) e).symm

theorem pay10 (x0 x4 : FVec Ideal S2x4x64x64 .f32) (i : Fin 2) (r : Fin 4) (d : Fin 64) (e : Fin 64) :
    (k0_pay1 (F := Ideal) x0 x4 (ix4 i r d e) : EReal) = NM (x0 (ix4 i r d e)) (x4 (ix4 i r d e)) := by
  pointwise [k0_pay1]

theorem ref10 (x0 x4 : FVec Ideal S2x4x64x64 .f32) (i : Fin 2) (r : Fin 4) (d : Fin 64) (e : Fin 64) :
    (val_main_v4 (F := Ideal) x0 x4 (ix4 i r d e) : EReal) = NM (x0 (ix4 i r d e)) (x4 (ix4 i r d e)) := by
  pointwise [val_main_v4, val_main_v1, val_main_v3, val_main_v0, val_main_v2, val_main_cst, val_main_cst_0]

theorem tile10 (c : Dev nD) (t : Fin cfg0.N) (i : Fin 2) (r : Fin 4) (d : Fin 64) (e : Fin 64) :
    (out0_10 (iblk m c 0 t) (iblk m c 1 t) (iblk m c 2 t) (iblk m c 3 t) (iblk m c 4 t) (iblk m c 5 t) (iblk m c 6 t) (iblk m c 7 t) (ix4 i r d e) : EReal) = val_main_v4 (F := Ideal) (A0 m c) (A4 m c) (ix4 i r d e) := by
  rw [ref10]
  unfold out0_10
  frame_out
  exact (pay10 (iblk m c 0 t) (iblk m c 4 t) i r d e).trans (NM_eq (blk0 m c t i r d e) (blk4 m c t i r d e))

theorem all10 (c : Dev nD) (t : Fin cfg0.N) (y : S2x4x64x64.Idx) :
    (out0_10 (iblk m c 0 t) (iblk m c 1 t) (iblk m c 2 t) (iblk m c 3 t) (iblk m c 4 t) (iblk m c 5 t) (iblk m c 6 t) (iblk m c 7 t) y : EReal) = val_main_v4 (F := Ideal) (A0 m c) (A4 m c) y := by
  rw [split4 y]
  exact tile10 m c t (y 0) (y 1) (y 2) (y 3)

theorem final10 (c : Dev nD) : (dats m 0 c).arrAt 10 (cfgs 0).N = val_main_v4 (F := Ideal) (A0 m c) (A4 m c) := by
  refine (dats m 0 c).arrAt_eq_of_covers 10 _ (by decide +kernel) fun t hf y => ?_
  blk_simp
  rw [after0_10]
  have a := all10 m c t
  generalize out0_10 (iblk m c 0 t) (iblk m c 1 t) (iblk m c 2 t) (iblk m c 3 t) (iblk m c 4 t) (iblk m c 5 t) (iblk m c 6 t) (iblk m c 7 t) = q at a ⊢
  have e : (win0_10.blk t).view.emb y = y := by
    blk_ext [idx t]
  exact (a y).trans (congrArg (val_main_v4 (F := Ideal) (A0 m c) (A4 m c)) e).symm

theorem pay11 (x1 x5 : FVec Ideal S2x256 .f32) (i : Fin 2) (r : Fin 256) :
    (k0_pay4 (F := Ideal) x1 x5 (ix2 i r) : EReal) = NM (x1 (ix2 i r)) (x5 (ix2 i r)) := by
  pointwise [k0_pay4]

theorem ref11 (x1 x5 : FVec Ideal S2x256 .f32) (i : Fin 2) (r : Fin 256) :
    (val_main_v28 (F := Ideal) x1 x5 (ix2 i r) : EReal) = NM (x1 (ix2 i r)) (x5 (ix2 i r)) := by
  pointwise [val_main_v28, val_main_v25, val_main_v27, val_main_v24, val_main_v26, val_main_cst_8, val_main_cst_9]

theorem tile11 (c : Dev nD) (t : Fin cfg0.N) (i : Fin 2) (r : Fin 256) :
    (out0_11 (iblk m c 0 t) (iblk m c 1 t) (iblk m c 2 t) (iblk m c 3 t) (iblk m c 4 t) (iblk m c 5 t) (iblk m c 6 t) (iblk m c 7 t) (ix2 i r) : EReal) = val_main_v28 (F := Ideal) (A1 m c) (A5 m c) (ix2 i r) := by
  rw [ref11]
  unfold out0_11
  frame_out
  exact (pay11 (iblk m c 1 t) (iblk m c 5 t) i r).trans (NM_eq (blk1 m c t i r) (blk5 m c t i r))

theorem all11 (c : Dev nD) (t : Fin cfg0.N) (y : S2x256.Idx) :
    (out0_11 (iblk m c 0 t) (iblk m c 1 t) (iblk m c 2 t) (iblk m c 3 t) (iblk m c 4 t) (iblk m c 5 t) (iblk m c 6 t) (iblk m c 7 t) y : EReal) = val_main_v28 (F := Ideal) (A1 m c) (A5 m c) y := by
  rw [split2 y]
  exact tile11 m c t (y 0) (y 1)

theorem final11 (c : Dev nD) : (dats m 0 c).arrAt 11 (cfgs 0).N = val_main_v28 (F := Ideal) (A1 m c) (A5 m c) := by
  refine (dats m 0 c).arrAt_eq_of_covers 11 _ (by decide +kernel) fun t hf y => ?_
  blk_simp
  rw [after0_11]
  have a := all11 m c t
  generalize out0_11 (iblk m c 0 t) (iblk m c 1 t) (iblk m c 2 t) (iblk m c 3 t) (iblk m c 4 t) (iblk m c 5 t) (iblk m c 6 t) (iblk m c 7 t) = q at a ⊢
  have e : (win0_11.blk t).view.emb y = y := by
    blk_ext [idx t]
  exact (a y).trans (congrArg (val_main_v28 (F := Ideal) (A1 m c) (A5 m c)) e).symm

theorem pay12 (x0 x6 : FVec Ideal S2x4x64x64 .f32) (i : Fin 2) (r : Fin 4) (d : Fin 64) (e : Fin 64) :
    (k0_pay2 (F := Ideal) x0 x6 (ix4 i r d e) : EReal) = NV (x0 (ix4 i r d e)) (x6 (ix4 i r d e)) := by
  pointwise [k0_pay2]

theorem ref12 (x0 x6 : FVec Ideal S2x4x64x64 .f32) (i : Fin 2) (r : Fin 4) (d : Fin 64) (e : Fin 64) :
    (val_main_v10 (F := Ideal) x0 x6 (ix4 i r d e) : EReal) = NV (x0 (ix4 i r d e)) (x6 (ix4 i r d e)) := by
  pointwise [val_main_v10, val_main_v6, val_main_v9, val_main_v5, val_main_v8, val_main_v7, val_main_cst_1, val_main_cst_2]

theorem tile12 (c : Dev nD) (t : Fin cfg0.N) (i : Fin 2) (r : Fin 4) (d : Fin 64) (e : Fin 64) :
    (out0_12 (iblk m c 0 t) (iblk m c 1 t) (iblk m c 2 t) (iblk m c 3 t) (iblk m c 4 t) (iblk m c 5 t) (iblk m c 6 t) (iblk m c 7 t) (ix4 i r d e) : EReal) = val_main_v10 (F := Ideal) (A0 m c) (A6 m c) (ix4 i r d e) := by
  rw [ref12]
  unfold out0_12
  frame_out
  exact (pay12 (iblk m c 0 t) (iblk m c 6 t) i r d e).trans (NV_eq (blk0 m c t i r d e) (blk6 m c t i r d e))

theorem all12 (c : Dev nD) (t : Fin cfg0.N) (y : S2x4x64x64.Idx) :
    (out0_12 (iblk m c 0 t) (iblk m c 1 t) (iblk m c 2 t) (iblk m c 3 t) (iblk m c 4 t) (iblk m c 5 t) (iblk m c 6 t) (iblk m c 7 t) y : EReal) = val_main_v10 (F := Ideal) (A0 m c) (A6 m c) y := by
  rw [split4 y]
  exact tile12 m c t (y 0) (y 1) (y 2) (y 3)

theorem final12 (c : Dev nD) : (dats m 0 c).arrAt 12 (cfgs 0).N = val_main_v10 (F := Ideal) (A0 m c) (A6 m c) := by
  refine (dats m 0 c).arrAt_eq_of_covers 12 _ (by decide +kernel) fun t hf y => ?_
  blk_simp
  rw [after0_12]
  have a := all12 m c t
  generalize out0_12 (iblk m c 0 t) (iblk m c 1 t) (iblk m c 2 t) (iblk m c 3 t) (iblk m c 4 t) (iblk m c 5 t) (iblk m c 6 t) (iblk m c 7 t) = q at a ⊢
  have e : (win0_12.blk t).view.emb y = y := by
    blk_ext [idx t]
  exact (a y).trans (congrArg (val_main_v10 (F := Ideal) (A0 m c) (A6 m c)) e).symm

theorem pay13 (x1 x7 : FVec Ideal S2x256 .f32) (i : Fin 2) (r : Fin 256) :
    (k0_pay5 (F := Ideal) x1 x7 (ix2 i r) : EReal) = NV (x1 (ix2 i r)) (x7 (ix2 i r)) := by
  pointwise [k0_pay5]

theorem ref13 (x1 x7 : FVec Ideal S2x256 .f32) (i : Fin 2) (r : Fin 256) :
    (val_main_v34 (F := Ideal) x1 x7 (ix2 i r) : EReal) = NV (x1 (ix2 i r)) (x7 (ix2 i r)) := by
  pointwise [val_main_v34, val_main_v30, val_main_v33, val_main_v29, val_main_v32, val_main_v31, val_main_cst_10, val_main_cst_11]

theorem tile13 (c : Dev nD) (t : Fin cfg0.N) (i : Fin 2) (r : Fin 256) :
    (out0_13 (iblk m c 0 t) (iblk m c 1 t) (iblk m c 2 t) (iblk m c 3 t) (iblk m c 4 t) (iblk m c 5 t) (iblk m c 6 t) (iblk m c 7 t) (ix2 i r) : EReal) = val_main_v34 (F := Ideal) (A1 m c) (A7 m c) (ix2 i r) := by
  rw [ref13]
  unfold out0_13
  frame_out
  exact (pay13 (iblk m c 1 t) (iblk m c 7 t) i r).trans (NV_eq (blk1 m c t i r) (blk7 m c t i r))

theorem all13 (c : Dev nD) (t : Fin cfg0.N) (y : S2x256.Idx) :
    (out0_13 (iblk m c 0 t) (iblk m c 1 t) (iblk m c 2 t) (iblk m c 3 t) (iblk m c 4 t) (iblk m c 5 t) (iblk m c 6 t) (iblk m c 7 t) y : EReal) = val_main_v34 (F := Ideal) (A1 m c) (A7 m c) y := by
  rw [split2 y]
  exact tile13 m c t (y 0) (y 1)

theorem final13 (c : Dev nD) : (dats m 0 c).arrAt 13 (cfgs 0).N = val_main_v34 (F := Ideal) (A1 m c) (A7 m c) := by
  refine (dats m 0 c).arrAt_eq_of_covers 13 _ (by decide +kernel) fun t hf y => ?_
  blk_simp
  rw [after0_13]
  have a := all13 m c t
  generalize out0_13 (iblk m c 0 t) (iblk m c 1 t) (iblk m c 2 t) (iblk m c 3 t) (iblk m c 4 t) (iblk m c 5 t) (iblk m c 6 t) (iblk m c 7 t) = q at a ⊢
  have e : (win0_13.blk t).view.emb y = y := by
    blk_ext [idx t]
  exact (a y).trans (congrArg (val_main_v34 (F := Ideal) (A1 m c) (A7 m c)) e).symm

end Cert.Kernel17Ideal.Adam

end
-- ==== Proof.Claims17.lean ====
module

public import proofs.«01_k».proof.Defs
public import proofs.«01_k».proof.Proof.Gen.Kernel17Ideal
public import proofs.«01_k».proof.Proof.Gen.Reference17Ideal
public import proofs.«01_k».proof.Proof.Gen.Reference17Ideal.Run
public import proofs.«01_k».proof.Proof.Gen.Reference17Ideal.Read
public import proofs.«01_k».proof.Proof.Adam17

/-! The optimiser on the weights of the pooling: the call and its reference end with the same 6 arrays. -/

@[expose] public section

set_option maxRecDepth 16384

noncomputable section

namespace Cert.Proof

open Idealize.ShloMosaic Idealize.ShloMosaic.TcCoe Idealize.SL.Sem

section

open Cert.Reference17Ideal Cert.Reference17Ideal.Read

/-- What the reference leaves, by the names of its values. -/
theorem left17 (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v23) = val_main_v23 (F := Ideal) (m' ((c.tc : Thread nD τ).loc main_arg0)) (m' ((c.tc : Thread nD τ).loc main_arg2)) (m' ((c.tc : Thread nD τ).loc main_arg4)) (m' ((c.tc : Thread nD τ).loc main_arg6))
      ∧ r.2.mem ((c.tc : Thread nD τ).loc main_v47) = val_main_v47 (F := Ideal) (m' ((c.tc : Thread nD τ).loc main_arg1)) (m' ((c.tc : Thread nD τ).loc main_arg3)) (m' ((c.tc : Thread nD τ).loc main_arg5)) (m' ((c.tc : Thread nD τ).loc main_arg7))
      ∧ r.2.mem ((c.tc : Thread nD τ).loc main_v4) = val_main_v4 (F := Ideal) (m' ((c.tc : Thread nD τ).loc main_arg0)) (m' ((c.tc : Thread nD τ).loc main_arg4))
      ∧ r.2.mem ((c.tc : Thread nD τ).loc main_v28) = val_main_v28 (F := Ideal) (m' ((c.tc : Thread nD τ).loc main_arg1)) (m' ((c.tc : Thread nD τ).loc main_arg5))
      ∧ r.2.mem ((c.tc : Thread nD τ).loc main_v10) = val_main_v10 (F := Ideal) (m' ((c.tc : Thread nD τ).loc main_arg0)) (m' ((c.tc : Thread nD τ).loc main_arg6))
      ∧ r.2.mem ((c.tc : Thread nD τ).loc main_v34) = val_main_v34 (F := Ideal) (m' ((c.tc : Thread nD τ).loc main_arg1)) (m' ((c.tc : Thread nD τ).loc main_arg7))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7) := by
  refine (θ_run _ _ _).mono (fun r h c => ?_) (Cert.Reference17Ideal.Value.run m' g')
  obtain ⟨a0, a1, a2, a3, a4, a5, p⟩ := h c
  exact ⟨a0.trans (val_main_v23_eq _ _ _ _), a1.trans (val_main_v47_eq _ _ _ _), a2.trans (val_main_v4_eq _ _), a3.trans (val_main_v28_eq _ _), a4.trans (val_main_v10_eq _ _), a5.trans (val_main_v34_eq _ _), p⟩

end

section

open Cert.Kernel17Ideal Cert.Kernel17Ideal.Gen

/-- What the call leaves in its 6 results and its arguments. -/
theorem kept17 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = (dats m 0 c).arrAt 8 (cfgs 0).N
      ∧ r.2.mem ((c.tc : Thread nD τ).loc main_v0_1) = (dats m 0 c).arrAt 9 (cfgs 0).N
      ∧ r.2.mem ((c.tc : Thread nD τ).loc main_v0_2) = (dats m 0 c).arrAt 10 (cfgs 0).N
      ∧ r.2.mem ((c.tc : Thread nD τ).loc main_v0_3) = (dats m 0 c).arrAt 11 (cfgs 0).N
      ∧ r.2.mem ((c.tc : Thread nD τ).loc main_v0_4) = (dats m 0 c).arrAt 12 (cfgs 0).N
      ∧ r.2.mem ((c.tc : Thread nD τ).loc main_v0_5) = (dats m 0 c).arrAt 13 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun r h c => ⟨(h.1 c).1 8, (h.1 c).1 9, (h.1 c).1 10, (h.1 c).1 11, (h.1 c).1 12, (h.1 c).1 13, h.2 c⟩) (θ_run_and (run_main m g) (unchanged m g))

end

/-- From equal arguments the call and its reference leave equal results. -/
theorem same17 : Cert.algebraic_Kernel17Ideal_Reference17Ideal := by
  intro m g m' g' hpre hagree
  refine ⟨fun c => (Cert.Kernel17Ideal.Gen.dats m 0 c).arrAt 8 (Cert.Kernel17Ideal.cfgs 0).N, fun c => (Cert.Kernel17Ideal.Gen.dats m 0 c).arrAt 9 (Cert.Kernel17Ideal.cfgs 0).N, fun c => (Cert.Kernel17Ideal.Gen.dats m 0 c).arrAt 10 (Cert.Kernel17Ideal.cfgs 0).N, fun c => (Cert.Kernel17Ideal.Gen.dats m 0 c).arrAt 11 (Cert.Kernel17Ideal.cfgs 0).N, fun c => (Cert.Kernel17Ideal.Gen.dats m 0 c).arrAt 12 (Cert.Kernel17Ideal.cfgs 0).N, fun c => (Cert.Kernel17Ideal.Gen.dats m 0 c).arrAt 13 (Cert.Kernel17Ideal.cfgs 0).N,
    kept17 m g, (θ_run _ _ _).mono (fun r h c => ?_) (left17 m' g')⟩
  obtain ⟨a0, a1, a2, a3, a4, a5, p⟩ := h c
  obtain ⟨h0, h1, h2, h3, h4, h5, h6, h7⟩ := hagree c
  rw [h0, h2, h4, h6] at a0
  rw [h1, h3, h5, h7] at a1
  rw [h0, h4] at a2
  rw [h1, h5] at a3
  rw [h0, h6] at a4
  rw [h1, h7] at a5
  exact ⟨a0.trans (Cert.Kernel17Ideal.Adam.final8 m c).symm, a1.trans (Cert.Kernel17Ideal.Adam.final9 m c).symm, a2.trans (Cert.Kernel17Ideal.Adam.final10 m c).symm, a3.trans (Cert.Kernel17Ideal.Adam.final11 m c).symm, a4.trans (Cert.Kernel17Ideal.Adam.final12 m c).symm, a5.trans (Cert.Kernel17Ideal.Adam.final13 m c).symm, p⟩

/-- The reference leaves its arguments and its counters as they were. -/
theorem still17 : Cert.quiescent_Reference17Ideal := fun m g _ =>
  (θ_run _ _ _).mono (fun r h => ⟨fun c => (h c).2.2.2.2.2.2, sem_eq_zero_of_no_sems (by decide) r.2⟩) (left17 m g)

end Cert.Proof

end
-- ==== Proof.Sum18.lean ====
module

public import proofs.«01_k».proof.Proof.Gen.Kernel18Ideal.Frame
public import proofs.«01_k».proof.Proof.Gen.Reference18Ideal.Read
public import proofs.«01_k».proof.Proof.Adam
public import Idealize.ShloMosaic.Lib.Pipeline.ValueKit

/-! The sums over the devices of the small gradients: the call's three arrays are the reference's sums. -/

@[expose] public section

set_option maxRecDepth 16384

noncomputable section

namespace Cert.Kernel18Ideal.Sum

open Cert.Kernel18Ideal Cert.Kernel18Ideal.Gen Cert.Adam Idealize.ShloMosaic Idealize.ShloMosaic.TcCoe Idealize.SL.Sem
open Cert.Reference18Ideal.Read
open Idealize.ShloMosaic.Pipeline (Dat)

variable (m : (ℓ : Loc nD τ sig) → Buf (Elt Ideal) ℓ)

abbrev A0 (c : Dev nD) : FVec Ideal S8x1280x128 .bf16 := m ((c : Thread nD τ).loc main_arg0)
abbrev A1 (c : Dev nD) : FVec Ideal S8x1280x128 .bf16 := m ((c : Thread nD τ).loc main_arg1)
abbrev A2 (c : Dev nD) : FVec Ideal S8x16x128 .f32 := m ((c : Thread nD τ).loc main_arg2)

/-- There is one point, and its blocks are the whole arrays. -/
theorem idx : ∀ t : Fin cfg0.N, win0_0.index t = ![0, 0, 0]
    ∧ win0_1.index t = ![0, 0, 0]
    ∧ win0_2.index t = ![0, 0, 0]
    ∧ win0_3.index t = ![0, 0]
    ∧ win0_4.index t = ![0, 0]
    ∧ win0_5.index t = ![0, 0] :=
  (by decide +kernel : ∀ t : Fin grid0.N, _)

/-! ## The sums of argument 0 -/

/-- One device's array, read out of the eight. -/
theorem part0_of (B : FVec Ideal S8x1280x128 .bf16) (t : Fin cfg0.N) (e : Nat) (he : e < 8)
    (inb : ∀ i, ![e, 0, 0] i + S1x1280x128.size i ≤ S8x1280x128.size i) (i : Fin 1) (r : Fin 1280) (d : Fin 128) :
    (show FVec Ideal S1x1280x128 .bf16 from View.ld (((cfg0.win 0).blk t).view.read (Elt Ideal) B) (Rect.unit ![e, 0, 0] ![1, 1280, 128] inb)) (ix3 i r d)
      = B (ix3 ⟨e, he⟩ r d) := by
  refine congrArg B ?_
  blk_ext [idx t]
  all_goals first
    | (show e + 1 * i.val = e; omega)
    | (show 0 + 1 * r.val = _; omega)
    | (show 0 + 1 * d.val = _; omega)

theorem pay0_at (b0 b1 b2 b3 b4 b5 b6 b7 : FVec Ideal S1x1280x128 .bf16) (r : Fin 1280) (d : Fin 128) :
    (k0_pay2 (F := Ideal) b0 b1 b2 b3 b4 b5 b6 b7 (ix2 r d) : EReal) = b0 (ix3 0 r d) + b1 (ix3 0 r d) + b2 (ix3 0 r d) + b3 (ix3 0 r d) + b4 (ix3 0 r d) + b5 (ix3 0 r d) + b6 (ix3 0 r d) + b7 (ix3 0 r d) := by
  pointwise [k0_pay2]

theorem ref0_at (B : FVec Ideal S8x1280x128 .bf16) (r : Fin 1280) (d : Fin 128) :
    (val_main_v1 (F := Ideal) B (ix2 r d) : EReal) = ∑ e : Fin 8, B (ix3 e r d) := by
  pointwise [val_main_v1, val_main_v0, val_main_cst]

theorem tile3 (c : Dev nD) (t : Fin cfg0.N) (r : Fin 1280) (d : Fin 128) :
    (out0_3 (iblk m c 0 t) (iblk m c 1 t) (iblk m c 2 t) (ix2 r d) : EReal) = val_main_v1 (F := Ideal) (A0 m c) (ix2 r d) := by
  rw [ref0_at, Fin.sum_univ_eight]
  unfold out0_3
  frame_out
  exact (pay0_at (View.ld (iblk m c 0 t) (Rect.unit ![0, 0, 0] ![1, 1280, 128] inb_S8x1280x128_S1x1280x128_0_0_0)) (View.ld (iblk m c 0 t) (Rect.unit ![1, 0, 0] ![1, 1280, 128] inb_S8x1280x128_S1x1280x128_1_0_0)) (View.ld (iblk m c 0 t) (Rect.unit ![2, 0, 0] ![1, 1280, 128] inb_S8x1280x128_S1x1280x128_2_0_0)) (View.ld (iblk m c 0 t) (Rect.unit ![3, 0, 0] ![1, 1280, 128] inb_S8x1280x128_S1x1280x128_3_0_0)) (View.ld (iblk m c 0 t) (Rect.unit ![4, 0, 0] ![1, 1280, 128] inb_S8x1280x128_S1x1280x128_4_0_0)) (View.ld (iblk m c 0 t) (Rect.unit ![5, 0, 0] ![1, 1280, 128] inb_S8x1280x128_S1x1280x128_5_0_0)) (View.ld (iblk m c 0 t) (Rect.unit ![6, 0, 0] ![1, 1280, 128] inb_S8x1280x128_S1x1280x128_6_0_0)) (View.ld (iblk m c 0 t) (Rect.unit ![7, 0, 0] ![1, 1280, 128] inb_S8x1280x128_S1x1280x128_7_0_0)) r d).trans (congrArg₂ (· + ·) (congrArg₂ (· + ·) (congrArg₂ (· + ·) (congrArg₂ (· + ·) (congrArg₂ (· + ·) (congrArg₂ (· + ·) (congrArg₂ (· + ·) (part0_of (A0 m c) t 0 (by omega) inb_S8x1280x128_S1x1280x128_0_0_0 0 r d) (part0_of (A0 m c) t 1 (by omega) inb_S8x1280x128_S1x1280x128_1_0_0 0 r d)) (part0_of (A0 m c) t 2 (by omega) inb_S8x1280x128_S1x1280x128_2_0_0 0 r d)) (part0_of (A0 m c) t 3 (by omega) inb_S8x1280x128_S1x1280x128_3_0_0 0 r d)) (part0_of (A0 m c) t 4 (by omega) inb_S8x1280x128_S1x1280x128_4_0_0 0 r d)) (part0_of (A0 m c) t 5 (by omega) inb_S8x1280x128_S1x1280x128_5_0_0 0 r d)) (part0_of (A0 m c) t 6 (by omega) inb_S8x1280x128_S1x1280x128_6_0_0 0 r d)) (part0_of (A0 m c) t 7 (by omega) inb_S8x1280x128_S1x1280x128_7_0_0 0 r d))

theorem all3 (c : Dev nD) (t : Fin cfg0.N) (y : S1280x128.Idx) :
    (out0_3 (iblk m c 0 t) (iblk m c 1 t) (iblk m c 2 t) y : EReal) = val_main_v1 (F := Ideal) (A0 m c) y := by
  rw [split2 y]
  exact tile3 m c t (y 0) (y 1)

theorem final3 (c : Dev nD) : (dats m 0 c).arrAt 3 (cfgs 0).N = val_main_v1 (F := Ideal) (A0 m c) := by
  refine (dats m 0 c).arrAt_eq_of_covers 3 _ (by decide +kernel) fun t hf y => ?_
  blk_simp
  rw [after0_3]
  have a := all3 m c t
  generalize out0_3 (iblk m c 0 t) (iblk m c 1 t) (iblk m c 2 t) = q at a ⊢
  have e : (win0_3.blk t).view.emb y = y := by
    blk_ext [idx t]
  exact (a y).trans (congrArg (val_main_v1 (F := Ideal) (A0 m c)) e).symm

/-! ## The sums of argument 1 -/

/-- One device's array, read out of the eight. -/
theorem part1_of (B : FVec Ideal S8x1280x128 .bf16) (t : Fin cfg0.N) (e : Nat) (he : e < 8)
    (inb : ∀ i, ![e, 0, 0] i + S1x1280x128.size i ≤ S8x1280x128.size i) (i : Fin 1) (r : Fin 1280) (d : Fin 128) :
    (show FVec Ideal S1x1280x128 .bf16 from View.ld (((cfg0.win 1).blk t).view.read (Elt Ideal) B) (Rect.unit ![e, 0, 0] ![1, 1280, 128] inb)) (ix3 i r d)
      = B (ix3 ⟨e, he⟩ r d) := by
  refine congrArg B ?_
  blk_ext [idx t]
  all_goals first
    | (show e + 1 * i.val = e; omega)
    | (show 0 + 1 * r.val = _; omega)
    | (show 0 + 1 * d.val = _; omega)

theorem pay1_at (b0 b1 b2 b3 b4 b5 b6 b7 : FVec Ideal S1x1280x128 .bf16) (r : Fin 1280) (d : Fin 128) :
    (k0_pay3 (F := Ideal) b0 b1 b2 b3 b4 b5 b6 b7 (ix2 r d) : EReal) = b0 (ix3 0 r d) + b1 (ix3 0 r d) + b2 (ix3 0 r d) + b3 (ix3 0 r d) + b4 (ix3 0 r d) + b5 (ix3 0 r d) + b6 (ix3 0 r d) + b7 (ix3 0 r d) := by
  pointwise [k0_pay3]

theorem ref1_at (B : FVec Ideal S8x1280x128 .bf16) (r : Fin 1280) (d : Fin 128) :
    (val_main_v3 (F := Ideal) B (ix2 r d) : EReal) = ∑ e : Fin 8, B (ix3 e r d) := by
  pointwise [val_main_v3, val_main_v2, val_main_cst_0]

theorem tile4 (c : Dev nD) (t : Fin cfg0.N) (r : Fin 1280) (d : Fin 128) :
    (out0_4 (iblk m c 0 t) (iblk m c 1 t) (iblk m c 2 t) (ix2 r d) : EReal) = val_main_v3 (F := Ideal) (A1 m c) (ix2 r d) := by
  rw [ref1_at, Fin.sum_univ_eight]
  unfold out0_4
  frame_out
  exact (pay1_at (View.ld (iblk m c 1 t) (Rect.unit ![0, 0, 0] ![1, 1280, 128] inb_S8x1280x128_S1x1280x128_0_0_0)) (View.ld (iblk m c 1 t) (Rect.unit ![1, 0, 0] ![1, 1280, 128] inb_S8x1280x128_S1x1280x128_1_0_0)) (View.ld (iblk m c 1 t) (Rect.unit ![2, 0, 0] ![1, 1280, 128] inb_S8x1280x128_S1x1280x128_2_0_0)) (View.ld (iblk m c 1 t) (Rect.unit ![3, 0, 0] ![1, 1280, 128] inb_S8x1280x128_S1x1280x128_3_0_0)) (View.ld (iblk m c 1 t) (Rect.unit ![4, 0, 0] ![1, 1280, 128] inb_S8x1280x128_S1x1280x128_4_0_0)) (View.ld (iblk m c 1 t) (Rect.unit ![5, 0, 0] ![1, 1280, 128] inb_S8x1280x128_S1x1280x128_5_0_0)) (View.ld (iblk m c 1 t) (Rect.unit ![6, 0, 0] ![1, 1280, 128] inb_S8x1280x128_S1x1280x128_6_0_0)) (View.ld (iblk m c 1 t) (Rect.unit ![7, 0, 0] ![1, 1280, 128] inb_S8x1280x128_S1x1280x128_7_0_0)) r d).trans (congrArg₂ (· + ·) (congrArg₂ (· + ·) (congrArg₂ (· + ·) (congrArg₂ (· + ·) (congrArg₂ (· + ·) (congrArg₂ (· + ·) (congrArg₂ (· + ·) (part1_of (A1 m c) t 0 (by omega) inb_S8x1280x128_S1x1280x128_0_0_0 0 r d) (part1_of (A1 m c) t 1 (by omega) inb_S8x1280x128_S1x1280x128_1_0_0 0 r d)) (part1_of (A1 m c) t 2 (by omega) inb_S8x1280x128_S1x1280x128_2_0_0 0 r d)) (part1_of (A1 m c) t 3 (by omega) inb_S8x1280x128_S1x1280x128_3_0_0 0 r d)) (part1_of (A1 m c) t 4 (by omega) inb_S8x1280x128_S1x1280x128_4_0_0 0 r d)) (part1_of (A1 m c) t 5 (by omega) inb_S8x1280x128_S1x1280x128_5_0_0 0 r d)) (part1_of (A1 m c) t 6 (by omega) inb_S8x1280x128_S1x1280x128_6_0_0 0 r d)) (part1_of (A1 m c) t 7 (by omega) inb_S8x1280x128_S1x1280x128_7_0_0 0 r d))

theorem all4 (c : Dev nD) (t : Fin cfg0.N) (y : S1280x128.Idx) :
    (out0_4 (iblk m c 0 t) (iblk m c 1 t) (iblk m c 2 t) y : EReal) = val_main_v3 (F := Ideal) (A1 m c) y := by
  rw [split2 y]
  exact tile4 m c t (y 0) (y 1)

theorem final4 (c : Dev nD) : (dats m 0 c).arrAt 4 (cfgs 0).N = val_main_v3 (F := Ideal) (A1 m c) := by
  refine (dats m 0 c).arrAt_eq_of_covers 4 _ (by decide +kernel) fun t hf y => ?_
  blk_simp
  rw [after0_4]
  have a := all4 m c t
  generalize out0_4 (iblk m c 0 t) (iblk m c 1 t) (iblk m c 2 t) = q at a ⊢
  have e : (win0_4.blk t).view.emb y = y := by
    blk_ext [idx t]
  exact (a y).trans (congrArg (val_main_v3 (F := Ideal) (A1 m c)) e).symm

/-! ## The sums of argument 2 -/

/-- One device's array, read out of the eight. -/
theorem part2_of (B : FVec Ideal S8x16x128 .f32) (t : Fin cfg0.N) (e : Nat) (he : e < 8)
    (inb : ∀ i, ![e, 0, 0] i + S1x16x128.size i ≤ S8x16x128.size i) (i : Fin 1) (r : Fin 16) (d : Fin 128) :
    (show FVec Ideal S1x16x128 .f32 from View.ld (((cfg0.win 2).blk t).view.read (Elt Ideal) B) (Rect.unit ![e, 0, 0] ![1, 16, 128] inb)) (ix3 i r d)
      = B (ix3 ⟨e, he⟩ r d) := by
  refine congrArg B ?_
  blk_ext [idx t]
  all_goals first
    | (show e + 1 * i.val = e; omega)
    | (show 0 + 1 * r.val = _; omega)
    | (show 0 + 1 * d.val = _; omega)

theorem pay2_at (b0 b1 b2 b3 b4 b5 b6 b7 : FVec Ideal S1x16x128 .f32) (r : Fin 16) (d : Fin 128) :
    (k0_pay1 (F := Ideal) b0 b1 b2 b3 b4 b5 b6 b7 (ix2 r d) : EReal) = b0 (ix3 0 r d) + b1 (ix3 0 r d) + b2 (ix3 0 r d) + b3 (ix3 0 r d) + b4 (ix3 0 r d) + b5 (ix3 0 r d) + b6 (ix3 0 r d) + b7 (ix3 0 r d) := by
  pointwise [k0_pay1]

theorem ref2_at (B : FVec Ideal S8x16x128 .f32) (r : Fin 16) (d : Fin 128) :
    (val_main_v4 (F := Ideal) B (ix2 r d) : EReal) = ∑ e : Fin 8, B (ix3 e r d) := by
  pointwise [val_main_v4, val_main_cst_1]

theorem tile5 (c : Dev nD) (t : Fin cfg0.N) (r : Fin 16) (d : Fin 128) :
    (out0_5 (iblk m c 0 t) (iblk m c 1 t) (iblk m c 2 t) (ix2 r d) : EReal) = val_main_v4 (F := Ideal) (A2 m c) (ix2 r d) := by
  rw [ref2_at, Fin.sum_univ_eight]
  unfold out0_5
  frame_out
  exact (pay2_at (View.ld (iblk m c 2 t) (Rect.unit ![0, 0, 0] ![1, 16, 128] inb_S8x16x128_S1x16x128_0_0_0)) (View.ld (iblk m c 2 t) (Rect.unit ![1, 0, 0] ![1, 16, 128] inb_S8x16x128_S1x16x128_1_0_0)) (View.ld (iblk m c 2 t) (Rect.unit ![2, 0, 0] ![1, 16, 128] inb_S8x16x128_S1x16x128_2_0_0)) (View.ld (iblk m c 2 t) (Rect.unit ![3, 0, 0] ![1, 16, 128] inb_S8x16x128_S1x16x128_3_0_0)) (View.ld (iblk m c 2 t) (Rect.unit ![4, 0, 0] ![1, 16, 128] inb_S8x16x128_S1x16x128_4_0_0)) (View.ld (iblk m c 2 t) (Rect.unit ![5, 0, 0] ![1, 16, 128] inb_S8x16x128_S1x16x128_5_0_0)) (View.ld (iblk m c 2 t) (Rect.unit ![6, 0, 0] ![1, 16, 128] inb_S8x16x128_S1x16x128_6_0_0)) (View.ld (iblk m c 2 t) (Rect.unit ![7, 0, 0] ![1, 16, 128] inb_S8x16x128_S1x16x128_7_0_0)) r d).trans (congrArg₂ (· + ·) (congrArg₂ (· + ·) (congrArg₂ (· + ·) (congrArg₂ (· + ·) (congrArg₂ (· + ·) (congrArg₂ (· + ·) (congrArg₂ (· + ·) (part2_of (A2 m c) t 0 (by omega) inb_S8x16x128_S1x16x128_0_0_0 0 r d) (part2_of (A2 m c) t 1 (by omega) inb_S8x16x128_S1x16x128_1_0_0 0 r d)) (part2_of (A2 m c) t 2 (by omega) inb_S8x16x128_S1x16x128_2_0_0 0 r d)) (part2_of (A2 m c) t 3 (by omega) inb_S8x16x128_S1x16x128_3_0_0 0 r d)) (part2_of (A2 m c) t 4 (by omega) inb_S8x16x128_S1x16x128_4_0_0 0 r d)) (part2_of (A2 m c) t 5 (by omega) inb_S8x16x128_S1x16x128_5_0_0 0 r d)) (part2_of (A2 m c) t 6 (by omega) inb_S8x16x128_S1x16x128_6_0_0 0 r d)) (part2_of (A2 m c) t 7 (by omega) inb_S8x16x128_S1x16x128_7_0_0 0 r d))

theorem all5 (c : Dev nD) (t : Fin cfg0.N) (y : S16x128.Idx) :
    (out0_5 (iblk m c 0 t) (iblk m c 1 t) (iblk m c 2 t) y : EReal) = val_main_v4 (F := Ideal) (A2 m c) y := by
  rw [split2 y]
  exact tile5 m c t (y 0) (y 1)

theorem final5 (c : Dev nD) : (dats m 0 c).arrAt 5 (cfgs 0).N = val_main_v4 (F := Ideal) (A2 m c) := by
  refine (dats m 0 c).arrAt_eq_of_covers 5 _ (by decide +kernel) fun t hf y => ?_
  blk_simp
  rw [after0_5]
  have a := all5 m c t
  generalize out0_5 (iblk m c 0 t) (iblk m c 1 t) (iblk m c 2 t) = q at a ⊢
  have e : (win0_5.blk t).view.emb y = y := by
    blk_ext [idx t]
  exact (a y).trans (congrArg (val_main_v4 (F := Ideal) (A2 m c)) e).symm

end Cert.Kernel18Ideal.Sum

end
-- ==== Proof.Tail18.lean ====
module

public import proofs.«01_k».proof.Proof.Sum18

/-! What the host makes of the three sums: the same small gradients out of the call's sums as out of the reference's. -/

@[expose] public section

set_option maxRecDepth 16384

noncomputable section

namespace Cert.Kernel18Ideal.Sum

open Cert.Kernel18Ideal Cert.Kernel18Ideal.Gen Idealize.ShloMosaic Idealize.ShloMosaic.TcCoe Idealize.SL.Sem
open Cert.Reference18Ideal.Read

section

variable (W : Valuation τ sig (Elt Ideal)) (x0 x1 : FVec Ideal S8x1280x128 .bf16) (x2 : FVec Ideal S8x16x128 .f32)

theorem tail4 (h2 : W (Proc.devRef .tc main_v0_2) = val_main_v4 (F := Ideal) x2) :
    StableHlo.after hostOps1 W (Proc.devRef .tc main_v4) = val_main_v8 (F := Ideal) x2 := by
  after_results
  rw [h2]
  rfl

theorem tail15 (h0 : W (Proc.devRef .tc main_v0_0) = val_main_v1 (F := Ideal) x0) (h1 : W (Proc.devRef .tc main_v0_1) = val_main_v3 (F := Ideal) x1) :
    StableHlo.after hostOps1 W (Proc.devRef .tc main_v15) = val_main_v19 (F := Ideal) x0 x1 := by
  after_results
  rw [h0, h1]
  rfl

theorem tail26 (h0 : W (Proc.devRef .tc main_v0_0) = val_main_v1 (F := Ideal) x0) (h1 : W (Proc.devRef .tc main_v0_1) = val_main_v3 (F := Ideal) x1) :
    StableHlo.after hostOps1 W (Proc.devRef .tc main_v26) = val_main_v30 (F := Ideal) x0 x1 := by
  after_results
  rw [h0, h1]
  rfl

theorem tail30 (h2 : W (Proc.devRef .tc main_v0_2) = val_main_v4 (F := Ideal) x2) :
    StableHlo.after hostOps1 W (Proc.devRef .tc main_v30) = val_main_v34 (F := Ideal) x2 := by
  after_results
  rw [h2]
  rfl

end

variable (m : (ℓ : Loc nD τ sig) → Buf (Elt Ideal) ℓ)

/-- The arrays the host starts from after the call. -/
abbrev W (c : Dev nD) : Valuation τ sig (Elt Ideal) :=
  Pipeline.withArrays spec0 c (V0 m c) fun w => (dats m 0 c).arrAt w (cfgs 0).N

theorem W_0 (c : Dev nD) : W m c (Proc.devRef .tc main_v0_0) = val_main_v1 (F := Ideal) (A0 m c) :=
  (Pipeline.withArrays_arr spec0 (by decide) c (V0 m c) (fun w => (dats m 0 c).arrAt w (cfgs 0).N) 3).trans (final3 m c)

theorem W_1 (c : Dev nD) : W m c (Proc.devRef .tc main_v0_1) = val_main_v3 (F := Ideal) (A1 m c) :=
  (Pipeline.withArrays_arr spec0 (by decide) c (V0 m c) (fun w => (dats m 0 c).arrAt w (cfgs 0).N) 4).trans (final4 m c)

theorem W_2 (c : Dev nD) : W m c (Proc.devRef .tc main_v0_2) = val_main_v4 (F := Ideal) (A2 m c) :=
  (Pipeline.withArrays_arr spec0 (by decide) c (V0 m c) (fun w => (dats m 0 c).arrAt w (cfgs 0).N) 5).trans (final5 m c)

theorem after_tail (c : Dev nD) (b : Ref sig .tc) :
    Pipeline.afterTail₀ cfgs (dats m) 0 (V0 m) [hostOps1] c b = StableHlo.after hostOps1 (W m c) (Proc.devRef .tc b) := by
  show StableHlo.after [hostOps1].flatten _ _ = _
  rw [List.flatten_cons, List.flatten_nil, List.append_nil]

end Cert.Kernel18Ideal.Sum

end
-- ==== Proof.Claims18.lean ====
module

public import proofs.«01_k».proof.Defs
public import proofs.«01_k».proof.Proof.Gen.Kernel18Ideal
public import proofs.«01_k».proof.Proof.Gen.Reference18Ideal
public import proofs.«01_k».proof.Proof.Gen.Reference18Ideal.Run
public import proofs.«01_k».proof.Proof.Gen.Reference18Ideal.Read
public import proofs.«01_k».proof.Proof.Tail18

/-! The loss and the gradients of the norms, summed over the devices: the call with what the host makes of its arrays, and its
reference, end with the same four arrays. -/

@[expose] public section

set_option maxRecDepth 16384

noncomputable section

namespace Cert.Proof

open Idealize.ShloMosaic Idealize.ShloMosaic.TcCoe Idealize.SL.Sem

section

open Cert.Reference18Ideal Cert.Reference18Ideal.Read

/-- What the reference leaves, by the names of its values. -/
theorem left18 (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v8) = val_main_v8 (F := Ideal) (m' ((c.tc : Thread nD τ).loc main_arg2))
      ∧ r.2.mem ((c.tc : Thread nD τ).loc main_v19) = val_main_v19 (F := Ideal) (m' ((c.tc : Thread nD τ).loc main_arg0)) (m' ((c.tc : Thread nD τ).loc main_arg1))
      ∧ r.2.mem ((c.tc : Thread nD τ).loc main_v30) = val_main_v30 (F := Ideal) (m' ((c.tc : Thread nD τ).loc main_arg0)) (m' ((c.tc : Thread nD τ).loc main_arg1))
      ∧ r.2.mem ((c.tc : Thread nD τ).loc main_v34) = val_main_v34 (F := Ideal) (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) := by
  refine (θ_run _ _ _).mono (fun r h c => ?_) (Cert.Reference18Ideal.Value.run m' g')
  obtain ⟨a0, a1, a2, a3, p⟩ := h c
  exact ⟨a0.trans (val_main_v8_eq _), a1.trans (val_main_v19_eq _ _), a2.trans (val_main_v30_eq _ _), a3.trans (val_main_v34_eq _), p⟩

end

section

open Cert.Kernel18Ideal Cert.Kernel18Ideal.Gen Cert.Kernel18Ideal.Sum Cert.Reference18Ideal.Read

/-- What the call and the host after it leave in the results, by the names of the reference's values. -/
theorem kept18 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4) = val_main_v8 (F := Ideal) (m ((c.tc : Thread nD τ).loc main_arg2))
      ∧ r.2.mem ((c.tc : Thread nD τ).loc main_v15) = val_main_v19 (F := Ideal) (m ((c.tc : Thread nD τ).loc main_arg0)) (m ((c.tc : Thread nD τ).loc main_arg1))
      ∧ r.2.mem ((c.tc : Thread nD τ).loc main_v26) = val_main_v30 (F := Ideal) (m ((c.tc : Thread nD τ).loc main_arg0)) (m ((c.tc : Thread nD τ).loc main_arg1))
      ∧ r.2.mem ((c.tc : Thread nD τ).loc main_v30) = val_main_v34 (F := Ideal) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨((h.1 c).2 main_v4 (by decide)).trans ((after_tail m c main_v4).trans (tail4 (W m c) _ (W_2 m c))),
    ((h.1 c).2 main_v15 (by decide)).trans ((after_tail m c main_v15).trans (tail15 (W m c) _ _ (W_0 m c) (W_1 m c))),
    ((h.1 c).2 main_v26 (by decide)).trans ((after_tail m c main_v26).trans (tail26 (W m c) _ _ (W_0 m c) (W_1 m c))),
    ((h.1 c).2 main_v30 (by decide)).trans ((after_tail m c main_v30).trans (tail30 (W m c) _ (W_2 m c))),
    h.2 c⟩) (θ_run_and (run_main m g) (unchanged m g))

end

/-- From equal arguments the call and its reference leave equal results. -/
theorem same18 : Cert.algebraic_Kernel18Ideal_Reference18Ideal := by
  intro m g m' g' hpre hagree
  refine ⟨fun c => Cert.Reference18Ideal.Read.val_main_v8 (F := Ideal) (m ((c.tc : Thread Cert.Kernel18Ideal.nD Cert.Kernel18Ideal.τ).loc Cert.Kernel18Ideal.main_arg2)),
    fun c => Cert.Reference18Ideal.Read.val_main_v19 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)),
    fun c => Cert.Reference18Ideal.Read.val_main_v30 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)),
    fun c => Cert.Reference18Ideal.Read.val_main_v34 (F := Ideal) (m ((c.tc : Thread Cert.Kernel18Ideal.nD Cert.Kernel18Ideal.τ).loc Cert.Kernel18Ideal.main_arg2)),
    kept18 m g, (θ_run _ _ _).mono (fun r h c => ?_) (left18 m' g')⟩
  obtain ⟨a0, a1, a2, a3, p⟩ := h c
  obtain ⟨h0, h1, h2⟩ := hagree c
  rw [h2] at a0
  rw [h0, h1] at a1
  rw [h0, h1] at a2
  rw [h2] at a3
  exact ⟨a0, a1, a2, a3, p⟩

/-- The reference leaves its arguments and its counters as they were. -/
theorem still18 : Cert.quiescent_Reference18Ideal := fun m g _ =>
  (θ_run _ _ _).mono (fun r h => ⟨fun c => (h c).2.2.2.2, sem_eq_zero_of_no_sems (by decide) r.2⟩) (left18 m g)

end Cert.Proof

end
-- ==== Proof.Sum19.lean ====
module

public import proofs.«01_k».proof.Proof.Gen.Kernel19Ideal.Frame
public import proofs.«01_k».proof.Proof.Gen.Reference19Ideal.Read
public import proofs.«01_k».proof.Proof.Adam
public import Idealize.ShloMosaic.Lib.Pipeline.ValueKit

/-! The sums over the devices of the small gradients: the call's three arrays are the reference's sums. -/

@[expose] public section

set_option maxRecDepth 16384

noncomputable section

namespace Cert.Kernel19Ideal.Sum

open Cert.Kernel19Ideal Cert.Kernel19Ideal.Gen Cert.Adam Idealize.ShloMosaic Idealize.ShloMosaic.TcCoe Idealize.SL.Sem
open Cert.Reference19Ideal.Read
open Idealize.ShloMosaic.Pipeline (Dat)

variable (m : (ℓ : Loc nD τ sig) → Buf (Elt Ideal) ℓ)

abbrev A0 (c : Dev nD) : FVec Ideal S8x1280x128 .bf16 := m ((c : Thread nD τ).loc main_arg0)
abbrev A1 (c : Dev nD) : FVec Ideal S8x1280x128 .bf16 := m ((c : Thread nD τ).loc main_arg1)
abbrev A2 (c : Dev nD) : FVec Ideal S8x16x128 .f32 := m ((c : Thread nD τ).loc main_arg2)

/-- There is one point, and its blocks are the whole arrays. -/
theorem idx : ∀ t : Fin cfg0.N, win0_0.index t = ![0, 0, 0]
    ∧ win0_1.index t = ![0, 0, 0]
    ∧ win0_2.index t = ![0, 0, 0]
    ∧ win0_3.index t = ![0, 0]
    ∧ win0_4.index t = ![0, 0]
    ∧ win0_5.index t = ![0, 0] :=
  (by decide +kernel : ∀ t : Fin grid0.N, _)

/-! ## The sums of argument 0 -/

/-- One device's array, read out of the eight. -/
theorem part0_of (B : FVec Ideal S8x1280x128 .bf16) (t : Fin cfg0.N) (e : Nat) (he : e < 8)
    (inb : ∀ i, ![e, 0, 0] i + S1x1280x128.size i ≤ S8x1280x128.size i) (i : Fin 1) (r : Fin 1280) (d : Fin 128) :
    (show FVec Ideal S1x1280x128 .bf16 from View.ld (((cfg0.win 0).blk t).view.read (Elt Ideal) B) (Rect.unit ![e, 0, 0] ![1, 1280, 128] inb)) (ix3 i r d)
      = B (ix3 ⟨e, he⟩ r d) := by
  refine congrArg B ?_
  blk_ext [idx t]
  all_goals first
    | (show e + 1 * i.val = e; omega)
    | (show 0 + 1 * r.val = _; omega)
    | (show 0 + 1 * d.val = _; omega)

theorem pay0_at (b0 b1 b2 b3 b4 b5 b6 b7 : FVec Ideal S1x1280x128 .bf16) (r : Fin 1280) (d : Fin 128) :
    (k0_pay2 (F := Ideal) b0 b1 b2 b3 b4 b5 b6 b7 (ix2 r d) : EReal) = b0 (ix3 0 r d) + b1 (ix3 0 r d) + b2 (ix3 0 r d) + b3 (ix3 0 r d) + b4 (ix3 0 r d) + b5 (ix3 0 r d) + b6 (ix3 0 r d) + b7 (ix3 0 r d) := by
  pointwise [k0_pay2]

theorem ref0_at (B : FVec Ideal S8x1280x128 .bf16) (r : Fin 1280) (d : Fin 128) :
    (val_main_v1 (F := Ideal) B (ix2 r d) : EReal) = ∑ e : Fin 8, B (ix3 e r d) := by
  pointwise [val_main_v1, val_main_v0, val_main_cst]

theorem tile3 (c : Dev nD) (t : Fin cfg0.N) (r : Fin 1280) (d : Fin 128) :
    (out0_3 (iblk m c 0 t) (iblk m c 1 t) (iblk m c 2 t) (ix2 r d) : EReal) = val_main_v1 (F := Ideal) (A0 m c) (ix2 r d) := by
  rw [ref0_at, Fin.sum_univ_eight]
  unfold out0_3
  frame_out
  exact (pay0_at (View.ld (iblk m c 0 t) (Rect.unit ![0, 0, 0] ![1, 1280, 128] inb_S8x1280x128_S1x1280x128_0_0_0)) (View.ld (iblk m c 0 t) (Rect.unit ![1, 0, 0] ![1, 1280, 128] inb_S8x1280x128_S1x1280x128_1_0_0)) (View.ld (iblk m c 0 t) (Rect.unit ![2, 0, 0] ![1, 1280, 128] inb_S8x1280x128_S1x1280x128_2_0_0)) (View.ld (iblk m c 0 t) (Rect.unit ![3, 0, 0] ![1, 1280, 128] inb_S8x1280x128_S1x1280x128_3_0_0)) (View.ld (iblk m c 0 t) (Rect.unit ![4, 0, 0] ![1, 1280, 128] inb_S8x1280x128_S1x1280x128_4_0_0)) (View.ld (iblk m c 0 t) (Rect.unit ![5, 0, 0] ![1, 1280, 128] inb_S8x1280x128_S1x1280x128_5_0_0)) (View.ld (iblk m c 0 t) (Rect.unit ![6, 0, 0] ![1, 1280, 128] inb_S8x1280x128_S1x1280x128_6_0_0)) (View.ld (iblk m c 0 t) (Rect.unit ![7, 0, 0] ![1, 1280, 128] inb_S8x1280x128_S1x1280x128_7_0_0)) r d).trans (congrArg₂ (· + ·) (congrArg₂ (· + ·) (congrArg₂ (· + ·) (congrArg₂ (· + ·) (congrArg₂ (· + ·) (congrArg₂ (· + ·) (congrArg₂ (· + ·) (part0_of (A0 m c) t 0 (by omega) inb_S8x1280x128_S1x1280x128_0_0_0 0 r d) (part0_of (A0 m c) t 1 (by omega) inb_S8x1280x128_S1x1280x128_1_0_0 0 r d)) (part0_of (A0 m c) t 2 (by omega) inb_S8x1280x128_S1x1280x128_2_0_0 0 r d)) (part0_of (A0 m c) t 3 (by omega) inb_S8x1280x128_S1x1280x128_3_0_0 0 r d)) (part0_of (A0 m c) t 4 (by omega) inb_S8x1280x128_S1x1280x128_4_0_0 0 r d)) (part0_of (A0 m c) t 5 (by omega) inb_S8x1280x128_S1x1280x128_5_0_0 0 r d)) (part0_of (A0 m c) t 6 (by omega) inb_S8x1280x128_S1x1280x128_6_0_0 0 r d)) (part0_of (A0 m c) t 7 (by omega) inb_S8x1280x128_S1x1280x128_7_0_0 0 r d))

theorem all3 (c : Dev nD) (t : Fin cfg0.N) (y : S1280x128.Idx) :
    (out0_3 (iblk m c 0 t) (iblk m c 1 t) (iblk m c 2 t) y : EReal) = val_main_v1 (F := Ideal) (A0 m c) y := by
  rw [split2 y]
  exact tile3 m c t (y 0) (y 1)

theorem final3 (c : Dev nD) : (dats m 0 c).arrAt 3 (cfgs 0).N = val_main_v1 (F := Ideal) (A0 m c) := by
  refine (dats m 0 c).arrAt_eq_of_covers 3 _ (by decide +kernel) fun t hf y => ?_
  blk_simp
  rw [after0_3]
  have a := all3 m c t
  generalize out0_3 (iblk m c 0 t) (iblk m c 1 t) (iblk m c 2 t) = q at a ⊢
  have e : (win0_3.blk t).view.emb y = y := by
    blk_ext [idx t]
  exact (a y).trans (congrArg (val_main_v1 (F := Ideal) (A0 m c)) e).symm

/-! ## The sums of argument 1 -/

/-- One device's array, read out of the eight. -/
theorem part1_of (B : FVec Ideal S8x1280x128 .bf16) (t : Fin cfg0.N) (e : Nat) (he : e < 8)
    (inb : ∀ i, ![e, 0, 0] i + S1x1280x128.size i ≤ S8x1280x128.size i) (i : Fin 1) (r : Fin 1280) (d : Fin 128) :
    (show FVec Ideal S1x1280x128 .bf16 from View.ld (((cfg0.win 1).blk t).view.read (Elt Ideal) B) (Rect.unit ![e, 0, 0] ![1, 1280, 128] inb)) (ix3 i r d)
      = B (ix3 ⟨e, he⟩ r d) := by
  refine congrArg B ?_
  blk_ext [idx t]
  all_goals first
    | (show e + 1 * i.val = e; omega)
    | (show 0 + 1 * r.val = _; omega)
    | (show 0 + 1 * d.val = _; omega)

theorem pay1_at (b0 b1 b2 b3 b4 b5 b6 b7 : FVec Ideal S1x1280x128 .bf16) (r : Fin 1280) (d : Fin 128) :
    (k0_pay3 (F := Ideal) b0 b1 b2 b3 b4 b5 b6 b7 (ix2 r d) : EReal) = b0 (ix3 0 r d) + b1 (ix3 0 r d) + b2 (ix3 0 r d) + b3 (ix3 0 r d) + b4 (ix3 0 r d) + b5 (ix3 0 r d) + b6 (ix3 0 r d) + b7 (ix3 0 r d) := by
  pointwise [k0_pay3]

theorem ref1_at (B : FVec Ideal S8x1280x128 .bf16) (r : Fin 1280) (d : Fin 128) :
    (val_main_v3 (F := Ideal) B (ix2 r d) : EReal) = ∑ e : Fin 8, B (ix3 e r d) := by
  pointwise [val_main_v3, val_main_v2, val_main_cst_0]

theorem tile4 (c : Dev nD) (t : Fin cfg0.N) (r : Fin 1280) (d : Fin 128) :
    (out0_4 (iblk m c 0 t) (iblk m c 1 t) (iblk m c 2 t) (ix2 r d) : EReal) = val_main_v3 (F := Ideal) (A1 m c) (ix2 r d) := by
  rw [ref1_at, Fin.sum_univ_eight]
  unfold out0_4
  frame_out
  exact (pay1_at (View.ld (iblk m c 1 t) (Rect.unit ![0, 0, 0] ![1, 1280, 128] inb_S8x1280x128_S1x1280x128_0_0_0)) (View.ld (iblk m c 1 t) (Rect.unit ![1, 0, 0] ![1, 1280, 128] inb_S8x1280x128_S1x1280x128_1_0_0)) (View.ld (iblk m c 1 t) (Rect.unit ![2, 0, 0] ![1, 1280, 128] inb_S8x1280x128_S1x1280x128_2_0_0)) (View.ld (iblk m c 1 t) (Rect.unit ![3, 0, 0] ![1, 1280, 128] inb_S8x1280x128_S1x1280x128_3_0_0)) (View.ld (iblk m c 1 t) (Rect.unit ![4, 0, 0] ![1, 1280, 128] inb_S8x1280x128_S1x1280x128_4_0_0)) (View.ld (iblk m c 1 t) (Rect.unit ![5, 0, 0] ![1, 1280, 128] inb_S8x1280x128_S1x1280x128_5_0_0)) (View.ld (iblk m c 1 t) (Rect.unit ![6, 0, 0] ![1, 1280, 128] inb_S8x1280x128_S1x1280x128_6_0_0)) (View.ld (iblk m c 1 t) (Rect.unit ![7, 0, 0] ![1, 1280, 128] inb_S8x1280x128_S1x1280x128_7_0_0)) r d).trans (congrArg₂ (· + ·) (congrArg₂ (· + ·) (congrArg₂ (· + ·) (congrArg₂ (· + ·) (congrArg₂ (· + ·) (congrArg₂ (· + ·) (congrArg₂ (· + ·) (part1_of (A1 m c) t 0 (by omega) inb_S8x1280x128_S1x1280x128_0_0_0 0 r d) (part1_of (A1 m c) t 1 (by omega) inb_S8x1280x128_S1x1280x128_1_0_0 0 r d)) (part1_of (A1 m c) t 2 (by omega) inb_S8x1280x128_S1x1280x128_2_0_0 0 r d)) (part1_of (A1 m c) t 3 (by omega) inb_S8x1280x128_S1x1280x128_3_0_0 0 r d)) (part1_of (A1 m c) t 4 (by omega) inb_S8x1280x128_S1x1280x128_4_0_0 0 r d)) (part1_of (A1 m c) t 5 (by omega) inb_S8x1280x128_S1x1280x128_5_0_0 0 r d)) (part1_of (A1 m c) t 6 (by omega) inb_S8x1280x128_S1x1280x128_6_0_0 0 r d)) (part1_of (A1 m c) t 7 (by omega) inb_S8x1280x128_S1x1280x128_7_0_0 0 r d))

theorem all4 (c : Dev nD) (t : Fin cfg0.N) (y : S1280x128.Idx) :
    (out0_4 (iblk m c 0 t) (iblk m c 1 t) (iblk m c 2 t) y : EReal) = val_main_v3 (F := Ideal) (A1 m c) y := by
  rw [split2 y]
  exact tile4 m c t (y 0) (y 1)

theorem final4 (c : Dev nD) : (dats m 0 c).arrAt 4 (cfgs 0).N = val_main_v3 (F := Ideal) (A1 m c) := by
  refine (dats m 0 c).arrAt_eq_of_covers 4 _ (by decide +kernel) fun t hf y => ?_
  blk_simp
  rw [after0_4]
  have a := all4 m c t
  generalize out0_4 (iblk m c 0 t) (iblk m c 1 t) (iblk m c 2 t) = q at a ⊢
  have e : (win0_4.blk t).view.emb y = y := by
    blk_ext [idx t]
  exact (a y).trans (congrArg (val_main_v3 (F := Ideal) (A1 m c)) e).symm

end Cert.Kernel19Ideal.Sum

end
-- ==== Proof.Tail19.lean ====
module

public import proofs.«01_k».proof.Proof.Sum19

/-! What the host makes of the three sums: the same small gradients out of the call's sums as out of the reference's. -/

@[expose] public section

set_option maxRecDepth 16384

noncomputable section

namespace Cert.Kernel19Ideal.Sum

open Cert.Kernel19Ideal Cert.Kernel19Ideal.Gen Idealize.ShloMosaic Idealize.ShloMosaic.TcCoe Idealize.SL.Sem
open Cert.Reference19Ideal.Read

section

variable (W : Valuation τ sig (Elt Ideal)) (x0 x1 : FVec Ideal S8x1280x128 .bf16) (x2 : FVec Ideal S8x16x128 .f32)

theorem tail9 (h0 : W (Proc.devRef .tc main_v0_0) = val_main_v1 (F := Ideal) x0) (h1 : W (Proc.devRef .tc main_v0_1) = val_main_v3 (F := Ideal) x1) :
    StableHlo.after hostOps1 W (Proc.devRef .tc main_v9) = val_main_v12 (F := Ideal) x0 x1 := by
  after_results
  rw [h0, h1]
  rfl

theorem tail20 (h0 : W (Proc.devRef .tc main_v0_0) = val_main_v1 (F := Ideal) x0) (h1 : W (Proc.devRef .tc main_v0_1) = val_main_v3 (F := Ideal) x1) :
    StableHlo.after hostOps1 W (Proc.devRef .tc main_v20) = val_main_v23 (F := Ideal) x0 x1 := by
  after_results
  rw [h0, h1]
  rfl

theorem tail31 (h0 : W (Proc.devRef .tc main_v0_0) = val_main_v1 (F := Ideal) x0) (h1 : W (Proc.devRef .tc main_v0_1) = val_main_v3 (F := Ideal) x1) :
    StableHlo.after hostOps1 W (Proc.devRef .tc main_v31) = val_main_v34 (F := Ideal) x0 x1 := by
  after_results
  rw [h0, h1]
  rfl

theorem tail42 (h0 : W (Proc.devRef .tc main_v0_0) = val_main_v1 (F := Ideal) x0) (h1 : W (Proc.devRef .tc main_v0_1) = val_main_v3 (F := Ideal) x1) :
    StableHlo.after hostOps1 W (Proc.devRef .tc main_v42) = val_main_v45 (F := Ideal) x0 x1 := by
  after_results
  rw [h0, h1]
  rfl

end

variable (m : (ℓ : Loc nD τ sig) → Buf (Elt Ideal) ℓ)

/-- The arrays the host starts from after the call. -/
abbrev W (c : Dev nD) : Valuation τ sig (Elt Ideal) :=
  Pipeline.withArrays spec0 c (V0 m c) fun w => (dats m 0 c).arrAt w (cfgs 0).N

theorem W_0 (c : Dev nD) : W m c (Proc.devRef .tc main_v0_0) = val_main_v1 (F := Ideal) (A0 m c) :=
  (Pipeline.withArrays_arr spec0 (by decide) c (V0 m c) (fun w => (dats m 0 c).arrAt w (cfgs 0).N) 3).trans (final3 m c)

theorem W_1 (c : Dev nD) : W m c (Proc.devRef .tc main_v0_1) = val_main_v3 (F := Ideal) (A1 m c) :=
  (Pipeline.withArrays_arr spec0 (by decide) c (V0 m c) (fun w => (dats m 0 c).arrAt w (cfgs 0).N) 4).trans (final4 m c)

theorem after_tail (c : Dev nD) (b : Ref sig .tc) :
    Pipeline.afterTail₀ cfgs (dats m) 0 (V0 m) [hostOps1] c b = StableHlo.after hostOps1 (W m c) (Proc.devRef .tc b) := by
  show StableHlo.after [hostOps1].flatten _ _ = _
  rw [List.flatten_cons, List.flatten_nil, List.append_nil]

end Cert.Kernel19Ideal.Sum

end
-- ==== Proof.Claims19.lean ====
module

public import proofs.«01_k».proof.Defs
public import proofs.«01_k».proof.Proof.Gen.Kernel19Ideal
public import proofs.«01_k».proof.Proof.Gen.Reference19Ideal
public import proofs.«01_k».proof.Proof.Gen.Reference19Ideal.Run
public import proofs.«01_k».proof.Proof.Gen.Reference19Ideal.Read
public import proofs.«01_k».proof.Proof.Tail19

/-! The gradients of the convolution and its norm, summed over the devices: the call with what the host makes of its arrays, and its
reference, end with the same four arrays. -/

@[expose] public section

set_option maxRecDepth 16384

noncomputable section

namespace Cert.Proof

open Idealize.ShloMosaic Idealize.ShloMosaic.TcCoe Idealize.SL.Sem

section

open Cert.Reference19Ideal Cert.Reference19Ideal.Read

/-- What the reference leaves, by the names of its values. -/
theorem left19 (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v12) = val_main_v12 (F := Ideal) (m' ((c.tc : Thread nD τ).loc main_arg0)) (m' ((c.tc : Thread nD τ).loc main_arg1))
      ∧ r.2.mem ((c.tc : Thread nD τ).loc main_v23) = val_main_v23 (F := Ideal) (m' ((c.tc : Thread nD τ).loc main_arg0)) (m' ((c.tc : Thread nD τ).loc main_arg1))
      ∧ r.2.mem ((c.tc : Thread nD τ).loc main_v34) = val_main_v34 (F := Ideal) (m' ((c.tc : Thread nD τ).loc main_arg0)) (m' ((c.tc : Thread nD τ).loc main_arg1))
      ∧ r.2.mem ((c.tc : Thread nD τ).loc main_v45) = val_main_v45 (F := Ideal) (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) := by
  refine (θ_run _ _ _).mono (fun r h c => ?_) (Cert.Reference19Ideal.Value.run m' g')
  obtain ⟨a0, a1, a2, a3, p⟩ := h c
  exact ⟨a0.trans (val_main_v12_eq _ _), a1.trans (val_main_v23_eq _ _), a2.trans (val_main_v34_eq _ _), a3.trans (val_main_v45_eq _ _), p⟩

end

section

open Cert.Kernel19Ideal Cert.Kernel19Ideal.Gen Cert.Kernel19Ideal.Sum Cert.Reference19Ideal.Read

/-- What the call and the host after it leave in the results, by the names of the reference's values. -/
theorem kept19 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v9) = val_main_v12 (F := Ideal) (m ((c.tc : Thread nD τ).loc main_arg0)) (m ((c.tc : Thread nD τ).loc main_arg1))
      ∧ r.2.mem ((c.tc : Thread nD τ).loc main_v20) = val_main_v23 (F := Ideal) (m ((c.tc : Thread nD τ).loc main_arg0)) (m ((c.tc : Thread nD τ).loc main_arg1))
      ∧ r.2.mem ((c.tc : Thread nD τ).loc main_v31) = val_main_v34 (F := Ideal) (m ((c.tc : Thread nD τ).loc main_arg0)) (m ((c.tc : Thread nD τ).loc main_arg1))
      ∧ r.2.mem ((c.tc : Thread nD τ).loc main_v42) = val_main_v45 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨((h.1 c).2 main_v9 (by decide)).trans ((after_tail m c main_v9).trans (tail9 (W m c) _ _ (W_0 m c) (W_1 m c))),
    ((h.1 c).2 main_v20 (by decide)).trans ((after_tail m c main_v20).trans (tail20 (W m c) _ _ (W_0 m c) (W_1 m c))),
    ((h.1 c).2 main_v31 (by decide)).trans ((after_tail m c main_v31).trans (tail31 (W m c) _ _ (W_0 m c) (W_1 m c))),
    ((h.1 c).2 main_v42 (by decide)).trans ((after_tail m c main_v42).trans (tail42 (W m c) _ _ (W_0 m c) (W_1 m c))),
    h.2 c⟩) (θ_run_and (run_main m g) (unchanged m g))

end

/-- From equal arguments the call and its reference leave equal results. -/
theorem same19 : Cert.algebraic_Kernel19Ideal_Reference19Ideal := by
  intro m g m' g' hpre hagree
  refine ⟨fun c => Cert.Reference19Ideal.Read.val_main_v12 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)),
    fun c => Cert.Reference19Ideal.Read.val_main_v23 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)),
    fun c => Cert.Reference19Ideal.Read.val_main_v34 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)),
    fun c => Cert.Reference19Ideal.Read.val_main_v45 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)),
    kept19 m g, (θ_run _ _ _).mono (fun r h c => ?_) (left19 m' g')⟩
  obtain ⟨a0, a1, a2, a3, p⟩ := h c
  obtain ⟨h0, h1, h2⟩ := hagree c
  rw [h0, h1] at a0
  rw [h0, h1] at a1
  rw [h0, h1] at a2
  rw [h0, h1] at a3
  exact ⟨a0, a1, a2, a3, p⟩

/-- The reference leaves its arguments and its counters as they were. -/
theorem still19 : Cert.quiescent_Reference19Ideal := fun m g _ =>
  (θ_run _ _ _).mono (fun r h => ⟨fun c => (h c).2.2.2.2, sem_eq_zero_of_no_sems (by decide) r.2⟩) (left19 m g)

end Cert.Proof

end
-- ==== Proof.Sum20.lean ====
module

public import proofs.«01_k».proof.Proof.Gen.Kernel20Ideal.Frame
public import proofs.«01_k».proof.Proof.Gen.Reference20Ideal.Read
public import proofs.«01_k».proof.Proof.Adam
public import Idealize.ShloMosaic.Lib.Pipeline.ValueKit

/-! The sums over the devices of the small gradients: the call's three arrays are the reference's sums. -/

@[expose] public section

set_option maxRecDepth 16384

noncomputable section

namespace Cert.Kernel20Ideal.Sum

open Cert.Kernel20Ideal Cert.Kernel20Ideal.Gen Cert.Adam Idealize.ShloMosaic Idealize.ShloMosaic.TcCoe Idealize.SL.Sem
open Cert.Reference20Ideal.Read
open Idealize.ShloMosaic.Pipeline (Dat)

variable (m : (ℓ : Loc nD τ sig) → Buf (Elt Ideal) ℓ)

abbrev A0 (c : Dev nD) : FVec Ideal S8x1280x128 .bf16 := m ((c : Thread nD τ).loc main_arg0)
abbrev A1 (c : Dev nD) : FVec Ideal S8x1280x128 .bf16 := m ((c : Thread nD τ).loc main_arg1)
abbrev A2 (c : Dev nD) : FVec Ideal S8x16x128 .f32 := m ((c : Thread nD τ).loc main_arg2)

/-- There is one point, and its blocks are the whole arrays. -/
theorem idx : ∀ t : Fin cfg0.N, win0_0.index t = ![0, 0, 0]
    ∧ win0_1.index t = ![0, 0, 0]
    ∧ win0_2.index t = ![0, 0, 0]
    ∧ win0_3.index t = ![0, 0]
    ∧ win0_4.index t = ![0, 0]
    ∧ win0_5.index t = ![0, 0] :=
  (by decide +kernel : ∀ t : Fin grid0.N, _)

/-! ## The sums of argument 0 -/

/-- One device's array, read out of the eight. -/
theorem part0_of (B : FVec Ideal S8x1280x128 .bf16) (t : Fin cfg0.N) (e : Nat) (he : e < 8)
    (inb : ∀ i, ![e, 0, 0] i + S1x1280x128.size i ≤ S8x1280x128.size i) (i : Fin 1) (r : Fin 1280) (d : Fin 128) :
    (show FVec Ideal S1x1280x128 .bf16 from View.ld (((cfg0.win 0).blk t).view.read (Elt Ideal) B) (Rect.unit ![e, 0, 0] ![1, 1280, 128] inb)) (ix3 i r d)
      = B (ix3 ⟨e, he⟩ r d) := by
  refine congrArg B ?_
  blk_ext [idx t]
  all_goals first
    | (show e + 1 * i.val = e; omega)
    | (show 0 + 1 * r.val = _; omega)
    | (show 0 + 1 * d.val = _; omega)

theorem pay0_at (b0 b1 b2 b3 b4 b5 b6 b7 : FVec Ideal S1x1280x128 .bf16) (r : Fin 1280) (d : Fin 128) :
    (k0_pay2 (F := Ideal) b0 b1 b2 b3 b4 b5 b6 b7 (ix2 r d) : EReal) = b0 (ix3 0 r d) + b1 (ix3 0 r d) + b2 (ix3 0 r d) + b3 (ix3 0 r d) + b4 (ix3 0 r d) + b5 (ix3 0 r d) + b6 (ix3 0 r d) + b7 (ix3 0 r d) := by
  pointwise [k0_pay2]

theorem ref0_at (B : FVec Ideal S8x1280x128 .bf16) (r : Fin 1280) (d : Fin 128) :
    (val_main_v1 (F := Ideal) B (ix2 r d) : EReal) = ∑ e : Fin 8, B (ix3 e r d) := by
  pointwise [val_main_v1, val_main_v0, val_main_cst]

theorem tile3 (c : Dev nD) (t : Fin cfg0.N) (r : Fin 1280) (d : Fin 128) :
    (out0_3 (iblk m c 0 t) (iblk m c 1 t) (iblk m c 2 t) (ix2 r d) : EReal) = val_main_v1 (F := Ideal) (A0 m c) (ix2 r d) := by
  rw [ref0_at, Fin.sum_univ_eight]
  unfold out0_3
  frame_out
  exact (pay0_at (View.ld (iblk m c 0 t) (Rect.unit ![0, 0, 0] ![1, 1280, 128] inb_S8x1280x128_S1x1280x128_0_0_0)) (View.ld (iblk m c 0 t) (Rect.unit ![1, 0, 0] ![1, 1280, 128] inb_S8x1280x128_S1x1280x128_1_0_0)) (View.ld (iblk m c 0 t) (Rect.unit ![2, 0, 0] ![1, 1280, 128] inb_S8x1280x128_S1x1280x128_2_0_0)) (View.ld (iblk m c 0 t) (Rect.unit ![3, 0, 0] ![1, 1280, 128] inb_S8x1280x128_S1x1280x128_3_0_0)) (View.ld (iblk m c 0 t) (Rect.unit ![4, 0, 0] ![1, 1280, 128] inb_S8x1280x128_S1x1280x128_4_0_0)) (View.ld (iblk m c 0 t) (Rect.unit ![5, 0, 0] ![1, 1280, 128] inb_S8x1280x128_S1x1280x128_5_0_0)) (View.ld (iblk m c 0 t) (Rect.unit ![6, 0, 0] ![1, 1280, 128] inb_S8x1280x128_S1x1280x128_6_0_0)) (View.ld (iblk m c 0 t) (Rect.unit ![7, 0, 0] ![1, 1280, 128] inb_S8x1280x128_S1x1280x128_7_0_0)) r d).trans (congrArg₂ (· + ·) (congrArg₂ (· + ·) (congrArg₂ (· + ·) (congrArg₂ (· + ·) (congrArg₂ (· + ·) (congrArg₂ (· + ·) (congrArg₂ (· + ·) (part0_of (A0 m c) t 0 (by omega) inb_S8x1280x128_S1x1280x128_0_0_0 0 r d) (part0_of (A0 m c) t 1 (by omega) inb_S8x1280x128_S1x1280x128_1_0_0 0 r d)) (part0_of (A0 m c) t 2 (by omega) inb_S8x1280x128_S1x1280x128_2_0_0 0 r d)) (part0_of (A0 m c) t 3 (by omega) inb_S8x1280x128_S1x1280x128_3_0_0 0 r d)) (part0_of (A0 m c) t 4 (by omega) inb_S8x1280x128_S1x1280x128_4_0_0 0 r d)) (part0_of (A0 m c) t 5 (by omega) inb_S8x1280x128_S1x1280x128_5_0_0 0 r d)) (part0_of (A0 m c) t 6 (by omega) inb_S8x1280x128_S1x1280x128_6_0_0 0 r d)) (part0_of (A0 m c) t 7 (by omega) inb_S8x1280x128_S1x1280x128_7_0_0 0 r d))

theorem all3 (c : Dev nD) (t : Fin cfg0.N) (y : S1280x128.Idx) :
    (out0_3 (iblk m c 0 t) (iblk m c 1 t) (iblk m c 2 t) y : EReal) = val_main_v1 (F := Ideal) (A0 m c) y := by
  rw [split2 y]
  exact tile3 m c t (y 0) (y 1)

theorem final3 (c : Dev nD) : (dats m 0 c).arrAt 3 (cfgs 0).N = val_main_v1 (F := Ideal) (A0 m c) := by
  refine (dats m 0 c).arrAt_eq_of_covers 3 _ (by decide +kernel) fun t hf y => ?_
  blk_simp
  rw [after0_3]
  have a := all3 m c t
  generalize out0_3 (iblk m c 0 t) (iblk m c 1 t) (iblk m c 2 t) = q at a ⊢
  have e : (win0_3.blk t).view.emb y = y := by
    blk_ext [idx t]
  exact (a y).trans (congrArg (val_main_v1 (F := Ideal) (A0 m c)) e).symm

/-! ## The sums of argument 1 -/

/-- One device's array, read out of the eight. -/
theorem part1_of (B : FVec Ideal S8x1280x128 .bf16) (t : Fin cfg0.N) (e : Nat) (he : e < 8)
    (inb : ∀ i, ![e, 0, 0] i + S1x1280x128.size i ≤ S8x1280x128.size i) (i : Fin 1) (r : Fin 1280) (d : Fin 128) :
    (show FVec Ideal S1x1280x128 .bf16 from View.ld (((cfg0.win 1).blk t).view.read (Elt Ideal) B) (Rect.unit ![e, 0, 0] ![1, 1280, 128] inb)) (ix3 i r d)
      = B (ix3 ⟨e, he⟩ r d) := by
  refine congrArg B ?_
  blk_ext [idx t]
  all_goals first
    | (show e + 1 * i.val = e; omega)
    | (show 0 + 1 * r.val = _; omega)
    | (show 0 + 1 * d.val = _; omega)

theorem pay1_at (b0 b1 b2 b3 b4 b5 b6 b7 : FVec Ideal S1x1280x128 .bf16) (r : Fin 1280) (d : Fin 128) :
    (k0_pay3 (F := Ideal) b0 b1 b2 b3 b4 b5 b6 b7 (ix2 r d) : EReal) = b0 (ix3 0 r d) + b1 (ix3 0 r d) + b2 (ix3 0 r d) + b3 (ix3 0 r d) + b4 (ix3 0 r d) + b5 (ix3 0 r d) + b6 (ix3 0 r d) + b7 (ix3 0 r d) := by
  pointwise [k0_pay3]

theorem ref1_at (B : FVec Ideal S8x1280x128 .bf16) (r : Fin 1280) (d : Fin 128) :
    (val_main_v3 (F := Ideal) B (ix2 r d) : EReal) = ∑ e : Fin 8, B (ix3 e r d) := by
  pointwise [val_main_v3, val_main_v2, val_main_cst_0]

theorem tile4 (c : Dev nD) (t : Fin cfg0.N) (r : Fin 1280) (d : Fin 128) :
    (out0_4 (iblk m c 0 t) (iblk m c 1 t) (iblk m c 2 t) (ix2 r d) : EReal) = val_main_v3 (F := Ideal) (A1 m c) (ix2 r d) := by
  rw [ref1_at, Fin.sum_univ_eight]
  unfold out0_4
  frame_out
  exact (pay1_at (View.ld (iblk m c 1 t) (Rect.unit ![0, 0, 0] ![1, 1280, 128] inb_S8x1280x128_S1x1280x128_0_0_0)) (View.ld (iblk m c 1 t) (Rect.unit ![1, 0, 0] ![1, 1280, 128] inb_S8x1280x128_S1x1280x128_1_0_0)) (View.ld (iblk m c 1 t) (Rect.unit ![2, 0, 0] ![1, 1280, 128] inb_S8x1280x128_S1x1280x128_2_0_0)) (View.ld (iblk m c 1 t) (Rect.unit ![3, 0, 0] ![1, 1280, 128] inb_S8x1280x128_S1x1280x128_3_0_0)) (View.ld (iblk m c 1 t) (Rect.unit ![4, 0, 0] ![1, 1280, 128] inb_S8x1280x128_S1x1280x128_4_0_0)) (View.ld (iblk m c 1 t) (Rect.unit ![5, 0, 0] ![1, 1280, 128] inb_S8x1280x128_S1x1280x128_5_0_0)) (View.ld (iblk m c 1 t) (Rect.unit ![6, 0, 0] ![1, 1280, 128] inb_S8x1280x128_S1x1280x128_6_0_0)) (View.ld (iblk m c 1 t) (Rect.unit ![7, 0, 0] ![1, 1280, 128] inb_S8x1280x128_S1x1280x128_7_0_0)) r d).trans (congrArg₂ (· + ·) (congrArg₂ (· + ·) (congrArg₂ (· + ·) (congrArg₂ (· + ·) (congrArg₂ (· + ·) (congrArg₂ (· + ·) (congrArg₂ (· + ·) (part1_of (A1 m c) t 0 (by omega) inb_S8x1280x128_S1x1280x128_0_0_0 0 r d) (part1_of (A1 m c) t 1 (by omega) inb_S8x1280x128_S1x1280x128_1_0_0 0 r d)) (part1_of (A1 m c) t 2 (by omega) inb_S8x1280x128_S1x1280x128_2_0_0 0 r d)) (part1_of (A1 m c) t 3 (by omega) inb_S8x1280x128_S1x1280x128_3_0_0 0 r d)) (part1_of (A1 m c) t 4 (by omega) inb_S8x1280x128_S1x1280x128_4_0_0 0 r d)) (part1_of (A1 m c) t 5 (by omega) inb_S8x1280x128_S1x1280x128_5_0_0 0 r d)) (part1_of (A1 m c) t 6 (by omega) inb_S8x1280x128_S1x1280x128_6_0_0 0 r d)) (part1_of (A1 m c) t 7 (by omega) inb_S8x1280x128_S1x1280x128_7_0_0 0 r d))

theorem all4 (c : Dev nD) (t : Fin cfg0.N) (y : S1280x128.Idx) :
    (out0_4 (iblk m c 0 t) (iblk m c 1 t) (iblk m c 2 t) y : EReal) = val_main_v3 (F := Ideal) (A1 m c) y := by
  rw [split2 y]
  exact tile4 m c t (y 0) (y 1)

theorem final4 (c : Dev nD) : (dats m 0 c).arrAt 4 (cfgs 0).N = val_main_v3 (F := Ideal) (A1 m c) := by
  refine (dats m 0 c).arrAt_eq_of_covers 4 _ (by decide +kernel) fun t hf y => ?_
  blk_simp
  rw [after0_4]
  have a := all4 m c t
  generalize out0_4 (iblk m c 0 t) (iblk m c 1 t) (iblk m c 2 t) = q at a ⊢
  have e : (win0_4.blk t).view.emb y = y := by
    blk_ext [idx t]
  exact (a y).trans (congrArg (val_main_v3 (F := Ideal) (A1 m c)) e).symm

end Cert.Kernel20Ideal.Sum

end
-- ==== Proof.Tail20.lean ====
module

public import proofs.«01_k».proof.Proof.Sum20

/-! What the host makes of the three sums: the same small gradients out of the call's sums as out of the reference's. -/

@[expose] public section

set_option maxRecDepth 16384

noncomputable section

namespace Cert.Kernel20Ideal.Sum

open Cert.Kernel20Ideal Cert.Kernel20Ideal.Gen Idealize.ShloMosaic Idealize.ShloMosaic.TcCoe Idealize.SL.Sem
open Cert.Reference20Ideal.Read

section

variable (W : Valuation τ sig (Elt Ideal)) (x0 x1 : FVec Ideal S8x1280x128 .bf16) (x2 : FVec Ideal S8x16x128 .f32)

theorem tail11 (h0 : W (Proc.devRef .tc main_v0_0) = val_main_v1 (F := Ideal) x0) (h1 : W (Proc.devRef .tc main_v0_1) = val_main_v3 (F := Ideal) x1) :
    StableHlo.after hostOps1 W (Proc.devRef .tc main_v11) = val_main_v14 (F := Ideal) x0 x1 := by
  after_results
  rw [h0, h1]
  rfl

theorem tail22 (h0 : W (Proc.devRef .tc main_v0_0) = val_main_v1 (F := Ideal) x0) (h1 : W (Proc.devRef .tc main_v0_1) = val_main_v3 (F := Ideal) x1) :
    StableHlo.after hostOps1 W (Proc.devRef .tc main_v22) = val_main_v25 (F := Ideal) x0 x1 := by
  after_results
  rw [h0, h1]
  rfl

theorem tail31 (h0 : W (Proc.devRef .tc main_v0_0) = val_main_v1 (F := Ideal) x0) (h1 : W (Proc.devRef .tc main_v0_1) = val_main_v3 (F := Ideal) x1) :
    StableHlo.after hostOps1 W (Proc.devRef .tc main_v31) = val_main_v34 (F := Ideal) x0 x1 := by
  after_results
  rw [h0, h1]
  rfl

theorem tail44 (h0 : W (Proc.devRef .tc main_v0_0) = val_main_v1 (F := Ideal) x0) (h1 : W (Proc.devRef .tc main_v0_1) = val_main_v3 (F := Ideal) x1) :
    StableHlo.after hostOps1 W (Proc.devRef .tc main_v44) = val_main_v47 (F := Ideal) x0 x1 := by
  after_results
  rw [h0, h1]
  rfl

end

variable (m : (ℓ : Loc nD τ sig) → Buf (Elt Ideal) ℓ)

/-- The arrays the host starts from after the call. -/
abbrev W (c : Dev nD) : Valuation τ sig (Elt Ideal) :=
  Pipeline.withArrays spec0 c (V0 m c) fun w => (dats m 0 c).arrAt w (cfgs 0).N

theorem W_0 (c : Dev nD) : W m c (Proc.devRef .tc main_v0_0) = val_main_v1 (F := Ideal) (A0 m c) :=
  (Pipeline.withArrays_arr spec0 (by decide) c (V0 m c) (fun w => (dats m 0 c).arrAt w (cfgs 0).N) 3).trans (final3 m c)

theorem W_1 (c : Dev nD) : W m c (Proc.devRef .tc main_v0_1) = val_main_v3 (F := Ideal) (A1 m c) :=
  (Pipeline.withArrays_arr spec0 (by decide) c (V0 m c) (fun w => (dats m 0 c).arrAt w (cfgs 0).N) 4).trans (final4 m c)

theorem after_tail (c : Dev nD) (b : Ref sig .tc) :
    Pipeline.afterTail₀ cfgs (dats m) 0 (V0 m) [hostOps1] c b = StableHlo.after hostOps1 (W m c) (Proc.devRef .tc b) := by
  show StableHlo.after [hostOps1].flatten _ _ = _
  rw [List.flatten_cons, List.flatten_nil, List.append_nil]

end Cert.Kernel20Ideal.Sum

end
-- ==== Proof.Claims20.lean ====
module

public import proofs.«01_k».proof.Defs
public import proofs.«01_k».proof.Proof.Gen.Kernel20Ideal
public import proofs.«01_k».proof.Proof.Gen.Reference20Ideal
public import proofs.«01_k».proof.Proof.Gen.Reference20Ideal.Run
public import proofs.«01_k».proof.Proof.Gen.Reference20Ideal.Read
public import proofs.«01_k».proof.Proof.Tail20

/-! The gradients of the spatial gate and its norm, summed over the devices: the call with what the host makes of its arrays, and its
reference, end with the same four arrays. -/

@[expose] public section

set_option maxRecDepth 16384

noncomputable section

namespace Cert.Proof

open Idealize.ShloMosaic Idealize.ShloMosaic.TcCoe Idealize.SL.Sem

section

open Cert.Reference20Ideal Cert.Reference20Ideal.Read

/-- What the reference leaves, by the names of its values. -/
theorem left20 (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v14) = val_main_v14 (F := Ideal) (m' ((c.tc : Thread nD τ).loc main_arg0)) (m' ((c.tc : Thread nD τ).loc main_arg1))
      ∧ r.2.mem ((c.tc : Thread nD τ).loc main_v25) = val_main_v25 (F := Ideal) (m' ((c.tc : Thread nD τ).loc main_arg0)) (m' ((c.tc : Thread nD τ).loc main_arg1))
      ∧ r.2.mem ((c.tc : Thread nD τ).loc main_v34) = val_main_v34 (F := Ideal) (m' ((c.tc : Thread nD τ).loc main_arg0)) (m' ((c.tc : Thread nD τ).loc main_arg1))
      ∧ r.2.mem ((c.tc : Thread nD τ).loc main_v47) = val_main_v47 (F := Ideal) (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) := by
  refine (θ_run _ _ _).mono (fun r h c => ?_) (Cert.Reference20Ideal.Value.run m' g')
  obtain ⟨a0, a1, a2, a3, p⟩ := h c
  exact ⟨a0.trans (val_main_v14_eq _ _), a1.trans (val_main_v25_eq _ _), a2.trans (val_main_v34_eq _ _), a3.trans (val_main_v47_eq _ _), p⟩

end

section

open Cert.Kernel20Ideal Cert.Kernel20Ideal.Gen Cert.Kernel20Ideal.Sum Cert.Reference20Ideal.Read

/-- What the call and the host after it leave in the results, by the names of the reference's values. -/
theorem kept20 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v11) = val_main_v14 (F := Ideal) (m ((c.tc : Thread nD τ).loc main_arg0)) (m ((c.tc : Thread nD τ).loc main_arg1))
      ∧ r.2.mem ((c.tc : Thread nD τ).loc main_v22) = val_main_v25 (F := Ideal) (m ((c.tc : Thread nD τ).loc main_arg0)) (m ((c.tc : Thread nD τ).loc main_arg1))
      ∧ r.2.mem ((c.tc : Thread nD τ).loc main_v31) = val_main_v34 (F := Ideal) (m ((c.tc : Thread nD τ).loc main_arg0)) (m ((c.tc : Thread nD τ).loc main_arg1))
      ∧ r.2.mem ((c.tc : Thread nD τ).loc main_v44) = val_main_v47 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨((h.1 c).2 main_v11 (by decide)).trans ((after_tail m c main_v11).trans (tail11 (W m c) _ _ (W_0 m c) (W_1 m c))),
    ((h.1 c).2 main_v22 (by decide)).trans ((after_tail m c main_v22).trans (tail22 (W m c) _ _ (W_0 m c) (W_1 m c))),
    ((h.1 c).2 main_v31 (by decide)).trans ((after_tail m c main_v31).trans (tail31 (W m c) _ _ (W_0 m c) (W_1 m c))),
    ((h.1 c).2 main_v44 (by decide)).trans ((after_tail m c main_v44).trans (tail44 (W m c) _ _ (W_0 m c) (W_1 m c))),
    h.2 c⟩) (θ_run_and (run_main m g) (unchanged m g))

end

/-- From equal arguments the call and its reference leave equal results. -/
theorem same20 : Cert.algebraic_Kernel20Ideal_Reference20Ideal := by
  intro m g m' g' hpre hagree
  refine ⟨fun c => Cert.Reference20Ideal.Read.val_main_v14 (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)),
    fun c => Cert.Reference20Ideal.Read.val_main_v25 (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)),
    fun c => Cert.Reference20Ideal.Read.val_main_v34 (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)),
    fun c => Cert.Reference20Ideal.Read.val_main_v47 (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)),
    kept20 m g, (θ_run _ _ _).mono (fun r h c => ?_) (left20 m' g')⟩
  obtain ⟨a0, a1, a2, a3, p⟩ := h c
  obtain ⟨h0, h1, h2⟩ := hagree c
  rw [h0, h1] at a0
  rw [h0, h1] at a1
  rw [h0, h1] at a2
  rw [h0, h1] at a3
  exact ⟨a0, a1, a2, a3, p⟩

/-- The reference leaves its arguments and its counters as they were. -/
theorem still20 : Cert.quiescent_Reference20Ideal := fun m g _ =>
  (θ_run _ _ _).mono (fun r h => ⟨fun c => (h c).2.2.2.2, sem_eq_zero_of_no_sems (by decide) r.2⟩) (left20 m g)

end Cert.Proof

end
-- ==== Proof.Sum21.lean ====
module

public import proofs.«01_k».proof.Proof.Gen.Kernel21Ideal.Frame
public import proofs.«01_k».proof.Proof.Gen.Reference21Ideal.Read
public import proofs.«01_k».proof.Proof.Adam
public import Idealize.ShloMosaic.Lib.Pipeline.ValueKit

/-! The sums over the devices of the small gradients: the call's three arrays are the reference's sums. -/

@[expose] public section

set_option maxRecDepth 16384

noncomputable section

namespace Cert.Kernel21Ideal.Sum

open Cert.Kernel21Ideal Cert.Kernel21Ideal.Gen Cert.Adam Idealize.ShloMosaic Idealize.ShloMosaic.TcCoe Idealize.SL.Sem
open Cert.Reference21Ideal.Read
open Idealize.ShloMosaic.Pipeline (Dat)

variable (m : (ℓ : Loc nD τ sig) → Buf (Elt Ideal) ℓ)

abbrev A0 (c : Dev nD) : FVec Ideal S8x1280x128 .bf16 := m ((c : Thread nD τ).loc main_arg0)
abbrev A1 (c : Dev nD) : FVec Ideal S8x1280x128 .bf16 := m ((c : Thread nD τ).loc main_arg1)
abbrev A2 (c : Dev nD) : FVec Ideal S8x16x128 .f32 := m ((c : Thread nD τ).loc main_arg2)

/-- There is one point, and its blocks are the whole arrays. -/
theorem idx : ∀ t : Fin cfg0.N, win0_0.index t = ![0, 0, 0]
    ∧ win0_1.index t = ![0, 0, 0]
    ∧ win0_2.index t = ![0, 0, 0]
    ∧ win0_3.index t = ![0, 0]
    ∧ win0_4.index t = ![0, 0]
    ∧ win0_5.index t = ![0, 0] :=
  (by decide +kernel : ∀ t : Fin grid0.N, _)

/-! ## The sums of argument 0 -/

/-- One device's array, read out of the eight. -/
theorem part0_of (B : FVec Ideal S8x1280x128 .bf16) (t : Fin cfg0.N) (e : Nat) (he : e < 8)
    (inb : ∀ i, ![e, 0, 0] i + S1x1280x128.size i ≤ S8x1280x128.size i) (i : Fin 1) (r : Fin 1280) (d : Fin 128) :
    (show FVec Ideal S1x1280x128 .bf16 from View.ld (((cfg0.win 0).blk t).view.read (Elt Ideal) B) (Rect.unit ![e, 0, 0] ![1, 1280, 128] inb)) (ix3 i r d)
      = B (ix3 ⟨e, he⟩ r d) := by
  refine congrArg B ?_
  blk_ext [idx t]
  all_goals first
    | (show e + 1 * i.val = e; omega)
    | (show 0 + 1 * r.val = _; omega)
    | (show 0 + 1 * d.val = _; omega)

theorem pay0_at (b0 b1 b2 b3 b4 b5 b6 b7 : FVec Ideal S1x1280x128 .bf16) (r : Fin 1280) (d : Fin 128) :
    (k0_pay2 (F := Ideal) b0 b1 b2 b3 b4 b5 b6 b7 (ix2 r d) : EReal) = b0 (ix3 0 r d) + b1 (ix3 0 r d) + b2 (ix3 0 r d) + b3 (ix3 0 r d) + b4 (ix3 0 r d) + b5 (ix3 0 r d) + b6 (ix3 0 r d) + b7 (ix3 0 r d) := by
  pointwise [k0_pay2]

theorem ref0_at (B : FVec Ideal S8x1280x128 .bf16) (r : Fin 1280) (d : Fin 128) :
    (val_main_v1 (F := Ideal) B (ix2 r d) : EReal) = ∑ e : Fin 8, B (ix3 e r d) := by
  pointwise [val_main_v1, val_main_v0, val_main_cst]

theorem tile3 (c : Dev nD) (t : Fin cfg0.N) (r : Fin 1280) (d : Fin 128) :
    (out0_3 (iblk m c 0 t) (iblk m c 1 t) (iblk m c 2 t) (ix2 r d) : EReal) = val_main_v1 (F := Ideal) (A0 m c) (ix2 r d) := by
  rw [ref0_at, Fin.sum_univ_eight]
  unfold out0_3
  frame_out
  exact (pay0_at (View.ld (iblk m c 0 t) (Rect.unit ![0, 0, 0] ![1, 1280, 128] inb_S8x1280x128_S1x1280x128_0_0_0)) (View.ld (iblk m c 0 t) (Rect.unit ![1, 0, 0] ![1, 1280, 128] inb_S8x1280x128_S1x1280x128_1_0_0)) (View.ld (iblk m c 0 t) (Rect.unit ![2, 0, 0] ![1, 1280, 128] inb_S8x1280x128_S1x1280x128_2_0_0)) (View.ld (iblk m c 0 t) (Rect.unit ![3, 0, 0] ![1, 1280, 128] inb_S8x1280x128_S1x1280x128_3_0_0)) (View.ld (iblk m c 0 t) (Rect.unit ![4, 0, 0] ![1, 1280, 128] inb_S8x1280x128_S1x1280x128_4_0_0)) (View.ld (iblk m c 0 t) (Rect.unit ![5, 0, 0] ![1, 1280, 128] inb_S8x1280x128_S1x1280x128_5_0_0)) (View.ld (iblk m c 0 t) (Rect.unit ![6, 0, 0] ![1, 1280, 128] inb_S8x1280x128_S1x1280x128_6_0_0)) (View.ld (iblk m c 0 t) (Rect.unit ![7, 0, 0] ![1, 1280, 128] inb_S8x1280x128_S1x1280x128_7_0_0)) r d).trans (congrArg₂ (· + ·) (congrArg₂ (· + ·) (congrArg₂ (· + ·) (congrArg₂ (· + ·) (congrArg₂ (· + ·) (congrArg₂ (· + ·) (congrArg₂ (· + ·) (part0_of (A0 m c) t 0 (by omega) inb_S8x1280x128_S1x1280x128_0_0_0 0 r d) (part0_of (A0 m c) t 1 (by omega) inb_S8x1280x128_S1x1280x128_1_0_0 0 r d)) (part0_of (A0 m c) t 2 (by omega) inb_S8x1280x128_S1x1280x128_2_0_0 0 r d)) (part0_of (A0 m c) t 3 (by omega) inb_S8x1280x128_S1x1280x128_3_0_0 0 r d)) (part0_of (A0 m c) t 4 (by omega) inb_S8x1280x128_S1x1280x128_4_0_0 0 r d)) (part0_of (A0 m c) t 5 (by omega) inb_S8x1280x128_S1x1280x128_5_0_0 0 r d)) (part0_of (A0 m c) t 6 (by omega) inb_S8x1280x128_S1x1280x128_6_0_0 0 r d)) (part0_of (A0 m c) t 7 (by omega) inb_S8x1280x128_S1x1280x128_7_0_0 0 r d))

theorem all3 (c : Dev nD) (t : Fin cfg0.N) (y : S1280x128.Idx) :
    (out0_3 (iblk m c 0 t) (iblk m c 1 t) (iblk m c 2 t) y : EReal) = val_main_v1 (F := Ideal) (A0 m c) y := by
  rw [split2 y]
  exact tile3 m c t (y 0) (y 1)

theorem final3 (c : Dev nD) : (dats m 0 c).arrAt 3 (cfgs 0).N = val_main_v1 (F := Ideal) (A0 m c) := by
  refine (dats m 0 c).arrAt_eq_of_covers 3 _ (by decide +kernel) fun t hf y => ?_
  blk_simp
  rw [after0_3]
  have a := all3 m c t
  generalize out0_3 (iblk m c 0 t) (iblk m c 1 t) (iblk m c 2 t) = q at a ⊢
  have e : (win0_3.blk t).view.emb y = y := by
    blk_ext [idx t]
  exact (a y).trans (congrArg (val_main_v1 (F := Ideal) (A0 m c)) e).symm

/-! ## The sums of argument 1 -/

/-- One device's array, read out of the eight. -/
theorem part1_of (B : FVec Ideal S8x1280x128 .bf16) (t : Fin cfg0.N) (e : Nat) (he : e < 8)
    (inb : ∀ i, ![e, 0, 0] i + S1x1280x128.size i ≤ S8x1280x128.size i) (i : Fin 1) (r : Fin 1280) (d : Fin 128) :
    (show FVec Ideal S1x1280x128 .bf16 from View.ld (((cfg0.win 1).blk t).view.read (Elt Ideal) B) (Rect.unit ![e, 0, 0] ![1, 1280, 128] inb)) (ix3 i r d)
      = B (ix3 ⟨e, he⟩ r d) := by
  refine congrArg B ?_
  blk_ext [idx t]
  all_goals first
    | (show e + 1 * i.val = e; omega)
    | (show 0 + 1 * r.val = _; omega)
    | (show 0 + 1 * d.val = _; omega)

theorem pay1_at (b0 b1 b2 b3 b4 b5 b6 b7 : FVec Ideal S1x1280x128 .bf16) (r : Fin 1280) (d : Fin 128) :
    (k0_pay3 (F := Ideal) b0 b1 b2 b3 b4 b5 b6 b7 (ix2 r d) : EReal) = b0 (ix3 0 r d) + b1 (ix3 0 r d) + b2 (ix3 0 r d) + b3 (ix3 0 r d) + b4 (ix3 0 r d) + b5 (ix3 0 r d) + b6 (ix3 0 r d) + b7 (ix3 0 r d) := by
  pointwise [k0_pay3]

theorem ref1_at (B : FVec Ideal S8x1280x128 .bf16) (r : Fin 1280) (d : Fin 128) :
    (val_main_v3 (F := Ideal) B (ix2 r d) : EReal) = ∑ e : Fin 8, B (ix3 e r d) := by
  pointwise [val_main_v3, val_main_v2, val_main_cst_0]

theorem tile4 (c : Dev nD) (t : Fin cfg0.N) (r : Fin 1280) (d : Fin 128) :
    (out0_4 (iblk m c 0 t) (iblk m c 1 t) (iblk m c 2 t) (ix2 r d) : EReal) = val_main_v3 (F := Ideal) (A1 m c) (ix2 r d) := by
  rw [ref1_at, Fin.sum_univ_eight]
  unfold out0_4
  frame_out
  exact (pay1_at (View.ld (iblk m c 1 t) (Rect.unit ![0, 0, 0] ![1, 1280, 128] inb_S8x1280x128_S1x1280x128_0_0_0)) (View.ld (iblk m c 1 t) (Rect.unit ![1, 0, 0] ![1, 1280, 128] inb_S8x1280x128_S1x1280x128_1_0_0)) (View.ld (iblk m c 1 t) (Rect.unit ![2, 0, 0] ![1, 1280, 128] inb_S8x1280x128_S1x1280x128_2_0_0)) (View.ld (iblk m c 1 t) (Rect.unit ![3, 0, 0] ![1, 1280, 128] inb_S8x1280x128_S1x1280x128_3_0_0)) (View.ld (iblk m c 1 t) (Rect.unit ![4, 0, 0] ![1, 1280, 128] inb_S8x1280x128_S1x1280x128_4_0_0)) (View.ld (iblk m c 1 t) (Rect.unit ![5, 0, 0] ![1, 1280, 128] inb_S8x1280x128_S1x1280x128_5_0_0)) (View.ld (iblk m c 1 t) (Rect.unit ![6, 0, 0] ![1, 1280, 128] inb_S8x1280x128_S1x1280x128_6_0_0)) (View.ld (iblk m c 1 t) (Rect.unit ![7, 0, 0] ![1, 1280, 128] inb_S8x1280x128_S1x1280x128_7_0_0)) r d).trans (congrArg₂ (· + ·) (congrArg₂ (· + ·) (congrArg₂ (· + ·) (congrArg₂ (· + ·) (congrArg₂ (· + ·) (congrArg₂ (· + ·) (congrArg₂ (· + ·) (part1_of (A1 m c) t 0 (by omega) inb_S8x1280x128_S1x1280x128_0_0_0 0 r d) (part1_of (A1 m c) t 1 (by omega) inb_S8x1280x128_S1x1280x128_1_0_0 0 r d)) (part1_of (A1 m c) t 2 (by omega) inb_S8x1280x128_S1x1280x128_2_0_0 0 r d)) (part1_of (A1 m c) t 3 (by omega) inb_S8x1280x128_S1x1280x128_3_0_0 0 r d)) (part1_of (A1 m c) t 4 (by omega) inb_S8x1280x128_S1x1280x128_4_0_0 0 r d)) (part1_of (A1 m c) t 5 (by omega) inb_S8x1280x128_S1x1280x128_5_0_0 0 r d)) (part1_of (A1 m c) t 6 (by omega) inb_S8x1280x128_S1x1280x128_6_0_0 0 r d)) (part1_of (A1 m c) t 7 (by omega) inb_S8x1280x128_S1x1280x128_7_0_0 0 r d))

theorem all4 (c : Dev nD) (t : Fin cfg0.N) (y : S1280x128.Idx) :
    (out0_4 (iblk m c 0 t) (iblk m c 1 t) (iblk m c 2 t) y : EReal) = val_main_v3 (F := Ideal) (A1 m c) y := by
  rw [split2 y]
  exact tile4 m c t (y 0) (y 1)

theorem final4 (c : Dev nD) : (dats m 0 c).arrAt 4 (cfgs 0).N = val_main_v3 (F := Ideal) (A1 m c) := by
  refine (dats m 0 c).arrAt_eq_of_covers 4 _ (by decide +kernel) fun t hf y => ?_
  blk_simp
  rw [after0_4]
  have a := all4 m c t
  generalize out0_4 (iblk m c 0 t) (iblk m c 1 t) (iblk m c 2 t) = q at a ⊢
  have e : (win0_4.blk t).view.emb y = y := by
    blk_ext [idx t]
  exact (a y).trans (congrArg (val_main_v3 (F := Ideal) (A1 m c)) e).symm

end Cert.Kernel21Ideal.Sum

end
-- ==== Proof.Tail21.lean ====
module

public import proofs.«01_k».proof.Proof.Sum21

/-! What the host makes of the three sums: the same small gradients out of the call's sums as out of the reference's. -/

@[expose] public section

set_option maxRecDepth 16384

noncomputable section

namespace Cert.Kernel21Ideal.Sum

open Cert.Kernel21Ideal Cert.Kernel21Ideal.Gen Idealize.ShloMosaic Idealize.ShloMosaic.TcCoe Idealize.SL.Sem
open Cert.Reference21Ideal.Read

section

variable (W : Valuation τ sig (Elt Ideal)) (x0 x1 : FVec Ideal S8x1280x128 .bf16) (x2 : FVec Ideal S8x16x128 .f32)

/-- Four blocks as one array. -/
def four15 (a : (main_v11 : Ref sig .tc).ty.Contents (Elt Ideal)) (b : (main_v12 : Ref sig .tc).ty.Contents (Elt Ideal))
    (c : (main_v13 : Ref sig .tc).ty.Contents (Elt Ideal)) (d : (main_v14 : Ref sig .tc).ty.Contents (Elt Ideal)) :
    (main_v15 : Ref sig .tc).ty.Contents (Elt Ideal) :=
  concatenate S4x64x64 0 [⟨S1x64x64, (a : (⟨S1x64x64, .f32⟩ : BufTy).Contents (Elt Ideal))⟩, ⟨S1x64x64, (b : (⟨S1x64x64, .f32⟩ : BufTy).Contents (Elt Ideal))⟩,
    ⟨S1x64x64, (c : (⟨S1x64x64, .f32⟩ : BufTy).Contents (Elt Ideal))⟩, ⟨S1x64x64, (d : (⟨S1x64x64, .f32⟩ : BufTy).Contents (Elt Ideal))⟩] concatenates_S1x64x64_S1x64x64_S1x64x64_S1x64x64_S4x64x64_d0

/-- Four blocks as one array. -/
def four24 (a : (main_v20 : Ref sig .tc).ty.Contents (Elt Ideal)) (b : (main_v21 : Ref sig .tc).ty.Contents (Elt Ideal))
    (c : (main_v22 : Ref sig .tc).ty.Contents (Elt Ideal)) (d : (main_v23 : Ref sig .tc).ty.Contents (Elt Ideal)) :
    (main_v24 : Ref sig .tc).ty.Contents (Elt Ideal) :=
  concatenate S4x64x64 0 [⟨S1x64x64, (a : (⟨S1x64x64, .f32⟩ : BufTy).Contents (Elt Ideal))⟩, ⟨S1x64x64, (b : (⟨S1x64x64, .f32⟩ : BufTy).Contents (Elt Ideal))⟩,
    ⟨S1x64x64, (c : (⟨S1x64x64, .f32⟩ : BufTy).Contents (Elt Ideal))⟩, ⟨S1x64x64, (d : (⟨S1x64x64, .f32⟩ : BufTy).Contents (Elt Ideal))⟩] concatenates_S1x64x64_S1x64x64_S1x64x64_S1x64x64_S4x64x64_d0

theorem step15 : (StableHlo.nary ![main_v11, main_v12, main_v13, main_v14] main_v15 (fun u => (concatenate S4x64x64 0 [⟨S1x64x64, (u 0 : (⟨S1x64x64, .f32⟩ : BufTy).Contents (Elt Ideal))⟩, ⟨S1x64x64, (u 1 : (⟨S1x64x64, .f32⟩ : BufTy).Contents (Elt Ideal))⟩, ⟨S1x64x64, (u 2 : (⟨S1x64x64, .f32⟩ : BufTy).Contents (Elt Ideal))⟩, ⟨S1x64x64, (u 3 : (⟨S1x64x64, .f32⟩ : BufTy).Contents (Elt Ideal))⟩]
      concatenates_S1x64x64_S1x64x64_S1x64x64_S1x64x64_S4x64x64_d0 : (⟨S4x64x64, .f32⟩ : BufTy).Contents (Elt Ideal))) : HloOp τ sig (Elt Ideal))
    = StableHlo.nary ![main_v11, main_v12, main_v13, main_v14] main_v15 (fun u => four15 (u 0) (u 1) (u 2) (u 3)) := rfl

theorem step24 : (StableHlo.nary ![main_v20, main_v21, main_v22, main_v23] main_v24 (fun u => (concatenate S4x64x64 0 [⟨S1x64x64, (u 0 : (⟨S1x64x64, .f32⟩ : BufTy).Contents (Elt Ideal))⟩, ⟨S1x64x64, (u 1 : (⟨S1x64x64, .f32⟩ : BufTy).Contents (Elt Ideal))⟩, ⟨S1x64x64, (u 2 : (⟨S1x64x64, .f32⟩ : BufTy).Contents (Elt Ideal))⟩, ⟨S1x64x64, (u 3 : (⟨S1x64x64, .f32⟩ : BufTy).Contents (Elt Ideal))⟩]
      concatenates_S1x64x64_S1x64x64_S1x64x64_S1x64x64_S4x64x64_d0 : (⟨S4x64x64, .f32⟩ : BufTy).Contents (Elt Ideal))) : HloOp τ sig (Elt Ideal))
    = StableHlo.nary ![main_v20, main_v21, main_v22, main_v23] main_v24 (fun u => four24 (u 0) (u 1) (u 2) (u 3)) := rfl

/-- The two layers as one array. -/
def two27 (a b : (⟨S1x4x64x64, .f32⟩ : BufTy).Contents (Elt Ideal)) : (⟨S2x4x64x64, .f32⟩ : BufTy).Contents (Elt Ideal) :=
  concatenate S2x4x64x64 0 [⟨S1x4x64x64, a⟩, ⟨S1x4x64x64, b⟩] concatenates_S1x4x64x64_S1x4x64x64_S2x4x64x64_d0

theorem step27 : (StableHlo.binary main_v25 main_v26 main_v27 ((fun a b => concatenate S2x4x64x64 0 [⟨S1x4x64x64, a⟩, ⟨S1x4x64x64, b⟩]
      concatenates_S1x4x64x64_S1x4x64x64_S2x4x64x64_d0) : (⟨S1x4x64x64, .f32⟩ : BufTy).Contents (Elt Ideal) → (⟨S1x4x64x64, .f32⟩ : BufTy).Contents (Elt Ideal) → (⟨S2x4x64x64, .f32⟩ : BufTy).Contents (Elt Ideal)) : HloOp τ sig (Elt Ideal))
    = StableHlo.binary main_v25 main_v26 main_v27 two27 := rfl

theorem tail27 (h0 : W (Proc.devRef .tc main_v0_0) = val_main_v1 (F := Ideal) x0) (h1 : W (Proc.devRef .tc main_v0_1) = val_main_v3 (F := Ideal) x1) :
    StableHlo.after hostOps1 W (Proc.devRef .tc main_v27) = val_main_v30 (F := Ideal) x0 x1 := by
  simp only [hostOps1, step15, step24, step27, StableHlo.after_cons, StableHlo.after_nil]
  after_results_simp
  dsimp only [Matrix.cons_val]
  after_results_simp
  rw [h0, h1]
  rfl

theorem tail38 (h0 : W (Proc.devRef .tc main_v0_0) = val_main_v1 (F := Ideal) x0) (h1 : W (Proc.devRef .tc main_v0_1) = val_main_v3 (F := Ideal) x1) :
    StableHlo.after hostOps1 W (Proc.devRef .tc main_v38) = val_main_v41 (F := Ideal) x0 x1 := by
  after_results
  rw [h0, h1]
  rfl

end

variable (m : (ℓ : Loc nD τ sig) → Buf (Elt Ideal) ℓ)

/-- The arrays the host starts from after the call. -/
abbrev W (c : Dev nD) : Valuation τ sig (Elt Ideal) :=
  Pipeline.withArrays spec0 c (V0 m c) fun w => (dats m 0 c).arrAt w (cfgs 0).N

theorem W_0 (c : Dev nD) : W m c (Proc.devRef .tc main_v0_0) = val_main_v1 (F := Ideal) (A0 m c) :=
  (Pipeline.withArrays_arr spec0 (by decide) c (V0 m c) (fun w => (dats m 0 c).arrAt w (cfgs 0).N) 3).trans (final3 m c)

theorem W_1 (c : Dev nD) : W m c (Proc.devRef .tc main_v0_1) = val_main_v3 (F := Ideal) (A1 m c) :=
  (Pipeline.withArrays_arr spec0 (by decide) c (V0 m c) (fun w => (dats m 0 c).arrAt w (cfgs 0).N) 4).trans (final4 m c)

theorem after_tail (c : Dev nD) (b : Ref sig .tc) :
    Pipeline.afterTail₀ cfgs (dats m) 0 (V0 m) [hostOps1] c b = StableHlo.after hostOps1 (W m c) (Proc.devRef .tc b) := by
  show StableHlo.after [hostOps1].flatten _ _ = _
  rw [List.flatten_cons, List.flatten_nil, List.append_nil]

end Cert.Kernel21Ideal.Sum

end
-- ==== Proof.Claims21.lean ====
module

public import proofs.«01_k».proof.Defs
public import proofs.«01_k».proof.Proof.Gen.Kernel21Ideal
public import proofs.«01_k».proof.Proof.Gen.Reference21Ideal
public import proofs.«01_k».proof.Proof.Gen.Reference21Ideal.Run
public import proofs.«01_k».proof.Proof.Gen.Reference21Ideal.Read
public import proofs.«01_k».proof.Proof.Tail21

/-! The gradients of the pooling, summed over the devices: the call with what the host makes of its arrays, and its
reference, end with the same two arrays. -/

@[expose] public section

set_option maxRecDepth 16384

noncomputable section

namespace Cert.Proof

open Idealize.ShloMosaic Idealize.ShloMosaic.TcCoe Idealize.SL.Sem

section

open Cert.Reference21Ideal Cert.Reference21Ideal.Read

/-- What the reference leaves, by the names of its values. -/
theorem left21 (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v30) = val_main_v30 (F := Ideal) (m' ((c.tc : Thread nD τ).loc main_arg0)) (m' ((c.tc : Thread nD τ).loc main_arg1))
      ∧ r.2.mem ((c.tc : Thread nD τ).loc main_v41) = val_main_v41 (F := Ideal) (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) := by
  refine (θ_run _ _ _).mono (fun r h c => ?_) (Cert.Reference21Ideal.Value.run m' g')
  obtain ⟨a0, a1, p⟩ := h c
  exact ⟨a0.trans (val_main_v30_eq m' c), a1.trans (val_main_v41_eq _ _), p⟩

end

section

open Cert.Kernel21Ideal Cert.Kernel21Ideal.Gen Cert.Kernel21Ideal.Sum Cert.Reference21Ideal.Read

/-- What the call and the host after it leave in the results, by the names of the reference's values. -/
theorem kept21 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v27) = val_main_v30 (F := Ideal) (m ((c.tc : Thread nD τ).loc main_arg0)) (m ((c.tc : Thread nD τ).loc main_arg1))
      ∧ r.2.mem ((c.tc : Thread nD τ).loc main_v38) = val_main_v41 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨((h.1 c).2 main_v27 (by decide)).trans ((after_tail m c main_v27).trans (tail27 (W m c) _ _ (W_0 m c) (W_1 m c))),
    ((h.1 c).2 main_v38 (by decide)).trans ((after_tail m c main_v38).trans (tail38 (W m c) _ _ (W_0 m c) (W_1 m c))),
    h.2 c⟩) (θ_run_and (run_main m g) (unchanged m g))

end

/-- From equal arguments the call and its reference leave equal results. -/
theorem same21 : Cert.algebraic_Kernel21Ideal_Reference21Ideal := by
  intro m g m' g' hpre hagree
  refine ⟨fun c => Cert.Reference21Ideal.Read.val_main_v30 (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)),
    fun c => Cert.Reference21Ideal.Read.val_main_v41 (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)),
    kept21 m g, (θ_run _ _ _).mono (fun r h c => ?_) (left21 m' g')⟩
  obtain ⟨a0, a1, p⟩ := h c
  obtain ⟨h0, h1, h2⟩ := hagree c
  rw [h0, h1] at a0
  rw [h0, h1] at a1
  exact ⟨a0, a1, p⟩

/-- The reference leaves its arguments and its counters as they were. -/
theorem still21 : Cert.quiescent_Reference21Ideal := fun m g _ =>
  (θ_run _ _ _).mono (fun r h => ⟨fun c => (h c).2.2, sem_eq_zero_of_no_sems (by decide) r.2⟩) (left21 m g)

end Cert.Proof

end
-- ==== Proof.HeadRef.lean ====
module

public import proofs.«01_k».proof.Proof.Gen.Reference22Ideal.Read
public import Idealize.ShloMosaic.Lib.Pipeline.ValueKit

/-! The reference's loss and its gradients, read at an index. -/

@[expose] public section

set_option maxRecDepth 16384

noncomputable section

namespace Cert.HeadRef

open Cert.Reference22Ideal Cert.Reference22Ideal.Read Idealize.ShloMosaic Idealize.ShloMosaic.TcCoe Idealize.SL.Sem

/-- One over the root of the mean square of a row. -/
def inv (x : Fin 1024 → EReal) : EReal :=
  Ideal.rsqrt (Ideal.div (∑ d : Fin 1024, x d * x d) (Ideal.ofBits .f32 0x44800000#32) + Ideal.ofBits .f32 0x358637BD#32)

/-- The difference of the normalised, scaled row and the target. -/
def err (x t g : Fin 1024 → EReal) (d : Fin 1024) : EReal := x d * inv x * g d - t d

/-- The gradient of the loss for the normalised, scaled row. -/
def grad (x t g : Fin 1024 → EReal) (d : Fin 1024) : EReal := err x t g d * Ideal.ofBits .f32 0x3A800000#32

/-- The gradient of the loss for the row. -/
def back (x t g : Fin 1024 → EReal) (d : Fin 1024) : EReal :=
  inv x * (grad x t g d * g d - x d * inv x
    * Ideal.div (∑ k : Fin 1024, grad x t g k * g k * (x k * inv x)) (Ideal.ofBits .f32 0x44800000#32))

variable (x t : FVec Ideal S4096x1024 .f32) (g : FVec Ideal S1024 .f32)

/-- Row `l` of an array. -/
abbrev line (x : FVec Ideal S4096x1024 .f32) (l : Fin 4096) : Fin 1024 → EReal := fun d => x (ix2 l d)

/-- The scales. -/
abbrev scale (g : FVec Ideal S1024 .f32) : Fin 1024 → EReal := fun d => g (ix1 d)

theorem inv_at (l : Fin 4096) (d : Fin 1) : val_main_v7 (F := Ideal) x (ix2 l d) = inv (line x l) := by
  pointwise [inv, val_main_v7, val_main_v6, val_main_v4, val_main_v5, val_main_v3, val_main_v2, val_main_v1, val_main_v0, val_main_cst, val_main_cst_0, val_main_cst_1]

theorem normal_at (l : Fin 4096) (d : Fin 1024) : val_main_v9 (F := Ideal) x (ix2 l d) = x (ix2 l d) * inv (line x l) := by
  pointwise [val_main_v9, val_main_v8]
  rw [inv_at]

theorem err_at (l : Fin 4096) (d : Fin 1024) : val_main_v13 (F := Ideal) x t g (ix2 l d) = err (line x l) (line t l) (scale g) d := by
  pointwise [err, val_main_v13, val_main_v12, val_main_v11, val_main_v10]
  rw [normal_at]

theorem grad_at (l : Fin 4096) (d : Fin 1024) : val_main_v19 (F := Ideal) x t g (ix2 l d) = grad (line x l) (line t l) (scale g) d := by
  pointwise [grad, val_main_v19, val_main_v18, val_main_cst_5]
  rw [err_at]

theorem scaled_at (l : Fin 4096) (d : Fin 1024) :
    val_main_v22 (F := Ideal) x t g (ix2 l d) = grad (line x l) (line t l) (scale g) d * g (ix1 d) := by
  pointwise [val_main_v22, val_main_v21, val_main_v20]
  rw [grad_at]

theorem mean_at (l : Fin 4096) (d : Fin 1) : val_main_v27 (F := Ideal) x t g (ix2 l d)
    = Ideal.div (∑ k : Fin 1024, grad (line x l) (line t l) (scale g) k * g (ix1 k) * (x (ix2 l k) * inv (line x l))) (Ideal.ofBits .f32 0x44800000#32) := by
  pointwise [val_main_v27, val_main_v26, val_main_v25, val_main_v24, val_main_v23, val_main_cst_6, val_main_cst_7]
  exact congrArg (Ideal.div · _) (Finset.sum_congr rfl fun k _ => by rw [scaled_at, normal_at])

theorem back_at (l : Fin 4096) (d : Fin 1024) : val_main_v32 (F := Ideal) x t g (ix2 l d) = back (line x l) (line t l) (scale g) d := by
  pointwise [back, val_main_v32, val_main_v31, val_main_v30, val_main_v29, val_main_v28]
  rw [inv_at, scaled_at, normal_at, mean_at]

theorem column_at (d : Fin 1024) :
    val_main_v15 (F := Ideal) x t g (ix1 d) = ∑ l : Fin 4096, err (line x l) (line t l) (scale g) d * err (line x l) (line t l) (scale g) d := by
  pointwise [val_main_v15, val_main_v14, val_main_cst_2]
  exact Finset.sum_congr rfl fun l _ => by rw [err_at]

theorem loss_at (i j : Fin 1) : val_main_v33 (F := Ideal) x t g (ix2 i j)
    = (∑ d : Fin 1024, ∑ l : Fin 4096, err (line x l) (line t l) (scale g) d * err (line x l) (line t l) (scale g) d) * Ideal.ofBits .f32 0x3A000000#32 := by
  pointwise [val_main_v33, val_main_v17, val_main_v16, val_main_cst_3, val_main_cst_4]
  exact congrArg (· * _) (Finset.sum_congr rfl fun d _ => column_at x t g d)

theorem scales_at (i : Fin 1) (d : Fin 1024) : val_main_v36 (F := Ideal) x t g (ix2 i d)
    = ∑ l : Fin 4096, grad (line x l) (line t l) (scale g) d * (x (ix2 l d) * inv (line x l)) := by
  pointwise [val_main_v36, val_main_v35, val_main_v34, val_main_cst_8]
  exact Finset.sum_congr rfl fun l _ => by rw [grad_at, normal_at]

end Cert.HeadRef

end
-- ==== Proof.Head.lean ====
module

public import proofs.«01_k».proof.Proof.Gen.Kernel22Ideal.Frame
public import proofs.«01_k».proof.Proof.HeadRef

/-! The loss and its gradients: the running sums over blocks of rows are the whole sums. -/

@[expose] public section

set_option maxRecDepth 16384

noncomputable section

namespace Cert.Kernel22Ideal.Head

open Cert.Kernel22Ideal Cert.Kernel22Ideal.Gen Cert.HeadRef Idealize.ShloMosaic Idealize.ShloMosaic.TcCoe Idealize.SL.Sem
open Cert.Reference22Ideal.Read (val_main_v32 val_main_v33 val_main_v36)
open Idealize.ShloMosaic.Pipeline (Dat)

variable (m : (ℓ : Loc nD τ sig) → Buf (Elt Ideal) ℓ)

abbrev X (c : Dev nD) : FVec Ideal S4096x1024 .f32 := m ((c : Thread nD τ).loc main_arg0)
abbrev T (c : Dev nD) : FVec Ideal S4096x1024 .f32 := m ((c : Thread nD τ).loc main_arg1)
abbrev G (c : Dev nD) : FVec Ideal S1024 .f32 := m ((c : Thread nD τ).loc main_arg2)

/-- The blocks each point works on. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ t.val < 8 :=
  (by decide +kernel : ∀ t : Fin grid0.N, _)

/-! ## The payloads at an index -/

/-- Row `r` of a block. -/
abbrev strip (x : FVec Ideal S512x1024 .f32) (r : Fin 512) : Fin 1024 → EReal := fun d => x (ix2 r d)

/-- The scales in their block. -/
abbrev scales (g : FVec Ideal S1x1024 .f32) : Fin 1024 → EReal := fun d => g (ix2 0 d)

theorem inv_blk (x : FVec Ideal S512x1024 .f32) (r : Fin 512) (d : Fin 1) : (k0_pay5 (F := Ideal) x (ix2 r d) : EReal) = inv (strip x r) := by
  pointwise [Cert.HeadRef.inv, k0_pay5]

theorem normal_blk (x : FVec Ideal S512x1024 .f32) (r : Fin 512) (d : Fin 1024) :
    (k0_pay6 (F := Ideal) x (ix2 r d) : EReal) = x (ix2 r d) * inv (strip x r) := by
  rw [← inv_blk x r 0]
  pointwise [k0_pay6]

theorem err_blk (x t : FVec Ideal S512x1024 .f32) (g : FVec Ideal S1x1024 .f32) (r : Fin 512) (d : Fin 1024) :
    (k0_pay7 (F := Ideal) x g t (ix2 r d) : EReal) = err (strip x r) (strip t r) (scales g) d := by
  rw [err, ← normal_blk]
  pointwise [k0_pay7]

theorem grad_blk (x t : FVec Ideal S512x1024 .f32) (g : FVec Ideal S1x1024 .f32) (r : Fin 512) (d : Fin 1024) :
    (k0_pay9 (F := Ideal) x g t (ix2 r d) : EReal) = grad (strip x r) (strip t r) (scales g) d := by
  rw [grad, ← err_blk]
  pointwise [k0_pay9]

theorem squares_blk (x t : FVec Ideal S512x1024 .f32) (g a : FVec Ideal S1x1024 .f32) (i : Fin 1) (d : Fin 1024) :
    (k0_pay8 (F := Ideal) x g t a (ix2 i d) : EReal) = a (ix2 i d)
      + ∑ r : Fin 512, err (strip x r) (strip t r) (scales g) d * err (strip x r) (strip t r) (scales g) d := by
  simp only [← err_blk]
  pointwise [k0_pay8]

theorem scales_blk (x t : FVec Ideal S512x1024 .f32) (g a : FVec Ideal S1x1024 .f32) (i : Fin 1) (d : Fin 1024) :
    (k0_pay10 (F := Ideal) x g t a (ix2 i d) : EReal) = a (ix2 i d)
      + ∑ r : Fin 512, grad (strip x r) (strip t r) (scales g) d * (x (ix2 r d) * inv (strip x r)) := by
  simp only [← grad_blk, ← normal_blk]
  pointwise [k0_pay10]

theorem back_blk (x t : FVec Ideal S512x1024 .f32) (g : FVec Ideal S1x1024 .f32) (r : Fin 512) (d : Fin 1024) :
    (k0_pay1 (F := Ideal) (k0_pay5 x) (k0_pay6 x) (k0_pay9 x g t) g (ix2 r d) : EReal) = back (strip x r) (strip t r) (scales g) d := by
  simp only [back, ← grad_blk, ← normal_blk]
  rw [← inv_blk x r 0]
  pointwise [k0_pay1]

theorem loss_blk (a : FVec Ideal S1x1024 .f32) (i j : Fin 1) :
    (k0_pay2 (F := Ideal) a (ix2 i j) : EReal) = (∑ d : Fin 1024, a (ix2 0 d)) * Ideal.ofBits .f32 0x3A000000#32 := by
  pointwise [k0_pay2]

theorem zero_squares (j) : (k0_pay3 (F := Ideal) j : EReal) = 0 := by pointwise [k0_pay3]

theorem zero_scales (j) : (k0_pay4 (F := Ideal) j : EReal) = 0 := by pointwise [k0_pay4]

/-! ## The blocks at an index -/

/-- Row `r` of the block point `t` works on. -/
abbrev row (t : Fin cfg0.N) (r : Fin 512) : Fin 4096 := ⟨t.val * 512 + r.val, by have := (idx t).2.2.2.2.2.2; omega⟩

theorem host2 (c : Dev nD) (i : Fin 1) (d : Fin 1024) : (show FVec Ideal S1x1024 .f32 from V m c main_v0) (ix2 i d) = G m c (ix1 d) := by
  entry_read
  pointwise []

theorem blk0 (c : Dev nD) (t : Fin cfg0.N) (r : Fin 512) (d : Fin 1024) :
    (show FVec Ideal S512x1024 .f32 from iblk m c 0 t) (ix2 r d) = X m c (ix2 (row t r) d) := by
  blk_point [iblk, V, idx t]

theorem blk1 (c : Dev nD) (t : Fin cfg0.N) (r : Fin 512) (d : Fin 1024) :
    (show FVec Ideal S512x1024 .f32 from iblk m c 1 t) (ix2 r d) = T m c (ix2 (row t r) d) := by
  blk_point [iblk, V, idx t]

theorem blk2 (c : Dev nD) (t : Fin cfg0.N) (i : Fin 1) (d : Fin 1024) :
    (show FVec Ideal S1x1024 .f32 from iblk m c 2 t) (ix2 i d) = G m c (ix1 d) := by
  rw [← host2 m c i d]
  blk_point [iblk, idx t]

theorem strip0 (c : Dev nD) (t : Fin cfg0.N) (r : Fin 512) :
    strip (show FVec Ideal S512x1024 .f32 from iblk m c 0 t) r = line (X m c) (row t r) := funext fun d => blk0 m c t r d

theorem strip1 (c : Dev nD) (t : Fin cfg0.N) (r : Fin 512) :
    strip (show FVec Ideal S512x1024 .f32 from iblk m c 1 t) r = line (T m c) (row t r) := funext fun d => blk1 m c t r d

theorem scales2 (c : Dev nD) (t : Fin cfg0.N) :
    scales (show FVec Ideal S1x1024 .f32 from iblk m c 2 t) = scale (G m c) := funext fun d => blk2 m c t 0 d

/-! ## The running sums -/

/-- The square of the difference in row `l`, column `d`. -/
abbrev square (c : Dev nD) (d : Fin 1024) (l : Fin 4096) : EReal :=
  err (line (X m c) l) (line (T m c) l) (scale (G m c)) d * err (line (X m c) l) (line (T m c) l) (scale (G m c)) d

/-- What row `l` gives to the gradient of scale `d`. -/
abbrev share (c : Dev nD) (d : Fin 1024) (l : Fin 4096) : EReal :=
  grad (line (X m c) l) (line (T m c) l) (scale (G m c)) d * (X m c (ix2 l d) * inv (line (X m c) l))

/-- What point `t` adds to the sum of squares. -/
abbrev squares (c : Dev nD) (t : Fin cfg0.N) (j : S1x1024.Idx) : EReal := ∑ r : Fin 512, square m c (j 1) (row t r)

/-- What point `t` adds to the gradient of the scales. -/
abbrev shares (c : Dev nD) (t : Fin cfg0.N) (j : S1x1024.Idx) : EReal := ∑ r : Fin 512, share m c (j 1) (row t r)

theorem squares_step (c : Dev nD) (t : Fin cfg0.N) (a : FVec Ideal S1x1024 .f32) (j : S1x1024.Idx) :
    (k0_pay8 (F := Ideal) (iblk m c 0 t) (iblk m c 2 t) (iblk m c 1 t) a j : EReal) = a j + squares m c t j := by
  have e : j = ix2 (j 0) (j 1) := funext fun a => match a with | ⟨0, _⟩ => rfl | ⟨1, _⟩ => rfl
  rw [e]
  refine (squares_blk _ _ _ _ _ _).trans (congrArg (_ + ·) (Finset.sum_congr rfl fun r _ => ?_))
  exact congrArg (fun z => z * z) (congrFun (congr (congrArg₂ err (strip0 m c t r) (strip1 m c t r)) (scales2 m c t)) _)

theorem shares_step (c : Dev nD) (t : Fin cfg0.N) (a : FVec Ideal S1x1024 .f32) (j : S1x1024.Idx) :
    (k0_pay10 (F := Ideal) (iblk m c 0 t) (iblk m c 2 t) (iblk m c 1 t) a j : EReal) = a j + shares m c t j := by
  have e : j = ix2 (j 0) (j 1) := funext fun a => match a with | ⟨0, _⟩ => rfl | ⟨1, _⟩ => rfl
  rw [e]
  refine (scales_blk _ _ _ _ _ _).trans (congrArg (_ + ·) (Finset.sum_congr rfl fun r _ => ?_))
  exact congrArg₂ (· * ·) (congrFun (congr (congrArg₂ grad (strip0 m c t r) (strip1 m c t r)) (scales2 m c t)) _)
    (congrArg₂ (· * ·) (blk0 m c t r _) (congrArg inv (strip0 m c t r)))

theorem first_squares (c : Dev nD) (t : Fin cfg0.N) (h : t.val % 8 = 0) (j) :
    (outsAt0 m c t.val t.isLt).2.2.2 j = 0 + squares m c t j := by
  rw [outsAt0_A m c t h (by omega)]
  frame_out
  rw [squares_step, zero_squares]

theorem first_shares (c : Dev nD) (t : Fin cfg0.N) (h : t.val % 8 = 0) (j) :
    (outsAt0 m c t.val t.isLt).2.2.1 j = 0 + shares m c t j := by
  rw [outsAt0_A m c t h (by omega)]
  frame_out
  rw [shares_step, zero_scales]

theorem next_squares (c : Dev nD) (t : Fin cfg0.N) (h : ¬t.val % 8 = 0) (j) :
    (outsAt0 m c t.val t.isLt).2.2.2 j = (outsAt0 m c (t.val - 1) (Nat.lt_of_le_of_lt (Nat.sub_le _ _) t.isLt)).2.2.2 j + squares m c t j := by
  by_cases h' : t.val % 8 = 7
  · rw [outsAt0_C m c t h h']
    frame_out
    rw [squares_step]
    exact congrArg (· + _) (congrFun ((Memref.isWhole_whole cc0_scratch0).read_unread _) j)
  · rw [outsAt0_B m c t h h']
    frame_out
    rw [squares_step]
    exact congrArg (· + _) (congrFun ((Memref.isWhole_whole cc0_scratch0).read_unread _) j)

theorem next_shares (c : Dev nD) (t : Fin cfg0.N) (h : ¬t.val % 8 = 0) (j) :
    (outsAt0 m c t.val t.isLt).2.2.1 j = (outsAt0 m c (t.val - 1) (Nat.lt_of_le_of_lt (Nat.sub_le _ _) t.isLt)).2.2.1 j + shares m c t j := by
  by_cases h' : t.val % 8 = 7
  · rw [outsAt0_C m c t h h']
    frame_out
    rw [shares_step]
  · rw [outsAt0_B m c t h h']
    frame_out
    rw [shares_step]

theorem loss_out (c : Dev nD) (t : Fin cfg0.N) (h : t.val % 8 = 7) (y) :
    (outsAt0 m c t.val t.isLt).1 y = k0_pay2 (outsAt0 m c t.val t.isLt).2.2.2 y := by
  rw [outsAt0_C m c t (by omega) h]
  frame_out

theorem back_out (c : Dev nD) (t : Fin cfg0.N) (y) :
    (outsAt0 m c t.val t.isLt).2.1 y = k0_pay1 (k0_pay5 (iblk m c 0 t)) (k0_pay6 (iblk m c 0 t)) (k0_pay9 (iblk m c 0 t) (iblk m c 2 t) (iblk m c 1 t)) (iblk m c 2 t) y := by
  by_cases h : t.val % 8 = 0
  · rw [outsAt0_A m c t h (by omega)]
    frame_out
  · by_cases h' : t.val % 8 = 7
    · rw [outsAt0_C m c t h h']
      frame_out
    · rw [outsAt0_B m c t h h']
      frame_out

/-! ## The results -/

theorem read3 (B : FVec Ideal S1x1 .f32) (t : Fin cfg0.N) (i j : Fin 1) :
    (show FVec Ideal S1x1 .f32 from ((cfg0.win 3).blk t).view.read (Elt Ideal) B) (ix2 i j) = B (ix2 i j) := by
  refine congrArg B ?_
  blk_ext [idx t]

theorem read4 (B : FVec Ideal S4096x1024 .f32) (t : Fin cfg0.N) (r : Fin 512) (d : Fin 1024) :
    (show FVec Ideal S512x1024 .f32 from ((cfg0.win 4).blk t).view.read (Elt Ideal) B) (ix2 r d) = B (ix2 (row t r) d) := by
  refine congrArg B ?_
  blk_ext [idx t]

theorem read5 (B : FVec Ideal S1x1024 .f32) (t : Fin cfg0.N) (i : Fin 1) (d : Fin 1024) :
    (show FVec Ideal S1x1024 .f32 from ((cfg0.win 5).blk t).view.read (Elt Ideal) B) (ix2 i d) = B (ix2 i d) := by
  refine congrArg B ?_
  blk_ext [idx t]

/-- The loss after the run is the reference's. -/
theorem final3 (c : Dev nD) : (dats m 0 c).arrAt 3 (cfgs 0).N = val_main_v33 (F := Ideal) (X m c) (T m c) (G m c) := by
  refine (dats m 0 c).arrAt_eq_of_covers 3 _ (by decide +kernel) fun t hf y => ?_
  blk_simp
  have hm := (flush0_3 t).mp hf
  have e : y = ix2 (y 0) (y 1) := funext fun a => match a with | ⟨0, _⟩ => rfl | ⟨1, _⟩ => rfl
  rw [after0_3, loss_out m c t hm, e]
  refine (loss_blk _ _ _).trans ?_
  refine Eq.trans ?_ ((read3 _ t (y 0) (y 1)).trans (loss_at (X m c) (T m c) (G m c) (y 0) (y 1))).symm
  refine congrArg (· * _) (Finset.sum_congr rfl fun d _ => ?_)
  refine (Pipeline.eq_sum_fin_of_reset_step_apply_of_flush (fun n h => (outsAt0 m c n h).2.2.2) 8 (fun _ => 0) (squares m c)
    (first_squares m c) (next_squares m c) t hm _).trans ?_
  rw [zero_add]
  refine Fin.sum_mul_add_congr fun s k hl => ?_
  exact congrArg (square m c d) (Fin.ext (by have := (idx t).2.2.2.2.2.2; simp only [row]; omega))

/-- The gradient for the rows after the run is the reference's. -/
theorem final4 (c : Dev nD) : (dats m 0 c).arrAt 4 (cfgs 0).N = val_main_v32 (F := Ideal) (X m c) (T m c) (G m c) := by
  refine (dats m 0 c).arrAt_eq_of_covers 4 _ (by decide +kernel) fun t hf y => ?_
  have e : y = ix2 (y 0) (y 1) := funext fun a => match a with | ⟨0, _⟩ => rfl | ⟨1, _⟩ => rfl
  blk_simp
  rw [after0_4, back_out m c t, e]
  refine (back_blk _ _ _ _ _).trans ?_
  refine Eq.trans ?_ ((read4 _ t (y 0) (y 1)).trans (back_at (X m c) (T m c) (G m c) _ (y 1))).symm
  exact congrFun (congr (congrArg₂ back (strip0 m c t _) (strip1 m c t _)) (scales2 m c t)) _

/-- The gradient for the scales after the run is the reference's. -/
theorem final5 (c : Dev nD) : (dats m 0 c).arrAt 5 (cfgs 0).N = val_main_v36 (F := Ideal) (X m c) (T m c) (G m c) := by
  refine (dats m 0 c).arrAt_eq_of_covers 5 _ (by decide +kernel) fun t hf y => ?_
  have hm := (flush0_5 t).mp hf
  have e : y = ix2 (y 0) (y 1) := funext fun a => match a with | ⟨0, _⟩ => rfl | ⟨1, _⟩ => rfl
  blk_simp
  rw [after0_5, e]
  refine Eq.trans ?_ ((read5 _ t (y 0) (y 1)).trans (scales_at (X m c) (T m c) (G m c) (y 0) (y 1))).symm
  refine (Pipeline.eq_sum_fin_of_reset_step_apply_of_flush (fun n h => (outsAt0 m c n h).2.2.1) 8 (fun _ => 0) (shares m c)
    (first_shares m c) (next_shares m c) t hm _).trans ?_
  rw [zero_add]
  refine Fin.sum_mul_add_congr fun s k hl => ?_
  exact congrArg (share m c (y 1)) (Fin.ext (by have := (idx t).2.2.2.2.2.2; simp only [row]; omega))

end Cert.Kernel22Ideal.Head

end
-- ==== Proof.Claims22.lean ====
module

public import proofs.«01_k».proof.Defs
public import proofs.«01_k».proof.Proof.Gen.Kernel22Ideal
public import proofs.«01_k».proof.Proof.Gen.Reference22Ideal
public import proofs.«01_k».proof.Proof.Gen.Reference22Ideal.Run
public import proofs.«01_k».proof.Proof.Gen.Reference22Ideal.Read
public import proofs.«01_k».proof.Proof.Head

/-! The loss and its gradients: the call and its reference end with the same three arrays. -/

@[expose] public section

set_option maxRecDepth 16384

noncomputable section

namespace Cert.Proof

open Idealize.ShloMosaic Idealize.ShloMosaic.TcCoe Idealize.SL.Sem

section

open Cert.Reference22Ideal Cert.Reference22Ideal.Read

/-- What the reference leaves, by the names of its values. -/
theorem left22 (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v33) = val_main_v33 (F := Ideal) (m' ((c.tc : Thread nD τ).loc main_arg0)) (m' ((c.tc : Thread nD τ).loc main_arg1)) (m' ((c.tc : Thread nD τ).loc main_arg2))
      ∧ r.2.mem ((c.tc : Thread nD τ).loc main_v32) = val_main_v32 (F := Ideal) (m' ((c.tc : Thread nD τ).loc main_arg0)) (m' ((c.tc : Thread nD τ).loc main_arg1)) (m' ((c.tc : Thread nD τ).loc main_arg2))
      ∧ r.2.mem ((c.tc : Thread nD τ).loc main_v36) = val_main_v36 (F := Ideal) (m' ((c.tc : Thread nD τ).loc main_arg0)) (m' ((c.tc : Thread nD τ).loc main_arg1)) (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) := by
  refine (θ_run _ _ _).mono (fun r h c => ?_) (Cert.Reference22Ideal.Value.run m' g')
  obtain ⟨a, b, d, p⟩ := h c
  exact ⟨a.trans (val_main_v33_eq _ _ _), b.trans (val_main_v32_eq _ _ _), d.trans (val_main_v36_eq _ _ _), p⟩

end

section

open Cert.Kernel22Ideal Cert.Kernel22Ideal.Gen

/-- What the call leaves in its three results and its arguments. -/
theorem kept22 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v1_0) = (dats m 0 c).arrAt 3 (cfgs 0).N
      ∧ r.2.mem ((c.tc : Thread nD τ).loc main_v1_1) = (dats m 0 c).arrAt 4 (cfgs 0).N
      ∧ r.2.mem ((c.tc : Thread nD τ).loc main_v1_2) = (dats m 0 c).arrAt 5 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h.1 c).1 3, (h.1 c).1 4, (h.1 c).1 5, h.2 c⟩) (θ_run_and (run_main m g) (unchanged m g))

end

/-- From equal arguments the call and its reference leave equal results. -/
theorem same22 : Cert.algebraic_Kernel22Ideal_Reference22Ideal := by
  intro m g m' g' hpre hagree
  refine ⟨fun c => (Cert.Kernel22Ideal.Gen.dats m 0 c).arrAt 3 (Cert.Kernel22Ideal.cfgs 0).N, fun c => (Cert.Kernel22Ideal.Gen.dats m 0 c).arrAt 4 (Cert.Kernel22Ideal.cfgs 0).N,
    fun c => (Cert.Kernel22Ideal.Gen.dats m 0 c).arrAt 5 (Cert.Kernel22Ideal.cfgs 0).N, kept22 m g, (θ_run _ _ _).mono (fun r h c => ?_) (left22 m' g')⟩
  obtain ⟨a, b, d, p⟩ := h c
  obtain ⟨h0, h1, h2⟩ := hagree c
  rw [h0, h1, h2] at a b d
  exact ⟨a.trans (Cert.Kernel22Ideal.Head.final3 m c).symm, b.trans (Cert.Kernel22Ideal.Head.final4 m c).symm, d.trans (Cert.Kernel22Ideal.Head.final5 m c).symm, p⟩

/-- The reference leaves its arguments and its counters as they were. -/
theorem still22 : Cert.quiescent_Reference22Ideal := fun m g _ =>
  (θ_run _ _ _).mono (fun r h => ⟨fun c => (h c).2.2.2, sem_eq_zero_of_no_sems (by decide) r.2⟩) (left22 m g)

end Cert.Proof

end
-- ==== Proof.lean ====
/- Everything claimed, put together: each call leaves its arguments as they were and its counters at zero, and its
   results are its reference's. -/
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Reference22Ideal.Read
public import proofs.«01_k».proof.Proof.Gen.Pre_finite2
public import proofs.«01_k».proof.Proof.Gen.Pre_finite3
public import proofs.«01_k».proof.Proof.Claims2
public import proofs.«01_k».proof.Proof.Claims3
public import proofs.«01_k».proof.Proof.Claims4
public import proofs.«01_k».proof.Proof.Claims5
public import proofs.«01_k».proof.Proof.Claims6
public import proofs.«01_k».proof.Proof.Claims7
public import proofs.«01_k».proof.Proof.Claims8
public import proofs.«01_k».proof.Proof.Claims9
public import proofs.«01_k».proof.Proof.Claims10
public import proofs.«01_k».proof.Proof.Claims11
public import proofs.«01_k».proof.Proof.Claims12
public import proofs.«01_k».proof.Proof.Claims13
public import proofs.«01_k».proof.Proof.Claims14
public import proofs.«01_k».proof.Proof.Claims15
public import proofs.«01_k».proof.Proof.Claims16
public import proofs.«01_k».proof.Proof.Claims17
public import proofs.«01_k».proof.Proof.Claims18
public import proofs.«01_k».proof.Proof.Claims19
public import proofs.«01_k».proof.Proof.Claims20
public import proofs.«01_k».proof.Proof.Claims21
public import proofs.«01_k».proof.Proof.Claims22

@[expose] public section

noncomputable section

namespace Cert.Proof

open Idealize.ShloMosaic Idealize.SL.Sem

theorem claim : Cert.Claim :=
  ⟨Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Pre_finite2.Gen.facts,
    Cert.Pre_finite3.Gen.facts,
    fun m g _ => Cert.Kernel2.Gen.frame m g,
    fun m g _ => Cert.Kernel2Ideal.Gen.frame m g,
    fun m g _ => Cert.Kernel2Ideal.Gen.frame m g,
    still2,
    fun m g _ => still2 m g trivial,
    fun m g _ => Cert.Kernel3.Gen.frame m g,
    fun m g _ => Cert.Kernel3Ideal.Gen.frame m g,
    fun m g _ => Cert.Kernel3Ideal.Gen.frame m g,
    still3,
    fun m g _ => still3 m g trivial,
    fun m g _ => Cert.Kernel4.Gen.frame m g,
    fun m g _ => Cert.Kernel4Ideal.Gen.frame m g,
    still4,
    fun m g _ => Cert.Kernel5.Gen.frame m g,
    fun m g _ => Cert.Kernel5Ideal.Gen.frame m g,
    still5,
    fun m g _ => Cert.Kernel6.Gen.frame m g,
    fun m g _ => Cert.Kernel6Ideal.Gen.frame m g,
    still6,
    fun m g _ => Cert.Kernel7.Gen.frame m g,
    fun m g _ => Cert.Kernel7Ideal.Gen.frame m g,
    still7,
    fun m g _ => Cert.Kernel8.Gen.frame m g,
    fun m g _ => Cert.Kernel8Ideal.Gen.frame m g,
    still8,
    fun m g _ => Cert.Kernel9.Gen.frame m g,
    fun m g _ => Cert.Kernel9Ideal.Gen.frame m g,
    still9,
    fun m g _ => Cert.Kernel10.Gen.frame m g,
    fun m g _ => Cert.Kernel10Ideal.Gen.frame m g,
    still10,
    fun m g _ => Cert.Kernel11.Gen.frame m g,
    fun m g _ => Cert.Kernel11Ideal.Gen.frame m g,
    still11,
    fun m g _ => Cert.Kernel12.Gen.frame m g,
    fun m g _ => Cert.Kernel12Ideal.Gen.frame m g,
    still12,
    fun m g _ => Cert.Kernel13.Gen.frame m g,
    fun m g _ => Cert.Kernel13Ideal.Gen.frame m g,
    still13,
    fun m g _ => Cert.Kernel14.Gen.frame m g,
    fun m g _ => Cert.Kernel14Ideal.Gen.frame m g,
    still14,
    fun m g _ => Cert.Kernel15.Gen.frame m g,
    fun m g _ => Cert.Kernel15Ideal.Gen.frame m g,
    still15,
    fun m g _ => Cert.Kernel16.Gen.frame m g,
    fun m g _ => Cert.Kernel16Ideal.Gen.frame m g,
    still16,
    fun m g _ => Cert.Kernel17.Gen.frame m g,
    fun m g _ => Cert.Kernel17Ideal.Gen.frame m g,
    still17,
    fun m g _ => Cert.Kernel18.Gen.frame m g,
    fun m g _ => Cert.Kernel18Ideal.Gen.frame m g,
    still18,
    fun m g _ => Cert.Kernel19.Gen.frame m g,
    fun m g _ => Cert.Kernel19Ideal.Gen.frame m g,
    still19,
    fun m g _ => Cert.Kernel20.Gen.frame m g,
    fun m g _ => Cert.Kernel20Ideal.Gen.frame m g,
    still20,
    fun m g _ => Cert.Kernel21.Gen.frame m g,
    fun m g _ => Cert.Kernel21Ideal.Gen.frame m g,
    still21,
    fun m g _ => Cert.Kernel22.Gen.frame m g,
    fun m g _ => Cert.Kernel22Ideal.Gen.frame m g,
    still22,
    trivial,
    same2,
    trivial,
    same3,
    trivial,
    same4,
    trivial,
    same5,
    trivial,
    same6,
    trivial,
    same7,
    trivial,
    same8,
    trivial,
    same9,
    trivial,
    same10,
    trivial,
    same11,
    trivial,
    same12,
    trivial,
    same13,
    trivial,
    same14,
    trivial,
    same15,
    trivial,
    same16,
    trivial,
    same17,
    trivial,
    same18,
    trivial,
    same19,
    trivial,
    same20,
    trivial,
    same21,
    trivial,
    same22⟩

end Cert.Proof

end
